-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDownLn (m : (ℓ : Loc Cert.MlpDownLn.nD Cert.MlpDownLn.τ Cert.MlpDownLn.sig) → Buf (Elt Bits) ℓ) : Prop :=
  True

def Pre_MlpDownLnIdeal (m : (ℓ : Loc Cert.MlpDownLnIdeal.nD Cert.MlpDownLnIdeal.τ Cert.MlpDownLnIdeal.sig) → Buf (Elt Ideal) ℓ) : Prop :=
  True

def Pre_MlpDownLnRefIdeal (m : (ℓ : Loc Cert.MlpDownLnRefIdeal.nD Cert.MlpDownLnRefIdeal.τ Cert.MlpDownLnRefIdeal.sig) → Buf (Elt Ideal) ℓ) : Prop :=
  True

def Pre_MlpDownBwd (m : (ℓ : Loc Cert.MlpDownBwd.nD Cert.MlpDownBwd.τ Cert.MlpDownBwd.sig) → Buf (Elt Bits) ℓ) : Prop :=
  True

def Pre_MlpDownBwdIdeal (m : (ℓ : Loc Cert.MlpDownBwdIdeal.nD Cert.MlpDownBwdIdeal.τ Cert.MlpDownBwdIdeal.sig) → Buf (Elt Ideal) ℓ) : Prop :=
  True

def Pre_MlpDownBwdRefIdeal (m : (ℓ : Loc Cert.MlpDownBwdRefIdeal.nD Cert.MlpDownBwdRefIdeal.τ Cert.MlpDownBwdRefIdeal.sig) → Buf (Elt Ideal) ℓ) : Prop :=
  True

def Pre_MlpDw2 (m : (ℓ : Loc Cert.MlpDw2.nD Cert.MlpDw2.τ Cert.MlpDw2.sig) → Buf (Elt Bits) ℓ) : Prop :=
  True

def Pre_MlpDw2Ideal (m : (ℓ : Loc Cert.MlpDw2Ideal.nD Cert.MlpDw2Ideal.τ Cert.MlpDw2Ideal.sig) → Buf (Elt Ideal) ℓ) : Prop :=
  True

def Pre_MlpDw2RefIdeal (m : (ℓ : Loc Cert.MlpDw2RefIdeal.nD Cert.MlpDw2RefIdeal.τ Cert.MlpDw2RefIdeal.sig) → Buf (Elt Ideal) ℓ) : Prop :=
  True

def Pre_MlpDw1 (m : (ℓ : Loc Cert.MlpDw1.nD Cert.MlpDw1.τ Cert.MlpDw1.sig) → Buf (Elt Bits) ℓ) : Prop :=
  True

def Pre_MlpDw1Ideal (m : (ℓ : Loc Cert.MlpDw1Ideal.nD Cert.MlpDw1Ideal.τ Cert.MlpDw1Ideal.sig) → Buf (Elt Ideal) ℓ) : Prop :=
  True

def Pre_MlpDw1RefIdeal (m : (ℓ : Loc Cert.MlpDw1RefIdeal.nD Cert.MlpDw1RefIdeal.τ Cert.MlpDw1RefIdeal.sig) → Buf (Elt Ideal) ℓ) : Prop :=
  True

def Pre_MlpUpBwd (m : (ℓ : Loc Cert.MlpUpBwd.nD Cert.MlpUpBwd.τ Cert.MlpUpBwd.sig) → Buf (Elt Bits) ℓ) : Prop :=
  True

def Pre_MlpUpBwdIdeal (m : (ℓ : Loc Cert.MlpUpBwdIdeal.nD Cert.MlpUpBwdIdeal.τ Cert.MlpUpBwdIdeal.sig) → Buf (Elt Ideal) ℓ) : Prop :=
  True

def Pre_MlpUpBwdIdeal_finite_up_bwd [hPre_finite_up_bwd : Cert.Pre_finite_up_bwd.Facts] (m : (ℓ : Loc Cert.MlpUpBwdIdeal.nD Cert.MlpUpBwdIdeal.τ Cert.MlpUpBwdIdeal.sig) → Buf (Elt Ideal) ℓ) : Prop :=
  ∀ c : Dev Cert.MlpUpBwdIdeal.nD,
    (Cert.Pre_finite_up_bwd.fn (F := Ideal) (m ((c.tc : Thread Cert.MlpUpBwdIdeal.nD Cert.MlpUpBwdIdeal.τ).loc Cert.MlpUpBwdIdeal.main_arg0)) (m ((c.tc : Thread Cert.MlpUpBwdIdeal.nD Cert.MlpUpBwdIdeal.τ).loc Cert.MlpUpBwdIdeal.main_arg1)) (m ((c.tc : Thread Cert.MlpUpBwdIdeal.nD Cert.MlpUpBwdIdeal.τ).loc Cert.MlpUpBwdIdeal.main_arg2)) (m ((c.tc : Thread Cert.MlpUpBwdIdeal.nD Cert.MlpUpBwdIdeal.τ).loc Cert.MlpUpBwdIdeal.main_arg3)) (m ((c.tc : Thread Cert.MlpUpBwdIdeal.nD Cert.MlpUpBwdIdeal.τ).loc Cert.MlpUpBwdIdeal.main_arg4)) (m ((c.tc : Thread Cert.MlpUpBwdIdeal.nD Cert.MlpUpBwdIdeal.τ).loc Cert.MlpUpBwdIdeal.main_arg5))) = (fun _ => 1#1)

def Pre_MlpUpBwdRefIdeal (m : (ℓ : Loc Cert.MlpUpBwdRefIdeal.nD Cert.MlpUpBwdRefIdeal.τ Cert.MlpUpBwdRefIdeal.sig) → Buf (Elt Ideal) ℓ) : Prop :=
  True

def Pre_MlpUpBwdRefIdeal_finite_up_bwd [hPre_finite_up_bwd : Cert.Pre_finite_up_bwd.Facts] (m : (ℓ : Loc Cert.MlpUpBwdRefIdeal.nD Cert.MlpUpBwdRefIdeal.τ Cert.MlpUpBwdRefIdeal.sig) → Buf (Elt Ideal) ℓ) : Prop :=
  ∀ c : Dev Cert.MlpUpBwdRefIdeal.nD,
    (Cert.Pre_finite_up_bwd.fn (F := Ideal) (m ((c.tc : Thread Cert.MlpUpBwdRefIdeal.nD Cert.MlpUpBwdRefIdeal.τ).loc Cert.MlpUpBwdRefIdeal.main_arg0)) (m ((c.tc : Thread Cert.MlpUpBwdRefIdeal.nD Cert.MlpUpBwdRefIdeal.τ).loc Cert.MlpUpBwdRefIdeal.main_arg1)) (m ((c.tc : Thread Cert.MlpUpBwdRefIdeal.nD Cert.MlpUpBwdRefIdeal.τ).loc Cert.MlpUpBwdRefIdeal.main_arg2)) (m ((c.tc : Thread Cert.MlpUpBwdRefIdeal.nD Cert.MlpUpBwdRefIdeal.τ).loc Cert.MlpUpBwdRefIdeal.main_arg3)) (m ((c.tc : Thread Cert.MlpUpBwdRefIdeal.nD Cert.MlpUpBwdRefIdeal.τ).loc Cert.MlpUpBwdRefIdeal.main_arg4)) (m ((c.tc : Thread Cert.MlpUpBwdRefIdeal.nD Cert.MlpUpBwdRefIdeal.τ).loc Cert.MlpUpBwdRefIdeal.main_arg5))) = (fun _ => 1#1)

def Pre_ScGateBwd (m : (ℓ : Loc Cert.ScGateBwd.nD Cert.ScGateBwd.τ Cert.ScGateBwd.sig) → Buf (Elt Bits) ℓ) : Prop :=
  True

def Pre_ScGateBwdIdeal (m : (ℓ : Loc Cert.ScGateBwdIdeal.nD Cert.ScGateBwdIdeal.τ Cert.ScGateBwdIdeal.sig) → Buf (Elt Ideal) ℓ) : Prop :=
  True

def Pre_ScGateBwdRefIdeal (m : (ℓ : Loc Cert.ScGateBwdRefIdeal.nD Cert.ScGateBwdRefIdeal.τ Cert.ScGateBwdRefIdeal.sig) → Buf (Elt Ideal) ℓ) : Prop :=
  True

def Pre_ScOutBwd (m : (ℓ : Loc Cert.ScOutBwd.nD Cert.ScOutBwd.τ Cert.ScOutBwd.sig) → Buf (Elt Bits) ℓ) : Prop :=
  True

def Pre_ScOutBwdIdeal (m : (ℓ : Loc Cert.ScOutBwdIdeal.nD Cert.ScOutBwdIdeal.τ Cert.ScOutBwdIdeal.sig) → Buf (Elt Ideal) ℓ) : Prop :=
  True

def Pre_ScOutBwdRefIdeal (m : (ℓ : Loc Cert.ScOutBwdRefIdeal.nD Cert.ScOutBwdRefIdeal.τ Cert.ScOutBwdRefIdeal.sig) → Buf (Elt Ideal) ℓ) : Prop :=
  True

def Pre_ScDwOut (m : (ℓ : Loc Cert.ScDwOut.nD Cert.ScDwOut.τ Cert.ScDwOut.sig) → Buf (Elt Bits) ℓ) : Prop :=
  True

def Pre_ScDwOutIdeal (m : (ℓ : Loc Cert.ScDwOutIdeal.nD Cert.ScDwOutIdeal.τ Cert.ScDwOutIdeal.sig) → Buf (Elt Ideal) ℓ) : Prop :=
  True

def Pre_ScDwOutRefIdeal (m : (ℓ : Loc Cert.ScDwOutRefIdeal.nD Cert.ScDwOutRefIdeal.τ Cert.ScDwOutRefIdeal.sig) → Buf (Elt Ideal) ℓ) : Prop :=
  True

def Pre_ScDwIn (m : (ℓ : Loc Cert.ScDwIn.nD Cert.ScDwIn.τ Cert.ScDwIn.sig) → Buf (Elt Bits) ℓ) : Prop :=
  True

def Pre_ScDwInIdeal (m : (ℓ : Loc Cert.ScDwInIdeal.nD Cert.ScDwInIdeal.τ Cert.ScDwInIdeal.sig) → Buf (Elt Ideal) ℓ) : Prop :=
  True

def Pre_ScDwInRefIdeal (m : (ℓ : Loc Cert.ScDwInRefIdeal.nD Cert.ScDwInRefIdeal.τ Cert.ScDwInRefIdeal.sig) → Buf (Elt Ideal) ℓ) : Prop :=
  True

def Pre_ScInBwd (m : (ℓ : Loc Cert.ScInBwd.nD Cert.ScInBwd.τ Cert.ScInBwd.sig) → Buf (Elt Bits) ℓ) : Prop :=
  True

def Pre_ScInBwdIdeal (m : (ℓ : Loc Cert.ScInBwdIdeal.nD Cert.ScInBwdIdeal.τ Cert.ScInBwdIdeal.sig) → Buf (Elt Ideal) ℓ) : Prop :=
  True

def Pre_ScInBwdIdeal_finite_in_bwd [hPre_finite_in_bwd : Cert.Pre_finite_in_bwd.Facts] (m : (ℓ : Loc Cert.ScInBwdIdeal.nD Cert.ScInBwdIdeal.τ Cert.ScInBwdIdeal.sig) → Buf (Elt Ideal) ℓ) : Prop :=
  ∀ c : Dev Cert.ScInBwdIdeal.nD,
    (Cert.Pre_finite_in_bwd.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5))) = (fun _ => 1#1)

def Pre_ScInBwdRefIdeal (m : (ℓ : Loc Cert.ScInBwdRefIdeal.nD Cert.ScInBwdRefIdeal.τ Cert.ScInBwdRefIdeal.sig) → Buf (Elt Ideal) ℓ) : Prop :=
  True

def Pre_ScInBwdRefIdeal_finite_in_bwd [hPre_finite_in_bwd : Cert.Pre_finite_in_bwd.Facts] (m : (ℓ : Loc Cert.ScInBwdRefIdeal.nD Cert.ScInBwdRefIdeal.τ Cert.ScInBwdRefIdeal.sig) → Buf (Elt Ideal) ℓ) : Prop :=
  ∀ c : Dev Cert.ScInBwdRefIdeal.nD,
    (Cert.Pre_finite_in_bwd.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5))) = (fun _ => 1#1)

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScGate (m : (ℓ : Loc Cert.ScGate.nD Cert.ScGate.τ Cert.ScGate.sig) → Buf (Elt Bits) ℓ) : Prop :=
  True

def Pre_ScGateIdeal (m : (ℓ : Loc Cert.ScGateIdeal.nD Cert.ScGateIdeal.τ Cert.ScGateIdeal.sig) → Buf (Elt Ideal) ℓ) : Prop :=
  True

def Pre_ScGateRefIdeal (m : (ℓ : Loc Cert.ScGateRefIdeal.nD Cert.ScGateRefIdeal.τ Cert.ScGateRefIdeal.sig) → Buf (Elt Ideal) ℓ) : Prop :=
  True

def Pre_ScOutLn (m : (ℓ : Loc Cert.ScOutLn.nD Cert.ScOutLn.τ Cert.ScOutLn.sig) → Buf (Elt Bits) ℓ) : Prop :=
  True

def Pre_ScOutLnIdeal (m : (ℓ : Loc Cert.ScOutLnIdeal.nD Cert.ScOutLnIdeal.τ Cert.ScOutLnIdeal.sig) → Buf (Elt Ideal) ℓ) : Prop :=
  True

def Pre_ScOutLnRefIdeal (m : (ℓ : Loc Cert.ScOutLnRefIdeal.nD Cert.ScOutLnRefIdeal.τ Cert.ScOutLnRefIdeal.sig) → Buf (Elt Ideal) ℓ) : Prop :=
  True

def Pre_ConfNormBwd (m : (ℓ : Loc Cert.ConfNormBwd.nD Cert.ConfNormBwd.τ Cert.ConfNormBwd.sig) → Buf (Elt Bits) ℓ) : Prop :=
  True

def Pre_ConfNormBwdIdeal (m : (ℓ : Loc Cert.ConfNormBwdIdeal.nD Cert.ConfNormBwdIdeal.τ Cert.ConfNormBwdIdeal.sig) → Buf (Elt Ideal) ℓ) : Prop :=
  True

def Pre_ConfNormBwdIdeal_finite_norm_bwd [hPre_finite_norm_bwd : Cert.Pre_finite_norm_bwd.Facts] (m : (ℓ : Loc Cert.ConfNormBwdIdeal.nD Cert.ConfNormBwdIdeal.τ Cert.ConfNormBwdIdeal.sig) → Buf (Elt Ideal) ℓ) : Prop :=
  ∀ c : Dev Cert.ConfNormBwdIdeal.nD,
    (Cert.Pre_finite_norm_bwd.fn (F := Ideal) (m ((c.tc : Thread Cert.ConfNormBwdIdeal.nD Cert.ConfNormBwdIdeal.τ).loc Cert.ConfNormBwdIdeal.main_arg0)) (m ((c.tc : Thread Cert.ConfNormBwdIdeal.nD Cert.ConfNormBwdIdeal.τ).loc Cert.ConfNormBwdIdeal.main_arg1)) (m ((c.tc : Thread Cert.ConfNormBwdIdeal.nD Cert.ConfNormBwdIdeal.τ).loc Cert.ConfNormBwdIdeal.main_arg2)) (m ((c.tc : Thread Cert.ConfNormBwdIdeal.nD Cert.ConfNormBwdIdeal.τ).loc Cert.ConfNormBwdIdeal.main_arg3))) = (fun _ => 1#1)

def Pre_ConfNormBwdRefIdeal (m : (ℓ : Loc Cert.ConfNormBwdRefIdeal.nD Cert.ConfNormBwdRefIdeal.τ Cert.ConfNormBwdRefIdeal.sig) → Buf (Elt Ideal) ℓ) : Prop :=
  True

def Pre_ConfNormBwdRefIdeal_finite_norm_bwd [hPre_finite_norm_bwd : Cert.Pre_finite_norm_bwd.Facts] (m : (ℓ : Loc Cert.ConfNormBwdRefIdeal.nD Cert.ConfNormBwdRefIdeal.τ Cert.ConfNormBwdRefIdeal.sig) → Buf (Elt Ideal) ℓ) : Prop :=
  ∀ c : Dev Cert.ConfNormBwdRefIdeal.nD,
    (Cert.Pre_finite_norm_bwd.fn (F := Ideal) (m ((c.tc : Thread Cert.ConfNormBwdRefIdeal.nD Cert.ConfNormBwdRefIdeal.τ).loc Cert.ConfNormBwdRefIdeal.main_arg0)) (m ((c.tc : Thread Cert.ConfNormBwdRefIdeal.nD Cert.ConfNormBwdRefIdeal.τ).loc Cert.ConfNormBwdRefIdeal.main_arg1)) (m ((c.tc : Thread Cert.ConfNormBwdRefIdeal.nD Cert.ConfNormBwdRefIdeal.τ).loc Cert.ConfNormBwdRefIdeal.main_arg2)) (m ((c.tc : Thread Cert.ConfNormBwdRefIdeal.nD Cert.ConfNormBwdRefIdeal.τ).loc Cert.ConfNormBwdRefIdeal.main_arg3))) = (fun _ => 1#1)

def Pre_ScFirstBwd (m : (ℓ : Loc Cert.ScFirstBwd.nD Cert.ScFirstBwd.τ Cert.ScFirstBwd.sig) → Buf (Elt Bits) ℓ) : Prop :=
  True

def Pre_ScFirstBwdIdeal (m : (ℓ : Loc Cert.ScFirstBwdIdeal.nD Cert.ScFirstBwdIdeal.τ Cert.ScFirstBwdIdeal.sig) → Buf (Elt Ideal) ℓ) : Prop :=
  True

def Pre_ScFirstBwdRefIdeal (m : (ℓ : Loc Cert.ScFirstBwdRefIdeal.nD Cert.ScFirstBwdRefIdeal.τ Cert.ScFirstBwdRefIdeal.sig) → Buf (Elt Ideal) ℓ) : Prop :=
  True

def Pre_CfIn (m : (ℓ : Loc Cert.CfIn.nD Cert.CfIn.τ Cert.CfIn.sig) → Buf (Elt Bits) ℓ) : Prop :=
  True

def Pre_CfInIdeal (m : (ℓ : Loc Cert.CfInIdeal.nD Cert.CfInIdeal.τ Cert.CfInIdeal.sig) → Buf (Elt Ideal) ℓ) : Prop :=
  True

def Pre_CfInRefIdeal (m : (ℓ : Loc Cert.CfInRefIdeal.nD Cert.CfInRefIdeal.τ Cert.CfInRefIdeal.sig) → Buf (Elt Ideal) ℓ) : Prop :=
  True

def Pre_CfDwIn (m : (ℓ : Loc Cert.CfDwIn.nD Cert.CfDwIn.τ Cert.CfDwIn.sig) → Buf (Elt Bits) ℓ) : Prop :=
  True

def Pre_CfDwInIdeal (m : (ℓ : Loc Cert.CfDwInIdeal.nD Cert.CfDwInIdeal.τ Cert.CfDwInIdeal.sig) → Buf (Elt Ideal) ℓ) : Prop :=
  True

def Pre_CfDwInRefIdeal (m : (ℓ : Loc Cert.CfDwInRefIdeal.nD Cert.CfDwInRefIdeal.τ Cert.CfDwInRefIdeal.sig) → Buf (Elt Ideal) ℓ) : Prop :=
  True

def Pre_CfInBwd (m : (ℓ : Loc Cert.CfInBwd.nD Cert.CfInBwd.τ Cert.CfInBwd.sig) → Buf (Elt Bits) ℓ) : Prop :=
  True

def Pre_CfInBwdIdeal (m : (ℓ : Loc Cert.CfInBwdIdeal.nD Cert.CfInBwdIdeal.τ Cert.CfInBwdIdeal.sig) → Buf (Elt Ideal) ℓ) : Prop :=
  True

def Pre_CfInBwdIdeal_finite_cf_in_bwd [hPre_finite_cf_in_bwd : Cert.Pre_finite_cf_in_bwd.Facts] (m : (ℓ : Loc Cert.CfInBwdIdeal.nD Cert.CfInBwdIdeal.τ Cert.CfInBwdIdeal.sig) → Buf (Elt Ideal) ℓ) : Prop :=
  ∀ c : Dev Cert.CfInBwdIdeal.nD,
    (Cert.Pre_finite_cf_in_bwd.fn (F := Ideal) (m ((c.tc : Thread Cert.CfInBwdIdeal.nD Cert.CfInBwdIdeal.τ).loc Cert.CfInBwdIdeal.main_arg0)) (m ((c.tc : Thread Cert.CfInBwdIdeal.nD Cert.CfInBwdIdeal.τ).loc Cert.CfInBwdIdeal.main_arg1)) (m ((c.tc : Thread Cert.CfInBwdIdeal.nD Cert.CfInBwdIdeal.τ).loc Cert.CfInBwdIdeal.main_arg2)) (m ((c.tc : Thread Cert.CfInBwdIdeal.nD Cert.CfInBwdIdeal.τ).loc Cert.CfInBwdIdeal.main_arg3)) (m ((c.tc : Thread Cert.CfInBwdIdeal.nD Cert.CfInBwdIdeal.τ).loc Cert.CfInBwdIdeal.main_arg4)) (m ((c.tc : Thread Cert.CfInBwdIdeal.nD Cert.CfInBwdIdeal.τ).loc Cert.CfInBwdIdeal.main_arg5))) = (fun _ => 1#1)

def Pre_CfInBwdRefIdeal (m : (ℓ : Loc Cert.CfInBwdRefIdeal.nD Cert.CfInBwdRefIdeal.τ Cert.CfInBwdRefIdeal.sig) → Buf (Elt Ideal) ℓ) : Prop :=
  True

def Pre_CfInBwdRefIdeal_finite_cf_in_bwd [hPre_finite_cf_in_bwd : Cert.Pre_finite_cf_in_bwd.Facts] (m : (ℓ : Loc Cert.CfInBwdRefIdeal.nD Cert.CfInBwdRefIdeal.τ Cert.CfInBwdRefIdeal.sig) → Buf (Elt Ideal) ℓ) : Prop :=
  ∀ c : Dev Cert.CfInBwdRefIdeal.nD,
    (Cert.Pre_finite_cf_in_bwd.fn (F := Ideal) (m ((c.tc : Thread Cert.CfInBwdRefIdeal.nD Cert.CfInBwdRefIdeal.τ).loc Cert.CfInBwdRefIdeal.main_arg0)) (m ((c.tc : Thread Cert.CfInBwdRefIdeal.nD Cert.CfInBwdRefIdeal.τ).loc Cert.CfInBwdRefIdeal.main_arg1)) (m ((c.tc : Thread Cert.CfInBwdRefIdeal.nD Cert.CfInBwdRefIdeal.τ).loc Cert.CfInBwdRefIdeal.main_arg2)) (m ((c.tc : Thread Cert.CfInBwdRefIdeal.nD Cert.CfInBwdRefIdeal.τ).loc Cert.CfInBwdRefIdeal.main_arg3)) (m ((c.tc : Thread Cert.CfInBwdRefIdeal.nD Cert.CfInBwdRefIdeal.τ).loc Cert.CfInBwdRefIdeal.main_arg4)) (m ((c.tc : Thread Cert.CfInBwdRefIdeal.nD Cert.CfInBwdRefIdeal.τ).loc Cert.CfInBwdRefIdeal.main_arg5))) = (fun _ => 1#1)

def Pre_CfOutLn (m : (ℓ : Loc Cert.CfOutLn.nD Cert.CfOutLn.τ Cert.CfOutLn.sig) → Buf (Elt Bits) ℓ) : Prop :=
  True

def Pre_CfOutLnIdeal (m : (ℓ : Loc Cert.CfOutLnIdeal.nD Cert.CfOutLnIdeal.τ Cert.CfOutLnIdeal.sig) → Buf (Elt Ideal) ℓ) : Prop :=
  True

def Pre_CfOutLnRefIdeal (m : (ℓ : Loc Cert.CfOutLnRefIdeal.nD Cert.CfOutLnRefIdeal.τ Cert.CfOutLnRefIdeal.sig) → Buf (Elt Ideal) ℓ) : Prop :=
  True

def Pre_MlaOutBwd (m : (ℓ : Loc Cert.MlaOutBwd.nD Cert.MlaOutBwd.τ Cert.MlaOutBwd.sig) → Buf (Elt Bits) ℓ) : Prop :=
  True

def Pre_MlaOutBwdIdeal (m : (ℓ : Loc Cert.MlaOutBwdIdeal.nD Cert.MlaOutBwdIdeal.τ Cert.MlaOutBwdIdeal.sig) → Buf (Elt Ideal) ℓ) : Prop :=
  True

def Pre_MlaOutBwdRefIdeal (m : (ℓ : Loc Cert.MlaOutBwdRefIdeal.nD Cert.MlaOutBwdRefIdeal.τ Cert.MlaOutBwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_keys [hPre_finite_keys : Cert.Pre_finite_keys.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_keys.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_keys [hPre_finite_keys : Cert.Pre_finite_keys.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_keys.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))) = (fun _ => 1#1)

def Pre_MlaDown (m : (ℓ : Loc Cert.MlaDown.nD Cert.MlaDown.τ Cert.MlaDown.sig) → Buf (Elt Bits) ℓ) : Prop :=
  True

def Pre_MlaDownIdeal (m : (ℓ : Loc Cert.MlaDownIdeal.nD Cert.MlaDownIdeal.τ Cert.MlaDownIdeal.sig) → Buf (Elt Ideal) ℓ) : Prop :=
  True

def Pre_MlaDownRefIdeal (m : (ℓ : Loc Cert.MlaDownRefIdeal.nD Cert.MlaDownRefIdeal.τ Cert.MlaDownRefIdeal.sig) → Buf (Elt Ideal) ℓ) : Prop :=
  True

def Pre_MlaDwDown (m : (ℓ : Loc Cert.MlaDwDown.nD Cert.MlaDwDown.τ Cert.MlaDwDown.sig) → Buf (Elt Bits) ℓ) : Prop :=
  True

def Pre_MlaDwDownIdeal (m : (ℓ : Loc Cert.MlaDwDownIdeal.nD Cert.MlaDwDownIdeal.τ Cert.MlaDwDownIdeal.sig) → Buf (Elt Ideal) ℓ) : Prop :=
  True

def Pre_MlaDwDownRefIdeal (m : (ℓ : Loc Cert.MlaDwDownRefIdeal.nD Cert.MlaDwDownRefIdeal.τ Cert.MlaDwDownRefIdeal.sig) → Buf (Elt Ideal) ℓ) : Prop :=
  True

def Pre_MlaDownBwd (m : (ℓ : Loc Cert.MlaDownBwd.nD Cert.MlaDownBwd.τ Cert.MlaDownBwd.sig) → Buf (Elt Bits) ℓ) : Prop :=
  True

def Pre_MlaDownBwdIdeal (m : (ℓ : Loc Cert.MlaDownBwdIdeal.nD Cert.MlaDownBwdIdeal.τ Cert.MlaDownBwdIdeal.sig) → Buf (Elt Ideal) ℓ) : Prop :=
  True

def Pre_MlaDownBwdIdeal_finite_down_bwd [hPre_finite_down_bwd : Cert.Pre_finite_down_bwd.Facts] (m : (ℓ : Loc Cert.MlaDownBwdIdeal.nD Cert.MlaDownBwdIdeal.τ Cert.MlaDownBwdIdeal.sig) → Buf (Elt Ideal) ℓ) : Prop :=
  ∀ c : Dev Cert.MlaDownBwdIdeal.nD,
    (Cert.Pre_finite_down_bwd.fn (F := Ideal) (m ((c.tc : Thread Cert.MlaDownBwdIdeal.nD Cert.MlaDownBwdIdeal.τ).loc Cert.MlaDownBwdIdeal.main_arg0)) (m ((c.tc : Thread Cert.MlaDownBwdIdeal.nD Cert.MlaDownBwdIdeal.τ).loc Cert.MlaDownBwdIdeal.main_arg1)) (m ((c.tc : Thread Cert.MlaDownBwdIdeal.nD Cert.MlaDownBwdIdeal.τ).loc Cert.MlaDownBwdIdeal.main_arg2)) (m ((c.tc : Thread Cert.MlaDownBwdIdeal.nD Cert.MlaDownBwdIdeal.τ).loc Cert.MlaDownBwdIdeal.main_arg3)) (m ((c.tc : Thread Cert.MlaDownBwdIdeal.nD Cert.MlaDownBwdIdeal.τ).loc Cert.MlaDownBwdIdeal.main_arg4)) (m ((c.tc : Thread Cert.MlaDownBwdIdeal.nD Cert.MlaDownBwdIdeal.τ).loc Cert.MlaDownBwdIdeal.main_arg5)) (m ((c.tc : Thread Cert.MlaDownBwdIdeal.nD Cert.MlaDownBwdIdeal.τ).loc Cert.MlaDownBwdIdeal.main_arg6)) (m ((c.tc : Thread Cert.MlaDownBwdIdeal.nD Cert.MlaDownBwdIdeal.τ).loc Cert.MlaDownBwdIdeal.main_arg7))) = (fun _ => 1#1)

def Pre_MlaDownBwdRefIdeal (m : (ℓ : Loc Cert.MlaDownBwdRefIdeal.nD Cert.MlaDownBwdRefIdeal.τ Cert.MlaDownBwdRefIdeal.sig) → Buf (Elt Ideal) ℓ) : Prop :=
  True

def Pre_MlaDownBwdRefIdeal_finite_down_bwd [hPre_finite_down_bwd : Cert.Pre_finite_down_bwd.Facts] (m : (ℓ : Loc Cert.MlaDownBwdRefIdeal.nD Cert.MlaDownBwdRefIdeal.τ Cert.MlaDownBwdRefIdeal.sig) → Buf (Elt Ideal) ℓ) : Prop :=
  ∀ c : Dev Cert.MlaDownBwdRefIdeal.nD,
    (Cert.Pre_finite_down_bwd.fn (F := Ideal) (m ((c.tc : Thread Cert.MlaDownBwdRefIdeal.nD Cert.MlaDownBwdRefIdeal.τ).loc Cert.MlaDownBwdRefIdeal.main_arg0)) (m ((c.tc : Thread Cert.MlaDownBwdRefIdeal.nD Cert.MlaDownBwdRefIdeal.τ).loc Cert.MlaDownBwdRefIdeal.main_arg1)) (m ((c.tc : Thread Cert.MlaDownBwdRefIdeal.nD Cert.MlaDownBwdRefIdeal.τ).loc Cert.MlaDownBwdRefIdeal.main_arg2)) (m ((c.tc : Thread Cert.MlaDownBwdRefIdeal.nD Cert.MlaDownBwdRefIdeal.τ).loc Cert.MlaDownBwdRefIdeal.main_arg3)) (m ((c.tc : Thread Cert.MlaDownBwdRefIdeal.nD Cert.MlaDownBwdRefIdeal.τ).loc Cert.MlaDownBwdRefIdeal.main_arg4)) (m ((c.tc : Thread Cert.MlaDownBwdRefIdeal.nD Cert.MlaDownBwdRefIdeal.τ).loc Cert.MlaDownBwdRefIdeal.main_arg5)) (m ((c.tc : Thread Cert.MlaDownBwdRefIdeal.nD Cert.MlaDownBwdRefIdeal.τ).loc Cert.MlaDownBwdRefIdeal.main_arg6)) (m ((c.tc : Thread Cert.MlaDownBwdRefIdeal.nD Cert.MlaDownBwdRefIdeal.τ).loc Cert.MlaDownBwdRefIdeal.main_arg7))) = (fun _ => 1#1)

def Pre_MlaValues (m : (ℓ : Loc Cert.MlaValues.nD Cert.MlaValues.τ Cert.MlaValues.sig) → Buf (Elt Bits) ℓ) : Prop :=
  True

def Pre_MlaValuesIdeal (m : (ℓ : Loc Cert.MlaValuesIdeal.nD Cert.MlaValuesIdeal.τ Cert.MlaValuesIdeal.sig) → Buf (Elt Ideal) ℓ) : Prop :=
  True

def Pre_MlaValuesRefIdeal (m : (ℓ : Loc Cert.MlaValuesRefIdeal.nD Cert.MlaValuesRefIdeal.τ Cert.MlaValuesRefIdeal.sig) → Buf (Elt Ideal) ℓ) : Prop :=
  True

def Pre_MlaDwUk (m : (ℓ : Loc Cert.MlaDwUk.nD Cert.MlaDwUk.τ Cert.MlaDwUk.sig) → Buf (Elt Bits) ℓ) : Prop :=
  True

def Pre_MlaDwUkIdeal (m : (ℓ : Loc Cert.MlaDwUkIdeal.nD Cert.MlaDwUkIdeal.τ Cert.MlaDwUkIdeal.sig) → Buf (Elt Ideal) ℓ) : Prop :=
  True

def Pre_MlaDwUkRefIdeal (m : (ℓ : Loc Cert.MlaDwUkRefIdeal.nD Cert.MlaDwUkRefIdeal.τ Cert.MlaDwUkRefIdeal.sig) → Buf (Elt Ideal) ℓ) : Prop :=
  True

def Pre_MlaUkBwd (m : (ℓ : Loc Cert.MlaUkBwd.nD Cert.MlaUkBwd.τ Cert.MlaUkBwd.sig) → Buf (Elt Bits) ℓ) : Prop :=
  True

def Pre_MlaUkBwdIdeal (m : (ℓ : Loc Cert.MlaUkBwdIdeal.nD Cert.MlaUkBwdIdeal.τ Cert.MlaUkBwdIdeal.sig) → Buf (Elt Ideal) ℓ) : Prop :=
  True

def Pre_MlaUkBwdRefIdeal (m : (ℓ : Loc Cert.MlaUkBwdRefIdeal.nD Cert.MlaUkBwdRefIdeal.τ Cert.MlaUkBwdRefIdeal.sig) → Buf (Elt Ideal) ℓ) : Prop :=
  True

def Pre_MlaUvBwd (m : (ℓ : Loc Cert.MlaUvBwd.nD Cert.MlaUvBwd.τ Cert.MlaUvBwd.sig) → Buf (Elt Bits) ℓ) : Prop :=
  True

def Pre_MlaUvBwdIdeal (m : (ℓ : Loc Cert.MlaUvBwdIdeal.nD Cert.MlaUvBwdIdeal.τ Cert.MlaUvBwdIdeal.sig) → Buf (Elt Ideal) ℓ) : Prop :=
  True

def Pre_MlaUvBwdRefIdeal (m : (ℓ : Loc Cert.MlaUvBwdRefIdeal.nD Cert.MlaUvBwdRefIdeal.τ Cert.MlaUvBwdRefIdeal.sig) → Buf (Elt Ideal) ℓ) : Prop :=
  True

def Pre_MlaDwUq (m : (ℓ : Loc Cert.MlaDwUq.nD Cert.MlaDwUq.τ Cert.MlaDwUq.sig) → Buf (Elt Bits) ℓ) : Prop :=
  True

def Pre_MlaDwUqIdeal (m : (ℓ : Loc Cert.MlaDwUqIdeal.nD Cert.MlaDwUqIdeal.τ Cert.MlaDwUqIdeal.sig) → Buf (Elt Ideal) ℓ) : Prop :=
  True

def Pre_MlaDwUqRefIdeal (m : (ℓ : Loc Cert.MlaDwUqRefIdeal.nD Cert.MlaDwUqRefIdeal.τ Cert.MlaDwUqRefIdeal.sig) → Buf (Elt Ideal) ℓ) : Prop :=
  True

def Pre_MlaUqBwd (m : (ℓ : Loc Cert.MlaUqBwd.nD Cert.MlaUqBwd.τ Cert.MlaUqBwd.sig) → Buf (Elt Bits) ℓ) : Prop :=
  True

def Pre_MlaUqBwdIdeal (m : (ℓ : Loc Cert.MlaUqBwdIdeal.nD Cert.MlaUqBwdIdeal.τ Cert.MlaUqBwdIdeal.sig) → Buf (Elt Ideal) ℓ) : Prop :=
  True

def Pre_MlaUqBwdRefIdeal (m : (ℓ : Loc Cert.MlaUqBwdRefIdeal.nD Cert.MlaUqBwdRefIdeal.τ Cert.MlaUqBwdRefIdeal.sig) → Buf (Elt Ideal) ℓ) : Prop :=
  True

def Pre_CfNorm (m : (ℓ : Loc Cert.CfNorm.nD Cert.CfNorm.τ Cert.CfNorm.sig) → Buf (Elt Bits) ℓ) : Prop :=
  True

def Pre_CfNormIdeal (m : (ℓ : Loc Cert.CfNormIdeal.nD Cert.CfNormIdeal.τ Cert.CfNormIdeal.sig) → Buf (Elt Ideal) ℓ) : Prop :=
  True

def Pre_CfNormRefIdeal (m : (ℓ : Loc Cert.CfNormRefIdeal.nD Cert.CfNormRefIdeal.τ Cert.CfNormRefIdeal.sig) → Buf (Elt Ideal) ℓ) : Prop :=
  True

def Pre_MlaQueries (m : (ℓ : Loc Cert.MlaQueries.nD Cert.MlaQueries.τ Cert.MlaQueries.sig) → Buf (Elt Bits) ℓ) : Prop :=
  True

def Pre_MlaQueriesIdeal (m : (ℓ : Loc Cert.MlaQueriesIdeal.nD Cert.MlaQueriesIdeal.τ Cert.MlaQueriesIdeal.sig) → Buf (Elt Ideal) ℓ) : Prop :=
  True

def Pre_MlaQueriesRefIdeal (m : (ℓ : Loc Cert.MlaQueriesRefIdeal.nD Cert.MlaQueriesRefIdeal.τ Cert.MlaQueriesRefIdeal.sig) → Buf (Elt Ideal) ℓ) : Prop :=
  True

def Pre_MlaKeys (m : (ℓ : Loc Cert.MlaKeys.nD Cert.MlaKeys.τ Cert.MlaKeys.sig) → Buf (Elt Bits) ℓ) : Prop :=
  True

def Pre_MlaKeysIdeal (m : (ℓ : Loc Cert.MlaKeysIdeal.nD Cert.MlaKeysIdeal.τ Cert.MlaKeysIdeal.sig) → Buf (Elt Ideal) ℓ) : Prop :=
  True

def Pre_MlaKeysRefIdeal (m : (ℓ : Loc Cert.MlaKeysRefIdeal.nD Cert.MlaKeysRefIdeal.τ Cert.MlaKeysRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDownLn [hMlpDownLn : Cert.MlpDownLn.Facts] : Prop :=
  ∀ (m : (ℓ : Loc Cert.MlpDownLn.nD Cert.MlpDownLn.τ Cert.MlpDownLn.sig) → Buf (Elt Bits) ℓ) (g : Dev Cert.MlpDownLn.nD → PrngReg), Pre_MlpDownLn m →
    θ_run (Cert.MlpDownLn.defs (F := Bits)) (onTc (τ := Cert.MlpDownLn.τ) (Cert.MlpDownLn.main (F := Bits))) ⟨m, fun _ => 0, g⟩ (fun r => (∀ c : Dev Cert.MlpDownLn.nD,
      r.2.mem ((c.tc : Thread Cert.MlpDownLn.nD Cert.MlpDownLn.τ).loc Cert.MlpDownLn.main_arg0) = m ((c.tc : Thread Cert.MlpDownLn.nD Cert.MlpDownLn.τ).loc Cert.MlpDownLn.main_arg0)
      ∧ r.2.mem ((c.tc : Thread Cert.MlpDownLn.nD Cert.MlpDownLn.τ).loc Cert.MlpDownLn.main_arg1) = m ((c.tc : Thread Cert.MlpDownLn.nD Cert.MlpDownLn.τ).loc Cert.MlpDownLn.main_arg1)
      ∧ r.2.mem ((c.tc : Thread Cert.MlpDownLn.nD Cert.MlpDownLn.τ).loc Cert.MlpDownLn.main_arg2) = m ((c.tc : Thread Cert.MlpDownLn.nD Cert.MlpDownLn.τ).loc Cert.MlpDownLn.main_arg2)
      ∧ r.2.mem ((c.tc : Thread Cert.MlpDownLn.nD Cert.MlpDownLn.τ).loc Cert.MlpDownLn.main_arg3) = m ((c.tc : Thread Cert.MlpDownLn.nD Cert.MlpDownLn.τ).loc Cert.MlpDownLn.main_arg3)
      ∧ r.2.mem ((c.tc : Thread Cert.MlpDownLn.nD Cert.MlpDownLn.τ).loc Cert.MlpDownLn.main_arg4) = m ((c.tc : Thread Cert.MlpDownLn.nD Cert.MlpDownLn.τ).loc Cert.MlpDownLn.main_arg4))
      ∧ r.2.sem = fun _ => 0)

def quiescent_MlpDownLnIdeal [hMlpDownLnIdeal : Cert.MlpDownLnIdeal.Facts] : Prop :=
  ∀ (m : (ℓ : Loc Cert.MlpDownLnIdeal.nD Cert.MlpDownLnIdeal.τ Cert.MlpDownLnIdeal.sig) → Buf (Elt Ideal) ℓ) (g : Dev Cert.MlpDownLnIdeal.nD → PrngReg), Pre_MlpDownLnIdeal m →
    θ_run (Cert.MlpDownLnIdeal.defs (F := Ideal)) (onTc (τ := Cert.MlpDownLnIdeal.τ) (Cert.MlpDownLnIdeal.main (F := Ideal))) ⟨m, fun _ => 0, g⟩ (fun r => (∀ c : Dev Cert.MlpDownLnIdeal.nD,
      r.2.mem ((c.tc : Thread Cert.MlpDownLnIdeal.nD Cert.MlpDownLnIdeal.τ).loc Cert.MlpDownLnIdeal.main_arg0) = m ((c.tc : Thread Cert.MlpDownLnIdeal.nD Cert.MlpDownLnIdeal.τ).loc Cert.MlpDownLnIdeal.main_arg0)
      ∧ r.2.mem ((c.tc : Thread Cert.MlpDownLnIdeal.nD Cert.MlpDownLnIdeal.τ).loc Cert.MlpDownLnIdeal.main_arg1) = m ((c.tc : Thread Cert.MlpDownLnIdeal.nD Cert.MlpDownLnIdeal.τ).loc Cert.MlpDownLnIdeal.main_arg1)
      ∧ r.2.mem ((c.tc : Thread Cert.MlpDownLnIdeal.nD Cert.MlpDownLnIdeal.τ).loc Cert.MlpDownLnIdeal.main_arg2) = m ((c.tc : Thread Cert.MlpDownLnIdeal.nD Cert.MlpDownLnIdeal.τ).loc Cert.MlpDownLnIdeal.main_arg2)
      ∧ r.2.mem ((c.tc : Thread Cert.MlpDownLnIdeal.nD Cert.MlpDownLnIdeal.τ).loc Cert.MlpDownLnIdeal.main_arg3) = m ((c.tc : Thread Cert.MlpDownLnIdeal.nD Cert.MlpDownLnIdeal.τ).loc Cert.MlpDownLnIdeal.main_arg3)
      ∧ r.2.mem ((c.tc : Thread Cert.MlpDownLnIdeal.nD Cert.MlpDownLnIdeal.τ).loc Cert.MlpDownLnIdeal.main_arg4) = m ((c.tc : Thread Cert.MlpDownLnIdeal.nD Cert.MlpDownLnIdeal.τ).loc Cert.MlpDownLnIdeal.main_arg4))
      ∧ r.2.sem = fun _ => 0)

def quiescent_MlpDownLnRefIdeal [hMlpDownLnRefIdeal : Cert.MlpDownLnRefIdeal.Facts] : Prop :=
  ∀ (m : (ℓ : Loc Cert.MlpDownLnRefIdeal.nD Cert.MlpDownLnRefIdeal.τ Cert.MlpDownLnRefIdeal.sig) → Buf (Elt Ideal) ℓ) (g : Dev Cert.MlpDownLnRefIdeal.nD → PrngReg), Pre_MlpDownLnRefIdeal m →
    θ_run (Cert.MlpDownLnRefIdeal.defs (F := Ideal)) (onTc (τ := Cert.MlpDownLnRefIdeal.τ) (Cert.MlpDownLnRefIdeal.main (F := Ideal))) ⟨m, fun _ => 0, g⟩ (fun r => (∀ c : Dev Cert.MlpDownLnRefIdeal.nD,
      r.2.mem ((c.tc : Thread Cert.MlpDownLnRefIdeal.nD Cert.MlpDownLnRefIdeal.τ).loc Cert.MlpDownLnRefIdeal.main_arg0) = m ((c.tc : Thread Cert.MlpDownLnRefIdeal.nD Cert.MlpDownLnRefIdeal.τ).loc Cert.MlpDownLnRefIdeal.main_arg0)
      ∧ r.2.mem ((c.tc : Thread Cert.MlpDownLnRefIdeal.nD Cert.MlpDownLnRefIdeal.τ).loc Cert.MlpDownLnRefIdeal.main_arg1) = m ((c.tc : Thread Cert.MlpDownLnRefIdeal.nD Cert.MlpDownLnRefIdeal.τ).loc Cert.MlpDownLnRefIdeal.main_arg1)
      ∧ r.2.mem ((c.tc : Thread Cert.MlpDownLnRefIdeal.nD Cert.MlpDownLnRefIdeal.τ).loc Cert.MlpDownLnRefIdeal.main_arg2) = m ((c.tc : Thread Cert.MlpDownLnRefIdeal.nD Cert.MlpDownLnRefIdeal.τ).loc Cert.MlpDownLnRefIdeal.main_arg2)
      ∧ r.2.mem ((c.tc : Thread Cert.MlpDownLnRefIdeal.nD Cert.MlpDownLnRefIdeal.τ).loc Cert.MlpDownLnRefIdeal.main_arg3) = m ((c.tc : Thread Cert.MlpDownLnRefIdeal.nD Cert.MlpDownLnRefIdeal.τ).loc Cert.MlpDownLnRefIdeal.main_arg3)
      ∧ r.2.mem ((c.tc : Thread Cert.MlpDownLnRefIdeal.nD Cert.MlpDownLnRefIdeal.τ).loc Cert.MlpDownLnRefIdeal.main_arg4) = m ((c.tc : Thread Cert.MlpDownLnRefIdeal.nD Cert.MlpDownLnRefIdeal.τ).loc Cert.MlpDownLnRefIdeal.main_arg4))
      ∧ r.2.sem = fun _ => 0)

def quiescent_MlpDownBwd [hMlpDownBwd : Cert.MlpDownBwd.Facts] : Prop :=
  ∀ (m : (ℓ : Loc Cert.MlpDownBwd.nD Cert.MlpDownBwd.τ Cert.MlpDownBwd.sig) → Buf (Elt Bits) ℓ) (g : Dev Cert.MlpDownBwd.nD → PrngReg), Pre_MlpDownBwd m →
    θ_run (Cert.MlpDownBwd.defs (F := Bits)) (onTc (τ := Cert.MlpDownBwd.τ) (Cert.MlpDownBwd.main (F := Bits))) ⟨m, fun _ => 0, g⟩ (fun r => (∀ c : Dev Cert.MlpDownBwd.nD,
      r.2.mem ((c.tc : Thread Cert.MlpDownBwd.nD Cert.MlpDownBwd.τ).loc Cert.MlpDownBwd.main_arg0) = m ((c.tc : Thread Cert.MlpDownBwd.nD Cert.MlpDownBwd.τ).loc Cert.MlpDownBwd.main_arg0)
      ∧ r.2.mem ((c.tc : Thread Cert.MlpDownBwd.nD Cert.MlpDownBwd.τ).loc Cert.MlpDownBwd.main_arg1) = m ((c.tc : Thread Cert.MlpDownBwd.nD Cert.MlpDownBwd.τ).loc Cert.MlpDownBwd.main_arg1)
      ∧ r.2.mem ((c.tc : Thread Cert.MlpDownBwd.nD Cert.MlpDownBwd.τ).loc Cert.MlpDownBwd.main_arg2) = m ((c.tc : Thread Cert.MlpDownBwd.nD Cert.MlpDownBwd.τ).loc Cert.MlpDownBwd.main_arg2)
      ∧ r.2.mem ((c.tc : Thread Cert.MlpDownBwd.nD Cert.MlpDownBwd.τ).loc Cert.MlpDownBwd.main_arg3) = m ((c.tc : Thread Cert.MlpDownBwd.nD Cert.MlpDownBwd.τ).loc Cert.MlpDownBwd.main_arg3))
      ∧ r.2.sem = fun _ => 0)

def quiescent_MlpDownBwdIdeal [hMlpDownBwdIdeal : Cert.MlpDownBwdIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg), Pre_MlpDownBwdIdeal m →
    θ_run (Cert.MlpDownBwdIdeal.defs (F := Ideal)) (onTc (τ := Cert.MlpDownBwdIdeal.τ) (Cert.MlpDownBwdIdeal.main (F := Ideal))) ⟨m, fun _ => 0, g⟩ (fun r => (∀ c : Dev Cert.MlpDownBwdIdeal.nD,
      r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
      ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
      ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2)
      ∧ r.2.mem ((c.tc : Thread Cert.MlpDownBwdIdeal.nD Cert.MlpDownBwdIdeal.τ).loc Cert.MlpDownBwdIdeal.main_arg3) = m ((c.tc : Thread Cert.MlpDownBwdIdeal.nD Cert.MlpDownBwdIdeal.τ).loc Cert.MlpDownBwdIdeal.main_arg3))
      ∧ r.2.sem = fun _ => 0)

def quiescent_MlpDownBwdRefIdeal [hMlpDownBwdRefIdeal : Cert.MlpDownBwdRefIdeal.Facts] : Prop :=
  ∀ (m : (ℓ : Loc Cert.MlpDownBwdRefIdeal.nD Cert.MlpDownBwdRefIdeal.τ Cert.MlpDownBwdRefIdeal.sig) → Buf (Elt Ideal) ℓ) (g : Dev Cert.MlpDownBwdRefIdeal.nD → PrngReg), Pre_MlpDownBwdRefIdeal m →
    θ_run (Cert.MlpDownBwdRefIdeal.defs (F := Ideal)) (onTc (τ := Cert.MlpDownBwdRefIdeal.τ) (Cert.MlpDownBwdRefIdeal.main (F := Ideal))) ⟨m, fun _ => 0, g⟩ (fun r => (∀ c : Dev Cert.MlpDownBwdRefIdeal.nD,
      r.2.mem ((c.tc : Thread Cert.MlpDownBwdRefIdeal.nD Cert.MlpDownBwdRefIdeal.τ).loc Cert.MlpDownBwdRefIdeal.main_arg0) = m ((c.tc : Thread Cert.MlpDownBwdRefIdeal.nD Cert.MlpDownBwdRefIdeal.τ).loc Cert.MlpDownBwdRefIdeal.main_arg0)
      ∧ r.2.mem ((c.tc : Thread Cert.MlpDownBwdRefIdeal.nD Cert.MlpDownBwdRefIdeal.τ).loc Cert.MlpDownBwdRefIdeal.main_arg1) = m ((c.tc : Thread Cert.MlpDownBwdRefIdeal.nD Cert.MlpDownBwdRefIdeal.τ).loc Cert.MlpDownBwdRefIdeal.main_arg1)
      ∧ r.2.mem ((c.tc : Thread Cert.MlpDownBwdRefIdeal.nD Cert.MlpDownBwdRefIdeal.τ).loc Cert.MlpDownBwdRefIdeal.main_arg2) = m ((c.tc : Thread Cert.MlpDownBwdRefIdeal.nD Cert.MlpDownBwdRefIdeal.τ).loc Cert.MlpDownBwdRefIdeal.main_arg2)
      ∧ r.2.mem ((c.tc : Thread Cert.MlpDownBwdRefIdeal.nD Cert.MlpDownBwdRefIdeal.τ).loc Cert.MlpDownBwdRefIdeal.main_arg3) = m ((c.tc : Thread Cert.MlpDownBwdRefIdeal.nD Cert.MlpDownBwdRefIdeal.τ).loc Cert.MlpDownBwdRefIdeal.main_arg3))
      ∧ r.2.sem = fun _ => 0)

def quiescent_MlpDw2 [hMlpDw2 : Cert.MlpDw2.Facts] : Prop :=
  ∀ (m : (ℓ : Loc Cert.MlpDw2.nD Cert.MlpDw2.τ Cert.MlpDw2.sig) → Buf (Elt Bits) ℓ) (g : Dev Cert.MlpDw2.nD → PrngReg), Pre_MlpDw2 m →
    θ_run (Cert.MlpDw2.defs (F := Bits)) (onTc (τ := Cert.MlpDw2.τ) (Cert.MlpDw2.main (F := Bits))) ⟨m, fun _ => 0, g⟩ (fun r => (∀ c : Dev Cert.MlpDw2.nD,
      r.2.mem ((c.tc : Thread Cert.MlpDw2.nD Cert.MlpDw2.τ).loc Cert.MlpDw2.main_arg0) = m ((c.tc : Thread Cert.MlpDw2.nD Cert.MlpDw2.τ).loc Cert.MlpDw2.main_arg0)
      ∧ r.2.mem ((c.tc : Thread Cert.MlpDw2.nD Cert.MlpDw2.τ).loc Cert.MlpDw2.main_arg1) = m ((c.tc : Thread Cert.MlpDw2.nD Cert.MlpDw2.τ).loc Cert.MlpDw2.main_arg1)
      ∧ r.2.mem ((c.tc : Thread Cert.MlpDw2.nD Cert.MlpDw2.τ).loc Cert.MlpDw2.main_arg2) = m ((c.tc : Thread Cert.MlpDw2.nD Cert.MlpDw2.τ).loc Cert.MlpDw2.main_arg2))
      ∧ r.2.sem = fun _ => 0)

def quiescent_MlpDw2Ideal [hMlpDw2Ideal : Cert.MlpDw2Ideal.Facts] : Prop :=
  ∀ (m : (ℓ : Loc Cert.MlpDw2Ideal.nD Cert.MlpDw2Ideal.τ Cert.MlpDw2Ideal.sig) → Buf (Elt Ideal) ℓ) (g : Dev Cert.MlpDw2Ideal.nD → PrngReg), Pre_MlpDw2Ideal m →
    θ_run (Cert.MlpDw2Ideal.defs (F := Ideal)) (onTc (τ := Cert.MlpDw2Ideal.τ) (Cert.MlpDw2Ideal.main (F := Ideal))) ⟨m, fun _ => 0, g⟩ (fun r => (∀ c : Dev Cert.MlpDw2Ideal.nD,
      r.2.mem ((c.tc : Thread Cert.MlpDw2Ideal.nD Cert.MlpDw2Ideal.τ).loc Cert.MlpDw2Ideal.main_arg0) = m ((c.tc : Thread Cert.MlpDw2Ideal.nD Cert.MlpDw2Ideal.τ).loc Cert.MlpDw2Ideal.main_arg0)
      ∧ r.2.mem ((c.tc : Thread Cert.MlpDw2Ideal.nD Cert.MlpDw2Ideal.τ).loc Cert.MlpDw2Ideal.main_arg1) = m ((c.tc : Thread Cert.MlpDw2Ideal.nD Cert.MlpDw2Ideal.τ).loc Cert.MlpDw2Ideal.main_arg1)
      ∧ r.2.mem ((c.tc : Thread Cert.MlpDw2Ideal.nD Cert.MlpDw2Ideal.τ).loc Cert.MlpDw2Ideal.main_arg2) = m ((c.tc : Thread Cert.MlpDw2Ideal.nD Cert.MlpDw2Ideal.τ).loc Cert.MlpDw2Ideal.main_arg2))
      ∧ r.2.sem = fun _ => 0)

def quiescent_MlpDw2RefIdeal [hMlpDw2RefIdeal : Cert.MlpDw2RefIdeal.Facts] : Prop :=
  ∀ (m : (ℓ : Loc Cert.MlpDw2RefIdeal.nD Cert.MlpDw2RefIdeal.τ Cert.MlpDw2RefIdeal.sig) → Buf (Elt Ideal) ℓ) (g : Dev Cert.MlpDw2RefIdeal.nD → PrngReg), Pre_MlpDw2RefIdeal m →
    θ_run (Cert.MlpDw2RefIdeal.defs (F := Ideal)) (onTc (τ := Cert.MlpDw2RefIdeal.τ) (Cert.MlpDw2RefIdeal.main (F := Ideal))) ⟨m, fun _ => 0, g⟩ (fun r => (∀ c : Dev Cert.MlpDw2RefIdeal.nD,
      r.2.mem ((c.tc : Thread Cert.MlpDw2RefIdeal.nD Cert.MlpDw2RefIdeal.τ).loc Cert.MlpDw2RefIdeal.main_arg0) = m ((c.tc : Thread Cert.MlpDw2RefIdeal.nD Cert.MlpDw2RefIdeal.τ).loc Cert.MlpDw2RefIdeal.main_arg0)
      ∧ r.2.mem ((c.tc : Thread Cert.MlpDw2RefIdeal.nD Cert.MlpDw2RefIdeal.τ).loc Cert.MlpDw2RefIdeal.main_arg1) = m ((c.tc : Thread Cert.MlpDw2RefIdeal.nD Cert.MlpDw2RefIdeal.τ).loc Cert.MlpDw2RefIdeal.main_arg1)
      ∧ r.2.mem ((c.tc : Thread Cert.MlpDw2RefIdeal.nD Cert.MlpDw2RefIdeal.τ).loc Cert.MlpDw2RefIdeal.main_arg2) = m ((c.tc : Thread Cert.MlpDw2RefIdeal.nD Cert.MlpDw2RefIdeal.τ).loc Cert.MlpDw2RefIdeal.main_arg2))
      ∧ r.2.sem = fun _ => 0)

def quiescent_MlpDw1 [hMlpDw1 : Cert.MlpDw1.Facts] : Prop :=
  ∀ (m : (ℓ : Loc Cert.MlpDw1.nD Cert.MlpDw1.τ Cert.MlpDw1.sig) → Buf (Elt Bits) ℓ) (g : Dev Cert.MlpDw1.nD → PrngReg), Pre_MlpDw1 m →
    θ_run (Cert.MlpDw1.defs (F := Bits)) (onTc (τ := Cert.MlpDw1.τ) (Cert.MlpDw1.main (F := Bits))) ⟨m, fun _ => 0, g⟩ (fun r => (∀ c : Dev Cert.MlpDw1.nD,
      r.2.mem ((c.tc : Thread Cert.MlpDw1.nD Cert.MlpDw1.τ).loc Cert.MlpDw1.main_arg0) = m ((c.tc : Thread Cert.MlpDw1.nD Cert.MlpDw1.τ).loc Cert.MlpDw1.main_arg0)
      ∧ r.2.mem ((c.tc : Thread Cert.MlpDw1.nD Cert.MlpDw1.τ).loc Cert.MlpDw1.main_arg1) = m ((c.tc : Thread Cert.MlpDw1.nD Cert.MlpDw1.τ).loc Cert.MlpDw1.main_arg1))
      ∧ r.2.sem = fun _ => 0)

def quiescent_MlpDw1Ideal [hMlpDw1Ideal : Cert.MlpDw1Ideal.Facts] : Prop :=
  ∀ (m : (ℓ : Loc Cert.MlpDw1Ideal.nD Cert.MlpDw1Ideal.τ Cert.MlpDw1Ideal.sig) → Buf (Elt Ideal) ℓ) (g : Dev Cert.MlpDw1Ideal.nD → PrngReg), Pre_MlpDw1Ideal m →
    θ_run (Cert.MlpDw1Ideal.defs (F := Ideal)) (onTc (τ := Cert.MlpDw1Ideal.τ) (Cert.MlpDw1Ideal.main (F := Ideal))) ⟨m, fun _ => 0, g⟩ (fun r => (∀ c : Dev Cert.MlpDw1Ideal.nD,
      r.2.mem ((c.tc : Thread Cert.MlpDw1Ideal.nD Cert.MlpDw1Ideal.τ).loc Cert.MlpDw1Ideal.main_arg0) = m ((c.tc : Thread Cert.MlpDw1Ideal.nD Cert.MlpDw1Ideal.τ).loc Cert.MlpDw1Ideal.main_arg0)
      ∧ r.2.mem ((c.tc : Thread Cert.MlpDw1Ideal.nD Cert.MlpDw1Ideal.τ).loc Cert.MlpDw1Ideal.main_arg1) = m ((c.tc : Thread Cert.MlpDw1Ideal.nD Cert.MlpDw1Ideal.τ).loc Cert.MlpDw1Ideal.main_arg1))
      ∧ r.2.sem = fun _ => 0)

def quiescent_MlpDw1RefIdeal [hMlpDw1RefIdeal : Cert.MlpDw1RefIdeal.Facts] : Prop :=
  ∀ (m : (ℓ : Loc Cert.MlpDw1RefIdeal.nD Cert.MlpDw1RefIdeal.τ Cert.MlpDw1RefIdeal.sig) → Buf (Elt Ideal) ℓ) (g : Dev Cert.MlpDw1RefIdeal.nD → PrngReg), Pre_MlpDw1RefIdeal m →
    θ_run (Cert.MlpDw1RefIdeal.defs (F := Ideal)) (onTc (τ := Cert.MlpDw1RefIdeal.τ) (Cert.MlpDw1RefIdeal.main (F := Ideal))) ⟨m, fun _ => 0, g⟩ (fun r => (∀ c : Dev Cert.MlpDw1RefIdeal.nD,
      r.2.mem ((c.tc : Thread Cert.MlpDw1RefIdeal.nD Cert.MlpDw1RefIdeal.τ).loc Cert.MlpDw1RefIdeal.main_arg0) = m ((c.tc : Thread Cert.MlpDw1RefIdeal.nD Cert.MlpDw1RefIdeal.τ).loc Cert.MlpDw1RefIdeal.main_arg0)
      ∧ r.2.mem ((c.tc : Thread Cert.MlpDw1RefIdeal.nD Cert.MlpDw1RefIdeal.τ).loc Cert.MlpDw1RefIdeal.main_arg1) = m ((c.tc : Thread Cert.MlpDw1RefIdeal.nD Cert.MlpDw1RefIdeal.τ).loc Cert.MlpDw1RefIdeal.main_arg1))
      ∧ r.2.sem = fun _ => 0)

def quiescent_MlpUpBwd [hMlpUpBwd : Cert.MlpUpBwd.Facts] : Prop :=
  ∀ (m : (ℓ : Loc Cert.MlpUpBwd.nD Cert.MlpUpBwd.τ Cert.MlpUpBwd.sig) → Buf (Elt Bits) ℓ) (g : Dev Cert.MlpUpBwd.nD → PrngReg), Pre_MlpUpBwd m →
    θ_run (Cert.MlpUpBwd.defs (F := Bits)) (onTc (τ := Cert.MlpUpBwd.τ) (Cert.MlpUpBwd.main (F := Bits))) ⟨m, fun _ => 0, g⟩ (fun r => (∀ c : Dev Cert.MlpUpBwd.nD,
      r.2.mem ((c.tc : Thread Cert.MlpUpBwd.nD Cert.MlpUpBwd.τ).loc Cert.MlpUpBwd.main_arg0) = m ((c.tc : Thread Cert.MlpUpBwd.nD Cert.MlpUpBwd.τ).loc Cert.MlpUpBwd.main_arg0)
      ∧ r.2.mem ((c.tc : Thread Cert.MlpUpBwd.nD Cert.MlpUpBwd.τ).loc Cert.MlpUpBwd.main_arg1) = m ((c.tc : Thread Cert.MlpUpBwd.nD Cert.MlpUpBwd.τ).loc Cert.MlpUpBwd.main_arg1)
      ∧ r.2.mem ((c.tc : Thread Cert.MlpUpBwd.nD Cert.MlpUpBwd.τ).loc Cert.MlpUpBwd.main_arg2) = m ((c.tc : Thread Cert.MlpUpBwd.nD Cert.MlpUpBwd.τ).loc Cert.MlpUpBwd.main_arg2)
      ∧ r.2.mem ((c.tc : Thread Cert.MlpUpBwd.nD Cert.MlpUpBwd.τ).loc Cert.MlpUpBwd.main_arg3) = m ((c.tc : Thread Cert.MlpUpBwd.nD Cert.MlpUpBwd.τ).loc Cert.MlpUpBwd.main_arg3)
      ∧ r.2.mem ((c.tc : Thread Cert.MlpUpBwd.nD Cert.MlpUpBwd.τ).loc Cert.MlpUpBwd.main_arg4) = m ((c.tc : Thread Cert.MlpUpBwd.nD Cert.MlpUpBwd.τ).loc Cert.MlpUpBwd.main_arg4)
      ∧ r.2.mem ((c.tc : Thread Cert.MlpUpBwd.nD Cert.MlpUpBwd.τ).loc Cert.MlpUpBwd.main_arg5) = m ((c.tc : Thread Cert.MlpUpBwd.nD Cert.MlpUpBwd.τ).loc Cert.MlpUpBwd.main_arg5))
      ∧ r.2.sem = fun _ => 0)

def quiescent_MlpUpBwdIdeal [hMlpUpBwdIdeal : Cert.MlpUpBwdIdeal.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
      ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ r.2.sem = fun _ => 0)

def quiescent_MlpUpBwdIdeal_pre_finite_up_bwd [hMlpUpBwdIdeal : Cert.MlpUpBwdIdeal.Facts] [hPre_finite_up_bwd : Cert.Pre_finite_up_bwd.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg), Pre_MlpUpBwdIdeal_finite_up_bwd m →
    θ_run (Cert.MlpUpBwdIdeal.defs (F := Ideal)) (onTc (τ := Cert.MlpUpBwdIdeal.τ) (Cert.MlpUpBwdIdeal.main (F := Ideal))) ⟨m, fun _ => 0, g⟩ (fun r => (∀ c : Dev Cert.MlpUpBwdIdeal.nD,
      r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
      ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
      ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
      ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
      ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
      ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ r.2.sem = fun _ => 0)

def quiescent_MlpUpBwdRefIdeal [hMlpUpBwdRefIdeal : Cert.MlpUpBwdRefIdeal.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4)
      ∧ r.2.mem ((c.tc : Thread Cert.MlpUpBwdRefIdeal.nD Cert.MlpUpBwdRefIdeal.τ).loc Cert.MlpUpBwdRefIdeal.main_arg5) = m ((c.tc : Thread Cert.MlpUpBwdRefIdeal.nD Cert.MlpUpBwdRefIdeal.τ).loc Cert.MlpUpBwdRefIdeal.main_arg5))
      ∧ r.2.sem = fun _ => 0)

def quiescent_MlpUpBwdRefIdeal_pre_finite_up_bwd [hMlpUpBwdRefIdeal : Cert.MlpUpBwdRefIdeal.Facts] [hPre_finite_up_bwd : Cert.Pre_finite_up_bwd.Facts] : Prop :=
  ∀ (m : (ℓ : Loc Cert.MlpUpBwdRefIdeal.nD Cert.MlpUpBwdRefIdeal.τ Cert.MlpUpBwdRefIdeal.sig) → Buf (Elt Ideal) ℓ) (g : Dev Cert.MlpUpBwdRefIdeal.nD → PrngReg), Pre_MlpUpBwdRefIdeal_finite_up_bwd m →
    θ_run (Cert.MlpUpBwdRefIdeal.defs (F := Ideal)) (onTc (τ := Cert.MlpUpBwdRefIdeal.τ) (Cert.MlpUpBwdRefIdeal.main (F := Ideal))) ⟨m, fun _ => 0, g⟩ (fun r => (∀ c : Dev Cert.MlpUpBwdRefIdeal.nD,
      r.2.mem ((c.tc : Thread Cert.MlpUpBwdRefIdeal.nD Cert.MlpUpBwdRefIdeal.τ).loc Cert.MlpUpBwdRefIdeal.main_arg0) = m ((c.tc : Thread Cert.MlpUpBwdRefIdeal.nD Cert.MlpUpBwdRefIdeal.τ).loc Cert.MlpUpBwdRefIdeal.main_arg0)
      ∧ r.2.mem ((c.tc : Thread Cert.MlpUpBwdRefIdeal.nD Cert.MlpUpBwdRefIdeal.τ).loc Cert.MlpUpBwdRefIdeal.main_arg1) = m ((c.tc : Thread Cert.MlpUpBwdRefIdeal.nD Cert.MlpUpBwdRefIdeal.τ).loc Cert.MlpUpBwdRefIdeal.main_arg1)
      ∧ r.2.mem ((c.tc : Thread Cert.MlpUpBwdRefIdeal.nD Cert.MlpUpBwdRefIdeal.τ).loc Cert.MlpUpBwdRefIdeal.main_arg2) = m ((c.tc : Thread Cert.MlpUpBwdRefIdeal.nD Cert.MlpUpBwdRefIdeal.τ).loc Cert.MlpUpBwdRefIdeal.main_arg2)
      ∧ r.2.mem ((c.tc : Thread Cert.MlpUpBwdRefIdeal.nD Cert.MlpUpBwdRefIdeal.τ).loc Cert.MlpUpBwdRefIdeal.main_arg3) = m ((c.tc : Thread Cert.MlpUpBwdRefIdeal.nD Cert.MlpUpBwdRefIdeal.τ).loc Cert.MlpUpBwdRefIdeal.main_arg3)
      ∧ r.2.mem ((c.tc : Thread Cert.MlpUpBwdRefIdeal.nD Cert.MlpUpBwdRefIdeal.τ).loc Cert.MlpUpBwdRefIdeal.main_arg4) = m ((c.tc : Thread Cert.MlpUpBwdRefIdeal.nD Cert.MlpUpBwdRefIdeal.τ).loc Cert.MlpUpBwdRefIdeal.main_arg4)
      ∧ r.2.mem ((c.tc : Thread Cert.MlpUpBwdRefIdeal.nD Cert.MlpUpBwdRefIdeal.τ).loc Cert.MlpUpBwdRefIdeal.main_arg5) = m ((c.tc : Thread Cert.MlpUpBwdRefIdeal.nD Cert.MlpUpBwdRefIdeal.τ).loc Cert.MlpUpBwdRefIdeal.main_arg5))
      ∧ r.2.sem = fun _ => 0)

def quiescent_ScGateBwd [hScGateBwd : Cert.ScGateBwd.Facts] : Prop :=
  ∀ (m : (ℓ : Loc Cert.ScGateBwd.nD Cert.ScGateBwd.τ Cert.ScGateBwd.sig) → Buf (Elt Bits) ℓ) (g : Dev Cert.ScGateBwd.nD → PrngReg), Pre_ScGateBwd m →
    θ_run (Cert.ScGateBwd.defs (F := Bits)) (onTc (τ := Cert.ScGateBwd.τ) (Cert.ScGateBwd.main (F := Bits))) ⟨m, fun _ => 0, g⟩ (fun r => (∀ c : Dev Cert.ScGateBwd.nD,
      r.2.mem ((c.tc : Thread Cert.ScGateBwd.nD Cert.ScGateBwd.τ).loc Cert.ScGateBwd.main_arg0) = m ((c.tc : Thread Cert.ScGateBwd.nD Cert.ScGateBwd.τ).loc Cert.ScGateBwd.main_arg0)
      ∧ r.2.mem ((c.tc : Thread Cert.ScGateBwd.nD Cert.ScGateBwd.τ).loc Cert.ScGateBwd.main_arg1) = m ((c.tc : Thread Cert.ScGateBwd.nD Cert.ScGateBwd.τ).loc Cert.ScGateBwd.main_arg1)
      ∧ r.2.mem ((c.tc : Thread Cert.ScGateBwd.nD Cert.ScGateBwd.τ).loc Cert.ScGateBwd.main_arg2) = m ((c.tc : Thread Cert.ScGateBwd.nD Cert.ScGateBwd.τ).loc Cert.ScGateBwd.main_arg2))
      ∧ r.2.sem = fun _ => 0)

def quiescent_ScGateBwdIdeal [hScGateBwdIdeal : Cert.ScGateBwdIdeal.Facts] : Prop :=
  ∀ (m : (ℓ : Loc Cert.ScGateBwdIdeal.nD Cert.ScGateBwdIdeal.τ Cert.ScGateBwdIdeal.sig) → Buf (Elt Ideal) ℓ) (g : Dev Cert.ScGateBwdIdeal.nD → PrngReg), Pre_ScGateBwdIdeal m →
    θ_run (Cert.ScGateBwdIdeal.defs (F := Ideal)) (onTc (τ := Cert.ScGateBwdIdeal.τ) (Cert.ScGateBwdIdeal.main (F := Ideal))) ⟨m, fun _ => 0, g⟩ (fun r => (∀ c : Dev Cert.ScGateBwdIdeal.nD,
      r.2.mem ((c.tc : Thread Cert.ScGateBwdIdeal.nD Cert.ScGateBwdIdeal.τ).loc Cert.ScGateBwdIdeal.main_arg0) = m ((c.tc : Thread Cert.ScGateBwdIdeal.nD Cert.ScGateBwdIdeal.τ).loc Cert.ScGateBwdIdeal.main_arg0)
      ∧ r.2.mem ((c.tc : Thread Cert.ScGateBwdIdeal.nD Cert.ScGateBwdIdeal.τ).loc Cert.ScGateBwdIdeal.main_arg1) = m ((c.tc : Thread Cert.ScGateBwdIdeal.nD Cert.ScGateBwdIdeal.τ).loc Cert.ScGateBwdIdeal.main_arg1)
      ∧ r.2.mem ((c.tc : Thread Cert.ScGateBwdIdeal.nD Cert.ScGateBwdIdeal.τ).loc Cert.ScGateBwdIdeal.main_arg2) = m ((c.tc : Thread Cert.ScGateBwdIdeal.nD Cert.ScGateBwdIdeal.τ).loc Cert.ScGateBwdIdeal.main_arg2))
      ∧ r.2.sem = fun _ => 0)

def quiescent_ScGateBwdRefIdeal [hScGateBwdRefIdeal : Cert.ScGateBwdRefIdeal.Facts] : Prop :=
  ∀ (m : (ℓ : Loc Cert.ScGateBwdRefIdeal.nD Cert.ScGateBwdRefIdeal.τ Cert.ScGateBwdRefIdeal.sig) → Buf (Elt Ideal) ℓ) (g : Dev Cert.ScGateBwdRefIdeal.nD → PrngReg), Pre_ScGateBwdRefIdeal m →
    θ_run (Cert.ScGateBwdRefIdeal.defs (F := Ideal)) (onTc (τ := Cert.ScGateBwdRefIdeal.τ) (Cert.ScGateBwdRefIdeal.main (F := Ideal))) ⟨m, fun _ => 0, g⟩ (fun r => (∀ c : Dev Cert.ScGateBwdRefIdeal.nD,
      r.2.mem ((c.tc : Thread Cert.ScGateBwdRefIdeal.nD Cert.ScGateBwdRefIdeal.τ).loc Cert.ScGateBwdRefIdeal.main_arg0) = m ((c.tc : Thread Cert.ScGateBwdRefIdeal.nD Cert.ScGateBwdRefIdeal.τ).loc Cert.ScGateBwdRefIdeal.main_arg0)
      ∧ r.2.mem ((c.tc : Thread Cert.ScGateBwdRefIdeal.nD Cert.ScGateBwdRefIdeal.τ).loc Cert.ScGateBwdRefIdeal.main_arg1) = m ((c.tc : Thread Cert.ScGateBwdRefIdeal.nD Cert.ScGateBwdRefIdeal.τ).loc Cert.ScGateBwdRefIdeal.main_arg1)
      ∧ r.2.mem ((c.tc : Thread Cert.ScGateBwdRefIdeal.nD Cert.ScGateBwdRefIdeal.τ).loc Cert.ScGateBwdRefIdeal.main_arg2) = m ((c.tc : Thread Cert.ScGateBwdRefIdeal.nD Cert.ScGateBwdRefIdeal.τ).loc Cert.ScGateBwdRefIdeal.main_arg2))
      ∧ r.2.sem = fun _ => 0)

def quiescent_ScOutBwd [hScOutBwd : Cert.ScOutBwd.Facts] : Prop :=
  ∀ (m : (ℓ : Loc Cert.ScOutBwd.nD Cert.ScOutBwd.τ Cert.ScOutBwd.sig) → Buf (Elt Bits) ℓ) (g : Dev Cert.ScOutBwd.nD → PrngReg), Pre_ScOutBwd m →
    θ_run (Cert.ScOutBwd.defs (F := Bits)) (onTc (τ := Cert.ScOutBwd.τ) (Cert.ScOutBwd.main (F := Bits))) ⟨m, fun _ => 0, g⟩ (fun r => (∀ c : Dev Cert.ScOutBwd.nD,
      r.2.mem ((c.tc : Thread Cert.ScOutBwd.nD Cert.ScOutBwd.τ).loc Cert.ScOutBwd.main_arg0) = m ((c.tc : Thread Cert.ScOutBwd.nD Cert.ScOutBwd.τ).loc Cert.ScOutBwd.main_arg0)
      ∧ r.2.mem ((c.tc : Thread Cert.ScOutBwd.nD Cert.ScOutBwd.τ).loc Cert.ScOutBwd.main_arg1) = m ((c.tc : Thread Cert.ScOutBwd.nD Cert.ScOutBwd.τ).loc Cert.ScOutBwd.main_arg1))
      ∧ r.2.sem = fun _ => 0)

def quiescent_ScOutBwdIdeal [hScOutBwdIdeal : Cert.ScOutBwdIdeal.Facts] : Prop :=
  ∀ (m : (ℓ : Loc Cert.ScOutBwdIdeal.nD Cert.ScOutBwdIdeal.τ Cert.ScOutBwdIdeal.sig) → Buf (Elt Ideal) ℓ) (g : Dev Cert.ScOutBwdIdeal.nD → PrngReg), Pre_ScOutBwdIdeal m →
    θ_run (Cert.ScOutBwdIdeal.defs (F := Ideal)) (onTc (τ := Cert.ScOutBwdIdeal.τ) (Cert.ScOutBwdIdeal.main (F := Ideal))) ⟨m, fun _ => 0, g⟩ (fun r => (∀ c : Dev Cert.ScOutBwdIdeal.nD,
      r.2.mem ((c.tc : Thread Cert.ScOutBwdIdeal.nD Cert.ScOutBwdIdeal.τ).loc Cert.ScOutBwdIdeal.main_arg0) = m ((c.tc : Thread Cert.ScOutBwdIdeal.nD Cert.ScOutBwdIdeal.τ).loc Cert.ScOutBwdIdeal.main_arg0)
      ∧ r.2.mem ((c.tc : Thread Cert.ScOutBwdIdeal.nD Cert.ScOutBwdIdeal.τ).loc Cert.ScOutBwdIdeal.main_arg1) = m ((c.tc : Thread Cert.ScOutBwdIdeal.nD Cert.ScOutBwdIdeal.τ).loc Cert.ScOutBwdIdeal.main_arg1))
      ∧ r.2.sem = fun _ => 0)

def quiescent_ScOutBwdRefIdeal [hScOutBwdRefIdeal : Cert.ScOutBwdRefIdeal.Facts] : Prop :=
  ∀ (m : (ℓ : Loc Cert.ScOutBwdRefIdeal.nD Cert.ScOutBwdRefIdeal.τ Cert.ScOutBwdRefIdeal.sig) → Buf (Elt Ideal) ℓ) (g : Dev Cert.ScOutBwdRefIdeal.nD → PrngReg), Pre_ScOutBwdRefIdeal m →
    θ_run (Cert.ScOutBwdRefIdeal.defs (F := Ideal)) (onTc (τ := Cert.ScOutBwdRefIdeal.τ) (Cert.ScOutBwdRefIdeal.main (F := Ideal))) ⟨m, fun _ => 0, g⟩ (fun r => (∀ c : Dev Cert.ScOutBwdRefIdeal.nD,
      r.2.mem ((c.tc : Thread Cert.ScOutBwdRefIdeal.nD Cert.ScOutBwdRefIdeal.τ).loc Cert.ScOutBwdRefIdeal.main_arg0) = m ((c.tc : Thread Cert.ScOutBwdRefIdeal.nD Cert.ScOutBwdRefIdeal.τ).loc Cert.ScOutBwdRefIdeal.main_arg0)
      ∧ r.2.mem ((c.tc : Thread Cert.ScOutBwdRefIdeal.nD Cert.ScOutBwdRefIdeal.τ).loc Cert.ScOutBwdRefIdeal.main_arg1) = m ((c.tc : Thread Cert.ScOutBwdRefIdeal.nD Cert.ScOutBwdRefIdeal.τ).loc Cert.ScOutBwdRefIdeal.main_arg1))
      ∧ r.2.sem = fun _ => 0)

def quiescent_ScDwOut [hScDwOut : Cert.ScDwOut.Facts] : Prop :=
  ∀ (m : (ℓ : Loc Cert.ScDwOut.nD Cert.ScDwOut.τ Cert.ScDwOut.sig) → Buf (Elt Bits) ℓ) (g : Dev Cert.ScDwOut.nD → PrngReg), Pre_ScDwOut m →
    θ_run (Cert.ScDwOut.defs (F := Bits)) (onTc (τ := Cert.ScDwOut.τ) (Cert.ScDwOut.main (F := Bits))) ⟨m, fun _ => 0, g⟩ (fun r => (∀ c : Dev Cert.ScDwOut.nD,
      r.2.mem ((c.tc : Thread Cert.ScDwOut.nD Cert.ScDwOut.τ).loc Cert.ScDwOut.main_arg0) = m ((c.tc : Thread Cert.ScDwOut.nD Cert.ScDwOut.τ).loc Cert.ScDwOut.main_arg0)
      ∧ r.2.mem ((c.tc : Thread Cert.ScDwOut.nD Cert.ScDwOut.τ).loc Cert.ScDwOut.main_arg1) = m ((c.tc : Thread Cert.ScDwOut.nD Cert.ScDwOut.τ).loc Cert.ScDwOut.main_arg1))
      ∧ r.2.sem = fun _ => 0)

def quiescent_ScDwOutIdeal [hScDwOutIdeal : Cert.ScDwOutIdeal.Facts] : Prop :=
  ∀ (m : (ℓ : Loc Cert.ScDwOutIdeal.nD Cert.ScDwOutIdeal.τ Cert.ScDwOutIdeal.sig) → Buf (Elt Ideal) ℓ) (g : Dev Cert.ScDwOutIdeal.nD → PrngReg), Pre_ScDwOutIdeal m →
    θ_run (Cert.ScDwOutIdeal.defs (F := Ideal)) (onTc (τ := Cert.ScDwOutIdeal.τ) (Cert.ScDwOutIdeal.main (F := Ideal))) ⟨m, fun _ => 0, g⟩ (fun r => (∀ c : Dev Cert.ScDwOutIdeal.nD,
      r.2.mem ((c.tc : Thread Cert.ScDwOutIdeal.nD Cert.ScDwOutIdeal.τ).loc Cert.ScDwOutIdeal.main_arg0) = m ((c.tc : Thread Cert.ScDwOutIdeal.nD Cert.ScDwOutIdeal.τ).loc Cert.ScDwOutIdeal.main_arg0)
      ∧ r.2.mem ((c.tc : Thread Cert.ScDwOutIdeal.nD Cert.ScDwOutIdeal.τ).loc Cert.ScDwOutIdeal.main_arg1) = m ((c.tc : Thread Cert.ScDwOutIdeal.nD Cert.ScDwOutIdeal.τ).loc Cert.ScDwOutIdeal.main_arg1))
      ∧ r.2.sem = fun _ => 0)

def quiescent_ScDwOutRefIdeal [hScDwOutRefIdeal : Cert.ScDwOutRefIdeal.Facts] : Prop :=
  ∀ (m : (ℓ : Loc Cert.ScDwOutRefIdeal.nD Cert.ScDwOutRefIdeal.τ Cert.ScDwOutRefIdeal.sig) → Buf (Elt Ideal) ℓ) (g : Dev Cert.ScDwOutRefIdeal.nD → PrngReg), Pre_ScDwOutRefIdeal m →
    θ_run (Cert.ScDwOutRefIdeal.defs (F := Ideal)) (onTc (τ := Cert.ScDwOutRefIdeal.τ) (Cert.ScDwOutRefIdeal.main (F := Ideal))) ⟨m, fun _ => 0, g⟩ (fun r => (∀ c : Dev Cert.ScDwOutRefIdeal.nD,
      r.2.mem ((c.tc : Thread Cert.ScDwOutRefIdeal.nD Cert.ScDwOutRefIdeal.τ).loc Cert.ScDwOutRefIdeal.main_arg0) = m ((c.tc : Thread Cert.ScDwOutRefIdeal.nD Cert.ScDwOutRefIdeal.τ).loc Cert.ScDwOutRefIdeal.main_arg0)
      ∧ r.2.mem ((c.tc : Thread Cert.ScDwOutRefIdeal.nD Cert.ScDwOutRefIdeal.τ).loc Cert.ScDwOutRefIdeal.main_arg1) = m ((c.tc : Thread Cert.ScDwOutRefIdeal.nD Cert.ScDwOutRefIdeal.τ).loc Cert.ScDwOutRefIdeal.main_arg1))
      ∧ r.2.sem = fun _ => 0)

def quiescent_ScDwIn [hScDwIn : Cert.ScDwIn.Facts] : Prop :=
  ∀ (m : (ℓ : Loc Cert.ScDwIn.nD Cert.ScDwIn.τ Cert.ScDwIn.sig) → Buf (Elt Bits) ℓ) (g : Dev Cert.ScDwIn.nD → PrngReg), Pre_ScDwIn m →
    θ_run (Cert.ScDwIn.defs (F := Bits)) (onTc (τ := Cert.ScDwIn.τ) (Cert.ScDwIn.main (F := Bits))) ⟨m, fun _ => 0, g⟩ (fun r => (∀ c : Dev Cert.ScDwIn.nD,
      r.2.mem ((c.tc : Thread Cert.ScDwIn.nD Cert.ScDwIn.τ).loc Cert.ScDwIn.main_arg0) = m ((c.tc : Thread Cert.ScDwIn.nD Cert.ScDwIn.τ).loc Cert.ScDwIn.main_arg0)
      ∧ r.2.mem ((c.tc : Thread Cert.ScDwIn.nD Cert.ScDwIn.τ).loc Cert.ScDwIn.main_arg1) = m ((c.tc : Thread Cert.ScDwIn.nD Cert.ScDwIn.τ).loc Cert.ScDwIn.main_arg1))
      ∧ r.2.sem = fun _ => 0)

def quiescent_ScDwInIdeal [hScDwInIdeal : Cert.ScDwInIdeal.Facts] : Prop :=
  ∀ (m : (ℓ : Loc Cert.ScDwInIdeal.nD Cert.ScDwInIdeal.τ Cert.ScDwInIdeal.sig) → Buf (Elt Ideal) ℓ) (g : Dev Cert.ScDwInIdeal.nD → PrngReg), Pre_ScDwInIdeal m →
    θ_run (Cert.ScDwInIdeal.defs (F := Ideal)) (onTc (τ := Cert.ScDwInIdeal.τ) (Cert.ScDwInIdeal.main (F := Ideal))) ⟨m, fun _ => 0, g⟩ (fun r => (∀ c : Dev Cert.ScDwInIdeal.nD,
      r.2.mem ((c.tc : Thread Cert.ScDwInIdeal.nD Cert.ScDwInIdeal.τ).loc Cert.ScDwInIdeal.main_arg0) = m ((c.tc : Thread Cert.ScDwInIdeal.nD Cert.ScDwInIdeal.τ).loc Cert.ScDwInIdeal.main_arg0)
      ∧ r.2.mem ((c.tc : Thread Cert.ScDwInIdeal.nD Cert.ScDwInIdeal.τ).loc Cert.ScDwInIdeal.main_arg1) = m ((c.tc : Thread Cert.ScDwInIdeal.nD Cert.ScDwInIdeal.τ).loc Cert.ScDwInIdeal.main_arg1))
      ∧ r.2.sem = fun _ => 0)

def quiescent_ScDwInRefIdeal [hScDwInRefIdeal : Cert.ScDwInRefIdeal.Facts] : Prop :=
  ∀ (m : (ℓ : Loc Cert.ScDwInRefIdeal.nD Cert.ScDwInRefIdeal.τ Cert.ScDwInRefIdeal.sig) → Buf (Elt Ideal) ℓ) (g : Dev Cert.ScDwInRefIdeal.nD → PrngReg), Pre_ScDwInRefIdeal m →
    θ_run (Cert.ScDwInRefIdeal.defs (F := Ideal)) (onTc (τ := Cert.ScDwInRefIdeal.τ) (Cert.ScDwInRefIdeal.main (F := Ideal))) ⟨m, fun _ => 0, g⟩ (fun r => (∀ c : Dev Cert.ScDwInRefIdeal.nD,
      r.2.mem ((c.tc : Thread Cert.ScDwInRefIdeal.nD Cert.ScDwInRefIdeal.τ).loc Cert.ScDwInRefIdeal.main_arg0) = m ((c.tc : Thread Cert.ScDwInRefIdeal.nD Cert.ScDwInRefIdeal.τ).loc Cert.ScDwInRefIdeal.main_arg0)
      ∧ r.2.mem ((c.tc : Thread Cert.ScDwInRefIdeal.nD Cert.ScDwInRefIdeal.τ).loc Cert.ScDwInRefIdeal.main_arg1) = m ((c.tc : Thread Cert.ScDwInRefIdeal.nD Cert.ScDwInRefIdeal.τ).loc Cert.ScDwInRefIdeal.main_arg1))
      ∧ r.2.sem = fun _ => 0)

def quiescent_ScInBwd [hScInBwd : Cert.ScInBwd.Facts] : Prop :=
  ∀ (m : (ℓ : Loc Cert.ScInBwd.nD Cert.ScInBwd.τ Cert.ScInBwd.sig) → Buf (Elt Bits) ℓ) (g : Dev Cert.ScInBwd.nD → PrngReg), Pre_ScInBwd m →
    θ_run (Cert.ScInBwd.defs (F := Bits)) (onTc (τ := Cert.ScInBwd.τ) (Cert.ScInBwd.main (F := Bits))) ⟨m, fun _ => 0, g⟩ (fun r => (∀ c : Dev Cert.ScInBwd.nD,
      r.2.mem ((c.tc : Thread Cert.ScInBwd.nD Cert.ScInBwd.τ).loc Cert.ScInBwd.main_arg0) = m ((c.tc : Thread Cert.ScInBwd.nD Cert.ScInBwd.τ).loc Cert.ScInBwd.main_arg0)
      ∧ r.2.mem ((c.tc : Thread Cert.ScInBwd.nD Cert.ScInBwd.τ).loc Cert.ScInBwd.main_arg1) = m ((c.tc : Thread Cert.ScInBwd.nD Cert.ScInBwd.τ).loc Cert.ScInBwd.main_arg1)
      ∧ r.2.mem ((c.tc : Thread Cert.ScInBwd.nD Cert.ScInBwd.τ).loc Cert.ScInBwd.main_arg2) = m ((c.tc : Thread Cert.ScInBwd.nD Cert.ScInBwd.τ).loc Cert.ScInBwd.main_arg2)
      ∧ r.2.mem ((c.tc : Thread Cert.ScInBwd.nD Cert.ScInBwd.τ).loc Cert.ScInBwd.main_arg3) = m ((c.tc : Thread Cert.ScInBwd.nD Cert.ScInBwd.τ).loc Cert.ScInBwd.main_arg3)
      ∧ r.2.mem ((c.tc : Thread Cert.ScInBwd.nD Cert.ScInBwd.τ).loc Cert.ScInBwd.main_arg4) = m ((c.tc : Thread Cert.ScInBwd.nD Cert.ScInBwd.τ).loc Cert.ScInBwd.main_arg4)
      ∧ r.2.mem ((c.tc : Thread Cert.ScInBwd.nD Cert.ScInBwd.τ).loc Cert.ScInBwd.main_arg5) = m ((c.tc : Thread Cert.ScInBwd.nD Cert.ScInBwd.τ).loc Cert.ScInBwd.main_arg5))
      ∧ r.2.sem = fun _ => 0)

def quiescent_ScInBwdIdeal [hScInBwdIdeal : Cert.ScInBwdIdeal.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg), Pre_ScInBwdIdeal m →
    θ_run (Cert.ScInBwdIdeal.defs (F := Ideal)) (onTc (τ := Cert.ScInBwdIdeal.τ) (Cert.ScInBwdIdeal.main (F := Ideal))) ⟨m, fun _ => 0, g⟩ (fun r => (∀ c : Dev Cert.ScInBwdIdeal.nD,
      r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
      ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
      ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
      ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
      ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
      ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5))
      ∧ r.2.sem = fun _ => 0)

def quiescent_ScInBwdIdeal_pre_finite_in_bwd [hScInBwdIdeal : Cert.ScInBwdIdeal.Facts] [hPre_finite_in_bwd : Cert.Pre_finite_in_bwd.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg), Pre_ScInBwdIdeal_finite_in_bwd m →
    θ_run (Cert.ScInBwdIdeal.defs (F := Ideal)) (onTc (τ := Cert.ScInBwdIdeal.τ) (Cert.ScInBwdIdeal.main (F := Ideal))) ⟨m, fun _ => 0, g⟩ (fun r => (∀ c : Dev Cert.ScInBwdIdeal.nD,
      r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
      ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
      ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
      ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
      ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
      ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5))
      ∧ r.2.sem = fun _ => 0)

def quiescent_ScInBwdRefIdeal [hScInBwdRefIdeal : Cert.ScInBwdRefIdeal.Facts] : Prop :=
  ∀ (m : (ℓ : Loc Cert.ScInBwdRefIdeal.nD Cert.ScInBwdRefIdeal.τ Cert.ScInBwdRefIdeal.sig) → Buf (Elt Ideal) ℓ) (g : Dev Cert.ScInBwdRefIdeal.nD → PrngReg), Pre_ScInBwdRefIdeal m →
    θ_run (Cert.ScInBwdRefIdeal.defs (F := Ideal)) (onTc (τ := Cert.ScInBwdRefIdeal.τ) (Cert.ScInBwdRefIdeal.main (F := Ideal))) ⟨m, fun _ => 0, g⟩ (fun r => (∀ c : Dev Cert.ScInBwdRefIdeal.nD,
      r.2.mem ((c.tc : Thread Cert.ScInBwdRefIdeal.nD Cert.ScInBwdRefIdeal.τ).loc Cert.ScInBwdRefIdeal.main_arg0) = m ((c.tc : Thread Cert.ScInBwdRefIdeal.nD Cert.ScInBwdRefIdeal.τ).loc Cert.ScInBwdRefIdeal.main_arg0)
      ∧ r.2.mem ((c.tc : Thread Cert.ScInBwdRefIdeal.nD Cert.ScInBwdRefIdeal.τ).loc Cert.ScInBwdRefIdeal.main_arg1) = m ((c.tc : Thread Cert.ScInBwdRefIdeal.nD Cert.ScInBwdRefIdeal.τ).loc Cert.ScInBwdRefIdeal.main_arg1)
      ∧ r.2.mem ((c.tc : Thread Cert.ScInBwdRefIdeal.nD Cert.ScInBwdRefIdeal.τ).loc Cert.ScInBwdRefIdeal.main_arg2) = m ((c.tc : Thread Cert.ScInBwdRefIdeal.nD Cert.ScInBwdRefIdeal.τ).loc Cert.ScInBwdRefIdeal.main_arg2)
      ∧ r.2.mem ((c.tc : Thread Cert.ScInBwdRefIdeal.nD Cert.ScInBwdRefIdeal.τ).loc Cert.ScInBwdRefIdeal.main_arg3) = m ((c.tc : Thread Cert.ScInBwdRefIdeal.nD Cert.ScInBwdRefIdeal.τ).loc Cert.ScInBwdRefIdeal.main_arg3)
      ∧ r.2.mem ((c.tc : Thread Cert.ScInBwdRefIdeal.nD Cert.ScInBwdRefIdeal.τ).loc Cert.ScInBwdRefIdeal.main_arg4) = m ((c.tc : Thread Cert.ScInBwdRefIdeal.nD Cert.ScInBwdRefIdeal.τ).loc Cert.ScInBwdRefIdeal.main_arg4)
      ∧ r.2.mem ((c.tc : Thread Cert.ScInBwdRefIdeal.nD Cert.ScInBwdRefIdeal.τ).loc Cert.ScInBwdRefIdeal.main_arg5) = m ((c.tc : Thread Cert.ScInBwdRefIdeal.nD Cert.ScInBwdRefIdeal.τ).loc Cert.ScInBwdRefIdeal.main_arg5))
      ∧ r.2.sem = fun _ => 0)

def quiescent_ScInBwdRefIdeal_pre_finite_in_bwd [hScInBwdRefIdeal : Cert.ScInBwdRefIdeal.Facts] [hPre_finite_in_bwd : Cert.Pre_finite_in_bwd.Facts] : Prop :=
  ∀ (m : (ℓ : Loc Cert.ScInBwdRefIdeal.nD Cert.ScInBwdRefIdeal.τ Cert.ScInBwdRefIdeal.sig) → Buf (Elt Ideal) ℓ) (g : Dev Cert.ScInBwdRefIdeal.nD → PrngReg), Pre_ScInBwdRefIdeal_finite_in_bwd m →
    θ_run (Cert.ScInBwdRefIdeal.defs (F := Ideal)) (onTc (τ := Cert.ScInBwdRefIdeal.τ) (Cert.ScInBwdRefIdeal.main (F := Ideal))) ⟨m, fun _ => 0, g⟩ (fun r => (∀ c : Dev Cert.ScInBwdRefIdeal.nD,
      r.2.mem ((c.tc : Thread Cert.ScInBwdRefIdeal.nD Cert.ScInBwdRefIdeal.τ).loc Cert.ScInBwdRefIdeal.main_arg0) = m ((c.tc : Thread Cert.ScInBwdRefIdeal.nD Cert.ScInBwdRefIdeal.τ).loc Cert.ScInBwdRefIdeal.main_arg0)
      ∧ r.2.mem ((c.tc : Thread Cert.ScInBwdRefIdeal.nD Cert.ScInBwdRefIdeal.τ).loc Cert.ScInBwdRefIdeal.main_arg1) = m ((c.tc : Thread Cert.ScInBwdRefIdeal.nD Cert.ScInBwdRefIdeal.τ).loc Cert.ScInBwdRefIdeal.main_arg1)
      ∧ r.2.mem ((c.tc : Thread Cert.ScInBwdRefIdeal.nD Cert.ScInBwdRefIdeal.τ).loc Cert.ScInBwdRefIdeal.main_arg2) = m ((c.tc : Thread Cert.ScInBwdRefIdeal.nD Cert.ScInBwdRefIdeal.τ).loc Cert.ScInBwdRefIdeal.main_arg2)
      ∧ r.2.mem ((c.tc : Thread Cert.ScInBwdRefIdeal.nD Cert.ScInBwdRefIdeal.τ).loc Cert.ScInBwdRefIdeal.main_arg3) = m ((c.tc : Thread Cert.ScInBwdRefIdeal.nD Cert.ScInBwdRefIdeal.τ).loc Cert.ScInBwdRefIdeal.main_arg3)
      ∧ r.2.mem ((c.tc : Thread Cert.ScInBwdRefIdeal.nD Cert.ScInBwdRefIdeal.τ).loc Cert.ScInBwdRefIdeal.main_arg4) = m ((c.tc : Thread Cert.ScInBwdRefIdeal.nD Cert.ScInBwdRefIdeal.τ).loc Cert.ScInBwdRefIdeal.main_arg4)
      ∧ r.2.mem ((c.tc : Thread Cert.ScInBwdRefIdeal.nD Cert.ScInBwdRefIdeal.τ).loc Cert.ScInBwdRefIdeal.main_arg5) = m ((c.tc : Thread Cert.ScInBwdRefIdeal.nD Cert.ScInBwdRefIdeal.τ).loc Cert.ScInBwdRefIdeal.main_arg5))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScGate [hScGate : Cert.ScGate.Facts] : Prop :=
  ∀ (m : (ℓ : Loc Cert.ScGate.nD Cert.ScGate.τ Cert.ScGate.sig) → Buf (Elt Bits) ℓ) (g : Dev Cert.ScGate.nD → PrngReg), Pre_ScGate m →
    θ_run (Cert.ScGate.defs (F := Bits)) (onTc (τ := Cert.ScGate.τ) (Cert.ScGate.main (F := Bits))) ⟨m, fun _ => 0, g⟩ (fun r => (∀ c : Dev Cert.ScGate.nD,
      r.2.mem ((c.tc : Thread Cert.ScGate.nD Cert.ScGate.τ).loc Cert.ScGate.main_arg0) = m ((c.tc : Thread Cert.ScGate.nD Cert.ScGate.τ).loc Cert.ScGate.main_arg0)
      ∧ r.2.mem ((c.tc : Thread Cert.ScGate.nD Cert.ScGate.τ).loc Cert.ScGate.main_arg1) = m ((c.tc : Thread Cert.ScGate.nD Cert.ScGate.τ).loc Cert.ScGate.main_arg1))
      ∧ r.2.sem = fun _ => 0)

def quiescent_ScGateIdeal [hScGateIdeal : Cert.ScGateIdeal.Facts] : Prop :=
  ∀ (m : (ℓ : Loc Cert.ScGateIdeal.nD Cert.ScGateIdeal.τ Cert.ScGateIdeal.sig) → Buf (Elt Ideal) ℓ) (g : Dev Cert.ScGateIdeal.nD → PrngReg), Pre_ScGateIdeal m →
    θ_run (Cert.ScGateIdeal.defs (F := Ideal)) (onTc (τ := Cert.ScGateIdeal.τ) (Cert.ScGateIdeal.main (F := Ideal))) ⟨m, fun _ => 0, g⟩ (fun r => (∀ c : Dev Cert.ScGateIdeal.nD,
      r.2.mem ((c.tc : Thread Cert.ScGateIdeal.nD Cert.ScGateIdeal.τ).loc Cert.ScGateIdeal.main_arg0) = m ((c.tc : Thread Cert.ScGateIdeal.nD Cert.ScGateIdeal.τ).loc Cert.ScGateIdeal.main_arg0)
      ∧ r.2.mem ((c.tc : Thread Cert.ScGateIdeal.nD Cert.ScGateIdeal.τ).loc Cert.ScGateIdeal.main_arg1) = m ((c.tc : Thread Cert.ScGateIdeal.nD Cert.ScGateIdeal.τ).loc Cert.ScGateIdeal.main_arg1))
      ∧ r.2.sem = fun _ => 0)

def quiescent_ScGateRefIdeal [hScGateRefIdeal : Cert.ScGateRefIdeal.Facts] : Prop :=
  ∀ (m : (ℓ : Loc Cert.ScGateRefIdeal.nD Cert.ScGateRefIdeal.τ Cert.ScGateRefIdeal.sig) → Buf (Elt Ideal) ℓ) (g : Dev Cert.ScGateRefIdeal.nD → PrngReg), Pre_ScGateRefIdeal m →
    θ_run (Cert.ScGateRefIdeal.defs (F := Ideal)) (onTc (τ := Cert.ScGateRefIdeal.τ) (Cert.ScGateRefIdeal.main (F := Ideal))) ⟨m, fun _ => 0, g⟩ (fun r => (∀ c : Dev Cert.ScGateRefIdeal.nD,
      r.2.mem ((c.tc : Thread Cert.ScGateRefIdeal.nD Cert.ScGateRefIdeal.τ).loc Cert.ScGateRefIdeal.main_arg0) = m ((c.tc : Thread Cert.ScGateRefIdeal.nD Cert.ScGateRefIdeal.τ).loc Cert.ScGateRefIdeal.main_arg0)
      ∧ r.2.mem ((c.tc : Thread Cert.ScGateRefIdeal.nD Cert.ScGateRefIdeal.τ).loc Cert.ScGateRefIdeal.main_arg1) = m ((c.tc : Thread Cert.ScGateRefIdeal.nD Cert.ScGateRefIdeal.τ).loc Cert.ScGateRefIdeal.main_arg1))
      ∧ r.2.sem = fun _ => 0)

def quiescent_ScOutLn [hScOutLn : Cert.ScOutLn.Facts] : Prop :=
  ∀ (m : (ℓ : Loc Cert.ScOutLn.nD Cert.ScOutLn.τ Cert.ScOutLn.sig) → Buf (Elt Bits) ℓ) (g : Dev Cert.ScOutLn.nD → PrngReg), Pre_ScOutLn m →
    θ_run (Cert.ScOutLn.defs (F := Bits)) (onTc (τ := Cert.ScOutLn.τ) (Cert.ScOutLn.main (F := Bits))) ⟨m, fun _ => 0, g⟩ (fun r => (∀ c : Dev Cert.ScOutLn.nD,
      r.2.mem ((c.tc : Thread Cert.ScOutLn.nD Cert.ScOutLn.τ).loc Cert.ScOutLn.main_arg0) = m ((c.tc : Thread Cert.ScOutLn.nD Cert.ScOutLn.τ).loc Cert.ScOutLn.main_arg0)
      ∧ r.2.mem ((c.tc : Thread Cert.ScOutLn.nD Cert.ScOutLn.τ).loc Cert.ScOutLn.main_arg1) = m ((c.tc : Thread Cert.ScOutLn.nD Cert.ScOutLn.τ).loc Cert.ScOutLn.main_arg1)
      ∧ r.2.mem ((c.tc : Thread Cert.ScOutLn.nD Cert.ScOutLn.τ).loc Cert.ScOutLn.main_arg2) = m ((c.tc : Thread Cert.ScOutLn.nD Cert.ScOutLn.τ).loc Cert.ScOutLn.main_arg2)
      ∧ r.2.mem ((c.tc : Thread Cert.ScOutLn.nD Cert.ScOutLn.τ).loc Cert.ScOutLn.main_arg3) = m ((c.tc : Thread Cert.ScOutLn.nD Cert.ScOutLn.τ).loc Cert.ScOutLn.main_arg3)
      ∧ r.2.mem ((c.tc : Thread Cert.ScOutLn.nD Cert.ScOutLn.τ).loc Cert.ScOutLn.main_arg4) = m ((c.tc : Thread Cert.ScOutLn.nD Cert.ScOutLn.τ).loc Cert.ScOutLn.main_arg4))
      ∧ r.2.sem = fun _ => 0)

def quiescent_ScOutLnIdeal [hScOutLnIdeal : Cert.ScOutLnIdeal.Facts] : Prop :=
  ∀ (m : (ℓ : Loc Cert.ScOutLnIdeal.nD Cert.ScOutLnIdeal.τ Cert.ScOutLnIdeal.sig) → Buf (Elt Ideal) ℓ) (g : Dev Cert.ScOutLnIdeal.nD → PrngReg), Pre_ScOutLnIdeal m →
    θ_run (Cert.ScOutLnIdeal.defs (F := Ideal)) (onTc (τ := Cert.ScOutLnIdeal.τ) (Cert.ScOutLnIdeal.main (F := Ideal))) ⟨m, fun _ => 0, g⟩ (fun r => (∀ c : Dev Cert.ScOutLnIdeal.nD,
      r.2.mem ((c.tc : Thread Cert.ScOutLnIdeal.nD Cert.ScOutLnIdeal.τ).loc Cert.ScOutLnIdeal.main_arg0) = m ((c.tc : Thread Cert.ScOutLnIdeal.nD Cert.ScOutLnIdeal.τ).loc Cert.ScOutLnIdeal.main_arg0)
      ∧ r.2.mem ((c.tc : Thread Cert.ScOutLnIdeal.nD Cert.ScOutLnIdeal.τ).loc Cert.ScOutLnIdeal.main_arg1) = m ((c.tc : Thread Cert.ScOutLnIdeal.nD Cert.ScOutLnIdeal.τ).loc Cert.ScOutLnIdeal.main_arg1)
      ∧ r.2.mem ((c.tc : Thread Cert.ScOutLnIdeal.nD Cert.ScOutLnIdeal.τ).loc Cert.ScOutLnIdeal.main_arg2) = m ((c.tc : Thread Cert.ScOutLnIdeal.nD Cert.ScOutLnIdeal.τ).loc Cert.ScOutLnIdeal.main_arg2)
      ∧ r.2.mem ((c.tc : Thread Cert.ScOutLnIdeal.nD Cert.ScOutLnIdeal.τ).loc Cert.ScOutLnIdeal.main_arg3) = m ((c.tc : Thread Cert.ScOutLnIdeal.nD Cert.ScOutLnIdeal.τ).loc Cert.ScOutLnIdeal.main_arg3)
      ∧ r.2.mem ((c.tc : Thread Cert.ScOutLnIdeal.nD Cert.ScOutLnIdeal.τ).loc Cert.ScOutLnIdeal.main_arg4) = m ((c.tc : Thread Cert.ScOutLnIdeal.nD Cert.ScOutLnIdeal.τ).loc Cert.ScOutLnIdeal.main_arg4))
      ∧ r.2.sem = fun _ => 0)

def quiescent_ScOutLnRefIdeal [hScOutLnRefIdeal : Cert.ScOutLnRefIdeal.Facts] : Prop :=
  ∀ (m : (ℓ : Loc Cert.ScOutLnRefIdeal.nD Cert.ScOutLnRefIdeal.τ Cert.ScOutLnRefIdeal.sig) → Buf (Elt Ideal) ℓ) (g : Dev Cert.ScOutLnRefIdeal.nD → PrngReg), Pre_ScOutLnRefIdeal m →
    θ_run (Cert.ScOutLnRefIdeal.defs (F := Ideal)) (onTc (τ := Cert.ScOutLnRefIdeal.τ) (Cert.ScOutLnRefIdeal.main (F := Ideal))) ⟨m, fun _ => 0, g⟩ (fun r => (∀ c : Dev Cert.ScOutLnRefIdeal.nD,
      r.2.mem ((c.tc : Thread Cert.ScOutLnRefIdeal.nD Cert.ScOutLnRefIdeal.τ).loc Cert.ScOutLnRefIdeal.main_arg0) = m ((c.tc : Thread Cert.ScOutLnRefIdeal.nD Cert.ScOutLnRefIdeal.τ).loc Cert.ScOutLnRefIdeal.main_arg0)
      ∧ r.2.mem ((c.tc : Thread Cert.ScOutLnRefIdeal.nD Cert.ScOutLnRefIdeal.τ).loc Cert.ScOutLnRefIdeal.main_arg1) = m ((c.tc : Thread Cert.ScOutLnRefIdeal.nD Cert.ScOutLnRefIdeal.τ).loc Cert.ScOutLnRefIdeal.main_arg1)
      ∧ r.2.mem ((c.tc : Thread Cert.ScOutLnRefIdeal.nD Cert.ScOutLnRefIdeal.τ).loc Cert.ScOutLnRefIdeal.main_arg2) = m ((c.tc : Thread Cert.ScOutLnRefIdeal.nD Cert.ScOutLnRefIdeal.τ).loc Cert.ScOutLnRefIdeal.main_arg2)
      ∧ r.2.mem ((c.tc : Thread Cert.ScOutLnRefIdeal.nD Cert.ScOutLnRefIdeal.τ).loc Cert.ScOutLnRefIdeal.main_arg3) = m ((c.tc : Thread Cert.ScOutLnRefIdeal.nD Cert.ScOutLnRefIdeal.τ).loc Cert.ScOutLnRefIdeal.main_arg3)
      ∧ r.2.mem ((c.tc : Thread Cert.ScOutLnRefIdeal.nD Cert.ScOutLnRefIdeal.τ).loc Cert.ScOutLnRefIdeal.main_arg4) = m ((c.tc : Thread Cert.ScOutLnRefIdeal.nD Cert.ScOutLnRefIdeal.τ).loc Cert.ScOutLnRefIdeal.main_arg4))
      ∧ r.2.sem = fun _ => 0)

def quiescent_ConfNormBwd [hConfNormBwd : Cert.ConfNormBwd.Facts] : Prop :=
  ∀ (m : (ℓ : Loc Cert.ConfNormBwd.nD Cert.ConfNormBwd.τ Cert.ConfNormBwd.sig) → Buf (Elt Bits) ℓ) (g : Dev Cert.ConfNormBwd.nD → PrngReg), Pre_ConfNormBwd m →
    θ_run (Cert.ConfNormBwd.defs (F := Bits)) (onTc (τ := Cert.ConfNormBwd.τ) (Cert.ConfNormBwd.main (F := Bits))) ⟨m, fun _ => 0, g⟩ (fun r => (∀ c : Dev Cert.ConfNormBwd.nD,
      r.2.mem ((c.tc : Thread Cert.ConfNormBwd.nD Cert.ConfNormBwd.τ).loc Cert.ConfNormBwd.main_arg0) = m ((c.tc : Thread Cert.ConfNormBwd.nD Cert.ConfNormBwd.τ).loc Cert.ConfNormBwd.main_arg0)
      ∧ r.2.mem ((c.tc : Thread Cert.ConfNormBwd.nD Cert.ConfNormBwd.τ).loc Cert.ConfNormBwd.main_arg1) = m ((c.tc : Thread Cert.ConfNormBwd.nD Cert.ConfNormBwd.τ).loc Cert.ConfNormBwd.main_arg1)
      ∧ r.2.mem ((c.tc : Thread Cert.ConfNormBwd.nD Cert.ConfNormBwd.τ).loc Cert.ConfNormBwd.main_arg2) = m ((c.tc : Thread Cert.ConfNormBwd.nD Cert.ConfNormBwd.τ).loc Cert.ConfNormBwd.main_arg2)
      ∧ r.2.mem ((c.tc : Thread Cert.ConfNormBwd.nD Cert.ConfNormBwd.τ).loc Cert.ConfNormBwd.main_arg3) = m ((c.tc : Thread Cert.ConfNormBwd.nD Cert.ConfNormBwd.τ).loc Cert.ConfNormBwd.main_arg3))
      ∧ r.2.sem = fun _ => 0)

def quiescent_ConfNormBwdIdeal [hConfNormBwdIdeal : Cert.ConfNormBwdIdeal.Facts] : Prop :=
  ∀ (m : (ℓ : Loc Cert.ConfNormBwdIdeal.nD Cert.ConfNormBwdIdeal.τ Cert.ConfNormBwdIdeal.sig) → Buf (Elt Ideal) ℓ) (g : Dev Cert.ConfNormBwdIdeal.nD → PrngReg), Pre_ConfNormBwdIdeal m →
    θ_run (Cert.ConfNormBwdIdeal.defs (F := Ideal)) (onTc (τ := Cert.ConfNormBwdIdeal.τ) (Cert.ConfNormBwdIdeal.main (F := Ideal))) ⟨m, fun _ => 0, g⟩ (fun r => (∀ c : Dev Cert.ConfNormBwdIdeal.nD,
      r.2.mem ((c.tc : Thread Cert.ConfNormBwdIdeal.nD Cert.ConfNormBwdIdeal.τ).loc Cert.ConfNormBwdIdeal.main_arg0) = m ((c.tc : Thread Cert.ConfNormBwdIdeal.nD Cert.ConfNormBwdIdeal.τ).loc Cert.ConfNormBwdIdeal.main_arg0)
      ∧ r.2.mem ((c.tc : Thread Cert.ConfNormBwdIdeal.nD Cert.ConfNormBwdIdeal.τ).loc Cert.ConfNormBwdIdeal.main_arg1) = m ((c.tc : Thread Cert.ConfNormBwdIdeal.nD Cert.ConfNormBwdIdeal.τ).loc Cert.ConfNormBwdIdeal.main_arg1)
      ∧ r.2.mem ((c.tc : Thread Cert.ConfNormBwdIdeal.nD Cert.ConfNormBwdIdeal.τ).loc Cert.ConfNormBwdIdeal.main_arg2) = m ((c.tc : Thread Cert.ConfNormBwdIdeal.nD Cert.ConfNormBwdIdeal.τ).loc Cert.ConfNormBwdIdeal.main_arg2)
      ∧ r.2.mem ((c.tc : Thread Cert.ConfNormBwdIdeal.nD Cert.ConfNormBwdIdeal.τ).loc Cert.ConfNormBwdIdeal.main_arg3) = m ((c.tc : Thread Cert.ConfNormBwdIdeal.nD Cert.ConfNormBwdIdeal.τ).loc Cert.ConfNormBwdIdeal.main_arg3))
      ∧ r.2.sem = fun _ => 0)

def quiescent_ConfNormBwdIdeal_pre_finite_norm_bwd [hConfNormBwdIdeal : Cert.ConfNormBwdIdeal.Facts] [hPre_finite_norm_bwd : Cert.Pre_finite_norm_bwd.Facts] : Prop :=
  ∀ (m : (ℓ : Loc Cert.ConfNormBwdIdeal.nD Cert.ConfNormBwdIdeal.τ Cert.ConfNormBwdIdeal.sig) → Buf (Elt Ideal) ℓ) (g : Dev Cert.ConfNormBwdIdeal.nD → PrngReg), Pre_ConfNormBwdIdeal_finite_norm_bwd m →
    θ_run (Cert.ConfNormBwdIdeal.defs (F := Ideal)) (onTc (τ := Cert.ConfNormBwdIdeal.τ) (Cert.ConfNormBwdIdeal.main (F := Ideal))) ⟨m, fun _ => 0, g⟩ (fun r => (∀ c : Dev Cert.ConfNormBwdIdeal.nD,
      r.2.mem ((c.tc : Thread Cert.ConfNormBwdIdeal.nD Cert.ConfNormBwdIdeal.τ).loc Cert.ConfNormBwdIdeal.main_arg0) = m ((c.tc : Thread Cert.ConfNormBwdIdeal.nD Cert.ConfNormBwdIdeal.τ).loc Cert.ConfNormBwdIdeal.main_arg0)
      ∧ r.2.mem ((c.tc : Thread Cert.ConfNormBwdIdeal.nD Cert.ConfNormBwdIdeal.τ).loc Cert.ConfNormBwdIdeal.main_arg1) = m ((c.tc : Thread Cert.ConfNormBwdIdeal.nD Cert.ConfNormBwdIdeal.τ).loc Cert.ConfNormBwdIdeal.main_arg1)
      ∧ r.2.mem ((c.tc : Thread Cert.ConfNormBwdIdeal.nD Cert.ConfNormBwdIdeal.τ).loc Cert.ConfNormBwdIdeal.main_arg2) = m ((c.tc : Thread Cert.ConfNormBwdIdeal.nD Cert.ConfNormBwdIdeal.τ).loc Cert.ConfNormBwdIdeal.main_arg2)
      ∧ r.2.mem ((c.tc : Thread Cert.ConfNormBwdIdeal.nD Cert.ConfNormBwdIdeal.τ).loc Cert.ConfNormBwdIdeal.main_arg3) = m ((c.tc : Thread Cert.ConfNormBwdIdeal.nD Cert.ConfNormBwdIdeal.τ).loc Cert.ConfNormBwdIdeal.main_arg3))
      ∧ r.2.sem = fun _ => 0)

def quiescent_ConfNormBwdRefIdeal [hConfNormBwdRefIdeal : Cert.ConfNormBwdRefIdeal.Facts] : Prop :=
  ∀ (m : (ℓ : Loc Cert.ConfNormBwdRefIdeal.nD Cert.ConfNormBwdRefIdeal.τ Cert.ConfNormBwdRefIdeal.sig) → Buf (Elt Ideal) ℓ) (g : Dev Cert.ConfNormBwdRefIdeal.nD → PrngReg), Pre_ConfNormBwdRefIdeal m →
    θ_run (Cert.ConfNormBwdRefIdeal.defs (F := Ideal)) (onTc (τ := Cert.ConfNormBwdRefIdeal.τ) (Cert.ConfNormBwdRefIdeal.main (F := Ideal))) ⟨m, fun _ => 0, g⟩ (fun r => (∀ c : Dev Cert.ConfNormBwdRefIdeal.nD,
      r.2.mem ((c.tc : Thread Cert.ConfNormBwdRefIdeal.nD Cert.ConfNormBwdRefIdeal.τ).loc Cert.ConfNormBwdRefIdeal.main_arg0) = m ((c.tc : Thread Cert.ConfNormBwdRefIdeal.nD Cert.ConfNormBwdRefIdeal.τ).loc Cert.ConfNormBwdRefIdeal.main_arg0)
      ∧ r.2.mem ((c.tc : Thread Cert.ConfNormBwdRefIdeal.nD Cert.ConfNormBwdRefIdeal.τ).loc Cert.ConfNormBwdRefIdeal.main_arg1) = m ((c.tc : Thread Cert.ConfNormBwdRefIdeal.nD Cert.ConfNormBwdRefIdeal.τ).loc Cert.ConfNormBwdRefIdeal.main_arg1)
      ∧ r.2.mem ((c.tc : Thread Cert.ConfNormBwdRefIdeal.nD Cert.ConfNormBwdRefIdeal.τ).loc Cert.ConfNormBwdRefIdeal.main_arg2) = m ((c.tc : Thread Cert.ConfNormBwdRefIdeal.nD Cert.ConfNormBwdRefIdeal.τ).loc Cert.ConfNormBwdRefIdeal.main_arg2)
      ∧ r.2.mem ((c.tc : Thread Cert.ConfNormBwdRefIdeal.nD Cert.ConfNormBwdRefIdeal.τ).loc Cert.ConfNormBwdRefIdeal.main_arg3) = m ((c.tc : Thread Cert.ConfNormBwdRefIdeal.nD Cert.ConfNormBwdRefIdeal.τ).loc Cert.ConfNormBwdRefIdeal.main_arg3))
      ∧ r.2.sem = fun _ => 0)

def quiescent_ConfNormBwdRefIdeal_pre_finite_norm_bwd [hConfNormBwdRefIdeal : Cert.ConfNormBwdRefIdeal.Facts] [hPre_finite_norm_bwd : Cert.Pre_finite_norm_bwd.Facts] : Prop :=
  ∀ (m : (ℓ : Loc Cert.ConfNormBwdRefIdeal.nD Cert.ConfNormBwdRefIdeal.τ Cert.ConfNormBwdRefIdeal.sig) → Buf (Elt Ideal) ℓ) (g : Dev Cert.ConfNormBwdRefIdeal.nD → PrngReg), Pre_ConfNormBwdRefIdeal_finite_norm_bwd m →
    θ_run (Cert.ConfNormBwdRefIdeal.defs (F := Ideal)) (onTc (τ := Cert.ConfNormBwdRefIdeal.τ) (Cert.ConfNormBwdRefIdeal.main (F := Ideal))) ⟨m, fun _ => 0, g⟩ (fun r => (∀ c : Dev Cert.ConfNormBwdRefIdeal.nD,
      r.2.mem ((c.tc : Thread Cert.ConfNormBwdRefIdeal.nD Cert.ConfNormBwdRefIdeal.τ).loc Cert.ConfNormBwdRefIdeal.main_arg0) = m ((c.tc : Thread Cert.ConfNormBwdRefIdeal.nD Cert.ConfNormBwdRefIdeal.τ).loc Cert.ConfNormBwdRefIdeal.main_arg0)
      ∧ r.2.mem ((c.tc : Thread Cert.ConfNormBwdRefIdeal.nD Cert.ConfNormBwdRefIdeal.τ).loc Cert.ConfNormBwdRefIdeal.main_arg1) = m ((c.tc : Thread Cert.ConfNormBwdRefIdeal.nD Cert.ConfNormBwdRefIdeal.τ).loc Cert.ConfNormBwdRefIdeal.main_arg1)
      ∧ r.2.mem ((c.tc : Thread Cert.ConfNormBwdRefIdeal.nD Cert.ConfNormBwdRefIdeal.τ).loc Cert.ConfNormBwdRefIdeal.main_arg2) = m ((c.tc : Thread Cert.ConfNormBwdRefIdeal.nD Cert.ConfNormBwdRefIdeal.τ).loc Cert.ConfNormBwdRefIdeal.main_arg2)
      ∧ r.2.mem ((c.tc : Thread Cert.ConfNormBwdRefIdeal.nD Cert.ConfNormBwdRefIdeal.τ).loc Cert.ConfNormBwdRefIdeal.main_arg3) = m ((c.tc : Thread Cert.ConfNormBwdRefIdeal.nD Cert.ConfNormBwdRefIdeal.τ).loc Cert.ConfNormBwdRefIdeal.main_arg3))
      ∧ r.2.sem = fun _ => 0)

def quiescent_ScFirstBwd [hScFirstBwd : Cert.ScFirstBwd.Facts] : Prop :=
  ∀ (m : (ℓ : Loc Cert.ScFirstBwd.nD Cert.ScFirstBwd.τ Cert.ScFirstBwd.sig) → Buf (Elt Bits) ℓ) (g : Dev Cert.ScFirstBwd.nD → PrngReg), Pre_ScFirstBwd m →
    θ_run (Cert.ScFirstBwd.defs (F := Bits)) (onTc (τ := Cert.ScFirstBwd.τ) (Cert.ScFirstBwd.main (F := Bits))) ⟨m, fun _ => 0, g⟩ (fun r => (∀ c : Dev Cert.ScFirstBwd.nD,
      r.2.mem ((c.tc : Thread Cert.ScFirstBwd.nD Cert.ScFirstBwd.τ).loc Cert.ScFirstBwd.main_arg0) = m ((c.tc : Thread Cert.ScFirstBwd.nD Cert.ScFirstBwd.τ).loc Cert.ScFirstBwd.main_arg0)
      ∧ r.2.mem ((c.tc : Thread Cert.ScFirstBwd.nD Cert.ScFirstBwd.τ).loc Cert.ScFirstBwd.main_arg1) = m ((c.tc : Thread Cert.ScFirstBwd.nD Cert.ScFirstBwd.τ).loc Cert.ScFirstBwd.main_arg1)
      ∧ r.2.mem ((c.tc : Thread Cert.ScFirstBwd.nD Cert.ScFirstBwd.τ).loc Cert.ScFirstBwd.main_arg2) = m ((c.tc : Thread Cert.ScFirstBwd.nD Cert.ScFirstBwd.τ).loc Cert.ScFirstBwd.main_arg2))
      ∧ r.2.sem = fun _ => 0)

def quiescent_ScFirstBwdIdeal [hScFirstBwdIdeal : Cert.ScFirstBwdIdeal.Facts] : Prop :=
  ∀ (m : (ℓ : Loc Cert.ScFirstBwdIdeal.nD Cert.ScFirstBwdIdeal.τ Cert.ScFirstBwdIdeal.sig) → Buf (Elt Ideal) ℓ) (g : Dev Cert.ScFirstBwdIdeal.nD → PrngReg), Pre_ScFirstBwdIdeal m →
    θ_run (Cert.ScFirstBwdIdeal.defs (F := Ideal)) (onTc (τ := Cert.ScFirstBwdIdeal.τ) (Cert.ScFirstBwdIdeal.main (F := Ideal))) ⟨m, fun _ => 0, g⟩ (fun r => (∀ c : Dev Cert.ScFirstBwdIdeal.nD,
      r.2.mem ((c.tc : Thread Cert.ScFirstBwdIdeal.nD Cert.ScFirstBwdIdeal.τ).loc Cert.ScFirstBwdIdeal.main_arg0) = m ((c.tc : Thread Cert.ScFirstBwdIdeal.nD Cert.ScFirstBwdIdeal.τ).loc Cert.ScFirstBwdIdeal.main_arg0)
      ∧ r.2.mem ((c.tc : Thread Cert.ScFirstBwdIdeal.nD Cert.ScFirstBwdIdeal.τ).loc Cert.ScFirstBwdIdeal.main_arg1) = m ((c.tc : Thread Cert.ScFirstBwdIdeal.nD Cert.ScFirstBwdIdeal.τ).loc Cert.ScFirstBwdIdeal.main_arg1)
      ∧ r.2.mem ((c.tc : Thread Cert.ScFirstBwdIdeal.nD Cert.ScFirstBwdIdeal.τ).loc Cert.ScFirstBwdIdeal.main_arg2) = m ((c.tc : Thread Cert.ScFirstBwdIdeal.nD Cert.ScFirstBwdIdeal.τ).loc Cert.ScFirstBwdIdeal.main_arg2))
      ∧ r.2.sem = fun _ => 0)

def quiescent_ScFirstBwdRefIdeal [hScFirstBwdRefIdeal : Cert.ScFirstBwdRefIdeal.Facts] : Prop :=
  ∀ (m : (ℓ : Loc Cert.ScFirstBwdRefIdeal.nD Cert.ScFirstBwdRefIdeal.τ Cert.ScFirstBwdRefIdeal.sig) → Buf (Elt Ideal) ℓ) (g : Dev Cert.ScFirstBwdRefIdeal.nD → PrngReg), Pre_ScFirstBwdRefIdeal m →
    θ_run (Cert.ScFirstBwdRefIdeal.defs (F := Ideal)) (onTc (τ := Cert.ScFirstBwdRefIdeal.τ) (Cert.ScFirstBwdRefIdeal.main (F := Ideal))) ⟨m, fun _ => 0, g⟩ (fun r => (∀ c : Dev Cert.ScFirstBwdRefIdeal.nD,
      r.2.mem ((c.tc : Thread Cert.ScFirstBwdRefIdeal.nD Cert.ScFirstBwdRefIdeal.τ).loc Cert.ScFirstBwdRefIdeal.main_arg0) = m ((c.tc : Thread Cert.ScFirstBwdRefIdeal.nD Cert.ScFirstBwdRefIdeal.τ).loc Cert.ScFirstBwdRefIdeal.main_arg0)
      ∧ r.2.mem ((c.tc : Thread Cert.ScFirstBwdRefIdeal.nD Cert.ScFirstBwdRefIdeal.τ).loc Cert.ScFirstBwdRefIdeal.main_arg1) = m ((c.tc : Thread Cert.ScFirstBwdRefIdeal.nD Cert.ScFirstBwdRefIdeal.τ).loc Cert.ScFirstBwdRefIdeal.main_arg1)
      ∧ r.2.mem ((c.tc : Thread Cert.ScFirstBwdRefIdeal.nD Cert.ScFirstBwdRefIdeal.τ).loc Cert.ScFirstBwdRefIdeal.main_arg2) = m ((c.tc : Thread Cert.ScFirstBwdRefIdeal.nD Cert.ScFirstBwdRefIdeal.τ).loc Cert.ScFirstBwdRefIdeal.main_arg2))
      ∧ r.2.sem = fun _ => 0)

def quiescent_CfIn [hCfIn : Cert.CfIn.Facts] : Prop :=
  ∀ (m : (ℓ : Loc Cert.CfIn.nD Cert.CfIn.τ Cert.CfIn.sig) → Buf (Elt Bits) ℓ) (g : Dev Cert.CfIn.nD → PrngReg), Pre_CfIn m →
    θ_run (Cert.CfIn.defs (F := Bits)) (onTc (τ := Cert.CfIn.τ) (Cert.CfIn.main (F := Bits))) ⟨m, fun _ => 0, g⟩ (fun r => (∀ c : Dev Cert.CfIn.nD,
      r.2.mem ((c.tc : Thread Cert.CfIn.nD Cert.CfIn.τ).loc Cert.CfIn.main_arg0) = m ((c.tc : Thread Cert.CfIn.nD Cert.CfIn.τ).loc Cert.CfIn.main_arg0)
      ∧ r.2.mem ((c.tc : Thread Cert.CfIn.nD Cert.CfIn.τ).loc Cert.CfIn.main_arg1) = m ((c.tc : Thread Cert.CfIn.nD Cert.CfIn.τ).loc Cert.CfIn.main_arg1)
      ∧ r.2.mem ((c.tc : Thread Cert.CfIn.nD Cert.CfIn.τ).loc Cert.CfIn.main_arg2) = m ((c.tc : Thread Cert.CfIn.nD Cert.CfIn.τ).loc Cert.CfIn.main_arg2))
      ∧ r.2.sem = fun _ => 0)

def quiescent_CfInIdeal [hCfInIdeal : Cert.CfInIdeal.Facts] : Prop :=
  ∀ (m : (ℓ : Loc Cert.CfInIdeal.nD Cert.CfInIdeal.τ Cert.CfInIdeal.sig) → Buf (Elt Ideal) ℓ) (g : Dev Cert.CfInIdeal.nD → PrngReg), Pre_CfInIdeal m →
    θ_run (Cert.CfInIdeal.defs (F := Ideal)) (onTc (τ := Cert.CfInIdeal.τ) (Cert.CfInIdeal.main (F := Ideal))) ⟨m, fun _ => 0, g⟩ (fun r => (∀ c : Dev Cert.CfInIdeal.nD,
      r.2.mem ((c.tc : Thread Cert.CfInIdeal.nD Cert.CfInIdeal.τ).loc Cert.CfInIdeal.main_arg0) = m ((c.tc : Thread Cert.CfInIdeal.nD Cert.CfInIdeal.τ).loc Cert.CfInIdeal.main_arg0)
      ∧ r.2.mem ((c.tc : Thread Cert.CfInIdeal.nD Cert.CfInIdeal.τ).loc Cert.CfInIdeal.main_arg1) = m ((c.tc : Thread Cert.CfInIdeal.nD Cert.CfInIdeal.τ).loc Cert.CfInIdeal.main_arg1)
      ∧ r.2.mem ((c.tc : Thread Cert.CfInIdeal.nD Cert.CfInIdeal.τ).loc Cert.CfInIdeal.main_arg2) = m ((c.tc : Thread Cert.CfInIdeal.nD Cert.CfInIdeal.τ).loc Cert.CfInIdeal.main_arg2))
      ∧ r.2.sem = fun _ => 0)

def quiescent_CfInRefIdeal [hCfInRefIdeal : Cert.CfInRefIdeal.Facts] : Prop :=
  ∀ (m : (ℓ : Loc Cert.CfInRefIdeal.nD Cert.CfInRefIdeal.τ Cert.CfInRefIdeal.sig) → Buf (Elt Ideal) ℓ) (g : Dev Cert.CfInRefIdeal.nD → PrngReg), Pre_CfInRefIdeal m →
    θ_run (Cert.CfInRefIdeal.defs (F := Ideal)) (onTc (τ := Cert.CfInRefIdeal.τ) (Cert.CfInRefIdeal.main (F := Ideal))) ⟨m, fun _ => 0, g⟩ (fun r => (∀ c : Dev Cert.CfInRefIdeal.nD,
      r.2.mem ((c.tc : Thread Cert.CfInRefIdeal.nD Cert.CfInRefIdeal.τ).loc Cert.CfInRefIdeal.main_arg0) = m ((c.tc : Thread Cert.CfInRefIdeal.nD Cert.CfInRefIdeal.τ).loc Cert.CfInRefIdeal.main_arg0)
      ∧ r.2.mem ((c.tc : Thread Cert.CfInRefIdeal.nD Cert.CfInRefIdeal.τ).loc Cert.CfInRefIdeal.main_arg1) = m ((c.tc : Thread Cert.CfInRefIdeal.nD Cert.CfInRefIdeal.τ).loc Cert.CfInRefIdeal.main_arg1)
      ∧ r.2.mem ((c.tc : Thread Cert.CfInRefIdeal.nD Cert.CfInRefIdeal.τ).loc Cert.CfInRefIdeal.main_arg2) = m ((c.tc : Thread Cert.CfInRefIdeal.nD Cert.CfInRefIdeal.τ).loc Cert.CfInRefIdeal.main_arg2))
      ∧ r.2.sem = fun _ => 0)

def quiescent_CfDwIn [hCfDwIn : Cert.CfDwIn.Facts] : Prop :=
  ∀ (m : (ℓ : Loc Cert.CfDwIn.nD Cert.CfDwIn.τ Cert.CfDwIn.sig) → Buf (Elt Bits) ℓ) (g : Dev Cert.CfDwIn.nD → PrngReg), Pre_CfDwIn m →
    θ_run (Cert.CfDwIn.defs (F := Bits)) (onTc (τ := Cert.CfDwIn.τ) (Cert.CfDwIn.main (F := Bits))) ⟨m, fun _ => 0, g⟩ (fun r => (∀ c : Dev Cert.CfDwIn.nD,
      r.2.mem ((c.tc : Thread Cert.CfDwIn.nD Cert.CfDwIn.τ).loc Cert.CfDwIn.main_arg0) = m ((c.tc : Thread Cert.CfDwIn.nD Cert.CfDwIn.τ).loc Cert.CfDwIn.main_arg0)
      ∧ r.2.mem ((c.tc : Thread Cert.CfDwIn.nD Cert.CfDwIn.τ).loc Cert.CfDwIn.main_arg1) = m ((c.tc : Thread Cert.CfDwIn.nD Cert.CfDwIn.τ).loc Cert.CfDwIn.main_arg1))
      ∧ r.2.sem = fun _ => 0)

def quiescent_CfDwInIdeal [hCfDwInIdeal : Cert.CfDwInIdeal.Facts] : Prop :=
  ∀ (m : (ℓ : Loc Cert.CfDwInIdeal.nD Cert.CfDwInIdeal.τ Cert.CfDwInIdeal.sig) → Buf (Elt Ideal) ℓ) (g : Dev Cert.CfDwInIdeal.nD → PrngReg), Pre_CfDwInIdeal m →
    θ_run (Cert.CfDwInIdeal.defs (F := Ideal)) (onTc (τ := Cert.CfDwInIdeal.τ) (Cert.CfDwInIdeal.main (F := Ideal))) ⟨m, fun _ => 0, g⟩ (fun r => (∀ c : Dev Cert.CfDwInIdeal.nD,
      r.2.mem ((c.tc : Thread Cert.CfDwInIdeal.nD Cert.CfDwInIdeal.τ).loc Cert.CfDwInIdeal.main_arg0) = m ((c.tc : Thread Cert.CfDwInIdeal.nD Cert.CfDwInIdeal.τ).loc Cert.CfDwInIdeal.main_arg0)
      ∧ r.2.mem ((c.tc : Thread Cert.CfDwInIdeal.nD Cert.CfDwInIdeal.τ).loc Cert.CfDwInIdeal.main_arg1) = m ((c.tc : Thread Cert.CfDwInIdeal.nD Cert.CfDwInIdeal.τ).loc Cert.CfDwInIdeal.main_arg1))
      ∧ r.2.sem = fun _ => 0)

def quiescent_CfDwInRefIdeal [hCfDwInRefIdeal : Cert.CfDwInRefIdeal.Facts] : Prop :=
  ∀ (m : (ℓ : Loc Cert.CfDwInRefIdeal.nD Cert.CfDwInRefIdeal.τ Cert.CfDwInRefIdeal.sig) → Buf (Elt Ideal) ℓ) (g : Dev Cert.CfDwInRefIdeal.nD → PrngReg), Pre_CfDwInRefIdeal m →
    θ_run (Cert.CfDwInRefIdeal.defs (F := Ideal)) (onTc (τ := Cert.CfDwInRefIdeal.τ) (Cert.CfDwInRefIdeal.main (F := Ideal))) ⟨m, fun _ => 0, g⟩ (fun r => (∀ c : Dev Cert.CfDwInRefIdeal.nD,
      r.2.mem ((c.tc : Thread Cert.CfDwInRefIdeal.nD Cert.CfDwInRefIdeal.τ).loc Cert.CfDwInRefIdeal.main_arg0) = m ((c.tc : Thread Cert.CfDwInRefIdeal.nD Cert.CfDwInRefIdeal.τ).loc Cert.CfDwInRefIdeal.main_arg0)
      ∧ r.2.mem ((c.tc : Thread Cert.CfDwInRefIdeal.nD Cert.CfDwInRefIdeal.τ).loc Cert.CfDwInRefIdeal.main_arg1) = m ((c.tc : Thread Cert.CfDwInRefIdeal.nD Cert.CfDwInRefIdeal.τ).loc Cert.CfDwInRefIdeal.main_arg1))
      ∧ r.2.sem = fun _ => 0)

def quiescent_CfInBwd [hCfInBwd : Cert.CfInBwd.Facts] : Prop :=
  ∀ (m : (ℓ : Loc Cert.CfInBwd.nD Cert.CfInBwd.τ Cert.CfInBwd.sig) → Buf (Elt Bits) ℓ) (g : Dev Cert.CfInBwd.nD → PrngReg), Pre_CfInBwd m →
    θ_run (Cert.CfInBwd.defs (F := Bits)) (onTc (τ := Cert.CfInBwd.τ) (Cert.CfInBwd.main (F := Bits))) ⟨m, fun _ => 0, g⟩ (fun r => (∀ c : Dev Cert.CfInBwd.nD,
      r.2.mem ((c.tc : Thread Cert.CfInBwd.nD Cert.CfInBwd.τ).loc Cert.CfInBwd.main_arg0) = m ((c.tc : Thread Cert.CfInBwd.nD Cert.CfInBwd.τ).loc Cert.CfInBwd.main_arg0)
      ∧ r.2.mem ((c.tc : Thread Cert.CfInBwd.nD Cert.CfInBwd.τ).loc Cert.CfInBwd.main_arg1) = m ((c.tc : Thread Cert.CfInBwd.nD Cert.CfInBwd.τ).loc Cert.CfInBwd.main_arg1)
      ∧ r.2.mem ((c.tc : Thread Cert.CfInBwd.nD Cert.CfInBwd.τ).loc Cert.CfInBwd.main_arg2) = m ((c.tc : Thread Cert.CfInBwd.nD Cert.CfInBwd.τ).loc Cert.CfInBwd.main_arg2)
      ∧ r.2.mem ((c.tc : Thread Cert.CfInBwd.nD Cert.CfInBwd.τ).loc Cert.CfInBwd.main_arg3) = m ((c.tc : Thread Cert.CfInBwd.nD Cert.CfInBwd.τ).loc Cert.CfInBwd.main_arg3)
      ∧ r.2.mem ((c.tc : Thread Cert.CfInBwd.nD Cert.CfInBwd.τ).loc Cert.CfInBwd.main_arg4) = m ((c.tc : Thread Cert.CfInBwd.nD Cert.CfInBwd.τ).loc Cert.CfInBwd.main_arg4)
      ∧ r.2.mem ((c.tc : Thread Cert.CfInBwd.nD Cert.CfInBwd.τ).loc Cert.CfInBwd.main_arg5) = m ((c.tc : Thread Cert.CfInBwd.nD Cert.CfInBwd.τ).loc Cert.CfInBwd.main_arg5))
      ∧ r.2.sem = fun _ => 0)

def quiescent_CfInBwdIdeal [hCfInBwdIdeal : Cert.CfInBwdIdeal.Facts] : Prop :=
  ∀ (m : (ℓ : Loc Cert.CfInBwdIdeal.nD Cert.CfInBwdIdeal.τ Cert.CfInBwdIdeal.sig) → Buf (Elt Ideal) ℓ) (g : Dev Cert.CfInBwdIdeal.nD → PrngReg), Pre_CfInBwdIdeal m →
    θ_run (Cert.CfInBwdIdeal.defs (F := Ideal)) (onTc (τ := Cert.CfInBwdIdeal.τ) (Cert.CfInBwdIdeal.main (F := Ideal))) ⟨m, fun _ => 0, g⟩ (fun r => (∀ c : Dev Cert.CfInBwdIdeal.nD,
      r.2.mem ((c.tc : Thread Cert.CfInBwdIdeal.nD Cert.CfInBwdIdeal.τ).loc Cert.CfInBwdIdeal.main_arg0) = m ((c.tc : Thread Cert.CfInBwdIdeal.nD Cert.CfInBwdIdeal.τ).loc Cert.CfInBwdIdeal.main_arg0)
      ∧ r.2.mem ((c.tc : Thread Cert.CfInBwdIdeal.nD Cert.CfInBwdIdeal.τ).loc Cert.CfInBwdIdeal.main_arg1) = m ((c.tc : Thread Cert.CfInBwdIdeal.nD Cert.CfInBwdIdeal.τ).loc Cert.CfInBwdIdeal.main_arg1)
      ∧ r.2.mem ((c.tc : Thread Cert.CfInBwdIdeal.nD Cert.CfInBwdIdeal.τ).loc Cert.CfInBwdIdeal.main_arg2) = m ((c.tc : Thread Cert.CfInBwdIdeal.nD Cert.CfInBwdIdeal.τ).loc Cert.CfInBwdIdeal.main_arg2)
      ∧ r.2.mem ((c.tc : Thread Cert.CfInBwdIdeal.nD Cert.CfInBwdIdeal.τ).loc Cert.CfInBwdIdeal.main_arg3) = m ((c.tc : Thread Cert.CfInBwdIdeal.nD Cert.CfInBwdIdeal.τ).loc Cert.CfInBwdIdeal.main_arg3)
      ∧ r.2.mem ((c.tc : Thread Cert.CfInBwdIdeal.nD Cert.CfInBwdIdeal.τ).loc Cert.CfInBwdIdeal.main_arg4) = m ((c.tc : Thread Cert.CfInBwdIdeal.nD Cert.CfInBwdIdeal.τ).loc Cert.CfInBwdIdeal.main_arg4)
      ∧ r.2.mem ((c.tc : Thread Cert.CfInBwdIdeal.nD Cert.CfInBwdIdeal.τ).loc Cert.CfInBwdIdeal.main_arg5) = m ((c.tc : Thread Cert.CfInBwdIdeal.nD Cert.CfInBwdIdeal.τ).loc Cert.CfInBwdIdeal.main_arg5))
      ∧ r.2.sem = fun _ => 0)

def quiescent_CfInBwdIdeal_pre_finite_cf_in_bwd [hCfInBwdIdeal : Cert.CfInBwdIdeal.Facts] [hPre_finite_cf_in_bwd : Cert.Pre_finite_cf_in_bwd.Facts] : Prop :=
  ∀ (m : (ℓ : Loc Cert.CfInBwdIdeal.nD Cert.CfInBwdIdeal.τ Cert.CfInBwdIdeal.sig) → Buf (Elt Ideal) ℓ) (g : Dev Cert.CfInBwdIdeal.nD → PrngReg), Pre_CfInBwdIdeal_finite_cf_in_bwd m →
    θ_run (Cert.CfInBwdIdeal.defs (F := Ideal)) (onTc (τ := Cert.CfInBwdIdeal.τ) (Cert.CfInBwdIdeal.main (F := Ideal))) ⟨m, fun _ => 0, g⟩ (fun r => (∀ c : Dev Cert.CfInBwdIdeal.nD,
      r.2.mem ((c.tc : Thread Cert.CfInBwdIdeal.nD Cert.CfInBwdIdeal.τ).loc Cert.CfInBwdIdeal.main_arg0) = m ((c.tc : Thread Cert.CfInBwdIdeal.nD Cert.CfInBwdIdeal.τ).loc Cert.CfInBwdIdeal.main_arg0)
      ∧ r.2.mem ((c.tc : Thread Cert.CfInBwdIdeal.nD Cert.CfInBwdIdeal.τ).loc Cert.CfInBwdIdeal.main_arg1) = m ((c.tc : Thread Cert.CfInBwdIdeal.nD Cert.CfInBwdIdeal.τ).loc Cert.CfInBwdIdeal.main_arg1)
      ∧ r.2.mem ((c.tc : Thread Cert.CfInBwdIdeal.nD Cert.CfInBwdIdeal.τ).loc Cert.CfInBwdIdeal.main_arg2) = m ((c.tc : Thread Cert.CfInBwdIdeal.nD Cert.CfInBwdIdeal.τ).loc Cert.CfInBwdIdeal.main_arg2)
      ∧ r.2.mem ((c.tc : Thread Cert.CfInBwdIdeal.nD Cert.CfInBwdIdeal.τ).loc Cert.CfInBwdIdeal.main_arg3) = m ((c.tc : Thread Cert.CfInBwdIdeal.nD Cert.CfInBwdIdeal.τ).loc Cert.CfInBwdIdeal.main_arg3)
      ∧ r.2.mem ((c.tc : Thread Cert.CfInBwdIdeal.nD Cert.CfInBwdIdeal.τ).loc Cert.CfInBwdIdeal.main_arg4) = m ((c.tc : Thread Cert.CfInBwdIdeal.nD Cert.CfInBwdIdeal.τ).loc Cert.CfInBwdIdeal.main_arg4)
      ∧ r.2.mem ((c.tc : Thread Cert.CfInBwdIdeal.nD Cert.CfInBwdIdeal.τ).loc Cert.CfInBwdIdeal.main_arg5) = m ((c.tc : Thread Cert.CfInBwdIdeal.nD Cert.CfInBwdIdeal.τ).loc Cert.CfInBwdIdeal.main_arg5))
      ∧ r.2.sem = fun _ => 0)

def quiescent_CfInBwdRefIdeal [hCfInBwdRefIdeal : Cert.CfInBwdRefIdeal.Facts] : Prop :=
  ∀ (m : (ℓ : Loc Cert.CfInBwdRefIdeal.nD Cert.CfInBwdRefIdeal.τ Cert.CfInBwdRefIdeal.sig) → Buf (Elt Ideal) ℓ) (g : Dev Cert.CfInBwdRefIdeal.nD → PrngReg), Pre_CfInBwdRefIdeal m →
    θ_run (Cert.CfInBwdRefIdeal.defs (F := Ideal)) (onTc (τ := Cert.CfInBwdRefIdeal.τ) (Cert.CfInBwdRefIdeal.main (F := Ideal))) ⟨m, fun _ => 0, g⟩ (fun r => (∀ c : Dev Cert.CfInBwdRefIdeal.nD,
      r.2.mem ((c.tc : Thread Cert.CfInBwdRefIdeal.nD Cert.CfInBwdRefIdeal.τ).loc Cert.CfInBwdRefIdeal.main_arg0) = m ((c.tc : Thread Cert.CfInBwdRefIdeal.nD Cert.CfInBwdRefIdeal.τ).loc Cert.CfInBwdRefIdeal.main_arg0)
      ∧ r.2.mem ((c.tc : Thread Cert.CfInBwdRefIdeal.nD Cert.CfInBwdRefIdeal.τ).loc Cert.CfInBwdRefIdeal.main_arg1) = m ((c.tc : Thread Cert.CfInBwdRefIdeal.nD Cert.CfInBwdRefIdeal.τ).loc Cert.CfInBwdRefIdeal.main_arg1)
      ∧ r.2.mem ((c.tc : Thread Cert.CfInBwdRefIdeal.nD Cert.CfInBwdRefIdeal.τ).loc Cert.CfInBwdRefIdeal.main_arg2) = m ((c.tc : Thread Cert.CfInBwdRefIdeal.nD Cert.CfInBwdRefIdeal.τ).loc Cert.CfInBwdRefIdeal.main_arg2)
      ∧ r.2.mem ((c.tc : Thread Cert.CfInBwdRefIdeal.nD Cert.CfInBwdRefIdeal.τ).loc Cert.CfInBwdRefIdeal.main_arg3) = m ((c.tc : Thread Cert.CfInBwdRefIdeal.nD Cert.CfInBwdRefIdeal.τ).loc Cert.CfInBwdRefIdeal.main_arg3)
      ∧ r.2.mem ((c.tc : Thread Cert.CfInBwdRefIdeal.nD Cert.CfInBwdRefIdeal.τ).loc Cert.CfInBwdRefIdeal.main_arg4) = m ((c.tc : Thread Cert.CfInBwdRefIdeal.nD Cert.CfInBwdRefIdeal.τ).loc Cert.CfInBwdRefIdeal.main_arg4)
      ∧ r.2.mem ((c.tc : Thread Cert.CfInBwdRefIdeal.nD Cert.CfInBwdRefIdeal.τ).loc Cert.CfInBwdRefIdeal.main_arg5) = m ((c.tc : Thread Cert.CfInBwdRefIdeal.nD Cert.CfInBwdRefIdeal.τ).loc Cert.CfInBwdRefIdeal.main_arg5))
      ∧ r.2.sem = fun _ => 0)

def quiescent_CfInBwdRefIdeal_pre_finite_cf_in_bwd [hCfInBwdRefIdeal : Cert.CfInBwdRefIdeal.Facts] [hPre_finite_cf_in_bwd : Cert.Pre_finite_cf_in_bwd.Facts] : Prop :=
  ∀ (m : (ℓ : Loc Cert.CfInBwdRefIdeal.nD Cert.CfInBwdRefIdeal.τ Cert.CfInBwdRefIdeal.sig) → Buf (Elt Ideal) ℓ) (g : Dev Cert.CfInBwdRefIdeal.nD → PrngReg), Pre_CfInBwdRefIdeal_finite_cf_in_bwd m →
    θ_run (Cert.CfInBwdRefIdeal.defs (F := Ideal)) (onTc (τ := Cert.CfInBwdRefIdeal.τ) (Cert.CfInBwdRefIdeal.main (F := Ideal))) ⟨m, fun _ => 0, g⟩ (fun r => (∀ c : Dev Cert.CfInBwdRefIdeal.nD,
      r.2.mem ((c.tc : Thread Cert.CfInBwdRefIdeal.nD Cert.CfInBwdRefIdeal.τ).loc Cert.CfInBwdRefIdeal.main_arg0) = m ((c.tc : Thread Cert.CfInBwdRefIdeal.nD Cert.CfInBwdRefIdeal.τ).loc Cert.CfInBwdRefIdeal.main_arg0)
      ∧ r.2.mem ((c.tc : Thread Cert.CfInBwdRefIdeal.nD Cert.CfInBwdRefIdeal.τ).loc Cert.CfInBwdRefIdeal.main_arg1) = m ((c.tc : Thread Cert.CfInBwdRefIdeal.nD Cert.CfInBwdRefIdeal.τ).loc Cert.CfInBwdRefIdeal.main_arg1)
      ∧ r.2.mem ((c.tc : Thread Cert.CfInBwdRefIdeal.nD Cert.CfInBwdRefIdeal.τ).loc Cert.CfInBwdRefIdeal.main_arg2) = m ((c.tc : Thread Cert.CfInBwdRefIdeal.nD Cert.CfInBwdRefIdeal.τ).loc Cert.CfInBwdRefIdeal.main_arg2)
      ∧ r.2.mem ((c.tc : Thread Cert.CfInBwdRefIdeal.nD Cert.CfInBwdRefIdeal.τ).loc Cert.CfInBwdRefIdeal.main_arg3) = m ((c.tc : Thread Cert.CfInBwdRefIdeal.nD Cert.CfInBwdRefIdeal.τ).loc Cert.CfInBwdRefIdeal.main_arg3)
      ∧ r.2.mem ((c.tc : Thread Cert.CfInBwdRefIdeal.nD Cert.CfInBwdRefIdeal.τ).loc Cert.CfInBwdRefIdeal.main_arg4) = m ((c.tc : Thread Cert.CfInBwdRefIdeal.nD Cert.CfInBwdRefIdeal.τ).loc Cert.CfInBwdRefIdeal.main_arg4)
      ∧ r.2.mem ((c.tc : Thread Cert.CfInBwdRefIdeal.nD Cert.CfInBwdRefIdeal.τ).loc Cert.CfInBwdRefIdeal.main_arg5) = m ((c.tc : Thread Cert.CfInBwdRefIdeal.nD Cert.CfInBwdRefIdeal.τ).loc Cert.CfInBwdRefIdeal.main_arg5))
      ∧ r.2.sem = fun _ => 0)

def quiescent_CfOutLn [hCfOutLn : Cert.CfOutLn.Facts] : Prop :=
  ∀ (m : (ℓ : Loc Cert.CfOutLn.nD Cert.CfOutLn.τ Cert.CfOutLn.sig) → Buf (Elt Bits) ℓ) (g : Dev Cert.CfOutLn.nD → PrngReg), Pre_CfOutLn m →
    θ_run (Cert.CfOutLn.defs (F := Bits)) (onTc (τ := Cert.CfOutLn.τ) (Cert.CfOutLn.main (F := Bits))) ⟨m, fun _ => 0, g⟩ (fun r => (∀ c : Dev Cert.CfOutLn.nD,
      r.2.mem ((c.tc : Thread Cert.CfOutLn.nD Cert.CfOutLn.τ).loc Cert.CfOutLn.main_arg0) = m ((c.tc : Thread Cert.CfOutLn.nD Cert.CfOutLn.τ).loc Cert.CfOutLn.main_arg0)
      ∧ r.2.mem ((c.tc : Thread Cert.CfOutLn.nD Cert.CfOutLn.τ).loc Cert.CfOutLn.main_arg1) = m ((c.tc : Thread Cert.CfOutLn.nD Cert.CfOutLn.τ).loc Cert.CfOutLn.main_arg1)
      ∧ r.2.mem ((c.tc : Thread Cert.CfOutLn.nD Cert.CfOutLn.τ).loc Cert.CfOutLn.main_arg2) = m ((c.tc : Thread Cert.CfOutLn.nD Cert.CfOutLn.τ).loc Cert.CfOutLn.main_arg2)
      ∧ r.2.mem ((c.tc : Thread Cert.CfOutLn.nD Cert.CfOutLn.τ).loc Cert.CfOutLn.main_arg3) = m ((c.tc : Thread Cert.CfOutLn.nD Cert.CfOutLn.τ).loc Cert.CfOutLn.main_arg3)
      ∧ r.2.mem ((c.tc : Thread Cert.CfOutLn.nD Cert.CfOutLn.τ).loc Cert.CfOutLn.main_arg4) = m ((c.tc : Thread Cert.CfOutLn.nD Cert.CfOutLn.τ).loc Cert.CfOutLn.main_arg4)
      ∧ r.2.mem ((c.tc : Thread Cert.CfOutLn.nD Cert.CfOutLn.τ).loc Cert.CfOutLn.main_arg5) = m ((c.tc : Thread Cert.CfOutLn.nD Cert.CfOutLn.τ).loc Cert.CfOutLn.main_arg5))
      ∧ r.2.sem = fun _ => 0)

def quiescent_CfOutLnIdeal [hCfOutLnIdeal : Cert.CfOutLnIdeal.Facts] : Prop :=
  ∀ (m : (ℓ : Loc Cert.CfOutLnIdeal.nD Cert.CfOutLnIdeal.τ Cert.CfOutLnIdeal.sig) → Buf (Elt Ideal) ℓ) (g : Dev Cert.CfOutLnIdeal.nD → PrngReg), Pre_CfOutLnIdeal m →
    θ_run (Cert.CfOutLnIdeal.defs (F := Ideal)) (onTc (τ := Cert.CfOutLnIdeal.τ) (Cert.CfOutLnIdeal.main (F := Ideal))) ⟨m, fun _ => 0, g⟩ (fun r => (∀ c : Dev Cert.CfOutLnIdeal.nD,
      r.2.mem ((c.tc : Thread Cert.CfOutLnIdeal.nD Cert.CfOutLnIdeal.τ).loc Cert.CfOutLnIdeal.main_arg0) = m ((c.tc : Thread Cert.CfOutLnIdeal.nD Cert.CfOutLnIdeal.τ).loc Cert.CfOutLnIdeal.main_arg0)
      ∧ r.2.mem ((c.tc : Thread Cert.CfOutLnIdeal.nD Cert.CfOutLnIdeal.τ).loc Cert.CfOutLnIdeal.main_arg1) = m ((c.tc : Thread Cert.CfOutLnIdeal.nD Cert.CfOutLnIdeal.τ).loc Cert.CfOutLnIdeal.main_arg1)
      ∧ r.2.mem ((c.tc : Thread Cert.CfOutLnIdeal.nD Cert.CfOutLnIdeal.τ).loc Cert.CfOutLnIdeal.main_arg2) = m ((c.tc : Thread Cert.CfOutLnIdeal.nD Cert.CfOutLnIdeal.τ).loc Cert.CfOutLnIdeal.main_arg2)
      ∧ r.2.mem ((c.tc : Thread Cert.CfOutLnIdeal.nD Cert.CfOutLnIdeal.τ).loc Cert.CfOutLnIdeal.main_arg3) = m ((c.tc : Thread Cert.CfOutLnIdeal.nD Cert.CfOutLnIdeal.τ).loc Cert.CfOutLnIdeal.main_arg3)
      ∧ r.2.mem ((c.tc : Thread Cert.CfOutLnIdeal.nD Cert.CfOutLnIdeal.τ).loc Cert.CfOutLnIdeal.main_arg4) = m ((c.tc : Thread Cert.CfOutLnIdeal.nD Cert.CfOutLnIdeal.τ).loc Cert.CfOutLnIdeal.main_arg4)
      ∧ r.2.mem ((c.tc : Thread Cert.CfOutLnIdeal.nD Cert.CfOutLnIdeal.τ).loc Cert.CfOutLnIdeal.main_arg5) = m ((c.tc : Thread Cert.CfOutLnIdeal.nD Cert.CfOutLnIdeal.τ).loc Cert.CfOutLnIdeal.main_arg5))
      ∧ r.2.sem = fun _ => 0)

def quiescent_CfOutLnRefIdeal [hCfOutLnRefIdeal : Cert.CfOutLnRefIdeal.Facts] : Prop :=
  ∀ (m : (ℓ : Loc Cert.CfOutLnRefIdeal.nD Cert.CfOutLnRefIdeal.τ Cert.CfOutLnRefIdeal.sig) → Buf (Elt Ideal) ℓ) (g : Dev Cert.CfOutLnRefIdeal.nD → PrngReg), Pre_CfOutLnRefIdeal m →
    θ_run (Cert.CfOutLnRefIdeal.defs (F := Ideal)) (onTc (τ := Cert.CfOutLnRefIdeal.τ) (Cert.CfOutLnRefIdeal.main (F := Ideal))) ⟨m, fun _ => 0, g⟩ (fun r => (∀ c : Dev Cert.CfOutLnRefIdeal.nD,
      r.2.mem ((c.tc : Thread Cert.CfOutLnRefIdeal.nD Cert.CfOutLnRefIdeal.τ).loc Cert.CfOutLnRefIdeal.main_arg0) = m ((c.tc : Thread Cert.CfOutLnRefIdeal.nD Cert.CfOutLnRefIdeal.τ).loc Cert.CfOutLnRefIdeal.main_arg0)
      ∧ r.2.mem ((c.tc : Thread Cert.CfOutLnRefIdeal.nD Cert.CfOutLnRefIdeal.τ).loc Cert.CfOutLnRefIdeal.main_arg1) = m ((c.tc : Thread Cert.CfOutLnRefIdeal.nD Cert.CfOutLnRefIdeal.τ).loc Cert.CfOutLnRefIdeal.main_arg1)
      ∧ r.2.mem ((c.tc : Thread Cert.CfOutLnRefIdeal.nD Cert.CfOutLnRefIdeal.τ).loc Cert.CfOutLnRefIdeal.main_arg2) = m ((c.tc : Thread Cert.CfOutLnRefIdeal.nD Cert.CfOutLnRefIdeal.τ).loc Cert.CfOutLnRefIdeal.main_arg2)
      ∧ r.2.mem ((c.tc : Thread Cert.CfOutLnRefIdeal.nD Cert.CfOutLnRefIdeal.τ).loc Cert.CfOutLnRefIdeal.main_arg3) = m ((c.tc : Thread Cert.CfOutLnRefIdeal.nD Cert.CfOutLnRefIdeal.τ).loc Cert.CfOutLnRefIdeal.main_arg3)
      ∧ r.2.mem ((c.tc : Thread Cert.CfOutLnRefIdeal.nD Cert.CfOutLnRefIdeal.τ).loc Cert.CfOutLnRefIdeal.main_arg4) = m ((c.tc : Thread Cert.CfOutLnRefIdeal.nD Cert.CfOutLnRefIdeal.τ).loc Cert.CfOutLnRefIdeal.main_arg4)
      ∧ r.2.mem ((c.tc : Thread Cert.CfOutLnRefIdeal.nD Cert.CfOutLnRefIdeal.τ).loc Cert.CfOutLnRefIdeal.main_arg5) = m ((c.tc : Thread Cert.CfOutLnRefIdeal.nD Cert.CfOutLnRefIdeal.τ).loc Cert.CfOutLnRefIdeal.main_arg5))
      ∧ r.2.sem = fun _ => 0)

def quiescent_MlaOutBwd [hMlaOutBwd : Cert.MlaOutBwd.Facts] : Prop :=
  ∀ (m : (ℓ : Loc Cert.MlaOutBwd.nD Cert.MlaOutBwd.τ Cert.MlaOutBwd.sig) → Buf (Elt Bits) ℓ) (g : Dev Cert.MlaOutBwd.nD → PrngReg), Pre_MlaOutBwd m →
    θ_run (Cert.MlaOutBwd.defs (F := Bits)) (onTc (τ := Cert.MlaOutBwd.τ) (Cert.MlaOutBwd.main (F := Bits))) ⟨m, fun _ => 0, g⟩ (fun r => (∀ c : Dev Cert.MlaOutBwd.nD,
      r.2.mem ((c.tc : Thread Cert.MlaOutBwd.nD Cert.MlaOutBwd.τ).loc Cert.MlaOutBwd.main_arg0) = m ((c.tc : Thread Cert.MlaOutBwd.nD Cert.MlaOutBwd.τ).loc Cert.MlaOutBwd.main_arg0)
      ∧ r.2.mem ((c.tc : Thread Cert.MlaOutBwd.nD Cert.MlaOutBwd.τ).loc Cert.MlaOutBwd.main_arg1) = m ((c.tc : Thread Cert.MlaOutBwd.nD Cert.MlaOutBwd.τ).loc Cert.MlaOutBwd.main_arg1))
      ∧ r.2.sem = fun _ => 0)

def quiescent_MlaOutBwdIdeal [hMlaOutBwdIdeal : Cert.MlaOutBwdIdeal.Facts] : Prop :=
  ∀ (m : (ℓ : Loc Cert.MlaOutBwdIdeal.nD Cert.MlaOutBwdIdeal.τ Cert.MlaOutBwdIdeal.sig) → Buf (Elt Ideal) ℓ) (g : Dev Cert.MlaOutBwdIdeal.nD → PrngReg), Pre_MlaOutBwdIdeal m →
    θ_run (Cert.MlaOutBwdIdeal.defs (F := Ideal)) (onTc (τ := Cert.MlaOutBwdIdeal.τ) (Cert.MlaOutBwdIdeal.main (F := Ideal))) ⟨m, fun _ => 0, g⟩ (fun r => (∀ c : Dev Cert.MlaOutBwdIdeal.nD,
      r.2.mem ((c.tc : Thread Cert.MlaOutBwdIdeal.nD Cert.MlaOutBwdIdeal.τ).loc Cert.MlaOutBwdIdeal.main_arg0) = m ((c.tc : Thread Cert.MlaOutBwdIdeal.nD Cert.MlaOutBwdIdeal.τ).loc Cert.MlaOutBwdIdeal.main_arg0)
      ∧ r.2.mem ((c.tc : Thread Cert.MlaOutBwdIdeal.nD Cert.MlaOutBwdIdeal.τ).loc Cert.MlaOutBwdIdeal.main_arg1) = m ((c.tc : Thread Cert.MlaOutBwdIdeal.nD Cert.MlaOutBwdIdeal.τ).loc Cert.MlaOutBwdIdeal.main_arg1))
      ∧ r.2.sem = fun _ => 0)

def quiescent_MlaOutBwdRefIdeal [hMlaOutBwdRefIdeal : Cert.MlaOutBwdRefIdeal.Facts] : Prop :=
  ∀ (m : (ℓ : Loc Cert.MlaOutBwdRefIdeal.nD Cert.MlaOutBwdRefIdeal.τ Cert.MlaOutBwdRefIdeal.sig) → Buf (Elt Ideal) ℓ) (g : Dev Cert.MlaOutBwdRefIdeal.nD → PrngReg), Pre_MlaOutBwdRefIdeal m →
    θ_run (Cert.MlaOutBwdRefIdeal.defs (F := Ideal)) (onTc (τ := Cert.MlaOutBwdRefIdeal.τ) (Cert.MlaOutBwdRefIdeal.main (F := Ideal))) ⟨m, fun _ => 0, g⟩ (fun r => (∀ c : Dev Cert.MlaOutBwdRefIdeal.nD,
      r.2.mem ((c.tc : Thread Cert.MlaOutBwdRefIdeal.nD Cert.MlaOutBwdRefIdeal.τ).loc Cert.MlaOutBwdRefIdeal.main_arg0) = m ((c.tc : Thread Cert.MlaOutBwdRefIdeal.nD Cert.MlaOutBwdRefIdeal.τ).loc Cert.MlaOutBwdRefIdeal.main_arg0)
      ∧ r.2.mem ((c.tc : Thread Cert.MlaOutBwdRefIdeal.nD Cert.MlaOutBwdRefIdeal.τ).loc Cert.MlaOutBwdRefIdeal.main_arg1) = m ((c.tc : Thread Cert.MlaOutBwdRefIdeal.nD Cert.MlaOutBwdRefIdeal.τ).loc Cert.MlaOutBwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_finite_keys [hAttnFwdIdeal : Cert.AttnFwdIdeal.Facts] [hPre_finite_keys : Cert.Pre_finite_keys.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_keys m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_finite_keys [hAttnFwdRefIdeal : Cert.AttnFwdRefIdeal.Facts] [hPre_finite_keys : Cert.Pre_finite_keys.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_keys m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_MlaDown [hMlaDown : Cert.MlaDown.Facts] : Prop :=
  ∀ (m : (ℓ : Loc Cert.MlaDown.nD Cert.MlaDown.τ Cert.MlaDown.sig) → Buf (Elt Bits) ℓ) (g : Dev Cert.MlaDown.nD → PrngReg), Pre_MlaDown m →
    θ_run (Cert.MlaDown.defs (F := Bits)) (onTc (τ := Cert.MlaDown.τ) (Cert.MlaDown.main (F := Bits))) ⟨m, fun _ => 0, g⟩ (fun r => (∀ c : Dev Cert.MlaDown.nD,
      r.2.mem ((c.tc : Thread Cert.MlaDown.nD Cert.MlaDown.τ).loc Cert.MlaDown.main_arg0) = m ((c.tc : Thread Cert.MlaDown.nD Cert.MlaDown.τ).loc Cert.MlaDown.main_arg0)
      ∧ r.2.mem ((c.tc : Thread Cert.MlaDown.nD Cert.MlaDown.τ).loc Cert.MlaDown.main_arg1) = m ((c.tc : Thread Cert.MlaDown.nD Cert.MlaDown.τ).loc Cert.MlaDown.main_arg1)
      ∧ r.2.mem ((c.tc : Thread Cert.MlaDown.nD Cert.MlaDown.τ).loc Cert.MlaDown.main_arg2) = m ((c.tc : Thread Cert.MlaDown.nD Cert.MlaDown.τ).loc Cert.MlaDown.main_arg2))
      ∧ r.2.sem = fun _ => 0)

def quiescent_MlaDownIdeal [hMlaDownIdeal : Cert.MlaDownIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg), Pre_MlaDownIdeal m →
    θ_run (Cert.MlaDownIdeal.defs (F := Ideal)) (onTc (τ := Cert.MlaDownIdeal.τ) (Cert.MlaDownIdeal.main (F := Ideal))) ⟨m, fun _ => 0, g⟩ (fun r => (∀ c : Dev Cert.MlaDownIdeal.nD,
      r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
      ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1)
      ∧ r.2.mem ((c.tc : Thread Cert.MlaDownIdeal.nD Cert.MlaDownIdeal.τ).loc Cert.MlaDownIdeal.main_arg2) = m ((c.tc : Thread Cert.MlaDownIdeal.nD Cert.MlaDownIdeal.τ).loc Cert.MlaDownIdeal.main_arg2))
      ∧ r.2.sem = fun _ => 0)

def quiescent_MlaDownRefIdeal [hMlaDownRefIdeal : Cert.MlaDownRefIdeal.Facts] : Prop :=
  ∀ (m : (ℓ : Loc Cert.MlaDownRefIdeal.nD Cert.MlaDownRefIdeal.τ Cert.MlaDownRefIdeal.sig) → Buf (Elt Ideal) ℓ) (g : Dev Cert.MlaDownRefIdeal.nD → PrngReg), Pre_MlaDownRefIdeal m →
    θ_run (Cert.MlaDownRefIdeal.defs (F := Ideal)) (onTc (τ := Cert.MlaDownRefIdeal.τ) (Cert.MlaDownRefIdeal.main (F := Ideal))) ⟨m, fun _ => 0, g⟩ (fun r => (∀ c : Dev Cert.MlaDownRefIdeal.nD,
      r.2.mem ((c.tc : Thread Cert.MlaDownRefIdeal.nD Cert.MlaDownRefIdeal.τ).loc Cert.MlaDownRefIdeal.main_arg0) = m ((c.tc : Thread Cert.MlaDownRefIdeal.nD Cert.MlaDownRefIdeal.τ).loc Cert.MlaDownRefIdeal.main_arg0)
      ∧ r.2.mem ((c.tc : Thread Cert.MlaDownRefIdeal.nD Cert.MlaDownRefIdeal.τ).loc Cert.MlaDownRefIdeal.main_arg1) = m ((c.tc : Thread Cert.MlaDownRefIdeal.nD Cert.MlaDownRefIdeal.τ).loc Cert.MlaDownRefIdeal.main_arg1)
      ∧ r.2.mem ((c.tc : Thread Cert.MlaDownRefIdeal.nD Cert.MlaDownRefIdeal.τ).loc Cert.MlaDownRefIdeal.main_arg2) = m ((c.tc : Thread Cert.MlaDownRefIdeal.nD Cert.MlaDownRefIdeal.τ).loc Cert.MlaDownRefIdeal.main_arg2))
      ∧ r.2.sem = fun _ => 0)

def quiescent_MlaDwDown [hMlaDwDown : Cert.MlaDwDown.Facts] : Prop :=
  ∀ (m : (ℓ : Loc Cert.MlaDwDown.nD Cert.MlaDwDown.τ Cert.MlaDwDown.sig) → Buf (Elt Bits) ℓ) (g : Dev Cert.MlaDwDown.nD → PrngReg), Pre_MlaDwDown m →
    θ_run (Cert.MlaDwDown.defs (F := Bits)) (onTc (τ := Cert.MlaDwDown.τ) (Cert.MlaDwDown.main (F := Bits))) ⟨m, fun _ => 0, g⟩ (fun r => (∀ c : Dev Cert.MlaDwDown.nD,
      r.2.mem ((c.tc : Thread Cert.MlaDwDown.nD Cert.MlaDwDown.τ).loc Cert.MlaDwDown.main_arg0) = m ((c.tc : Thread Cert.MlaDwDown.nD Cert.MlaDwDown.τ).loc Cert.MlaDwDown.main_arg0)
      ∧ r.2.mem ((c.tc : Thread Cert.MlaDwDown.nD Cert.MlaDwDown.τ).loc Cert.MlaDwDown.main_arg1) = m ((c.tc : Thread Cert.MlaDwDown.nD Cert.MlaDwDown.τ).loc Cert.MlaDwDown.main_arg1)
      ∧ r.2.mem ((c.tc : Thread Cert.MlaDwDown.nD Cert.MlaDwDown.τ).loc Cert.MlaDwDown.main_arg2) = m ((c.tc : Thread Cert.MlaDwDown.nD Cert.MlaDwDown.τ).loc Cert.MlaDwDown.main_arg2))
      ∧ r.2.sem = fun _ => 0)

def quiescent_MlaDwDownIdeal [hMlaDwDownIdeal : Cert.MlaDwDownIdeal.Facts] : Prop :=
  ∀ (m : (ℓ : Loc Cert.MlaDwDownIdeal.nD Cert.MlaDwDownIdeal.τ Cert.MlaDwDownIdeal.sig) → Buf (Elt Ideal) ℓ) (g : Dev Cert.MlaDwDownIdeal.nD → PrngReg), Pre_MlaDwDownIdeal m →
    θ_run (Cert.MlaDwDownIdeal.defs (F := Ideal)) (onTc (τ := Cert.MlaDwDownIdeal.τ) (Cert.MlaDwDownIdeal.main (F := Ideal))) ⟨m, fun _ => 0, g⟩ (fun r => (∀ c : Dev Cert.MlaDwDownIdeal.nD,
      r.2.mem ((c.tc : Thread Cert.MlaDwDownIdeal.nD Cert.MlaDwDownIdeal.τ).loc Cert.MlaDwDownIdeal.main_arg0) = m ((c.tc : Thread Cert.MlaDwDownIdeal.nD Cert.MlaDwDownIdeal.τ).loc Cert.MlaDwDownIdeal.main_arg0)
      ∧ r.2.mem ((c.tc : Thread Cert.MlaDwDownIdeal.nD Cert.MlaDwDownIdeal.τ).loc Cert.MlaDwDownIdeal.main_arg1) = m ((c.tc : Thread Cert.MlaDwDownIdeal.nD Cert.MlaDwDownIdeal.τ).loc Cert.MlaDwDownIdeal.main_arg1)
      ∧ r.2.mem ((c.tc : Thread Cert.MlaDwDownIdeal.nD Cert.MlaDwDownIdeal.τ).loc Cert.MlaDwDownIdeal.main_arg2) = m ((c.tc : Thread Cert.MlaDwDownIdeal.nD Cert.MlaDwDownIdeal.τ).loc Cert.MlaDwDownIdeal.main_arg2))
      ∧ r.2.sem = fun _ => 0)

def quiescent_MlaDwDownRefIdeal [hMlaDwDownRefIdeal : Cert.MlaDwDownRefIdeal.Facts] : Prop :=
  ∀ (m : (ℓ : Loc Cert.MlaDwDownRefIdeal.nD Cert.MlaDwDownRefIdeal.τ Cert.MlaDwDownRefIdeal.sig) → Buf (Elt Ideal) ℓ) (g : Dev Cert.MlaDwDownRefIdeal.nD → PrngReg), Pre_MlaDwDownRefIdeal m →
    θ_run (Cert.MlaDwDownRefIdeal.defs (F := Ideal)) (onTc (τ := Cert.MlaDwDownRefIdeal.τ) (Cert.MlaDwDownRefIdeal.main (F := Ideal))) ⟨m, fun _ => 0, g⟩ (fun r => (∀ c : Dev Cert.MlaDwDownRefIdeal.nD,
      r.2.mem ((c.tc : Thread Cert.MlaDwDownRefIdeal.nD Cert.MlaDwDownRefIdeal.τ).loc Cert.MlaDwDownRefIdeal.main_arg0) = m ((c.tc : Thread Cert.MlaDwDownRefIdeal.nD Cert.MlaDwDownRefIdeal.τ).loc Cert.MlaDwDownRefIdeal.main_arg0)
      ∧ r.2.mem ((c.tc : Thread Cert.MlaDwDownRefIdeal.nD Cert.MlaDwDownRefIdeal.τ).loc Cert.MlaDwDownRefIdeal.main_arg1) = m ((c.tc : Thread Cert.MlaDwDownRefIdeal.nD Cert.MlaDwDownRefIdeal.τ).loc Cert.MlaDwDownRefIdeal.main_arg1)
      ∧ r.2.mem ((c.tc : Thread Cert.MlaDwDownRefIdeal.nD Cert.MlaDwDownRefIdeal.τ).loc Cert.MlaDwDownRefIdeal.main_arg2) = m ((c.tc : Thread Cert.MlaDwDownRefIdeal.nD Cert.MlaDwDownRefIdeal.τ).loc Cert.MlaDwDownRefIdeal.main_arg2))
      ∧ r.2.sem = fun _ => 0)

def quiescent_MlaDownBwd [hMlaDownBwd : Cert.MlaDownBwd.Facts] : Prop :=
  ∀ (m : (ℓ : Loc Cert.MlaDownBwd.nD Cert.MlaDownBwd.τ Cert.MlaDownBwd.sig) → Buf (Elt Bits) ℓ) (g : Dev Cert.MlaDownBwd.nD → PrngReg), Pre_MlaDownBwd m →
    θ_run (Cert.MlaDownBwd.defs (F := Bits)) (onTc (τ := Cert.MlaDownBwd.τ) (Cert.MlaDownBwd.main (F := Bits))) ⟨m, fun _ => 0, g⟩ (fun r => (∀ c : Dev Cert.MlaDownBwd.nD,
      r.2.mem ((c.tc : Thread Cert.MlaDownBwd.nD Cert.MlaDownBwd.τ).loc Cert.MlaDownBwd.main_arg0) = m ((c.tc : Thread Cert.MlaDownBwd.nD Cert.MlaDownBwd.τ).loc Cert.MlaDownBwd.main_arg0)
      ∧ r.2.mem ((c.tc : Thread Cert.MlaDownBwd.nD Cert.MlaDownBwd.τ).loc Cert.MlaDownBwd.main_arg1) = m ((c.tc : Thread Cert.MlaDownBwd.nD Cert.MlaDownBwd.τ).loc Cert.MlaDownBwd.main_arg1)
      ∧ r.2.mem ((c.tc : Thread Cert.MlaDownBwd.nD Cert.MlaDownBwd.τ).loc Cert.MlaDownBwd.main_arg2) = m ((c.tc : Thread Cert.MlaDownBwd.nD Cert.MlaDownBwd.τ).loc Cert.MlaDownBwd.main_arg2)
      ∧ r.2.mem ((c.tc : Thread Cert.MlaDownBwd.nD Cert.MlaDownBwd.τ).loc Cert.MlaDownBwd.main_arg3) = m ((c.tc : Thread Cert.MlaDownBwd.nD Cert.MlaDownBwd.τ).loc Cert.MlaDownBwd.main_arg3)
      ∧ r.2.mem ((c.tc : Thread Cert.MlaDownBwd.nD Cert.MlaDownBwd.τ).loc Cert.MlaDownBwd.main_arg4) = m ((c.tc : Thread Cert.MlaDownBwd.nD Cert.MlaDownBwd.τ).loc Cert.MlaDownBwd.main_arg4)
      ∧ r.2.mem ((c.tc : Thread Cert.MlaDownBwd.nD Cert.MlaDownBwd.τ).loc Cert.MlaDownBwd.main_arg5) = m ((c.tc : Thread Cert.MlaDownBwd.nD Cert.MlaDownBwd.τ).loc Cert.MlaDownBwd.main_arg5)
      ∧ r.2.mem ((c.tc : Thread Cert.MlaDownBwd.nD Cert.MlaDownBwd.τ).loc Cert.MlaDownBwd.main_arg6) = m ((c.tc : Thread Cert.MlaDownBwd.nD Cert.MlaDownBwd.τ).loc Cert.MlaDownBwd.main_arg6)
      ∧ r.2.mem ((c.tc : Thread Cert.MlaDownBwd.nD Cert.MlaDownBwd.τ).loc Cert.MlaDownBwd.main_arg7) = m ((c.tc : Thread Cert.MlaDownBwd.nD Cert.MlaDownBwd.τ).loc Cert.MlaDownBwd.main_arg7))
      ∧ r.2.sem = fun _ => 0)

def quiescent_MlaDownBwdIdeal [hMlaDownBwdIdeal : Cert.MlaDownBwdIdeal.Facts] : Prop :=
  ∀ (m : (ℓ : Loc Cert.MlaDownBwdIdeal.nD Cert.MlaDownBwdIdeal.τ Cert.MlaDownBwdIdeal.sig) → Buf (Elt Ideal) ℓ) (g : Dev Cert.MlaDownBwdIdeal.nD → PrngReg), Pre_MlaDownBwdIdeal m →
    θ_run (Cert.MlaDownBwdIdeal.defs (F := Ideal)) (onTc (τ := Cert.MlaDownBwdIdeal.τ) (Cert.MlaDownBwdIdeal.main (F := Ideal))) ⟨m, fun _ => 0, g⟩ (fun r => (∀ c : Dev Cert.MlaDownBwdIdeal.nD,
      r.2.mem ((c.tc : Thread Cert.MlaDownBwdIdeal.nD Cert.MlaDownBwdIdeal.τ).loc Cert.MlaDownBwdIdeal.main_arg0) = m ((c.tc : Thread Cert.MlaDownBwdIdeal.nD Cert.MlaDownBwdIdeal.τ).loc Cert.MlaDownBwdIdeal.main_arg0)
      ∧ r.2.mem ((c.tc : Thread Cert.MlaDownBwdIdeal.nD Cert.MlaDownBwdIdeal.τ).loc Cert.MlaDownBwdIdeal.main_arg1) = m ((c.tc : Thread Cert.MlaDownBwdIdeal.nD Cert.MlaDownBwdIdeal.τ).loc Cert.MlaDownBwdIdeal.main_arg1)
      ∧ r.2.mem ((c.tc : Thread Cert.MlaDownBwdIdeal.nD Cert.MlaDownBwdIdeal.τ).loc Cert.MlaDownBwdIdeal.main_arg2) = m ((c.tc : Thread Cert.MlaDownBwdIdeal.nD Cert.MlaDownBwdIdeal.τ).loc Cert.MlaDownBwdIdeal.main_arg2)
      ∧ r.2.mem ((c.tc : Thread Cert.MlaDownBwdIdeal.nD Cert.MlaDownBwdIdeal.τ).loc Cert.MlaDownBwdIdeal.main_arg3) = m ((c.tc : Thread Cert.MlaDownBwdIdeal.nD Cert.MlaDownBwdIdeal.τ).loc Cert.MlaDownBwdIdeal.main_arg3)
      ∧ r.2.mem ((c.tc : Thread Cert.MlaDownBwdIdeal.nD Cert.MlaDownBwdIdeal.τ).loc Cert.MlaDownBwdIdeal.main_arg4) = m ((c.tc : Thread Cert.MlaDownBwdIdeal.nD Cert.MlaDownBwdIdeal.τ).loc Cert.MlaDownBwdIdeal.main_arg4)
      ∧ r.2.mem ((c.tc : Thread Cert.MlaDownBwdIdeal.nD Cert.MlaDownBwdIdeal.τ).loc Cert.MlaDownBwdIdeal.main_arg5) = m ((c.tc : Thread Cert.MlaDownBwdIdeal.nD Cert.MlaDownBwdIdeal.τ).loc Cert.MlaDownBwdIdeal.main_arg5)
      ∧ r.2.mem ((c.tc : Thread Cert.MlaDownBwdIdeal.nD Cert.MlaDownBwdIdeal.τ).loc Cert.MlaDownBwdIdeal.main_arg6) = m ((c.tc : Thread Cert.MlaDownBwdIdeal.nD Cert.MlaDownBwdIdeal.τ).loc Cert.MlaDownBwdIdeal.main_arg6)
      ∧ r.2.mem ((c.tc : Thread Cert.MlaDownBwdIdeal.nD Cert.MlaDownBwdIdeal.τ).loc Cert.MlaDownBwdIdeal.main_arg7) = m ((c.tc : Thread Cert.MlaDownBwdIdeal.nD Cert.MlaDownBwdIdeal.τ).loc Cert.MlaDownBwdIdeal.main_arg7))
      ∧ r.2.sem = fun _ => 0)

def quiescent_MlaDownBwdIdeal_pre_finite_down_bwd [hMlaDownBwdIdeal : Cert.MlaDownBwdIdeal.Facts] [hPre_finite_down_bwd : Cert.Pre_finite_down_bwd.Facts] : Prop :=
  ∀ (m : (ℓ : Loc Cert.MlaDownBwdIdeal.nD Cert.MlaDownBwdIdeal.τ Cert.MlaDownBwdIdeal.sig) → Buf (Elt Ideal) ℓ) (g : Dev Cert.MlaDownBwdIdeal.nD → PrngReg), Pre_MlaDownBwdIdeal_finite_down_bwd m →
    θ_run (Cert.MlaDownBwdIdeal.defs (F := Ideal)) (onTc (τ := Cert.MlaDownBwdIdeal.τ) (Cert.MlaDownBwdIdeal.main (F := Ideal))) ⟨m, fun _ => 0, g⟩ (fun r => (∀ c : Dev Cert.MlaDownBwdIdeal.nD,
      r.2.mem ((c.tc : Thread Cert.MlaDownBwdIdeal.nD Cert.MlaDownBwdIdeal.τ).loc Cert.MlaDownBwdIdeal.main_arg0) = m ((c.tc : Thread Cert.MlaDownBwdIdeal.nD Cert.MlaDownBwdIdeal.τ).loc Cert.MlaDownBwdIdeal.main_arg0)
      ∧ r.2.mem ((c.tc : Thread Cert.MlaDownBwdIdeal.nD Cert.MlaDownBwdIdeal.τ).loc Cert.MlaDownBwdIdeal.main_arg1) = m ((c.tc : Thread Cert.MlaDownBwdIdeal.nD Cert.MlaDownBwdIdeal.τ).loc Cert.MlaDownBwdIdeal.main_arg1)
      ∧ r.2.mem ((c.tc : Thread Cert.MlaDownBwdIdeal.nD Cert.MlaDownBwdIdeal.τ).loc Cert.MlaDownBwdIdeal.main_arg2) = m ((c.tc : Thread Cert.MlaDownBwdIdeal.nD Cert.MlaDownBwdIdeal.τ).loc Cert.MlaDownBwdIdeal.main_arg2)
      ∧ r.2.mem ((c.tc : Thread Cert.MlaDownBwdIdeal.nD Cert.MlaDownBwdIdeal.τ).loc Cert.MlaDownBwdIdeal.main_arg3) = m ((c.tc : Thread Cert.MlaDownBwdIdeal.nD Cert.MlaDownBwdIdeal.τ).loc Cert.MlaDownBwdIdeal.main_arg3)
      ∧ r.2.mem ((c.tc : Thread Cert.MlaDownBwdIdeal.nD Cert.MlaDownBwdIdeal.τ).loc Cert.MlaDownBwdIdeal.main_arg4) = m ((c.tc : Thread Cert.MlaDownBwdIdeal.nD Cert.MlaDownBwdIdeal.τ).loc Cert.MlaDownBwdIdeal.main_arg4)
      ∧ r.2.mem ((c.tc : Thread Cert.MlaDownBwdIdeal.nD Cert.MlaDownBwdIdeal.τ).loc Cert.MlaDownBwdIdeal.main_arg5) = m ((c.tc : Thread Cert.MlaDownBwdIdeal.nD Cert.MlaDownBwdIdeal.τ).loc Cert.MlaDownBwdIdeal.main_arg5)
      ∧ r.2.mem ((c.tc : Thread Cert.MlaDownBwdIdeal.nD Cert.MlaDownBwdIdeal.τ).loc Cert.MlaDownBwdIdeal.main_arg6) = m ((c.tc : Thread Cert.MlaDownBwdIdeal.nD Cert.MlaDownBwdIdeal.τ).loc Cert.MlaDownBwdIdeal.main_arg6)
      ∧ r.2.mem ((c.tc : Thread Cert.MlaDownBwdIdeal.nD Cert.MlaDownBwdIdeal.τ).loc Cert.MlaDownBwdIdeal.main_arg7) = m ((c.tc : Thread Cert.MlaDownBwdIdeal.nD Cert.MlaDownBwdIdeal.τ).loc Cert.MlaDownBwdIdeal.main_arg7))
      ∧ r.2.sem = fun _ => 0)

def quiescent_MlaDownBwdRefIdeal [hMlaDownBwdRefIdeal : Cert.MlaDownBwdRefIdeal.Facts] : Prop :=
  ∀ (m : (ℓ : Loc Cert.MlaDownBwdRefIdeal.nD Cert.MlaDownBwdRefIdeal.τ Cert.MlaDownBwdRefIdeal.sig) → Buf (Elt Ideal) ℓ) (g : Dev Cert.MlaDownBwdRefIdeal.nD → PrngReg), Pre_MlaDownBwdRefIdeal m →
    θ_run (Cert.MlaDownBwdRefIdeal.defs (F := Ideal)) (onTc (τ := Cert.MlaDownBwdRefIdeal.τ) (Cert.MlaDownBwdRefIdeal.main (F := Ideal))) ⟨m, fun _ => 0, g⟩ (fun r => (∀ c : Dev Cert.MlaDownBwdRefIdeal.nD,
      r.2.mem ((c.tc : Thread Cert.MlaDownBwdRefIdeal.nD Cert.MlaDownBwdRefIdeal.τ).loc Cert.MlaDownBwdRefIdeal.main_arg0) = m ((c.tc : Thread Cert.MlaDownBwdRefIdeal.nD Cert.MlaDownBwdRefIdeal.τ).loc Cert.MlaDownBwdRefIdeal.main_arg0)
      ∧ r.2.mem ((c.tc : Thread Cert.MlaDownBwdRefIdeal.nD Cert.MlaDownBwdRefIdeal.τ).loc Cert.MlaDownBwdRefIdeal.main_arg1) = m ((c.tc : Thread Cert.MlaDownBwdRefIdeal.nD Cert.MlaDownBwdRefIdeal.τ).loc Cert.MlaDownBwdRefIdeal.main_arg1)
      ∧ r.2.mem ((c.tc : Thread Cert.MlaDownBwdRefIdeal.nD Cert.MlaDownBwdRefIdeal.τ).loc Cert.MlaDownBwdRefIdeal.main_arg2) = m ((c.tc : Thread Cert.MlaDownBwdRefIdeal.nD Cert.MlaDownBwdRefIdeal.τ).loc Cert.MlaDownBwdRefIdeal.main_arg2)
      ∧ r.2.mem ((c.tc : Thread Cert.MlaDownBwdRefIdeal.nD Cert.MlaDownBwdRefIdeal.τ).loc Cert.MlaDownBwdRefIdeal.main_arg3) = m ((c.tc : Thread Cert.MlaDownBwdRefIdeal.nD Cert.MlaDownBwdRefIdeal.τ).loc Cert.MlaDownBwdRefIdeal.main_arg3)
      ∧ r.2.mem ((c.tc : Thread Cert.MlaDownBwdRefIdeal.nD Cert.MlaDownBwdRefIdeal.τ).loc Cert.MlaDownBwdRefIdeal.main_arg4) = m ((c.tc : Thread Cert.MlaDownBwdRefIdeal.nD Cert.MlaDownBwdRefIdeal.τ).loc Cert.MlaDownBwdRefIdeal.main_arg4)
      ∧ r.2.mem ((c.tc : Thread Cert.MlaDownBwdRefIdeal.nD Cert.MlaDownBwdRefIdeal.τ).loc Cert.MlaDownBwdRefIdeal.main_arg5) = m ((c.tc : Thread Cert.MlaDownBwdRefIdeal.nD Cert.MlaDownBwdRefIdeal.τ).loc Cert.MlaDownBwdRefIdeal.main_arg5)
      ∧ r.2.mem ((c.tc : Thread Cert.MlaDownBwdRefIdeal.nD Cert.MlaDownBwdRefIdeal.τ).loc Cert.MlaDownBwdRefIdeal.main_arg6) = m ((c.tc : Thread Cert.MlaDownBwdRefIdeal.nD Cert.MlaDownBwdRefIdeal.τ).loc Cert.MlaDownBwdRefIdeal.main_arg6)
      ∧ r.2.mem ((c.tc : Thread Cert.MlaDownBwdRefIdeal.nD Cert.MlaDownBwdRefIdeal.τ).loc Cert.MlaDownBwdRefIdeal.main_arg7) = m ((c.tc : Thread Cert.MlaDownBwdRefIdeal.nD Cert.MlaDownBwdRefIdeal.τ).loc Cert.MlaDownBwdRefIdeal.main_arg7))
      ∧ r.2.sem = fun _ => 0)

def quiescent_MlaDownBwdRefIdeal_pre_finite_down_bwd [hMlaDownBwdRefIdeal : Cert.MlaDownBwdRefIdeal.Facts] [hPre_finite_down_bwd : Cert.Pre_finite_down_bwd.Facts] : Prop :=
  ∀ (m : (ℓ : Loc Cert.MlaDownBwdRefIdeal.nD Cert.MlaDownBwdRefIdeal.τ Cert.MlaDownBwdRefIdeal.sig) → Buf (Elt Ideal) ℓ) (g : Dev Cert.MlaDownBwdRefIdeal.nD → PrngReg), Pre_MlaDownBwdRefIdeal_finite_down_bwd m →
    θ_run (Cert.MlaDownBwdRefIdeal.defs (F := Ideal)) (onTc (τ := Cert.MlaDownBwdRefIdeal.τ) (Cert.MlaDownBwdRefIdeal.main (F := Ideal))) ⟨m, fun _ => 0, g⟩ (fun r => (∀ c : Dev Cert.MlaDownBwdRefIdeal.nD,
      r.2.mem ((c.tc : Thread Cert.MlaDownBwdRefIdeal.nD Cert.MlaDownBwdRefIdeal.τ).loc Cert.MlaDownBwdRefIdeal.main_arg0) = m ((c.tc : Thread Cert.MlaDownBwdRefIdeal.nD Cert.MlaDownBwdRefIdeal.τ).loc Cert.MlaDownBwdRefIdeal.main_arg0)
      ∧ r.2.mem ((c.tc : Thread Cert.MlaDownBwdRefIdeal.nD Cert.MlaDownBwdRefIdeal.τ).loc Cert.MlaDownBwdRefIdeal.main_arg1) = m ((c.tc : Thread Cert.MlaDownBwdRefIdeal.nD Cert.MlaDownBwdRefIdeal.τ).loc Cert.MlaDownBwdRefIdeal.main_arg1)
      ∧ r.2.mem ((c.tc : Thread Cert.MlaDownBwdRefIdeal.nD Cert.MlaDownBwdRefIdeal.τ).loc Cert.MlaDownBwdRefIdeal.main_arg2) = m ((c.tc : Thread Cert.MlaDownBwdRefIdeal.nD Cert.MlaDownBwdRefIdeal.τ).loc Cert.MlaDownBwdRefIdeal.main_arg2)
      ∧ r.2.mem ((c.tc : Thread Cert.MlaDownBwdRefIdeal.nD Cert.MlaDownBwdRefIdeal.τ).loc Cert.MlaDownBwdRefIdeal.main_arg3) = m ((c.tc : Thread Cert.MlaDownBwdRefIdeal.nD Cert.MlaDownBwdRefIdeal.τ).loc Cert.MlaDownBwdRefIdeal.main_arg3)
      ∧ r.2.mem ((c.tc : Thread Cert.MlaDownBwdRefIdeal.nD Cert.MlaDownBwdRefIdeal.τ).loc Cert.MlaDownBwdRefIdeal.main_arg4) = m ((c.tc : Thread Cert.MlaDownBwdRefIdeal.nD Cert.MlaDownBwdRefIdeal.τ).loc Cert.MlaDownBwdRefIdeal.main_arg4)
      ∧ r.2.mem ((c.tc : Thread Cert.MlaDownBwdRefIdeal.nD Cert.MlaDownBwdRefIdeal.τ).loc Cert.MlaDownBwdRefIdeal.main_arg5) = m ((c.tc : Thread Cert.MlaDownBwdRefIdeal.nD Cert.MlaDownBwdRefIdeal.τ).loc Cert.MlaDownBwdRefIdeal.main_arg5)
      ∧ r.2.mem ((c.tc : Thread Cert.MlaDownBwdRefIdeal.nD Cert.MlaDownBwdRefIdeal.τ).loc Cert.MlaDownBwdRefIdeal.main_arg6) = m ((c.tc : Thread Cert.MlaDownBwdRefIdeal.nD Cert.MlaDownBwdRefIdeal.τ).loc Cert.MlaDownBwdRefIdeal.main_arg6)
      ∧ r.2.mem ((c.tc : Thread Cert.MlaDownBwdRefIdeal.nD Cert.MlaDownBwdRefIdeal.τ).loc Cert.MlaDownBwdRefIdeal.main_arg7) = m ((c.tc : Thread Cert.MlaDownBwdRefIdeal.nD Cert.MlaDownBwdRefIdeal.τ).loc Cert.MlaDownBwdRefIdeal.main_arg7))
      ∧ r.2.sem = fun _ => 0)

def quiescent_MlaValues [hMlaValues : Cert.MlaValues.Facts] : Prop :=
  ∀ (m : (ℓ : Loc Cert.MlaValues.nD Cert.MlaValues.τ Cert.MlaValues.sig) → Buf (Elt Bits) ℓ) (g : Dev Cert.MlaValues.nD → PrngReg), Pre_MlaValues m →
    θ_run (Cert.MlaValues.defs (F := Bits)) (onTc (τ := Cert.MlaValues.τ) (Cert.MlaValues.main (F := Bits))) ⟨m, fun _ => 0, g⟩ (fun r => (∀ c : Dev Cert.MlaValues.nD,
      r.2.mem ((c.tc : Thread Cert.MlaValues.nD Cert.MlaValues.τ).loc Cert.MlaValues.main_arg0) = m ((c.tc : Thread Cert.MlaValues.nD Cert.MlaValues.τ).loc Cert.MlaValues.main_arg0)
      ∧ r.2.mem ((c.tc : Thread Cert.MlaValues.nD Cert.MlaValues.τ).loc Cert.MlaValues.main_arg1) = m ((c.tc : Thread Cert.MlaValues.nD Cert.MlaValues.τ).loc Cert.MlaValues.main_arg1))
      ∧ r.2.sem = fun _ => 0)

def quiescent_MlaValuesIdeal [hMlaValuesIdeal : Cert.MlaValuesIdeal.Facts] : Prop :=
  ∀ (m : (ℓ : Loc Cert.MlaValuesIdeal.nD Cert.MlaValuesIdeal.τ Cert.MlaValuesIdeal.sig) → Buf (Elt Ideal) ℓ) (g : Dev Cert.MlaValuesIdeal.nD → PrngReg), Pre_MlaValuesIdeal m →
    θ_run (Cert.MlaValuesIdeal.defs (F := Ideal)) (onTc (τ := Cert.MlaValuesIdeal.τ) (Cert.MlaValuesIdeal.main (F := Ideal))) ⟨m, fun _ => 0, g⟩ (fun r => (∀ c : Dev Cert.MlaValuesIdeal.nD,
      r.2.mem ((c.tc : Thread Cert.MlaValuesIdeal.nD Cert.MlaValuesIdeal.τ).loc Cert.MlaValuesIdeal.main_arg0) = m ((c.tc : Thread Cert.MlaValuesIdeal.nD Cert.MlaValuesIdeal.τ).loc Cert.MlaValuesIdeal.main_arg0)
      ∧ r.2.mem ((c.tc : Thread Cert.MlaValuesIdeal.nD Cert.MlaValuesIdeal.τ).loc Cert.MlaValuesIdeal.main_arg1) = m ((c.tc : Thread Cert.MlaValuesIdeal.nD Cert.MlaValuesIdeal.τ).loc Cert.MlaValuesIdeal.main_arg1))
      ∧ r.2.sem = fun _ => 0)

def quiescent_MlaValuesRefIdeal [hMlaValuesRefIdeal : Cert.MlaValuesRefIdeal.Facts] : Prop :=
  ∀ (m : (ℓ : Loc Cert.MlaValuesRefIdeal.nD Cert.MlaValuesRefIdeal.τ Cert.MlaValuesRefIdeal.sig) → Buf (Elt Ideal) ℓ) (g : Dev Cert.MlaValuesRefIdeal.nD → PrngReg), Pre_MlaValuesRefIdeal m →
    θ_run (Cert.MlaValuesRefIdeal.defs (F := Ideal)) (onTc (τ := Cert.MlaValuesRefIdeal.τ) (Cert.MlaValuesRefIdeal.main (F := Ideal))) ⟨m, fun _ => 0, g⟩ (fun r => (∀ c : Dev Cert.MlaValuesRefIdeal.nD,
      r.2.mem ((c.tc : Thread Cert.MlaValuesRefIdeal.nD Cert.MlaValuesRefIdeal.τ).loc Cert.MlaValuesRefIdeal.main_arg0) = m ((c.tc : Thread Cert.MlaValuesRefIdeal.nD Cert.MlaValuesRefIdeal.τ).loc Cert.MlaValuesRefIdeal.main_arg0)
      ∧ r.2.mem ((c.tc : Thread Cert.MlaValuesRefIdeal.nD Cert.MlaValuesRefIdeal.τ).loc Cert.MlaValuesRefIdeal.main_arg1) = m ((c.tc : Thread Cert.MlaValuesRefIdeal.nD Cert.MlaValuesRefIdeal.τ).loc Cert.MlaValuesRefIdeal.main_arg1))
      ∧ r.2.sem = fun _ => 0)

def quiescent_MlaDwUk [hMlaDwUk : Cert.MlaDwUk.Facts] : Prop :=
  ∀ (m : (ℓ : Loc Cert.MlaDwUk.nD Cert.MlaDwUk.τ Cert.MlaDwUk.sig) → Buf (Elt Bits) ℓ) (g : Dev Cert.MlaDwUk.nD → PrngReg), Pre_MlaDwUk m →
    θ_run (Cert.MlaDwUk.defs (F := Bits)) (onTc (τ := Cert.MlaDwUk.τ) (Cert.MlaDwUk.main (F := Bits))) ⟨m, fun _ => 0, g⟩ (fun r => (∀ c : Dev Cert.MlaDwUk.nD,
      r.2.mem ((c.tc : Thread Cert.MlaDwUk.nD Cert.MlaDwUk.τ).loc Cert.MlaDwUk.main_arg0) = m ((c.tc : Thread Cert.MlaDwUk.nD Cert.MlaDwUk.τ).loc Cert.MlaDwUk.main_arg0)
      ∧ r.2.mem ((c.tc : Thread Cert.MlaDwUk.nD Cert.MlaDwUk.τ).loc Cert.MlaDwUk.main_arg1) = m ((c.tc : Thread Cert.MlaDwUk.nD Cert.MlaDwUk.τ).loc Cert.MlaDwUk.main_arg1))
      ∧ r.2.sem = fun _ => 0)

def quiescent_MlaDwUkIdeal [hMlaDwUkIdeal : Cert.MlaDwUkIdeal.Facts] : Prop :=
  ∀ (m : (ℓ : Loc Cert.MlaDwUkIdeal.nD Cert.MlaDwUkIdeal.τ Cert.MlaDwUkIdeal.sig) → Buf (Elt Ideal) ℓ) (g : Dev Cert.MlaDwUkIdeal.nD → PrngReg), Pre_MlaDwUkIdeal m →
    θ_run (Cert.MlaDwUkIdeal.defs (F := Ideal)) (onTc (τ := Cert.MlaDwUkIdeal.τ) (Cert.MlaDwUkIdeal.main (F := Ideal))) ⟨m, fun _ => 0, g⟩ (fun r => (∀ c : Dev Cert.MlaDwUkIdeal.nD,
      r.2.mem ((c.tc : Thread Cert.MlaDwUkIdeal.nD Cert.MlaDwUkIdeal.τ).loc Cert.MlaDwUkIdeal.main_arg0) = m ((c.tc : Thread Cert.MlaDwUkIdeal.nD Cert.MlaDwUkIdeal.τ).loc Cert.MlaDwUkIdeal.main_arg0)
      ∧ r.2.mem ((c.tc : Thread Cert.MlaDwUkIdeal.nD Cert.MlaDwUkIdeal.τ).loc Cert.MlaDwUkIdeal.main_arg1) = m ((c.tc : Thread Cert.MlaDwUkIdeal.nD Cert.MlaDwUkIdeal.τ).loc Cert.MlaDwUkIdeal.main_arg1))
      ∧ r.2.sem = fun _ => 0)

def quiescent_MlaDwUkRefIdeal [hMlaDwUkRefIdeal : Cert.MlaDwUkRefIdeal.Facts] : Prop :=
  ∀ (m : (ℓ : Loc Cert.MlaDwUkRefIdeal.nD Cert.MlaDwUkRefIdeal.τ Cert.MlaDwUkRefIdeal.sig) → Buf (Elt Ideal) ℓ) (g : Dev Cert.MlaDwUkRefIdeal.nD → PrngReg), Pre_MlaDwUkRefIdeal m →
    θ_run (Cert.MlaDwUkRefIdeal.defs (F := Ideal)) (onTc (τ := Cert.MlaDwUkRefIdeal.τ) (Cert.MlaDwUkRefIdeal.main (F := Ideal))) ⟨m, fun _ => 0, g⟩ (fun r => (∀ c : Dev Cert.MlaDwUkRefIdeal.nD,
      r.2.mem ((c.tc : Thread Cert.MlaDwUkRefIdeal.nD Cert.MlaDwUkRefIdeal.τ).loc Cert.MlaDwUkRefIdeal.main_arg0) = m ((c.tc : Thread Cert.MlaDwUkRefIdeal.nD Cert.MlaDwUkRefIdeal.τ).loc Cert.MlaDwUkRefIdeal.main_arg0)
      ∧ r.2.mem ((c.tc : Thread Cert.MlaDwUkRefIdeal.nD Cert.MlaDwUkRefIdeal.τ).loc Cert.MlaDwUkRefIdeal.main_arg1) = m ((c.tc : Thread Cert.MlaDwUkRefIdeal.nD Cert.MlaDwUkRefIdeal.τ).loc Cert.MlaDwUkRefIdeal.main_arg1))
      ∧ r.2.sem = fun _ => 0)

def quiescent_MlaUkBwd [hMlaUkBwd : Cert.MlaUkBwd.Facts] : Prop :=
  ∀ (m : (ℓ : Loc Cert.MlaUkBwd.nD Cert.MlaUkBwd.τ Cert.MlaUkBwd.sig) → Buf (Elt Bits) ℓ) (g : Dev Cert.MlaUkBwd.nD → PrngReg), Pre_MlaUkBwd m →
    θ_run (Cert.MlaUkBwd.defs (F := Bits)) (onTc (τ := Cert.MlaUkBwd.τ) (Cert.MlaUkBwd.main (F := Bits))) ⟨m, fun _ => 0, g⟩ (fun r => (∀ c : Dev Cert.MlaUkBwd.nD,
      r.2.mem ((c.tc : Thread Cert.MlaUkBwd.nD Cert.MlaUkBwd.τ).loc Cert.MlaUkBwd.main_arg0) = m ((c.tc : Thread Cert.MlaUkBwd.nD Cert.MlaUkBwd.τ).loc Cert.MlaUkBwd.main_arg0)
      ∧ r.2.mem ((c.tc : Thread Cert.MlaUkBwd.nD Cert.MlaUkBwd.τ).loc Cert.MlaUkBwd.main_arg1) = m ((c.tc : Thread Cert.MlaUkBwd.nD Cert.MlaUkBwd.τ).loc Cert.MlaUkBwd.main_arg1))
      ∧ r.2.sem = fun _ => 0)

def quiescent_MlaUkBwdIdeal [hMlaUkBwdIdeal : Cert.MlaUkBwdIdeal.Facts] : Prop :=
  ∀ (m : (ℓ : Loc Cert.MlaUkBwdIdeal.nD Cert.MlaUkBwdIdeal.τ Cert.MlaUkBwdIdeal.sig) → Buf (Elt Ideal) ℓ) (g : Dev Cert.MlaUkBwdIdeal.nD → PrngReg), Pre_MlaUkBwdIdeal m →
    θ_run (Cert.MlaUkBwdIdeal.defs (F := Ideal)) (onTc (τ := Cert.MlaUkBwdIdeal.τ) (Cert.MlaUkBwdIdeal.main (F := Ideal))) ⟨m, fun _ => 0, g⟩ (fun r => (∀ c : Dev Cert.MlaUkBwdIdeal.nD,
      r.2.mem ((c.tc : Thread Cert.MlaUkBwdIdeal.nD Cert.MlaUkBwdIdeal.τ).loc Cert.MlaUkBwdIdeal.main_arg0) = m ((c.tc : Thread Cert.MlaUkBwdIdeal.nD Cert.MlaUkBwdIdeal.τ).loc Cert.MlaUkBwdIdeal.main_arg0)
      ∧ r.2.mem ((c.tc : Thread Cert.MlaUkBwdIdeal.nD Cert.MlaUkBwdIdeal.τ).loc Cert.MlaUkBwdIdeal.main_arg1) = m ((c.tc : Thread Cert.MlaUkBwdIdeal.nD Cert.MlaUkBwdIdeal.τ).loc Cert.MlaUkBwdIdeal.main_arg1))
      ∧ r.2.sem = fun _ => 0)

def quiescent_MlaUkBwdRefIdeal [hMlaUkBwdRefIdeal : Cert.MlaUkBwdRefIdeal.Facts] : Prop :=
  ∀ (m : (ℓ : Loc Cert.MlaUkBwdRefIdeal.nD Cert.MlaUkBwdRefIdeal.τ Cert.MlaUkBwdRefIdeal.sig) → Buf (Elt Ideal) ℓ) (g : Dev Cert.MlaUkBwdRefIdeal.nD → PrngReg), Pre_MlaUkBwdRefIdeal m →
    θ_run (Cert.MlaUkBwdRefIdeal.defs (F := Ideal)) (onTc (τ := Cert.MlaUkBwdRefIdeal.τ) (Cert.MlaUkBwdRefIdeal.main (F := Ideal))) ⟨m, fun _ => 0, g⟩ (fun r => (∀ c : Dev Cert.MlaUkBwdRefIdeal.nD,
      r.2.mem ((c.tc : Thread Cert.MlaUkBwdRefIdeal.nD Cert.MlaUkBwdRefIdeal.τ).loc Cert.MlaUkBwdRefIdeal.main_arg0) = m ((c.tc : Thread Cert.MlaUkBwdRefIdeal.nD Cert.MlaUkBwdRefIdeal.τ).loc Cert.MlaUkBwdRefIdeal.main_arg0)
      ∧ r.2.mem ((c.tc : Thread Cert.MlaUkBwdRefIdeal.nD Cert.MlaUkBwdRefIdeal.τ).loc Cert.MlaUkBwdRefIdeal.main_arg1) = m ((c.tc : Thread Cert.MlaUkBwdRefIdeal.nD Cert.MlaUkBwdRefIdeal.τ).loc Cert.MlaUkBwdRefIdeal.main_arg1))
      ∧ r.2.sem = fun _ => 0)

def quiescent_MlaUvBwd [hMlaUvBwd : Cert.MlaUvBwd.Facts] : Prop :=
  ∀ (m : (ℓ : Loc Cert.MlaUvBwd.nD Cert.MlaUvBwd.τ Cert.MlaUvBwd.sig) → Buf (Elt Bits) ℓ) (g : Dev Cert.MlaUvBwd.nD → PrngReg), Pre_MlaUvBwd m →
    θ_run (Cert.MlaUvBwd.defs (F := Bits)) (onTc (τ := Cert.MlaUvBwd.τ) (Cert.MlaUvBwd.main (F := Bits))) ⟨m, fun _ => 0, g⟩ (fun r => (∀ c : Dev Cert.MlaUvBwd.nD,
      r.2.mem ((c.tc : Thread Cert.MlaUvBwd.nD Cert.MlaUvBwd.τ).loc Cert.MlaUvBwd.main_arg0) = m ((c.tc : Thread Cert.MlaUvBwd.nD Cert.MlaUvBwd.τ).loc Cert.MlaUvBwd.main_arg0)
      ∧ r.2.mem ((c.tc : Thread Cert.MlaUvBwd.nD Cert.MlaUvBwd.τ).loc Cert.MlaUvBwd.main_arg1) = m ((c.tc : Thread Cert.MlaUvBwd.nD Cert.MlaUvBwd.τ).loc Cert.MlaUvBwd.main_arg1)
      ∧ r.2.mem ((c.tc : Thread Cert.MlaUvBwd.nD Cert.MlaUvBwd.τ).loc Cert.MlaUvBwd.main_arg2) = m ((c.tc : Thread Cert.MlaUvBwd.nD Cert.MlaUvBwd.τ).loc Cert.MlaUvBwd.main_arg2))
      ∧ r.2.sem = fun _ => 0)

def quiescent_MlaUvBwdIdeal [hMlaUvBwdIdeal : Cert.MlaUvBwdIdeal.Facts] : Prop :=
  ∀ (m : (ℓ : Loc Cert.MlaUvBwdIdeal.nD Cert.MlaUvBwdIdeal.τ Cert.MlaUvBwdIdeal.sig) → Buf (Elt Ideal) ℓ) (g : Dev Cert.MlaUvBwdIdeal.nD → PrngReg), Pre_MlaUvBwdIdeal m →
    θ_run (Cert.MlaUvBwdIdeal.defs (F := Ideal)) (onTc (τ := Cert.MlaUvBwdIdeal.τ) (Cert.MlaUvBwdIdeal.main (F := Ideal))) ⟨m, fun _ => 0, g⟩ (fun r => (∀ c : Dev Cert.MlaUvBwdIdeal.nD,
      r.2.mem ((c.tc : Thread Cert.MlaUvBwdIdeal.nD Cert.MlaUvBwdIdeal.τ).loc Cert.MlaUvBwdIdeal.main_arg0) = m ((c.tc : Thread Cert.MlaUvBwdIdeal.nD Cert.MlaUvBwdIdeal.τ).loc Cert.MlaUvBwdIdeal.main_arg0)
      ∧ r.2.mem ((c.tc : Thread Cert.MlaUvBwdIdeal.nD Cert.MlaUvBwdIdeal.τ).loc Cert.MlaUvBwdIdeal.main_arg1) = m ((c.tc : Thread Cert.MlaUvBwdIdeal.nD Cert.MlaUvBwdIdeal.τ).loc Cert.MlaUvBwdIdeal.main_arg1)
      ∧ r.2.mem ((c.tc : Thread Cert.MlaUvBwdIdeal.nD Cert.MlaUvBwdIdeal.τ).loc Cert.MlaUvBwdIdeal.main_arg2) = m ((c.tc : Thread Cert.MlaUvBwdIdeal.nD Cert.MlaUvBwdIdeal.τ).loc Cert.MlaUvBwdIdeal.main_arg2))
      ∧ r.2.sem = fun _ => 0)

def quiescent_MlaUvBwdRefIdeal [hMlaUvBwdRefIdeal : Cert.MlaUvBwdRefIdeal.Facts] : Prop :=
  ∀ (m : (ℓ : Loc Cert.MlaUvBwdRefIdeal.nD Cert.MlaUvBwdRefIdeal.τ Cert.MlaUvBwdRefIdeal.sig) → Buf (Elt Ideal) ℓ) (g : Dev Cert.MlaUvBwdRefIdeal.nD → PrngReg), Pre_MlaUvBwdRefIdeal m →
    θ_run (Cert.MlaUvBwdRefIdeal.defs (F := Ideal)) (onTc (τ := Cert.MlaUvBwdRefIdeal.τ) (Cert.MlaUvBwdRefIdeal.main (F := Ideal))) ⟨m, fun _ => 0, g⟩ (fun r => (∀ c : Dev Cert.MlaUvBwdRefIdeal.nD,
      r.2.mem ((c.tc : Thread Cert.MlaUvBwdRefIdeal.nD Cert.MlaUvBwdRefIdeal.τ).loc Cert.MlaUvBwdRefIdeal.main_arg0) = m ((c.tc : Thread Cert.MlaUvBwdRefIdeal.nD Cert.MlaUvBwdRefIdeal.τ).loc Cert.MlaUvBwdRefIdeal.main_arg0)
      ∧ r.2.mem ((c.tc : Thread Cert.MlaUvBwdRefIdeal.nD Cert.MlaUvBwdRefIdeal.τ).loc Cert.MlaUvBwdRefIdeal.main_arg1) = m ((c.tc : Thread Cert.MlaUvBwdRefIdeal.nD Cert.MlaUvBwdRefIdeal.τ).loc Cert.MlaUvBwdRefIdeal.main_arg1)
      ∧ r.2.mem ((c.tc : Thread Cert.MlaUvBwdRefIdeal.nD Cert.MlaUvBwdRefIdeal.τ).loc Cert.MlaUvBwdRefIdeal.main_arg2) = m ((c.tc : Thread Cert.MlaUvBwdRefIdeal.nD Cert.MlaUvBwdRefIdeal.τ).loc Cert.MlaUvBwdRefIdeal.main_arg2))
      ∧ r.2.sem = fun _ => 0)

def quiescent_MlaDwUq [hMlaDwUq : Cert.MlaDwUq.Facts] : Prop :=
  ∀ (m : (ℓ : Loc Cert.MlaDwUq.nD Cert.MlaDwUq.τ Cert.MlaDwUq.sig) → Buf (Elt Bits) ℓ) (g : Dev Cert.MlaDwUq.nD → PrngReg), Pre_MlaDwUq m →
    θ_run (Cert.MlaDwUq.defs (F := Bits)) (onTc (τ := Cert.MlaDwUq.τ) (Cert.MlaDwUq.main (F := Bits))) ⟨m, fun _ => 0, g⟩ (fun r => (∀ c : Dev Cert.MlaDwUq.nD,
      r.2.mem ((c.tc : Thread Cert.MlaDwUq.nD Cert.MlaDwUq.τ).loc Cert.MlaDwUq.main_arg0) = m ((c.tc : Thread Cert.MlaDwUq.nD Cert.MlaDwUq.τ).loc Cert.MlaDwUq.main_arg0)
      ∧ r.2.mem ((c.tc : Thread Cert.MlaDwUq.nD Cert.MlaDwUq.τ).loc Cert.MlaDwUq.main_arg1) = m ((c.tc : Thread Cert.MlaDwUq.nD Cert.MlaDwUq.τ).loc Cert.MlaDwUq.main_arg1))
      ∧ r.2.sem = fun _ => 0)

def quiescent_MlaDwUqIdeal [hMlaDwUqIdeal : Cert.MlaDwUqIdeal.Facts] : Prop :=
  ∀ (m : (ℓ : Loc Cert.MlaDwUqIdeal.nD Cert.MlaDwUqIdeal.τ Cert.MlaDwUqIdeal.sig) → Buf (Elt Ideal) ℓ) (g : Dev Cert.MlaDwUqIdeal.nD → PrngReg), Pre_MlaDwUqIdeal m →
    θ_run (Cert.MlaDwUqIdeal.defs (F := Ideal)) (onTc (τ := Cert.MlaDwUqIdeal.τ) (Cert.MlaDwUqIdeal.main (F := Ideal))) ⟨m, fun _ => 0, g⟩ (fun r => (∀ c : Dev Cert.MlaDwUqIdeal.nD,
      r.2.mem ((c.tc : Thread Cert.MlaDwUqIdeal.nD Cert.MlaDwUqIdeal.τ).loc Cert.MlaDwUqIdeal.main_arg0) = m ((c.tc : Thread Cert.MlaDwUqIdeal.nD Cert.MlaDwUqIdeal.τ).loc Cert.MlaDwUqIdeal.main_arg0)
      ∧ r.2.mem ((c.tc : Thread Cert.MlaDwUqIdeal.nD Cert.MlaDwUqIdeal.τ).loc Cert.MlaDwUqIdeal.main_arg1) = m ((c.tc : Thread Cert.MlaDwUqIdeal.nD Cert.MlaDwUqIdeal.τ).loc Cert.MlaDwUqIdeal.main_arg1))
      ∧ r.2.sem = fun _ => 0)

def quiescent_MlaDwUqRefIdeal [hMlaDwUqRefIdeal : Cert.MlaDwUqRefIdeal.Facts] : Prop :=
  ∀ (m : (ℓ : Loc Cert.MlaDwUqRefIdeal.nD Cert.MlaDwUqRefIdeal.τ Cert.MlaDwUqRefIdeal.sig) → Buf (Elt Ideal) ℓ) (g : Dev Cert.MlaDwUqRefIdeal.nD → PrngReg), Pre_MlaDwUqRefIdeal m →
    θ_run (Cert.MlaDwUqRefIdeal.defs (F := Ideal)) (onTc (τ := Cert.MlaDwUqRefIdeal.τ) (Cert.MlaDwUqRefIdeal.main (F := Ideal))) ⟨m, fun _ => 0, g⟩ (fun r => (∀ c : Dev Cert.MlaDwUqRefIdeal.nD,
      r.2.mem ((c.tc : Thread Cert.MlaDwUqRefIdeal.nD Cert.MlaDwUqRefIdeal.τ).loc Cert.MlaDwUqRefIdeal.main_arg0) = m ((c.tc : Thread Cert.MlaDwUqRefIdeal.nD Cert.MlaDwUqRefIdeal.τ).loc Cert.MlaDwUqRefIdeal.main_arg0)
      ∧ r.2.mem ((c.tc : Thread Cert.MlaDwUqRefIdeal.nD Cert.MlaDwUqRefIdeal.τ).loc Cert.MlaDwUqRefIdeal.main_arg1) = m ((c.tc : Thread Cert.MlaDwUqRefIdeal.nD Cert.MlaDwUqRefIdeal.τ).loc Cert.MlaDwUqRefIdeal.main_arg1))
      ∧ r.2.sem = fun _ => 0)

def quiescent_MlaUqBwd [hMlaUqBwd : Cert.MlaUqBwd.Facts] : Prop :=
  ∀ (m : (ℓ : Loc Cert.MlaUqBwd.nD Cert.MlaUqBwd.τ Cert.MlaUqBwd.sig) → Buf (Elt Bits) ℓ) (g : Dev Cert.MlaUqBwd.nD → PrngReg), Pre_MlaUqBwd m →
    θ_run (Cert.MlaUqBwd.defs (F := Bits)) (onTc (τ := Cert.MlaUqBwd.τ) (Cert.MlaUqBwd.main (F := Bits))) ⟨m, fun _ => 0, g⟩ (fun r => (∀ c : Dev Cert.MlaUqBwd.nD,
      r.2.mem ((c.tc : Thread Cert.MlaUqBwd.nD Cert.MlaUqBwd.τ).loc Cert.MlaUqBwd.main_arg0) = m ((c.tc : Thread Cert.MlaUqBwd.nD Cert.MlaUqBwd.τ).loc Cert.MlaUqBwd.main_arg0)
      ∧ r.2.mem ((c.tc : Thread Cert.MlaUqBwd.nD Cert.MlaUqBwd.τ).loc Cert.MlaUqBwd.main_arg1) = m ((c.tc : Thread Cert.MlaUqBwd.nD Cert.MlaUqBwd.τ).loc Cert.MlaUqBwd.main_arg1))
      ∧ r.2.sem = fun _ => 0)

def quiescent_MlaUqBwdIdeal [hMlaUqBwdIdeal : Cert.MlaUqBwdIdeal.Facts] : Prop :=
  ∀ (m : (ℓ : Loc Cert.MlaUqBwdIdeal.nD Cert.MlaUqBwdIdeal.τ Cert.MlaUqBwdIdeal.sig) → Buf (Elt Ideal) ℓ) (g : Dev Cert.MlaUqBwdIdeal.nD → PrngReg), Pre_MlaUqBwdIdeal m →
    θ_run (Cert.MlaUqBwdIdeal.defs (F := Ideal)) (onTc (τ := Cert.MlaUqBwdIdeal.τ) (Cert.MlaUqBwdIdeal.main (F := Ideal))) ⟨m, fun _ => 0, g⟩ (fun r => (∀ c : Dev Cert.MlaUqBwdIdeal.nD,
      r.2.mem ((c.tc : Thread Cert.MlaUqBwdIdeal.nD Cert.MlaUqBwdIdeal.τ).loc Cert.MlaUqBwdIdeal.main_arg0) = m ((c.tc : Thread Cert.MlaUqBwdIdeal.nD Cert.MlaUqBwdIdeal.τ).loc Cert.MlaUqBwdIdeal.main_arg0)
      ∧ r.2.mem ((c.tc : Thread Cert.MlaUqBwdIdeal.nD Cert.MlaUqBwdIdeal.τ).loc Cert.MlaUqBwdIdeal.main_arg1) = m ((c.tc : Thread Cert.MlaUqBwdIdeal.nD Cert.MlaUqBwdIdeal.τ).loc Cert.MlaUqBwdIdeal.main_arg1))
      ∧ r.2.sem = fun _ => 0)

def quiescent_MlaUqBwdRefIdeal [hMlaUqBwdRefIdeal : Cert.MlaUqBwdRefIdeal.Facts] : Prop :=
  ∀ (m : (ℓ : Loc Cert.MlaUqBwdRefIdeal.nD Cert.MlaUqBwdRefIdeal.τ Cert.MlaUqBwdRefIdeal.sig) → Buf (Elt Ideal) ℓ) (g : Dev Cert.MlaUqBwdRefIdeal.nD → PrngReg), Pre_MlaUqBwdRefIdeal m →
    θ_run (Cert.MlaUqBwdRefIdeal.defs (F := Ideal)) (onTc (τ := Cert.MlaUqBwdRefIdeal.τ) (Cert.MlaUqBwdRefIdeal.main (F := Ideal))) ⟨m, fun _ => 0, g⟩ (fun r => (∀ c : Dev Cert.MlaUqBwdRefIdeal.nD,
      r.2.mem ((c.tc : Thread Cert.MlaUqBwdRefIdeal.nD Cert.MlaUqBwdRefIdeal.τ).loc Cert.MlaUqBwdRefIdeal.main_arg0) = m ((c.tc : Thread Cert.MlaUqBwdRefIdeal.nD Cert.MlaUqBwdRefIdeal.τ).loc Cert.MlaUqBwdRefIdeal.main_arg0)
      ∧ r.2.mem ((c.tc : Thread Cert.MlaUqBwdRefIdeal.nD Cert.MlaUqBwdRefIdeal.τ).loc Cert.MlaUqBwdRefIdeal.main_arg1) = m ((c.tc : Thread Cert.MlaUqBwdRefIdeal.nD Cert.MlaUqBwdRefIdeal.τ).loc Cert.MlaUqBwdRefIdeal.main_arg1))
      ∧ r.2.sem = fun _ => 0)

def quiescent_CfNorm [hCfNorm : Cert.CfNorm.Facts] : Prop :=
  ∀ (m : (ℓ : Loc Cert.CfNorm.nD Cert.CfNorm.τ Cert.CfNorm.sig) → Buf (Elt Bits) ℓ) (g : Dev Cert.CfNorm.nD → PrngReg), Pre_CfNorm m →
    θ_run (Cert.CfNorm.defs (F := Bits)) (onTc (τ := Cert.CfNorm.τ) (Cert.CfNorm.main (F := Bits))) ⟨m, fun _ => 0, g⟩ (fun r => (∀ c : Dev Cert.CfNorm.nD,
      r.2.mem ((c.tc : Thread Cert.CfNorm.nD Cert.CfNorm.τ).loc Cert.CfNorm.main_arg0) = m ((c.tc : Thread Cert.CfNorm.nD Cert.CfNorm.τ).loc Cert.CfNorm.main_arg0)
      ∧ r.2.mem ((c.tc : Thread Cert.CfNorm.nD Cert.CfNorm.τ).loc Cert.CfNorm.main_arg1) = m ((c.tc : Thread Cert.CfNorm.nD Cert.CfNorm.τ).loc Cert.CfNorm.main_arg1)
      ∧ r.2.mem ((c.tc : Thread Cert.CfNorm.nD Cert.CfNorm.τ).loc Cert.CfNorm.main_arg2) = m ((c.tc : Thread Cert.CfNorm.nD Cert.CfNorm.τ).loc Cert.CfNorm.main_arg2))
      ∧ r.2.sem = fun _ => 0)

def quiescent_CfNormIdeal [hCfNormIdeal : Cert.CfNormIdeal.Facts] : Prop :=
  ∀ (m : (ℓ : Loc Cert.CfNormIdeal.nD Cert.CfNormIdeal.τ Cert.CfNormIdeal.sig) → Buf (Elt Ideal) ℓ) (g : Dev Cert.CfNormIdeal.nD → PrngReg), Pre_CfNormIdeal m →
    θ_run (Cert.CfNormIdeal.defs (F := Ideal)) (onTc (τ := Cert.CfNormIdeal.τ) (Cert.CfNormIdeal.main (F := Ideal))) ⟨m, fun _ => 0, g⟩ (fun r => (∀ c : Dev Cert.CfNormIdeal.nD,
      r.2.mem ((c.tc : Thread Cert.CfNormIdeal.nD Cert.CfNormIdeal.τ).loc Cert.CfNormIdeal.main_arg0) = m ((c.tc : Thread Cert.CfNormIdeal.nD Cert.CfNormIdeal.τ).loc Cert.CfNormIdeal.main_arg0)
      ∧ r.2.mem ((c.tc : Thread Cert.CfNormIdeal.nD Cert.CfNormIdeal.τ).loc Cert.CfNormIdeal.main_arg1) = m ((c.tc : Thread Cert.CfNormIdeal.nD Cert.CfNormIdeal.τ).loc Cert.CfNormIdeal.main_arg1)
      ∧ r.2.mem ((c.tc : Thread Cert.CfNormIdeal.nD Cert.CfNormIdeal.τ).loc Cert.CfNormIdeal.main_arg2) = m ((c.tc : Thread Cert.CfNormIdeal.nD Cert.CfNormIdeal.τ).loc Cert.CfNormIdeal.main_arg2))
      ∧ r.2.sem = fun _ => 0)

def quiescent_CfNormRefIdeal [hCfNormRefIdeal : Cert.CfNormRefIdeal.Facts] : Prop :=
  ∀ (m : (ℓ : Loc Cert.CfNormRefIdeal.nD Cert.CfNormRefIdeal.τ Cert.CfNormRefIdeal.sig) → Buf (Elt Ideal) ℓ) (g : Dev Cert.CfNormRefIdeal.nD → PrngReg), Pre_CfNormRefIdeal m →
    θ_run (Cert.CfNormRefIdeal.defs (F := Ideal)) (onTc (τ := Cert.CfNormRefIdeal.τ) (Cert.CfNormRefIdeal.main (F := Ideal))) ⟨m, fun _ => 0, g⟩ (fun r => (∀ c : Dev Cert.CfNormRefIdeal.nD,
      r.2.mem ((c.tc : Thread Cert.CfNormRefIdeal.nD Cert.CfNormRefIdeal.τ).loc Cert.CfNormRefIdeal.main_arg0) = m ((c.tc : Thread Cert.CfNormRefIdeal.nD Cert.CfNormRefIdeal.τ).loc Cert.CfNormRefIdeal.main_arg0)
      ∧ r.2.mem ((c.tc : Thread Cert.CfNormRefIdeal.nD Cert.CfNormRefIdeal.τ).loc Cert.CfNormRefIdeal.main_arg1) = m ((c.tc : Thread Cert.CfNormRefIdeal.nD Cert.CfNormRefIdeal.τ).loc Cert.CfNormRefIdeal.main_arg1)
      ∧ r.2.mem ((c.tc : Thread Cert.CfNormRefIdeal.nD Cert.CfNormRefIdeal.τ).loc Cert.CfNormRefIdeal.main_arg2) = m ((c.tc : Thread Cert.CfNormRefIdeal.nD Cert.CfNormRefIdeal.τ).loc Cert.CfNormRefIdeal.main_arg2))
      ∧ r.2.sem = fun _ => 0)

def quiescent_MlaQueries [hMlaQueries : Cert.MlaQueries.Facts] : Prop :=
  ∀ (m : (ℓ : Loc Cert.MlaQueries.nD Cert.MlaQueries.τ Cert.MlaQueries.sig) → Buf (Elt Bits) ℓ) (g : Dev Cert.MlaQueries.nD → PrngReg), Pre_MlaQueries m →
    θ_run (Cert.MlaQueries.defs (F := Bits)) (onTc (τ := Cert.MlaQueries.τ) (Cert.MlaQueries.main (F := Bits))) ⟨m, fun _ => 0, g⟩ (fun r => (∀ c : Dev Cert.MlaQueries.nD,
      r.2.mem ((c.tc : Thread Cert.MlaQueries.nD Cert.MlaQueries.τ).loc Cert.MlaQueries.main_arg0) = m ((c.tc : Thread Cert.MlaQueries.nD Cert.MlaQueries.τ).loc Cert.MlaQueries.main_arg0)
      ∧ r.2.mem ((c.tc : Thread Cert.MlaQueries.nD Cert.MlaQueries.τ).loc Cert.MlaQueries.main_arg1) = m ((c.tc : Thread Cert.MlaQueries.nD Cert.MlaQueries.τ).loc Cert.MlaQueries.main_arg1))
      ∧ r.2.sem = fun _ => 0)

def quiescent_MlaQueriesIdeal [hMlaQueriesIdeal : Cert.MlaQueriesIdeal.Facts] : Prop :=
  ∀ (m : (ℓ : Loc Cert.MlaQueriesIdeal.nD Cert.MlaQueriesIdeal.τ Cert.MlaQueriesIdeal.sig) → Buf (Elt Ideal) ℓ) (g : Dev Cert.MlaQueriesIdeal.nD → PrngReg), Pre_MlaQueriesIdeal m →
    θ_run (Cert.MlaQueriesIdeal.defs (F := Ideal)) (onTc (τ := Cert.MlaQueriesIdeal.τ) (Cert.MlaQueriesIdeal.main (F := Ideal))) ⟨m, fun _ => 0, g⟩ (fun r => (∀ c : Dev Cert.MlaQueriesIdeal.nD,
      r.2.mem ((c.tc : Thread Cert.MlaQueriesIdeal.nD Cert.MlaQueriesIdeal.τ).loc Cert.MlaQueriesIdeal.main_arg0) = m ((c.tc : Thread Cert.MlaQueriesIdeal.nD Cert.MlaQueriesIdeal.τ).loc Cert.MlaQueriesIdeal.main_arg0)
      ∧ r.2.mem ((c.tc : Thread Cert.MlaQueriesIdeal.nD Cert.MlaQueriesIdeal.τ).loc Cert.MlaQueriesIdeal.main_arg1) = m ((c.tc : Thread Cert.MlaQueriesIdeal.nD Cert.MlaQueriesIdeal.τ).loc Cert.MlaQueriesIdeal.main_arg1))
      ∧ r.2.sem = fun _ => 0)

def quiescent_MlaQueriesRefIdeal [hMlaQueriesRefIdeal : Cert.MlaQueriesRefIdeal.Facts] : Prop :=
  ∀ (m : (ℓ : Loc Cert.MlaQueriesRefIdeal.nD Cert.MlaQueriesRefIdeal.τ Cert.MlaQueriesRefIdeal.sig) → Buf (Elt Ideal) ℓ) (g : Dev Cert.MlaQueriesRefIdeal.nD → PrngReg), Pre_MlaQueriesRefIdeal m →
    θ_run (Cert.MlaQueriesRefIdeal.defs (F := Ideal)) (onTc (τ := Cert.MlaQueriesRefIdeal.τ) (Cert.MlaQueriesRefIdeal.main (F := Ideal))) ⟨m, fun _ => 0, g⟩ (fun r => (∀ c : Dev Cert.MlaQueriesRefIdeal.nD,
      r.2.mem ((c.tc : Thread Cert.MlaQueriesRefIdeal.nD Cert.MlaQueriesRefIdeal.τ).loc Cert.MlaQueriesRefIdeal.main_arg0) = m ((c.tc : Thread Cert.MlaQueriesRefIdeal.nD Cert.MlaQueriesRefIdeal.τ).loc Cert.MlaQueriesRefIdeal.main_arg0)
      ∧ r.2.mem ((c.tc : Thread Cert.MlaQueriesRefIdeal.nD Cert.MlaQueriesRefIdeal.τ).loc Cert.MlaQueriesRefIdeal.main_arg1) = m ((c.tc : Thread Cert.MlaQueriesRefIdeal.nD Cert.MlaQueriesRefIdeal.τ).loc Cert.MlaQueriesRefIdeal.main_arg1))
      ∧ r.2.sem = fun _ => 0)

def quiescent_MlaKeys [hMlaKeys : Cert.MlaKeys.Facts] : Prop :=
  ∀ (m : (ℓ : Loc Cert.MlaKeys.nD Cert.MlaKeys.τ Cert.MlaKeys.sig) → Buf (Elt Bits) ℓ) (g : Dev Cert.MlaKeys.nD → PrngReg), Pre_MlaKeys m →
    θ_run (Cert.MlaKeys.defs (F := Bits)) (onTc (τ := Cert.MlaKeys.τ) (Cert.MlaKeys.main (F := Bits))) ⟨m, fun _ => 0, g⟩ (fun r => (∀ c : Dev Cert.MlaKeys.nD,
      r.2.mem ((c.tc : Thread Cert.MlaKeys.nD Cert.MlaKeys.τ).loc Cert.MlaKeys.main_arg0) = m ((c.tc : Thread Cert.MlaKeys.nD Cert.MlaKeys.τ).loc Cert.MlaKeys.main_arg0)
      ∧ r.2.mem ((c.tc : Thread Cert.MlaKeys.nD Cert.MlaKeys.τ).loc Cert.MlaKeys.main_arg1) = m ((c.tc : Thread Cert.MlaKeys.nD Cert.MlaKeys.τ).loc Cert.MlaKeys.main_arg1)
      ∧ r.2.mem ((c.tc : Thread Cert.MlaKeys.nD Cert.MlaKeys.τ).loc Cert.MlaKeys.main_arg2) = m ((c.tc : Thread Cert.MlaKeys.nD Cert.MlaKeys.τ).loc Cert.MlaKeys.main_arg2))
      ∧ r.2.sem = fun _ => 0)

def quiescent_MlaKeysIdeal [hMlaKeysIdeal : Cert.MlaKeysIdeal.Facts] : Prop :=
  ∀ (m : (ℓ : Loc Cert.MlaKeysIdeal.nD Cert.MlaKeysIdeal.τ Cert.MlaKeysIdeal.sig) → Buf (Elt Ideal) ℓ) (g : Dev Cert.MlaKeysIdeal.nD → PrngReg), Pre_MlaKeysIdeal m →
    θ_run (Cert.MlaKeysIdeal.defs (F := Ideal)) (onTc (τ := Cert.MlaKeysIdeal.τ) (Cert.MlaKeysIdeal.main (F := Ideal))) ⟨m, fun _ => 0, g⟩ (fun r => (∀ c : Dev Cert.MlaKeysIdeal.nD,
      r.2.mem ((c.tc : Thread Cert.MlaKeysIdeal.nD Cert.MlaKeysIdeal.τ).loc Cert.MlaKeysIdeal.main_arg0) = m ((c.tc : Thread Cert.MlaKeysIdeal.nD Cert.MlaKeysIdeal.τ).loc Cert.MlaKeysIdeal.main_arg0)
      ∧ r.2.mem ((c.tc : Thread Cert.MlaKeysIdeal.nD Cert.MlaKeysIdeal.τ).loc Cert.MlaKeysIdeal.main_arg1) = m ((c.tc : Thread Cert.MlaKeysIdeal.nD Cert.MlaKeysIdeal.τ).loc Cert.MlaKeysIdeal.main_arg1)
      ∧ r.2.mem ((c.tc : Thread Cert.MlaKeysIdeal.nD Cert.MlaKeysIdeal.τ).loc Cert.MlaKeysIdeal.main_arg2) = m ((c.tc : Thread Cert.MlaKeysIdeal.nD Cert.MlaKeysIdeal.τ).loc Cert.MlaKeysIdeal.main_arg2))
      ∧ r.2.sem = fun _ => 0)

def quiescent_MlaKeysRefIdeal [hMlaKeysRefIdeal : Cert.MlaKeysRefIdeal.Facts] : Prop :=
  ∀ (m : (ℓ : Loc Cert.MlaKeysRefIdeal.nD Cert.MlaKeysRefIdeal.τ Cert.MlaKeysRefIdeal.sig) → Buf (Elt Ideal) ℓ) (g : Dev Cert.MlaKeysRefIdeal.nD → PrngReg), Pre_MlaKeysRefIdeal m →
    θ_run (Cert.MlaKeysRefIdeal.defs (F := Ideal)) (onTc (τ := Cert.MlaKeysRefIdeal.τ) (Cert.MlaKeysRefIdeal.main (F := Ideal))) ⟨m, fun _ => 0, g⟩ (fun r => (∀ c : Dev Cert.MlaKeysRefIdeal.nD,
      r.2.mem ((c.tc : Thread Cert.MlaKeysRefIdeal.nD Cert.MlaKeysRefIdeal.τ).loc Cert.MlaKeysRefIdeal.main_arg0) = m ((c.tc : Thread Cert.MlaKeysRefIdeal.nD Cert.MlaKeysRefIdeal.τ).loc Cert.MlaKeysRefIdeal.main_arg0)
      ∧ r.2.mem ((c.tc : Thread Cert.MlaKeysRefIdeal.nD Cert.MlaKeysRefIdeal.τ).loc Cert.MlaKeysRefIdeal.main_arg1) = m ((c.tc : Thread Cert.MlaKeysRefIdeal.nD Cert.MlaKeysRefIdeal.τ).loc Cert.MlaKeysRefIdeal.main_arg1)
      ∧ r.2.mem ((c.tc : Thread Cert.MlaKeysRefIdeal.nD Cert.MlaKeysRefIdeal.τ).loc Cert.MlaKeysRefIdeal.main_arg2) = m ((c.tc : Thread Cert.MlaKeysRefIdeal.nD Cert.MlaKeysRefIdeal.τ).loc Cert.MlaKeysRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v1) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDownLn_MlpDownLnIdeal : Prop :=
  True

def algebraic_MlpDownLnIdeal_MlpDownLnRefIdeal [hMlpDownLnIdeal : Cert.MlpDownLnIdeal.Facts] [hMlpDownLnRefIdeal : Cert.MlpDownLnRefIdeal.Facts] : Prop :=
  ∀ (m : (ℓ : Loc Cert.MlpDownLnIdeal.nD Cert.MlpDownLnIdeal.τ Cert.MlpDownLnIdeal.sig) → Buf (Elt Ideal) ℓ) (g : Dev Cert.MlpDownLnIdeal.nD → PrngReg)
    (m' : (ℓ : Loc Cert.MlpDownLnRefIdeal.nD Cert.MlpDownLnRefIdeal.τ Cert.MlpDownLnRefIdeal.sig) → Buf (Elt Ideal) ℓ) (g' : Dev Cert.MlpDownLnRefIdeal.nD → PrngReg), Pre_MlpDownLnIdeal m →
    (∀ c : Dev Cert.MlpDownLnIdeal.nD,
      m' ((c.tc : Thread Cert.MlpDownLnRefIdeal.nD Cert.MlpDownLnRefIdeal.τ).loc Cert.MlpDownLnRefIdeal.main_arg0) = m ((c.tc : Thread Cert.MlpDownLnIdeal.nD Cert.MlpDownLnIdeal.τ).loc Cert.MlpDownLnIdeal.main_arg0)
      ∧ m' ((c.tc : Thread Cert.MlpDownLnRefIdeal.nD Cert.MlpDownLnRefIdeal.τ).loc Cert.MlpDownLnRefIdeal.main_arg1) = m ((c.tc : Thread Cert.MlpDownLnIdeal.nD Cert.MlpDownLnIdeal.τ).loc Cert.MlpDownLnIdeal.main_arg1)
      ∧ m' ((c.tc : Thread Cert.MlpDownLnRefIdeal.nD Cert.MlpDownLnRefIdeal.τ).loc Cert.MlpDownLnRefIdeal.main_arg2) = m ((c.tc : Thread Cert.MlpDownLnIdeal.nD Cert.MlpDownLnIdeal.τ).loc Cert.MlpDownLnIdeal.main_arg2)
      ∧ m' ((c.tc : Thread Cert.MlpDownLnRefIdeal.nD Cert.MlpDownLnRefIdeal.τ).loc Cert.MlpDownLnRefIdeal.main_arg3) = m ((c.tc : Thread Cert.MlpDownLnIdeal.nD Cert.MlpDownLnIdeal.τ).loc Cert.MlpDownLnIdeal.main_arg3)
      ∧ m' ((c.tc : Thread Cert.MlpDownLnRefIdeal.nD Cert.MlpDownLnRefIdeal.τ).loc Cert.MlpDownLnRefIdeal.main_arg4) = m ((c.tc : Thread Cert.MlpDownLnIdeal.nD Cert.MlpDownLnIdeal.τ).loc Cert.MlpDownLnIdeal.main_arg4)) →
    ∃ (v0 : (c : Dev Cert.MlpDownLnIdeal.nD) → Buf (Elt Ideal) ((c.tc : Thread Cert.MlpDownLnIdeal.nD Cert.MlpDownLnIdeal.τ).loc Cert.MlpDownLnIdeal.main_v3_0)) (v1 : (c : Dev Cert.MlpDownLnIdeal.nD) → Buf (Elt Ideal) ((c.tc : Thread Cert.MlpDownLnIdeal.nD Cert.MlpDownLnIdeal.τ).loc Cert.MlpDownLnIdeal.main_v3_1)) (v2 : (c : Dev Cert.MlpDownLnIdeal.nD) → Buf (Elt Ideal) ((c.tc : Thread Cert.MlpDownLnIdeal.nD Cert.MlpDownLnIdeal.τ).loc Cert.MlpDownLnIdeal.main_v3_2)) (v3 : (c : Dev Cert.MlpDownLnIdeal.nD) → Buf (Elt Ideal) ((c.tc : Thread Cert.MlpDownLnIdeal.nD Cert.MlpDownLnIdeal.τ).loc Cert.MlpDownLnIdeal.main_v3_3)),
      θ_run (Cert.MlpDownLnIdeal.defs (F := Ideal)) (onTc (τ := Cert.MlpDownLnIdeal.τ) (Cert.MlpDownLnIdeal.main (F := Ideal))) ⟨m, fun _ => 0, g⟩ (fun r => ∀ c : Dev Cert.MlpDownLnIdeal.nD,
          r.2.mem ((c.tc : Thread Cert.MlpDownLnIdeal.nD Cert.MlpDownLnIdeal.τ).loc Cert.MlpDownLnIdeal.main_v3_0) = v0 c
          ∧ r.2.mem ((c.tc : Thread Cert.MlpDownLnIdeal.nD Cert.MlpDownLnIdeal.τ).loc Cert.MlpDownLnIdeal.main_v3_1) = v1 c
          ∧ r.2.mem ((c.tc : Thread Cert.MlpDownLnIdeal.nD Cert.MlpDownLnIdeal.τ).loc Cert.MlpDownLnIdeal.main_v3_2) = v2 c
          ∧ r.2.mem ((c.tc : Thread Cert.MlpDownLnIdeal.nD Cert.MlpDownLnIdeal.τ).loc Cert.MlpDownLnIdeal.main_v3_3) = v3 c
          ∧ r.2.mem ((c.tc : Thread Cert.MlpDownLnIdeal.nD Cert.MlpDownLnIdeal.τ).loc Cert.MlpDownLnIdeal.main_arg0) = m ((c.tc : Thread Cert.MlpDownLnIdeal.nD Cert.MlpDownLnIdeal.τ).loc Cert.MlpDownLnIdeal.main_arg0)
          ∧ r.2.mem ((c.tc : Thread Cert.MlpDownLnIdeal.nD Cert.MlpDownLnIdeal.τ).loc Cert.MlpDownLnIdeal.main_arg1) = m ((c.tc : Thread Cert.MlpDownLnIdeal.nD Cert.MlpDownLnIdeal.τ).loc Cert.MlpDownLnIdeal.main_arg1)
          ∧ r.2.mem ((c.tc : Thread Cert.MlpDownLnIdeal.nD Cert.MlpDownLnIdeal.τ).loc Cert.MlpDownLnIdeal.main_arg2) = m ((c.tc : Thread Cert.MlpDownLnIdeal.nD Cert.MlpDownLnIdeal.τ).loc Cert.MlpDownLnIdeal.main_arg2)
          ∧ r.2.mem ((c.tc : Thread Cert.MlpDownLnIdeal.nD Cert.MlpDownLnIdeal.τ).loc Cert.MlpDownLnIdeal.main_arg3) = m ((c.tc : Thread Cert.MlpDownLnIdeal.nD Cert.MlpDownLnIdeal.τ).loc Cert.MlpDownLnIdeal.main_arg3)
          ∧ r.2.mem ((c.tc : Thread Cert.MlpDownLnIdeal.nD Cert.MlpDownLnIdeal.τ).loc Cert.MlpDownLnIdeal.main_arg4) = m ((c.tc : Thread Cert.MlpDownLnIdeal.nD Cert.MlpDownLnIdeal.τ).loc Cert.MlpDownLnIdeal.main_arg4))
      ∧ θ_run (Cert.MlpDownLnRefIdeal.defs (F := Ideal)) (onTc (τ := Cert.MlpDownLnRefIdeal.τ) (Cert.MlpDownLnRefIdeal.main (F := Ideal))) ⟨m', fun _ => 0, g'⟩ (fun r => ∀ c : Dev Cert.MlpDownLnRefIdeal.nD,
          r.2.mem ((c.tc : Thread Cert.MlpDownLnRefIdeal.nD Cert.MlpDownLnRefIdeal.τ).loc Cert.MlpDownLnRefIdeal.main_v28) = v0 c
          ∧ r.2.mem ((c.tc : Thread Cert.MlpDownLnRefIdeal.nD Cert.MlpDownLnRefIdeal.τ).loc Cert.MlpDownLnRefIdeal.main_v43) = v1 c
          ∧ r.2.mem ((c.tc : Thread Cert.MlpDownLnRefIdeal.nD Cert.MlpDownLnRefIdeal.τ).loc Cert.MlpDownLnRefIdeal.main_v47) = v2 c
          ∧ r.2.mem ((c.tc : Thread Cert.MlpDownLnRefIdeal.nD Cert.MlpDownLnRefIdeal.τ).loc Cert.MlpDownLnRefIdeal.main_v42) = v3 c
          ∧ r.2.mem ((c.tc : Thread Cert.MlpDownLnRefIdeal.nD Cert.MlpDownLnRefIdeal.τ).loc Cert.MlpDownLnRefIdeal.main_arg0) = m' ((c.tc : Thread Cert.MlpDownLnRefIdeal.nD Cert.MlpDownLnRefIdeal.τ).loc Cert.MlpDownLnRefIdeal.main_arg0)
          ∧ r.2.mem ((c.tc : Thread Cert.MlpDownLnRefIdeal.nD Cert.MlpDownLnRefIdeal.τ).loc Cert.MlpDownLnRefIdeal.main_arg1) = m' ((c.tc : Thread Cert.MlpDownLnRefIdeal.nD Cert.MlpDownLnRefIdeal.τ).loc Cert.MlpDownLnRefIdeal.main_arg1)
          ∧ r.2.mem ((c.tc : Thread Cert.MlpDownLnRefIdeal.nD Cert.MlpDownLnRefIdeal.τ).loc Cert.MlpDownLnRefIdeal.main_arg2) = m' ((c.tc : Thread Cert.MlpDownLnRefIdeal.nD Cert.MlpDownLnRefIdeal.τ).loc Cert.MlpDownLnRefIdeal.main_arg2)
          ∧ r.2.mem ((c.tc : Thread Cert.MlpDownLnRefIdeal.nD Cert.MlpDownLnRefIdeal.τ).loc Cert.MlpDownLnRefIdeal.main_arg3) = m' ((c.tc : Thread Cert.MlpDownLnRefIdeal.nD Cert.MlpDownLnRefIdeal.τ).loc Cert.MlpDownLnRefIdeal.main_arg3)
          ∧ r.2.mem ((c.tc : Thread Cert.MlpDownLnRefIdeal.nD Cert.MlpDownLnRefIdeal.τ).loc Cert.MlpDownLnRefIdeal.main_arg4) = m' ((c.tc : Thread Cert.MlpDownLnRefIdeal.nD Cert.MlpDownLnRefIdeal.τ).loc Cert.MlpDownLnRefIdeal.main_arg4))

def preserves_MlpDownBwd_MlpDownBwdIdeal : Prop :=
  True

def algebraic_MlpDownBwdIdeal_MlpDownBwdRefIdeal [hMlpDownBwdIdeal : Cert.MlpDownBwdIdeal.Facts] [hMlpDownBwdRefIdeal : Cert.MlpDownBwdRefIdeal.Facts] : Prop :=
  ∀ (m : (ℓ : Loc Cert.MlpDownBwdIdeal.nD Cert.MlpDownBwdIdeal.τ Cert.MlpDownBwdIdeal.sig) → Buf (Elt Ideal) ℓ) (g : Dev Cert.MlpDownBwdIdeal.nD → PrngReg)
    (m' : (ℓ : Loc Cert.MlpDownBwdRefIdeal.nD Cert.MlpDownBwdRefIdeal.τ Cert.MlpDownBwdRefIdeal.sig) → Buf (Elt Ideal) ℓ) (g' : Dev Cert.MlpDownBwdRefIdeal.nD → PrngReg), Pre_MlpDownBwdIdeal m →
    (∀ c : Dev Cert.MlpDownBwdIdeal.nD,
      m' ((c.tc : Thread Cert.MlpDownBwdRefIdeal.nD Cert.MlpDownBwdRefIdeal.τ).loc Cert.MlpDownBwdRefIdeal.main_arg0) = m ((c.tc : Thread Cert.MlpDownBwdIdeal.nD Cert.MlpDownBwdIdeal.τ).loc Cert.MlpDownBwdIdeal.main_arg0)
      ∧ m' ((c.tc : Thread Cert.MlpDownBwdRefIdeal.nD Cert.MlpDownBwdRefIdeal.τ).loc Cert.MlpDownBwdRefIdeal.main_arg1) = m ((c.tc : Thread Cert.MlpDownBwdIdeal.nD Cert.MlpDownBwdIdeal.τ).loc Cert.MlpDownBwdIdeal.main_arg1)
      ∧ m' ((c.tc : Thread Cert.MlpDownBwdRefIdeal.nD Cert.MlpDownBwdRefIdeal.τ).loc Cert.MlpDownBwdRefIdeal.main_arg2) = m ((c.tc : Thread Cert.MlpDownBwdIdeal.nD Cert.MlpDownBwdIdeal.τ).loc Cert.MlpDownBwdIdeal.main_arg2)
      ∧ m' ((c.tc : Thread Cert.MlpDownBwdRefIdeal.nD Cert.MlpDownBwdRefIdeal.τ).loc Cert.MlpDownBwdRefIdeal.main_arg3) = m ((c.tc : Thread Cert.MlpDownBwdIdeal.nD Cert.MlpDownBwdIdeal.τ).loc Cert.MlpDownBwdIdeal.main_arg3)) →
    ∃ (v0 : (c : Dev Cert.MlpDownBwdIdeal.nD) → Buf (Elt Ideal) ((c.tc : Thread Cert.MlpDownBwdIdeal.nD Cert.MlpDownBwdIdeal.τ).loc Cert.MlpDownBwdIdeal.main_v4)),
      θ_run (Cert.MlpDownBwdIdeal.defs (F := Ideal)) (onTc (τ := Cert.MlpDownBwdIdeal.τ) (Cert.MlpDownBwdIdeal.main (F := Ideal))) ⟨m, fun _ => 0, g⟩ (fun r => ∀ c : Dev Cert.MlpDownBwdIdeal.nD,
          r.2.mem ((c.tc : Thread Cert.MlpDownBwdIdeal.nD Cert.MlpDownBwdIdeal.τ).loc Cert.MlpDownBwdIdeal.main_v4) = v0 c
          ∧ r.2.mem ((c.tc : Thread Cert.MlpDownBwdIdeal.nD Cert.MlpDownBwdIdeal.τ).loc Cert.MlpDownBwdIdeal.main_arg0) = m ((c.tc : Thread Cert.MlpDownBwdIdeal.nD Cert.MlpDownBwdIdeal.τ).loc Cert.MlpDownBwdIdeal.main_arg0)
          ∧ r.2.mem ((c.tc : Thread Cert.MlpDownBwdIdeal.nD Cert.MlpDownBwdIdeal.τ).loc Cert.MlpDownBwdIdeal.main_arg1) = m ((c.tc : Thread Cert.MlpDownBwdIdeal.nD Cert.MlpDownBwdIdeal.τ).loc Cert.MlpDownBwdIdeal.main_arg1)
          ∧ r.2.mem ((c.tc : Thread Cert.MlpDownBwdIdeal.nD Cert.MlpDownBwdIdeal.τ).loc Cert.MlpDownBwdIdeal.main_arg2) = m ((c.tc : Thread Cert.MlpDownBwdIdeal.nD Cert.MlpDownBwdIdeal.τ).loc Cert.MlpDownBwdIdeal.main_arg2)
          ∧ r.2.mem ((c.tc : Thread Cert.MlpDownBwdIdeal.nD Cert.MlpDownBwdIdeal.τ).loc Cert.MlpDownBwdIdeal.main_arg3) = m ((c.tc : Thread Cert.MlpDownBwdIdeal.nD Cert.MlpDownBwdIdeal.τ).loc Cert.MlpDownBwdIdeal.main_arg3))
      ∧ θ_run (Cert.MlpDownBwdRefIdeal.defs (F := Ideal)) (onTc (τ := Cert.MlpDownBwdRefIdeal.τ) (Cert.MlpDownBwdRefIdeal.main (F := Ideal))) ⟨m', fun _ => 0, g'⟩ (fun r => ∀ c : Dev Cert.MlpDownBwdRefIdeal.nD,
          r.2.mem ((c.tc : Thread Cert.MlpDownBwdRefIdeal.nD Cert.MlpDownBwdRefIdeal.τ).loc Cert.MlpDownBwdRefIdeal.main_v13) = v0 c
          ∧ r.2.mem ((c.tc : Thread Cert.MlpDownBwdRefIdeal.nD Cert.MlpDownBwdRefIdeal.τ).loc Cert.MlpDownBwdRefIdeal.main_arg0) = m' ((c.tc : Thread Cert.MlpDownBwdRefIdeal.nD Cert.MlpDownBwdRefIdeal.τ).loc Cert.MlpDownBwdRefIdeal.main_arg0)
          ∧ r.2.mem ((c.tc : Thread Cert.MlpDownBwdRefIdeal.nD Cert.MlpDownBwdRefIdeal.τ).loc Cert.MlpDownBwdRefIdeal.main_arg1) = m' ((c.tc : Thread Cert.MlpDownBwdRefIdeal.nD Cert.MlpDownBwdRefIdeal.τ).loc Cert.MlpDownBwdRefIdeal.main_arg1)
          ∧ r.2.mem ((c.tc : Thread Cert.MlpDownBwdRefIdeal.nD Cert.MlpDownBwdRefIdeal.τ).loc Cert.MlpDownBwdRefIdeal.main_arg2) = m' ((c.tc : Thread Cert.MlpDownBwdRefIdeal.nD Cert.MlpDownBwdRefIdeal.τ).loc Cert.MlpDownBwdRefIdeal.main_arg2)
          ∧ r.2.mem ((c.tc : Thread Cert.MlpDownBwdRefIdeal.nD Cert.MlpDownBwdRefIdeal.τ).loc Cert.MlpDownBwdRefIdeal.main_arg3) = m' ((c.tc : Thread Cert.MlpDownBwdRefIdeal.nD Cert.MlpDownBwdRefIdeal.τ).loc Cert.MlpDownBwdRefIdeal.main_arg3))

def preserves_MlpDw2_MlpDw2Ideal : Prop :=
  True

def algebraic_MlpDw2Ideal_MlpDw2RefIdeal [hMlpDw2Ideal : Cert.MlpDw2Ideal.Facts] [hMlpDw2RefIdeal : Cert.MlpDw2RefIdeal.Facts] : Prop :=
  ∀ (m : (ℓ : Loc Cert.MlpDw2Ideal.nD Cert.MlpDw2Ideal.τ Cert.MlpDw2Ideal.sig) → Buf (Elt Ideal) ℓ) (g : Dev Cert.MlpDw2Ideal.nD → PrngReg)
    (m' : (ℓ : Loc Cert.MlpDw2RefIdeal.nD Cert.MlpDw2RefIdeal.τ Cert.MlpDw2RefIdeal.sig) → Buf (Elt Ideal) ℓ) (g' : Dev Cert.MlpDw2RefIdeal.nD → PrngReg), Pre_MlpDw2Ideal m →
    (∀ c : Dev Cert.MlpDw2Ideal.nD,
      m' ((c.tc : Thread Cert.MlpDw2RefIdeal.nD Cert.MlpDw2RefIdeal.τ).loc Cert.MlpDw2RefIdeal.main_arg0) = m ((c.tc : Thread Cert.MlpDw2Ideal.nD Cert.MlpDw2Ideal.τ).loc Cert.MlpDw2Ideal.main_arg0)
      ∧ m' ((c.tc : Thread Cert.MlpDw2RefIdeal.nD Cert.MlpDw2RefIdeal.τ).loc Cert.MlpDw2RefIdeal.main_arg1) = m ((c.tc : Thread Cert.MlpDw2Ideal.nD Cert.MlpDw2Ideal.τ).loc Cert.MlpDw2Ideal.main_arg1)
      ∧ m' ((c.tc : Thread Cert.MlpDw2RefIdeal.nD Cert.MlpDw2RefIdeal.τ).loc Cert.MlpDw2RefIdeal.main_arg2) = m ((c.tc : Thread Cert.MlpDw2Ideal.nD Cert.MlpDw2Ideal.τ).loc Cert.MlpDw2Ideal.main_arg2)) →
    ∃ (v0 : (c : Dev Cert.MlpDw2Ideal.nD) → Buf (Elt Ideal) ((c.tc : Thread Cert.MlpDw2Ideal.nD Cert.MlpDw2Ideal.τ).loc Cert.MlpDw2Ideal.main_v3)),
      θ_run (Cert.MlpDw2Ideal.defs (F := Ideal)) (onTc (τ := Cert.MlpDw2Ideal.τ) (Cert.MlpDw2Ideal.main (F := Ideal))) ⟨m, fun _ => 0, g⟩ (fun r => ∀ c : Dev Cert.MlpDw2Ideal.nD,
          r.2.mem ((c.tc : Thread Cert.MlpDw2Ideal.nD Cert.MlpDw2Ideal.τ).loc Cert.MlpDw2Ideal.main_v3) = v0 c
          ∧ r.2.mem ((c.tc : Thread Cert.MlpDw2Ideal.nD Cert.MlpDw2Ideal.τ).loc Cert.MlpDw2Ideal.main_arg0) = m ((c.tc : Thread Cert.MlpDw2Ideal.nD Cert.MlpDw2Ideal.τ).loc Cert.MlpDw2Ideal.main_arg0)
          ∧ r.2.mem ((c.tc : Thread Cert.MlpDw2Ideal.nD Cert.MlpDw2Ideal.τ).loc Cert.MlpDw2Ideal.main_arg1) = m ((c.tc : Thread Cert.MlpDw2Ideal.nD Cert.MlpDw2Ideal.τ).loc Cert.MlpDw2Ideal.main_arg1)
          ∧ r.2.mem ((c.tc : Thread Cert.MlpDw2Ideal.nD Cert.MlpDw2Ideal.τ).loc Cert.MlpDw2Ideal.main_arg2) = m ((c.tc : Thread Cert.MlpDw2Ideal.nD Cert.MlpDw2Ideal.τ).loc Cert.MlpDw2Ideal.main_arg2))
      ∧ θ_run (Cert.MlpDw2RefIdeal.defs (F := Ideal)) (onTc (τ := Cert.MlpDw2RefIdeal.τ) (Cert.MlpDw2RefIdeal.main (F := Ideal))) ⟨m', fun _ => 0, g'⟩ (fun r => ∀ c : Dev Cert.MlpDw2RefIdeal.nD,
          r.2.mem ((c.tc : Thread Cert.MlpDw2RefIdeal.nD Cert.MlpDw2RefIdeal.τ).loc Cert.MlpDw2RefIdeal.main_v7) = v0 c
          ∧ r.2.mem ((c.tc : Thread Cert.MlpDw2RefIdeal.nD Cert.MlpDw2RefIdeal.τ).loc Cert.MlpDw2RefIdeal.main_arg0) = m' ((c.tc : Thread Cert.MlpDw2RefIdeal.nD Cert.MlpDw2RefIdeal.τ).loc Cert.MlpDw2RefIdeal.main_arg0)
          ∧ r.2.mem ((c.tc : Thread Cert.MlpDw2RefIdeal.nD Cert.MlpDw2RefIdeal.τ).loc Cert.MlpDw2RefIdeal.main_arg1) = m' ((c.tc : Thread Cert.MlpDw2RefIdeal.nD Cert.MlpDw2RefIdeal.τ).loc Cert.MlpDw2RefIdeal.main_arg1)
          ∧ r.2.mem ((c.tc : Thread Cert.MlpDw2RefIdeal.nD Cert.MlpDw2RefIdeal.τ).loc Cert.MlpDw2RefIdeal.main_arg2) = m' ((c.tc : Thread Cert.MlpDw2RefIdeal.nD Cert.MlpDw2RefIdeal.τ).loc Cert.MlpDw2RefIdeal.main_arg2))

def preserves_MlpDw1_MlpDw1Ideal : Prop :=
  True

def algebraic_MlpDw1Ideal_MlpDw1RefIdeal [hMlpDw1Ideal : Cert.MlpDw1Ideal.Facts] [hMlpDw1RefIdeal : Cert.MlpDw1RefIdeal.Facts] : Prop :=
  ∀ (m : (ℓ : Loc Cert.MlpDw1Ideal.nD Cert.MlpDw1Ideal.τ Cert.MlpDw1Ideal.sig) → Buf (Elt Ideal) ℓ) (g : Dev Cert.MlpDw1Ideal.nD → PrngReg)
    (m' : (ℓ : Loc Cert.MlpDw1RefIdeal.nD Cert.MlpDw1RefIdeal.τ Cert.MlpDw1RefIdeal.sig) → Buf (Elt Ideal) ℓ) (g' : Dev Cert.MlpDw1RefIdeal.nD → PrngReg), Pre_MlpDw1Ideal m →
    (∀ c : Dev Cert.MlpDw1Ideal.nD,
      m' ((c.tc : Thread Cert.MlpDw1RefIdeal.nD Cert.MlpDw1RefIdeal.τ).loc Cert.MlpDw1RefIdeal.main_arg0) = m ((c.tc : Thread Cert.MlpDw1Ideal.nD Cert.MlpDw1Ideal.τ).loc Cert.MlpDw1Ideal.main_arg0)
      ∧ m' ((c.tc : Thread Cert.MlpDw1RefIdeal.nD Cert.MlpDw1RefIdeal.τ).loc Cert.MlpDw1RefIdeal.main_arg1) = m ((c.tc : Thread Cert.MlpDw1Ideal.nD Cert.MlpDw1Ideal.τ).loc Cert.MlpDw1Ideal.main_arg1)) →
    ∃ (v0 : (c : Dev Cert.MlpDw1Ideal.nD) → Buf (Elt Ideal) ((c.tc : Thread Cert.MlpDw1Ideal.nD Cert.MlpDw1Ideal.τ).loc Cert.MlpDw1Ideal.main_v2)),
      θ_run (Cert.MlpDw1Ideal.defs (F := Ideal)) (onTc (τ := Cert.MlpDw1Ideal.τ) (Cert.MlpDw1Ideal.main (F := Ideal))) ⟨m, fun _ => 0, g⟩ (fun r => ∀ c : Dev Cert.MlpDw1Ideal.nD,
          r.2.mem ((c.tc : Thread Cert.MlpDw1Ideal.nD Cert.MlpDw1Ideal.τ).loc Cert.MlpDw1Ideal.main_v2) = v0 c
          ∧ r.2.mem ((c.tc : Thread Cert.MlpDw1Ideal.nD Cert.MlpDw1Ideal.τ).loc Cert.MlpDw1Ideal.main_arg0) = m ((c.tc : Thread Cert.MlpDw1Ideal.nD Cert.MlpDw1Ideal.τ).loc Cert.MlpDw1Ideal.main_arg0)
          ∧ r.2.mem ((c.tc : Thread Cert.MlpDw1Ideal.nD Cert.MlpDw1Ideal.τ).loc Cert.MlpDw1Ideal.main_arg1) = m ((c.tc : Thread Cert.MlpDw1Ideal.nD Cert.MlpDw1Ideal.τ).loc Cert.MlpDw1Ideal.main_arg1))
      ∧ θ_run (Cert.MlpDw1RefIdeal.defs (F := Ideal)) (onTc (τ := Cert.MlpDw1RefIdeal.τ) (Cert.MlpDw1RefIdeal.main (F := Ideal))) ⟨m', fun _ => 0, g'⟩ (fun r => ∀ c : Dev Cert.MlpDw1RefIdeal.nD,
          r.2.mem ((c.tc : Thread Cert.MlpDw1RefIdeal.nD Cert.MlpDw1RefIdeal.τ).loc Cert.MlpDw1RefIdeal.main_v6) = v0 c
          ∧ r.2.mem ((c.tc : Thread Cert.MlpDw1RefIdeal.nD Cert.MlpDw1RefIdeal.τ).loc Cert.MlpDw1RefIdeal.main_arg0) = m' ((c.tc : Thread Cert.MlpDw1RefIdeal.nD Cert.MlpDw1RefIdeal.τ).loc Cert.MlpDw1RefIdeal.main_arg0)
          ∧ r.2.mem ((c.tc : Thread Cert.MlpDw1RefIdeal.nD Cert.MlpDw1RefIdeal.τ).loc Cert.MlpDw1RefIdeal.main_arg1) = m' ((c.tc : Thread Cert.MlpDw1RefIdeal.nD Cert.MlpDw1RefIdeal.τ).loc Cert.MlpDw1RefIdeal.main_arg1))

def preserves_MlpUpBwd_MlpUpBwdIdeal : Prop :=
  True

def algebraic_MlpUpBwdIdeal_MlpUpBwdRefIdeal_pre_finite_up_bwd [hMlpUpBwdIdeal : Cert.MlpUpBwdIdeal.Facts] [hMlpUpBwdRefIdeal : Cert.MlpUpBwdRefIdeal.Facts] [hPre_finite_up_bwd : Cert.Pre_finite_up_bwd.Facts] : Prop :=
  ∀ (m : (ℓ : Loc Cert.MlpUpBwdIdeal.nD Cert.MlpUpBwdIdeal.τ Cert.MlpUpBwdIdeal.sig) → Buf (Elt Ideal) ℓ) (g : Dev Cert.MlpUpBwdIdeal.nD → PrngReg)
    (m' : (ℓ : Loc Cert.MlpUpBwdRefIdeal.nD Cert.MlpUpBwdRefIdeal.τ Cert.MlpUpBwdRefIdeal.sig) → Buf (Elt Ideal) ℓ) (g' : Dev Cert.MlpUpBwdRefIdeal.nD → PrngReg), Pre_MlpUpBwdIdeal_finite_up_bwd m →
    (∀ c : Dev Cert.MlpUpBwdIdeal.nD,
      m' ((c.tc : Thread Cert.MlpUpBwdRefIdeal.nD Cert.MlpUpBwdRefIdeal.τ).loc Cert.MlpUpBwdRefIdeal.main_arg0) = m ((c.tc : Thread Cert.MlpUpBwdIdeal.nD Cert.MlpUpBwdIdeal.τ).loc Cert.MlpUpBwdIdeal.main_arg0)
      ∧ m' ((c.tc : Thread Cert.MlpUpBwdRefIdeal.nD Cert.MlpUpBwdRefIdeal.τ).loc Cert.MlpUpBwdRefIdeal.main_arg1) = m ((c.tc : Thread Cert.MlpUpBwdIdeal.nD Cert.MlpUpBwdIdeal.τ).loc Cert.MlpUpBwdIdeal.main_arg1)
      ∧ m' ((c.tc : Thread Cert.MlpUpBwdRefIdeal.nD Cert.MlpUpBwdRefIdeal.τ).loc Cert.MlpUpBwdRefIdeal.main_arg2) = m ((c.tc : Thread Cert.MlpUpBwdIdeal.nD Cert.MlpUpBwdIdeal.τ).loc Cert.MlpUpBwdIdeal.main_arg2)
      ∧ m' ((c.tc : Thread Cert.MlpUpBwdRefIdeal.nD Cert.MlpUpBwdRefIdeal.τ).loc Cert.MlpUpBwdRefIdeal.main_arg3) = m ((c.tc : Thread Cert.MlpUpBwdIdeal.nD Cert.MlpUpBwdIdeal.τ).loc Cert.MlpUpBwdIdeal.main_arg3)
      ∧ m' ((c.tc : Thread Cert.MlpUpBwdRefIdeal.nD Cert.MlpUpBwdRefIdeal.τ).loc Cert.MlpUpBwdRefIdeal.main_arg4) = m ((c.tc : Thread Cert.MlpUpBwdIdeal.nD Cert.MlpUpBwdIdeal.τ).loc Cert.MlpUpBwdIdeal.main_arg4)
      ∧ m' ((c.tc : Thread Cert.MlpUpBwdRefIdeal.nD Cert.MlpUpBwdRefIdeal.τ).loc Cert.MlpUpBwdRefIdeal.main_arg5) = m ((c.tc : Thread Cert.MlpUpBwdIdeal.nD Cert.MlpUpBwdIdeal.τ).loc Cert.MlpUpBwdIdeal.main_arg5)) →
    ∃ (v0 : (c : Dev Cert.MlpUpBwdIdeal.nD) → Buf (Elt Ideal) ((c.tc : Thread Cert.MlpUpBwdIdeal.nD Cert.MlpUpBwdIdeal.τ).loc Cert.MlpUpBwdIdeal.main_v20_0)) (v1 : (c : Dev Cert.MlpUpBwdIdeal.nD) → Buf (Elt Ideal) ((c.tc : Thread Cert.MlpUpBwdIdeal.nD Cert.MlpUpBwdIdeal.τ).loc Cert.MlpUpBwdIdeal.main_v20_1)) (v2 : (c : Dev Cert.MlpUpBwdIdeal.nD) → Buf (Elt Ideal) ((c.tc : Thread Cert.MlpUpBwdIdeal.nD Cert.MlpUpBwdIdeal.τ).loc Cert.MlpUpBwdIdeal.main_v20_2)) (v3 : (c : Dev Cert.MlpUpBwdIdeal.nD) → Buf (Elt Ideal) ((c.tc : Thread Cert.MlpUpBwdIdeal.nD Cert.MlpUpBwdIdeal.τ).loc Cert.MlpUpBwdIdeal.main_v20_3)) (v4 : (c : Dev Cert.MlpUpBwdIdeal.nD) → Buf (Elt Ideal) ((c.tc : Thread Cert.MlpUpBwdIdeal.nD Cert.MlpUpBwdIdeal.τ).loc Cert.MlpUpBwdIdeal.main_v20_4)),
      θ_run (Cert.MlpUpBwdIdeal.defs (F := Ideal)) (onTc (τ := Cert.MlpUpBwdIdeal.τ) (Cert.MlpUpBwdIdeal.main (F := Ideal))) ⟨m, fun _ => 0, g⟩ (fun r => ∀ c : Dev Cert.MlpUpBwdIdeal.nD,
          r.2.mem ((c.tc : Thread Cert.MlpUpBwdIdeal.nD Cert.MlpUpBwdIdeal.τ).loc Cert.MlpUpBwdIdeal.main_v20_0) = v0 c
          ∧ r.2.mem ((c.tc : Thread Cert.MlpUpBwdIdeal.nD Cert.MlpUpBwdIdeal.τ).loc Cert.MlpUpBwdIdeal.main_v20_1) = v1 c
          ∧ r.2.mem ((c.tc : Thread Cert.MlpUpBwdIdeal.nD Cert.MlpUpBwdIdeal.τ).loc Cert.MlpUpBwdIdeal.main_v20_2) = v2 c
          ∧ r.2.mem ((c.tc : Thread Cert.MlpUpBwdIdeal.nD Cert.MlpUpBwdIdeal.τ).loc Cert.MlpUpBwdIdeal.main_v20_3) = v3 c
          ∧ r.2.mem ((c.tc : Thread Cert.MlpUpBwdIdeal.nD Cert.MlpUpBwdIdeal.τ).loc Cert.MlpUpBwdIdeal.main_v20_4) = v4 c
          ∧ r.2.mem ((c.tc : Thread Cert.MlpUpBwdIdeal.nD Cert.MlpUpBwdIdeal.τ).loc Cert.MlpUpBwdIdeal.main_arg0) = m ((c.tc : Thread Cert.MlpUpBwdIdeal.nD Cert.MlpUpBwdIdeal.τ).loc Cert.MlpUpBwdIdeal.main_arg0)
          ∧ r.2.mem ((c.tc : Thread Cert.MlpUpBwdIdeal.nD Cert.MlpUpBwdIdeal.τ).loc Cert.MlpUpBwdIdeal.main_arg1) = m ((c.tc : Thread Cert.MlpUpBwdIdeal.nD Cert.MlpUpBwdIdeal.τ).loc Cert.MlpUpBwdIdeal.main_arg1)
          ∧ r.2.mem ((c.tc : Thread Cert.MlpUpBwdIdeal.nD Cert.MlpUpBwdIdeal.τ).loc Cert.MlpUpBwdIdeal.main_arg2) = m ((c.tc : Thread Cert.MlpUpBwdIdeal.nD Cert.MlpUpBwdIdeal.τ).loc Cert.MlpUpBwdIdeal.main_arg2)
          ∧ r.2.mem ((c.tc : Thread Cert.MlpUpBwdIdeal.nD Cert.MlpUpBwdIdeal.τ).loc Cert.MlpUpBwdIdeal.main_arg3) = m ((c.tc : Thread Cert.MlpUpBwdIdeal.nD Cert.MlpUpBwdIdeal.τ).loc Cert.MlpUpBwdIdeal.main_arg3)
          ∧ r.2.mem ((c.tc : Thread Cert.MlpUpBwdIdeal.nD Cert.MlpUpBwdIdeal.τ).loc Cert.MlpUpBwdIdeal.main_arg4) = m ((c.tc : Thread Cert.MlpUpBwdIdeal.nD Cert.MlpUpBwdIdeal.τ).loc Cert.MlpUpBwdIdeal.main_arg4)
          ∧ r.2.mem ((c.tc : Thread Cert.MlpUpBwdIdeal.nD Cert.MlpUpBwdIdeal.τ).loc Cert.MlpUpBwdIdeal.main_arg5) = m ((c.tc : Thread Cert.MlpUpBwdIdeal.nD Cert.MlpUpBwdIdeal.τ).loc Cert.MlpUpBwdIdeal.main_arg5))
      ∧ θ_run (Cert.MlpUpBwdRefIdeal.defs (F := Ideal)) (onTc (τ := Cert.MlpUpBwdRefIdeal.τ) (Cert.MlpUpBwdRefIdeal.main (F := Ideal))) ⟨m', fun _ => 0, g'⟩ (fun r => ∀ c : Dev Cert.MlpUpBwdRefIdeal.nD,
          r.2.mem ((c.tc : Thread Cert.MlpUpBwdRefIdeal.nD Cert.MlpUpBwdRefIdeal.τ).loc Cert.MlpUpBwdRefIdeal.main_v64) = v0 c
          ∧ r.2.mem ((c.tc : Thread Cert.MlpUpBwdRefIdeal.nD Cert.MlpUpBwdRefIdeal.τ).loc Cert.MlpUpBwdRefIdeal.main_v65) = v1 c
          ∧ r.2.mem ((c.tc : Thread Cert.MlpUpBwdRefIdeal.nD Cert.MlpUpBwdRefIdeal.τ).loc Cert.MlpUpBwdRefIdeal.main_v38) = v2 c
          ∧ r.2.mem ((c.tc : Thread Cert.MlpUpBwdRefIdeal.nD Cert.MlpUpBwdRefIdeal.τ).loc Cert.MlpUpBwdRefIdeal.main_v35) = v3 c
          ∧ r.2.mem ((c.tc : Thread Cert.MlpUpBwdRefIdeal.nD Cert.MlpUpBwdRefIdeal.τ).loc Cert.MlpUpBwdRefIdeal.main_v67) = v4 c
          ∧ r.2.mem ((c.tc : Thread Cert.MlpUpBwdRefIdeal.nD Cert.MlpUpBwdRefIdeal.τ).loc Cert.MlpUpBwdRefIdeal.main_arg0) = m' ((c.tc : Thread Cert.MlpUpBwdRefIdeal.nD Cert.MlpUpBwdRefIdeal.τ).loc Cert.MlpUpBwdRefIdeal.main_arg0)
          ∧ r.2.mem ((c.tc : Thread Cert.MlpUpBwdRefIdeal.nD Cert.MlpUpBwdRefIdeal.τ).loc Cert.MlpUpBwdRefIdeal.main_arg1) = m' ((c.tc : Thread Cert.MlpUpBwdRefIdeal.nD Cert.MlpUpBwdRefIdeal.τ).loc Cert.MlpUpBwdRefIdeal.main_arg1)
          ∧ r.2.mem ((c.tc : Thread Cert.MlpUpBwdRefIdeal.nD Cert.MlpUpBwdRefIdeal.τ).loc Cert.MlpUpBwdRefIdeal.main_arg2) = m' ((c.tc : Thread Cert.MlpUpBwdRefIdeal.nD Cert.MlpUpBwdRefIdeal.τ).loc Cert.MlpUpBwdRefIdeal.main_arg2)
          ∧ r.2.mem ((c.tc : Thread Cert.MlpUpBwdRefIdeal.nD Cert.MlpUpBwdRefIdeal.τ).loc Cert.MlpUpBwdRefIdeal.main_arg3) = m' ((c.tc : Thread Cert.MlpUpBwdRefIdeal.nD Cert.MlpUpBwdRefIdeal.τ).loc Cert.MlpUpBwdRefIdeal.main_arg3)
          ∧ r.2.mem ((c.tc : Thread Cert.MlpUpBwdRefIdeal.nD Cert.MlpUpBwdRefIdeal.τ).loc Cert.MlpUpBwdRefIdeal.main_arg4) = m' ((c.tc : Thread Cert.MlpUpBwdRefIdeal.nD Cert.MlpUpBwdRefIdeal.τ).loc Cert.MlpUpBwdRefIdeal.main_arg4)
          ∧ r.2.mem ((c.tc : Thread Cert.MlpUpBwdRefIdeal.nD Cert.MlpUpBwdRefIdeal.τ).loc Cert.MlpUpBwdRefIdeal.main_arg5) = m' ((c.tc : Thread Cert.MlpUpBwdRefIdeal.nD Cert.MlpUpBwdRefIdeal.τ).loc Cert.MlpUpBwdRefIdeal.main_arg5))

def preserves_ScGateBwd_ScGateBwdIdeal : Prop :=
  True

def algebraic_ScGateBwdIdeal_ScGateBwdRefIdeal [hScGateBwdIdeal : Cert.ScGateBwdIdeal.Facts] [hScGateBwdRefIdeal : Cert.ScGateBwdRefIdeal.Facts] : Prop :=
  ∀ (m : (ℓ : Loc Cert.ScGateBwdIdeal.nD Cert.ScGateBwdIdeal.τ Cert.ScGateBwdIdeal.sig) → Buf (Elt Ideal) ℓ) (g : Dev Cert.ScGateBwdIdeal.nD → PrngReg)
    (m' : (ℓ : Loc Cert.ScGateBwdRefIdeal.nD Cert.ScGateBwdRefIdeal.τ Cert.ScGateBwdRefIdeal.sig) → Buf (Elt Ideal) ℓ) (g' : Dev Cert.ScGateBwdRefIdeal.nD → PrngReg), Pre_ScGateBwdIdeal m →
    (∀ c : Dev Cert.ScGateBwdIdeal.nD,
      m' ((c.tc : Thread Cert.ScGateBwdRefIdeal.nD Cert.ScGateBwdRefIdeal.τ).loc Cert.ScGateBwdRefIdeal.main_arg0) = m ((c.tc : Thread Cert.ScGateBwdIdeal.nD Cert.ScGateBwdIdeal.τ).loc Cert.ScGateBwdIdeal.main_arg0)
      ∧ m' ((c.tc : Thread Cert.ScGateBwdRefIdeal.nD Cert.ScGateBwdRefIdeal.τ).loc Cert.ScGateBwdRefIdeal.main_arg1) = m ((c.tc : Thread Cert.ScGateBwdIdeal.nD Cert.ScGateBwdIdeal.τ).loc Cert.ScGateBwdIdeal.main_arg1)
      ∧ m' ((c.tc : Thread Cert.ScGateBwdRefIdeal.nD Cert.ScGateBwdRefIdeal.τ).loc Cert.ScGateBwdRefIdeal.main_arg2) = m ((c.tc : Thread Cert.ScGateBwdIdeal.nD Cert.ScGateBwdIdeal.τ).loc Cert.ScGateBwdIdeal.main_arg2)) →
    ∃ (v0 : (c : Dev Cert.ScGateBwdIdeal.nD) → Buf (Elt Ideal) ((c.tc : Thread Cert.ScGateBwdIdeal.nD Cert.ScGateBwdIdeal.τ).loc Cert.ScGateBwdIdeal.main_v0_0)) (v1 : (c : Dev Cert.ScGateBwdIdeal.nD) → Buf (Elt Ideal) ((c.tc : Thread Cert.ScGateBwdIdeal.nD Cert.ScGateBwdIdeal.τ).loc Cert.ScGateBwdIdeal.main_v0_1)),
      θ_run (Cert.ScGateBwdIdeal.defs (F := Ideal)) (onTc (τ := Cert.ScGateBwdIdeal.τ) (Cert.ScGateBwdIdeal.main (F := Ideal))) ⟨m, fun _ => 0, g⟩ (fun r => ∀ c : Dev Cert.ScGateBwdIdeal.nD,
          r.2.mem ((c.tc : Thread Cert.ScGateBwdIdeal.nD Cert.ScGateBwdIdeal.τ).loc Cert.ScGateBwdIdeal.main_v0_0) = v0 c
          ∧ r.2.mem ((c.tc : Thread Cert.ScGateBwdIdeal.nD Cert.ScGateBwdIdeal.τ).loc Cert.ScGateBwdIdeal.main_v0_1) = v1 c
          ∧ r.2.mem ((c.tc : Thread Cert.ScGateBwdIdeal.nD Cert.ScGateBwdIdeal.τ).loc Cert.ScGateBwdIdeal.main_arg0) = m ((c.tc : Thread Cert.ScGateBwdIdeal.nD Cert.ScGateBwdIdeal.τ).loc Cert.ScGateBwdIdeal.main_arg0)
          ∧ r.2.mem ((c.tc : Thread Cert.ScGateBwdIdeal.nD Cert.ScGateBwdIdeal.τ).loc Cert.ScGateBwdIdeal.main_arg1) = m ((c.tc : Thread Cert.ScGateBwdIdeal.nD Cert.ScGateBwdIdeal.τ).loc Cert.ScGateBwdIdeal.main_arg1)
          ∧ r.2.mem ((c.tc : Thread Cert.ScGateBwdIdeal.nD Cert.ScGateBwdIdeal.τ).loc Cert.ScGateBwdIdeal.main_arg2) = m ((c.tc : Thread Cert.ScGateBwdIdeal.nD Cert.ScGateBwdIdeal.τ).loc Cert.ScGateBwdIdeal.main_arg2))
      ∧ θ_run (Cert.ScGateBwdRefIdeal.defs (F := Ideal)) (onTc (τ := Cert.ScGateBwdRefIdeal.τ) (Cert.ScGateBwdRefIdeal.main (F := Ideal))) ⟨m', fun _ => 0, g'⟩ (fun r => ∀ c : Dev Cert.ScGateBwdRefIdeal.nD,
          r.2.mem ((c.tc : Thread Cert.ScGateBwdRefIdeal.nD Cert.ScGateBwdRefIdeal.τ).loc Cert.ScGateBwdRefIdeal.main_v63) = v0 c
          ∧ r.2.mem ((c.tc : Thread Cert.ScGateBwdRefIdeal.nD Cert.ScGateBwdRefIdeal.τ).loc Cert.ScGateBwdRefIdeal.main_v50) = v1 c
          ∧ r.2.mem ((c.tc : Thread Cert.ScGateBwdRefIdeal.nD Cert.ScGateBwdRefIdeal.τ).loc Cert.ScGateBwdRefIdeal.main_arg0) = m' ((c.tc : Thread Cert.ScGateBwdRefIdeal.nD Cert.ScGateBwdRefIdeal.τ).loc Cert.ScGateBwdRefIdeal.main_arg0)
          ∧ r.2.mem ((c.tc : Thread Cert.ScGateBwdRefIdeal.nD Cert.ScGateBwdRefIdeal.τ).loc Cert.ScGateBwdRefIdeal.main_arg1) = m' ((c.tc : Thread Cert.ScGateBwdRefIdeal.nD Cert.ScGateBwdRefIdeal.τ).loc Cert.ScGateBwdRefIdeal.main_arg1)
          ∧ r.2.mem ((c.tc : Thread Cert.ScGateBwdRefIdeal.nD Cert.ScGateBwdRefIdeal.τ).loc Cert.ScGateBwdRefIdeal.main_arg2) = m' ((c.tc : Thread Cert.ScGateBwdRefIdeal.nD Cert.ScGateBwdRefIdeal.τ).loc Cert.ScGateBwdRefIdeal.main_arg2))

def preserves_ScOutBwd_ScOutBwdIdeal : Prop :=
  True

def algebraic_ScOutBwdIdeal_ScOutBwdRefIdeal [hScOutBwdIdeal : Cert.ScOutBwdIdeal.Facts] [hScOutBwdRefIdeal : Cert.ScOutBwdRefIdeal.Facts] : Prop :=
  ∀ (m : (ℓ : Loc Cert.ScOutBwdIdeal.nD Cert.ScOutBwdIdeal.τ Cert.ScOutBwdIdeal.sig) → Buf (Elt Ideal) ℓ) (g : Dev Cert.ScOutBwdIdeal.nD → PrngReg)
    (m' : (ℓ : Loc Cert.ScOutBwdRefIdeal.nD Cert.ScOutBwdRefIdeal.τ Cert.ScOutBwdRefIdeal.sig) → Buf (Elt Ideal) ℓ) (g' : Dev Cert.ScOutBwdRefIdeal.nD → PrngReg), Pre_ScOutBwdIdeal m →
    (∀ c : Dev Cert.ScOutBwdIdeal.nD,
      m' ((c.tc : Thread Cert.ScOutBwdRefIdeal.nD Cert.ScOutBwdRefIdeal.τ).loc Cert.ScOutBwdRefIdeal.main_arg0) = m ((c.tc : Thread Cert.ScOutBwdIdeal.nD Cert.ScOutBwdIdeal.τ).loc Cert.ScOutBwdIdeal.main_arg0)
      ∧ m' ((c.tc : Thread Cert.ScOutBwdRefIdeal.nD Cert.ScOutBwdRefIdeal.τ).loc Cert.ScOutBwdRefIdeal.main_arg1) = m ((c.tc : Thread Cert.ScOutBwdIdeal.nD Cert.ScOutBwdIdeal.τ).loc Cert.ScOutBwdIdeal.main_arg1)) →
    ∃ (v0 : (c : Dev Cert.ScOutBwdIdeal.nD) → Buf (Elt Ideal) ((c.tc : Thread Cert.ScOutBwdIdeal.nD Cert.ScOutBwdIdeal.τ).loc Cert.ScOutBwdIdeal.main_v2)),
      θ_run (Cert.ScOutBwdIdeal.defs (F := Ideal)) (onTc (τ := Cert.ScOutBwdIdeal.τ) (Cert.ScOutBwdIdeal.main (F := Ideal))) ⟨m, fun _ => 0, g⟩ (fun r => ∀ c : Dev Cert.ScOutBwdIdeal.nD,
          r.2.mem ((c.tc : Thread Cert.ScOutBwdIdeal.nD Cert.ScOutBwdIdeal.τ).loc Cert.ScOutBwdIdeal.main_v2) = v0 c
          ∧ r.2.mem ((c.tc : Thread Cert.ScOutBwdIdeal.nD Cert.ScOutBwdIdeal.τ).loc Cert.ScOutBwdIdeal.main_arg0) = m ((c.tc : Thread Cert.ScOutBwdIdeal.nD Cert.ScOutBwdIdeal.τ).loc Cert.ScOutBwdIdeal.main_arg0)
          ∧ r.2.mem ((c.tc : Thread Cert.ScOutBwdIdeal.nD Cert.ScOutBwdIdeal.τ).loc Cert.ScOutBwdIdeal.main_arg1) = m ((c.tc : Thread Cert.ScOutBwdIdeal.nD Cert.ScOutBwdIdeal.τ).loc Cert.ScOutBwdIdeal.main_arg1))
      ∧ θ_run (Cert.ScOutBwdRefIdeal.defs (F := Ideal)) (onTc (τ := Cert.ScOutBwdRefIdeal.τ) (Cert.ScOutBwdRefIdeal.main (F := Ideal))) ⟨m', fun _ => 0, g'⟩ (fun r => ∀ c : Dev Cert.ScOutBwdRefIdeal.nD,
          r.2.mem ((c.tc : Thread Cert.ScOutBwdRefIdeal.nD Cert.ScOutBwdRefIdeal.τ).loc Cert.ScOutBwdRefIdeal.main_v2) = v0 c
          ∧ r.2.mem ((c.tc : Thread Cert.ScOutBwdRefIdeal.nD Cert.ScOutBwdRefIdeal.τ).loc Cert.ScOutBwdRefIdeal.main_arg0) = m' ((c.tc : Thread Cert.ScOutBwdRefIdeal.nD Cert.ScOutBwdRefIdeal.τ).loc Cert.ScOutBwdRefIdeal.main_arg0)
          ∧ r.2.mem ((c.tc : Thread Cert.ScOutBwdRefIdeal.nD Cert.ScOutBwdRefIdeal.τ).loc Cert.ScOutBwdRefIdeal.main_arg1) = m' ((c.tc : Thread Cert.ScOutBwdRefIdeal.nD Cert.ScOutBwdRefIdeal.τ).loc Cert.ScOutBwdRefIdeal.main_arg1))

def preserves_ScDwOut_ScDwOutIdeal : Prop :=
  True

def algebraic_ScDwOutIdeal_ScDwOutRefIdeal [hScDwOutIdeal : Cert.ScDwOutIdeal.Facts] [hScDwOutRefIdeal : Cert.ScDwOutRefIdeal.Facts] : Prop :=
  ∀ (m : (ℓ : Loc Cert.ScDwOutIdeal.nD Cert.ScDwOutIdeal.τ Cert.ScDwOutIdeal.sig) → Buf (Elt Ideal) ℓ) (g : Dev Cert.ScDwOutIdeal.nD → PrngReg)
    (m' : (ℓ : Loc Cert.ScDwOutRefIdeal.nD Cert.ScDwOutRefIdeal.τ Cert.ScDwOutRefIdeal.sig) → Buf (Elt Ideal) ℓ) (g' : Dev Cert.ScDwOutRefIdeal.nD → PrngReg), Pre_ScDwOutIdeal m →
    (∀ c : Dev Cert.ScDwOutIdeal.nD,
      m' ((c.tc : Thread Cert.ScDwOutRefIdeal.nD Cert.ScDwOutRefIdeal.τ).loc Cert.ScDwOutRefIdeal.main_arg0) = m ((c.tc : Thread Cert.ScDwOutIdeal.nD Cert.ScDwOutIdeal.τ).loc Cert.ScDwOutIdeal.main_arg0)
      ∧ m' ((c.tc : Thread Cert.ScDwOutRefIdeal.nD Cert.ScDwOutRefIdeal.τ).loc Cert.ScDwOutRefIdeal.main_arg1) = m ((c.tc : Thread Cert.ScDwOutIdeal.nD Cert.ScDwOutIdeal.τ).loc Cert.ScDwOutIdeal.main_arg1)) →
    ∃ (v0 : (c : Dev Cert.ScDwOutIdeal.nD) → Buf (Elt Ideal) ((c.tc : Thread Cert.ScDwOutIdeal.nD Cert.ScDwOutIdeal.τ).loc Cert.ScDwOutIdeal.main_v2)),
      θ_run (Cert.ScDwOutIdeal.defs (F := Ideal)) (onTc (τ := Cert.ScDwOutIdeal.τ) (Cert.ScDwOutIdeal.main (F := Ideal))) ⟨m, fun _ => 0, g⟩ (fun r => ∀ c : Dev Cert.ScDwOutIdeal.nD,
          r.2.mem ((c.tc : Thread Cert.ScDwOutIdeal.nD Cert.ScDwOutIdeal.τ).loc Cert.ScDwOutIdeal.main_v2) = v0 c
          ∧ r.2.mem ((c.tc : Thread Cert.ScDwOutIdeal.nD Cert.ScDwOutIdeal.τ).loc Cert.ScDwOutIdeal.main_arg0) = m ((c.tc : Thread Cert.ScDwOutIdeal.nD Cert.ScDwOutIdeal.τ).loc Cert.ScDwOutIdeal.main_arg0)
          ∧ r.2.mem ((c.tc : Thread Cert.ScDwOutIdeal.nD Cert.ScDwOutIdeal.τ).loc Cert.ScDwOutIdeal.main_arg1) = m ((c.tc : Thread Cert.ScDwOutIdeal.nD Cert.ScDwOutIdeal.τ).loc Cert.ScDwOutIdeal.main_arg1))
      ∧ θ_run (Cert.ScDwOutRefIdeal.defs (F := Ideal)) (onTc (τ := Cert.ScDwOutRefIdeal.τ) (Cert.ScDwOutRefIdeal.main (F := Ideal))) ⟨m', fun _ => 0, g'⟩ (fun r => ∀ c : Dev Cert.ScDwOutRefIdeal.nD,
          r.2.mem ((c.tc : Thread Cert.ScDwOutRefIdeal.nD Cert.ScDwOutRefIdeal.τ).loc Cert.ScDwOutRefIdeal.main_v4) = v0 c
          ∧ r.2.mem ((c.tc : Thread Cert.ScDwOutRefIdeal.nD Cert.ScDwOutRefIdeal.τ).loc Cert.ScDwOutRefIdeal.main_arg0) = m' ((c.tc : Thread Cert.ScDwOutRefIdeal.nD Cert.ScDwOutRefIdeal.τ).loc Cert.ScDwOutRefIdeal.main_arg0)
          ∧ r.2.mem ((c.tc : Thread Cert.ScDwOutRefIdeal.nD Cert.ScDwOutRefIdeal.τ).loc Cert.ScDwOutRefIdeal.main_arg1) = m' ((c.tc : Thread Cert.ScDwOutRefIdeal.nD Cert.ScDwOutRefIdeal.τ).loc Cert.ScDwOutRefIdeal.main_arg1))

def preserves_ScDwIn_ScDwInIdeal : Prop :=
  True

def algebraic_ScDwInIdeal_ScDwInRefIdeal [hScDwInIdeal : Cert.ScDwInIdeal.Facts] [hScDwInRefIdeal : Cert.ScDwInRefIdeal.Facts] : Prop :=
  ∀ (m : (ℓ : Loc Cert.ScDwInIdeal.nD Cert.ScDwInIdeal.τ Cert.ScDwInIdeal.sig) → Buf (Elt Ideal) ℓ) (g : Dev Cert.ScDwInIdeal.nD → PrngReg)
    (m' : (ℓ : Loc Cert.ScDwInRefIdeal.nD Cert.ScDwInRefIdeal.τ Cert.ScDwInRefIdeal.sig) → Buf (Elt Ideal) ℓ) (g' : Dev Cert.ScDwInRefIdeal.nD → PrngReg), Pre_ScDwInIdeal m →
    (∀ c : Dev Cert.ScDwInIdeal.nD,
      m' ((c.tc : Thread Cert.ScDwInRefIdeal.nD Cert.ScDwInRefIdeal.τ).loc Cert.ScDwInRefIdeal.main_arg0) = m ((c.tc : Thread Cert.ScDwInIdeal.nD Cert.ScDwInIdeal.τ).loc Cert.ScDwInIdeal.main_arg0)
      ∧ m' ((c.tc : Thread Cert.ScDwInRefIdeal.nD Cert.ScDwInRefIdeal.τ).loc Cert.ScDwInRefIdeal.main_arg1) = m ((c.tc : Thread Cert.ScDwInIdeal.nD Cert.ScDwInIdeal.τ).loc Cert.ScDwInIdeal.main_arg1)) →
    ∃ (v0 : (c : Dev Cert.ScDwInIdeal.nD) → Buf (Elt Ideal) ((c.tc : Thread Cert.ScDwInIdeal.nD Cert.ScDwInIdeal.τ).loc Cert.ScDwInIdeal.main_v1)),
      θ_run (Cert.ScDwInIdeal.defs (F := Ideal)) (onTc (τ := Cert.ScDwInIdeal.τ) (Cert.ScDwInIdeal.main (F := Ideal))) ⟨m, fun _ => 0, g⟩ (fun r => ∀ c : Dev Cert.ScDwInIdeal.nD,
          r.2.mem ((c.tc : Thread Cert.ScDwInIdeal.nD Cert.ScDwInIdeal.τ).loc Cert.ScDwInIdeal.main_v1) = v0 c
          ∧ r.2.mem ((c.tc : Thread Cert.ScDwInIdeal.nD Cert.ScDwInIdeal.τ).loc Cert.ScDwInIdeal.main_arg0) = m ((c.tc : Thread Cert.ScDwInIdeal.nD Cert.ScDwInIdeal.τ).loc Cert.ScDwInIdeal.main_arg0)
          ∧ r.2.mem ((c.tc : Thread Cert.ScDwInIdeal.nD Cert.ScDwInIdeal.τ).loc Cert.ScDwInIdeal.main_arg1) = m ((c.tc : Thread Cert.ScDwInIdeal.nD Cert.ScDwInIdeal.τ).loc Cert.ScDwInIdeal.main_arg1))
      ∧ θ_run (Cert.ScDwInRefIdeal.defs (F := Ideal)) (onTc (τ := Cert.ScDwInRefIdeal.τ) (Cert.ScDwInRefIdeal.main (F := Ideal))) ⟨m', fun _ => 0, g'⟩ (fun r => ∀ c : Dev Cert.ScDwInRefIdeal.nD,
          r.2.mem ((c.tc : Thread Cert.ScDwInRefIdeal.nD Cert.ScDwInRefIdeal.τ).loc Cert.ScDwInRefIdeal.main_v14) = v0 c
          ∧ r.2.mem ((c.tc : Thread Cert.ScDwInRefIdeal.nD Cert.ScDwInRefIdeal.τ).loc Cert.ScDwInRefIdeal.main_arg0) = m' ((c.tc : Thread Cert.ScDwInRefIdeal.nD Cert.ScDwInRefIdeal.τ).loc Cert.ScDwInRefIdeal.main_arg0)
          ∧ r.2.mem ((c.tc : Thread Cert.ScDwInRefIdeal.nD Cert.ScDwInRefIdeal.τ).loc Cert.ScDwInRefIdeal.main_arg1) = m' ((c.tc : Thread Cert.ScDwInRefIdeal.nD Cert.ScDwInRefIdeal.τ).loc Cert.ScDwInRefIdeal.main_arg1))

def preserves_ScInBwd_ScInBwdIdeal : Prop :=
  True

def algebraic_ScInBwdIdeal_ScInBwdRefIdeal_pre_finite_in_bwd [hScInBwdIdeal : Cert.ScInBwdIdeal.Facts] [hScInBwdRefIdeal : Cert.ScInBwdRefIdeal.Facts] [hPre_finite_in_bwd : Cert.Pre_finite_in_bwd.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg)
    (m' : (ℓ : Loc Cert.ScInBwdRefIdeal.nD Cert.ScInBwdRefIdeal.τ Cert.ScInBwdRefIdeal.sig) → Buf (Elt Ideal) ℓ) (g' : Dev Cert.ScInBwdRefIdeal.nD → PrngReg), Pre_ScInBwdIdeal_finite_in_bwd m →
    (∀ c : Dev Cert.ScInBwdIdeal.nD,
      m' ((c.tc : Thread Cert.ScInBwdRefIdeal.nD Cert.ScInBwdRefIdeal.τ).loc Cert.ScInBwdRefIdeal.main_arg0) = m ((c.tc : Thread Cert.ScInBwdIdeal.nD Cert.ScInBwdIdeal.τ).loc Cert.ScInBwdIdeal.main_arg0)
      ∧ m' ((c.tc : Thread Cert.ScInBwdRefIdeal.nD Cert.ScInBwdRefIdeal.τ).loc Cert.ScInBwdRefIdeal.main_arg1) = m ((c.tc : Thread Cert.ScInBwdIdeal.nD Cert.ScInBwdIdeal.τ).loc Cert.ScInBwdIdeal.main_arg1)
      ∧ m' ((c.tc : Thread Cert.ScInBwdRefIdeal.nD Cert.ScInBwdRefIdeal.τ).loc Cert.ScInBwdRefIdeal.main_arg2) = m ((c.tc : Thread Cert.ScInBwdIdeal.nD Cert.ScInBwdIdeal.τ).loc Cert.ScInBwdIdeal.main_arg2)
      ∧ m' ((c.tc : Thread Cert.ScInBwdRefIdeal.nD Cert.ScInBwdRefIdeal.τ).loc Cert.ScInBwdRefIdeal.main_arg3) = m ((c.tc : Thread Cert.ScInBwdIdeal.nD Cert.ScInBwdIdeal.τ).loc Cert.ScInBwdIdeal.main_arg3)
      ∧ m' ((c.tc : Thread Cert.ScInBwdRefIdeal.nD Cert.ScInBwdRefIdeal.τ).loc Cert.ScInBwdRefIdeal.main_arg4) = m ((c.tc : Thread Cert.ScInBwdIdeal.nD Cert.ScInBwdIdeal.τ).loc Cert.ScInBwdIdeal.main_arg4)
      ∧ m' ((c.tc : Thread Cert.ScInBwdRefIdeal.nD Cert.ScInBwdRefIdeal.τ).loc Cert.ScInBwdRefIdeal.main_arg5) = m ((c.tc : Thread Cert.ScInBwdIdeal.nD Cert.ScInBwdIdeal.τ).loc Cert.ScInBwdIdeal.main_arg5)) →
    ∃ (v0 : (c : Dev Cert.ScInBwdIdeal.nD) → Buf (Elt Ideal) ((c.tc : Thread Cert.ScInBwdIdeal.nD Cert.ScInBwdIdeal.τ).loc Cert.ScInBwdIdeal.main_v19_0)) (v1 : (c : Dev Cert.ScInBwdIdeal.nD) → Buf (Elt Ideal) ((c.tc : Thread Cert.ScInBwdIdeal.nD Cert.ScInBwdIdeal.τ).loc Cert.ScInBwdIdeal.main_v19_1)) (v2 : (c : Dev Cert.ScInBwdIdeal.nD) → Buf (Elt Ideal) ((c.tc : Thread Cert.ScInBwdIdeal.nD Cert.ScInBwdIdeal.τ).loc Cert.ScInBwdIdeal.main_v19_2)) (v3 : (c : Dev Cert.ScInBwdIdeal.nD) → Buf (Elt Ideal) ((c.tc : Thread Cert.ScInBwdIdeal.nD Cert.ScInBwdIdeal.τ).loc Cert.ScInBwdIdeal.main_v19_3)) (v4 : (c : Dev Cert.ScInBwdIdeal.nD) → Buf (Elt Ideal) ((c.tc : Thread Cert.ScInBwdIdeal.nD Cert.ScInBwdIdeal.τ).loc Cert.ScInBwdIdeal.main_v19_4)),
      θ_run (Cert.ScInBwdIdeal.defs (F := Ideal)) (onTc (τ := Cert.ScInBwdIdeal.τ) (Cert.ScInBwdIdeal.main (F := Ideal))) ⟨m, fun _ => 0, g⟩ (fun r => ∀ c : Dev Cert.ScInBwdIdeal.nD,
          r.2.mem ((c.tc : Thread Cert.ScInBwdIdeal.nD Cert.ScInBwdIdeal.τ).loc Cert.ScInBwdIdeal.main_v19_0) = v0 c
          ∧ r.2.mem ((c.tc : Thread Cert.ScInBwdIdeal.nD Cert.ScInBwdIdeal.τ).loc Cert.ScInBwdIdeal.main_v19_1) = v1 c
          ∧ r.2.mem ((c.tc : Thread Cert.ScInBwdIdeal.nD Cert.ScInBwdIdeal.τ).loc Cert.ScInBwdIdeal.main_v19_2) = v2 c
          ∧ r.2.mem ((c.tc : Thread Cert.ScInBwdIdeal.nD Cert.ScInBwdIdeal.τ).loc Cert.ScInBwdIdeal.main_v19_3) = v3 c
          ∧ r.2.mem ((c.tc : Thread Cert.ScInBwdIdeal.nD Cert.ScInBwdIdeal.τ).loc Cert.ScInBwdIdeal.main_v19_4) = v4 c
          ∧ r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
          ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
          ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
          ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
          ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
          ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5))
      ∧ θ_run (Cert.ScInBwdRefIdeal.defs (F := Ideal)) (onTc (τ := Cert.ScInBwdRefIdeal.τ) (Cert.ScInBwdRefIdeal.main (F := Ideal))) ⟨m', fun _ => 0, g'⟩ (fun r => ∀ c : Dev Cert.ScInBwdRefIdeal.nD,
          r.2.mem ((c.tc : Thread Cert.ScInBwdRefIdeal.nD Cert.ScInBwdRefIdeal.τ).loc Cert.ScInBwdRefIdeal.main_v72) = v0 c
          ∧ r.2.mem ((c.tc : Thread Cert.ScInBwdRefIdeal.nD Cert.ScInBwdRefIdeal.τ).loc Cert.ScInBwdRefIdeal.main_v73) = v1 c
          ∧ r.2.mem ((c.tc : Thread Cert.ScInBwdRefIdeal.nD Cert.ScInBwdRefIdeal.τ).loc Cert.ScInBwdRefIdeal.main_v46) = v2 c
          ∧ r.2.mem ((c.tc : Thread Cert.ScInBwdRefIdeal.nD Cert.ScInBwdRefIdeal.τ).loc Cert.ScInBwdRefIdeal.main_v43) = v3 c
          ∧ r.2.mem ((c.tc : Thread Cert.ScInBwdRefIdeal.nD Cert.ScInBwdRefIdeal.τ).loc Cert.ScInBwdRefIdeal.main_v75) = v4 c
          ∧ r.2.mem ((c.tc : Thread Cert.ScInBwdRefIdeal.nD Cert.ScInBwdRefIdeal.τ).loc Cert.ScInBwdRefIdeal.main_arg0) = m' ((c.tc : Thread Cert.ScInBwdRefIdeal.nD Cert.ScInBwdRefIdeal.τ).loc Cert.ScInBwdRefIdeal.main_arg0)
          ∧ r.2.mem ((c.tc : Thread Cert.ScInBwdRefIdeal.nD Cert.ScInBwdRefIdeal.τ).loc Cert.ScInBwdRefIdeal.main_arg1) = m' ((c.tc : Thread Cert.ScInBwdRefIdeal.nD Cert.ScInBwdRefIdeal.τ).loc Cert.ScInBwdRefIdeal.main_arg1)
          ∧ r.2.mem ((c.tc : Thread Cert.ScInBwdRefIdeal.nD Cert.ScInBwdRefIdeal.τ).loc Cert.ScInBwdRefIdeal.main_arg2) = m' ((c.tc : Thread Cert.ScInBwdRefIdeal.nD Cert.ScInBwdRefIdeal.τ).loc Cert.ScInBwdRefIdeal.main_arg2)
          ∧ r.2.mem ((c.tc : Thread Cert.ScInBwdRefIdeal.nD Cert.ScInBwdRefIdeal.τ).loc Cert.ScInBwdRefIdeal.main_arg3) = m' ((c.tc : Thread Cert.ScInBwdRefIdeal.nD Cert.ScInBwdRefIdeal.τ).loc Cert.ScInBwdRefIdeal.main_arg3)
          ∧ r.2.mem ((c.tc : Thread Cert.ScInBwdRefIdeal.nD Cert.ScInBwdRefIdeal.τ).loc Cert.ScInBwdRefIdeal.main_arg4) = m' ((c.tc : Thread Cert.ScInBwdRefIdeal.nD Cert.ScInBwdRefIdeal.τ).loc Cert.ScInBwdRefIdeal.main_arg4)
          ∧ r.2.mem ((c.tc : Thread Cert.ScInBwdRefIdeal.nD Cert.ScInBwdRefIdeal.τ).loc Cert.ScInBwdRefIdeal.main_arg5) = m' ((c.tc : Thread Cert.ScInBwdRefIdeal.nD Cert.ScInBwdRefIdeal.τ).loc Cert.ScInBwdRefIdeal.main_arg5))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v2)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v2) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v0) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScGate_ScGateIdeal : Prop :=
  True

def algebraic_ScGateIdeal_ScGateRefIdeal [hScGateIdeal : Cert.ScGateIdeal.Facts] [hScGateRefIdeal : Cert.ScGateRefIdeal.Facts] : Prop :=
  ∀ (m : (ℓ : Loc Cert.ScGateIdeal.nD Cert.ScGateIdeal.τ Cert.ScGateIdeal.sig) → Buf (Elt Ideal) ℓ) (g : Dev Cert.ScGateIdeal.nD → PrngReg)
    (m' : (ℓ : Loc Cert.ScGateRefIdeal.nD Cert.ScGateRefIdeal.τ Cert.ScGateRefIdeal.sig) → Buf (Elt Ideal) ℓ) (g' : Dev Cert.ScGateRefIdeal.nD → PrngReg), Pre_ScGateIdeal m →
    (∀ c : Dev Cert.ScGateIdeal.nD,
      m' ((c.tc : Thread Cert.ScGateRefIdeal.nD Cert.ScGateRefIdeal.τ).loc Cert.ScGateRefIdeal.main_arg0) = m ((c.tc : Thread Cert.ScGateIdeal.nD Cert.ScGateIdeal.τ).loc Cert.ScGateIdeal.main_arg0)
      ∧ m' ((c.tc : Thread Cert.ScGateRefIdeal.nD Cert.ScGateRefIdeal.τ).loc Cert.ScGateRefIdeal.main_arg1) = m ((c.tc : Thread Cert.ScGateIdeal.nD Cert.ScGateIdeal.τ).loc Cert.ScGateIdeal.main_arg1)) →
    ∃ (v0 : (c : Dev Cert.ScGateIdeal.nD) → Buf (Elt Ideal) ((c.tc : Thread Cert.ScGateIdeal.nD Cert.ScGateIdeal.τ).loc Cert.ScGateIdeal.main_v0)),
      θ_run (Cert.ScGateIdeal.defs (F := Ideal)) (onTc (τ := Cert.ScGateIdeal.τ) (Cert.ScGateIdeal.main (F := Ideal))) ⟨m, fun _ => 0, g⟩ (fun r => ∀ c : Dev Cert.ScGateIdeal.nD,
          r.2.mem ((c.tc : Thread Cert.ScGateIdeal.nD Cert.ScGateIdeal.τ).loc Cert.ScGateIdeal.main_v0) = v0 c
          ∧ r.2.mem ((c.tc : Thread Cert.ScGateIdeal.nD Cert.ScGateIdeal.τ).loc Cert.ScGateIdeal.main_arg0) = m ((c.tc : Thread Cert.ScGateIdeal.nD Cert.ScGateIdeal.τ).loc Cert.ScGateIdeal.main_arg0)
          ∧ r.2.mem ((c.tc : Thread Cert.ScGateIdeal.nD Cert.ScGateIdeal.τ).loc Cert.ScGateIdeal.main_arg1) = m ((c.tc : Thread Cert.ScGateIdeal.nD Cert.ScGateIdeal.τ).loc Cert.ScGateIdeal.main_arg1))
      ∧ θ_run (Cert.ScGateRefIdeal.defs (F := Ideal)) (onTc (τ := Cert.ScGateRefIdeal.τ) (Cert.ScGateRefIdeal.main (F := Ideal))) ⟨m', fun _ => 0, g'⟩ (fun r => ∀ c : Dev Cert.ScGateRefIdeal.nD,
          r.2.mem ((c.tc : Thread Cert.ScGateRefIdeal.nD Cert.ScGateRefIdeal.τ).loc Cert.ScGateRefIdeal.main_v23) = v0 c
          ∧ r.2.mem ((c.tc : Thread Cert.ScGateRefIdeal.nD Cert.ScGateRefIdeal.τ).loc Cert.ScGateRefIdeal.main_arg0) = m' ((c.tc : Thread Cert.ScGateRefIdeal.nD Cert.ScGateRefIdeal.τ).loc Cert.ScGateRefIdeal.main_arg0)
          ∧ r.2.mem ((c.tc : Thread Cert.ScGateRefIdeal.nD Cert.ScGateRefIdeal.τ).loc Cert.ScGateRefIdeal.main_arg1) = m' ((c.tc : Thread Cert.ScGateRefIdeal.nD Cert.ScGateRefIdeal.τ).loc Cert.ScGateRefIdeal.main_arg1))

def preserves_ScOutLn_ScOutLnIdeal : Prop :=
  True

def algebraic_ScOutLnIdeal_ScOutLnRefIdeal [hScOutLnIdeal : Cert.ScOutLnIdeal.Facts] [hScOutLnRefIdeal : Cert.ScOutLnRefIdeal.Facts] : Prop :=
  ∀ (m : (ℓ : Loc Cert.ScOutLnIdeal.nD Cert.ScOutLnIdeal.τ Cert.ScOutLnIdeal.sig) → Buf (Elt Ideal) ℓ) (g : Dev Cert.ScOutLnIdeal.nD → PrngReg)
    (m' : (ℓ : Loc Cert.ScOutLnRefIdeal.nD Cert.ScOutLnRefIdeal.τ Cert.ScOutLnRefIdeal.sig) → Buf (Elt Ideal) ℓ) (g' : Dev Cert.ScOutLnRefIdeal.nD → PrngReg), Pre_ScOutLnIdeal m →
    (∀ c : Dev Cert.ScOutLnIdeal.nD,
      m' ((c.tc : Thread Cert.ScOutLnRefIdeal.nD Cert.ScOutLnRefIdeal.τ).loc Cert.ScOutLnRefIdeal.main_arg0) = m ((c.tc : Thread Cert.ScOutLnIdeal.nD Cert.ScOutLnIdeal.τ).loc Cert.ScOutLnIdeal.main_arg0)
      ∧ m' ((c.tc : Thread Cert.ScOutLnRefIdeal.nD Cert.ScOutLnRefIdeal.τ).loc Cert.ScOutLnRefIdeal.main_arg1) = m ((c.tc : Thread Cert.ScOutLnIdeal.nD Cert.ScOutLnIdeal.τ).loc Cert.ScOutLnIdeal.main_arg1)
      ∧ m' ((c.tc : Thread Cert.ScOutLnRefIdeal.nD Cert.ScOutLnRefIdeal.τ).loc Cert.ScOutLnRefIdeal.main_arg2) = m ((c.tc : Thread Cert.ScOutLnIdeal.nD Cert.ScOutLnIdeal.τ).loc Cert.ScOutLnIdeal.main_arg2)
      ∧ m' ((c.tc : Thread Cert.ScOutLnRefIdeal.nD Cert.ScOutLnRefIdeal.τ).loc Cert.ScOutLnRefIdeal.main_arg3) = m ((c.tc : Thread Cert.ScOutLnIdeal.nD Cert.ScOutLnIdeal.τ).loc Cert.ScOutLnIdeal.main_arg3)
      ∧ m' ((c.tc : Thread Cert.ScOutLnRefIdeal.nD Cert.ScOutLnRefIdeal.τ).loc Cert.ScOutLnRefIdeal.main_arg4) = m ((c.tc : Thread Cert.ScOutLnIdeal.nD Cert.ScOutLnIdeal.τ).loc Cert.ScOutLnIdeal.main_arg4)) →
    ∃ (v0 : (c : Dev Cert.ScOutLnIdeal.nD) → Buf (Elt Ideal) ((c.tc : Thread Cert.ScOutLnIdeal.nD Cert.ScOutLnIdeal.τ).loc Cert.ScOutLnIdeal.main_v2_0)) (v1 : (c : Dev Cert.ScOutLnIdeal.nD) → Buf (Elt Ideal) ((c.tc : Thread Cert.ScOutLnIdeal.nD Cert.ScOutLnIdeal.τ).loc Cert.ScOutLnIdeal.main_v2_1)) (v2 : (c : Dev Cert.ScOutLnIdeal.nD) → Buf (Elt Ideal) ((c.tc : Thread Cert.ScOutLnIdeal.nD Cert.ScOutLnIdeal.τ).loc Cert.ScOutLnIdeal.main_v2_2)) (v3 : (c : Dev Cert.ScOutLnIdeal.nD) → Buf (Elt Ideal) ((c.tc : Thread Cert.ScOutLnIdeal.nD Cert.ScOutLnIdeal.τ).loc Cert.ScOutLnIdeal.main_v2_3)),
      θ_run (Cert.ScOutLnIdeal.defs (F := Ideal)) (onTc (τ := Cert.ScOutLnIdeal.τ) (Cert.ScOutLnIdeal.main (F := Ideal))) ⟨m, fun _ => 0, g⟩ (fun r => ∀ c : Dev Cert.ScOutLnIdeal.nD,
          r.2.mem ((c.tc : Thread Cert.ScOutLnIdeal.nD Cert.ScOutLnIdeal.τ).loc Cert.ScOutLnIdeal.main_v2_0) = v0 c
          ∧ r.2.mem ((c.tc : Thread Cert.ScOutLnIdeal.nD Cert.ScOutLnIdeal.τ).loc Cert.ScOutLnIdeal.main_v2_1) = v1 c
          ∧ r.2.mem ((c.tc : Thread Cert.ScOutLnIdeal.nD Cert.ScOutLnIdeal.τ).loc Cert.ScOutLnIdeal.main_v2_2) = v2 c
          ∧ r.2.mem ((c.tc : Thread Cert.ScOutLnIdeal.nD Cert.ScOutLnIdeal.τ).loc Cert.ScOutLnIdeal.main_v2_3) = v3 c
          ∧ r.2.mem ((c.tc : Thread Cert.ScOutLnIdeal.nD Cert.ScOutLnIdeal.τ).loc Cert.ScOutLnIdeal.main_arg0) = m ((c.tc : Thread Cert.ScOutLnIdeal.nD Cert.ScOutLnIdeal.τ).loc Cert.ScOutLnIdeal.main_arg0)
          ∧ r.2.mem ((c.tc : Thread Cert.ScOutLnIdeal.nD Cert.ScOutLnIdeal.τ).loc Cert.ScOutLnIdeal.main_arg1) = m ((c.tc : Thread Cert.ScOutLnIdeal.nD Cert.ScOutLnIdeal.τ).loc Cert.ScOutLnIdeal.main_arg1)
          ∧ r.2.mem ((c.tc : Thread Cert.ScOutLnIdeal.nD Cert.ScOutLnIdeal.τ).loc Cert.ScOutLnIdeal.main_arg2) = m ((c.tc : Thread Cert.ScOutLnIdeal.nD Cert.ScOutLnIdeal.τ).loc Cert.ScOutLnIdeal.main_arg2)
          ∧ r.2.mem ((c.tc : Thread Cert.ScOutLnIdeal.nD Cert.ScOutLnIdeal.τ).loc Cert.ScOutLnIdeal.main_arg3) = m ((c.tc : Thread Cert.ScOutLnIdeal.nD Cert.ScOutLnIdeal.τ).loc Cert.ScOutLnIdeal.main_arg3)
          ∧ r.2.mem ((c.tc : Thread Cert.ScOutLnIdeal.nD Cert.ScOutLnIdeal.τ).loc Cert.ScOutLnIdeal.main_arg4) = m ((c.tc : Thread Cert.ScOutLnIdeal.nD Cert.ScOutLnIdeal.τ).loc Cert.ScOutLnIdeal.main_arg4))
      ∧ θ_run (Cert.ScOutLnRefIdeal.defs (F := Ideal)) (onTc (τ := Cert.ScOutLnRefIdeal.τ) (Cert.ScOutLnRefIdeal.main (F := Ideal))) ⟨m', fun _ => 0, g'⟩ (fun r => ∀ c : Dev Cert.ScOutLnRefIdeal.nD,
          r.2.mem ((c.tc : Thread Cert.ScOutLnRefIdeal.nD Cert.ScOutLnRefIdeal.τ).loc Cert.ScOutLnRefIdeal.main_v25) = v0 c
          ∧ r.2.mem ((c.tc : Thread Cert.ScOutLnRefIdeal.nD Cert.ScOutLnRefIdeal.τ).loc Cert.ScOutLnRefIdeal.main_v40) = v1 c
          ∧ r.2.mem ((c.tc : Thread Cert.ScOutLnRefIdeal.nD Cert.ScOutLnRefIdeal.τ).loc Cert.ScOutLnRefIdeal.main_v44) = v2 c
          ∧ r.2.mem ((c.tc : Thread Cert.ScOutLnRefIdeal.nD Cert.ScOutLnRefIdeal.τ).loc Cert.ScOutLnRefIdeal.main_v39) = v3 c
          ∧ r.2.mem ((c.tc : Thread Cert.ScOutLnRefIdeal.nD Cert.ScOutLnRefIdeal.τ).loc Cert.ScOutLnRefIdeal.main_arg0) = m' ((c.tc : Thread Cert.ScOutLnRefIdeal.nD Cert.ScOutLnRefIdeal.τ).loc Cert.ScOutLnRefIdeal.main_arg0)
          ∧ r.2.mem ((c.tc : Thread Cert.ScOutLnRefIdeal.nD Cert.ScOutLnRefIdeal.τ).loc Cert.ScOutLnRefIdeal.main_arg1) = m' ((c.tc : Thread Cert.ScOutLnRefIdeal.nD Cert.ScOutLnRefIdeal.τ).loc Cert.ScOutLnRefIdeal.main_arg1)
          ∧ r.2.mem ((c.tc : Thread Cert.ScOutLnRefIdeal.nD Cert.ScOutLnRefIdeal.τ).loc Cert.ScOutLnRefIdeal.main_arg2) = m' ((c.tc : Thread Cert.ScOutLnRefIdeal.nD Cert.ScOutLnRefIdeal.τ).loc Cert.ScOutLnRefIdeal.main_arg2)
          ∧ r.2.mem ((c.tc : Thread Cert.ScOutLnRefIdeal.nD Cert.ScOutLnRefIdeal.τ).loc Cert.ScOutLnRefIdeal.main_arg3) = m' ((c.tc : Thread Cert.ScOutLnRefIdeal.nD Cert.ScOutLnRefIdeal.τ).loc Cert.ScOutLnRefIdeal.main_arg3)
          ∧ r.2.mem ((c.tc : Thread Cert.ScOutLnRefIdeal.nD Cert.ScOutLnRefIdeal.τ).loc Cert.ScOutLnRefIdeal.main_arg4) = m' ((c.tc : Thread Cert.ScOutLnRefIdeal.nD Cert.ScOutLnRefIdeal.τ).loc Cert.ScOutLnRefIdeal.main_arg4))

def preserves_ConfNormBwd_ConfNormBwdIdeal : Prop :=
  True

def algebraic_ConfNormBwdIdeal_ConfNormBwdRefIdeal_pre_finite_norm_bwd [hConfNormBwdIdeal : Cert.ConfNormBwdIdeal.Facts] [hConfNormBwdRefIdeal : Cert.ConfNormBwdRefIdeal.Facts] [hPre_finite_norm_bwd : Cert.Pre_finite_norm_bwd.Facts] : Prop :=
  ∀ (m : (ℓ : Loc Cert.ConfNormBwdIdeal.nD Cert.ConfNormBwdIdeal.τ Cert.ConfNormBwdIdeal.sig) → Buf (Elt Ideal) ℓ) (g : Dev Cert.ConfNormBwdIdeal.nD → PrngReg)
    (m' : (ℓ : Loc Cert.ConfNormBwdRefIdeal.nD Cert.ConfNormBwdRefIdeal.τ Cert.ConfNormBwdRefIdeal.sig) → Buf (Elt Ideal) ℓ) (g' : Dev Cert.ConfNormBwdRefIdeal.nD → PrngReg), Pre_ConfNormBwdIdeal_finite_norm_bwd m →
    (∀ c : Dev Cert.ConfNormBwdIdeal.nD,
      m' ((c.tc : Thread Cert.ConfNormBwdRefIdeal.nD Cert.ConfNormBwdRefIdeal.τ).loc Cert.ConfNormBwdRefIdeal.main_arg0) = m ((c.tc : Thread Cert.ConfNormBwdIdeal.nD Cert.ConfNormBwdIdeal.τ).loc Cert.ConfNormBwdIdeal.main_arg0)
      ∧ m' ((c.tc : Thread Cert.ConfNormBwdRefIdeal.nD Cert.ConfNormBwdRefIdeal.τ).loc Cert.ConfNormBwdRefIdeal.main_arg1) = m ((c.tc : Thread Cert.ConfNormBwdIdeal.nD Cert.ConfNormBwdIdeal.τ).loc Cert.ConfNormBwdIdeal.main_arg1)
      ∧ m' ((c.tc : Thread Cert.ConfNormBwdRefIdeal.nD Cert.ConfNormBwdRefIdeal.τ).loc Cert.ConfNormBwdRefIdeal.main_arg2) = m ((c.tc : Thread Cert.ConfNormBwdIdeal.nD Cert.ConfNormBwdIdeal.τ).loc Cert.ConfNormBwdIdeal.main_arg2)
      ∧ m' ((c.tc : Thread Cert.ConfNormBwdRefIdeal.nD Cert.ConfNormBwdRefIdeal.τ).loc Cert.ConfNormBwdRefIdeal.main_arg3) = m ((c.tc : Thread Cert.ConfNormBwdIdeal.nD Cert.ConfNormBwdIdeal.τ).loc Cert.ConfNormBwdIdeal.main_arg3)) →
    ∃ (v0 : (c : Dev Cert.ConfNormBwdIdeal.nD) → Buf (Elt Ideal) ((c.tc : Thread Cert.ConfNormBwdIdeal.nD Cert.ConfNormBwdIdeal.τ).loc Cert.ConfNormBwdIdeal.main_v0_0)) (v1 : (c : Dev Cert.ConfNormBwdIdeal.nD) → Buf (Elt Ideal) ((c.tc : Thread Cert.ConfNormBwdIdeal.nD Cert.ConfNormBwdIdeal.τ).loc Cert.ConfNormBwdIdeal.main_v0_1)) (v2 : (c : Dev Cert.ConfNormBwdIdeal.nD) → Buf (Elt Ideal) ((c.tc : Thread Cert.ConfNormBwdIdeal.nD Cert.ConfNormBwdIdeal.τ).loc Cert.ConfNormBwdIdeal.main_v0_2)),
      θ_run (Cert.ConfNormBwdIdeal.defs (F := Ideal)) (onTc (τ := Cert.ConfNormBwdIdeal.τ) (Cert.ConfNormBwdIdeal.main (F := Ideal))) ⟨m, fun _ => 0, g⟩ (fun r => ∀ c : Dev Cert.ConfNormBwdIdeal.nD,
          r.2.mem ((c.tc : Thread Cert.ConfNormBwdIdeal.nD Cert.ConfNormBwdIdeal.τ).loc Cert.ConfNormBwdIdeal.main_v0_0) = v0 c
          ∧ r.2.mem ((c.tc : Thread Cert.ConfNormBwdIdeal.nD Cert.ConfNormBwdIdeal.τ).loc Cert.ConfNormBwdIdeal.main_v0_1) = v1 c
          ∧ r.2.mem ((c.tc : Thread Cert.ConfNormBwdIdeal.nD Cert.ConfNormBwdIdeal.τ).loc Cert.ConfNormBwdIdeal.main_v0_2) = v2 c
          ∧ r.2.mem ((c.tc : Thread Cert.ConfNormBwdIdeal.nD Cert.ConfNormBwdIdeal.τ).loc Cert.ConfNormBwdIdeal.main_arg0) = m ((c.tc : Thread Cert.ConfNormBwdIdeal.nD Cert.ConfNormBwdIdeal.τ).loc Cert.ConfNormBwdIdeal.main_arg0)
          ∧ r.2.mem ((c.tc : Thread Cert.ConfNormBwdIdeal.nD Cert.ConfNormBwdIdeal.τ).loc Cert.ConfNormBwdIdeal.main_arg1) = m ((c.tc : Thread Cert.ConfNormBwdIdeal.nD Cert.ConfNormBwdIdeal.τ).loc Cert.ConfNormBwdIdeal.main_arg1)
          ∧ r.2.mem ((c.tc : Thread Cert.ConfNormBwdIdeal.nD Cert.ConfNormBwdIdeal.τ).loc Cert.ConfNormBwdIdeal.main_arg2) = m ((c.tc : Thread Cert.ConfNormBwdIdeal.nD Cert.ConfNormBwdIdeal.τ).loc Cert.ConfNormBwdIdeal.main_arg2)
          ∧ r.2.mem ((c.tc : Thread Cert.ConfNormBwdIdeal.nD Cert.ConfNormBwdIdeal.τ).loc Cert.ConfNormBwdIdeal.main_arg3) = m ((c.tc : Thread Cert.ConfNormBwdIdeal.nD Cert.ConfNormBwdIdeal.τ).loc Cert.ConfNormBwdIdeal.main_arg3))
      ∧ θ_run (Cert.ConfNormBwdRefIdeal.defs (F := Ideal)) (onTc (τ := Cert.ConfNormBwdRefIdeal.τ) (Cert.ConfNormBwdRefIdeal.main (F := Ideal))) ⟨m', fun _ => 0, g'⟩ (fun r => ∀ c : Dev Cert.ConfNormBwdRefIdeal.nD,
          r.2.mem ((c.tc : Thread Cert.ConfNormBwdRefIdeal.nD Cert.ConfNormBwdRefIdeal.τ).loc Cert.ConfNormBwdRefIdeal.main_v59) = v0 c
          ∧ r.2.mem ((c.tc : Thread Cert.ConfNormBwdRefIdeal.nD Cert.ConfNormBwdRefIdeal.τ).loc Cert.ConfNormBwdRefIdeal.main_v33) = v1 c
          ∧ r.2.mem ((c.tc : Thread Cert.ConfNormBwdRefIdeal.nD Cert.ConfNormBwdRefIdeal.τ).loc Cert.ConfNormBwdRefIdeal.main_v30) = v2 c
          ∧ r.2.mem ((c.tc : Thread Cert.ConfNormBwdRefIdeal.nD Cert.ConfNormBwdRefIdeal.τ).loc Cert.ConfNormBwdRefIdeal.main_arg0) = m' ((c.tc : Thread Cert.ConfNormBwdRefIdeal.nD Cert.ConfNormBwdRefIdeal.τ).loc Cert.ConfNormBwdRefIdeal.main_arg0)
          ∧ r.2.mem ((c.tc : Thread Cert.ConfNormBwdRefIdeal.nD Cert.ConfNormBwdRefIdeal.τ).loc Cert.ConfNormBwdRefIdeal.main_arg1) = m' ((c.tc : Thread Cert.ConfNormBwdRefIdeal.nD Cert.ConfNormBwdRefIdeal.τ).loc Cert.ConfNormBwdRefIdeal.main_arg1)
          ∧ r.2.mem ((c.tc : Thread Cert.ConfNormBwdRefIdeal.nD Cert.ConfNormBwdRefIdeal.τ).loc Cert.ConfNormBwdRefIdeal.main_arg2) = m' ((c.tc : Thread Cert.ConfNormBwdRefIdeal.nD Cert.ConfNormBwdRefIdeal.τ).loc Cert.ConfNormBwdRefIdeal.main_arg2)
          ∧ r.2.mem ((c.tc : Thread Cert.ConfNormBwdRefIdeal.nD Cert.ConfNormBwdRefIdeal.τ).loc Cert.ConfNormBwdRefIdeal.main_arg3) = m' ((c.tc : Thread Cert.ConfNormBwdRefIdeal.nD Cert.ConfNormBwdRefIdeal.τ).loc Cert.ConfNormBwdRefIdeal.main_arg3))

def preserves_ScFirstBwd_ScFirstBwdIdeal : Prop :=
  True

def algebraic_ScFirstBwdIdeal_ScFirstBwdRefIdeal [hScFirstBwdIdeal : Cert.ScFirstBwdIdeal.Facts] [hScFirstBwdRefIdeal : Cert.ScFirstBwdRefIdeal.Facts] : Prop :=
  ∀ (m : (ℓ : Loc Cert.ScFirstBwdIdeal.nD Cert.ScFirstBwdIdeal.τ Cert.ScFirstBwdIdeal.sig) → Buf (Elt Ideal) ℓ) (g : Dev Cert.ScFirstBwdIdeal.nD → PrngReg)
    (m' : (ℓ : Loc Cert.ScFirstBwdRefIdeal.nD Cert.ScFirstBwdRefIdeal.τ Cert.ScFirstBwdRefIdeal.sig) → Buf (Elt Ideal) ℓ) (g' : Dev Cert.ScFirstBwdRefIdeal.nD → PrngReg), Pre_ScFirstBwdIdeal m →
    (∀ c : Dev Cert.ScFirstBwdIdeal.nD,
      m' ((c.tc : Thread Cert.ScFirstBwdRefIdeal.nD Cert.ScFirstBwdRefIdeal.τ).loc Cert.ScFirstBwdRefIdeal.main_arg0) = m ((c.tc : Thread Cert.ScFirstBwdIdeal.nD Cert.ScFirstBwdIdeal.τ).loc Cert.ScFirstBwdIdeal.main_arg0)
      ∧ m' ((c.tc : Thread Cert.ScFirstBwdRefIdeal.nD Cert.ScFirstBwdRefIdeal.τ).loc Cert.ScFirstBwdRefIdeal.main_arg1) = m ((c.tc : Thread Cert.ScFirstBwdIdeal.nD Cert.ScFirstBwdIdeal.τ).loc Cert.ScFirstBwdIdeal.main_arg1)
      ∧ m' ((c.tc : Thread Cert.ScFirstBwdRefIdeal.nD Cert.ScFirstBwdRefIdeal.τ).loc Cert.ScFirstBwdRefIdeal.main_arg2) = m ((c.tc : Thread Cert.ScFirstBwdIdeal.nD Cert.ScFirstBwdIdeal.τ).loc Cert.ScFirstBwdIdeal.main_arg2)) →
    ∃ (v0 : (c : Dev Cert.ScFirstBwdIdeal.nD) → Buf (Elt Ideal) ((c.tc : Thread Cert.ScFirstBwdIdeal.nD Cert.ScFirstBwdIdeal.τ).loc Cert.ScFirstBwdIdeal.main_v1)),
      θ_run (Cert.ScFirstBwdIdeal.defs (F := Ideal)) (onTc (τ := Cert.ScFirstBwdIdeal.τ) (Cert.ScFirstBwdIdeal.main (F := Ideal))) ⟨m, fun _ => 0, g⟩ (fun r => ∀ c : Dev Cert.ScFirstBwdIdeal.nD,
          r.2.mem ((c.tc : Thread Cert.ScFirstBwdIdeal.nD Cert.ScFirstBwdIdeal.τ).loc Cert.ScFirstBwdIdeal.main_v1) = v0 c
          ∧ r.2.mem ((c.tc : Thread Cert.ScFirstBwdIdeal.nD Cert.ScFirstBwdIdeal.τ).loc Cert.ScFirstBwdIdeal.main_arg0) = m ((c.tc : Thread Cert.ScFirstBwdIdeal.nD Cert.ScFirstBwdIdeal.τ).loc Cert.ScFirstBwdIdeal.main_arg0)
          ∧ r.2.mem ((c.tc : Thread Cert.ScFirstBwdIdeal.nD Cert.ScFirstBwdIdeal.τ).loc Cert.ScFirstBwdIdeal.main_arg1) = m ((c.tc : Thread Cert.ScFirstBwdIdeal.nD Cert.ScFirstBwdIdeal.τ).loc Cert.ScFirstBwdIdeal.main_arg1)
          ∧ r.2.mem ((c.tc : Thread Cert.ScFirstBwdIdeal.nD Cert.ScFirstBwdIdeal.τ).loc Cert.ScFirstBwdIdeal.main_arg2) = m ((c.tc : Thread Cert.ScFirstBwdIdeal.nD Cert.ScFirstBwdIdeal.τ).loc Cert.ScFirstBwdIdeal.main_arg2))
      ∧ θ_run (Cert.ScFirstBwdRefIdeal.defs (F := Ideal)) (onTc (τ := Cert.ScFirstBwdRefIdeal.τ) (Cert.ScFirstBwdRefIdeal.main (F := Ideal))) ⟨m', fun _ => 0, g'⟩ (fun r => ∀ c : Dev Cert.ScFirstBwdRefIdeal.nD,
          r.2.mem ((c.tc : Thread Cert.ScFirstBwdRefIdeal.nD Cert.ScFirstBwdRefIdeal.τ).loc Cert.ScFirstBwdRefIdeal.main_v15) = v0 c
          ∧ r.2.mem ((c.tc : Thread Cert.ScFirstBwdRefIdeal.nD Cert.ScFirstBwdRefIdeal.τ).loc Cert.ScFirstBwdRefIdeal.main_arg0) = m' ((c.tc : Thread Cert.ScFirstBwdRefIdeal.nD Cert.ScFirstBwdRefIdeal.τ).loc Cert.ScFirstBwdRefIdeal.main_arg0)
          ∧ r.2.mem ((c.tc : Thread Cert.ScFirstBwdRefIdeal.nD Cert.ScFirstBwdRefIdeal.τ).loc Cert.ScFirstBwdRefIdeal.main_arg1) = m' ((c.tc : Thread Cert.ScFirstBwdRefIdeal.nD Cert.ScFirstBwdRefIdeal.τ).loc Cert.ScFirstBwdRefIdeal.main_arg1)
          ∧ r.2.mem ((c.tc : Thread Cert.ScFirstBwdRefIdeal.nD Cert.ScFirstBwdRefIdeal.τ).loc Cert.ScFirstBwdRefIdeal.main_arg2) = m' ((c.tc : Thread Cert.ScFirstBwdRefIdeal.nD Cert.ScFirstBwdRefIdeal.τ).loc Cert.ScFirstBwdRefIdeal.main_arg2))

def preserves_CfIn_CfInIdeal : Prop :=
  True

def algebraic_CfInIdeal_CfInRefIdeal [hCfInIdeal : Cert.CfInIdeal.Facts] [hCfInRefIdeal : Cert.CfInRefIdeal.Facts] : Prop :=
  ∀ (m : (ℓ : Loc Cert.CfInIdeal.nD Cert.CfInIdeal.τ Cert.CfInIdeal.sig) → Buf (Elt Ideal) ℓ) (g : Dev Cert.CfInIdeal.nD → PrngReg)
    (m' : (ℓ : Loc Cert.CfInRefIdeal.nD Cert.CfInRefIdeal.τ Cert.CfInRefIdeal.sig) → Buf (Elt Ideal) ℓ) (g' : Dev Cert.CfInRefIdeal.nD → PrngReg), Pre_CfInIdeal m →
    (∀ c : Dev Cert.CfInIdeal.nD,
      m' ((c.tc : Thread Cert.CfInRefIdeal.nD Cert.CfInRefIdeal.τ).loc Cert.CfInRefIdeal.main_arg0) = m ((c.tc : Thread Cert.CfInIdeal.nD Cert.CfInIdeal.τ).loc Cert.CfInIdeal.main_arg0)
      ∧ m' ((c.tc : Thread Cert.CfInRefIdeal.nD Cert.CfInRefIdeal.τ).loc Cert.CfInRefIdeal.main_arg1) = m ((c.tc : Thread Cert.CfInIdeal.nD Cert.CfInIdeal.τ).loc Cert.CfInIdeal.main_arg1)
      ∧ m' ((c.tc : Thread Cert.CfInRefIdeal.nD Cert.CfInRefIdeal.τ).loc Cert.CfInRefIdeal.main_arg2) = m ((c.tc : Thread Cert.CfInIdeal.nD Cert.CfInIdeal.τ).loc Cert.CfInIdeal.main_arg2)) →
    ∃ (v0 : (c : Dev Cert.CfInIdeal.nD) → Buf (Elt Ideal) ((c.tc : Thread Cert.CfInIdeal.nD Cert.CfInIdeal.τ).loc Cert.CfInIdeal.main_v2)),
      θ_run (Cert.CfInIdeal.defs (F := Ideal)) (onTc (τ := Cert.CfInIdeal.τ) (Cert.CfInIdeal.main (F := Ideal))) ⟨m, fun _ => 0, g⟩ (fun r => ∀ c : Dev Cert.CfInIdeal.nD,
          r.2.mem ((c.tc : Thread Cert.CfInIdeal.nD Cert.CfInIdeal.τ).loc Cert.CfInIdeal.main_v2) = v0 c
          ∧ r.2.mem ((c.tc : Thread Cert.CfInIdeal.nD Cert.CfInIdeal.τ).loc Cert.CfInIdeal.main_arg0) = m ((c.tc : Thread Cert.CfInIdeal.nD Cert.CfInIdeal.τ).loc Cert.CfInIdeal.main_arg0)
          ∧ r.2.mem ((c.tc : Thread Cert.CfInIdeal.nD Cert.CfInIdeal.τ).loc Cert.CfInIdeal.main_arg1) = m ((c.tc : Thread Cert.CfInIdeal.nD Cert.CfInIdeal.τ).loc Cert.CfInIdeal.main_arg1)
          ∧ r.2.mem ((c.tc : Thread Cert.CfInIdeal.nD Cert.CfInIdeal.τ).loc Cert.CfInIdeal.main_arg2) = m ((c.tc : Thread Cert.CfInIdeal.nD Cert.CfInIdeal.τ).loc Cert.CfInIdeal.main_arg2))
      ∧ θ_run (Cert.CfInRefIdeal.defs (F := Ideal)) (onTc (τ := Cert.CfInRefIdeal.τ) (Cert.CfInRefIdeal.main (F := Ideal))) ⟨m', fun _ => 0, g'⟩ (fun r => ∀ c : Dev Cert.CfInRefIdeal.nD,
          r.2.mem ((c.tc : Thread Cert.CfInRefIdeal.nD Cert.CfInRefIdeal.τ).loc Cert.CfInRefIdeal.main_v2) = v0 c
          ∧ r.2.mem ((c.tc : Thread Cert.CfInRefIdeal.nD Cert.CfInRefIdeal.τ).loc Cert.CfInRefIdeal.main_arg0) = m' ((c.tc : Thread Cert.CfInRefIdeal.nD Cert.CfInRefIdeal.τ).loc Cert.CfInRefIdeal.main_arg0)
          ∧ r.2.mem ((c.tc : Thread Cert.CfInRefIdeal.nD Cert.CfInRefIdeal.τ).loc Cert.CfInRefIdeal.main_arg1) = m' ((c.tc : Thread Cert.CfInRefIdeal.nD Cert.CfInRefIdeal.τ).loc Cert.CfInRefIdeal.main_arg1)
          ∧ r.2.mem ((c.tc : Thread Cert.CfInRefIdeal.nD Cert.CfInRefIdeal.τ).loc Cert.CfInRefIdeal.main_arg2) = m' ((c.tc : Thread Cert.CfInRefIdeal.nD Cert.CfInRefIdeal.τ).loc Cert.CfInRefIdeal.main_arg2))

def preserves_CfDwIn_CfDwInIdeal : Prop :=
  True

def algebraic_CfDwInIdeal_CfDwInRefIdeal [hCfDwInIdeal : Cert.CfDwInIdeal.Facts] [hCfDwInRefIdeal : Cert.CfDwInRefIdeal.Facts] : Prop :=
  ∀ (m : (ℓ : Loc Cert.CfDwInIdeal.nD Cert.CfDwInIdeal.τ Cert.CfDwInIdeal.sig) → Buf (Elt Ideal) ℓ) (g : Dev Cert.CfDwInIdeal.nD → PrngReg)
    (m' : (ℓ : Loc Cert.CfDwInRefIdeal.nD Cert.CfDwInRefIdeal.τ Cert.CfDwInRefIdeal.sig) → Buf (Elt Ideal) ℓ) (g' : Dev Cert.CfDwInRefIdeal.nD → PrngReg), Pre_CfDwInIdeal m →
    (∀ c : Dev Cert.CfDwInIdeal.nD,
      m' ((c.tc : Thread Cert.CfDwInRefIdeal.nD Cert.CfDwInRefIdeal.τ).loc Cert.CfDwInRefIdeal.main_arg0) = m ((c.tc : Thread Cert.CfDwInIdeal.nD Cert.CfDwInIdeal.τ).loc Cert.CfDwInIdeal.main_arg0)
      ∧ m' ((c.tc : Thread Cert.CfDwInRefIdeal.nD Cert.CfDwInRefIdeal.τ).loc Cert.CfDwInRefIdeal.main_arg1) = m ((c.tc : Thread Cert.CfDwInIdeal.nD Cert.CfDwInIdeal.τ).loc Cert.CfDwInIdeal.main_arg1)) →
    ∃ (v0 : (c : Dev Cert.CfDwInIdeal.nD) → Buf (Elt Ideal) ((c.tc : Thread Cert.CfDwInIdeal.nD Cert.CfDwInIdeal.τ).loc Cert.CfDwInIdeal.main_v1)),
      θ_run (Cert.CfDwInIdeal.defs (F := Ideal)) (onTc (τ := Cert.CfDwInIdeal.τ) (Cert.CfDwInIdeal.main (F := Ideal))) ⟨m, fun _ => 0, g⟩ (fun r => ∀ c : Dev Cert.CfDwInIdeal.nD,
          r.2.mem ((c.tc : Thread Cert.CfDwInIdeal.nD Cert.CfDwInIdeal.τ).loc Cert.CfDwInIdeal.main_v1) = v0 c
          ∧ r.2.mem ((c.tc : Thread Cert.CfDwInIdeal.nD Cert.CfDwInIdeal.τ).loc Cert.CfDwInIdeal.main_arg0) = m ((c.tc : Thread Cert.CfDwInIdeal.nD Cert.CfDwInIdeal.τ).loc Cert.CfDwInIdeal.main_arg0)
          ∧ r.2.mem ((c.tc : Thread Cert.CfDwInIdeal.nD Cert.CfDwInIdeal.τ).loc Cert.CfDwInIdeal.main_arg1) = m ((c.tc : Thread Cert.CfDwInIdeal.nD Cert.CfDwInIdeal.τ).loc Cert.CfDwInIdeal.main_arg1))
      ∧ θ_run (Cert.CfDwInRefIdeal.defs (F := Ideal)) (onTc (τ := Cert.CfDwInRefIdeal.τ) (Cert.CfDwInRefIdeal.main (F := Ideal))) ⟨m', fun _ => 0, g'⟩ (fun r => ∀ c : Dev Cert.CfDwInRefIdeal.nD,
          r.2.mem ((c.tc : Thread Cert.CfDwInRefIdeal.nD Cert.CfDwInRefIdeal.τ).loc Cert.CfDwInRefIdeal.main_v12) = v0 c
          ∧ r.2.mem ((c.tc : Thread Cert.CfDwInRefIdeal.nD Cert.CfDwInRefIdeal.τ).loc Cert.CfDwInRefIdeal.main_arg0) = m' ((c.tc : Thread Cert.CfDwInRefIdeal.nD Cert.CfDwInRefIdeal.τ).loc Cert.CfDwInRefIdeal.main_arg0)
          ∧ r.2.mem ((c.tc : Thread Cert.CfDwInRefIdeal.nD Cert.CfDwInRefIdeal.τ).loc Cert.CfDwInRefIdeal.main_arg1) = m' ((c.tc : Thread Cert.CfDwInRefIdeal.nD Cert.CfDwInRefIdeal.τ).loc Cert.CfDwInRefIdeal.main_arg1))

def preserves_CfInBwd_CfInBwdIdeal : Prop :=
  True

def algebraic_CfInBwdIdeal_CfInBwdRefIdeal_pre_finite_cf_in_bwd [hCfInBwdIdeal : Cert.CfInBwdIdeal.Facts] [hCfInBwdRefIdeal : Cert.CfInBwdRefIdeal.Facts] [hPre_finite_cf_in_bwd : Cert.Pre_finite_cf_in_bwd.Facts] : Prop :=
  ∀ (m : (ℓ : Loc Cert.CfInBwdIdeal.nD Cert.CfInBwdIdeal.τ Cert.CfInBwdIdeal.sig) → Buf (Elt Ideal) ℓ) (g : Dev Cert.CfInBwdIdeal.nD → PrngReg)
    (m' : (ℓ : Loc Cert.CfInBwdRefIdeal.nD Cert.CfInBwdRefIdeal.τ Cert.CfInBwdRefIdeal.sig) → Buf (Elt Ideal) ℓ) (g' : Dev Cert.CfInBwdRefIdeal.nD → PrngReg), Pre_CfInBwdIdeal_finite_cf_in_bwd m →
    (∀ c : Dev Cert.CfInBwdIdeal.nD,
      m' ((c.tc : Thread Cert.CfInBwdRefIdeal.nD Cert.CfInBwdRefIdeal.τ).loc Cert.CfInBwdRefIdeal.main_arg0) = m ((c.tc : Thread Cert.CfInBwdIdeal.nD Cert.CfInBwdIdeal.τ).loc Cert.CfInBwdIdeal.main_arg0)
      ∧ m' ((c.tc : Thread Cert.CfInBwdRefIdeal.nD Cert.CfInBwdRefIdeal.τ).loc Cert.CfInBwdRefIdeal.main_arg1) = m ((c.tc : Thread Cert.CfInBwdIdeal.nD Cert.CfInBwdIdeal.τ).loc Cert.CfInBwdIdeal.main_arg1)
      ∧ m' ((c.tc : Thread Cert.CfInBwdRefIdeal.nD Cert.CfInBwdRefIdeal.τ).loc Cert.CfInBwdRefIdeal.main_arg2) = m ((c.tc : Thread Cert.CfInBwdIdeal.nD Cert.CfInBwdIdeal.τ).loc Cert.CfInBwdIdeal.main_arg2)
      ∧ m' ((c.tc : Thread Cert.CfInBwdRefIdeal.nD Cert.CfInBwdRefIdeal.τ).loc Cert.CfInBwdRefIdeal.main_arg3) = m ((c.tc : Thread Cert.CfInBwdIdeal.nD Cert.CfInBwdIdeal.τ).loc Cert.CfInBwdIdeal.main_arg3)
      ∧ m' ((c.tc : Thread Cert.CfInBwdRefIdeal.nD Cert.CfInBwdRefIdeal.τ).loc Cert.CfInBwdRefIdeal.main_arg4) = m ((c.tc : Thread Cert.CfInBwdIdeal.nD Cert.CfInBwdIdeal.τ).loc Cert.CfInBwdIdeal.main_arg4)
      ∧ m' ((c.tc : Thread Cert.CfInBwdRefIdeal.nD Cert.CfInBwdRefIdeal.τ).loc Cert.CfInBwdRefIdeal.main_arg5) = m ((c.tc : Thread Cert.CfInBwdIdeal.nD Cert.CfInBwdIdeal.τ).loc Cert.CfInBwdIdeal.main_arg5)) →
    ∃ (v0 : (c : Dev Cert.CfInBwdIdeal.nD) → Buf (Elt Ideal) ((c.tc : Thread Cert.CfInBwdIdeal.nD Cert.CfInBwdIdeal.τ).loc Cert.CfInBwdIdeal.main_v19_0)) (v1 : (c : Dev Cert.CfInBwdIdeal.nD) → Buf (Elt Ideal) ((c.tc : Thread Cert.CfInBwdIdeal.nD Cert.CfInBwdIdeal.τ).loc Cert.CfInBwdIdeal.main_v19_1)) (v2 : (c : Dev Cert.CfInBwdIdeal.nD) → Buf (Elt Ideal) ((c.tc : Thread Cert.CfInBwdIdeal.nD Cert.CfInBwdIdeal.τ).loc Cert.CfInBwdIdeal.main_v19_2)) (v3 : (c : Dev Cert.CfInBwdIdeal.nD) → Buf (Elt Ideal) ((c.tc : Thread Cert.CfInBwdIdeal.nD Cert.CfInBwdIdeal.τ).loc Cert.CfInBwdIdeal.main_v19_3)) (v4 : (c : Dev Cert.CfInBwdIdeal.nD) → Buf (Elt Ideal) ((c.tc : Thread Cert.CfInBwdIdeal.nD Cert.CfInBwdIdeal.τ).loc Cert.CfInBwdIdeal.main_v19_4)),
      θ_run (Cert.CfInBwdIdeal.defs (F := Ideal)) (onTc (τ := Cert.CfInBwdIdeal.τ) (Cert.CfInBwdIdeal.main (F := Ideal))) ⟨m, fun _ => 0, g⟩ (fun r => ∀ c : Dev Cert.CfInBwdIdeal.nD,
          r.2.mem ((c.tc : Thread Cert.CfInBwdIdeal.nD Cert.CfInBwdIdeal.τ).loc Cert.CfInBwdIdeal.main_v19_0) = v0 c
          ∧ r.2.mem ((c.tc : Thread Cert.CfInBwdIdeal.nD Cert.CfInBwdIdeal.τ).loc Cert.CfInBwdIdeal.main_v19_1) = v1 c
          ∧ r.2.mem ((c.tc : Thread Cert.CfInBwdIdeal.nD Cert.CfInBwdIdeal.τ).loc Cert.CfInBwdIdeal.main_v19_2) = v2 c
          ∧ r.2.mem ((c.tc : Thread Cert.CfInBwdIdeal.nD Cert.CfInBwdIdeal.τ).loc Cert.CfInBwdIdeal.main_v19_3) = v3 c
          ∧ r.2.mem ((c.tc : Thread Cert.CfInBwdIdeal.nD Cert.CfInBwdIdeal.τ).loc Cert.CfInBwdIdeal.main_v19_4) = v4 c
          ∧ r.2.mem ((c.tc : Thread Cert.CfInBwdIdeal.nD Cert.CfInBwdIdeal.τ).loc Cert.CfInBwdIdeal.main_arg0) = m ((c.tc : Thread Cert.CfInBwdIdeal.nD Cert.CfInBwdIdeal.τ).loc Cert.CfInBwdIdeal.main_arg0)
          ∧ r.2.mem ((c.tc : Thread Cert.CfInBwdIdeal.nD Cert.CfInBwdIdeal.τ).loc Cert.CfInBwdIdeal.main_arg1) = m ((c.tc : Thread Cert.CfInBwdIdeal.nD Cert.CfInBwdIdeal.τ).loc Cert.CfInBwdIdeal.main_arg1)
          ∧ r.2.mem ((c.tc : Thread Cert.CfInBwdIdeal.nD Cert.CfInBwdIdeal.τ).loc Cert.CfInBwdIdeal.main_arg2) = m ((c.tc : Thread Cert.CfInBwdIdeal.nD Cert.CfInBwdIdeal.τ).loc Cert.CfInBwdIdeal.main_arg2)
          ∧ r.2.mem ((c.tc : Thread Cert.CfInBwdIdeal.nD Cert.CfInBwdIdeal.τ).loc Cert.CfInBwdIdeal.main_arg3) = m ((c.tc : Thread Cert.CfInBwdIdeal.nD Cert.CfInBwdIdeal.τ).loc Cert.CfInBwdIdeal.main_arg3)
          ∧ r.2.mem ((c.tc : Thread Cert.CfInBwdIdeal.nD Cert.CfInBwdIdeal.τ).loc Cert.CfInBwdIdeal.main_arg4) = m ((c.tc : Thread Cert.CfInBwdIdeal.nD Cert.CfInBwdIdeal.τ).loc Cert.CfInBwdIdeal.main_arg4)
          ∧ r.2.mem ((c.tc : Thread Cert.CfInBwdIdeal.nD Cert.CfInBwdIdeal.τ).loc Cert.CfInBwdIdeal.main_arg5) = m ((c.tc : Thread Cert.CfInBwdIdeal.nD Cert.CfInBwdIdeal.τ).loc Cert.CfInBwdIdeal.main_arg5))
      ∧ θ_run (Cert.CfInBwdRefIdeal.defs (F := Ideal)) (onTc (τ := Cert.CfInBwdRefIdeal.τ) (Cert.CfInBwdRefIdeal.main (F := Ideal))) ⟨m', fun _ => 0, g'⟩ (fun r => ∀ c : Dev Cert.CfInBwdRefIdeal.nD,
          r.2.mem ((c.tc : Thread Cert.CfInBwdRefIdeal.nD Cert.CfInBwdRefIdeal.τ).loc Cert.CfInBwdRefIdeal.main_v70) = v0 c
          ∧ r.2.mem ((c.tc : Thread Cert.CfInBwdRefIdeal.nD Cert.CfInBwdRefIdeal.τ).loc Cert.CfInBwdRefIdeal.main_v71) = v1 c
          ∧ r.2.mem ((c.tc : Thread Cert.CfInBwdRefIdeal.nD Cert.CfInBwdRefIdeal.τ).loc Cert.CfInBwdRefIdeal.main_v44) = v2 c
          ∧ r.2.mem ((c.tc : Thread Cert.CfInBwdRefIdeal.nD Cert.CfInBwdRefIdeal.τ).loc Cert.CfInBwdRefIdeal.main_v41) = v3 c
          ∧ r.2.mem ((c.tc : Thread Cert.CfInBwdRefIdeal.nD Cert.CfInBwdRefIdeal.τ).loc Cert.CfInBwdRefIdeal.main_v73) = v4 c
          ∧ r.2.mem ((c.tc : Thread Cert.CfInBwdRefIdeal.nD Cert.CfInBwdRefIdeal.τ).loc Cert.CfInBwdRefIdeal.main_arg0) = m' ((c.tc : Thread Cert.CfInBwdRefIdeal.nD Cert.CfInBwdRefIdeal.τ).loc Cert.CfInBwdRefIdeal.main_arg0)
          ∧ r.2.mem ((c.tc : Thread Cert.CfInBwdRefIdeal.nD Cert.CfInBwdRefIdeal.τ).loc Cert.CfInBwdRefIdeal.main_arg1) = m' ((c.tc : Thread Cert.CfInBwdRefIdeal.nD Cert.CfInBwdRefIdeal.τ).loc Cert.CfInBwdRefIdeal.main_arg1)
          ∧ r.2.mem ((c.tc : Thread Cert.CfInBwdRefIdeal.nD Cert.CfInBwdRefIdeal.τ).loc Cert.CfInBwdRefIdeal.main_arg2) = m' ((c.tc : Thread Cert.CfInBwdRefIdeal.nD Cert.CfInBwdRefIdeal.τ).loc Cert.CfInBwdRefIdeal.main_arg2)
          ∧ r.2.mem ((c.tc : Thread Cert.CfInBwdRefIdeal.nD Cert.CfInBwdRefIdeal.τ).loc Cert.CfInBwdRefIdeal.main_arg3) = m' ((c.tc : Thread Cert.CfInBwdRefIdeal.nD Cert.CfInBwdRefIdeal.τ).loc Cert.CfInBwdRefIdeal.main_arg3)
          ∧ r.2.mem ((c.tc : Thread Cert.CfInBwdRefIdeal.nD Cert.CfInBwdRefIdeal.τ).loc Cert.CfInBwdRefIdeal.main_arg4) = m' ((c.tc : Thread Cert.CfInBwdRefIdeal.nD Cert.CfInBwdRefIdeal.τ).loc Cert.CfInBwdRefIdeal.main_arg4)
          ∧ r.2.mem ((c.tc : Thread Cert.CfInBwdRefIdeal.nD Cert.CfInBwdRefIdeal.τ).loc Cert.CfInBwdRefIdeal.main_arg5) = m' ((c.tc : Thread Cert.CfInBwdRefIdeal.nD Cert.CfInBwdRefIdeal.τ).loc Cert.CfInBwdRefIdeal.main_arg5))

def preserves_CfOutLn_CfOutLnIdeal : Prop :=
  True

def algebraic_CfOutLnIdeal_CfOutLnRefIdeal [hCfOutLnIdeal : Cert.CfOutLnIdeal.Facts] [hCfOutLnRefIdeal : Cert.CfOutLnRefIdeal.Facts] : Prop :=
  ∀ (m : (ℓ : Loc Cert.CfOutLnIdeal.nD Cert.CfOutLnIdeal.τ Cert.CfOutLnIdeal.sig) → Buf (Elt Ideal) ℓ) (g : Dev Cert.CfOutLnIdeal.nD → PrngReg)
    (m' : (ℓ : Loc Cert.CfOutLnRefIdeal.nD Cert.CfOutLnRefIdeal.τ Cert.CfOutLnRefIdeal.sig) → Buf (Elt Ideal) ℓ) (g' : Dev Cert.CfOutLnRefIdeal.nD → PrngReg), Pre_CfOutLnIdeal m →
    (∀ c : Dev Cert.CfOutLnIdeal.nD,
      m' ((c.tc : Thread Cert.CfOutLnRefIdeal.nD Cert.CfOutLnRefIdeal.τ).loc Cert.CfOutLnRefIdeal.main_arg0) = m ((c.tc : Thread Cert.CfOutLnIdeal.nD Cert.CfOutLnIdeal.τ).loc Cert.CfOutLnIdeal.main_arg0)
      ∧ m' ((c.tc : Thread Cert.CfOutLnRefIdeal.nD Cert.CfOutLnRefIdeal.τ).loc Cert.CfOutLnRefIdeal.main_arg1) = m ((c.tc : Thread Cert.CfOutLnIdeal.nD Cert.CfOutLnIdeal.τ).loc Cert.CfOutLnIdeal.main_arg1)
      ∧ m' ((c.tc : Thread Cert.CfOutLnRefIdeal.nD Cert.CfOutLnRefIdeal.τ).loc Cert.CfOutLnRefIdeal.main_arg2) = m ((c.tc : Thread Cert.CfOutLnIdeal.nD Cert.CfOutLnIdeal.τ).loc Cert.CfOutLnIdeal.main_arg2)
      ∧ m' ((c.tc : Thread Cert.CfOutLnRefIdeal.nD Cert.CfOutLnRefIdeal.τ).loc Cert.CfOutLnRefIdeal.main_arg3) = m ((c.tc : Thread Cert.CfOutLnIdeal.nD Cert.CfOutLnIdeal.τ).loc Cert.CfOutLnIdeal.main_arg3)
      ∧ m' ((c.tc : Thread Cert.CfOutLnRefIdeal.nD Cert.CfOutLnRefIdeal.τ).loc Cert.CfOutLnRefIdeal.main_arg4) = m ((c.tc : Thread Cert.CfOutLnIdeal.nD Cert.CfOutLnIdeal.τ).loc Cert.CfOutLnIdeal.main_arg4)
      ∧ m' ((c.tc : Thread Cert.CfOutLnRefIdeal.nD Cert.CfOutLnRefIdeal.τ).loc Cert.CfOutLnRefIdeal.main_arg5) = m ((c.tc : Thread Cert.CfOutLnIdeal.nD Cert.CfOutLnIdeal.τ).loc Cert.CfOutLnIdeal.main_arg5)) →
    ∃ (v0 : (c : Dev Cert.CfOutLnIdeal.nD) → Buf (Elt Ideal) ((c.tc : Thread Cert.CfOutLnIdeal.nD Cert.CfOutLnIdeal.τ).loc Cert.CfOutLnIdeal.main_v2_0)) (v1 : (c : Dev Cert.CfOutLnIdeal.nD) → Buf (Elt Ideal) ((c.tc : Thread Cert.CfOutLnIdeal.nD Cert.CfOutLnIdeal.τ).loc Cert.CfOutLnIdeal.main_v2_1)) (v2 : (c : Dev Cert.CfOutLnIdeal.nD) → Buf (Elt Ideal) ((c.tc : Thread Cert.CfOutLnIdeal.nD Cert.CfOutLnIdeal.τ).loc Cert.CfOutLnIdeal.main_v2_2)) (v3 : (c : Dev Cert.CfOutLnIdeal.nD) → Buf (Elt Ideal) ((c.tc : Thread Cert.CfOutLnIdeal.nD Cert.CfOutLnIdeal.τ).loc Cert.CfOutLnIdeal.main_v2_3)),
      θ_run (Cert.CfOutLnIdeal.defs (F := Ideal)) (onTc (τ := Cert.CfOutLnIdeal.τ) (Cert.CfOutLnIdeal.main (F := Ideal))) ⟨m, fun _ => 0, g⟩ (fun r => ∀ c : Dev Cert.CfOutLnIdeal.nD,
          r.2.mem ((c.tc : Thread Cert.CfOutLnIdeal.nD Cert.CfOutLnIdeal.τ).loc Cert.CfOutLnIdeal.main_v2_0) = v0 c
          ∧ r.2.mem ((c.tc : Thread Cert.CfOutLnIdeal.nD Cert.CfOutLnIdeal.τ).loc Cert.CfOutLnIdeal.main_v2_1) = v1 c
          ∧ r.2.mem ((c.tc : Thread Cert.CfOutLnIdeal.nD Cert.CfOutLnIdeal.τ).loc Cert.CfOutLnIdeal.main_v2_2) = v2 c
          ∧ r.2.mem ((c.tc : Thread Cert.CfOutLnIdeal.nD Cert.CfOutLnIdeal.τ).loc Cert.CfOutLnIdeal.main_v2_3) = v3 c
          ∧ r.2.mem ((c.tc : Thread Cert.CfOutLnIdeal.nD Cert.CfOutLnIdeal.τ).loc Cert.CfOutLnIdeal.main_arg0) = m ((c.tc : Thread Cert.CfOutLnIdeal.nD Cert.CfOutLnIdeal.τ).loc Cert.CfOutLnIdeal.main_arg0)
          ∧ r.2.mem ((c.tc : Thread Cert.CfOutLnIdeal.nD Cert.CfOutLnIdeal.τ).loc Cert.CfOutLnIdeal.main_arg1) = m ((c.tc : Thread Cert.CfOutLnIdeal.nD Cert.CfOutLnIdeal.τ).loc Cert.CfOutLnIdeal.main_arg1)
          ∧ r.2.mem ((c.tc : Thread Cert.CfOutLnIdeal.nD Cert.CfOutLnIdeal.τ).loc Cert.CfOutLnIdeal.main_arg2) = m ((c.tc : Thread Cert.CfOutLnIdeal.nD Cert.CfOutLnIdeal.τ).loc Cert.CfOutLnIdeal.main_arg2)
          ∧ r.2.mem ((c.tc : Thread Cert.CfOutLnIdeal.nD Cert.CfOutLnIdeal.τ).loc Cert.CfOutLnIdeal.main_arg3) = m ((c.tc : Thread Cert.CfOutLnIdeal.nD Cert.CfOutLnIdeal.τ).loc Cert.CfOutLnIdeal.main_arg3)
          ∧ r.2.mem ((c.tc : Thread Cert.CfOutLnIdeal.nD Cert.CfOutLnIdeal.τ).loc Cert.CfOutLnIdeal.main_arg4) = m ((c.tc : Thread Cert.CfOutLnIdeal.nD Cert.CfOutLnIdeal.τ).loc Cert.CfOutLnIdeal.main_arg4)
          ∧ r.2.mem ((c.tc : Thread Cert.CfOutLnIdeal.nD Cert.CfOutLnIdeal.τ).loc Cert.CfOutLnIdeal.main_arg5) = m ((c.tc : Thread Cert.CfOutLnIdeal.nD Cert.CfOutLnIdeal.τ).loc Cert.CfOutLnIdeal.main_arg5))
      ∧ θ_run (Cert.CfOutLnRefIdeal.defs (F := Ideal)) (onTc (τ := Cert.CfOutLnRefIdeal.τ) (Cert.CfOutLnRefIdeal.main (F := Ideal))) ⟨m', fun _ => 0, g'⟩ (fun r => ∀ c : Dev Cert.CfOutLnRefIdeal.nD,
          r.2.mem ((c.tc : Thread Cert.CfOutLnRefIdeal.nD Cert.CfOutLnRefIdeal.τ).loc Cert.CfOutLnRefIdeal.main_v27) = v0 c
          ∧ r.2.mem ((c.tc : Thread Cert.CfOutLnRefIdeal.nD Cert.CfOutLnRefIdeal.τ).loc Cert.CfOutLnRefIdeal.main_v42) = v1 c
          ∧ r.2.mem ((c.tc : Thread Cert.CfOutLnRefIdeal.nD Cert.CfOutLnRefIdeal.τ).loc Cert.CfOutLnRefIdeal.main_v46) = v2 c
          ∧ r.2.mem ((c.tc : Thread Cert.CfOutLnRefIdeal.nD Cert.CfOutLnRefIdeal.τ).loc Cert.CfOutLnRefIdeal.main_v41) = v3 c
          ∧ r.2.mem ((c.tc : Thread Cert.CfOutLnRefIdeal.nD Cert.CfOutLnRefIdeal.τ).loc Cert.CfOutLnRefIdeal.main_arg0) = m' ((c.tc : Thread Cert.CfOutLnRefIdeal.nD Cert.CfOutLnRefIdeal.τ).loc Cert.CfOutLnRefIdeal.main_arg0)
          ∧ r.2.mem ((c.tc : Thread Cert.CfOutLnRefIdeal.nD Cert.CfOutLnRefIdeal.τ).loc Cert.CfOutLnRefIdeal.main_arg1) = m' ((c.tc : Thread Cert.CfOutLnRefIdeal.nD Cert.CfOutLnRefIdeal.τ).loc Cert.CfOutLnRefIdeal.main_arg1)
          ∧ r.2.mem ((c.tc : Thread Cert.CfOutLnRefIdeal.nD Cert.CfOutLnRefIdeal.τ).loc Cert.CfOutLnRefIdeal.main_arg2) = m' ((c.tc : Thread Cert.CfOutLnRefIdeal.nD Cert.CfOutLnRefIdeal.τ).loc Cert.CfOutLnRefIdeal.main_arg2)
          ∧ r.2.mem ((c.tc : Thread Cert.CfOutLnRefIdeal.nD Cert.CfOutLnRefIdeal.τ).loc Cert.CfOutLnRefIdeal.main_arg3) = m' ((c.tc : Thread Cert.CfOutLnRefIdeal.nD Cert.CfOutLnRefIdeal.τ).loc Cert.CfOutLnRefIdeal.main_arg3)
          ∧ r.2.mem ((c.tc : Thread Cert.CfOutLnRefIdeal.nD Cert.CfOutLnRefIdeal.τ).loc Cert.CfOutLnRefIdeal.main_arg4) = m' ((c.tc : Thread Cert.CfOutLnRefIdeal.nD Cert.CfOutLnRefIdeal.τ).loc Cert.CfOutLnRefIdeal.main_arg4)
          ∧ r.2.mem ((c.tc : Thread Cert.CfOutLnRefIdeal.nD Cert.CfOutLnRefIdeal.τ).loc Cert.CfOutLnRefIdeal.main_arg5) = m' ((c.tc : Thread Cert.CfOutLnRefIdeal.nD Cert.CfOutLnRefIdeal.τ).loc Cert.CfOutLnRefIdeal.main_arg5))

def preserves_MlaOutBwd_MlaOutBwdIdeal : Prop :=
  True

def algebraic_MlaOutBwdIdeal_MlaOutBwdRefIdeal [hMlaOutBwdIdeal : Cert.MlaOutBwdIdeal.Facts] [hMlaOutBwdRefIdeal : Cert.MlaOutBwdRefIdeal.Facts] : Prop :=
  ∀ (m : (ℓ : Loc Cert.MlaOutBwdIdeal.nD Cert.MlaOutBwdIdeal.τ Cert.MlaOutBwdIdeal.sig) → Buf (Elt Ideal) ℓ) (g : Dev Cert.MlaOutBwdIdeal.nD → PrngReg)
    (m' : (ℓ : Loc Cert.MlaOutBwdRefIdeal.nD Cert.MlaOutBwdRefIdeal.τ Cert.MlaOutBwdRefIdeal.sig) → Buf (Elt Ideal) ℓ) (g' : Dev Cert.MlaOutBwdRefIdeal.nD → PrngReg), Pre_MlaOutBwdIdeal m →
    (∀ c : Dev Cert.MlaOutBwdIdeal.nD,
      m' ((c.tc : Thread Cert.MlaOutBwdRefIdeal.nD Cert.MlaOutBwdRefIdeal.τ).loc Cert.MlaOutBwdRefIdeal.main_arg0) = m ((c.tc : Thread Cert.MlaOutBwdIdeal.nD Cert.MlaOutBwdIdeal.τ).loc Cert.MlaOutBwdIdeal.main_arg0)
      ∧ m' ((c.tc : Thread Cert.MlaOutBwdRefIdeal.nD Cert.MlaOutBwdRefIdeal.τ).loc Cert.MlaOutBwdRefIdeal.main_arg1) = m ((c.tc : Thread Cert.MlaOutBwdIdeal.nD Cert.MlaOutBwdIdeal.τ).loc Cert.MlaOutBwdIdeal.main_arg1)) →
    ∃ (v0 : (c : Dev Cert.MlaOutBwdIdeal.nD) → Buf (Elt Ideal) ((c.tc : Thread Cert.MlaOutBwdIdeal.nD Cert.MlaOutBwdIdeal.τ).loc Cert.MlaOutBwdIdeal.main_v2)),
      θ_run (Cert.MlaOutBwdIdeal.defs (F := Ideal)) (onTc (τ := Cert.MlaOutBwdIdeal.τ) (Cert.MlaOutBwdIdeal.main (F := Ideal))) ⟨m, fun _ => 0, g⟩ (fun r => ∀ c : Dev Cert.MlaOutBwdIdeal.nD,
          r.2.mem ((c.tc : Thread Cert.MlaOutBwdIdeal.nD Cert.MlaOutBwdIdeal.τ).loc Cert.MlaOutBwdIdeal.main_v2) = v0 c
          ∧ r.2.mem ((c.tc : Thread Cert.MlaOutBwdIdeal.nD Cert.MlaOutBwdIdeal.τ).loc Cert.MlaOutBwdIdeal.main_arg0) = m ((c.tc : Thread Cert.MlaOutBwdIdeal.nD Cert.MlaOutBwdIdeal.τ).loc Cert.MlaOutBwdIdeal.main_arg0)
          ∧ r.2.mem ((c.tc : Thread Cert.MlaOutBwdIdeal.nD Cert.MlaOutBwdIdeal.τ).loc Cert.MlaOutBwdIdeal.main_arg1) = m ((c.tc : Thread Cert.MlaOutBwdIdeal.nD Cert.MlaOutBwdIdeal.τ).loc Cert.MlaOutBwdIdeal.main_arg1))
      ∧ θ_run (Cert.MlaOutBwdRefIdeal.defs (F := Ideal)) (onTc (τ := Cert.MlaOutBwdRefIdeal.τ) (Cert.MlaOutBwdRefIdeal.main (F := Ideal))) ⟨m', fun _ => 0, g'⟩ (fun r => ∀ c : Dev Cert.MlaOutBwdRefIdeal.nD,
          r.2.mem ((c.tc : Thread Cert.MlaOutBwdRefIdeal.nD Cert.MlaOutBwdRefIdeal.τ).loc Cert.MlaOutBwdRefIdeal.main_v3) = v0 c
          ∧ r.2.mem ((c.tc : Thread Cert.MlaOutBwdRefIdeal.nD Cert.MlaOutBwdRefIdeal.τ).loc Cert.MlaOutBwdRefIdeal.main_arg0) = m' ((c.tc : Thread Cert.MlaOutBwdRefIdeal.nD Cert.MlaOutBwdRefIdeal.τ).loc Cert.MlaOutBwdRefIdeal.main_arg0)
          ∧ r.2.mem ((c.tc : Thread Cert.MlaOutBwdRefIdeal.nD Cert.MlaOutBwdRefIdeal.τ).loc Cert.MlaOutBwdRefIdeal.main_arg1) = m' ((c.tc : Thread Cert.MlaOutBwdRefIdeal.nD Cert.MlaOutBwdRefIdeal.τ).loc Cert.MlaOutBwdRefIdeal.main_arg1))

def preserves_AttnFwd_AttnFwdIdeal : Prop :=
  IdealRules.named_const.Statement Cert.AttnFwdIdeal.κ "mask" .f32 0xF149F2CA#32 ⊥

def algebraic_AttnFwdIdeal_AttnFwdRefIdeal_pre_finite_keys [hAttnFwdIdeal : Cert.AttnFwdIdeal.Facts] [hAttnFwdRefIdeal : Cert.AttnFwdRefIdeal.Facts] [hPre_finite_keys : Cert.Pre_finite_keys.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_keys m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v8)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v35) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_MlaDown_MlaDownIdeal : Prop :=
  True

def algebraic_MlaDownIdeal_MlaDownRefIdeal [hMlaDownIdeal : Cert.MlaDownIdeal.Facts] [hMlaDownRefIdeal : Cert.MlaDownRefIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg)
    (m' : (ℓ : Loc Cert.MlaDownRefIdeal.nD Cert.MlaDownRefIdeal.τ Cert.MlaDownRefIdeal.sig) → Buf (Elt Ideal) ℓ) (g' : Dev Cert.MlaDownRefIdeal.nD → PrngReg), Pre_MlaDownIdeal m →
    (∀ c : Dev Cert.MlaDownIdeal.nD,
      m' ((c.tc : Thread Cert.MlaDownRefIdeal.nD Cert.MlaDownRefIdeal.τ).loc Cert.MlaDownRefIdeal.main_arg0) = m ((c.tc : Thread Cert.MlaDownIdeal.nD Cert.MlaDownIdeal.τ).loc Cert.MlaDownIdeal.main_arg0)
      ∧ m' ((c.tc : Thread Cert.MlaDownRefIdeal.nD Cert.MlaDownRefIdeal.τ).loc Cert.MlaDownRefIdeal.main_arg1) = m ((c.tc : Thread Cert.MlaDownIdeal.nD Cert.MlaDownIdeal.τ).loc Cert.MlaDownIdeal.main_arg1)
      ∧ m' ((c.tc : Thread Cert.MlaDownRefIdeal.nD Cert.MlaDownRefIdeal.τ).loc Cert.MlaDownRefIdeal.main_arg2) = m ((c.tc : Thread Cert.MlaDownIdeal.nD Cert.MlaDownIdeal.τ).loc Cert.MlaDownIdeal.main_arg2)) →
    ∃ (v0 : (c : Dev Cert.MlaDownIdeal.nD) → Buf (Elt Ideal) ((c.tc : Thread Cert.MlaDownIdeal.nD Cert.MlaDownIdeal.τ).loc Cert.MlaDownIdeal.main_v4)),
      θ_run (Cert.MlaDownIdeal.defs (F := Ideal)) (onTc (τ := Cert.MlaDownIdeal.τ) (Cert.MlaDownIdeal.main (F := Ideal))) ⟨m, fun _ => 0, g⟩ (fun r => ∀ c : Dev Cert.MlaDownIdeal.nD,
          r.2.mem ((c.tc : Thread Cert.MlaDownIdeal.nD Cert.MlaDownIdeal.τ).loc Cert.MlaDownIdeal.main_v4) = v0 c
          ∧ r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
          ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1)
          ∧ r.2.mem ((c.tc : Thread Cert.MlaDownIdeal.nD Cert.MlaDownIdeal.τ).loc Cert.MlaDownIdeal.main_arg2) = m ((c.tc : Thread Cert.MlaDownIdeal.nD Cert.MlaDownIdeal.τ).loc Cert.MlaDownIdeal.main_arg2))
      ∧ θ_run (Cert.MlaDownRefIdeal.defs (F := Ideal)) (onTc (τ := Cert.MlaDownRefIdeal.τ) (Cert.MlaDownRefIdeal.main (F := Ideal))) ⟨m', fun _ => 0, g'⟩ (fun r => ∀ c : Dev Cert.MlaDownRefIdeal.nD,
          r.2.mem ((c.tc : Thread Cert.MlaDownRefIdeal.nD Cert.MlaDownRefIdeal.τ).loc Cert.MlaDownRefIdeal.main_v3) = v0 c
          ∧ r.2.mem ((c.tc : Thread Cert.MlaDownRefIdeal.nD Cert.MlaDownRefIdeal.τ).loc Cert.MlaDownRefIdeal.main_arg0) = m' ((c.tc : Thread Cert.MlaDownRefIdeal.nD Cert.MlaDownRefIdeal.τ).loc Cert.MlaDownRefIdeal.main_arg0)
          ∧ r.2.mem ((c.tc : Thread Cert.MlaDownRefIdeal.nD Cert.MlaDownRefIdeal.τ).loc Cert.MlaDownRefIdeal.main_arg1) = m' ((c.tc : Thread Cert.MlaDownRefIdeal.nD Cert.MlaDownRefIdeal.τ).loc Cert.MlaDownRefIdeal.main_arg1)
          ∧ r.2.mem ((c.tc : Thread Cert.MlaDownRefIdeal.nD Cert.MlaDownRefIdeal.τ).loc Cert.MlaDownRefIdeal.main_arg2) = m' ((c.tc : Thread Cert.MlaDownRefIdeal.nD Cert.MlaDownRefIdeal.τ).loc Cert.MlaDownRefIdeal.main_arg2))

def preserves_MlaDwDown_MlaDwDownIdeal : Prop :=
  True

def algebraic_MlaDwDownIdeal_MlaDwDownRefIdeal [hMlaDwDownIdeal : Cert.MlaDwDownIdeal.Facts] [hMlaDwDownRefIdeal : Cert.MlaDwDownRefIdeal.Facts] : Prop :=
  ∀ (m : (ℓ : Loc Cert.MlaDwDownIdeal.nD Cert.MlaDwDownIdeal.τ Cert.MlaDwDownIdeal.sig) → Buf (Elt Ideal) ℓ) (g : Dev Cert.MlaDwDownIdeal.nD → PrngReg)
    (m' : (ℓ : Loc Cert.MlaDwDownRefIdeal.nD Cert.MlaDwDownRefIdeal.τ Cert.MlaDwDownRefIdeal.sig) → Buf (Elt Ideal) ℓ) (g' : Dev Cert.MlaDwDownRefIdeal.nD → PrngReg), Pre_MlaDwDownIdeal m →
    (∀ c : Dev Cert.MlaDwDownIdeal.nD,
      m' ((c.tc : Thread Cert.MlaDwDownRefIdeal.nD Cert.MlaDwDownRefIdeal.τ).loc Cert.MlaDwDownRefIdeal.main_arg0) = m ((c.tc : Thread Cert.MlaDwDownIdeal.nD Cert.MlaDwDownIdeal.τ).loc Cert.MlaDwDownIdeal.main_arg0)
      ∧ m' ((c.tc : Thread Cert.MlaDwDownRefIdeal.nD Cert.MlaDwDownRefIdeal.τ).loc Cert.MlaDwDownRefIdeal.main_arg1) = m ((c.tc : Thread Cert.MlaDwDownIdeal.nD Cert.MlaDwDownIdeal.τ).loc Cert.MlaDwDownIdeal.main_arg1)
      ∧ m' ((c.tc : Thread Cert.MlaDwDownRefIdeal.nD Cert.MlaDwDownRefIdeal.τ).loc Cert.MlaDwDownRefIdeal.main_arg2) = m ((c.tc : Thread Cert.MlaDwDownIdeal.nD Cert.MlaDwDownIdeal.τ).loc Cert.MlaDwDownIdeal.main_arg2)) →
    ∃ (v0 : (c : Dev Cert.MlaDwDownIdeal.nD) → Buf (Elt Ideal) ((c.tc : Thread Cert.MlaDwDownIdeal.nD Cert.MlaDwDownIdeal.τ).loc Cert.MlaDwDownIdeal.main_v3)),
      θ_run (Cert.MlaDwDownIdeal.defs (F := Ideal)) (onTc (τ := Cert.MlaDwDownIdeal.τ) (Cert.MlaDwDownIdeal.main (F := Ideal))) ⟨m, fun _ => 0, g⟩ (fun r => ∀ c : Dev Cert.MlaDwDownIdeal.nD,
          r.2.mem ((c.tc : Thread Cert.MlaDwDownIdeal.nD Cert.MlaDwDownIdeal.τ).loc Cert.MlaDwDownIdeal.main_v3) = v0 c
          ∧ r.2.mem ((c.tc : Thread Cert.MlaDwDownIdeal.nD Cert.MlaDwDownIdeal.τ).loc Cert.MlaDwDownIdeal.main_arg0) = m ((c.tc : Thread Cert.MlaDwDownIdeal.nD Cert.MlaDwDownIdeal.τ).loc Cert.MlaDwDownIdeal.main_arg0)
          ∧ r.2.mem ((c.tc : Thread Cert.MlaDwDownIdeal.nD Cert.MlaDwDownIdeal.τ).loc Cert.MlaDwDownIdeal.main_arg1) = m ((c.tc : Thread Cert.MlaDwDownIdeal.nD Cert.MlaDwDownIdeal.τ).loc Cert.MlaDwDownIdeal.main_arg1)
          ∧ r.2.mem ((c.tc : Thread Cert.MlaDwDownIdeal.nD Cert.MlaDwDownIdeal.τ).loc Cert.MlaDwDownIdeal.main_arg2) = m ((c.tc : Thread Cert.MlaDwDownIdeal.nD Cert.MlaDwDownIdeal.τ).loc Cert.MlaDwDownIdeal.main_arg2))
      ∧ θ_run (Cert.MlaDwDownRefIdeal.defs (F := Ideal)) (onTc (τ := Cert.MlaDwDownRefIdeal.τ) (Cert.MlaDwDownRefIdeal.main (F := Ideal))) ⟨m', fun _ => 0, g'⟩ (fun r => ∀ c : Dev Cert.MlaDwDownRefIdeal.nD,
          r.2.mem ((c.tc : Thread Cert.MlaDwDownRefIdeal.nD Cert.MlaDwDownRefIdeal.τ).loc Cert.MlaDwDownRefIdeal.main_v12) = v0 c
          ∧ r.2.mem ((c.tc : Thread Cert.MlaDwDownRefIdeal.nD Cert.MlaDwDownRefIdeal.τ).loc Cert.MlaDwDownRefIdeal.main_arg0) = m' ((c.tc : Thread Cert.MlaDwDownRefIdeal.nD Cert.MlaDwDownRefIdeal.τ).loc Cert.MlaDwDownRefIdeal.main_arg0)
          ∧ r.2.mem ((c.tc : Thread Cert.MlaDwDownRefIdeal.nD Cert.MlaDwDownRefIdeal.τ).loc Cert.MlaDwDownRefIdeal.main_arg1) = m' ((c.tc : Thread Cert.MlaDwDownRefIdeal.nD Cert.MlaDwDownRefIdeal.τ).loc Cert.MlaDwDownRefIdeal.main_arg1)
          ∧ r.2.mem ((c.tc : Thread Cert.MlaDwDownRefIdeal.nD Cert.MlaDwDownRefIdeal.τ).loc Cert.MlaDwDownRefIdeal.main_arg2) = m' ((c.tc : Thread Cert.MlaDwDownRefIdeal.nD Cert.MlaDwDownRefIdeal.τ).loc Cert.MlaDwDownRefIdeal.main_arg2))

def preserves_MlaDownBwd_MlaDownBwdIdeal : Prop :=
  True

def algebraic_MlaDownBwdIdeal_MlaDownBwdRefIdeal_pre_finite_down_bwd [hMlaDownBwdIdeal : Cert.MlaDownBwdIdeal.Facts] [hMlaDownBwdRefIdeal : Cert.MlaDownBwdRefIdeal.Facts] [hPre_finite_down_bwd : Cert.Pre_finite_down_bwd.Facts] : Prop :=
  ∀ (m : (ℓ : Loc Cert.MlaDownBwdIdeal.nD Cert.MlaDownBwdIdeal.τ Cert.MlaDownBwdIdeal.sig) → Buf (Elt Ideal) ℓ) (g : Dev Cert.MlaDownBwdIdeal.nD → PrngReg)
    (m' : (ℓ : Loc Cert.MlaDownBwdRefIdeal.nD Cert.MlaDownBwdRefIdeal.τ Cert.MlaDownBwdRefIdeal.sig) → Buf (Elt Ideal) ℓ) (g' : Dev Cert.MlaDownBwdRefIdeal.nD → PrngReg), Pre_MlaDownBwdIdeal_finite_down_bwd m →
    (∀ c : Dev Cert.MlaDownBwdIdeal.nD,
      m' ((c.tc : Thread Cert.MlaDownBwdRefIdeal.nD Cert.MlaDownBwdRefIdeal.τ).loc Cert.MlaDownBwdRefIdeal.main_arg0) = m ((c.tc : Thread Cert.MlaDownBwdIdeal.nD Cert.MlaDownBwdIdeal.τ).loc Cert.MlaDownBwdIdeal.main_arg0)
      ∧ m' ((c.tc : Thread Cert.MlaDownBwdRefIdeal.nD Cert.MlaDownBwdRefIdeal.τ).loc Cert.MlaDownBwdRefIdeal.main_arg1) = m ((c.tc : Thread Cert.MlaDownBwdIdeal.nD Cert.MlaDownBwdIdeal.τ).loc Cert.MlaDownBwdIdeal.main_arg1)
      ∧ m' ((c.tc : Thread Cert.MlaDownBwdRefIdeal.nD Cert.MlaDownBwdRefIdeal.τ).loc Cert.MlaDownBwdRefIdeal.main_arg2) = m ((c.tc : Thread Cert.MlaDownBwdIdeal.nD Cert.MlaDownBwdIdeal.τ).loc Cert.MlaDownBwdIdeal.main_arg2)
      ∧ m' ((c.tc : Thread Cert.MlaDownBwdRefIdeal.nD Cert.MlaDownBwdRefIdeal.τ).loc Cert.MlaDownBwdRefIdeal.main_arg3) = m ((c.tc : Thread Cert.MlaDownBwdIdeal.nD Cert.MlaDownBwdIdeal.τ).loc Cert.MlaDownBwdIdeal.main_arg3)
      ∧ m' ((c.tc : Thread Cert.MlaDownBwdRefIdeal.nD Cert.MlaDownBwdRefIdeal.τ).loc Cert.MlaDownBwdRefIdeal.main_arg4) = m ((c.tc : Thread Cert.MlaDownBwdIdeal.nD Cert.MlaDownBwdIdeal.τ).loc Cert.MlaDownBwdIdeal.main_arg4)
      ∧ m' ((c.tc : Thread Cert.MlaDownBwdRefIdeal.nD Cert.MlaDownBwdRefIdeal.τ).loc Cert.MlaDownBwdRefIdeal.main_arg5) = m ((c.tc : Thread Cert.MlaDownBwdIdeal.nD Cert.MlaDownBwdIdeal.τ).loc Cert.MlaDownBwdIdeal.main_arg5)
      ∧ m' ((c.tc : Thread Cert.MlaDownBwdRefIdeal.nD Cert.MlaDownBwdRefIdeal.τ).loc Cert.MlaDownBwdRefIdeal.main_arg6) = m ((c.tc : Thread Cert.MlaDownBwdIdeal.nD Cert.MlaDownBwdIdeal.τ).loc Cert.MlaDownBwdIdeal.main_arg6)
      ∧ m' ((c.tc : Thread Cert.MlaDownBwdRefIdeal.nD Cert.MlaDownBwdRefIdeal.τ).loc Cert.MlaDownBwdRefIdeal.main_arg7) = m ((c.tc : Thread Cert.MlaDownBwdIdeal.nD Cert.MlaDownBwdIdeal.τ).loc Cert.MlaDownBwdIdeal.main_arg7)) →
    ∃ (v0 : (c : Dev Cert.MlaDownBwdIdeal.nD) → Buf (Elt Ideal) ((c.tc : Thread Cert.MlaDownBwdIdeal.nD Cert.MlaDownBwdIdeal.τ).loc Cert.MlaDownBwdIdeal.main_v23_0)) (v1 : (c : Dev Cert.MlaDownBwdIdeal.nD) → Buf (Elt Ideal) ((c.tc : Thread Cert.MlaDownBwdIdeal.nD Cert.MlaDownBwdIdeal.τ).loc Cert.MlaDownBwdIdeal.main_v23_1)) (v2 : (c : Dev Cert.MlaDownBwdIdeal.nD) → Buf (Elt Ideal) ((c.tc : Thread Cert.MlaDownBwdIdeal.nD Cert.MlaDownBwdIdeal.τ).loc Cert.MlaDownBwdIdeal.main_v23_2)) (v3 : (c : Dev Cert.MlaDownBwdIdeal.nD) → Buf (Elt Ideal) ((c.tc : Thread Cert.MlaDownBwdIdeal.nD Cert.MlaDownBwdIdeal.τ).loc Cert.MlaDownBwdIdeal.main_v23_3)) (v4 : (c : Dev Cert.MlaDownBwdIdeal.nD) → Buf (Elt Ideal) ((c.tc : Thread Cert.MlaDownBwdIdeal.nD Cert.MlaDownBwdIdeal.τ).loc Cert.MlaDownBwdIdeal.main_v23_4)),
      θ_run (Cert.MlaDownBwdIdeal.defs (F := Ideal)) (onTc (τ := Cert.MlaDownBwdIdeal.τ) (Cert.MlaDownBwdIdeal.main (F := Ideal))) ⟨m, fun _ => 0, g⟩ (fun r => ∀ c : Dev Cert.MlaDownBwdIdeal.nD,
          r.2.mem ((c.tc : Thread Cert.MlaDownBwdIdeal.nD Cert.MlaDownBwdIdeal.τ).loc Cert.MlaDownBwdIdeal.main_v23_0) = v0 c
          ∧ r.2.mem ((c.tc : Thread Cert.MlaDownBwdIdeal.nD Cert.MlaDownBwdIdeal.τ).loc Cert.MlaDownBwdIdeal.main_v23_1) = v1 c
          ∧ r.2.mem ((c.tc : Thread Cert.MlaDownBwdIdeal.nD Cert.MlaDownBwdIdeal.τ).loc Cert.MlaDownBwdIdeal.main_v23_2) = v2 c
          ∧ r.2.mem ((c.tc : Thread Cert.MlaDownBwdIdeal.nD Cert.MlaDownBwdIdeal.τ).loc Cert.MlaDownBwdIdeal.main_v23_3) = v3 c
          ∧ r.2.mem ((c.tc : Thread Cert.MlaDownBwdIdeal.nD Cert.MlaDownBwdIdeal.τ).loc Cert.MlaDownBwdIdeal.main_v23_4) = v4 c
          ∧ r.2.mem ((c.tc : Thread Cert.MlaDownBwdIdeal.nD Cert.MlaDownBwdIdeal.τ).loc Cert.MlaDownBwdIdeal.main_arg0) = m ((c.tc : Thread Cert.MlaDownBwdIdeal.nD Cert.MlaDownBwdIdeal.τ).loc Cert.MlaDownBwdIdeal.main_arg0)
          ∧ r.2.mem ((c.tc : Thread Cert.MlaDownBwdIdeal.nD Cert.MlaDownBwdIdeal.τ).loc Cert.MlaDownBwdIdeal.main_arg1) = m ((c.tc : Thread Cert.MlaDownBwdIdeal.nD Cert.MlaDownBwdIdeal.τ).loc Cert.MlaDownBwdIdeal.main_arg1)
          ∧ r.2.mem ((c.tc : Thread Cert.MlaDownBwdIdeal.nD Cert.MlaDownBwdIdeal.τ).loc Cert.MlaDownBwdIdeal.main_arg2) = m ((c.tc : Thread Cert.MlaDownBwdIdeal.nD Cert.MlaDownBwdIdeal.τ).loc Cert.MlaDownBwdIdeal.main_arg2)
          ∧ r.2.mem ((c.tc : Thread Cert.MlaDownBwdIdeal.nD Cert.MlaDownBwdIdeal.τ).loc Cert.MlaDownBwdIdeal.main_arg3) = m ((c.tc : Thread Cert.MlaDownBwdIdeal.nD Cert.MlaDownBwdIdeal.τ).loc Cert.MlaDownBwdIdeal.main_arg3)
          ∧ r.2.mem ((c.tc : Thread Cert.MlaDownBwdIdeal.nD Cert.MlaDownBwdIdeal.τ).loc Cert.MlaDownBwdIdeal.main_arg4) = m ((c.tc : Thread Cert.MlaDownBwdIdeal.nD Cert.MlaDownBwdIdeal.τ).loc Cert.MlaDownBwdIdeal.main_arg4)
          ∧ r.2.mem ((c.tc : Thread Cert.MlaDownBwdIdeal.nD Cert.MlaDownBwdIdeal.τ).loc Cert.MlaDownBwdIdeal.main_arg5) = m ((c.tc : Thread Cert.MlaDownBwdIdeal.nD Cert.MlaDownBwdIdeal.τ).loc Cert.MlaDownBwdIdeal.main_arg5)
          ∧ r.2.mem ((c.tc : Thread Cert.MlaDownBwdIdeal.nD Cert.MlaDownBwdIdeal.τ).loc Cert.MlaDownBwdIdeal.main_arg6) = m ((c.tc : Thread Cert.MlaDownBwdIdeal.nD Cert.MlaDownBwdIdeal.τ).loc Cert.MlaDownBwdIdeal.main_arg6)
          ∧ r.2.mem ((c.tc : Thread Cert.MlaDownBwdIdeal.nD Cert.MlaDownBwdIdeal.τ).loc Cert.MlaDownBwdIdeal.main_arg7) = m ((c.tc : Thread Cert.MlaDownBwdIdeal.nD Cert.MlaDownBwdIdeal.τ).loc Cert.MlaDownBwdIdeal.main_arg7))
      ∧ θ_run (Cert.MlaDownBwdRefIdeal.defs (F := Ideal)) (onTc (τ := Cert.MlaDownBwdRefIdeal.τ) (Cert.MlaDownBwdRefIdeal.main (F := Ideal))) ⟨m', fun _ => 0, g'⟩ (fun r => ∀ c : Dev Cert.MlaDownBwdRefIdeal.nD,
          r.2.mem ((c.tc : Thread Cert.MlaDownBwdRefIdeal.nD Cert.MlaDownBwdRefIdeal.τ).loc Cert.MlaDownBwdRefIdeal.main_v69) = v0 c
          ∧ r.2.mem ((c.tc : Thread Cert.MlaDownBwdRefIdeal.nD Cert.MlaDownBwdRefIdeal.τ).loc Cert.MlaDownBwdRefIdeal.main_v70) = v1 c
          ∧ r.2.mem ((c.tc : Thread Cert.MlaDownBwdRefIdeal.nD Cert.MlaDownBwdRefIdeal.τ).loc Cert.MlaDownBwdRefIdeal.main_v43) = v2 c
          ∧ r.2.mem ((c.tc : Thread Cert.MlaDownBwdRefIdeal.nD Cert.MlaDownBwdRefIdeal.τ).loc Cert.MlaDownBwdRefIdeal.main_v40) = v3 c
          ∧ r.2.mem ((c.tc : Thread Cert.MlaDownBwdRefIdeal.nD Cert.MlaDownBwdRefIdeal.τ).loc Cert.MlaDownBwdRefIdeal.main_v72) = v4 c
          ∧ r.2.mem ((c.tc : Thread Cert.MlaDownBwdRefIdeal.nD Cert.MlaDownBwdRefIdeal.τ).loc Cert.MlaDownBwdRefIdeal.main_arg0) = m' ((c.tc : Thread Cert.MlaDownBwdRefIdeal.nD Cert.MlaDownBwdRefIdeal.τ).loc Cert.MlaDownBwdRefIdeal.main_arg0)
          ∧ r.2.mem ((c.tc : Thread Cert.MlaDownBwdRefIdeal.nD Cert.MlaDownBwdRefIdeal.τ).loc Cert.MlaDownBwdRefIdeal.main_arg1) = m' ((c.tc : Thread Cert.MlaDownBwdRefIdeal.nD Cert.MlaDownBwdRefIdeal.τ).loc Cert.MlaDownBwdRefIdeal.main_arg1)
          ∧ r.2.mem ((c.tc : Thread Cert.MlaDownBwdRefIdeal.nD Cert.MlaDownBwdRefIdeal.τ).loc Cert.MlaDownBwdRefIdeal.main_arg2) = m' ((c.tc : Thread Cert.MlaDownBwdRefIdeal.nD Cert.MlaDownBwdRefIdeal.τ).loc Cert.MlaDownBwdRefIdeal.main_arg2)
          ∧ r.2.mem ((c.tc : Thread Cert.MlaDownBwdRefIdeal.nD Cert.MlaDownBwdRefIdeal.τ).loc Cert.MlaDownBwdRefIdeal.main_arg3) = m' ((c.tc : Thread Cert.MlaDownBwdRefIdeal.nD Cert.MlaDownBwdRefIdeal.τ).loc Cert.MlaDownBwdRefIdeal.main_arg3)
          ∧ r.2.mem ((c.tc : Thread Cert.MlaDownBwdRefIdeal.nD Cert.MlaDownBwdRefIdeal.τ).loc Cert.MlaDownBwdRefIdeal.main_arg4) = m' ((c.tc : Thread Cert.MlaDownBwdRefIdeal.nD Cert.MlaDownBwdRefIdeal.τ).loc Cert.MlaDownBwdRefIdeal.main_arg4)
          ∧ r.2.mem ((c.tc : Thread Cert.MlaDownBwdRefIdeal.nD Cert.MlaDownBwdRefIdeal.τ).loc Cert.MlaDownBwdRefIdeal.main_arg5) = m' ((c.tc : Thread Cert.MlaDownBwdRefIdeal.nD Cert.MlaDownBwdRefIdeal.τ).loc Cert.MlaDownBwdRefIdeal.main_arg5)
          ∧ r.2.mem ((c.tc : Thread Cert.MlaDownBwdRefIdeal.nD Cert.MlaDownBwdRefIdeal.τ).loc Cert.MlaDownBwdRefIdeal.main_arg6) = m' ((c.tc : Thread Cert.MlaDownBwdRefIdeal.nD Cert.MlaDownBwdRefIdeal.τ).loc Cert.MlaDownBwdRefIdeal.main_arg6)
          ∧ r.2.mem ((c.tc : Thread Cert.MlaDownBwdRefIdeal.nD Cert.MlaDownBwdRefIdeal.τ).loc Cert.MlaDownBwdRefIdeal.main_arg7) = m' ((c.tc : Thread Cert.MlaDownBwdRefIdeal.nD Cert.MlaDownBwdRefIdeal.τ).loc Cert.MlaDownBwdRefIdeal.main_arg7))

def preserves_MlaValues_MlaValuesIdeal : Prop :=
  True

def algebraic_MlaValuesIdeal_MlaValuesRefIdeal [hMlaValuesIdeal : Cert.MlaValuesIdeal.Facts] [hMlaValuesRefIdeal : Cert.MlaValuesRefIdeal.Facts] : Prop :=
  ∀ (m : (ℓ : Loc Cert.MlaValuesIdeal.nD Cert.MlaValuesIdeal.τ Cert.MlaValuesIdeal.sig) → Buf (Elt Ideal) ℓ) (g : Dev Cert.MlaValuesIdeal.nD → PrngReg)
    (m' : (ℓ : Loc Cert.MlaValuesRefIdeal.nD Cert.MlaValuesRefIdeal.τ Cert.MlaValuesRefIdeal.sig) → Buf (Elt Ideal) ℓ) (g' : Dev Cert.MlaValuesRefIdeal.nD → PrngReg), Pre_MlaValuesIdeal m →
    (∀ c : Dev Cert.MlaValuesIdeal.nD,
      m' ((c.tc : Thread Cert.MlaValuesRefIdeal.nD Cert.MlaValuesRefIdeal.τ).loc Cert.MlaValuesRefIdeal.main_arg0) = m ((c.tc : Thread Cert.MlaValuesIdeal.nD Cert.MlaValuesIdeal.τ).loc Cert.MlaValuesIdeal.main_arg0)
      ∧ m' ((c.tc : Thread Cert.MlaValuesRefIdeal.nD Cert.MlaValuesRefIdeal.τ).loc Cert.MlaValuesRefIdeal.main_arg1) = m ((c.tc : Thread Cert.MlaValuesIdeal.nD Cert.MlaValuesIdeal.τ).loc Cert.MlaValuesIdeal.main_arg1)) →
    ∃ (v0 : (c : Dev Cert.MlaValuesIdeal.nD) → Buf (Elt Ideal) ((c.tc : Thread Cert.MlaValuesIdeal.nD Cert.MlaValuesIdeal.τ).loc Cert.MlaValuesIdeal.main_v3)),
      θ_run (Cert.MlaValuesIdeal.defs (F := Ideal)) (onTc (τ := Cert.MlaValuesIdeal.τ) (Cert.MlaValuesIdeal.main (F := Ideal))) ⟨m, fun _ => 0, g⟩ (fun r => ∀ c : Dev Cert.MlaValuesIdeal.nD,
          r.2.mem ((c.tc : Thread Cert.MlaValuesIdeal.nD Cert.MlaValuesIdeal.τ).loc Cert.MlaValuesIdeal.main_v3) = v0 c
          ∧ r.2.mem ((c.tc : Thread Cert.MlaValuesIdeal.nD Cert.MlaValuesIdeal.τ).loc Cert.MlaValuesIdeal.main_arg0) = m ((c.tc : Thread Cert.MlaValuesIdeal.nD Cert.MlaValuesIdeal.τ).loc Cert.MlaValuesIdeal.main_arg0)
          ∧ r.2.mem ((c.tc : Thread Cert.MlaValuesIdeal.nD Cert.MlaValuesIdeal.τ).loc Cert.MlaValuesIdeal.main_arg1) = m ((c.tc : Thread Cert.MlaValuesIdeal.nD Cert.MlaValuesIdeal.τ).loc Cert.MlaValuesIdeal.main_arg1))
      ∧ θ_run (Cert.MlaValuesRefIdeal.defs (F := Ideal)) (onTc (τ := Cert.MlaValuesRefIdeal.τ) (Cert.MlaValuesRefIdeal.main (F := Ideal))) ⟨m', fun _ => 0, g'⟩ (fun r => ∀ c : Dev Cert.MlaValuesRefIdeal.nD,
          r.2.mem ((c.tc : Thread Cert.MlaValuesRefIdeal.nD Cert.MlaValuesRefIdeal.τ).loc Cert.MlaValuesRefIdeal.main_v2) = v0 c
          ∧ r.2.mem ((c.tc : Thread Cert.MlaValuesRefIdeal.nD Cert.MlaValuesRefIdeal.τ).loc Cert.MlaValuesRefIdeal.main_arg0) = m' ((c.tc : Thread Cert.MlaValuesRefIdeal.nD Cert.MlaValuesRefIdeal.τ).loc Cert.MlaValuesRefIdeal.main_arg0)
          ∧ r.2.mem ((c.tc : Thread Cert.MlaValuesRefIdeal.nD Cert.MlaValuesRefIdeal.τ).loc Cert.MlaValuesRefIdeal.main_arg1) = m' ((c.tc : Thread Cert.MlaValuesRefIdeal.nD Cert.MlaValuesRefIdeal.τ).loc Cert.MlaValuesRefIdeal.main_arg1))

def preserves_MlaDwUk_MlaDwUkIdeal : Prop :=
  True

def algebraic_MlaDwUkIdeal_MlaDwUkRefIdeal [hMlaDwUkIdeal : Cert.MlaDwUkIdeal.Facts] [hMlaDwUkRefIdeal : Cert.MlaDwUkRefIdeal.Facts] : Prop :=
  ∀ (m : (ℓ : Loc Cert.MlaDwUkIdeal.nD Cert.MlaDwUkIdeal.τ Cert.MlaDwUkIdeal.sig) → Buf (Elt Ideal) ℓ) (g : Dev Cert.MlaDwUkIdeal.nD → PrngReg)
    (m' : (ℓ : Loc Cert.MlaDwUkRefIdeal.nD Cert.MlaDwUkRefIdeal.τ Cert.MlaDwUkRefIdeal.sig) → Buf (Elt Ideal) ℓ) (g' : Dev Cert.MlaDwUkRefIdeal.nD → PrngReg), Pre_MlaDwUkIdeal m →
    (∀ c : Dev Cert.MlaDwUkIdeal.nD,
      m' ((c.tc : Thread Cert.MlaDwUkRefIdeal.nD Cert.MlaDwUkRefIdeal.τ).loc Cert.MlaDwUkRefIdeal.main_arg0) = m ((c.tc : Thread Cert.MlaDwUkIdeal.nD Cert.MlaDwUkIdeal.τ).loc Cert.MlaDwUkIdeal.main_arg0)
      ∧ m' ((c.tc : Thread Cert.MlaDwUkRefIdeal.nD Cert.MlaDwUkRefIdeal.τ).loc Cert.MlaDwUkRefIdeal.main_arg1) = m ((c.tc : Thread Cert.MlaDwUkIdeal.nD Cert.MlaDwUkIdeal.τ).loc Cert.MlaDwUkIdeal.main_arg1)) →
    ∃ (v0 : (c : Dev Cert.MlaDwUkIdeal.nD) → Buf (Elt Ideal) ((c.tc : Thread Cert.MlaDwUkIdeal.nD Cert.MlaDwUkIdeal.τ).loc Cert.MlaDwUkIdeal.main_v2)),
      θ_run (Cert.MlaDwUkIdeal.defs (F := Ideal)) (onTc (τ := Cert.MlaDwUkIdeal.τ) (Cert.MlaDwUkIdeal.main (F := Ideal))) ⟨m, fun _ => 0, g⟩ (fun r => ∀ c : Dev Cert.MlaDwUkIdeal.nD,
          r.2.mem ((c.tc : Thread Cert.MlaDwUkIdeal.nD Cert.MlaDwUkIdeal.τ).loc Cert.MlaDwUkIdeal.main_v2) = v0 c
          ∧ r.2.mem ((c.tc : Thread Cert.MlaDwUkIdeal.nD Cert.MlaDwUkIdeal.τ).loc Cert.MlaDwUkIdeal.main_arg0) = m ((c.tc : Thread Cert.MlaDwUkIdeal.nD Cert.MlaDwUkIdeal.τ).loc Cert.MlaDwUkIdeal.main_arg0)
          ∧ r.2.mem ((c.tc : Thread Cert.MlaDwUkIdeal.nD Cert.MlaDwUkIdeal.τ).loc Cert.MlaDwUkIdeal.main_arg1) = m ((c.tc : Thread Cert.MlaDwUkIdeal.nD Cert.MlaDwUkIdeal.τ).loc Cert.MlaDwUkIdeal.main_arg1))
      ∧ θ_run (Cert.MlaDwUkRefIdeal.defs (F := Ideal)) (onTc (τ := Cert.MlaDwUkRefIdeal.τ) (Cert.MlaDwUkRefIdeal.main (F := Ideal))) ⟨m', fun _ => 0, g'⟩ (fun r => ∀ c : Dev Cert.MlaDwUkRefIdeal.nD,
          r.2.mem ((c.tc : Thread Cert.MlaDwUkRefIdeal.nD Cert.MlaDwUkRefIdeal.τ).loc Cert.MlaDwUkRefIdeal.main_v6) = v0 c
          ∧ r.2.mem ((c.tc : Thread Cert.MlaDwUkRefIdeal.nD Cert.MlaDwUkRefIdeal.τ).loc Cert.MlaDwUkRefIdeal.main_arg0) = m' ((c.tc : Thread Cert.MlaDwUkRefIdeal.nD Cert.MlaDwUkRefIdeal.τ).loc Cert.MlaDwUkRefIdeal.main_arg0)
          ∧ r.2.mem ((c.tc : Thread Cert.MlaDwUkRefIdeal.nD Cert.MlaDwUkRefIdeal.τ).loc Cert.MlaDwUkRefIdeal.main_arg1) = m' ((c.tc : Thread Cert.MlaDwUkRefIdeal.nD Cert.MlaDwUkRefIdeal.τ).loc Cert.MlaDwUkRefIdeal.main_arg1))

def preserves_MlaUkBwd_MlaUkBwdIdeal : Prop :=
  True

def algebraic_MlaUkBwdIdeal_MlaUkBwdRefIdeal [hMlaUkBwdIdeal : Cert.MlaUkBwdIdeal.Facts] [hMlaUkBwdRefIdeal : Cert.MlaUkBwdRefIdeal.Facts] : Prop :=
  ∀ (m : (ℓ : Loc Cert.MlaUkBwdIdeal.nD Cert.MlaUkBwdIdeal.τ Cert.MlaUkBwdIdeal.sig) → Buf (Elt Ideal) ℓ) (g : Dev Cert.MlaUkBwdIdeal.nD → PrngReg)
    (m' : (ℓ : Loc Cert.MlaUkBwdRefIdeal.nD Cert.MlaUkBwdRefIdeal.τ Cert.MlaUkBwdRefIdeal.sig) → Buf (Elt Ideal) ℓ) (g' : Dev Cert.MlaUkBwdRefIdeal.nD → PrngReg), Pre_MlaUkBwdIdeal m →
    (∀ c : Dev Cert.MlaUkBwdIdeal.nD,
      m' ((c.tc : Thread Cert.MlaUkBwdRefIdeal.nD Cert.MlaUkBwdRefIdeal.τ).loc Cert.MlaUkBwdRefIdeal.main_arg0) = m ((c.tc : Thread Cert.MlaUkBwdIdeal.nD Cert.MlaUkBwdIdeal.τ).loc Cert.MlaUkBwdIdeal.main_arg0)
      ∧ m' ((c.tc : Thread Cert.MlaUkBwdRefIdeal.nD Cert.MlaUkBwdRefIdeal.τ).loc Cert.MlaUkBwdRefIdeal.main_arg1) = m ((c.tc : Thread Cert.MlaUkBwdIdeal.nD Cert.MlaUkBwdIdeal.τ).loc Cert.MlaUkBwdIdeal.main_arg1)) →
    ∃ (v0 : (c : Dev Cert.MlaUkBwdIdeal.nD) → Buf (Elt Ideal) ((c.tc : Thread Cert.MlaUkBwdIdeal.nD Cert.MlaUkBwdIdeal.τ).loc Cert.MlaUkBwdIdeal.main_v3)),
      θ_run (Cert.MlaUkBwdIdeal.defs (F := Ideal)) (onTc (τ := Cert.MlaUkBwdIdeal.τ) (Cert.MlaUkBwdIdeal.main (F := Ideal))) ⟨m, fun _ => 0, g⟩ (fun r => ∀ c : Dev Cert.MlaUkBwdIdeal.nD,
          r.2.mem ((c.tc : Thread Cert.MlaUkBwdIdeal.nD Cert.MlaUkBwdIdeal.τ).loc Cert.MlaUkBwdIdeal.main_v3) = v0 c
          ∧ r.2.mem ((c.tc : Thread Cert.MlaUkBwdIdeal.nD Cert.MlaUkBwdIdeal.τ).loc Cert.MlaUkBwdIdeal.main_arg0) = m ((c.tc : Thread Cert.MlaUkBwdIdeal.nD Cert.MlaUkBwdIdeal.τ).loc Cert.MlaUkBwdIdeal.main_arg0)
          ∧ r.2.mem ((c.tc : Thread Cert.MlaUkBwdIdeal.nD Cert.MlaUkBwdIdeal.τ).loc Cert.MlaUkBwdIdeal.main_arg1) = m ((c.tc : Thread Cert.MlaUkBwdIdeal.nD Cert.MlaUkBwdIdeal.τ).loc Cert.MlaUkBwdIdeal.main_arg1))
      ∧ θ_run (Cert.MlaUkBwdRefIdeal.defs (F := Ideal)) (onTc (τ := Cert.MlaUkBwdRefIdeal.τ) (Cert.MlaUkBwdRefIdeal.main (F := Ideal))) ⟨m', fun _ => 0, g'⟩ (fun r => ∀ c : Dev Cert.MlaUkBwdRefIdeal.nD,
          r.2.mem ((c.tc : Thread Cert.MlaUkBwdRefIdeal.nD Cert.MlaUkBwdRefIdeal.τ).loc Cert.MlaUkBwdRefIdeal.main_v3) = v0 c
          ∧ r.2.mem ((c.tc : Thread Cert.MlaUkBwdRefIdeal.nD Cert.MlaUkBwdRefIdeal.τ).loc Cert.MlaUkBwdRefIdeal.main_arg0) = m' ((c.tc : Thread Cert.MlaUkBwdRefIdeal.nD Cert.MlaUkBwdRefIdeal.τ).loc Cert.MlaUkBwdRefIdeal.main_arg0)
          ∧ r.2.mem ((c.tc : Thread Cert.MlaUkBwdRefIdeal.nD Cert.MlaUkBwdRefIdeal.τ).loc Cert.MlaUkBwdRefIdeal.main_arg1) = m' ((c.tc : Thread Cert.MlaUkBwdRefIdeal.nD Cert.MlaUkBwdRefIdeal.τ).loc Cert.MlaUkBwdRefIdeal.main_arg1))

def preserves_MlaUvBwd_MlaUvBwdIdeal : Prop :=
  True

def algebraic_MlaUvBwdIdeal_MlaUvBwdRefIdeal [hMlaUvBwdIdeal : Cert.MlaUvBwdIdeal.Facts] [hMlaUvBwdRefIdeal : Cert.MlaUvBwdRefIdeal.Facts] : Prop :=
  ∀ (m : (ℓ : Loc Cert.MlaUvBwdIdeal.nD Cert.MlaUvBwdIdeal.τ Cert.MlaUvBwdIdeal.sig) → Buf (Elt Ideal) ℓ) (g : Dev Cert.MlaUvBwdIdeal.nD → PrngReg)
    (m' : (ℓ : Loc Cert.MlaUvBwdRefIdeal.nD Cert.MlaUvBwdRefIdeal.τ Cert.MlaUvBwdRefIdeal.sig) → Buf (Elt Ideal) ℓ) (g' : Dev Cert.MlaUvBwdRefIdeal.nD → PrngReg), Pre_MlaUvBwdIdeal m →
    (∀ c : Dev Cert.MlaUvBwdIdeal.nD,
      m' ((c.tc : Thread Cert.MlaUvBwdRefIdeal.nD Cert.MlaUvBwdRefIdeal.τ).loc Cert.MlaUvBwdRefIdeal.main_arg0) = m ((c.tc : Thread Cert.MlaUvBwdIdeal.nD Cert.MlaUvBwdIdeal.τ).loc Cert.MlaUvBwdIdeal.main_arg0)
      ∧ m' ((c.tc : Thread Cert.MlaUvBwdRefIdeal.nD Cert.MlaUvBwdRefIdeal.τ).loc Cert.MlaUvBwdRefIdeal.main_arg1) = m ((c.tc : Thread Cert.MlaUvBwdIdeal.nD Cert.MlaUvBwdIdeal.τ).loc Cert.MlaUvBwdIdeal.main_arg1)
      ∧ m' ((c.tc : Thread Cert.MlaUvBwdRefIdeal.nD Cert.MlaUvBwdRefIdeal.τ).loc Cert.MlaUvBwdRefIdeal.main_arg2) = m ((c.tc : Thread Cert.MlaUvBwdIdeal.nD Cert.MlaUvBwdIdeal.τ).loc Cert.MlaUvBwdIdeal.main_arg2)) →
    ∃ (v0 : (c : Dev Cert.MlaUvBwdIdeal.nD) → Buf (Elt Ideal) ((c.tc : Thread Cert.MlaUvBwdIdeal.nD Cert.MlaUvBwdIdeal.τ).loc Cert.MlaUvBwdIdeal.main_v3)),
      θ_run (Cert.MlaUvBwdIdeal.defs (F := Ideal)) (onTc (τ := Cert.MlaUvBwdIdeal.τ) (Cert.MlaUvBwdIdeal.main (F := Ideal))) ⟨m, fun _ => 0, g⟩ (fun r => ∀ c : Dev Cert.MlaUvBwdIdeal.nD,
          r.2.mem ((c.tc : Thread Cert.MlaUvBwdIdeal.nD Cert.MlaUvBwdIdeal.τ).loc Cert.MlaUvBwdIdeal.main_v3) = v0 c
          ∧ r.2.mem ((c.tc : Thread Cert.MlaUvBwdIdeal.nD Cert.MlaUvBwdIdeal.τ).loc Cert.MlaUvBwdIdeal.main_arg0) = m ((c.tc : Thread Cert.MlaUvBwdIdeal.nD Cert.MlaUvBwdIdeal.τ).loc Cert.MlaUvBwdIdeal.main_arg0)
          ∧ r.2.mem ((c.tc : Thread Cert.MlaUvBwdIdeal.nD Cert.MlaUvBwdIdeal.τ).loc Cert.MlaUvBwdIdeal.main_arg1) = m ((c.tc : Thread Cert.MlaUvBwdIdeal.nD Cert.MlaUvBwdIdeal.τ).loc Cert.MlaUvBwdIdeal.main_arg1)
          ∧ r.2.mem ((c.tc : Thread Cert.MlaUvBwdIdeal.nD Cert.MlaUvBwdIdeal.τ).loc Cert.MlaUvBwdIdeal.main_arg2) = m ((c.tc : Thread Cert.MlaUvBwdIdeal.nD Cert.MlaUvBwdIdeal.τ).loc Cert.MlaUvBwdIdeal.main_arg2))
      ∧ θ_run (Cert.MlaUvBwdRefIdeal.defs (F := Ideal)) (onTc (τ := Cert.MlaUvBwdRefIdeal.τ) (Cert.MlaUvBwdRefIdeal.main (F := Ideal))) ⟨m', fun _ => 0, g'⟩ (fun r => ∀ c : Dev Cert.MlaUvBwdRefIdeal.nD,
          r.2.mem ((c.tc : Thread Cert.MlaUvBwdRefIdeal.nD Cert.MlaUvBwdRefIdeal.τ).loc Cert.MlaUvBwdRefIdeal.main_v4) = v0 c
          ∧ r.2.mem ((c.tc : Thread Cert.MlaUvBwdRefIdeal.nD Cert.MlaUvBwdRefIdeal.τ).loc Cert.MlaUvBwdRefIdeal.main_arg0) = m' ((c.tc : Thread Cert.MlaUvBwdRefIdeal.nD Cert.MlaUvBwdRefIdeal.τ).loc Cert.MlaUvBwdRefIdeal.main_arg0)
          ∧ r.2.mem ((c.tc : Thread Cert.MlaUvBwdRefIdeal.nD Cert.MlaUvBwdRefIdeal.τ).loc Cert.MlaUvBwdRefIdeal.main_arg1) = m' ((c.tc : Thread Cert.MlaUvBwdRefIdeal.nD Cert.MlaUvBwdRefIdeal.τ).loc Cert.MlaUvBwdRefIdeal.main_arg1)
          ∧ r.2.mem ((c.tc : Thread Cert.MlaUvBwdRefIdeal.nD Cert.MlaUvBwdRefIdeal.τ).loc Cert.MlaUvBwdRefIdeal.main_arg2) = m' ((c.tc : Thread Cert.MlaUvBwdRefIdeal.nD Cert.MlaUvBwdRefIdeal.τ).loc Cert.MlaUvBwdRefIdeal.main_arg2))

def preserves_MlaDwUq_MlaDwUqIdeal : Prop :=
  True

def algebraic_MlaDwUqIdeal_MlaDwUqRefIdeal [hMlaDwUqIdeal : Cert.MlaDwUqIdeal.Facts] [hMlaDwUqRefIdeal : Cert.MlaDwUqRefIdeal.Facts] : Prop :=
  ∀ (m : (ℓ : Loc Cert.MlaDwUqIdeal.nD Cert.MlaDwUqIdeal.τ Cert.MlaDwUqIdeal.sig) → Buf (Elt Ideal) ℓ) (g : Dev Cert.MlaDwUqIdeal.nD → PrngReg)
    (m' : (ℓ : Loc Cert.MlaDwUqRefIdeal.nD Cert.MlaDwUqRefIdeal.τ Cert.MlaDwUqRefIdeal.sig) → Buf (Elt Ideal) ℓ) (g' : Dev Cert.MlaDwUqRefIdeal.nD → PrngReg), Pre_MlaDwUqIdeal m →
    (∀ c : Dev Cert.MlaDwUqIdeal.nD,
      m' ((c.tc : Thread Cert.MlaDwUqRefIdeal.nD Cert.MlaDwUqRefIdeal.τ).loc Cert.MlaDwUqRefIdeal.main_arg0) = m ((c.tc : Thread Cert.MlaDwUqIdeal.nD Cert.MlaDwUqIdeal.τ).loc Cert.MlaDwUqIdeal.main_arg0)
      ∧ m' ((c.tc : Thread Cert.MlaDwUqRefIdeal.nD Cert.MlaDwUqRefIdeal.τ).loc Cert.MlaDwUqRefIdeal.main_arg1) = m ((c.tc : Thread Cert.MlaDwUqIdeal.nD Cert.MlaDwUqIdeal.τ).loc Cert.MlaDwUqIdeal.main_arg1)) →
    ∃ (v0 : (c : Dev Cert.MlaDwUqIdeal.nD) → Buf (Elt Ideal) ((c.tc : Thread Cert.MlaDwUqIdeal.nD Cert.MlaDwUqIdeal.τ).loc Cert.MlaDwUqIdeal.main_v4)),
      θ_run (Cert.MlaDwUqIdeal.defs (F := Ideal)) (onTc (τ := Cert.MlaDwUqIdeal.τ) (Cert.MlaDwUqIdeal.main (F := Ideal))) ⟨m, fun _ => 0, g⟩ (fun r => ∀ c : Dev Cert.MlaDwUqIdeal.nD,
          r.2.mem ((c.tc : Thread Cert.MlaDwUqIdeal.nD Cert.MlaDwUqIdeal.τ).loc Cert.MlaDwUqIdeal.main_v4) = v0 c
          ∧ r.2.mem ((c.tc : Thread Cert.MlaDwUqIdeal.nD Cert.MlaDwUqIdeal.τ).loc Cert.MlaDwUqIdeal.main_arg0) = m ((c.tc : Thread Cert.MlaDwUqIdeal.nD Cert.MlaDwUqIdeal.τ).loc Cert.MlaDwUqIdeal.main_arg0)
          ∧ r.2.mem ((c.tc : Thread Cert.MlaDwUqIdeal.nD Cert.MlaDwUqIdeal.τ).loc Cert.MlaDwUqIdeal.main_arg1) = m ((c.tc : Thread Cert.MlaDwUqIdeal.nD Cert.MlaDwUqIdeal.τ).loc Cert.MlaDwUqIdeal.main_arg1))
      ∧ θ_run (Cert.MlaDwUqRefIdeal.defs (F := Ideal)) (onTc (τ := Cert.MlaDwUqRefIdeal.τ) (Cert.MlaDwUqRefIdeal.main (F := Ideal))) ⟨m', fun _ => 0, g'⟩ (fun r => ∀ c : Dev Cert.MlaDwUqRefIdeal.nD,
          r.2.mem ((c.tc : Thread Cert.MlaDwUqRefIdeal.nD Cert.MlaDwUqRefIdeal.τ).loc Cert.MlaDwUqRefIdeal.main_v12) = v0 c
          ∧ r.2.mem ((c.tc : Thread Cert.MlaDwUqRefIdeal.nD Cert.MlaDwUqRefIdeal.τ).loc Cert.MlaDwUqRefIdeal.main_arg0) = m' ((c.tc : Thread Cert.MlaDwUqRefIdeal.nD Cert.MlaDwUqRefIdeal.τ).loc Cert.MlaDwUqRefIdeal.main_arg0)
          ∧ r.2.mem ((c.tc : Thread Cert.MlaDwUqRefIdeal.nD Cert.MlaDwUqRefIdeal.τ).loc Cert.MlaDwUqRefIdeal.main_arg1) = m' ((c.tc : Thread Cert.MlaDwUqRefIdeal.nD Cert.MlaDwUqRefIdeal.τ).loc Cert.MlaDwUqRefIdeal.main_arg1))

def preserves_MlaUqBwd_MlaUqBwdIdeal : Prop :=
  True

def algebraic_MlaUqBwdIdeal_MlaUqBwdRefIdeal [hMlaUqBwdIdeal : Cert.MlaUqBwdIdeal.Facts] [hMlaUqBwdRefIdeal : Cert.MlaUqBwdRefIdeal.Facts] : Prop :=
  ∀ (m : (ℓ : Loc Cert.MlaUqBwdIdeal.nD Cert.MlaUqBwdIdeal.τ Cert.MlaUqBwdIdeal.sig) → Buf (Elt Ideal) ℓ) (g : Dev Cert.MlaUqBwdIdeal.nD → PrngReg)
    (m' : (ℓ : Loc Cert.MlaUqBwdRefIdeal.nD Cert.MlaUqBwdRefIdeal.τ Cert.MlaUqBwdRefIdeal.sig) → Buf (Elt Ideal) ℓ) (g' : Dev Cert.MlaUqBwdRefIdeal.nD → PrngReg), Pre_MlaUqBwdIdeal m →
    (∀ c : Dev Cert.MlaUqBwdIdeal.nD,
      m' ((c.tc : Thread Cert.MlaUqBwdRefIdeal.nD Cert.MlaUqBwdRefIdeal.τ).loc Cert.MlaUqBwdRefIdeal.main_arg0) = m ((c.tc : Thread Cert.MlaUqBwdIdeal.nD Cert.MlaUqBwdIdeal.τ).loc Cert.MlaUqBwdIdeal.main_arg0)
      ∧ m' ((c.tc : Thread Cert.MlaUqBwdRefIdeal.nD Cert.MlaUqBwdRefIdeal.τ).loc Cert.MlaUqBwdRefIdeal.main_arg1) = m ((c.tc : Thread Cert.MlaUqBwdIdeal.nD Cert.MlaUqBwdIdeal.τ).loc Cert.MlaUqBwdIdeal.main_arg1)) →
    ∃ (v0 : (c : Dev Cert.MlaUqBwdIdeal.nD) → Buf (Elt Ideal) ((c.tc : Thread Cert.MlaUqBwdIdeal.nD Cert.MlaUqBwdIdeal.τ).loc Cert.MlaUqBwdIdeal.main_v8)),
      θ_run (Cert.MlaUqBwdIdeal.defs (F := Ideal)) (onTc (τ := Cert.MlaUqBwdIdeal.τ) (Cert.MlaUqBwdIdeal.main (F := Ideal))) ⟨m, fun _ => 0, g⟩ (fun r => ∀ c : Dev Cert.MlaUqBwdIdeal.nD,
          r.2.mem ((c.tc : Thread Cert.MlaUqBwdIdeal.nD Cert.MlaUqBwdIdeal.τ).loc Cert.MlaUqBwdIdeal.main_v8) = v0 c
          ∧ r.2.mem ((c.tc : Thread Cert.MlaUqBwdIdeal.nD Cert.MlaUqBwdIdeal.τ).loc Cert.MlaUqBwdIdeal.main_arg0) = m ((c.tc : Thread Cert.MlaUqBwdIdeal.nD Cert.MlaUqBwdIdeal.τ).loc Cert.MlaUqBwdIdeal.main_arg0)
          ∧ r.2.mem ((c.tc : Thread Cert.MlaUqBwdIdeal.nD Cert.MlaUqBwdIdeal.τ).loc Cert.MlaUqBwdIdeal.main_arg1) = m ((c.tc : Thread Cert.MlaUqBwdIdeal.nD Cert.MlaUqBwdIdeal.τ).loc Cert.MlaUqBwdIdeal.main_arg1))
      ∧ θ_run (Cert.MlaUqBwdRefIdeal.defs (F := Ideal)) (onTc (τ := Cert.MlaUqBwdRefIdeal.τ) (Cert.MlaUqBwdRefIdeal.main (F := Ideal))) ⟨m', fun _ => 0, g'⟩ (fun r => ∀ c : Dev Cert.MlaUqBwdRefIdeal.nD,
          r.2.mem ((c.tc : Thread Cert.MlaUqBwdRefIdeal.nD Cert.MlaUqBwdRefIdeal.τ).loc Cert.MlaUqBwdRefIdeal.main_v5) = v0 c
          ∧ r.2.mem ((c.tc : Thread Cert.MlaUqBwdRefIdeal.nD Cert.MlaUqBwdRefIdeal.τ).loc Cert.MlaUqBwdRefIdeal.main_arg0) = m' ((c.tc : Thread Cert.MlaUqBwdRefIdeal.nD Cert.MlaUqBwdRefIdeal.τ).loc Cert.MlaUqBwdRefIdeal.main_arg0)
          ∧ r.2.mem ((c.tc : Thread Cert.MlaUqBwdRefIdeal.nD Cert.MlaUqBwdRefIdeal.τ).loc Cert.MlaUqBwdRefIdeal.main_arg1) = m' ((c.tc : Thread Cert.MlaUqBwdRefIdeal.nD Cert.MlaUqBwdRefIdeal.τ).loc Cert.MlaUqBwdRefIdeal.main_arg1))

def preserves_CfNorm_CfNormIdeal : Prop :=
  True

def algebraic_CfNormIdeal_CfNormRefIdeal [hCfNormIdeal : Cert.CfNormIdeal.Facts] [hCfNormRefIdeal : Cert.CfNormRefIdeal.Facts] : Prop :=
  ∀ (m : (ℓ : Loc Cert.CfNormIdeal.nD Cert.CfNormIdeal.τ Cert.CfNormIdeal.sig) → Buf (Elt Ideal) ℓ) (g : Dev Cert.CfNormIdeal.nD → PrngReg)
    (m' : (ℓ : Loc Cert.CfNormRefIdeal.nD Cert.CfNormRefIdeal.τ Cert.CfNormRefIdeal.sig) → Buf (Elt Ideal) ℓ) (g' : Dev Cert.CfNormRefIdeal.nD → PrngReg), Pre_CfNormIdeal m →
    (∀ c : Dev Cert.CfNormIdeal.nD,
      m' ((c.tc : Thread Cert.CfNormRefIdeal.nD Cert.CfNormRefIdeal.τ).loc Cert.CfNormRefIdeal.main_arg0) = m ((c.tc : Thread Cert.CfNormIdeal.nD Cert.CfNormIdeal.τ).loc Cert.CfNormIdeal.main_arg0)
      ∧ m' ((c.tc : Thread Cert.CfNormRefIdeal.nD Cert.CfNormRefIdeal.τ).loc Cert.CfNormRefIdeal.main_arg1) = m ((c.tc : Thread Cert.CfNormIdeal.nD Cert.CfNormIdeal.τ).loc Cert.CfNormIdeal.main_arg1)
      ∧ m' ((c.tc : Thread Cert.CfNormRefIdeal.nD Cert.CfNormRefIdeal.τ).loc Cert.CfNormRefIdeal.main_arg2) = m ((c.tc : Thread Cert.CfNormIdeal.nD Cert.CfNormIdeal.τ).loc Cert.CfNormIdeal.main_arg2)) →
    ∃ (v0 : (c : Dev Cert.CfNormIdeal.nD) → Buf (Elt Ideal) ((c.tc : Thread Cert.CfNormIdeal.nD Cert.CfNormIdeal.τ).loc Cert.CfNormIdeal.main_v0)),
      θ_run (Cert.CfNormIdeal.defs (F := Ideal)) (onTc (τ := Cert.CfNormIdeal.τ) (Cert.CfNormIdeal.main (F := Ideal))) ⟨m, fun _ => 0, g⟩ (fun r => ∀ c : Dev Cert.CfNormIdeal.nD,
          r.2.mem ((c.tc : Thread Cert.CfNormIdeal.nD Cert.CfNormIdeal.τ).loc Cert.CfNormIdeal.main_v0) = v0 c
          ∧ r.2.mem ((c.tc : Thread Cert.CfNormIdeal.nD Cert.CfNormIdeal.τ).loc Cert.CfNormIdeal.main_arg0) = m ((c.tc : Thread Cert.CfNormIdeal.nD Cert.CfNormIdeal.τ).loc Cert.CfNormIdeal.main_arg0)
          ∧ r.2.mem ((c.tc : Thread Cert.CfNormIdeal.nD Cert.CfNormIdeal.τ).loc Cert.CfNormIdeal.main_arg1) = m ((c.tc : Thread Cert.CfNormIdeal.nD Cert.CfNormIdeal.τ).loc Cert.CfNormIdeal.main_arg1)
          ∧ r.2.mem ((c.tc : Thread Cert.CfNormIdeal.nD Cert.CfNormIdeal.τ).loc Cert.CfNormIdeal.main_arg2) = m ((c.tc : Thread Cert.CfNormIdeal.nD Cert.CfNormIdeal.τ).loc Cert.CfNormIdeal.main_arg2))
      ∧ θ_run (Cert.CfNormRefIdeal.defs (F := Ideal)) (onTc (τ := Cert.CfNormRefIdeal.τ) (Cert.CfNormRefIdeal.main (F := Ideal))) ⟨m', fun _ => 0, g'⟩ (fun r => ∀ c : Dev Cert.CfNormRefIdeal.nD,
          r.2.mem ((c.tc : Thread Cert.CfNormRefIdeal.nD Cert.CfNormRefIdeal.τ).loc Cert.CfNormRefIdeal.main_v23) = v0 c
          ∧ r.2.mem ((c.tc : Thread Cert.CfNormRefIdeal.nD Cert.CfNormRefIdeal.τ).loc Cert.CfNormRefIdeal.main_arg0) = m' ((c.tc : Thread Cert.CfNormRefIdeal.nD Cert.CfNormRefIdeal.τ).loc Cert.CfNormRefIdeal.main_arg0)
          ∧ r.2.mem ((c.tc : Thread Cert.CfNormRefIdeal.nD Cert.CfNormRefIdeal.τ).loc Cert.CfNormRefIdeal.main_arg1) = m' ((c.tc : Thread Cert.CfNormRefIdeal.nD Cert.CfNormRefIdeal.τ).loc Cert.CfNormRefIdeal.main_arg1)
          ∧ r.2.mem ((c.tc : Thread Cert.CfNormRefIdeal.nD Cert.CfNormRefIdeal.τ).loc Cert.CfNormRefIdeal.main_arg2) = m' ((c.tc : Thread Cert.CfNormRefIdeal.nD Cert.CfNormRefIdeal.τ).loc Cert.CfNormRefIdeal.main_arg2))

def preserves_MlaQueries_MlaQueriesIdeal : Prop :=
  True

def algebraic_MlaQueriesIdeal_MlaQueriesRefIdeal [hMlaQueriesIdeal : Cert.MlaQueriesIdeal.Facts] [hMlaQueriesRefIdeal : Cert.MlaQueriesRefIdeal.Facts] : Prop :=
  ∀ (m : (ℓ : Loc Cert.MlaQueriesIdeal.nD Cert.MlaQueriesIdeal.τ Cert.MlaQueriesIdeal.sig) → Buf (Elt Ideal) ℓ) (g : Dev Cert.MlaQueriesIdeal.nD → PrngReg)
    (m' : (ℓ : Loc Cert.MlaQueriesRefIdeal.nD Cert.MlaQueriesRefIdeal.τ Cert.MlaQueriesRefIdeal.sig) → Buf (Elt Ideal) ℓ) (g' : Dev Cert.MlaQueriesRefIdeal.nD → PrngReg), Pre_MlaQueriesIdeal m →
    (∀ c : Dev Cert.MlaQueriesIdeal.nD,
      m' ((c.tc : Thread Cert.MlaQueriesRefIdeal.nD Cert.MlaQueriesRefIdeal.τ).loc Cert.MlaQueriesRefIdeal.main_arg0) = m ((c.tc : Thread Cert.MlaQueriesIdeal.nD Cert.MlaQueriesIdeal.τ).loc Cert.MlaQueriesIdeal.main_arg0)
      ∧ m' ((c.tc : Thread Cert.MlaQueriesRefIdeal.nD Cert.MlaQueriesRefIdeal.τ).loc Cert.MlaQueriesRefIdeal.main_arg1) = m ((c.tc : Thread Cert.MlaQueriesIdeal.nD Cert.MlaQueriesIdeal.τ).loc Cert.MlaQueriesIdeal.main_arg1)) →
    ∃ (v0 : (c : Dev Cert.MlaQueriesIdeal.nD) → Buf (Elt Ideal) ((c.tc : Thread Cert.MlaQueriesIdeal.nD Cert.MlaQueriesIdeal.τ).loc Cert.MlaQueriesIdeal.main_v28)),
      θ_run (Cert.MlaQueriesIdeal.defs (F := Ideal)) (onTc (τ := Cert.MlaQueriesIdeal.τ) (Cert.MlaQueriesIdeal.main (F := Ideal))) ⟨m, fun _ => 0, g⟩ (fun r => ∀ c : Dev Cert.MlaQueriesIdeal.nD,
          r.2.mem ((c.tc : Thread Cert.MlaQueriesIdeal.nD Cert.MlaQueriesIdeal.τ).loc Cert.MlaQueriesIdeal.main_v28) = v0 c
          ∧ r.2.mem ((c.tc : Thread Cert.MlaQueriesIdeal.nD Cert.MlaQueriesIdeal.τ).loc Cert.MlaQueriesIdeal.main_arg0) = m ((c.tc : Thread Cert.MlaQueriesIdeal.nD Cert.MlaQueriesIdeal.τ).loc Cert.MlaQueriesIdeal.main_arg0)
          ∧ r.2.mem ((c.tc : Thread Cert.MlaQueriesIdeal.nD Cert.MlaQueriesIdeal.τ).loc Cert.MlaQueriesIdeal.main_arg1) = m ((c.tc : Thread Cert.MlaQueriesIdeal.nD Cert.MlaQueriesIdeal.τ).loc Cert.MlaQueriesIdeal.main_arg1))
      ∧ θ_run (Cert.MlaQueriesRefIdeal.defs (F := Ideal)) (onTc (τ := Cert.MlaQueriesRefIdeal.τ) (Cert.MlaQueriesRefIdeal.main (F := Ideal))) ⟨m', fun _ => 0, g'⟩ (fun r => ∀ c : Dev Cert.MlaQueriesRefIdeal.nD,
          r.2.mem ((c.tc : Thread Cert.MlaQueriesRefIdeal.nD Cert.MlaQueriesRefIdeal.τ).loc Cert.MlaQueriesRefIdeal.main_v41) = v0 c
          ∧ r.2.mem ((c.tc : Thread Cert.MlaQueriesRefIdeal.nD Cert.MlaQueriesRefIdeal.τ).loc Cert.MlaQueriesRefIdeal.main_arg0) = m' ((c.tc : Thread Cert.MlaQueriesRefIdeal.nD Cert.MlaQueriesRefIdeal.τ).loc Cert.MlaQueriesRefIdeal.main_arg0)
          ∧ r.2.mem ((c.tc : Thread Cert.MlaQueriesRefIdeal.nD Cert.MlaQueriesRefIdeal.τ).loc Cert.MlaQueriesRefIdeal.main_arg1) = m' ((c.tc : Thread Cert.MlaQueriesRefIdeal.nD Cert.MlaQueriesRefIdeal.τ).loc Cert.MlaQueriesRefIdeal.main_arg1))

def preserves_MlaKeys_MlaKeysIdeal : Prop :=
  True

def algebraic_MlaKeysIdeal_MlaKeysRefIdeal [hMlaKeysIdeal : Cert.MlaKeysIdeal.Facts] [hMlaKeysRefIdeal : Cert.MlaKeysRefIdeal.Facts] : Prop :=
  ∀ (m : (ℓ : Loc Cert.MlaKeysIdeal.nD Cert.MlaKeysIdeal.τ Cert.MlaKeysIdeal.sig) → Buf (Elt Ideal) ℓ) (g : Dev Cert.MlaKeysIdeal.nD → PrngReg)
    (m' : (ℓ : Loc Cert.MlaKeysRefIdeal.nD Cert.MlaKeysRefIdeal.τ Cert.MlaKeysRefIdeal.sig) → Buf (Elt Ideal) ℓ) (g' : Dev Cert.MlaKeysRefIdeal.nD → PrngReg), Pre_MlaKeysIdeal m →
    (∀ c : Dev Cert.MlaKeysIdeal.nD,
      m' ((c.tc : Thread Cert.MlaKeysRefIdeal.nD Cert.MlaKeysRefIdeal.τ).loc Cert.MlaKeysRefIdeal.main_arg0) = m ((c.tc : Thread Cert.MlaKeysIdeal.nD Cert.MlaKeysIdeal.τ).loc Cert.MlaKeysIdeal.main_arg0)
      ∧ m' ((c.tc : Thread Cert.MlaKeysRefIdeal.nD Cert.MlaKeysRefIdeal.τ).loc Cert.MlaKeysRefIdeal.main_arg1) = m ((c.tc : Thread Cert.MlaKeysIdeal.nD Cert.MlaKeysIdeal.τ).loc Cert.MlaKeysIdeal.main_arg1)
      ∧ m' ((c.tc : Thread Cert.MlaKeysRefIdeal.nD Cert.MlaKeysRefIdeal.τ).loc Cert.MlaKeysRefIdeal.main_arg2) = m ((c.tc : Thread Cert.MlaKeysIdeal.nD Cert.MlaKeysIdeal.τ).loc Cert.MlaKeysIdeal.main_arg2)) →
    ∃ (v0 : (c : Dev Cert.MlaKeysIdeal.nD) → Buf (Elt Ideal) ((c.tc : Thread Cert.MlaKeysIdeal.nD Cert.MlaKeysIdeal.τ).loc Cert.MlaKeysIdeal.main_v5)),
      θ_run (Cert.MlaKeysIdeal.defs (F := Ideal)) (onTc (τ := Cert.MlaKeysIdeal.τ) (Cert.MlaKeysIdeal.main (F := Ideal))) ⟨m, fun _ => 0, g⟩ (fun r => ∀ c : Dev Cert.MlaKeysIdeal.nD,
          r.2.mem ((c.tc : Thread Cert.MlaKeysIdeal.nD Cert.MlaKeysIdeal.τ).loc Cert.MlaKeysIdeal.main_v5) = v0 c
          ∧ r.2.mem ((c.tc : Thread Cert.MlaKeysIdeal.nD Cert.MlaKeysIdeal.τ).loc Cert.MlaKeysIdeal.main_arg0) = m ((c.tc : Thread Cert.MlaKeysIdeal.nD Cert.MlaKeysIdeal.τ).loc Cert.MlaKeysIdeal.main_arg0)
          ∧ r.2.mem ((c.tc : Thread Cert.MlaKeysIdeal.nD Cert.MlaKeysIdeal.τ).loc Cert.MlaKeysIdeal.main_arg1) = m ((c.tc : Thread Cert.MlaKeysIdeal.nD Cert.MlaKeysIdeal.τ).loc Cert.MlaKeysIdeal.main_arg1)
          ∧ r.2.mem ((c.tc : Thread Cert.MlaKeysIdeal.nD Cert.MlaKeysIdeal.τ).loc Cert.MlaKeysIdeal.main_arg2) = m ((c.tc : Thread Cert.MlaKeysIdeal.nD Cert.MlaKeysIdeal.τ).loc Cert.MlaKeysIdeal.main_arg2))
      ∧ θ_run (Cert.MlaKeysRefIdeal.defs (F := Ideal)) (onTc (τ := Cert.MlaKeysRefIdeal.τ) (Cert.MlaKeysRefIdeal.main (F := Ideal))) ⟨m', fun _ => 0, g'⟩ (fun r => ∀ c : Dev Cert.MlaKeysRefIdeal.nD,
          r.2.mem ((c.tc : Thread Cert.MlaKeysRefIdeal.nD Cert.MlaKeysRefIdeal.τ).loc Cert.MlaKeysRefIdeal.main_v8) = v0 c
          ∧ r.2.mem ((c.tc : Thread Cert.MlaKeysRefIdeal.nD Cert.MlaKeysRefIdeal.τ).loc Cert.MlaKeysRefIdeal.main_arg0) = m' ((c.tc : Thread Cert.MlaKeysRefIdeal.nD Cert.MlaKeysRefIdeal.τ).loc Cert.MlaKeysRefIdeal.main_arg0)
          ∧ r.2.mem ((c.tc : Thread Cert.MlaKeysRefIdeal.nD Cert.MlaKeysRefIdeal.τ).loc Cert.MlaKeysRefIdeal.main_arg1) = m' ((c.tc : Thread Cert.MlaKeysRefIdeal.nD Cert.MlaKeysRefIdeal.τ).loc Cert.MlaKeysRefIdeal.main_arg1)
          ∧ r.2.mem ((c.tc : Thread Cert.MlaKeysRefIdeal.nD Cert.MlaKeysRefIdeal.τ).loc Cert.MlaKeysRefIdeal.main_arg2) = m' ((c.tc : Thread Cert.MlaKeysRefIdeal.nD Cert.MlaKeysRefIdeal.τ).loc Cert.MlaKeysRefIdeal.main_arg2))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpRefIdeal : Cert.MlpUpRefIdeal.Facts) (hMlpDownLn : Cert.MlpDownLn.Facts) (hMlpDownLnIdeal : Cert.MlpDownLnIdeal.Facts) (hMlpDownLnRefIdeal : Cert.MlpDownLnRefIdeal.Facts) (hMlpDownBwd : Cert.MlpDownBwd.Facts) (hMlpDownBwdIdeal : Cert.MlpDownBwdIdeal.Facts) (hMlpDownBwdRefIdeal : Cert.MlpDownBwdRefIdeal.Facts) (hMlpDw2 : Cert.MlpDw2.Facts) (hMlpDw2Ideal : Cert.MlpDw2Ideal.Facts) (hMlpDw2RefIdeal : Cert.MlpDw2RefIdeal.Facts) (hMlpDw1 : Cert.MlpDw1.Facts) (hMlpDw1Ideal : Cert.MlpDw1Ideal.Facts) (hMlpDw1RefIdeal : Cert.MlpDw1RefIdeal.Facts) (hMlpUpBwd : Cert.MlpUpBwd.Facts) (hMlpUpBwdIdeal : Cert.MlpUpBwdIdeal.Facts) (hMlpUpBwdRefIdeal : Cert.MlpUpBwdRefIdeal.Facts) (hScGateBwd : Cert.ScGateBwd.Facts) (hScGateBwdIdeal : Cert.ScGateBwdIdeal.Facts) (hScGateBwdRefIdeal : Cert.ScGateBwdRefIdeal.Facts) (hScOutBwd : Cert.ScOutBwd.Facts) (hScOutBwdIdeal : Cert.ScOutBwdIdeal.Facts) (hScOutBwdRefIdeal : Cert.ScOutBwdRefIdeal.Facts) (hScDwOut : Cert.ScDwOut.Facts) (hScDwOutIdeal : Cert.ScDwOutIdeal.Facts) (hScDwOutRefIdeal : Cert.ScDwOutRefIdeal.Facts) (hScDwIn : Cert.ScDwIn.Facts) (hScDwInIdeal : Cert.ScDwInIdeal.Facts) (hScDwInRefIdeal : Cert.ScDwInRefIdeal.Facts) (hScInBwd : Cert.ScInBwd.Facts) (hScInBwdIdeal : Cert.ScInBwdIdeal.Facts) (hScInBwdRefIdeal : Cert.ScInBwdRefIdeal.Facts) (hScIn : Cert.ScIn.Facts) (hScInIdeal : Cert.ScInIdeal.Facts) (hScInRefIdeal : Cert.ScInRefIdeal.Facts) (hScGate : Cert.ScGate.Facts) (hScGateIdeal : Cert.ScGateIdeal.Facts) (hScGateRefIdeal : Cert.ScGateRefIdeal.Facts) (hScOutLn : Cert.ScOutLn.Facts) (hScOutLnIdeal : Cert.ScOutLnIdeal.Facts) (hScOutLnRefIdeal : Cert.ScOutLnRefIdeal.Facts) (hConfNormBwd : Cert.ConfNormBwd.Facts) (hConfNormBwdIdeal : Cert.ConfNormBwdIdeal.Facts) (hConfNormBwdRefIdeal : Cert.ConfNormBwdRefIdeal.Facts) (hScFirstBwd : Cert.ScFirstBwd.Facts) (hScFirstBwdIdeal : Cert.ScFirstBwdIdeal.Facts) (hScFirstBwdRefIdeal : Cert.ScFirstBwdRefIdeal.Facts) (hCfIn : Cert.CfIn.Facts) (hCfInIdeal : Cert.CfInIdeal.Facts) (hCfInRefIdeal : Cert.CfInRefIdeal.Facts) (hCfDwIn : Cert.CfDwIn.Facts) (hCfDwInIdeal : Cert.CfDwInIdeal.Facts) (hCfDwInRefIdeal : Cert.CfDwInRefIdeal.Facts) (hCfInBwd : Cert.CfInBwd.Facts) (hCfInBwdIdeal : Cert.CfInBwdIdeal.Facts) (hCfInBwdRefIdeal : Cert.CfInBwdRefIdeal.Facts) (hCfOutLn : Cert.CfOutLn.Facts) (hCfOutLnIdeal : Cert.CfOutLnIdeal.Facts) (hCfOutLnRefIdeal : Cert.CfOutLnRefIdeal.Facts) (hMlaOutBwd : Cert.MlaOutBwd.Facts) (hMlaOutBwdIdeal : Cert.MlaOutBwdIdeal.Facts) (hMlaOutBwdRefIdeal : Cert.MlaOutBwdRefIdeal.Facts) (hAttnFwd : Cert.AttnFwd.Facts) (hAttnFwdIdeal : Cert.AttnFwdIdeal.Facts) (hAttnFwdRefIdeal : Cert.AttnFwdRefIdeal.Facts) (hMlaDown : Cert.MlaDown.Facts) (hMlaDownIdeal : Cert.MlaDownIdeal.Facts) (hMlaDownRefIdeal : Cert.MlaDownRefIdeal.Facts) (hMlaDwDown : Cert.MlaDwDown.Facts) (hMlaDwDownIdeal : Cert.MlaDwDownIdeal.Facts) (hMlaDwDownRefIdeal : Cert.MlaDwDownRefIdeal.Facts) (hMlaDownBwd : Cert.MlaDownBwd.Facts) (hMlaDownBwdIdeal : Cert.MlaDownBwdIdeal.Facts) (hMlaDownBwdRefIdeal : Cert.MlaDownBwdRefIdeal.Facts) (hMlaValues : Cert.MlaValues.Facts) (hMlaValuesIdeal : Cert.MlaValuesIdeal.Facts) (hMlaValuesRefIdeal : Cert.MlaValuesRefIdeal.Facts) (hMlaDwUk : Cert.MlaDwUk.Facts) (hMlaDwUkIdeal : Cert.MlaDwUkIdeal.Facts) (hMlaDwUkRefIdeal : Cert.MlaDwUkRefIdeal.Facts) (hMlaUkBwd : Cert.MlaUkBwd.Facts) (hMlaUkBwdIdeal : Cert.MlaUkBwdIdeal.Facts) (hMlaUkBwdRefIdeal : Cert.MlaUkBwdRefIdeal.Facts) (hMlaUvBwd : Cert.MlaUvBwd.Facts) (hMlaUvBwdIdeal : Cert.MlaUvBwdIdeal.Facts) (hMlaUvBwdRefIdeal : Cert.MlaUvBwdRefIdeal.Facts) (hMlaDwUq : Cert.MlaDwUq.Facts) (hMlaDwUqIdeal : Cert.MlaDwUqIdeal.Facts) (hMlaDwUqRefIdeal : Cert.MlaDwUqRefIdeal.Facts) (hMlaUqBwd : Cert.MlaUqBwd.Facts) (hMlaUqBwdIdeal : Cert.MlaUqBwdIdeal.Facts) (hMlaUqBwdRefIdeal : Cert.MlaUqBwdRefIdeal.Facts) (hCfNorm : Cert.CfNorm.Facts) (hCfNormIdeal : Cert.CfNormIdeal.Facts) (hCfNormRefIdeal : Cert.CfNormRefIdeal.Facts) (hMlaQueries : Cert.MlaQueries.Facts) (hMlaQueriesIdeal : Cert.MlaQueriesIdeal.Facts) (hMlaQueriesRefIdeal : Cert.MlaQueriesRefIdeal.Facts) (hMlaKeys : Cert.MlaKeys.Facts) (hMlaKeysIdeal : Cert.MlaKeysIdeal.Facts) (hMlaKeysRefIdeal : Cert.MlaKeysRefIdeal.Facts) (hPre_finite_qk : Cert.Pre_finite_qk.Facts) (hPre_finite_up_bwd : Cert.Pre_finite_up_bwd.Facts) (hPre_finite_in_bwd : Cert.Pre_finite_in_bwd.Facts) (hPre_finite_norm_bwd : Cert.Pre_finite_norm_bwd.Facts) (hPre_finite_cf_in_bwd : Cert.Pre_finite_cf_in_bwd.Facts) (hPre_finite_keys : Cert.Pre_finite_keys.Facts) (hPre_finite_down_bwd : Cert.Pre_finite_down_bwd.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDownLn (hMlpDownLn := hMlpDownLn)
    ∧ quiescent_MlpDownLnIdeal (hMlpDownLnIdeal := hMlpDownLnIdeal)
    ∧ quiescent_MlpDownLnRefIdeal (hMlpDownLnRefIdeal := hMlpDownLnRefIdeal)
    ∧ quiescent_MlpDownBwd (hMlpDownBwd := hMlpDownBwd)
    ∧ quiescent_MlpDownBwdIdeal (hMlpDownBwdIdeal := hMlpDownBwdIdeal)
    ∧ quiescent_MlpDownBwdRefIdeal (hMlpDownBwdRefIdeal := hMlpDownBwdRefIdeal)
    ∧ quiescent_MlpDw2 (hMlpDw2 := hMlpDw2)
    ∧ quiescent_MlpDw2Ideal (hMlpDw2Ideal := hMlpDw2Ideal)
    ∧ quiescent_MlpDw2RefIdeal (hMlpDw2RefIdeal := hMlpDw2RefIdeal)
    ∧ quiescent_MlpDw1 (hMlpDw1 := hMlpDw1)
    ∧ quiescent_MlpDw1Ideal (hMlpDw1Ideal := hMlpDw1Ideal)
    ∧ quiescent_MlpDw1RefIdeal (hMlpDw1RefIdeal := hMlpDw1RefIdeal)
    ∧ quiescent_MlpUpBwd (hMlpUpBwd := hMlpUpBwd)
    ∧ quiescent_MlpUpBwdIdeal (hMlpUpBwdIdeal := hMlpUpBwdIdeal)
    ∧ quiescent_MlpUpBwdIdeal_pre_finite_up_bwd (hMlpUpBwdIdeal := hMlpUpBwdIdeal) (hPre_finite_up_bwd := hPre_finite_up_bwd)
    ∧ quiescent_MlpUpBwdRefIdeal (hMlpUpBwdRefIdeal := hMlpUpBwdRefIdeal)
    ∧ quiescent_MlpUpBwdRefIdeal_pre_finite_up_bwd (hMlpUpBwdRefIdeal := hMlpUpBwdRefIdeal) (hPre_finite_up_bwd := hPre_finite_up_bwd)
    ∧ quiescent_ScGateBwd (hScGateBwd := hScGateBwd)
    ∧ quiescent_ScGateBwdIdeal (hScGateBwdIdeal := hScGateBwdIdeal)
    ∧ quiescent_ScGateBwdRefIdeal (hScGateBwdRefIdeal := hScGateBwdRefIdeal)
    ∧ quiescent_ScOutBwd (hScOutBwd := hScOutBwd)
    ∧ quiescent_ScOutBwdIdeal (hScOutBwdIdeal := hScOutBwdIdeal)
    ∧ quiescent_ScOutBwdRefIdeal (hScOutBwdRefIdeal := hScOutBwdRefIdeal)
    ∧ quiescent_ScDwOut (hScDwOut := hScDwOut)
    ∧ quiescent_ScDwOutIdeal (hScDwOutIdeal := hScDwOutIdeal)
    ∧ quiescent_ScDwOutRefIdeal (hScDwOutRefIdeal := hScDwOutRefIdeal)
    ∧ quiescent_ScDwIn (hScDwIn := hScDwIn)
    ∧ quiescent_ScDwInIdeal (hScDwInIdeal := hScDwInIdeal)
    ∧ quiescent_ScDwInRefIdeal (hScDwInRefIdeal := hScDwInRefIdeal)
    ∧ quiescent_ScInBwd (hScInBwd := hScInBwd)
    ∧ quiescent_ScInBwdIdeal (hScInBwdIdeal := hScInBwdIdeal)
    ∧ quiescent_ScInBwdIdeal_pre_finite_in_bwd (hScInBwdIdeal := hScInBwdIdeal) (hPre_finite_in_bwd := hPre_finite_in_bwd)
    ∧ quiescent_ScInBwdRefIdeal (hScInBwdRefIdeal := hScInBwdRefIdeal)
    ∧ quiescent_ScInBwdRefIdeal_pre_finite_in_bwd (hScInBwdRefIdeal := hScInBwdRefIdeal) (hPre_finite_in_bwd := hPre_finite_in_bwd)
    ∧ quiescent_ScIn (hScIn := hScIn)
    ∧ quiescent_ScInIdeal (hScInIdeal := hScInIdeal)
    ∧ quiescent_ScInRefIdeal (hScInRefIdeal := hScInRefIdeal)
    ∧ quiescent_ScGate (hScGate := hScGate)
    ∧ quiescent_ScGateIdeal (hScGateIdeal := hScGateIdeal)
    ∧ quiescent_ScGateRefIdeal (hScGateRefIdeal := hScGateRefIdeal)
    ∧ quiescent_ScOutLn (hScOutLn := hScOutLn)
    ∧ quiescent_ScOutLnIdeal (hScOutLnIdeal := hScOutLnIdeal)
    ∧ quiescent_ScOutLnRefIdeal (hScOutLnRefIdeal := hScOutLnRefIdeal)
    ∧ quiescent_ConfNormBwd (hConfNormBwd := hConfNormBwd)
    ∧ quiescent_ConfNormBwdIdeal (hConfNormBwdIdeal := hConfNormBwdIdeal)
    ∧ quiescent_ConfNormBwdIdeal_pre_finite_norm_bwd (hConfNormBwdIdeal := hConfNormBwdIdeal) (hPre_finite_norm_bwd := hPre_finite_norm_bwd)
    ∧ quiescent_ConfNormBwdRefIdeal (hConfNormBwdRefIdeal := hConfNormBwdRefIdeal)
    ∧ quiescent_ConfNormBwdRefIdeal_pre_finite_norm_bwd (hConfNormBwdRefIdeal := hConfNormBwdRefIdeal) (hPre_finite_norm_bwd := hPre_finite_norm_bwd)
    ∧ quiescent_ScFirstBwd (hScFirstBwd := hScFirstBwd)
    ∧ quiescent_ScFirstBwdIdeal (hScFirstBwdIdeal := hScFirstBwdIdeal)
    ∧ quiescent_ScFirstBwdRefIdeal (hScFirstBwdRefIdeal := hScFirstBwdRefIdeal)
    ∧ quiescent_CfIn (hCfIn := hCfIn)
    ∧ quiescent_CfInIdeal (hCfInIdeal := hCfInIdeal)
    ∧ quiescent_CfInRefIdeal (hCfInRefIdeal := hCfInRefIdeal)
    ∧ quiescent_CfDwIn (hCfDwIn := hCfDwIn)
    ∧ quiescent_CfDwInIdeal (hCfDwInIdeal := hCfDwInIdeal)
    ∧ quiescent_CfDwInRefIdeal (hCfDwInRefIdeal := hCfDwInRefIdeal)
    ∧ quiescent_CfInBwd (hCfInBwd := hCfInBwd)
    ∧ quiescent_CfInBwdIdeal (hCfInBwdIdeal := hCfInBwdIdeal)
    ∧ quiescent_CfInBwdIdeal_pre_finite_cf_in_bwd (hCfInBwdIdeal := hCfInBwdIdeal) (hPre_finite_cf_in_bwd := hPre_finite_cf_in_bwd)
    ∧ quiescent_CfInBwdRefIdeal (hCfInBwdRefIdeal := hCfInBwdRefIdeal)
    ∧ quiescent_CfInBwdRefIdeal_pre_finite_cf_in_bwd (hCfInBwdRefIdeal := hCfInBwdRefIdeal) (hPre_finite_cf_in_bwd := hPre_finite_cf_in_bwd)
    ∧ quiescent_CfOutLn (hCfOutLn := hCfOutLn)
    ∧ quiescent_CfOutLnIdeal (hCfOutLnIdeal := hCfOutLnIdeal)
    ∧ quiescent_CfOutLnRefIdeal (hCfOutLnRefIdeal := hCfOutLnRefIdeal)
    ∧ quiescent_MlaOutBwd (hMlaOutBwd := hMlaOutBwd)
    ∧ quiescent_MlaOutBwdIdeal (hMlaOutBwdIdeal := hMlaOutBwdIdeal)
    ∧ quiescent_MlaOutBwdRefIdeal (hMlaOutBwdRefIdeal := hMlaOutBwdRefIdeal)
    ∧ quiescent_AttnFwd (hAttnFwd := hAttnFwd)
    ∧ quiescent_AttnFwdIdeal (hAttnFwdIdeal := hAttnFwdIdeal)
    ∧ quiescent_AttnFwdIdeal_pre_finite_keys (hAttnFwdIdeal := hAttnFwdIdeal) (hPre_finite_keys := hPre_finite_keys)
    ∧ quiescent_AttnFwdRefIdeal (hAttnFwdRefIdeal := hAttnFwdRefIdeal)
    ∧ quiescent_AttnFwdRefIdeal_pre_finite_keys (hAttnFwdRefIdeal := hAttnFwdRefIdeal) (hPre_finite_keys := hPre_finite_keys)
    ∧ quiescent_MlaDown (hMlaDown := hMlaDown)
    ∧ quiescent_MlaDownIdeal (hMlaDownIdeal := hMlaDownIdeal)
    ∧ quiescent_MlaDownRefIdeal (hMlaDownRefIdeal := hMlaDownRefIdeal)
    ∧ quiescent_MlaDwDown (hMlaDwDown := hMlaDwDown)
    ∧ quiescent_MlaDwDownIdeal (hMlaDwDownIdeal := hMlaDwDownIdeal)
    ∧ quiescent_MlaDwDownRefIdeal (hMlaDwDownRefIdeal := hMlaDwDownRefIdeal)
    ∧ quiescent_MlaDownBwd (hMlaDownBwd := hMlaDownBwd)
    ∧ quiescent_MlaDownBwdIdeal (hMlaDownBwdIdeal := hMlaDownBwdIdeal)
    ∧ quiescent_MlaDownBwdIdeal_pre_finite_down_bwd (hMlaDownBwdIdeal := hMlaDownBwdIdeal) (hPre_finite_down_bwd := hPre_finite_down_bwd)
    ∧ quiescent_MlaDownBwdRefIdeal (hMlaDownBwdRefIdeal := hMlaDownBwdRefIdeal)
    ∧ quiescent_MlaDownBwdRefIdeal_pre_finite_down_bwd (hMlaDownBwdRefIdeal := hMlaDownBwdRefIdeal) (hPre_finite_down_bwd := hPre_finite_down_bwd)
    ∧ quiescent_MlaValues (hMlaValues := hMlaValues)
    ∧ quiescent_MlaValuesIdeal (hMlaValuesIdeal := hMlaValuesIdeal)
    ∧ quiescent_MlaValuesRefIdeal (hMlaValuesRefIdeal := hMlaValuesRefIdeal)
    ∧ quiescent_MlaDwUk (hMlaDwUk := hMlaDwUk)
    ∧ quiescent_MlaDwUkIdeal (hMlaDwUkIdeal := hMlaDwUkIdeal)
    ∧ quiescent_MlaDwUkRefIdeal (hMlaDwUkRefIdeal := hMlaDwUkRefIdeal)
    ∧ quiescent_MlaUkBwd (hMlaUkBwd := hMlaUkBwd)
    ∧ quiescent_MlaUkBwdIdeal (hMlaUkBwdIdeal := hMlaUkBwdIdeal)
    ∧ quiescent_MlaUkBwdRefIdeal (hMlaUkBwdRefIdeal := hMlaUkBwdRefIdeal)
    ∧ quiescent_MlaUvBwd (hMlaUvBwd := hMlaUvBwd)
    ∧ quiescent_MlaUvBwdIdeal (hMlaUvBwdIdeal := hMlaUvBwdIdeal)
    ∧ quiescent_MlaUvBwdRefIdeal (hMlaUvBwdRefIdeal := hMlaUvBwdRefIdeal)
    ∧ quiescent_MlaDwUq (hMlaDwUq := hMlaDwUq)
    ∧ quiescent_MlaDwUqIdeal (hMlaDwUqIdeal := hMlaDwUqIdeal)
    ∧ quiescent_MlaDwUqRefIdeal (hMlaDwUqRefIdeal := hMlaDwUqRefIdeal)
    ∧ quiescent_MlaUqBwd (hMlaUqBwd := hMlaUqBwd)
    ∧ quiescent_MlaUqBwdIdeal (hMlaUqBwdIdeal := hMlaUqBwdIdeal)
    ∧ quiescent_MlaUqBwdRefIdeal (hMlaUqBwdRefIdeal := hMlaUqBwdRefIdeal)
    ∧ quiescent_CfNorm (hCfNorm := hCfNorm)
    ∧ quiescent_CfNormIdeal (hCfNormIdeal := hCfNormIdeal)
    ∧ quiescent_CfNormRefIdeal (hCfNormRefIdeal := hCfNormRefIdeal)
    ∧ quiescent_MlaQueries (hMlaQueries := hMlaQueries)
    ∧ quiescent_MlaQueriesIdeal (hMlaQueriesIdeal := hMlaQueriesIdeal)
    ∧ quiescent_MlaQueriesRefIdeal (hMlaQueriesRefIdeal := hMlaQueriesRefIdeal)
    ∧ quiescent_MlaKeys (hMlaKeys := hMlaKeys)
    ∧ quiescent_MlaKeysIdeal (hMlaKeysIdeal := hMlaKeysIdeal)
    ∧ quiescent_MlaKeysRefIdeal (hMlaKeysRefIdeal := hMlaKeysRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_MlpUp_MlpUpIdeal
    ∧ algebraic_MlpUpIdeal_MlpUpRefIdeal (hMlpUpIdeal := hMlpUpIdeal) (hMlpUpRefIdeal := hMlpUpRefIdeal)
    ∧ preserves_MlpDownLn_MlpDownLnIdeal
    ∧ algebraic_MlpDownLnIdeal_MlpDownLnRefIdeal (hMlpDownLnIdeal := hMlpDownLnIdeal) (hMlpDownLnRefIdeal := hMlpDownLnRefIdeal)
    ∧ preserves_MlpDownBwd_MlpDownBwdIdeal
    ∧ algebraic_MlpDownBwdIdeal_MlpDownBwdRefIdeal (hMlpDownBwdIdeal := hMlpDownBwdIdeal) (hMlpDownBwdRefIdeal := hMlpDownBwdRefIdeal)
    ∧ preserves_MlpDw2_MlpDw2Ideal
    ∧ algebraic_MlpDw2Ideal_MlpDw2RefIdeal (hMlpDw2Ideal := hMlpDw2Ideal) (hMlpDw2RefIdeal := hMlpDw2RefIdeal)
    ∧ preserves_MlpDw1_MlpDw1Ideal
    ∧ algebraic_MlpDw1Ideal_MlpDw1RefIdeal (hMlpDw1Ideal := hMlpDw1Ideal) (hMlpDw1RefIdeal := hMlpDw1RefIdeal)
    ∧ preserves_MlpUpBwd_MlpUpBwdIdeal
    ∧ algebraic_MlpUpBwdIdeal_MlpUpBwdRefIdeal_pre_finite_up_bwd (hMlpUpBwdIdeal := hMlpUpBwdIdeal) (hMlpUpBwdRefIdeal := hMlpUpBwdRefIdeal) (hPre_finite_up_bwd := hPre_finite_up_bwd)
    ∧ preserves_ScGateBwd_ScGateBwdIdeal
    ∧ algebraic_ScGateBwdIdeal_ScGateBwdRefIdeal (hScGateBwdIdeal := hScGateBwdIdeal) (hScGateBwdRefIdeal := hScGateBwdRefIdeal)
    ∧ preserves_ScOutBwd_ScOutBwdIdeal
    ∧ algebraic_ScOutBwdIdeal_ScOutBwdRefIdeal (hScOutBwdIdeal := hScOutBwdIdeal) (hScOutBwdRefIdeal := hScOutBwdRefIdeal)
    ∧ preserves_ScDwOut_ScDwOutIdeal
    ∧ algebraic_ScDwOutIdeal_ScDwOutRefIdeal (hScDwOutIdeal := hScDwOutIdeal) (hScDwOutRefIdeal := hScDwOutRefIdeal)
    ∧ preserves_ScDwIn_ScDwInIdeal
    ∧ algebraic_ScDwInIdeal_ScDwInRefIdeal (hScDwInIdeal := hScDwInIdeal) (hScDwInRefIdeal := hScDwInRefIdeal)
    ∧ preserves_ScInBwd_ScInBwdIdeal
    ∧ algebraic_ScInBwdIdeal_ScInBwdRefIdeal_pre_finite_in_bwd (hScInBwdIdeal := hScInBwdIdeal) (hScInBwdRefIdeal := hScInBwdRefIdeal) (hPre_finite_in_bwd := hPre_finite_in_bwd)
    ∧ preserves_ScIn_ScInIdeal
    ∧ algebraic_ScInIdeal_ScInRefIdeal (hScInIdeal := hScInIdeal) (hScInRefIdeal := hScInRefIdeal)
    ∧ preserves_ScGate_ScGateIdeal
    ∧ algebraic_ScGateIdeal_ScGateRefIdeal (hScGateIdeal := hScGateIdeal) (hScGateRefIdeal := hScGateRefIdeal)
    ∧ preserves_ScOutLn_ScOutLnIdeal
    ∧ algebraic_ScOutLnIdeal_ScOutLnRefIdeal (hScOutLnIdeal := hScOutLnIdeal) (hScOutLnRefIdeal := hScOutLnRefIdeal)
    ∧ preserves_ConfNormBwd_ConfNormBwdIdeal
    ∧ algebraic_ConfNormBwdIdeal_ConfNormBwdRefIdeal_pre_finite_norm_bwd (hConfNormBwdIdeal := hConfNormBwdIdeal) (hConfNormBwdRefIdeal := hConfNormBwdRefIdeal) (hPre_finite_norm_bwd := hPre_finite_norm_bwd)
    ∧ preserves_ScFirstBwd_ScFirstBwdIdeal
    ∧ algebraic_ScFirstBwdIdeal_ScFirstBwdRefIdeal (hScFirstBwdIdeal := hScFirstBwdIdeal) (hScFirstBwdRefIdeal := hScFirstBwdRefIdeal)
    ∧ preserves_CfIn_CfInIdeal
    ∧ algebraic_CfInIdeal_CfInRefIdeal (hCfInIdeal := hCfInIdeal) (hCfInRefIdeal := hCfInRefIdeal)
    ∧ preserves_CfDwIn_CfDwInIdeal
    ∧ algebraic_CfDwInIdeal_CfDwInRefIdeal (hCfDwInIdeal := hCfDwInIdeal) (hCfDwInRefIdeal := hCfDwInRefIdeal)
    ∧ preserves_CfInBwd_CfInBwdIdeal
    ∧ algebraic_CfInBwdIdeal_CfInBwdRefIdeal_pre_finite_cf_in_bwd (hCfInBwdIdeal := hCfInBwdIdeal) (hCfInBwdRefIdeal := hCfInBwdRefIdeal) (hPre_finite_cf_in_bwd := hPre_finite_cf_in_bwd)
    ∧ preserves_CfOutLn_CfOutLnIdeal
    ∧ algebraic_CfOutLnIdeal_CfOutLnRefIdeal (hCfOutLnIdeal := hCfOutLnIdeal) (hCfOutLnRefIdeal := hCfOutLnRefIdeal)
    ∧ preserves_MlaOutBwd_MlaOutBwdIdeal
    ∧ algebraic_MlaOutBwdIdeal_MlaOutBwdRefIdeal (hMlaOutBwdIdeal := hMlaOutBwdIdeal) (hMlaOutBwdRefIdeal := hMlaOutBwdRefIdeal)
    ∧ preserves_AttnFwd_AttnFwdIdeal
    ∧ algebraic_AttnFwdIdeal_AttnFwdRefIdeal_pre_finite_keys (hAttnFwdIdeal := hAttnFwdIdeal) (hAttnFwdRefIdeal := hAttnFwdRefIdeal) (hPre_finite_keys := hPre_finite_keys)
    ∧ preserves_MlaDown_MlaDownIdeal
    ∧ algebraic_MlaDownIdeal_MlaDownRefIdeal (hMlaDownIdeal := hMlaDownIdeal) (hMlaDownRefIdeal := hMlaDownRefIdeal)
    ∧ preserves_MlaDwDown_MlaDwDownIdeal
    ∧ algebraic_MlaDwDownIdeal_MlaDwDownRefIdeal (hMlaDwDownIdeal := hMlaDwDownIdeal) (hMlaDwDownRefIdeal := hMlaDwDownRefIdeal)
    ∧ preserves_MlaDownBwd_MlaDownBwdIdeal
    ∧ algebraic_MlaDownBwdIdeal_MlaDownBwdRefIdeal_pre_finite_down_bwd (hMlaDownBwdIdeal := hMlaDownBwdIdeal) (hMlaDownBwdRefIdeal := hMlaDownBwdRefIdeal) (hPre_finite_down_bwd := hPre_finite_down_bwd)
    ∧ preserves_MlaValues_MlaValuesIdeal
    ∧ algebraic_MlaValuesIdeal_MlaValuesRefIdeal (hMlaValuesIdeal := hMlaValuesIdeal) (hMlaValuesRefIdeal := hMlaValuesRefIdeal)
    ∧ preserves_MlaDwUk_MlaDwUkIdeal
    ∧ algebraic_MlaDwUkIdeal_MlaDwUkRefIdeal (hMlaDwUkIdeal := hMlaDwUkIdeal) (hMlaDwUkRefIdeal := hMlaDwUkRefIdeal)
    ∧ preserves_MlaUkBwd_MlaUkBwdIdeal
    ∧ algebraic_MlaUkBwdIdeal_MlaUkBwdRefIdeal (hMlaUkBwdIdeal := hMlaUkBwdIdeal) (hMlaUkBwdRefIdeal := hMlaUkBwdRefIdeal)
    ∧ preserves_MlaUvBwd_MlaUvBwdIdeal
    ∧ algebraic_MlaUvBwdIdeal_MlaUvBwdRefIdeal (hMlaUvBwdIdeal := hMlaUvBwdIdeal) (hMlaUvBwdRefIdeal := hMlaUvBwdRefIdeal)
    ∧ preserves_MlaDwUq_MlaDwUqIdeal
    ∧ algebraic_MlaDwUqIdeal_MlaDwUqRefIdeal (hMlaDwUqIdeal := hMlaDwUqIdeal) (hMlaDwUqRefIdeal := hMlaDwUqRefIdeal)
    ∧ preserves_MlaUqBwd_MlaUqBwdIdeal
    ∧ algebraic_MlaUqBwdIdeal_MlaUqBwdRefIdeal (hMlaUqBwdIdeal := hMlaUqBwdIdeal) (hMlaUqBwdRefIdeal := hMlaUqBwdRefIdeal)
    ∧ preserves_CfNorm_CfNormIdeal
    ∧ algebraic_CfNormIdeal_CfNormRefIdeal (hCfNormIdeal := hCfNormIdeal) (hCfNormRefIdeal := hCfNormRefIdeal)
    ∧ preserves_MlaQueries_MlaQueriesIdeal
    ∧ algebraic_MlaQueriesIdeal_MlaQueriesRefIdeal (hMlaQueriesIdeal := hMlaQueriesIdeal) (hMlaQueriesRefIdeal := hMlaQueriesRefIdeal)
    ∧ preserves_MlaKeys_MlaKeysIdeal
    ∧ algebraic_MlaKeysIdeal_MlaKeysRefIdeal (hMlaKeysIdeal := hMlaKeysIdeal) (hMlaKeysRefIdeal := hMlaKeysRefIdeal)
-- ==== Pre_finite_cf_in_bwd.lean ====
abbrev S2048x1024 : Shape := ⟨2, ![2048, 1024]⟩
abbrev S1x1024 : Shape := ⟨2, ![1, 1024]⟩
abbrev S1024x2048 : Shape := ⟨2, ![1024, 2048]⟩
abbrev S2x2048x1024 : Shape := ⟨3, ![2, 2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg5 : FVec F S2048x1024 .f32) (main_v13 : IVec S_ 1) (main_v15 : FVec F S2x2048x1024 .f32) (main_v16 : FVec F S2x2048x1024 .f32) : IVec S_ 1 :=
  let main_v17 : IVec S2x2048x1024 1 := cmpf .olt main_v15 main_v16
  let main_c_5 : IVec S_ 1 := constantI S_ 1 1#1
  let main_v18 : IVec S_ 1 := (fun x v => Host.reduce IntOp.andi x v reducesTo_S2x2048x1024_S_d0_1_2 h_S_) main_v17 main_c_5
  let main_v19 : IVec S_ 1 := andi main_v13 main_v18
  let main_v20 : FVec F S2048x1024 .f32 := Host.absf main_arg5
  let main_cst_6 : FVec F S_ .f32 := constant S_ .f32 0x7F800000#32
  let main_v21 : FVec F S2048x1024 .f32 := broadcastInDim S2048x1024 ![] bcast_S_S2048x1024 main_cst_6
  let main_v22 : IVec S2048x1024 1 := cmpf .olt main_v20 main_v21
  let main_c_7 : IVec S_ 1 := constantI S_ 1 1#1
  let main_v23 : IVec S_ 1 := (fun x v => Host.reduce IntOp.andi x v reducesTo_S2048x1024_S_d0_1 h_S_) main_v22 main_c_7
  let main_v24 : IVec S_ 1 := andi main_v19 main_v23
  main_v24

def fn {F : FTy → Type} [FloatOps F] (main_arg0 : FVec F S2048x1024 .f32) (main_arg1 : FVec F S1x1024 .f32) (main_arg2 : FVec F S1x1024 .f32) (main_arg3 : FVec F S1024x2048 .f32) (main_arg4 : FVec F S2x2048x1024 .bf16) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2x2048x1024 .f32 := (extf .f32 · bitsLt_bf16_f32) main_arg4
  let main_v15 : FVec F S2x2048x1024 .f32 := Host.absf main_v14
  let main_cst_4 : FVec F S_ .f32 := constant S_ .f32 0x7F800000#32
  let main_v16 : FVec F S2x2048x1024 .f32 := broadcastInDim S2x2048x1024 ![] bcast_S_S2x2048x1024 main_cst_4
  fn_part1 (F := F) main_arg5 main_v13 main_v15 main_v16
-- ==== Pre_finite_down_bwd.lean ====
abbrev S2048x1024 : Shape := ⟨2, ![2048, 1024]⟩
abbrev S1x1024 : Shape := ⟨2, ![1, 1024]⟩
abbrev S1024x384 : Shape := ⟨2, ![1024, 384]⟩
abbrev S1024x320 : Shape := ⟨2, ![1024, 320]⟩
abbrev S2048x384 : Shape := ⟨2, ![2048, 384]⟩
abbrev S2048x320 : Shape := ⟨2, ![2048, 320]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x384 : S_.BroadcastsInDim S1024x384 (![] : Fin 0 → Fin S1024x384.rank)
  reducesTo_S1024x384_S_d0_1 : S1024x384.ReducesTo [0, 1] S_
  bcast_S_S1024x320 : S_.BroadcastsInDim S1024x320 (![] : Fin 0 → Fin S1024x320.rank)
  reducesTo_S1024x320_S_d0_1 : S1024x320.ReducesTo [0, 1] S_
  bitsLt_bf16_f32 : FTy.bits .bf16 < FTy.bits .f32
  bcast_S_S2048x384 : S_.BroadcastsInDim S2048x384 (![] : Fin 0 → Fin S2048x384.rank)
  reducesTo_S2048x384_S_d0_1 : S2048x384.ReducesTo [0, 1] S_
  bcast_S_S2048x320 : S_.BroadcastsInDim S2048x320 (![] : Fin 0 → Fin S2048x320.rank)
  reducesTo_S2048x320_S_d0_1 : S2048x320.ReducesTo [0, 1] S_

variable [Facts]

def fn_part2 {F : FTy → Type} [FloatOps F] (main_v30 : IVec S_ 1) (main_v33 : IVec S2048x1024 1) (main_c_11 : IVec S_ 1) : IVec S_ 1 :=
  let main_v34 : IVec S_ 1 := (fun x v => Host.reduce IntOp.andi x v reducesTo_S2048x1024_S_d0_1 h_S_) main_v33 main_c_11
  let main_v35 : IVec S_ 1 := andi main_v30 main_v34
  main_v35

def fn_part1 {F : FTy → Type} [FloatOps F] (main_arg5 : FVec F S2048x384 .bf16) (main_arg6 : FVec F S2048x320 .bf16) (main_arg7 : FVec F S2048x1024 .f32) (main_v13 : IVec S_ 1) (main_v16 : IVec S1024x320 1) : IVec S_ 1 :=
  let main_c_5 : IVec S_ 1 := constantI S_ 1 1#1
  let main_v17 : IVec S_ 1 := (fun x v => Host.reduce IntOp.andi x v reducesTo_S1024x320_S_d0_1 h_S_) main_v16 main_c_5
  let main_v18 : IVec S_ 1 := andi main_v13 main_v17
  let main_v19 : FVec F S2048x384 .f32 := (extf .f32 · bitsLt_bf16_f32) main_arg5
  let main_v20 : FVec F S2048x384 .f32 := Host.absf main_v19
  let main_cst_6 : FVec F S_ .f32 := constant S_ .f32 0x7F800000#32
  let main_v21 : FVec F S2048x384 .f32 := broadcastInDim S2048x384 ![] bcast_S_S2048x384 main_cst_6
  let main_v22 : IVec S2048x384 1 := cmpf .olt main_v20 main_v21
  let main_c_7 : IVec S_ 1 := constantI S_ 1 1#1
  let main_v23 : IVec S_ 1 := (fun x v => Host.reduce IntOp.andi x v reducesTo_S2048x384_S_d0_1 h_S_) main_v22 main_c_7
  let main_v24 : IVec S_ 1 := andi main_v18 main_v23
  let main_v25 : FVec F S2048x320 .f32 := (extf .f32 · bitsLt_bf16_f32) main_arg6
  let main_v26 : FVec F S2048x320 .f32 := Host.absf main_v25
  let main_cst_8 : FVec F S_ .f32 := constant S_ .f32 0x7F800000#32
  let main_v27 : FVec F S2048x320 .f32 := broadcastInDim S2048x320 ![] bcast_S_S2048x320 main_cst_8
  let main_v28 : IVec S2048x320 1 := cmpf .olt main_v26 main_v27
  let main_c_9 : IVec S_ 1 := constantI S_ 1 1#1
  let main_v29 : IVec S_ 1 := (fun x v => Host.reduce IntOp.andi x v reducesTo_S2048x320_S_d0_1 h_S_) main_v28 main_c_9
  let main_v30 : IVec S_ 1 := andi main_v24 main_v29
  let main_v31 : FVec F S2048x1024 .f32 := Host.absf main_arg7
  let main_cst_10 : FVec F S_ .f32 := constant S_ .f32 0x7F800000#32
  let main_v32 : FVec F S2048x1024 .f32 := broadcastInDim S2048x1024 ![] bcast_S_S2048x1024 main_cst_10
  let main_v33 : IVec S2048x1024 1 := cmpf .olt main_v31 main_v32
  let main_c_11 : IVec S_ 1 := constantI S_ 1 1#1
  fn_part2 (F := F) main_v30 main_v33 main_c_11

def fn {F : FTy → Type} [FloatOps F] (main_arg0 : FVec F S2048x1024 .f32) (main_arg1 : FVec F S1x1024 .f32) (main_arg2 : FVec F S1x1024 .f32) (main_arg3 : FVec F S1024x384 .f32) (main_arg4 : FVec F S1024x320 .f32) (main_arg5 : FVec F S2048x384 .bf16) (main_arg6 : FVec F S2048x320 .bf16) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x384 .f32 := Host.absf main_arg3
  let main_cst_2 : FVec F S_ .f32 := constant S_ .f32 0x7F800000#32
  let main_v10 : FVec F S1024x384 .f32 := broadcastInDim S1024x384 ![] bcast_S_S1024x384 main_cst_2
  let main_v11 : IVec S1024x384 1 := cmpf .olt main_v9 main_v10
  let main_c_3 : IVec S_ 1 := constantI S_ 1 1#1
  let main_v12 : IVec S_ 1 := (fun x v => Host.reduce IntOp.andi x v reducesTo_S1024x384_S_d0_1 h_S_) main_v11 main_c_3
  let main_v13 : IVec S_ 1 := andi main_v8 main_v12
  let main_v14 : FVec F S1024x320 .f32 := Host.absf main_arg4
  let main_cst_4 : FVec F S_ .f32 := constant S_ .f32 0x7F800000#32
  let main_v15 : FVec F S1024x320 .f32 := broadcastInDim S1024x320 ![] bcast_S_S1024x320 main_cst_4
  let main_v16 : IVec S1024x320 1 := cmpf .olt main_v14 main_v15
  fn_part1 (F := F) main_arg5 main_arg6 main_arg7 main_v13 main_v16
-- ==== Pre_finite_in_bwd.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3072 : S_.BroadcastsInDim S1024x3072 (![] : Fin 0 → Fin S1024x3072.rank)
  reducesTo_S1024x3072_S_d0_1 : S1024x3072.ReducesTo [0, 1] S_
  bitsLt_bf16_f32 : FTy.bits .bf16 < FTy.bits .f32
  bcast_S_S3x2048x1024 : S_.BroadcastsInDim S3x2048x1024 (![] : Fin 0 → Fin S3x2048x1024.rank)
  reducesTo_S3x2048x1024_S_d0_1_2 : S3x2048x1024.ReducesTo [0, 1, 2] S_

variable [Facts]

def fn_part1 {F : FTy → Type} [FloatOps F] (main_arg5 : FVec F S2048x1024 .f32) (main_v13 : IVec S_ 1) (main_v15 : FVec F S3x2048x1024 .f32) (main_v16 : FVec F S3x2048x1024 .f32) : IVec S_ 1 :=
  let main_v17 : IVec S3x2048x1024 1 := cmpf .olt main_v15 main_v16
  let main_c_5 : IVec S_ 1 := constantI S_ 1 1#1
  let main_v18 : IVec S_ 1 := (fun x v => Host.reduce IntOp.andi x v reducesTo_S3x2048x1024_S_d0_1_2 h_S_) main_v17 main_c_5
  let main_v19 : IVec S_ 1 := andi main_v13 main_v18
  let main_v20 : FVec F S2048x1024 .f32 := Host.absf main_arg5
  let main_cst_6 : FVec F S_ .f32 := constant S_ .f32 0x7F800000#32
  let main_v21 : FVec F S2048x1024 .f32 := broadcastInDim S2048x1024 ![] bcast_S_S2048x1024 main_cst_6
  let main_v22 : IVec S2048x1024 1 := cmpf .olt main_v20 main_v21
  let main_c_7 : IVec S_ 1 := constantI S_ 1 1#1
  let main_v23 : IVec S_ 1 := (fun x v => Host.reduce IntOp.andi x v reducesTo_S2048x1024_S_d0_1 h_S_) main_v22 main_c_7
  let main_v24 : IVec S_ 1 := andi main_v19 main_v23
  main_v24

def fn {F : FTy → Type} [FloatOps F] (main_arg0 : FVec F S2048x1024 .f32) (main_arg1 : FVec F S1x1024 .f32) (main_arg2 : FVec F S1x1024 .f32) (main_arg3 : FVec F S1024x3072 .f32) (main_arg4 : FVec F S3x2048x1024 .bf16) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3072 .f32 := Host.absf main_arg3
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3x2048x1024 .f32 := (extf .f32 · bitsLt_bf16_f32) main_arg4
  let main_v15 : FVec F S3x2048x1024 .f32 := Host.absf main_v14
  let main_cst_4 : FVec F S_ .f32 := constant S_ .f32 0x7F800000#32
  let main_v16 : FVec F S3x2048x1024 .f32 := broadcastInDim S3x2048x1024 ![] bcast_S_S3x2048x1024 main_cst_4
  fn_part1 (F := F) main_arg5 main_v13 main_v15 main_v16
-- ==== Pre_finite_keys.lean ====
abbrev S2048x8x128 : Shape := ⟨3, ![2048, 8, 128]⟩
abbrev S2048x8x64 : Shape := ⟨3, ![2048, 8, 64]⟩
abbrev S2048x64 : Shape := ⟨2, ![2048, 64]⟩
abbrev S_ : Shape := ⟨0, ![]⟩

class Facts : Prop where
  bitsLt_bf16_f32 : FTy.bits .bf16 < FTy.bits .f32
  bcast_S_S2048x8x128 : S_.BroadcastsInDim S2048x8x128 (![] : Fin 0 → Fin S2048x8x128.rank)
  reducesTo_S2048x8x128_S_d0_1_2 : S2048x8x128.ReducesTo [0, 1, 2] S_
  h_S_ : 0 < S_.numel
  bcast_S_S2048x8x64 : S_.BroadcastsInDim S2048x8x64 (![] : Fin 0 → Fin S2048x8x64.rank)
  reducesTo_S2048x8x64_S_d0_1_2 : S2048x8x64.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v16 : IVec S_ 1) (main_v17 : FVec F S2048x64 .f32) : IVec S_ 1 :=
  let main_v18 : FVec F S2048x64 .f32 := Host.absf main_v17
  let main_cst_4 : FVec F S_ .f32 := constant S_ .f32 0x7F800000#32
  let main_v19 : FVec F S2048x64 .f32 := broadcastInDim S2048x64 ![] bcast_S_S2048x64 main_cst_4
  let main_v20 : IVec S2048x64 1 := cmpf .olt main_v18 main_v19
  let main_c_5 : IVec S_ 1 := constantI S_ 1 1#1
  let main_v21 : IVec S_ 1 := (fun x v => Host.reduce IntOp.andi x v reducesTo_S2048x64_S_d0_1 h_S_) main_v20 main_c_5
  let main_v22 : IVec S_ 1 := andi main_v16 main_v21
  main_v22

def fn {F : FTy → Type} [FloatOps F] (main_arg0 : FVec F S2048x8x128 .bf16) (main_arg1 : FVec F S2048x8x64 .bf16) (main_arg2 : FVec F S2048x8x128 .bf16) (main_arg3 : FVec F S2048x64 .bf16) (main_arg4 : FVec F S2048x8x128 .bf16) : IVec S_ 1 :=
  let main_v0 : FVec F S2048x8x128 .f32 := (extf .f32 · bitsLt_bf16_f32) main_arg0
  let main_v1 : FVec F S2048x8x128 .f32 := Host.absf main_v0
  let main_cst : FVec F S_ .f32 := constant S_ .f32 0x7F800000#32
  let main_v2 : FVec F S2048x8x128 .f32 := broadcastInDim S2048x8x128 ![] bcast_S_S2048x8x128 main_cst
  let main_v3 : IVec S2048x8x128 1 := cmpf .olt main_v1 main_v2
  let main_c : IVec S_ 1 := constantI S_ 1 1#1
  let main_v4 : IVec S_ 1 := (fun x v => Host.reduce IntOp.andi x v reducesTo_S2048x8x128_S_d0_1_2 h_S_) main_v3 main_c
  let main_v5 : FVec F S2048x8x64 .f32 := (extf .f32 · bitsLt_bf16_f32) main_arg1
  let main_v6 : FVec F S2048x8x64 .f32 := Host.absf main_v5
  let main_cst_0 : FVec F S_ .f32 := constant S_ .f32 0x7F800000#32
  let main_v7 : FVec F S2048x8x64 .f32 := broadcastInDim S2048x8x64 ![] bcast_S_S2048x8x64 main_cst_0
  let main_v8 : IVec S2048x8x64 1 := cmpf .olt main_v6 main_v7
  let main_c_1 : IVec S_ 1 := constantI S_ 1 1#1
  let main_v9 : IVec S_ 1 := (fun x v => Host.reduce IntOp.andi x v reducesTo_S2048x8x64_S_d0_1_2 h_S_) main_v8 main_c_1
  let main_v10 : IVec S_ 1 := andi main_v4 main_v9
  let main_v11 : FVec F S2048x8x128 .f32 := (extf .f32 · bitsLt_bf16_f32) main_arg2
  let main_v12 : FVec F S2048x8x128 .f32 := Host.absf main_v11
  let main_cst_2 : FVec F S_ .f32 := constant S_ .f32 0x7F800000#32
  let main_v13 : FVec F S2048x8x128 .f32 := broadcastInDim S2048x8x128 ![] bcast_S_S2048x8x128 main_cst_2
  let main_v14 : IVec S2048x8x128 1 := cmpf .olt main_v12 main_v13
  let main_c_3 : IVec S_ 1 := constantI S_ 1 1#1
  let main_v15 : IVec S_ 1 := (fun x v => Host.reduce IntOp.andi x v reducesTo_S2048x8x128_S_d0_1_2 h_S_) main_v14 main_c_3
  let main_v16 : IVec S_ 1 := andi main_v10 main_v15
  let main_v17 : FVec F S2048x64 .f32 := (extf .f32 · bitsLt_bf16_f32) main_arg3
  fn_part1 (F := F) main_v16 main_v17
-- ==== Pre_finite_norm_bwd.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1x1024 .f32) (main_arg2 : FVec F S1x1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite_qk.lean ====
abbrev S2048x8x128 : Shape := ⟨3, ![2048, 8, 128]⟩
abbrev S2048x8x64 : Shape := ⟨3, ![2048, 8, 64]⟩
abbrev S2048x64 : Shape := ⟨2, ![2048, 64]⟩
abbrev S2048x1024 : Shape := ⟨2, ![2048, 1024]⟩
abbrev S_ : Shape := ⟨0, ![]⟩

class Facts : Prop where
  bitsLt_bf16_f32 : FTy.bits .bf16 < FTy.bits .f32
  bcast_S_S2048x8x128 : S_.BroadcastsInDim S2048x8x128 (![] : Fin 0 → Fin S2048x8x128.rank)
  reducesTo_S2048x8x128_S_d0_1_2 : S2048x8x128.ReducesTo [0, 1, 2] S_
  h_S_ : 0 < S_.numel
  bcast_S_S2048x8x64 : S_.BroadcastsInDim S2048x8x64 (![] : Fin 0 → Fin S2048x8x64.rank)
  reducesTo_S2048x8x64_S_d0_1_2 : S2048x8x64.ReducesTo [0, 1, 2] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v16 : IVec S_ 1) (main_v17 : FVec F S2048x64 .f32) : IVec S_ 1 :=
  let main_v18 : FVec F S2048x64 .f32 := Host.absf main_v17
  let main_cst_4 : FVec F S_ .f32 := constant S_ .f32 0x7F800000#32
  let main_v19 : FVec F S2048x64 .f32 := broadcastInDim S2048x64 ![] bcast_S_S2048x64 main_cst_4
  let main_v20 : IVec S2048x64 1 := cmpf .olt main_v18 main_v19
  let main_c_5 : IVec S_ 1 := constantI S_ 1 1#1
  let main_v21 : IVec S_ 1 := (fun x v => Host.reduce IntOp.andi x v reducesTo_S2048x64_S_d0_1 h_S_) main_v20 main_c_5
  let main_v22 : IVec S_ 1 := andi main_v16 main_v21
  main_v22

def fn {F : FTy → Type} [FloatOps F] (main_arg0 : FVec F S2048x8x128 .bf16) (main_arg1 : FVec F S2048x8x64 .bf16) (main_arg2 : FVec F S2048x8x128 .bf16) (main_arg3 : FVec F S2048x64 .bf16) (main_arg4 : FVec F S2048x8x128 .bf16) (main_arg5 : FVec F S2048x1024 .bf16) : IVec S_ 1 :=
  let main_v0 : FVec F S2048x8x128 .f32 := (extf .f32 · bitsLt_bf16_f32) main_arg0
  let main_v1 : FVec F S2048x8x128 .f32 := Host.absf main_v0
  let main_cst : FVec F S_ .f32 := constant S_ .f32 0x7F800000#32
  let main_v2 : FVec F S2048x8x128 .f32 := broadcastInDim S2048x8x128 ![] bcast_S_S2048x8x128 main_cst
  let main_v3 : IVec S2048x8x128 1 := cmpf .olt main_v1 main_v2
  let main_c : IVec S_ 1 := constantI S_ 1 1#1
  let main_v4 : IVec S_ 1 := (fun x v => Host.reduce IntOp.andi x v reducesTo_S2048x8x128_S_d0_1_2 h_S_) main_v3 main_c
  let main_v5 : FVec F S2048x8x64 .f32 := (extf .f32 · bitsLt_bf16_f32) main_arg1
  let main_v6 : FVec F S2048x8x64 .f32 := Host.absf main_v5
  let main_cst_0 : FVec F S_ .f32 := constant S_ .f32 0x7F800000#32
  let main_v7 : FVec F S2048x8x64 .f32 := broadcastInDim S2048x8x64 ![] bcast_S_S2048x8x64 main_cst_0
  let main_v8 : IVec S2048x8x64 1 := cmpf .olt main_v6 main_v7
  let main_c_1 : IVec S_ 1 := constantI S_ 1 1#1
  let main_v9 : IVec S_ 1 := (fun x v => Host.reduce IntOp.andi x v reducesTo_S2048x8x64_S_d0_1_2 h_S_) main_v8 main_c_1
  let main_v10 : IVec S_ 1 := andi main_v4 main_v9
  let main_v11 : FVec F S2048x8x128 .f32 := (extf .f32 · bitsLt_bf16_f32) main_arg2
  let main_v12 : FVec F S2048x8x128 .f32 := Host.absf main_v11
  let main_cst_2 : FVec F S_ .f32 := constant S_ .f32 0x7F800000#32
  let main_v13 : FVec F S2048x8x128 .f32 := broadcastInDim S2048x8x128 ![] bcast_S_S2048x8x128 main_cst_2
  let main_v14 : IVec S2048x8x128 1 := cmpf .olt main_v12 main_v13
  let main_c_3 : IVec S_ 1 := constantI S_ 1 1#1
  let main_v15 : IVec S_ 1 := (fun x v => Host.reduce IntOp.andi x v reducesTo_S2048x8x128_S_d0_1_2 h_S_) main_v14 main_c_3
  let main_v16 : IVec S_ 1 := andi main_v10 main_v15
  let main_v17 : FVec F S2048x64 .f32 := (extf .f32 · bitsLt_bf16_f32) main_arg3
  fn_part1 (F := F) main_v16 main_v17
-- ==== Pre_finite_up_bwd.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg5 : FVec F S2048x1024 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048x1024 .f32 := Host.absf main_arg5
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1x1024 .f32) (main_arg2 : FVec F S1x1024 .f32) (main_arg3 : FVec F S1024x4096 .f32) (main_arg4 : FVec F S2048x4096 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S2048x4096 .f32 := Host.absf main_arg4
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg5 main_v13 main_v16
-- ==== Kernel.lean ====
abbrev S2048x8x128 : Shape := ⟨3, ![2048, 8, 128]⟩
abbrev S2048x8x64 : Shape := ⟨3, ![2048, 8, 64]⟩
abbrev S2048x64 : Shape := ⟨2, ![2048, 64]⟩
abbrev S2048x1024 : Shape := ⟨2, ![2048, 1024]⟩
abbrev S_ : Shape := ⟨0, ![]⟩
abbrev S2048x8x256 : Shape := ⟨3, ![2048, 8, 256]⟩
abbrev S2048x2048 : Shape := ⟨2, ![2048, 2048]⟩
abbrev S2048x1x64 : Shape := ⟨3, ![2048, 1, 64]⟩
abbrev S2048x256 : Shape := ⟨2, ![2048, 256]⟩
abbrev S2048x128 : Shape := ⟨2, ![2048, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 18
  | .vmem => 16
  | .smem => 0
  | _ => 0

abbrev bufTy : (tb : Table) → Fin (tcTables nBuf tb) → BufTy
  | .hbm, ⟨0, _⟩ => ⟨S2048x8x128, .bf16⟩
  | .hbm, ⟨1, _⟩ => ⟨S2048x8x64, .bf16⟩
  | .hbm, ⟨2, _⟩ => ⟨S2048x8x128, .bf16⟩
  | .hbm, ⟨3, _⟩ => ⟨S2048x64, .bf16⟩
  | .hbm, ⟨4, _⟩ => ⟨S2048x8x128, .bf16⟩
  | .hbm, ⟨5, _⟩ => ⟨S2048x1024, .bf16⟩
  | .hbm, ⟨6, _⟩ => ⟨S_, .bf16⟩
  | .hbm, ⟨7, _⟩ => ⟨S2048x8x64, .bf16⟩
  | .hbm, ⟨8, _⟩ => ⟨S2048x8x256, .bf16⟩
  | .hbm, ⟨9, _⟩ => ⟨S2048x2048, .bf16⟩
  | .hbm, ⟨10, _⟩ => ⟨S2048x1x64, .bf16⟩
  | .hbm, ⟨11, _⟩ => ⟨S2048x8x64, .bf16⟩
  | .hbm, ⟨12, _⟩ => ⟨S2048x8x256, .bf16⟩
  | .hbm, ⟨13, _⟩ => ⟨S2048x2048, .bf16⟩
  | .hbm, ⟨14, _⟩ => ⟨S2048x1024, .bf16⟩
  | .hbm, ⟨15, _⟩ => ⟨S2048x2048, .bf16⟩
  | .hbm, ⟨16, _⟩ => ⟨S2048x2048, .bf16⟩
  | .hbm, ⟨17, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x128, .bf16⟩
  | .local _ .vmem, ⟨13, _⟩ => ⟨S2048x128, .bf16⟩
  | .local _ .vmem, ⟨14, _⟩ => ⟨S2048x256, .f32⟩
  | .local _ .vmem, ⟨15, _⟩ => ⟨S2048x128, .f32⟩
  | _, _ => ⟨S2048x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x8x128 : Shape := ⟨3, ![2048, 8, 128]⟩
abbrev S2048x8x64 : Shape := ⟨3, ![2048, 8, 64]⟩
abbrev S2048x64 : Shape := ⟨2, ![2048, 64]⟩
abbrev S2048x1024 : Shape := ⟨2, ![2048, 1024]⟩
abbrev S2048x1x64 : Shape := ⟨3, ![2048, 1, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x64 : Shape := ⟨3, ![8, 2048, 64]⟩
abbrev S8x2048x128 : Shape := ⟨3, ![8, 2048, 128]⟩
abbrev S2048x8x256 : Shape := ⟨3, ![2048, 8, 256]⟩

abbrev nBuf : Space → Nat
  | .hbm => 136
  | .vmem => 0
  | .smem => 0
  | _ => 0

abbrev hbmTy0_0 (i : Nat) : BufTy := match i % 128 with
  | 0 => ⟨S2048x8x128, .bf16⟩
  | 1 => ⟨S2048x8x64, .bf16⟩
  | 2 => ⟨S2048x8x128, .bf16⟩
  | 3 => ⟨S2048x64, .bf16⟩
  | 4 => ⟨S2048x8x128, .bf16⟩
  | 5 => ⟨S2048x1024, .bf16⟩
  | 6 => ⟨S2048x8x128, .f32⟩
  | 7 => ⟨S2048x8x64, .f32⟩
  | 8 => ⟨S2048x8x128, .f32⟩
  | 9 => ⟨S2048x64, .f32⟩
  | 10 => ⟨S2048x8x128, .f32⟩
  | 11 => ⟨S2048x1024, .f32⟩
  | 12 => ⟨S2048x1x64, .f32⟩
  | 13 => ⟨S2048x8x64, .f32⟩
  | 14 => ⟨S8x2048x2048, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S2048, .i32⟩
  | 21 => ⟨S_, .i32⟩
  | 22 => ⟨S_, .i32⟩
  | 23 => ⟨S2048, .i32⟩
  | 24 => ⟨S2048, .i32⟩
  | 25 => ⟨S2048, .i32⟩
  | 26 => ⟨S_, .i32⟩
  | 27 => ⟨S2048, .i32⟩
  | 28 => ⟨S2048, .i1⟩
  | 29 => ⟨S2048, .i32⟩
  | 30 => ⟨S2048, .i32⟩
  | 31 => ⟨S_, .i32⟩
  | 32 => ⟨S2048, .i32⟩
  | 33 => ⟨S2048, .i1⟩
  | 34 => ⟨S2048, .i1⟩
  | 35 => ⟨S_, .i32⟩
  | 36 => ⟨S2048, .i32⟩
  | 37 => ⟨S2048, .i32⟩
  | 38 => ⟨S2048, .i32⟩
  | 39 => ⟨S1x2048, .i32⟩
  | 40 => ⟨S2048x1, .i32⟩
  | 41 => ⟨S2048x2048, .i32⟩
  | 42 => ⟨S2048x2048, .i32⟩
  | 43 => ⟨S2048x2048, .i1⟩
  | 44 => ⟨S1x2048x2048, .i1⟩
  | 45 => ⟨S_, .f32⟩
  | 46 => ⟨S_, .f32⟩
  | 47 => ⟨S8x2048x2048, .i1⟩
  | 48 => ⟨S8x2048x2048, .f32⟩
  | 49 => ⟨S8x2048x2048, .f32⟩
  | 50 => ⟨S_, .f32⟩
  | 51 => ⟨S8x2048x2048, .f32⟩
  | 52 => ⟨S_, .f32⟩
  | 53 => ⟨S8x2048, .f32⟩
  | 54 => ⟨S8x2048x1, .f32⟩
  | 55 => ⟨S8x2048x2048, .f32⟩
  | 56 => ⟨S8x2048x2048, .i1⟩
  | 57 => ⟨S8x2048x2048, .f32⟩
  | 58 => ⟨S_, .f32⟩
  | 59 => ⟨S8x2048, .f32⟩
  | 60 => ⟨S_, .f32⟩
  | 61 => ⟨S8x2048, .f32⟩
  | 62 => ⟨S8x2048, .f32⟩
  | 63 => ⟨S_, .f32⟩
  | 64 => ⟨S8x2048, .f32⟩
  | 65 => ⟨S8x2048, .i1⟩
  | 66 => ⟨S_, .f32⟩
  | 67 => ⟨S8x2048, .f32⟩
  | 68 => ⟨S8x2048, .i1⟩
  | 69 => ⟨S_, .f32⟩
  | 70 => ⟨S8x2048, .f32⟩
  | 71 => ⟨S_, .f32⟩
  | 72 => ⟨S8x2048, .f32⟩
  | 73 => ⟨S_, .f32⟩
  | 74 => ⟨S8x2048, .f32⟩
  | 75 => ⟨S8x2048, .f32⟩
  | 76 => ⟨S8x2048, .f32⟩
  | 77 => ⟨S8x2048x1, .f32⟩
  | 78 => ⟨S8x2048x2048, .f32⟩
  | 79 => ⟨S8x2048x2048, .f32⟩
  | 80 => ⟨S8x2048x2048, .f32⟩
  | 81 => ⟨S_, .f32⟩
  | 82 => ⟨S8x2048, .f32⟩
  | 83 => ⟨S8x2048x1, .f32⟩
  | 84 => ⟨S8x2048x2048, .f32⟩
  | 85 => ⟨S8x2048x2048, .f32⟩
  | 86 => ⟨S8x2048x1, .f32⟩
  | 87 => ⟨S_, .f32⟩
  | 88 => ⟨S8x2048x1, .f32⟩
  | 89 => ⟨S8x2048x1, .f32⟩
  | 90 => ⟨S8x128x2048, .f32⟩
  | 91 => ⟨S2048x8x128, .f32⟩
  | 92 => ⟨S2048x1024, .f32⟩
  | 93 => ⟨S2048x8x128, .f32⟩
  | 94 => ⟨S8x128x2048, .f32⟩
  | 95 => ⟨S8x2048x2048, .f32⟩
  | 96 => ⟨S8x128x2048, .f32⟩
  | 97 => ⟨S2048x8x128, .f32⟩
  | 98 => ⟨S8x2048x2048, .f32⟩
  | 99 => ⟨S8x2048x2048, .f32⟩
  | 100 => ⟨S8x2048x2048, .f32⟩
  | 101 => ⟨S_, .f32⟩
  | 102 => ⟨S8x2048, .f32⟩
  | 103 => ⟨S8x2048x1, .f32⟩
  | 104 => ⟨S8x2048x1, .f32⟩
  | 105 => ⟨S8x2048x2048, .f32⟩
  | 106 => ⟨S8x2048x2048, .f32⟩
  | 107 => ⟨S_, .f32⟩
  | 108 => ⟨S8x2048, .f32⟩
  | 109 => ⟨S8x2048x2048, .f32⟩
  | 110 => ⟨S8x2048x2048, .f32⟩
  | 111 => ⟨S8x2048x2048, .f32⟩
  | 112 => ⟨S_, .f32⟩
  | 113 => ⟨S8x2048x2048, .f32⟩
  | 114 => ⟨S8x2048x2048, .f32⟩
  | 115 => ⟨S_, .f32⟩
  | 116 => ⟨S8x2048x2048, .f32⟩
  | 117 => ⟨S8x2048x2048, .f32⟩
  | 118 => ⟨S8x2048x64, .f32⟩
  | 119 => ⟨S2048x8x64, .f32⟩
  | 120 => ⟨S8x2048x64, .f32⟩
  | 121 => ⟨S2048x8x64, .f32⟩
  | 122 => ⟨S8x2048x128, .f32⟩
  | 123 => ⟨S2048x8x128, .f32⟩
  | 124 => ⟨S8x2048x128, .f32⟩
  | 125 => ⟨S2048x8x128, .f32⟩
  | 126 => ⟨S_, .f32⟩
  | 127 => ⟨S2048x8x64, .f32⟩
  | _ => ⟨S2048x8x128, .bf16⟩

abbrev hbmTy0_1 (i : Nat) : BufTy := match i % 128 with
  | 0 => ⟨S2048x8x256, .f32⟩
  | 1 => ⟨S2048x2048, .f32⟩
  | 2 => ⟨S2048x8x256, .f32⟩
  | 3 => ⟨S2048x2048, .f32⟩
  | 4 => ⟨S2048x2048, .bf16⟩
  | 5 => ⟨S2048x2048, .bf16⟩
  | 6 => ⟨S2048x1024, .f32⟩
  | 7 => ⟨S2048x1024, .bf16⟩
  | _ => ⟨S2048x8x128, .bf16⟩

abbrev hbmTy (i : Nat) : BufTy := match i / 128 with
  | 0 => hbmTy0_0 i
  | 1 => hbmTy0_1 i
  | _ => ⟨S2048x8x128, .bf16⟩

abbrev bufTy : (tb : Table) → Fin (tcTables nBuf tb) → BufTy
  | .hbm, ⟨i, _⟩ => hbmTy i
  | _, _ => ⟨S2048x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_call1_v0 : Ref sig .tc := ⟨.hbm, 46, rfl⟩
abbrev main_v21_1 : Ref sig .tc := ⟨.hbm, 47, rfl⟩
abbrev main_call1_v2 : Ref sig .tc := ⟨.hbm, 48, rfl⟩
abbrev main_v21_0 : Ref sig .tc := ⟨.hbm, 49, rfl⟩
abbrev main_call1_cst : Ref sig .tc := ⟨.hbm, 50, rfl⟩
abbrev main_v21_2 : Ref sig .tc := ⟨.hbm, 51, rfl⟩
abbrev main_cst_1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_cst_4 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_12 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call2_cst : Ref sig .tc := ⟨.hbm, 112, rfl⟩
abbrev main_call2_v0 : Ref sig .tc := ⟨.hbm, 113, rfl⟩
abbrev main_v70 : Ref sig .tc := ⟨.hbm, 114, rfl⟩
abbrev main_cst_13 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩

abbrev nD : Nat := 1
abbrev τ : Topo := Topo.v7x

variable {F : FTy → Type} [FloatOps F]
-- ==== MlpUp.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S2048x4096, .bf16⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpDownLn.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S2048x1 : Shape := ⟨2, ![2048, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x4096, .f32⟩
  | .hbm, ⟨6, _⟩ => ⟨S2048x4096, .bf16⟩
  | .hbm, ⟨7, _⟩ => ⟨S4096x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MlpDownLnRefIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048x4096 : Shape := ⟨2, ![2048, 4096]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S2048x1024, .bf16⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MlpDownBwd.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S2048x4096, .bf16⟩
  | .hbm, ⟨6, _⟩ => ⟨S2048x1024, .bf16⟩
  | .hbm, ⟨7, _⟩ => ⟨S4096x1024, .bf16⟩
  | .hbm, ⟨8, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownBwdRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== MlpDw2.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S2048x4096, .bf16⟩
  | .hbm, ⟨5, _⟩ => ⟨S2048x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDw2RefIdeal.lean ====
abbrev S2048x1024 : Shape := ⟨2, ![2048, 1024]⟩
abbrev S1024x4096 : Shape := ⟨2, ![1024, 4096]⟩
abbrev S_ : Shape := ⟨0, ![]⟩
abbrev S4096x1024 : Shape := ⟨2, ![4096, 1024]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .f32⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MlpDw1.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDw1RefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpUpBwd.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 36
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S2048x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x4096, .bf16⟩
  | .hbm, ⟨30, _⟩ => ⟨S1024x4096, .bf16⟩
  | .hbm, ⟨31, _⟩ => ⟨S2048x1024, .f32⟩
  | .hbm, ⟨32, _⟩ => ⟨S2048x1024, .bf16⟩
  | .hbm, ⟨33, _⟩ => ⟨S1x1024, .f32⟩
  | .hbm, ⟨34, _⟩ => ⟨S1x1024, .f32⟩
  | .hbm, ⟨35, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MlpUpBwdRefIdeal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S2048x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x4096, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .bf16⟩
  | .hbm, ⟨90, _⟩ => ⟨S_, .f32⟩
  | .hbm, ⟨91, _⟩ => ⟨S1024, .f32⟩
  | .hbm, ⟨92, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== ScGateBwd.lean ====
abbrev S2048x3072 : Shape := ⟨2, ![2048, 3072]⟩
abbrev S3x1024 : Shape := ⟨2, ![3, 1024]⟩
abbrev S2048x1024 : Shape := ⟨2, ![2048, 1024]⟩
abbrev S3x2048x1024 : Shape := ⟨3, ![3, 2048, 1024]⟩
abbrev S2048x256 : Shape := ⟨2, ![2048, 256]⟩
abbrev S3x256 : Shape := ⟨2, ![3, 256]⟩
abbrev S3x2048x256 : Shape := ⟨3, ![3, 2048, 256]⟩
abbrev S1x256 : Shape := ⟨2, ![1, 256]⟩
abbrev S256 : Shape := ⟨1, ![256]⟩
abbrev S1x2048x256 : Shape := ⟨3, ![1, 2048, 256]⟩

abbrev nBuf : Space → Nat
  | .hbm => 5
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S3x2048x1024, .bf16⟩
  | .hbm, ⟨4, _⟩ => ⟨S3x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScGateBwdRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S1x2048x1024 : Shape := ⟨3, ![1, 2048, 1024]⟩
abbrev S3x2048x1024 : Shape := ⟨3, ![3, 2048, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S2050x1024, .f32⟩
  | .hbm, ⟨40, _⟩ => ⟨S_, .f32⟩
  | .hbm, ⟨41, _⟩ => ⟨S3x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S2050x1024, .f32⟩
  | .hbm, ⟨50, _⟩ => ⟨S2050x1024, .f32⟩
  | .hbm, ⟨51, _⟩ => ⟨S_, .f32⟩
  | .hbm, ⟨52, _⟩ => ⟨S3x1024, .f32⟩
  | .hbm, ⟨53, _⟩ => ⟨S3x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S2050x1024, .f32⟩
  | .hbm, ⟨62, _⟩ => ⟨S2050x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S2x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x3072, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S3x2048x1024, .f32⟩
  | .hbm, ⟨78, _⟩ => ⟨S3x2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== ScOutBwd.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutBwdRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ScDwOut.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDwOutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ScDwIn.lean ====
abbrev S2048x1024 : Shape := ⟨2, ![2048, 1024]⟩
abbrev S3x2048x1024 : Shape := ⟨3, ![3, 2048, 1024]⟩
abbrev S4x1024x768 : Shape := ⟨3, ![4, 1024, 768]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S2048x1024, .bf16⟩
  | .hbm, ⟨3, _⟩ => ⟨S4x1024x768, .bf16⟩
  | .local _ .vmem, ⟨0, _⟩ => ⟨S2048x1024, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x1024x256, .bf16⟩
  | .local _ .vmem, ⟨4, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScDwInRefIdeal.lean ====
abbrev S2048x1024 : Shape := ⟨2, ![2048, 1024]⟩
abbrev S3x2048x1024 : Shape := ⟨3, ![3, 2048, 1024]⟩
abbrev S1x2048x1024 : Shape := ⟨3, ![1, 2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S2048x3072, .bf16⟩
  | .hbm, ⟨9, _⟩ => ⟨S2048x3072, .f32⟩
  | .hbm, ⟨10, _⟩ => ⟨S_, .f32⟩
  | .hbm, ⟨11, _⟩ => ⟨S1024x3072, .f32⟩
  | .hbm, ⟨12, _⟩ => ⟨S2048x3072, .f32⟩
  | .hbm, ⟨13, _⟩ => ⟨S3072x1024, .f32⟩
  | .hbm, ⟨14, _⟩ => ⟨S1024x3072, .f32⟩
  | .hbm, ⟨15, _⟩ => ⟨S1024x4x768, .f32⟩
  | .hbm, ⟨16, _⟩ => ⟨S4x1024x768, .f32⟩
  | .hbm, ⟨17, _⟩ => ⟨S4x1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== ScInBwd.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S_ : Shape := ⟨0, ![]⟩
abbrev S2048 : Shape := ⟨1, ![2048]⟩
abbrev S2048x1 : Shape := ⟨2, ![2048, 1]⟩
abbrev S3x512x1024 : Shape := ⟨3, ![3, 512, 1024]⟩
abbrev S512x1024 : Shape := ⟨2, ![512, 1024]⟩
abbrev S512x1 : Shape := ⟨2, ![512, 1]⟩
abbrev S1x512x1024 : Shape := ⟨3, ![1, 512, 1024]⟩
abbrev S512x3072 : Shape := ⟨2, ![512, 3072]⟩
abbrev S512 : Shape := ⟨1, ![512]⟩
abbrev S1024 : Shape := ⟨1, ![1024]⟩

abbrev nBuf : Space → Nat
  | .hbm => 35
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S3x2048x1024, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024x3072, .bf16⟩
  | .hbm, ⟨30, _⟩ => ⟨S2048x1024, .f32⟩
  | .hbm, ⟨31, _⟩ => ⟨S2048x1024, .bf16⟩
  | .hbm, ⟨32, _⟩ => ⟨S1x1024, .f32⟩
  | .hbm, ⟨33, _⟩ => ⟨S1x1024, .f32⟩
  | .hbm, ⟨34, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== ScInBwdRefIdeal.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S1x2048x1024 : Shape := ⟨3, ![1, 2048, 1024]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S3x2048x1024, .bf16⟩
  | .hbm, ⟨5, _⟩ => ⟨S2048x1024, .f32⟩
  | .hbm, ⟨6, _⟩ => ⟨S1x2048x1024, .bf16⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S1x2048x1024, .bf16⟩
  | .hbm, ⟨11, _⟩ => ⟨S2048x1024, .bf16⟩
  | .hbm, ⟨12, _⟩ => ⟨S2048x3072, .bf16⟩
  | .hbm, ⟨13, _⟩ => ⟨S2048x3072, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x3072, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S2048x1024, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1024, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .bf16⟩
  | .hbm, ⟨98, _⟩ => ⟨S_, .f32⟩
  | .hbm, ⟨99, _⟩ => ⟨S1024, .f32⟩
  | .hbm, ⟨100, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== ScIn.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S1024x3072, .bf16⟩
  | .hbm, ⟨4, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInRefIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ScGate.lean ====
abbrev S2048x3072 : Shape := ⟨2, ![2048, 3072]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScGateRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== ScOutLn.lean ====
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ScOutLnRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1024, .bf16⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== ConfNormBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConfNormBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== ScFirstBwd.lean ====
abbrev S1024x3072 : Shape := ⟨2, ![1024, 3072]⟩
abbrev S3x2048x1024 : Shape := ⟨3, ![3, 2048, 1024]⟩
abbrev S2048x1024 : Shape := ⟨2, ![2048, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩

abbrev nBuf : Space → Nat
  | .hbm => 5
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S3x2048x1024, .bf16⟩
  | .hbm, ⟨2, _⟩ => ⟨S2048x1024, .f32⟩
  | .hbm, ⟨3, _⟩ => ⟨S1024x3072, .bf16⟩
  | .hbm, ⟨4, _⟩ => ⟨S2048x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ScFirstBwdRefIdeal.lean ====
abbrev S1024x3072 : Shape := ⟨2, ![1024, 3072]⟩
abbrev S3x2048x1024 : Shape := ⟨3, ![3, 2048, 1024]⟩
abbrev S2048x1024 : Shape := ⟨2, ![2048, 1024]⟩
abbrev S1x2048x1024 : Shape := ⟨3, ![1, 2048, 1024]⟩
abbrev S2048x3072 : Shape := ⟨2, ![2048, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S3x2048x1024, .bf16⟩
  | .hbm, ⟨2, _⟩ => ⟨S2048x1024, .f32⟩
  | .hbm, ⟨3, _⟩ => ⟨S1x2048x1024, .bf16⟩
  | .hbm, ⟨4, _⟩ => ⟨S2048x1024, .bf16⟩
  | .hbm, ⟨5, _⟩ => ⟨S1x2048x1024, .bf16⟩
  | .hbm, ⟨6, _⟩ => ⟨S2048x1024, .bf16⟩
  | .hbm, ⟨7, _⟩ => ⟨S1x2048x1024, .bf16⟩
  | .hbm, ⟨8, _⟩ => ⟨S2048x1024, .bf16⟩
  | .hbm, ⟨9, _⟩ => ⟨S2048x3072, .bf16⟩
  | .hbm, ⟨10, _⟩ => ⟨S2048x3072, .f32⟩
  | .hbm, ⟨11, _⟩ => ⟨S_, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x3072, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== CfIn.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x2048, .f32⟩
  | .hbm, ⟨3, _⟩ => ⟨S2048x1024, .bf16⟩
  | .hbm, ⟨4, _⟩ => ⟨S1024x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CfInRefIdeal.lean ====
abbrev S2048x1024 : Shape := ⟨2, ![2048, 1024]⟩
abbrev S1024x2048 : Shape := ⟨2, ![1024, 2048]⟩
abbrev S1x2048 : Shape := ⟨2, ![1, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CfDwIn.lean ====
abbrev S2048x1024 : Shape := ⟨2, ![2048, 1024]⟩
abbrev S2x2048x1024 : Shape := ⟨3, ![2, 2048, 1024]⟩
abbrev S4x1024x512 : Shape := ⟨3, ![4, 1024, 512]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x2048x1024, .bf16⟩
  | .hbm, ⟨2, _⟩ => ⟨S2048x1024, .bf16⟩
  | .hbm, ⟨3, _⟩ => ⟨S4x1024x512, .bf16⟩
  | .local _ .vmem, ⟨0, _⟩ => ⟨S2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CfDwInRefIdeal.lean ====
abbrev S2048x1024 : Shape := ⟨2, ![2048, 1024]⟩
abbrev S2x2048x1024 : Shape := ⟨3, ![2, 2048, 1024]⟩
abbrev S1x2048x1024 : Shape := ⟨3, ![1, 2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x2048x1024, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S2048x2048, .bf16⟩
  | .hbm, ⟨7, _⟩ => ⟨S2048x2048, .f32⟩
  | .hbm, ⟨8, _⟩ => ⟨S_, .f32⟩
  | .hbm, ⟨9, _⟩ => ⟨S1024x2048, .f32⟩
  | .hbm, ⟨10, _⟩ => ⟨S2048x2048, .f32⟩
  | .hbm, ⟨11, _⟩ => ⟨S2048x1024, .f32⟩
  | .hbm, ⟨12, _⟩ => ⟨S1024x2048, .f32⟩
  | .hbm, ⟨13, _⟩ => ⟨S1024x4x512, .f32⟩
  | .hbm, ⟨14, _⟩ => ⟨S4x1024x512, .f32⟩
  | .hbm, ⟨15, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== CfInBwd.lean ====
abbrev S2048x1024 : Shape := ⟨2, ![2048, 1024]⟩
abbrev S1x1024 : Shape := ⟨2, ![1, 1024]⟩
abbrev S1024x2048 : Shape := ⟨2, ![1024, 2048]⟩
abbrev S2x2048x1024 : Shape := ⟨3, ![2, 2048, 1024]⟩
abbrev S_ : Shape := ⟨0, ![]⟩
abbrev S2048 : Shape := ⟨1, ![2048]⟩
abbrev S2048x1 : Shape := ⟨2, ![2048, 1]⟩
abbrev S2x512x1024 : Shape := ⟨3, ![2, 512, 1024]⟩
abbrev S512x1024 : Shape := ⟨2, ![512, 1024]⟩
abbrev S512x1 : Shape := ⟨2, ![512, 1]⟩
abbrev S1x512x1024 : Shape := ⟨3, ![1, 512, 1024]⟩
abbrev S512x2048 : Shape := ⟨2, ![512, 2048]⟩
abbrev S512 : Shape := ⟨1, ![512]⟩
abbrev S1024 : Shape := ⟨1, ![1024]⟩

abbrev nBuf : Space → Nat
  | .hbm => 35
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S2x2048x1024, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024x2048, .bf16⟩
  | .hbm, ⟨30, _⟩ => ⟨S2048x1024, .f32⟩
  | .hbm, ⟨31, _⟩ => ⟨S2048x1024, .bf16⟩
  | .hbm, ⟨32, _⟩ => ⟨S1x1024, .f32⟩
  | .hbm, ⟨33, _⟩ => ⟨S1x1024, .f32⟩
  | .hbm, ⟨34, _⟩ => ⟨S1x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== CfInBwdRefIdeal.lean ====
abbrev S2048x1024 : Shape := ⟨2, ![2048, 1024]⟩
abbrev S1x1024 : Shape := ⟨2, ![1, 1024]⟩
abbrev S1024x2048 : Shape := ⟨2, ![1024, 2048]⟩
abbrev S2x2048x1024 : Shape := ⟨3, ![2, 2048, 1024]⟩
abbrev S1x2048x1024 : Shape := ⟨3, ![1, 2048, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S2x2048x1024, .bf16⟩
  | .hbm, ⟨5, _⟩ => ⟨S2048x1024, .f32⟩
  | .hbm, ⟨6, _⟩ => ⟨S1x2048x1024, .bf16⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S2048x2048, .bf16⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x2048, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | .hbm, ⟨95, _⟩ => ⟨S2048x1024, .bf16⟩
  | .hbm, ⟨96, _⟩ => ⟨S_, .f32⟩
  | .hbm, ⟨97, _⟩ => ⟨S1024, .f32⟩
  | .hbm, ⟨98, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== CfOutLn.lean ====
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== CfOutLnRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x1, .f32⟩
  | .hbm, ⟨59, _⟩ => ⟨S2048x1024, .bf16⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== MlaOutBwd.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOutBwdRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnFwd.lean ====
abbrev S2048x8x128 : Shape := ⟨3, ![2048, 8, 128]⟩
abbrev S2048x8x64 : Shape := ⟨3, ![2048, 8, 64]⟩
abbrev S2048x64 : Shape := ⟨2, ![2048, 64]⟩
abbrev S_ : Shape := ⟨0, ![]⟩
abbrev S2048x8x256 : Shape := ⟨3, ![2048, 8, 256]⟩
abbrev S2048x2048 : Shape := ⟨2, ![2048, 2048]⟩
abbrev S2048x1x64 : Shape := ⟨3, ![2048, 1, 64]⟩
abbrev S2048x1024 : Shape := ⟨2, ![2048, 1024]⟩
abbrev S2048x256 : Shape := ⟨2, ![2048, 256]⟩
abbrev S2048x128 : Shape := ⟨2, ![2048, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 15
  | .vmem => 8
  | .smem => 0
  | _ => 0

abbrev bufTy : (tb : Table) → Fin (tcTables nBuf tb) → BufTy
  | .hbm, ⟨0, _⟩ => ⟨S2048x8x128, .bf16⟩
  | .hbm, ⟨1, _⟩ => ⟨S2048x8x64, .bf16⟩
  | .hbm, ⟨2, _⟩ => ⟨S2048x8x128, .bf16⟩
  | .hbm, ⟨3, _⟩ => ⟨S2048x64, .bf16⟩
  | .hbm, ⟨4, _⟩ => ⟨S2048x8x128, .bf16⟩
  | .hbm, ⟨5, _⟩ => ⟨S_, .bf16⟩
  | .hbm, ⟨6, _⟩ => ⟨S2048x8x64, .bf16⟩
  | .hbm, ⟨7, _⟩ => ⟨S2048x8x256, .bf16⟩
  | .hbm, ⟨8, _⟩ => ⟨S2048x2048, .bf16⟩
  | .hbm, ⟨9, _⟩ => ⟨S2048x1x64, .bf16⟩
  | .hbm, ⟨10, _⟩ => ⟨S2048x8x64, .bf16⟩
  | .hbm, ⟨11, _⟩ => ⟨S2048x8x256, .bf16⟩
  | .hbm, ⟨12, _⟩ => ⟨S2048x2048, .bf16⟩
  | .hbm, ⟨13, _⟩ => ⟨S2048x1024, .bf16⟩
  | .hbm, ⟨14, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S2048x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x8x128 : Shape := ⟨3, ![2048, 8, 128]⟩
abbrev S2048x8x64 : Shape := ⟨3, ![2048, 8, 64]⟩
abbrev S2048x64 : Shape := ⟨2, ![2048, 64]⟩
abbrev S2048x1x64 : Shape := ⟨3, ![2048, 1, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x1024 : Shape := ⟨2, ![2048, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x8x128, .bf16⟩
  | .hbm, ⟨1, _⟩ => ⟨S2048x8x64, .bf16⟩
  | .hbm, ⟨2, _⟩ => ⟨S2048x8x128, .bf16⟩
  | .hbm, ⟨3, _⟩ => ⟨S2048x64, .bf16⟩
  | .hbm, ⟨4, _⟩ => ⟨S2048x8x128, .bf16⟩
  | .hbm, ⟨5, _⟩ => ⟨S2048x8x128, .f32⟩
  | .hbm, ⟨6, _⟩ => ⟨S2048x8x64, .f32⟩
  | .hbm, ⟨7, _⟩ => ⟨S2048x8x128, .f32⟩
  | .hbm, ⟨8, _⟩ => ⟨S2048x64, .f32⟩
  | .hbm, ⟨9, _⟩ => ⟨S2048x8x128, .f32⟩
  | .hbm, ⟨10, _⟩ => ⟨S2048x1x64, .f32⟩
  | .hbm, ⟨11, _⟩ => ⟨S2048x8x64, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S1x2048, .i32⟩
  | .hbm, ⟨38, _⟩ => ⟨S2048x1, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S1x2048x2048, .i1⟩
  | .hbm, ⟨43, _⟩ => ⟨S_, .f32⟩
  | .hbm, ⟨44, _⟩ => ⟨S_, .f32⟩
  | .hbm, ⟨45, _⟩ => ⟨S8x2048x2048, .i1⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x128x2048, .f32⟩
  | .hbm, ⟨63, _⟩ => ⟨S2048x8x128, .f32⟩
  | .hbm, ⟨64, _⟩ => ⟨S2048x1024, .f32⟩
  | .hbm, ⟨65, _⟩ => ⟨S2048x1024, .bf16⟩
  | _, _ => ⟨S2048x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩

abbrev nD : Nat := 1
abbrev τ : Topo := Topo.v7x

variable {F : FTy → Type} [FloatOps F]
-- ==== MlaDown.lean ====
abbrev S2048x1024 : Shape := ⟨2, ![2048, 1024]⟩
abbrev S1024x384 : Shape := ⟨2, ![1024, 384]⟩
abbrev S1024x320 : Shape := ⟨2, ![1024, 320]⟩
abbrev S_ : Shape := ⟨0, ![]⟩
abbrev S1024x64 : Shape := ⟨2, ![1024, 64]⟩
abbrev S1024x768 : Shape := ⟨2, ![1024, 768]⟩
abbrev S2048x768 : Shape := ⟨2, ![2048, 768]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x384, .f32⟩
  | .hbm, ⟨2, _⟩ => ⟨S1024x320, .f32⟩
  | .hbm, ⟨3, _⟩ => ⟨S_, .f32⟩
  | .hbm, ⟨4, _⟩ => ⟨S1024x64, .f32⟩
  | .hbm, ⟨5, _⟩ => ⟨S1024x768, .f32⟩
  | .hbm, ⟨6, _⟩ => ⟨S1024x768, .bf16⟩
  | .hbm, ⟨7, _⟩ => ⟨S2048x1024, .bf16⟩
  | .hbm, ⟨8, _⟩ => ⟨S2048x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDownRefIdeal.lean ====
abbrev S2048x1024 : Shape := ⟨2, ![2048, 1024]⟩
abbrev S1024x384 : Shape := ⟨2, ![1024, 384]⟩
abbrev S1024x320 : Shape := ⟨2, ![1024, 320]⟩
abbrev S2048x384 : Shape := ⟨2, ![2048, 384]⟩
abbrev S2048x320 : Shape := ⟨2, ![2048, 320]⟩
abbrev S_ : Shape := ⟨0, ![]⟩
abbrev S2048x64 : Shape := ⟨2, ![2048, 64]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x384, .f32⟩
  | .hbm, ⟨2, _⟩ => ⟨S1024x320, .f32⟩
  | .hbm, ⟨3, _⟩ => ⟨S2048x384, .f32⟩
  | .hbm, ⟨4, _⟩ => ⟨S2048x320, .f32⟩
  | .hbm, ⟨5, _⟩ => ⟨S_, .f32⟩
  | .hbm, ⟨6, _⟩ => ⟨S2048x64, .f32⟩
  | .hbm, ⟨7, _⟩ => ⟨S2048x768, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlaDwDown.lean ====
abbrev S2048x1024 : Shape := ⟨2, ![2048, 1024]⟩
abbrev S2048x384 : Shape := ⟨2, ![2048, 384]⟩
abbrev S2048x320 : Shape := ⟨2, ![2048, 320]⟩
abbrev S_ : Shape := ⟨0, ![]⟩
abbrev S2048x64 : Shape := ⟨2, ![2048, 64]⟩
abbrev S2048x768 : Shape := ⟨2, ![2048, 768]⟩
abbrev S1024x768 : Shape := ⟨2, ![1024, 768]⟩
abbrev S2048x512 : Shape := ⟨2, ![2048, 512]⟩
abbrev S512x768 : Shape := ⟨2, ![512, 768]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x384, .bf16⟩
  | .hbm, ⟨2, _⟩ => ⟨S2048x320, .bf16⟩
  | .hbm, ⟨3, _⟩ => ⟨S2048x1024, .bf16⟩
  | .hbm, ⟨4, _⟩ => ⟨S_, .bf16⟩
  | .hbm, ⟨5, _⟩ => ⟨S2048x64, .bf16⟩
  | .hbm, ⟨6, _⟩ => ⟨S2048x768, .bf16⟩
  | .hbm, ⟨7, _⟩ => ⟨S1024x768, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S512x768, .bf16⟩
  | .local _ .vmem, ⟨4, _⟩ => ⟨S512x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwDownRefIdeal.lean ====
abbrev S2048x1024 : Shape := ⟨2, ![2048, 1024]⟩
abbrev S2048x384 : Shape := ⟨2, ![2048, 384]⟩
abbrev S2048x320 : Shape := ⟨2, ![2048, 320]⟩
abbrev S_ : Shape := ⟨0, ![]⟩
abbrev S1024x384 : Shape := ⟨2, ![1024, 384]⟩
abbrev S1024x320 : Shape := ⟨2, ![1024, 320]⟩
abbrev S320x1024 : Shape := ⟨2, ![320, 1024]⟩
abbrev S384x1024 : Shape := ⟨2, ![384, 1024]⟩
abbrev S1024x64 : Shape := ⟨2, ![1024, 64]⟩
abbrev S1024x768 : Shape := ⟨2, ![1024, 768]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x384, .bf16⟩
  | .hbm, ⟨2, _⟩ => ⟨S2048x320, .bf16⟩
  | .hbm, ⟨3, _⟩ => ⟨S_, .f32⟩
  | .hbm, ⟨4, _⟩ => ⟨S1024x384, .f32⟩
  | .hbm, ⟨5, _⟩ => ⟨S_, .f32⟩
  | .hbm, ⟨6, _⟩ => ⟨S1024x320, .f32⟩
  | .hbm, ⟨7, _⟩ => ⟨S2048x384, .f32⟩
  | .hbm, ⟨8, _⟩ => ⟨S2048x320, .f32⟩
  | .hbm, ⟨9, _⟩ => ⟨S2048x384, .f32⟩
  | .hbm, ⟨10, _⟩ => ⟨S2048x320, .f32⟩
  | .hbm, ⟨11, _⟩ => ⟨S320x1024, .f32⟩
  | .hbm, ⟨12, _⟩ => ⟨S1024x320, .f32⟩
  | .hbm, ⟨13, _⟩ => ⟨S384x1024, .f32⟩
  | .hbm, ⟨14, _⟩ => ⟨S1024x384, .f32⟩
  | .hbm, ⟨15, _⟩ => ⟨S_, .f32⟩
  | .hbm, ⟨16, _⟩ => ⟨S1024x64, .f32⟩
  | .hbm, ⟨17, _⟩ => ⟨S1024x768, .f32⟩
  | .hbm, ⟨18, _⟩ => ⟨S1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== MlaDownBwd.lean ====
abbrev S2048x1024 : Shape := ⟨2, ![2048, 1024]⟩
abbrev S1x1024 : Shape := ⟨2, ![1, 1024]⟩
abbrev S1024x384 : Shape := ⟨2, ![1024, 384]⟩
abbrev S1024x320 : Shape := ⟨2, ![1024, 320]⟩
abbrev S2048x384 : Shape := ⟨2, ![2048, 384]⟩
abbrev S2048x320 : Shape := ⟨2, ![2048, 320]⟩
abbrev S_ : Shape := ⟨0, ![]⟩
abbrev S2048 : Shape := ⟨1, ![2048]⟩
abbrev S2048x1 : Shape := ⟨2, ![2048, 1]⟩
abbrev S1024x64 : Shape := ⟨2, ![1024, 64]⟩
abbrev S1024x768 : Shape := ⟨2, ![1024, 768]⟩
abbrev S2048x64 : Shape := ⟨2, ![2048, 64]⟩
abbrev S2048x768 : Shape := ⟨2, ![2048, 768]⟩
abbrev S512x768 : Shape := ⟨2, ![512, 768]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 43
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x384, .f32⟩
  | .hbm, ⟨4, _⟩ => ⟨S1024x320, .f32⟩
  | .hbm, ⟨5, _⟩ => ⟨S2048x384, .bf16⟩
  | .hbm, ⟨6, _⟩ => ⟨S2048x320, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024x64, .f32⟩
  | .hbm, ⟨33, _⟩ => ⟨S1024x768, .f32⟩
  | .hbm, ⟨34, _⟩ => ⟨S1024x768, .bf16⟩
  | .hbm, ⟨35, _⟩ => ⟨S_, .bf16⟩
  | .hbm, ⟨36, _⟩ => ⟨S2048x64, .bf16⟩
  | .hbm, ⟨37, _⟩ => ⟨S2048x768, .bf16⟩
  | .hbm, ⟨38, _⟩ => ⟨S2048x1024, .f32⟩
  | .hbm, ⟨39, _⟩ => ⟨S2048x1024, .bf16⟩
  | .hbm, ⟨40, _⟩ => ⟨S1x1024, .f32⟩
  | .hbm, ⟨41, _⟩ => ⟨S1x1024, .f32⟩
  | .hbm, ⟨42, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MlaDownBwdRefIdeal.lean ====
abbrev S2048x1024 : Shape := ⟨2, ![2048, 1024]⟩
abbrev S1x1024 : Shape := ⟨2, ![1, 1024]⟩
abbrev S1024x384 : Shape := ⟨2, ![1024, 384]⟩
abbrev S1024x320 : Shape := ⟨2, ![1024, 320]⟩
abbrev S2048x384 : Shape := ⟨2, ![2048, 384]⟩
abbrev S2048x320 : Shape := ⟨2, ![2048, 320]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x384, .f32⟩
  | .hbm, ⟨4, _⟩ => ⟨S1024x320, .f32⟩
  | .hbm, ⟨5, _⟩ => ⟨S2048x384, .bf16⟩
  | .hbm, ⟨6, _⟩ => ⟨S2048x320, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x384, .f32⟩
  | .hbm, ⟨46, _⟩ => ⟨S2048x320, .f32⟩
  | .hbm, ⟨47, _⟩ => ⟨S2048x384, .f32⟩
  | .hbm, ⟨48, _⟩ => ⟨S2048x320, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x1024, .f32⟩
  | .hbm, ⟨95, _⟩ => ⟨S2048x1024, .f32⟩
  | .hbm, ⟨96, _⟩ => ⟨S2048x1024, .bf16⟩
  | .hbm, ⟨97, _⟩ => ⟨S_, .f32⟩
  | .hbm, ⟨98, _⟩ => ⟨S1024, .f32⟩
  | .hbm, ⟨99, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== MlaValues.lean ====
abbrev S2048x256 : Shape := ⟨2, ![2048, 256]⟩
abbrev S256x8x128 : Shape := ⟨3, ![256, 8, 128]⟩
abbrev S256x1024 : Shape := ⟨2, ![256, 1024]⟩
abbrev S2048x1024 : Shape := ⟨2, ![2048, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x8x128, .f32⟩
  | .hbm, ⟨2, _⟩ => ⟨S256x8x128, .bf16⟩
  | .hbm, ⟨3, _⟩ => ⟨S256x1024, .bf16⟩
  | .hbm, ⟨4, _⟩ => ⟨S2048x256, .bf16⟩
  | .hbm, ⟨5, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .bf16⟩
  | .local _ .vmem, ⟨5, _⟩ => ⟨S1024x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaValuesRefIdeal.lean ====
abbrev S2048x256 : Shape := ⟨2, ![2048, 256]⟩
abbrev S256x8x128 : Shape := ⟨3, ![256, 8, 128]⟩
abbrev S2048x8x128 : Shape := ⟨3, ![2048, 8, 128]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x8x128, .f32⟩
  | .hbm, ⟨2, _⟩ => ⟨S2048x8x128, .f32⟩
  | .hbm, ⟨3, _⟩ => ⟨S2048x1024, .f32⟩
  | .hbm, ⟨4, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaDwUk.lean ====
abbrev S2048x256 : Shape := ⟨2, ![2048, 256]⟩
abbrev S2048x8x128 : Shape := ⟨3, ![2048, 8, 128]⟩
abbrev S2048x1024 : Shape := ⟨2, ![2048, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S2048x8x128, .bf16⟩
  | .hbm, ⟨2, _⟩ => ⟨S2048x256, .bf16⟩
  | .hbm, ⟨3, _⟩ => ⟨S2048x1024, .bf16⟩
  | .hbm, ⟨4, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaDwUkRefIdeal.lean ====
abbrev S2048x256 : Shape := ⟨2, ![2048, 256]⟩
abbrev S2048x8x128 : Shape := ⟨3, ![2048, 8, 128]⟩
abbrev S_ : Shape := ⟨0, ![]⟩
abbrev S256x8x128 : Shape := ⟨3, ![256, 8, 128]⟩
abbrev S8x128x256 : Shape := ⟨3, ![8, 128, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x8x128, .bf16⟩
  | .hbm, ⟨2, _⟩ => ⟨S_, .f32⟩
  | .hbm, ⟨3, _⟩ => ⟨S256x8x128, .f32⟩
  | .hbm, ⟨4, _⟩ => ⟨S2048x8x128, .f32⟩
  | .hbm, ⟨5, _⟩ => ⟨S2048x8x128, .f32⟩
  | .hbm, ⟨6, _⟩ => ⟨S8x128x256, .f32⟩
  | .hbm, ⟨7, _⟩ => ⟨S256x8x128, .f32⟩
  | .hbm, ⟨8, _⟩ => ⟨S256x1024, .f32⟩
  | .hbm, ⟨9, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaUkBwd.lean ====
abbrev S256x8x128 : Shape := ⟨3, ![256, 8, 128]⟩
abbrev S2048x8x128 : Shape := ⟨3, ![2048, 8, 128]⟩
abbrev S2048x1024 : Shape := ⟨2, ![2048, 1024]⟩
abbrev S256x1024 : Shape := ⟨2, ![256, 1024]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S256x8x128, .f32⟩
  | .hbm, ⟨1, _⟩ => ⟨S2048x8x128, .bf16⟩
  | .hbm, ⟨2, _⟩ => ⟨S2048x1024, .bf16⟩
  | .hbm, ⟨3, _⟩ => ⟨S256x8x128, .bf16⟩
  | .hbm, ⟨4, _⟩ => ⟨S256x1024, .bf16⟩
  | .hbm, ⟨5, _⟩ => ⟨S2048x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkBwdRefIdeal.lean ====
abbrev S256x8x128 : Shape := ⟨3, ![256, 8, 128]⟩
abbrev S2048x8x128 : Shape := ⟨3, ![2048, 8, 128]⟩
abbrev S_ : Shape := ⟨0, ![]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x8x128, .f32⟩
  | .hbm, ⟨1, _⟩ => ⟨S2048x8x128, .bf16⟩
  | .hbm, ⟨2, _⟩ => ⟨S_, .f32⟩
  | .hbm, ⟨3, _⟩ => ⟨S2048x256, .f32⟩
  | .hbm, ⟨4, _⟩ => ⟨S2048x8x128, .f32⟩
  | .hbm, ⟨5, _⟩ => ⟨S2048x8x128, .f32⟩
  | .hbm, ⟨6, _⟩ => ⟨S2048x256, .f32⟩
  | _, _ => ⟨S256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaUvBwd.lean ====
abbrev S256x8x128 : Shape := ⟨3, ![256, 8, 128]⟩
abbrev S2048x8x128 : Shape := ⟨3, ![2048, 8, 128]⟩
abbrev S2048x256 : Shape := ⟨2, ![2048, 256]⟩
abbrev S2048x1024 : Shape := ⟨2, ![2048, 1024]⟩
abbrev S256x1024 : Shape := ⟨2, ![256, 1024]⟩
abbrev S1024x1024 : Shape := ⟨2, ![1024, 1024]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x8x128, .f32⟩
  | .hbm, ⟨1, _⟩ => ⟨S2048x8x128, .bf16⟩
  | .hbm, ⟨2, _⟩ => ⟨S2048x256, .f32⟩
  | .hbm, ⟨3, _⟩ => ⟨S2048x1024, .bf16⟩
  | .hbm, ⟨4, _⟩ => ⟨S256x8x128, .bf16⟩
  | .hbm, ⟨5, _⟩ => ⟨S256x1024, .bf16⟩
  | .hbm, ⟨6, _⟩ => ⟨S2048x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaUvBwdRefIdeal.lean ====
abbrev S256x8x128 : Shape := ⟨3, ![256, 8, 128]⟩
abbrev S2048x8x128 : Shape := ⟨3, ![2048, 8, 128]⟩
abbrev S2048x256 : Shape := ⟨2, ![2048, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x8x128, .f32⟩
  | .hbm, ⟨1, _⟩ => ⟨S2048x8x128, .bf16⟩
  | .hbm, ⟨2, _⟩ => ⟨S2048x256, .f32⟩
  | .hbm, ⟨3, _⟩ => ⟨S_, .f32⟩
  | .hbm, ⟨4, _⟩ => ⟨S2048x256, .f32⟩
  | .hbm, ⟨5, _⟩ => ⟨S2048x8x128, .f32⟩
  | .hbm, ⟨6, _⟩ => ⟨S2048x8x128, .f32⟩
  | .hbm, ⟨7, _⟩ => ⟨S2048x256, .f32⟩
  | .hbm, ⟨8, _⟩ => ⟨S2048x256, .f32⟩
  | _, _ => ⟨S256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlaDwUq.lean ====
abbrev S2048x384 : Shape := ⟨2, ![2048, 384]⟩
abbrev S2048x8x192 : Shape := ⟨3, ![2048, 8, 192]⟩
abbrev S_ : Shape := ⟨0, ![]⟩
abbrev S2048x8x64 : Shape := ⟨3, ![2048, 8, 64]⟩
abbrev S2048x8x256 : Shape := ⟨3, ![2048, 8, 256]⟩
abbrev S2048x2048 : Shape := ⟨2, ![2048, 2048]⟩
abbrev S4x384x512 : Shape := ⟨3, ![4, 384, 512]⟩
abbrev S2048x512 : Shape := ⟨2, ![2048, 512]⟩
abbrev S1x384x512 : Shape := ⟨3, ![1, 384, 512]⟩
abbrev S384x512 : Shape := ⟨2, ![384, 512]⟩

abbrev nBuf : Space → Nat
  | .hbm => 8
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S2048x8x192, .bf16⟩
  | .hbm, ⟨2, _⟩ => ⟨S2048x384, .bf16⟩
  | .hbm, ⟨3, _⟩ => ⟨S_, .bf16⟩
  | .hbm, ⟨4, _⟩ => ⟨S2048x8x64, .bf16⟩
  | .hbm, ⟨5, _⟩ => ⟨S2048x8x256, .bf16⟩
  | .hbm, ⟨6, _⟩ => ⟨S2048x2048, .bf16⟩
  | .hbm, ⟨7, _⟩ => ⟨S4x384x512, .bf16⟩
  | .local _ .vmem, ⟨0, _⟩ => ⟨S2048x384, .bf16⟩
  | .local _ .vmem, ⟨1, _⟩ => ⟨S2048x512, .bf16⟩
  | .local _ .vmem, ⟨2, _⟩ => ⟨S2048x512, .bf16⟩
  | .local _ .vmem, ⟨3, _⟩ => ⟨S1x384x512, .bf16⟩
  | .local _ .vmem, ⟨4, _⟩ => ⟨S1x384x512, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDwUqRefIdeal.lean ====
abbrev S2048x384 : Shape := ⟨2, ![2048, 384]⟩
abbrev S2048x8x192 : Shape := ⟨3, ![2048, 8, 192]⟩
abbrev S_ : Shape := ⟨0, ![]⟩
abbrev S384x1536 : Shape := ⟨2, ![384, 1536]⟩
abbrev S2048x1536 : Shape := ⟨2, ![2048, 1536]⟩
abbrev S1536x384 : Shape := ⟨2, ![1536, 384]⟩
abbrev S384x8x192 : Shape := ⟨3, ![384, 8, 192]⟩
abbrev S384x8x64 : Shape := ⟨3, ![384, 8, 64]⟩
abbrev S384x8x256 : Shape := ⟨3, ![384, 8, 256]⟩
abbrev S384x4x512 : Shape := ⟨3, ![384, 4, 512]⟩
abbrev S4x384x512 : Shape := ⟨3, ![4, 384, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x8x192, .bf16⟩
  | .hbm, ⟨2, _⟩ => ⟨S_, .f32⟩
  | .hbm, ⟨3, _⟩ => ⟨S384x1536, .f32⟩
  | .hbm, ⟨4, _⟩ => ⟨S2048x1536, .f32⟩
  | .hbm, ⟨5, _⟩ => ⟨S2048x8x192, .f32⟩
  | .hbm, ⟨6, _⟩ => ⟨S2048x8x192, .f32⟩
  | .hbm, ⟨7, _⟩ => ⟨S2048x1536, .f32⟩
  | .hbm, ⟨8, _⟩ => ⟨S1536x384, .f32⟩
  | .hbm, ⟨9, _⟩ => ⟨S384x1536, .f32⟩
  | .hbm, ⟨10, _⟩ => ⟨S384x8x192, .f32⟩
  | .hbm, ⟨11, _⟩ => ⟨S_, .f32⟩
  | .hbm, ⟨12, _⟩ => ⟨S384x8x64, .f32⟩
  | .hbm, ⟨13, _⟩ => ⟨S384x8x256, .f32⟩
  | .hbm, ⟨14, _⟩ => ⟨S384x4x512, .f32⟩
  | .hbm, ⟨15, _⟩ => ⟨S4x384x512, .f32⟩
  | .hbm, ⟨16, _⟩ => ⟨S4x384x512, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== MlaUqBwd.lean ====
abbrev S384x1536 : Shape := ⟨2, ![384, 1536]⟩
abbrev S2048x8x192 : Shape := ⟨3, ![2048, 8, 192]⟩
abbrev S384x8x192 : Shape := ⟨3, ![384, 8, 192]⟩
abbrev S_ : Shape := ⟨0, ![]⟩
abbrev S384x8x64 : Shape := ⟨3, ![384, 8, 64]⟩
abbrev S384x8x256 : Shape := ⟨3, ![384, 8, 256]⟩
abbrev S384x2048 : Shape := ⟨2, ![384, 2048]⟩
abbrev S2048x8x64 : Shape := ⟨3, ![2048, 8, 64]⟩
abbrev S2048x8x256 : Shape := ⟨3, ![2048, 8, 256]⟩
abbrev S2048x2048 : Shape := ⟨2, ![2048, 2048]⟩
abbrev S2048x384 : Shape := ⟨2, ![2048, 384]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 13
  | .vmem => 7
  | .smem => 0
  | _ => 0

abbrev bufTy : (tb : Table) → Fin (tcTables nBuf tb) → BufTy
  | .hbm, ⟨0, _⟩ => ⟨S384x1536, .f32⟩
  | .hbm, ⟨1, _⟩ => ⟨S2048x8x192, .bf16⟩
  | .hbm, ⟨2, _⟩ => ⟨S384x8x192, .f32⟩
  | .hbm, ⟨3, _⟩ => ⟨S_, .f32⟩
  | .hbm, ⟨4, _⟩ => ⟨S384x8x64, .f32⟩
  | .hbm, ⟨5, _⟩ => ⟨S384x8x256, .f32⟩
  | .hbm, ⟨6, _⟩ => ⟨S384x2048, .f32⟩
  | .hbm, ⟨7, _⟩ => ⟨S384x2048, .bf16⟩
  | .hbm, ⟨8, _⟩ => ⟨S_, .bf16⟩
  | .hbm, ⟨9, _⟩ => ⟨S2048x8x64, .bf16⟩
  | .hbm, ⟨10, _⟩ => ⟨S2048x8x256, .bf16⟩
  | .hbm, ⟨11, _⟩ => ⟨S2048x2048, .bf16⟩
  | .hbm, ⟨12, _⟩ => ⟨S2048x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqBwdRefIdeal.lean ====
abbrev S384x1536 : Shape := ⟨2, ![384, 1536]⟩
abbrev S2048x8x192 : Shape := ⟨3, ![2048, 8, 192]⟩
abbrev S_ : Shape := ⟨0, ![]⟩
abbrev S2048x384 : Shape := ⟨2, ![2048, 384]⟩
abbrev S2048x1536 : Shape := ⟨2, ![2048, 1536]⟩

abbrev nBuf : Space → Nat
  | .hbm => 9
  | .vmem => 0
  | .smem => 0
  | _ => 0

abbrev bufTy : (tb : Table) → Fin (tcTables nBuf tb) → BufTy
  | .hbm, ⟨0, _⟩ => ⟨S384x1536, .f32⟩
  | .hbm, ⟨1, _⟩ => ⟨S2048x8x192, .bf16⟩
  | .hbm, ⟨2, _⟩ => ⟨S_, .f32⟩
  | .hbm, ⟨3, _⟩ => ⟨S2048x384, .f32⟩
  | .hbm, ⟨4, _⟩ => ⟨S2048x1536, .f32⟩
  | .hbm, ⟨5, _⟩ => ⟨S2048x8x192, .f32⟩
  | .hbm, ⟨6, _⟩ => ⟨S2048x8x192, .f32⟩
  | .hbm, ⟨7, _⟩ => ⟨S2048x1536, .f32⟩
  | .hbm, ⟨8, _⟩ => ⟨S2048x384, .f32⟩
  | _, _ => ⟨S384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CfNorm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CfNormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== MlaQueries.lean ====
abbrev S2048x384 : Shape := ⟨2, ![2048, 384]⟩
abbrev S384x1536 : Shape := ⟨2, ![384, 1536]⟩
abbrev S384x8x192 : Shape := ⟨3, ![384, 8, 192]⟩
abbrev S_ : Shape := ⟨0, ![]⟩
abbrev S384x8x64 : Shape := ⟨3, ![384, 8, 64]⟩
abbrev S384x8x256 : Shape := ⟨3, ![384, 8, 256]⟩
abbrev S384x2048 : Shape := ⟨2, ![384, 2048]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x2048 : Shape := ⟨2, ![2048, 2048]⟩
abbrev S384x256 : Shape := ⟨2, ![384, 256]⟩
abbrev S2048x256 : Shape := ⟨2, ![2048, 256]⟩

abbrev nBuf : Space → Nat
  | .hbm => 37
  | .vmem => 7
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S384x8x192, .f32⟩
  | .hbm, ⟨3, _⟩ => ⟨S_, .f32⟩
  | .hbm, ⟨4, _⟩ => ⟨S384x8x64, .f32⟩
  | .hbm, ⟨5, _⟩ => ⟨S384x8x256, .f32⟩
  | .hbm, ⟨6, _⟩ => ⟨S384x2048, .f32⟩
  | .hbm, ⟨7, _⟩ => ⟨S384x2048, .bf16⟩
  | .hbm, ⟨8, _⟩ => ⟨S2048x384, .bf16⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S_, .f32⟩
  | .hbm, ⟨32, _⟩ => ⟨S2048x64, .f32⟩
  | .hbm, ⟨33, _⟩ => ⟨S2048x128, .f32⟩
  | .hbm, ⟨34, _⟩ => ⟨S2048x32, .f32⟩
  | .hbm, ⟨35, _⟩ => ⟨S2048x128, .f32⟩
  | .hbm, ⟨36, _⟩ => ⟨S2048x2048, .bf16⟩
  | .local _ .vmem, ⟨0, _⟩ => ⟨S2048x384, .bf16⟩
  | .local _ .vmem, ⟨1, _⟩ => ⟨S384x256, .bf16⟩
  | .local _ .vmem, ⟨2, _⟩ => ⟨S384x256, .bf16⟩
  | .local _ .vmem, ⟨3, _⟩ => ⟨S2048x128, .f32⟩
  | .local _ .vmem, ⟨4, _⟩ => ⟨S2048x128, .f32⟩
  | .local _ .vmem, ⟨5, _⟩ => ⟨S2048x256, .bf16⟩
  | .local _ .vmem, ⟨6, _⟩ => ⟨S2048x256, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlaQueriesRefIdeal.lean ====
abbrev S2048x384 : Shape := ⟨2, ![2048, 384]⟩
abbrev S384x1536 : Shape := ⟨2, ![384, 1536]⟩
abbrev S2048x1536 : Shape := ⟨2, ![2048, 1536]⟩
abbrev S2048x8x192 : Shape := ⟨3, ![2048, 8, 192]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x256 : Shape := ⟨3, ![2048, 8, 256]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048x1536, .f32⟩
  | .hbm, ⟨3, _⟩ => ⟨S2048x8x192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x8x128, .f32⟩
  | .hbm, ⟨27, _⟩ => ⟨S2048x8x64, .f32⟩
  | .hbm, ⟨28, _⟩ => ⟨S2048x1x32, .f32⟩
  | .hbm, ⟨29, _⟩ => ⟨S2048x1x32, .f32⟩
  | .hbm, ⟨30, _⟩ => ⟨S2048x8x32, .f32⟩
  | .hbm, ⟨31, _⟩ => ⟨S2048x8x32, .f32⟩
  | .hbm, ⟨32, _⟩ => ⟨S2048x8x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x32, .f32⟩
  | .hbm, ⟨39, _⟩ => ⟨S2048x8x32, .f32⟩
  | .hbm, ⟨40, _⟩ => ⟨S2048x8x32, .f32⟩
  | .hbm, ⟨41, _⟩ => ⟨S2048x8x32, .f32⟩
  | .hbm, ⟨42, _⟩ => ⟨S2048x8x64, .f32⟩
  | .hbm, ⟨43, _⟩ => ⟨S2048x8x192, .f32⟩
  | .hbm, ⟨44, _⟩ => ⟨S_, .f32⟩
  | .hbm, ⟨45, _⟩ => ⟨S2048x8x64, .f32⟩
  | .hbm, ⟨46, _⟩ => ⟨S2048x8x256, .f32⟩
  | .hbm, ⟨47, _⟩ => ⟨S2048x2048, .f32⟩
  | .hbm, ⟨48, _⟩ => ⟨S2048x2048, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== MlaKeys.lean ====
abbrev S2048x256 : Shape := ⟨2, ![2048, 256]⟩
abbrev S256x8x128 : Shape := ⟨3, ![256, 8, 128]⟩
abbrev S2048x64 : Shape := ⟨2, ![2048, 64]⟩
abbrev S256x1024 : Shape := ⟨2, ![256, 1024]⟩
abbrev S_ : Shape := ⟨0, ![]⟩
abbrev S2048x128 : Shape := ⟨2, ![2048, 128]⟩
abbrev S2048x2048 : Shape := ⟨2, ![2048, 2048]⟩
abbrev S256x128 : Shape := ⟨2, ![256, 128]⟩

abbrev nBuf : Space → Nat
  | .hbm => 10
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x8x128, .f32⟩
  | .hbm, ⟨2, _⟩ => ⟨S2048x64, .bf16⟩
  | .hbm, ⟨3, _⟩ => ⟨S256x8x128, .bf16⟩
  | .hbm, ⟨4, _⟩ => ⟨S256x1024, .bf16⟩
  | .hbm, ⟨5, _⟩ => ⟨S_, .bf16⟩
  | .hbm, ⟨6, _⟩ => ⟨S2048x64, .bf16⟩
  | .hbm, ⟨7, _⟩ => ⟨S2048x128, .bf16⟩
  | .hbm, ⟨8, _⟩ => ⟨S2048x256, .bf16⟩
  | .hbm, ⟨9, _⟩ => ⟨S2048x2048, .bf16⟩
  | .local _ .vmem, ⟨0, _⟩ => ⟨S2048x256, .bf16⟩
  | .local _ .vmem, ⟨1, _⟩ => ⟨S256x128, .bf16⟩
  | .local _ .vmem, ⟨2, _⟩ => ⟨S256x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaKeysRefIdeal.lean ====
abbrev S2048x256 : Shape := ⟨2, ![2048, 256]⟩
abbrev S256x8x128 : Shape := ⟨3, ![256, 8, 128]⟩
abbrev S2048x64 : Shape := ⟨2, ![2048, 64]⟩
abbrev S2048x8x128 : Shape := ⟨3, ![2048, 8, 128]⟩
abbrev S2048x1x64 : Shape := ⟨3, ![2048, 1, 64]⟩
abbrev S2048x8x64 : Shape := ⟨3, ![2048, 8, 64]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x8x128, .f32⟩
  | .hbm, ⟨2, _⟩ => ⟨S2048x64, .bf16⟩
  | .hbm, ⟨3, _⟩ => ⟨S2048x8x128, .f32⟩
  | .hbm, ⟨4, _⟩ => ⟨S2048x64, .f32⟩
  | .hbm, ⟨5, _⟩ => ⟨S2048x1x64, .f32⟩
  | .hbm, ⟨6, _⟩ => ⟨S2048x8x64, .f32⟩
  | .hbm, ⟨7, _⟩ => ⟨S2048x8x192, .f32⟩
  | .hbm, ⟨8, _⟩ => ⟨S_, .f32⟩
  | .hbm, ⟨9, _⟩ => ⟨S2048x8x64, .f32⟩
  | .hbm, ⟨10, _⟩ => ⟨S2048x8x256, .f32⟩
  | .hbm, ⟨11, _⟩ => ⟨S2048x2048, .f32⟩
  | .hbm, ⟨12, _⟩ => ⟨S2048x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

@[expose] public section

/-!
  The gradient of one head of the chunked attention, written plainly over extended reals: masked scores,
  their softmax along the keys, and the three gradients. The lemmas say what the mask leaves out, that a row's
  normaliser is a positive real when queries and keys are real, and that the softmax's backward pass may be
  written with the probabilities or with the exponentials and the normaliser.
-/

namespace Cert.Attn

open Idealize.ShloMosaic

noncomputable section

/-- The scores' scale, the single-precision word of one over the root of 192. -/
def scale : EReal := Ideal.ofBits .f32 0x3D93CD3A#32

/-- An extended real that is neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A nonnegative real factor moves into a sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A sum of reals is real, and is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem scale_real : IsReal scale := by
  refine ⟨(9686330 : ℝ) * (2 : ℝ) ^ (-27 : Int), ?_⟩
  simp [scale, Ideal.ofBits, Ideal.ieee, -EReal.coe_mul]

section prefixes
variable {N : ℕ} (hN : N ≤ 2048)

/-- The first `N` of the 2048 rows. -/
abbrev lead (j : Fin N) : Fin 2048 := ⟨j.val, lt_of_lt_of_le j.isLt hN⟩

/-- A sum over all rows is the sum over the first `N` when the others add nothing. -/
theorem sum_lead (f : Fin 2048 → EReal) (h : ∀ k : Fin 2048, N ≤ k.val → f k = 0) :
    ∑ j : Fin N, f (lead hN j) = ∑ k, f k := by
  classical
  have hinj : Function.Injective (lead hN) := fun a b e => Fin.ext (Fin.mk.inj e)
  rw [← Finset.sum_image (s := Finset.univ) (g := lead hN) (f := f) fun a _ b _ e => hinj e]
  refine Finset.sum_subset (Finset.subset_univ _) fun k _ hk => h k ?_
  by_contra hlt
  exact hk (Finset.mem_image.mpr ⟨⟨k.val, by omega⟩, Finset.mem_univ _, Fin.ext rfl⟩)

/-- A largest value over all rows is the one over the first `N` when the others are the bottom. -/
theorem fold_lead (f : Fin 2048 → EReal) (h : ∀ k : Fin 2048, N ≤ k.val → f k = ⊥) :
    (Finset.univ : Finset (Fin N)).fold max ⊥ (fun j => f (lead hN j)) = Finset.univ.fold max ⊥ f := by
  change Finset.univ.sup (fun j => f (lead hN j)) = Finset.univ.sup f
  refine le_antisymm (Finset.sup_le fun j _ => Finset.le_sup (f := f) (Finset.mem_univ _)) (Finset.sup_le fun k _ => ?_)
  by_cases hk : N ≤ k.val
  · rw [h k hk]; exact bot_le
  · exact Finset.le_sup (f := fun j => f (lead hN j)) (Finset.mem_univ (⟨k.val, by omega⟩ : Fin N))

end prefixes

section spec

variable (Q K : Fin 2048 → Fin 256 → EReal) (V D : Fin 2048 → Fin 128 → EReal)

/-- Query `q` sees key `k` when the key's chunk of 64 is not after the query's. -/
abbrev Sees (q k : Fin 2048) : Prop := (k : ℕ) / 64 ≤ (q : ℕ) / 64

/-- The masked score of a query and a key. -/
def score (q k : Fin 2048) : EReal := if Sees q k then (∑ c, Q q c * K k c) * scale else ⊥
/-- A row's largest score. -/
def top (q : Fin 2048) : EReal := Finset.univ.fold max ⊥ (score Q K q)
/-- The exponential of a score less its row's largest. -/
def ex (q k : Fin 2048) : EReal := Ideal.exp (score Q K q k - top Q K q)
/-- A row's normaliser. -/
def den (q : Fin 2048) : EReal := ∑ k, ex Q K q k
/-- The probability of a key for a query. -/
def prob (q k : Fin 2048) : EReal := Ideal.div (ex Q K q k) (den Q K q)
/-- The cotangent of a probability. -/
def dprob (q k : Fin 2048) : EReal := ∑ c, D q c * V k c
/-- A row's sum of probabilities times their cotangents. -/
def del (q : Fin 2048) : EReal := ∑ k, prob Q K q k * dprob V D q k
/-- The cotangent of a score before its scale. -/
def ds (q k : Fin 2048) : EReal := prob Q K q k * (dprob V D q k - del Q K V D q) * scale
/-- The queries' gradient. -/
def dq (q : Fin 2048) (c : Fin 256) : EReal := ∑ k, ds Q K V D q k * K k c
/-- The keys' gradient. -/
def dk (k : Fin 2048) (c : Fin 256) : EReal := ∑ q, ds Q K V D q k * Q q c
/-- The values' gradient. -/
def dv (k : Fin 2048) (c : Fin 128) : EReal := ∑ q, prob Q K q k * D q c

variable {Q K}

theorem score_hidden {q k : Fin 2048} (h : ¬ Sees q k) : score Q K q k = ⊥ := if_neg h

theorem ex_hidden {q k : Fin 2048} (h : ¬ Sees q k) : ex Q K q k = 0 := by
  rw [ex, score_hidden h, EReal.bot_sub, Ideal.exp_bot]

theorem top_eq_sup (q : Fin 2048) : top Q K q = Finset.univ.sup (score Q K q) := rfl

section real
variable (hQ : ∀ q c, IsReal (Q q c)) (hK : ∀ k c, IsReal (K k c))
include hQ hK

theorem score_real {q k : Fin 2048} (h : Sees q k) : IsReal (score Q K q k) := by
  rw [score, if_pos h]
  exact (IsReal.sum _ _ fun c _ => (hQ q c).mul (hK k c)).mul scale_real

theorem score_lt_top (q k : Fin 2048) : score Q K q k < ⊤ := by
  by_cases h : Sees q k
  · obtain ⟨r, hr⟩ := score_real hQ hK h
    rw [hr]; exact EReal.coe_lt_top r
  · rw [score_hidden h]; exact bot_lt_top

theorem top_real (q : Fin 2048) : IsReal (top Q K q) := by
  have h1 : top Q K q < ⊤ := by
    rw [top_eq_sup]
    exact (Finset.sup_lt_iff bot_lt_top).mpr fun k _ => score_lt_top hQ hK q k
  have h2 : ⊥ < top Q K q := by
    obtain ⟨r, hr⟩ := score_real hQ hK (q := q) (k := q) le_rfl
    refine lt_of_lt_of_le (EReal.bot_lt_coe r) ?_
    rw [top_eq_sup, ← hr]
    exact Finset.le_sup (f := score Q K q) (Finset.mem_univ q)
  exact ⟨(top Q K q).toReal, (EReal.coe_toReal h1.ne h2.ne').symm⟩

theorem ex_real (q k : Fin 2048) : ∃ r : ℝ, 0 ≤ r ∧ ex Q K q k = (r : EReal) ∧ (Sees q k → 0 < r) := by
  by_cases h : Sees q k
  · obtain ⟨s, hs⟩ := score_real hQ hK h
    obtain ⟨t, ht⟩ := top_real hQ hK q
    refine ⟨Real.exp (s - t), (Real.exp_pos _).le, ?_, fun _ => Real.exp_pos _⟩
    rw [ex, hs, ht, ← EReal.coe_sub, Ideal.exp_coe]
  · exact ⟨0, le_rfl, by rw [ex_hidden h]; rfl, fun h' => absurd h' h⟩

theorem den_real (q : Fin 2048) : ∃ z : ℝ, 0 < z ∧ den Q K q = (z : EReal) := by
  choose r h0 h1 h2 using fun k => ex_real hQ hK q k
  refine ⟨∑ k, r k, ?_, ?_⟩
  · exact Finset.sum_pos' (fun k _ => h0 k) ⟨q, Finset.mem_univ q, h2 q le_rfl⟩
  · rw [den, coe_sum]
    exact Finset.sum_congr rfl fun k _ => h1 k

theorem prob_hidden {q k : Fin 2048} (h : ¬ Sees q k) : prob Q K q k = 0 := by
  obtain ⟨z, hz, e⟩ := den_real hQ hK q
  rw [prob, ex_hidden h, e, Ideal.div_coe hz.ne', zero_mul]

theorem ds_hidden {q k : Fin 2048} (h : ¬ Sees q k) : ds Q K V D q k = 0 := by
  rw [ds, prob_hidden hQ hK h, zero_mul, zero_mul]

/-- The score's cotangent as the backward pass of a softmax written with exponentials and normaliser. -/
theorem ds_eq (q k : Fin 2048) :
    (if Sees q k then
        (Ideal.div (dprob V D q k) (den Q K q)
          + -(∑ j, dprob V D q j * Ideal.div 1 (den Q K q * den Q K q) * ex Q K q j)) * ex Q K q k
      else 0) * scale = ds Q K V D q k := by
  by_cases h : Sees q k
  · rw [if_pos h, ds]
    congr 1
    obtain ⟨z, hz, e⟩ := den_real hQ hK q
    have hz' : (0 : ℝ) ≤ 1 / z := by positivity
    have hs : (∑ j, dprob V D q j * Ideal.div 1 (den Q K q * den Q K q) * ex Q K q j)
        = ((1 / z : ℝ) : EReal) * del Q K V D q := by
      rw [del, coe_mul_sum _ _ hz']
      refine Finset.sum_congr rfl fun j _ => ?_
      rw [prob, e, ← EReal.coe_mul, Ideal.div_coe (mul_pos hz hz).ne', Ideal.div_coe hz.ne', one_mul,
        show (1 / (z * z) : ℝ) = 1 / z * (1 / z) by field_simp, EReal.coe_mul]
      ac_rfl
    rw [hs, prob, e, Ideal.div_coe hz.ne', Ideal.div_coe hz.ne', mul_comm (dprob V D q k),
      ← mul_neg, ← EReal.left_distrib_of_nonneg_of_ne_top (EReal.coe_nonneg.mpr hz') (EReal.coe_ne_top _),
      ← sub_eq_add_neg]
    ac_rfl
  · rw [if_neg h, ds_hidden V D hQ hK h, zero_mul]

section prefixes
variable {N : ℕ} (hN : N ≤ 2048)
variable {q : Fin 2048} (hq : ∀ k : Fin 2048, N ≤ k.val → ¬ Sees q k)
include hq

omit hQ hK in
/-- The probabilities of a query may be computed from the first `N` scores when it sees no later key. -/
theorem prob_lead (j : Fin N) :
    Ideal.div (Ideal.exp (score Q K q (lead hN j) - Finset.univ.fold max ⊥ (fun i : Fin N => score Q K q (lead hN i))))
      (∑ i : Fin N, Ideal.exp (score Q K q (lead hN i) - Finset.univ.fold max ⊥ (fun i : Fin N => score Q K q (lead hN i))))
      = prob Q K q (lead hN j) := by
  rw [fold_lead hN (score Q K q) fun k hk => score_hidden (hq k hk)]
  change Ideal.div (ex Q K q (lead hN j)) (∑ i : Fin N, ex Q K q (lead hN i)) = _
  rw [sum_lead hN (ex Q K q) fun k hk => ex_hidden (hq k hk)]
  rfl

/-- The scores' cotangents likewise. -/
theorem ds_lead (j : Fin N) :
    prob Q K q (lead hN j) * (dprob V D q (lead hN j) - ∑ i : Fin N, prob Q K q (lead hN i) * dprob V D q (lead hN i)) * scale
      = ds Q K V D q (lead hN j) := by
  rw [sum_lead hN (fun k => prob Q K q k * dprob V D q k) fun k hk => by
    show prob Q K q k * dprob V D q k = 0
    rw [prob_hidden hQ hK (hq k hk), zero_mul]]
  rfl

/-- A query's gradient likewise. -/
theorem dq_lead (c : Fin 256) :
    ∑ j : Fin N, ds Q K V D q (lead hN j) * K (lead hN j) c = dq Q K V D q c :=
  sum_lead hN (fun k => ds Q K V D q k * K k c) fun k hk => by
    show ds Q K V D q k * K k c = 0
    rw [ds_hidden V D hQ hK (hq k hk), zero_mul]

end prefixes

end real
end spec
end

end Cert.Attn
-- ==== Proof.Tile.lean ====
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.WordCmp

@[expose] public section

/-!
  The four query tiles of the kernel's program read at an index: tile `n` has 512 queries and the first
  `512 (n+1)` keys, masks its own 512 columns by chunk, and computes what the plain gradient says.
-/

set_option maxRecDepth 16384

noncomputable section

namespace Cert.KernelIdeal.Attn

open Cert.KernelIdeal Cert.KernelIdeal.Gen Cert.Attn Idealize.ShloMosaic Idealize.ShloMosaic.TcCoe

/-- The kernel's mask bit: the chunk of a column is not after the chunk of a row. -/
theorem mask_bit (a b : ℕ) (ha : a < 512) (hb : b < 512) :
    IntOp.cmpi .sle (IntOp.shrui .vector (BitVec.ofNat 32 a) 6#32) (IntOp.shrui .vector (BitVec.ofNat 32 b) 6#32)
      = BitVec.ofBool (decide (a / 64 ≤ b / 64)) := by
  have e : ∀ n : ℕ, n < 512 → IntOp.shrui .vector (BitVec.ofNat 32 n) 6#32 = BitVec.ofNat 32 (n / 64) := by
    intro n hn
    apply BitVec.eq_of_toNat_eq
    simp [IntOp.shrui, Nat.shiftRight_eq_div_pow, Nat.mod_eq_of_lt (show n < 4294967296 by omega),
      Nat.mod_eq_of_lt (show n / 64 < 4294967296 by omega)]
  rw [e a ha, e b hb, WordCmp.cmpi_sle_ofNat (by omega) (by omega)]

theorem select_ofBool {p : Prop} [Decidable p] (x y : EReal) :
    Scalar.select (BitVec.ofBool (decide p)) x y = if p then x else y := by
  by_cases h : p <;> simp [Scalar.select, h]

theorem neg_inf : Ideal.ofBits .f32 0xFF800000#32 = ⊥ := by simp [Ideal.ofBits, Ideal.ieee]

theorem mask_value : (Named.named κ "mask" (0xF149F2CA#32 : BitVec (FTy.bits .f32)) : Ideal .f32) = ⊥ := rfl

theorem le512 : 512 ≤ 2048 := by decide
theorem le1024 : 1024 ≤ 2048 := by decide
theorem le1536 : 1536 ≤ 2048 := by decide
theorem le2048 : 2048 ≤ 2048 := by decide
theorem fit0 : 0 + 512 ≤ 2048 := by decide
theorem fit512 : 512 + 512 ≤ 2048 := by decide
theorem fit1024 : 1024 + 512 ≤ 2048 := by decide
theorem fit1536 : 1536 + 512 ≤ 2048 := by decide

/-- Row `r` of the 512 from `o` on. -/
abbrev row {o : ℕ} (ho : o + 512 ≤ 2048) (r : Fin 512) : Fin 2048 := ⟨o + r.val, Nat.lt_of_lt_of_le (Nat.add_lt_add_left r.isLt o) ho⟩

variable (Q K : Fin 2048 → Fin 256 → EReal) (V D : Fin 2048 → Fin 128 → EReal)

/-- The softmax along 512 columns, as the program computes it. -/
def soft512 (v81 : FVec Ideal S512x512 .f32) : FVec Ideal S512x512 .f32 :=
  have v82 : FVec Ideal S512 .f32 := multiReduction .maximumf [1] S512 v81 0xFF800000#32 reduces_S512x512_S512 (.inl rfl) rfl
  have v83 : FVec Ideal S512x1 .f32 := shapeCast S512x1 v82 shapeCasts_S512_S512x1
  have v84 : FVec Ideal S512x512 .f32 := broadcastTo S512x512 v83 broadcasts_S512x1_S512x512
  have v86 : FVec Ideal S512x512 .f32 := exp (subf v81 v84)
  have v87 : FVec Ideal S512 .f32 := multiReduction .add [1] S512 v86 0x00000000#32 reduces_S512x512_S512 (.inl rfl) rfl
  have v88 : FVec Ideal S512x1 .f32 := shapeCast S512x1 v87 shapeCasts_S512_S512x1
  have v89 : FVec Ideal S512x512 .f32 := broadcastTo S512x512 v88 broadcasts_S512x1_S512x512
  divf v86 v89
/-- Tile 0's masked scores. -/
def masked512 (x : Vec Ideal S512x256 .bf16) (y : Vec Ideal S512x256 .bf16) : FVec Ideal S512x512 .f32 :=
  have v13 : FVec Ideal S512x512 .f32 := matmul dot_S512x256_S512x256_S512x512_1_1_0_0_n_n none (k0_pay7 x) (k0_pay8 y) (constant S512x512 .f32 0x00000000#32)
  have v15 : FVec Ideal S512x512 .f32 := mulf v13 (broadcast S512x512 (Scalar.ofBits .f32 0x3D93CD3A#32))
  have v19 : IVec S512x512 32 := shrui (iota .tc S512x512 32 [1] iota_S512x512_d1_w32) (broadcast S512x512 6#32)
  have v21 : IVec S512x512 32 := shrui (iota .tc S512x512 32 [0] iota_S512x512_d0_w32) (broadcast S512x512 6#32)
  select (cmpi .sle v19 v21) v15 (broadcast S512x512 (Named.named κ "mask" 0xF149F2CA#32))

theorem soft512_apply (s : FVec Ideal S512x512 .f32) (r : Fin 512) (j : Fin 512) :
    soft512 s (ix2 r j) = Ideal.div (Ideal.exp (s (ix2 r j) - Finset.univ.fold max ⊥ fun i => s (ix2 r i)))
      (∑ k : Fin 512, Ideal.exp (s (ix2 r k) - Finset.univ.fold max ⊥ fun i => s (ix2 r i))) := by
  pointwise [soft512]
  simp only [neg_inf]

theorem probs512_eq (x : Vec Ideal S512x256 .bf16) (y : Vec Ideal S512x256 .bf16) : k0_pay9 x y = soft512 (masked512 x y) := rfl

section
variable (x : Vec Ideal S512x256 .bf16) (y : Vec Ideal S512x256 .bf16)
  (hx : ∀ r c, x (ix2 r c) = Q (row fit0 r) c) (hy : ∀ j c, y (ix2 j c) = K (lead le512 j) c)
include hx hy

theorem masked512_apply (r : Fin 512) (j : Fin 512) :
    masked512 x y (ix2 r j) = score Q K (row fit0 r) (lead le512 j) := by
  pointwise [masked512, k0_pay7, k0_pay8]
  rw [mask_bit _ _ j.isLt r.isLt, select_ofBool, mask_value, score]
  simp only [hx, hy, Sees, Nat.zero_add]
  rfl

/-- Tile 0's probabilities are the plain ones. -/
theorem probs512_apply (r : Fin 512) (j : Fin 512) :
    (k0_pay9 x y) (ix2 r j) = prob Q K (row fit0 r) (lead le512 j) := by
  rw [probs512_eq, soft512_apply]
  simp only [masked512_apply Q K x y hx hy]
  exact prob_lead le512 (fun k hk => by show ¬ ((k : ℕ) / 64 ≤ (0 + r.val) / 64); omega) j

end

section
variable (p : FVec Ideal S512x512 .f32) (x : Vec Ideal S512x256 .bf16) (y : Vec Ideal S512x256 .bf16) (d : Vec Ideal S512x128 .bf16)
  (v : Vec Ideal S512x128 .bf16) (a : Vec Ideal S512x256 .f32) (b : Vec Ideal S512x128 .f32)

theorem dscore512_apply (r : Fin 512) (j : Fin 512) :
    (k0_pay11 d p (k0_pay10 v)) (ix2 r j) = (p) (ix2 r j) * ((∑ c, d (ix2 r c) * v (ix2 j c))
      - ∑ i, (p) (ix2 r i) * ∑ c, d (ix2 r c) * v (ix2 i c)) * scale := by
  pointwise [k0_pay11, k0_pay10]
  rfl

theorem dquery512_apply (r : Fin 512) (c : Fin 256) :
    (k0_pay12 (k0_pay8 y) d p (k0_pay10 v)) (ix2 r c) = ∑ j, (k0_pay11 d p (k0_pay10 v)) (ix2 r j) * y (ix2 j c) := by
  pointwise [k0_pay12, k0_pay8]

theorem dkey512_apply (j : Fin 512) (c : Fin 256) :
    (k0_pay13 (k0_pay7 x) d p (k0_pay10 v) a) (ix2 j c) = a (ix2 j c) + ∑ r, (k0_pay11 d p (k0_pay10 v)) (ix2 r j) * x (ix2 r c) := by
  pointwise [k0_pay13, k0_pay7]

theorem dvalue512_apply (j : Fin 512) (c : Fin 128) :
    (k0_pay14 d p b) (ix2 j c) = b (ix2 j c) + ∑ r, (p) (ix2 r j) * d (ix2 r c) := by
  pointwise [k0_pay14]

end

/-- The softmax along 1024 columns, as the program computes it. -/
def soft1024 (v81 : FVec Ideal S512x1024 .f32) : FVec Ideal S512x1024 .f32 :=
  have v82 : FVec Ideal S512 .f32 := multiReduction .maximumf [1] S512 v81 0xFF800000#32 reduces_S512x1024_S512 (.inl rfl) rfl
  have v83 : FVec Ideal S512x1 .f32 := shapeCast S512x1 v82 shapeCasts_S512_S512x1
  have v84 : FVec Ideal S512x1024 .f32 := broadcastTo S512x1024 v83 broadcasts_S512x1_S512x1024
  have v86 : FVec Ideal S512x1024 .f32 := exp (subf v81 v84)
  have v87 : FVec Ideal S512 .f32 := multiReduction .add [1] S512 v86 0x00000000#32 reduces_S512x1024_S512 (.inl rfl) rfl
  have v88 : FVec Ideal S512x1 .f32 := shapeCast S512x1 v87 shapeCasts_S512_S512x1
  have v89 : FVec Ideal S512x1024 .f32 := broadcastTo S512x1024 v88 broadcasts_S512x1_S512x1024
  divf v86 v89
/-- Tile 1's masked scores. -/
def masked1024 (x : Vec Ideal S512x256 .bf16) (y : Vec Ideal S1024x256 .bf16) : FVec Ideal S512x1024 .f32 :=
  have v69 : FVec Ideal S512x1024 .f32 := mulf (k0_pay17 x y) k0_pay18
  have v73 : IVec S512x512 32 := shrui (iota .tc S512x512 32 [1] iota_S512x512_d1_w32) (broadcast S512x512 6#32)
  have v75 : IVec S512x512 32 := shrui (iota .tc S512x512 32 [0] iota_S512x512_d0_w32) (broadcast S512x512 6#32)
  have v77 : FVec Ideal S512x512 .f32 := extractStridedSlice S512x512 ![0, 512] v69 slices_S512x1024_o0_512_S512x512
  have v79 : FVec Ideal S512x512 .f32 := select (cmpi .sle v73 v75) v77 (broadcast S512x512 (Named.named κ "mask" 0xF149F2CA#32))
  have v80 : FVec Ideal S512x512 .f32 := extractStridedSlice S512x512 ![0, 0] v69 slices_S512x1024_o0_0_S512x512
  concatenate S512x1024 1 [⟨S512x512, v80⟩, ⟨S512x512, v79⟩] concatenates_S512x512_S512x512_S512x1024_d1

theorem soft1024_apply (s : FVec Ideal S512x1024 .f32) (r : Fin 512) (j : Fin 1024) :
    soft1024 s (ix2 r j) = Ideal.div (Ideal.exp (s (ix2 r j) - Finset.univ.fold max ⊥ fun i => s (ix2 r i)))
      (∑ k : Fin 1024, Ideal.exp (s (ix2 r k) - Finset.univ.fold max ⊥ fun i => s (ix2 r i))) := by
  pointwise [soft1024]
  simp only [neg_inf]

theorem probs1024_eq (x : Vec Ideal S512x256 .bf16) (y : Vec Ideal S1024x256 .bf16) : k0_pay19 (k0_pay17 x y) k0_pay18 = soft1024 (masked1024 x y) := rfl

section
variable (x : Vec Ideal S512x256 .bf16) (y : Vec Ideal S1024x256 .bf16)
  (hx : ∀ r c, x (ix2 r c) = Q (row fit512 r) c) (hy : ∀ j c, y (ix2 j c) = K (lead le1024 j) c)
include hx hy

theorem masked1024_apply (r : Fin 512) (j : Fin 1024) :
    masked1024 x y (ix2 r j) = score Q K (row fit512 r) (lead le1024 j) := by
  pointwise [masked1024, k0_pay15, k0_pay16, k0_pay17, k0_pay18]
  rw [score]
  split
  · rename_i h
    rw [if_pos (show (j : ℕ) / 64 ≤ (512 + r.val) / 64 by omega)]
    simp only [hx, hy]
    rfl
  · rename_i h
    have hj := j.isLt
    rw [mask_bit _ _ (by omega) r.isLt, select_ofBool, mask_value]
    have e : ∀ h', (⟨512 + (j.val - 512), h'⟩ : Fin 1024) = j := fun h' => Fin.ext (by show 512 + (j.val - 512) = j.val; omega)
    refine if_congr (by show _ ↔ (j : ℕ) / 64 ≤ (512 + r.val) / 64; omega) ?_ rfl
    simp only [hx, hy, e]
    rfl

/-- Tile 1's probabilities are the plain ones. -/
theorem probs1024_apply (r : Fin 512) (j : Fin 1024) :
    (k0_pay19 (k0_pay17 x y) k0_pay18) (ix2 r j) = prob Q K (row fit512 r) (lead le1024 j) := by
  rw [probs1024_eq, soft1024_apply]
  simp only [masked1024_apply Q K x y hx hy]
  exact prob_lead le1024 (fun k hk => by show ¬ ((k : ℕ) / 64 ≤ (512 + r.val) / 64); omega) j

end

section
variable (p q : FVec Ideal S512x1024 .f32) (x : Vec Ideal S512x256 .bf16) (y : Vec Ideal S1024x256 .bf16) (d : Vec Ideal S512x128 .bf16)
  (v : Vec Ideal S1024x128 .bf16) (a : Vec Ideal S1024x256 .f32) (b : Vec Ideal S1024x128 .f32)

theorem dscore1024_apply (r : Fin 512) (j : Fin 1024) :
    (k0_pay20 d p q v) (ix2 r j) = (k0_pay19 p q) (ix2 r j) * ((∑ c, d (ix2 r c) * v (ix2 j c))
      - ∑ i, (k0_pay19 p q) (ix2 r i) * ∑ c, d (ix2 r c) * v (ix2 i c)) * scale := by
  pointwise [k0_pay20]
  rfl

theorem dquery1024_apply (r : Fin 512) (c : Fin 256) :
    (k0_pay21 (k0_pay16 y) d p q v) (ix2 r c) = ∑ j, (k0_pay20 d p q v) (ix2 r j) * y (ix2 j c) := by
  pointwise [k0_pay21, k0_pay16]

theorem dkey1024_apply (j : Fin 1024) (c : Fin 256) :
    (k0_pay23 (k0_pay22 (k0_pay15 x) d p q v a)) (ix2 j c) = a (ix2 j c) + ∑ r, (k0_pay20 d p q v) (ix2 r j) * x (ix2 r c) := by
  pointwise [k0_pay23, k0_pay22, k0_pay15]

theorem dvalue1024_apply (j : Fin 1024) (c : Fin 128) :
    (k0_pay24 d (k0_pay19 p q) b) (ix2 j c) = b (ix2 j c) + ∑ r, (k0_pay19 p q) (ix2 r j) * d (ix2 r c) := by
  pointwise [k0_pay24]

end

/-- The softmax along 1536 columns, as the program computes it. -/
def soft1536 (v81 : FVec Ideal S512x1536 .f32) : FVec Ideal S512x1536 .f32 :=
  have v82 : FVec Ideal S512 .f32 := multiReduction .maximumf [1] S512 v81 0xFF800000#32 reduces_S512x1536_S512 (.inl rfl) rfl
  have v83 : FVec Ideal S512x1 .f32 := shapeCast S512x1 v82 shapeCasts_S512_S512x1
  have v84 : FVec Ideal S512x1536 .f32 := broadcastTo S512x1536 v83 broadcasts_S512x1_S512x1536
  have v86 : FVec Ideal S512x1536 .f32 := exp (subf v81 v84)
  have v87 : FVec Ideal S512 .f32 := multiReduction .add [1] S512 v86 0x00000000#32 reduces_S512x1536_S512 (.inl rfl) rfl
  have v88 : FVec Ideal S512x1 .f32 := shapeCast S512x1 v87 shapeCasts_S512_S512x1
  have v89 : FVec Ideal S512x1536 .f32 := broadcastTo S512x1536 v88 broadcasts_S512x1_S512x1536
  divf v86 v89
/-- Tile 2's masked scores. -/
def masked1536 (x : Vec Ideal S512x256 .bf16) (y : Vec Ideal S1536x256 .bf16) : FVec Ideal S512x1536 .f32 :=
  have v69 : FVec Ideal S512x1536 .f32 := mulf (matmul dot_S512x256_S1536x256_S512x1536_1_1_0_0_n_n none (k0_pay25 x) (k0_pay26 y) (constant S512x1536 .f32 0x00000000#32)) (broadcast S512x1536 (Scalar.ofBits .f32 0x3D93CD3A#32))
  have v73 : IVec S512x512 32 := shrui (iota .tc S512x512 32 [1] iota_S512x512_d1_w32) (broadcast S512x512 6#32)
  have v75 : IVec S512x512 32 := shrui (iota .tc S512x512 32 [0] iota_S512x512_d0_w32) (broadcast S512x512 6#32)
  have v77 : FVec Ideal S512x512 .f32 := extractStridedSlice S512x512 ![0, 1024] v69 slices_S512x1536_o0_1024_S512x512
  have v79 : FVec Ideal S512x512 .f32 := select (cmpi .sle v73 v75) v77 (broadcast S512x512 (Named.named κ "mask" 0xF149F2CA#32))
  have v80 : FVec Ideal S512x1024 .f32 := extractStridedSlice S512x1024 ![0, 0] v69 slices_S512x1536_o0_0_S512x1024
  concatenate S512x1536 1 [⟨S512x1024, v80⟩, ⟨S512x512, v79⟩] concatenates_S512x1024_S512x512_S512x1536_d1

theorem soft1536_apply (s : FVec Ideal S512x1536 .f32) (r : Fin 512) (j : Fin 1536) :
    soft1536 s (ix2 r j) = Ideal.div (Ideal.exp (s (ix2 r j) - Finset.univ.fold max ⊥ fun i => s (ix2 r i)))
      (∑ k : Fin 1536, Ideal.exp (s (ix2 r k) - Finset.univ.fold max ⊥ fun i => s (ix2 r i))) := by
  pointwise [soft1536]
  simp only [neg_inf]

theorem probs1536_eq (x : Vec Ideal S512x256 .bf16) (y : Vec Ideal S1536x256 .bf16) : k0_pay27 x y = soft1536 (masked1536 x y) := rfl

section
variable (x : Vec Ideal S512x256 .bf16) (y : Vec Ideal S1536x256 .bf16)
  (hx : ∀ r c, x (ix2 r c) = Q (row fit1024 r) c) (hy : ∀ j c, y (ix2 j c) = K (lead le1536 j) c)
include hx hy

theorem masked1536_apply (r : Fin 512) (j : Fin 1536) :
    masked1536 x y (ix2 r j) = score Q K (row fit1024 r) (lead le1536 j) := by
  pointwise [masked1536, k0_pay25, k0_pay26]
  rw [score]
  split
  · rename_i h
    rw [if_pos (show (j : ℕ) / 64 ≤ (1024 + r.val) / 64 by omega)]
    simp only [hx, hy]
    rfl
  · rename_i h
    have hj := j.isLt
    rw [mask_bit _ _ (by omega) r.isLt, select_ofBool, mask_value]
    have e : ∀ h', (⟨1024 + (j.val - 1024), h'⟩ : Fin 1536) = j := fun h' => Fin.ext (by show 1024 + (j.val - 1024) = j.val; omega)
    refine if_congr (by show _ ↔ (j : ℕ) / 64 ≤ (1024 + r.val) / 64; omega) ?_ rfl
    simp only [hx, hy, e]
    rfl

/-- Tile 2's probabilities are the plain ones. -/
theorem probs1536_apply (r : Fin 512) (j : Fin 1536) :
    (k0_pay27 x y) (ix2 r j) = prob Q K (row fit1024 r) (lead le1536 j) := by
  rw [probs1536_eq, soft1536_apply]
  simp only [masked1536_apply Q K x y hx hy]
  exact prob_lead le1536 (fun k hk => by show ¬ ((k : ℕ) / 64 ≤ (1024 + r.val) / 64); omega) j

end

section
variable (p : FVec Ideal S512x1536 .f32) (x : Vec Ideal S512x256 .bf16) (y : Vec Ideal S1536x256 .bf16) (d : Vec Ideal S512x128 .bf16)
  (v : Vec Ideal S1536x128 .bf16) (a : Vec Ideal S1536x256 .f32) (b : Vec Ideal S1536x128 .f32)

theorem dscore1536_apply (r : Fin 512) (j : Fin 1536) :
    (k0_pay28 d p v) (ix2 r j) = (p) (ix2 r j) * ((∑ c, d (ix2 r c) * v (ix2 j c))
      - ∑ i, (p) (ix2 r i) * ∑ c, d (ix2 r c) * v (ix2 i c)) * scale := by
  pointwise [k0_pay28]
  rfl

theorem dquery1536_apply (r : Fin 512) (c : Fin 256) :
    (k0_pay29 (k0_pay26 y) d p v) (ix2 r c) = ∑ j, (k0_pay28 d p v) (ix2 r j) * y (ix2 j c) := by
  pointwise [k0_pay29, k0_pay26]

theorem dkey1536_apply (j : Fin 1536) (c : Fin 256) :
    (k0_pay30 (k0_pay25 x) d p v a) (ix2 j c) = a (ix2 j c) + ∑ r, (k0_pay28 d p v) (ix2 r j) * x (ix2 r c) := by
  pointwise [k0_pay30, k0_pay25]

theorem dvalue1536_apply (j : Fin 1536) (c : Fin 128) :
    (k0_pay31 d p b) (ix2 j c) = b (ix2 j c) + ∑ r, (p) (ix2 r j) * d (ix2 r c) := by
  pointwise [k0_pay31]

end

/-- The softmax along 2048 columns, as the program computes it. -/
def soft2048 (v81 : FVec Ideal S512x2048 .f32) : FVec Ideal S512x2048 .f32 :=
  have v82 : FVec Ideal S512 .f32 := multiReduction .maximumf [1] S512 v81 0xFF800000#32 reduces_S512x2048_S512 (.inl rfl) rfl
  have v83 : FVec Ideal S512x1 .f32 := shapeCast S512x1 v82 shapeCasts_S512_S512x1
  have v84 : FVec Ideal S512x2048 .f32 := broadcastTo S512x2048 v83 broadcasts_S512x1_S512x2048
  have v86 : FVec Ideal S512x2048 .f32 := exp (subf v81 v84)
  have v87 : FVec Ideal S512 .f32 := multiReduction .add [1] S512 v86 0x00000000#32 reduces_S512x2048_S512 (.inl rfl) rfl
  have v88 : FVec Ideal S512x1 .f32 := shapeCast S512x1 v87 shapeCasts_S512_S512x1
  have v89 : FVec Ideal S512x2048 .f32 := broadcastTo S512x2048 v88 broadcasts_S512x1_S512x2048
  divf v86 v89
/-- Tile 3's masked scores. -/
def masked2048 (x : Vec Ideal S512x256 .bf16) (y : Vec Ideal S2048x256 .bf16) : FVec Ideal S512x2048 .f32 :=
  have v69 : FVec Ideal S512x2048 .f32 := mulf (k0_pay34 x y) (broadcast S512x2048 (Scalar.ofBits .f32 0x3D93CD3A#32))
  have v73 : IVec S512x512 32 := shrui (iota .tc S512x512 32 [1] iota_S512x512_d1_w32) (broadcast S512x512 6#32)
  have v75 : IVec S512x512 32 := shrui (iota .tc S512x512 32 [0] iota_S512x512_d0_w32) (broadcast S512x512 6#32)
  have v77 : FVec Ideal S512x512 .f32 := extractStridedSlice S512x512 ![0, 1536] v69 slices_S512x2048_o0_1536_S512x512
  have v79 : FVec Ideal S512x512 .f32 := select (cmpi .sle v73 v75) v77 (broadcast S512x512 (Named.named κ "mask" 0xF149F2CA#32))
  have v80 : FVec Ideal S512x1536 .f32 := extractStridedSlice S512x1536 ![0, 0] v69 slices_S512x2048_o0_0_S512x1536
  concatenate S512x2048 1 [⟨S512x1536, v80⟩, ⟨S512x512, v79⟩] concatenates_S512x1536_S512x512_S512x2048_d1

theorem soft2048_apply (s : FVec Ideal S512x2048 .f32) (r : Fin 512) (j : Fin 2048) :
    soft2048 s (ix2 r j) = Ideal.div (Ideal.exp (s (ix2 r j) - Finset.univ.fold max ⊥ fun i => s (ix2 r i)))
      (∑ k : Fin 2048, Ideal.exp (s (ix2 r k) - Finset.univ.fold max ⊥ fun i => s (ix2 r i))) := by
  pointwise [soft2048]
  simp only [neg_inf]

theorem probs2048_eq (x : Vec Ideal S512x256 .bf16) (y : Vec Ideal S2048x256 .bf16) : k0_pay35 (k0_pay34 x y) = soft2048 (masked2048 x y) := rfl

section
variable (x : Vec Ideal S512x256 .bf16) (y : Vec Ideal S2048x256 .bf16)
  (hx : ∀ r c, x (ix2 r c) = Q (row fit1536 r) c) (hy : ∀ j c, y (ix2 j c) = K (lead le2048 j) c)
include hx hy

theorem masked2048_apply (r : Fin 512) (j : Fin 2048) :
    masked2048 x y (ix2 r j) = score Q K (row fit1536 r) (lead le2048 j) := by
  pointwise [masked2048, k0_pay32, k0_pay33, k0_pay34]
  rw [score]
  split
  · rename_i h
    rw [if_pos (show (j : ℕ) / 64 ≤ (1536 + r.val) / 64 by omega)]
    simp only [hx, hy]
    rfl
  · rename_i h
    have hj := j.isLt
    rw [mask_bit _ _ (by omega) r.isLt, select_ofBool, mask_value]
    have e : ∀ h', (⟨1536 + (j.val - 1536), h'⟩ : Fin 2048) = j := fun h' => Fin.ext (by show 1536 + (j.val - 1536) = j.val; omega)
    refine if_congr (by show _ ↔ (j : ℕ) / 64 ≤ (1536 + r.val) / 64; omega) ?_ rfl
    simp only [hx, hy, e]
    rfl

/-- Tile 3's probabilities are the plain ones. -/
theorem probs2048_apply (r : Fin 512) (j : Fin 2048) :
    (k0_pay35 (k0_pay34 x y)) (ix2 r j) = prob Q K (row fit1536 r) (lead le2048 j) := by
  rw [probs2048_eq, soft2048_apply]
  simp only [masked2048_apply Q K x y hx hy]
  exact prob_lead le2048 (fun k hk => by show ¬ ((k : ℕ) / 64 ≤ (1536 + r.val) / 64); omega) j

end

section
variable (p : FVec Ideal S512x2048 .f32) (x : Vec Ideal S512x256 .bf16) (y : Vec Ideal S2048x256 .bf16) (d : Vec Ideal S512x128 .bf16)
  (v : Vec Ideal S2048x128 .bf16) (a : Vec Ideal S2048x256 .f32) (b : Vec Ideal S2048x128 .f32)

theorem dscore2048_apply (r : Fin 512) (j : Fin 2048) :
    (k0_pay36 d p v) (ix2 r j) = (k0_pay35 p) (ix2 r j) * ((∑ c, d (ix2 r c) * v (ix2 j c))
      - ∑ i, (k0_pay35 p) (ix2 r i) * ∑ c, d (ix2 r c) * v (ix2 i c)) * scale := by
  pointwise [k0_pay36]
  rfl

theorem dquery2048_apply (r : Fin 512) (c : Fin 256) :
    (k0_pay37 (k0_pay33 y) d p v) (ix2 r c) = ∑ j, (k0_pay36 d p v) (ix2 r j) * y (ix2 j c) := by
  pointwise [k0_pay37, k0_pay33]

theorem dkey2048_apply (j : Fin 2048) (c : Fin 256) :
    (k0_pay1 (k0_pay38 (k0_pay32 x) d p v a)) (ix2 j c) = a (ix2 j c) + ∑ r, (k0_pay36 d p v) (ix2 r j) * x (ix2 r c) := by
  pointwise [k0_pay1, k0_pay38, k0_pay32]

theorem dvalue2048_apply (j : Fin 2048) (c : Fin 128) :
    (k0_pay2 d (k0_pay35 p) b) (ix2 j c) = b (ix2 j c) + ∑ r, (k0_pay35 p) (ix2 r j) * d (ix2 r c) := by
  pointwise [k0_pay2]

end

section
variable {Q K V D} {x : Vec Ideal S512x256 .bf16} {y : Vec Ideal S512x256 .bf16} {d : Vec Ideal S512x128 .bf16}
  {v : Vec Ideal S512x128 .bf16} (hQ : ∀ q c, IsReal (Q q c)) (hK : ∀ k c, IsReal (K k c))
  (hx : ∀ r c, x (ix2 r c) = Q (row fit0 r) c) (hy : ∀ j c, y (ix2 j c) = K (lead le512 j) c)
  (hd : ∀ r c, d (ix2 r c) = D (row fit0 r) c)
include hx hy hd

theorem tile_dvalue512 (b : Vec Ideal S512x128 .f32) (j : Fin 512) (c : Fin 128) :
    (k0_pay14 d (k0_pay9 x y) b) (ix2 j c) = b (ix2 j c) + ∑ r : Fin 512, prob Q K (row fit0 r) (lead le512 j) * D (row fit0 r) c := by
  rw [dvalue512_apply]
  simp only [probs512_apply Q K x y hx hy, hd]

variable (hv : ∀ j c, v (ix2 j c) = V (lead le512 j) c)
include hv hQ hK

theorem tile_dscore512 (r : Fin 512) (j : Fin 512) :
    (k0_pay11 d (k0_pay9 x y) (k0_pay10 v)) (ix2 r j) = ds Q K V D (row fit0 r) (lead le512 j) := by
  rw [dscore512_apply]
  simp only [probs512_apply Q K x y hx hy, hd, hv]
  exact ds_lead V D hQ hK (by omega) (fun k hk => by show ¬ ((k : ℕ) / 64 ≤ (0 + r.val) / 64); omega) j

theorem tile_dquery512 (r : Fin 512) (c : Fin 256) : (k0_pay12 (k0_pay8 y) d (k0_pay9 x y) (k0_pay10 v)) (ix2 r c) = dq Q K V D (row fit0 r) c := by
  rw [dquery512_apply]
  simp only [tile_dscore512 hQ hK hx hy hd hv, hy]
  exact dq_lead V D hQ hK (by omega) (fun k hk => by show ¬ ((k : ℕ) / 64 ≤ (0 + r.val) / 64); omega) c

theorem tile_dkey512 (a : Vec Ideal S512x256 .f32) (j : Fin 512) (c : Fin 256) :
    (k0_pay13 (k0_pay7 x) d (k0_pay9 x y) (k0_pay10 v) a) (ix2 j c) = a (ix2 j c) + ∑ r : Fin 512, ds Q K V D (row fit0 r) (lead le512 j) * Q (row fit0 r) c := by
  rw [dkey512_apply]
  simp only [tile_dscore512 hQ hK hx hy hd hv, hx]

end

section
variable {Q K V D} {x : Vec Ideal S512x256 .bf16} {y : Vec Ideal S1024x256 .bf16} {d : Vec Ideal S512x128 .bf16}
  {v : Vec Ideal S1024x128 .bf16} (hQ : ∀ q c, IsReal (Q q c)) (hK : ∀ k c, IsReal (K k c))
  (hx : ∀ r c, x (ix2 r c) = Q (row fit512 r) c) (hy : ∀ j c, y (ix2 j c) = K (lead le1024 j) c)
  (hd : ∀ r c, d (ix2 r c) = D (row fit512 r) c)
include hx hy hd

theorem tile_dvalue1024 (b : Vec Ideal S1024x128 .f32) (j : Fin 1024) (c : Fin 128) :
    (k0_pay24 d (k0_pay19 (k0_pay17 x y) k0_pay18) b) (ix2 j c) = b (ix2 j c) + ∑ r : Fin 512, prob Q K (row fit512 r) (lead le1024 j) * D (row fit512 r) c := by
  rw [dvalue1024_apply]
  simp only [probs1024_apply Q K x y hx hy, hd]

variable (hv : ∀ j c, v (ix2 j c) = V (lead le1024 j) c)
include hv hQ hK

theorem tile_dscore1024 (r : Fin 512) (j : Fin 1024) :
    (k0_pay20 d (k0_pay17 x y) k0_pay18 v) (ix2 r j) = ds Q K V D (row fit512 r) (lead le1024 j) := by
  rw [dscore1024_apply]
  simp only [probs1024_apply Q K x y hx hy, hd, hv]
  exact ds_lead V D hQ hK (by omega) (fun k hk => by show ¬ ((k : ℕ) / 64 ≤ (512 + r.val) / 64); omega) j

theorem tile_dquery1024 (r : Fin 512) (c : Fin 256) : (k0_pay21 (k0_pay16 y) d (k0_pay17 x y) k0_pay18 v) (ix2 r c) = dq Q K V D (row fit512 r) c := by
  rw [dquery1024_apply]
  simp only [tile_dscore1024 hQ hK hx hy hd hv, hy]
  exact dq_lead V D hQ hK (by omega) (fun k hk => by show ¬ ((k : ℕ) / 64 ≤ (512 + r.val) / 64); omega) c

theorem tile_dkey1024 (a : Vec Ideal S1024x256 .f32) (j : Fin 1024) (c : Fin 256) :
    (k0_pay23 (k0_pay22 (k0_pay15 x) d (k0_pay17 x y) k0_pay18 v a)) (ix2 j c) = a (ix2 j c) + ∑ r : Fin 512, ds Q K V D (row fit512 r) (lead le1024 j) * Q (row fit512 r) c := by
  rw [dkey1024_apply]
  simp only [tile_dscore1024 hQ hK hx hy hd hv, hx]

end

section
variable {Q K V D} {x : Vec Ideal S512x256 .bf16} {y : Vec Ideal S1536x256 .bf16} {d : Vec Ideal S512x128 .bf16}
  {v : Vec Ideal S1536x128 .bf16} (hQ : ∀ q c, IsReal (Q q c)) (hK : ∀ k c, IsReal (K k c))
  (hx : ∀ r c, x (ix2 r c) = Q (row fit1024 r) c) (hy : ∀ j c, y (ix2 j c) = K (lead le1536 j) c)
  (hd : ∀ r c, d (ix2 r c) = D (row fit1024 r) c)
include hx hy hd

theorem tile_dvalue1536 (b : Vec Ideal S1536x128 .f32) (j : Fin 1536) (c : Fin 128) :
    (k0_pay31 d (k0_pay27 x y) b) (ix2 j c) = b (ix2 j c) + ∑ r : Fin 512, prob Q K (row fit1024 r) (lead le1536 j) * D (row fit1024 r) c := by
  rw [dvalue1536_apply]
  simp only [probs1536_apply Q K x y hx hy, hd]

variable (hv : ∀ j c, v (ix2 j c) = V (lead le1536 j) c)
include hv hQ hK

theorem tile_dscore1536 (r : Fin 512) (j : Fin 1536) :
    (k0_pay28 d (k0_pay27 x y) v) (ix2 r j) = ds Q K V D (row fit1024 r) (lead le1536 j) := by
  rw [dscore1536_apply]
  simp only [probs1536_apply Q K x y hx hy, hd, hv]
  exact ds_lead V D hQ hK (by omega) (fun k hk => by show ¬ ((k : ℕ) / 64 ≤ (1024 + r.val) / 64); omega) j

theorem tile_dquery1536 (r : Fin 512) (c : Fin 256) : (k0_pay29 (k0_pay26 y) d (k0_pay27 x y) v) (ix2 r c) = dq Q K V D (row fit1024 r) c := by
  rw [dquery1536_apply]
  simp only [tile_dscore1536 hQ hK hx hy hd hv, hy]
  exact dq_lead V D hQ hK (by omega) (fun k hk => by show ¬ ((k : ℕ) / 64 ≤ (1024 + r.val) / 64); omega) c

theorem tile_dkey1536 (a : Vec Ideal S1536x256 .f32) (j : Fin 1536) (c : Fin 256) :
    (k0_pay30 (k0_pay25 x) d (k0_pay27 x y) v a) (ix2 j c) = a (ix2 j c) + ∑ r : Fin 512, ds Q K V D (row fit1024 r) (lead le1536 j) * Q (row fit1024 r) c := by
  rw [dkey1536_apply]
  simp only [tile_dscore1536 hQ hK hx hy hd hv, hx]

end

section
variable {Q K V D} {x : Vec Ideal S512x256 .bf16} {y : Vec Ideal S2048x256 .bf16} {d : Vec Ideal S512x128 .bf16}
  {v : Vec Ideal S2048x128 .bf16} (hQ : ∀ q c, IsReal (Q q c)) (hK : ∀ k c, IsReal (K k c))
  (hx : ∀ r c, x (ix2 r c) = Q (row fit1536 r) c) (hy : ∀ j c, y (ix2 j c) = K (lead le2048 j) c)
  (hd : ∀ r c, d (ix2 r c) = D (row fit1536 r) c)
include hx hy hd

theorem tile_dvalue2048 (b : Vec Ideal S2048x128 .f32) (j : Fin 2048) (c : Fin 128) :
    (k0_pay2 d (k0_pay35 (k0_pay34 x y)) b) (ix2 j c) = b (ix2 j c) + ∑ r : Fin 512, prob Q K (row fit1536 r) (lead le2048 j) * D (row fit1536 r) c := by
  rw [dvalue2048_apply]
  simp only [probs2048_apply Q K x y hx hy, hd]

variable (hv : ∀ j c, v (ix2 j c) = V (lead le2048 j) c)
include hv hQ hK

theorem tile_dscore2048 (r : Fin 512) (j : Fin 2048) :
    (k0_pay36 d (k0_pay34 x y) v) (ix2 r j) = ds Q K V D (row fit1536 r) (lead le2048 j) := by
  rw [dscore2048_apply]
  simp only [probs2048_apply Q K x y hx hy, hd, hv]
  exact ds_lead V D hQ hK (by omega) (fun k hk => by show ¬ ((k : ℕ) / 64 ≤ (1536 + r.val) / 64); omega) j

theorem tile_dquery2048 (r : Fin 512) (c : Fin 256) : (k0_pay37 (k0_pay33 y) d (k0_pay34 x y) v) (ix2 r c) = dq Q K V D (row fit1536 r) c := by
  rw [dquery2048_apply]
  simp only [tile_dscore2048 hQ hK hx hy hd hv, hy]
  exact dq_lead V D hQ hK (by omega) (fun k hk => by show ¬ ((k : ℕ) / 64 ≤ (1536 + r.val) / 64); omega) c

theorem tile_dkey2048 (a : Vec Ideal S2048x256 .f32) (j : Fin 2048) (c : Fin 256) :
    (k0_pay1 (k0_pay38 (k0_pay32 x) d (k0_pay34 x y) v a)) (ix2 j c) = a (ix2 j c) + ∑ r : Fin 512, ds Q K V D (row fit1536 r) (lead le2048 j) * Q (row fit1536 r) c := by
  rw [dkey2048_apply]
  simp only [tile_dscore2048 hQ hK hx hy hd hv, hx]

end

end Cert.KernelIdeal.Attn
end
-- ==== Proof.TopRows.lean ====
module

public import Idealize.ShloMosaic.Lib.Pipeline.ValueKit
public import Idealize.ShloMosaic.Lib.Pipeline.ReadBack
public import Idealize.ShloMosaic.Lib.Pointwise

@[expose] public section

/-!
  An accumulator whose stores are growing prefixes of its rows: what a later store of the first rows leaves, and
  what a load of the first rows reads back, at an index.
-/

noncomputable section

namespace Cert.Attn

open Idealize.ShloMosaic

variable {Val : EltTy → Type} {e : EltTy} {N n b : ℕ}

/-- A last store of the first `n` rows: its payload on those rows, the earlier stores below. -/
theorem canon_rows [∀ e, Nonempty (Val e)] (inb : ∀ a, (![0, 0] : Fin 2 → ℕ) a + (![n, b] : Fin 2 → ℕ) a ≤ (⟨2, ![N, b]⟩ : Shape).size a)
    (w : (⟨2, ![n, b]⟩ : Shape).Idx → Val e) (L : List (View.Piece Val (⟨2, ![N, b]⟩ : Shape) e)) (i : Fin N) (j : Fin b) :
    View.canon ((⟨Rect.unit (s := ⟨2, ![N, b]⟩) ![0, 0] ![n, b] inb, w⟩ : View.Piece Val _ e) :: L) (ix2 i j)
      = if h : i.val < n then w (ix2 ⟨i.val, h⟩ j) else View.canon L (ix2 i j) := by
  by_cases h : i.val < n
  · rw [dif_pos h]
    have he : (ix2 i j : (⟨2, ![N, b]⟩ : Shape).Idx)
        = (Rect.unit (s := ⟨2, ![N, b]⟩) ![0, 0] ![n, b] inb).emb (ix2 (⟨i.val, h⟩ : Fin n) j) := by
      funext a
      apply Fin.ext
      rw [ValueKit.rect_emb_unit_val]
      match a with
      | ⟨0, _⟩ => exact (Nat.zero_add _).symm
      | ⟨1, _⟩ => exact (Nat.zero_add _).symm
    rw [he]
    exact View.canon_cons_emb (Rect.unit (s := ⟨2, ![N, b]⟩) ![0, 0] ![n, b] inb) w L (ix2 (⟨i.val, h⟩ : Fin n) j)
  · rw [dif_neg h]
    refine View.canon_cons_of_not_mem _ L fun hm => h ?_
    have h2 : i.val < 0 + n := ((Rect.mem_set_unit (inb := inb)).mp hm 0).2
    omega

/-- A load of the first `m` rows reads the accumulated contents there. -/
theorem readCov_rows [∀ e, Nonempty (Val e)] {sig : RefSig} {κ : Kind} {sp : Space} {m : ℕ} (v : View sig κ sp (⟨2, ![N, b]⟩ : Shape) e)
    (inb : ∀ a, (![0, 0] : Fin 2 → ℕ) a + (![m, b] : Fin 2 → ℕ) a ≤ (⟨2, ![N, b]⟩ : Shape).size a)
    (L : List (View.Piece Val (⟨2, ![N, b]⟩ : Shape) e)) (i : Fin m) (j : Fin b) (hm : m ≤ N) :
    v.readCov L (Rect.unit (s := ⟨2, ![N, b]⟩) ![0, 0] ![m, b] inb).toLoadRect (ix2 i j)
      = View.canon L (ix2 (⟨i.val, lt_of_lt_of_le i.isLt hm⟩ : Fin N) j) := by
  rw [View.readCov_eq_canon']
  refine congrArg (View.canon L) ?_
  funext a
  apply Fin.ext
  refine (ValueKit.rect_emb_unit_val (s := ⟨2, ![N, b]⟩) ![0, 0] ![m, b] inb (ix2 i j) a).trans ?_
  match a with
  | ⟨0, _⟩ => exact Nat.zero_add _
  | ⟨1, _⟩ => exact Nat.zero_add _

/-- A load of rows `o, o+1, …` of a whole buffer. -/
theorem ld_rows {m o : ℕ} (X : (⟨2, ![N, b]⟩ : Shape).Idx → Val e)
    (inb : ∀ a, (![o, 0] : Fin 2 → ℕ) a + (![m, b] : Fin 2 → ℕ) a ≤ (⟨2, ![N, b]⟩ : Shape).size a) (i : Fin m) (j : Fin b) (hm : o + m ≤ N) :
    View.ld X (Rect.unit (s := ⟨2, ![N, b]⟩) ![o, 0] ![m, b] inb) (ix2 i j) = X (ix2 (⟨o + i.val, by omega⟩ : Fin N) j) := by
  refine congrArg X ?_
  funext a
  apply Fin.ext
  refine (ValueKit.rect_emb_unit_val (s := ⟨2, ![N, b]⟩) ![o, 0] ![m, b] inb (ix2 i j) a).trans ?_
  match a with
  | ⟨0, _⟩ => rfl
  | ⟨1, _⟩ => exact Nat.zero_add _

/-- A load of the first rows of a whole buffer. -/
theorem ld_lead {m : ℕ} (X : (⟨2, ![N, b]⟩ : Shape).Idx → Val e)
    (inb : ∀ a, (![0, 0] : Fin 2 → ℕ) a + (![m, b] : Fin 2 → ℕ) a ≤ (⟨2, ![N, b]⟩ : Shape).size a) (i : Fin m) (j : Fin b) (hm : m ≤ N) :
    View.ld X (Rect.unit (s := ⟨2, ![N, b]⟩) ![0, 0] ![m, b] inb) (ix2 i j) = X (ix2 (⟨i.val, lt_of_lt_of_le i.isLt hm⟩ : Fin N) j) := by
  rw [ld_rows X inb i j (by omega)]
  exact congrArg (fun k => X (ix2 k j)) (Fin.ext (Nat.zero_add _))

/-- Adding a term to the first `n` rows adds it everywhere when it is zero below them. -/
theorem acc_step [∀ e, Nonempty (Elt Ideal e)] (inb : ∀ a, (![0, 0] : Fin 2 → ℕ) a + (![n, b] : Fin 2 → ℕ) a ≤ (⟨2, ![N, b]⟩ : Shape).size a)
    (w : Vec Ideal (⟨2, ![n, b]⟩ : Shape) .f32) (L : List (View.Piece (Elt Ideal) (⟨2, ![N, b]⟩ : Shape) .f32)) (T A : Fin N → Fin b → EReal) (hn : n ≤ N)
    (hA : ∀ i j, View.canon L (ix2 i j) = A i j)
    (hw : ∀ i j, w (ix2 i j) = View.canon L (ix2 (⟨i.val, lt_of_lt_of_le i.isLt hn⟩ : Fin N) j) + T ⟨i.val, lt_of_lt_of_le i.isLt hn⟩ j)
    (hT : ∀ i j, n ≤ i.val → T i j = 0) (i : Fin N) (j : Fin b) :
    View.canon ((⟨Rect.unit (s := ⟨2, ![N, b]⟩) ![0, 0] ![n, b] inb, w⟩ : View.Piece (Elt Ideal) _ .f32) :: L) (ix2 i j) = A i j + T i j := by
  rw [canon_rows inb w L i j]
  split
  · rw [hw, hA]
  · rename_i h
    rw [hA, hT i j (by omega), add_zero]

/-- A sum over 2048 rows by tiles of 512. -/
theorem sum_tiles (f : Fin 2048 → EReal) :
    ∑ q, f q = (∑ r : Fin 512, f ⟨0 + r.val, by omega⟩) + (∑ r : Fin 512, f ⟨512 + r.val, by omega⟩)
      + (∑ r : Fin 512, f ⟨1024 + r.val, by omega⟩) + ∑ r : Fin 512, f ⟨1536 + r.val, by omega⟩ := by
  let g : ℕ → EReal := fun i => if h : i < 2048 then f ⟨i, h⟩ else 0
  have hg : ∀ (i : ℕ) (h : i < 2048), f ⟨i, h⟩ = g i := fun i h => by simp only [g, dif_pos h]
  have e : ∀ o : ℕ, o + 512 ≤ 2048 → ∀ h' : ∀ r : Fin 512, o + r.val < 2048, (∑ r : Fin 512, f ⟨o + r.val, h' r⟩) = ∑ r ∈ Finset.range 512, g (o + r) := by
    intro o ho h'
    rw [← Fin.sum_univ_eq_sum_range (fun r => g (o + r)) 512]
    exact Finset.sum_congr rfl fun r _ => hg _ _
  rw [e 0 (by omega), e 512 (by omega), e 1024 (by omega), e 1536 (by omega)]
  have h1 : ∑ q, f q = ∑ i ∈ Finset.range 2048, g i := by
    rw [← Fin.sum_univ_eq_sum_range g 2048]
    exact Finset.sum_congr rfl fun q _ => hg _ _
  rw [h1, show (2048 : ℕ) = 512 + 512 + 512 + 512 from rfl, Finset.sum_range_add, Finset.sum_range_add, Finset.sum_range_add]
  simp only [Nat.zero_add]

end Cert.Attn
end
-- ==== Proof.Block.lean ====
module

public import proofs.«01_k».proof.Proof.Tile
public import proofs.«01_k».proof.Proof.TopRows
public import Idealize.ShloMosaic.Lib.Pipeline.ReadBack

@[expose] public section

/-!
  What one head's run of the kernel leaves in its three output blocks: the plain gradients of the blocks it reads.
-/

set_option maxRecDepth 16384

noncomputable section

namespace Cert.KernelIdeal.Attn

open Cert.KernelIdeal Cert.KernelIdeal.Gen Cert.Attn Idealize.ShloMosaic Idealize.ShloMosaic.TcCoe

/-- A block as a function of its row and column. -/
abbrev mat {N b : ℕ} (x : (⟨2, ![N, b]⟩ : Shape).Idx → EReal) (i : Fin N) (j : Fin b) : EReal := x (ix2 i j)

section
variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x128 .bf16) (harg7 : arg7.IsWhole) (arg8 : Memref sig .tc .vmem S2048x256 .f32) (harg8 : arg8.IsWhole) (arg9 : Memref sig .tc .vmem S2048x128 .f32) (harg9 : arg9.IsWhole)
  (x0 x1 : Vec Ideal S2048x256 .bf16) (x2 x3 : Vec Ideal S2048x128 .bf16)
  (hQ : ∀ q c, IsReal (mat x0 q c)) (hK : ∀ k c, IsReal (mat x1 k c))

theorem later_hidden (o N : ℕ) (h : N = o + 512) (r : Fin 512) (ho : o + r.val < 2048) (h64 : o % 512 = 0) (k : Fin 2048) (hk : N ≤ k.val) :
    ¬ Sees ⟨o + r.val, ho⟩ k := by
  show ¬ ((k : ℕ) / 64 ≤ (o + r.val) / 64)
  omega

/-- What a tile of 512 queries adds to the keys' gradient. -/
def keyTerm (o : ℕ) (ho : o + 512 ≤ 2048) (k : Fin 2048) (j : Fin 256) : EReal :=
  ∑ r : Fin 512, ds (mat x0) (mat x1) (mat x2) (mat x3) ⟨o + r.val, by omega⟩ k * mat x0 ⟨o + r.val, by omega⟩ j

/-- What a tile of 512 queries adds to the values' gradient. -/
def valueTerm (o : ℕ) (ho : o + 512 ≤ 2048) (k : Fin 2048) (j : Fin 128) : EReal :=
  ∑ r : Fin 512, prob (mat x0) (mat x1) ⟨o + r.val, by omega⟩ k * mat x3 ⟨o + r.val, by omega⟩ j

theorem zero_fill_key : (k0_pay5 (F := Ideal)) = fun _ => 0 := by
  funext y
  show Ideal.ofBits .f32 0x00000000#32 = 0
  exact Ideal.ofBits_zero_f32

theorem zero_fill_value : (k0_pay6 (F := Ideal)) = fun _ => 0 := by
  funext y
  show Ideal.ofBits .f32 0x00000000#32 = 0
  exact Ideal.ofBits_zero_f32

include hQ hK

theorem keyTerm_zero (o N : ℕ) (h : N = o + 512) (ho : o + 512 ≤ 2048) (h64 : o % 512 = 0) (k : Fin 2048) (j : Fin 256) (hk : N ≤ k.val) :
    keyTerm x0 x1 x2 x3 o ho k j = 0 :=
  Finset.sum_eq_zero fun r _ => by rw [ds_hidden _ _ hQ hK (later_hidden o N h r _ h64 k hk), zero_mul]

theorem valueTerm_zero (o N : ℕ) (h : N = o + 512) (ho : o + 512 ≤ 2048) (h64 : o % 512 = 0) (k : Fin 2048) (j : Fin 128) (hk : N ≤ k.val) :
    valueTerm x0 x1 x3 o ho k j = 0 :=
  Finset.sum_eq_zero fun r _ => by rw [prob_hidden hQ hK (later_hidden o N h r _ h64 k hk), zero_mul]

/-- The queries' gradient block. -/
theorem out4_apply (y : S2048x256.Idx) : out0_A_4 c i arg1 harg1 arg2 harg2 arg3 harg3 arg4 harg4 arg5 harg5 arg6 harg6 arg7 harg7 arg8 harg8 arg9 harg9 x0 x1 x2 x3 y
    = dq (mat x0) (mat x1) (mat x2) (mat x3) (y 0) (y 1) := by
  frame_open
  frame_out
  canon_tiles x
  · have e0 : y 0 = (⟨1536 + (x 0).val, by omega⟩ : Fin 2048) := Fin.ext (h0)
    have e1 : y 1 = x 1 := Fin.ext h1
    rw [e0, e1]
    conv_lhs => rw [← ix2_eta x]
    exact tile_dquery2048 (Q := mat x0) (K := mat x1) (V := mat x2) (D := mat x3) hQ hK (fun r c => ld_rows x0 _ r c (by omega)) (fun j c => rfl) (fun r c => ld_rows x3 _ r c (by omega)) (fun j c => rfl) (x 0) (x 1)
  · have e0 : y 0 = (⟨1024 + (x 0).val, by omega⟩ : Fin 2048) := Fin.ext (h0)
    have e1 : y 1 = x 1 := Fin.ext h1
    rw [e0, e1]
    conv_lhs => rw [← ix2_eta x]
    exact tile_dquery1536 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) (x 0) (x 1)
  · have e0 : y 0 = (⟨512 + (x 0).val, by omega⟩ : Fin 2048) := Fin.ext (h0)
    have e1 : y 1 = x 1 := Fin.ext h1
    rw [e0, e1]
    conv_lhs => rw [← ix2_eta x]
    exact tile_dquery1024 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) (x 0) (x 1)
  · have e0 : y 0 = (⟨0 + (x 0).val, by omega⟩ : Fin 2048) := Fin.ext (h0.trans (Nat.zero_add _).symm)
    have e1 : y 1 = x 1 := Fin.ext h1
    rw [e0, e1]
    conv_lhs => rw [← ix2_eta x]
    exact tile_dquery512 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) (x 0) (x 1)

/-- The keys' gradient block. -/
theorem out5_apply (y : S2048x256.Idx) : out0_A_5 c i arg1 harg1 arg2 harg2 arg3 harg3 arg4 harg4 arg5 harg5 arg6 harg6 arg7 harg7 arg8 harg8 arg9 harg9 x0 x1 x2 x3 y = dk (mat x0) (mat x1) (mat x2) (mat x3) (y 0) (y 1) := by
  frame_open
  simp (disch := decide) only [↓ View.readCov_skip, ↓ View.readCov_cons_toLoadRect]
  frame_out
  have hy : y = ix2 (y 0) (y 1) := (ix2_eta y).symm
  refine Eq.trans ?_ (sum_tiles (fun q => ds (mat x0) (mat x1) (mat x2) (mat x3) q (y 0) * mat x0 q (y 1))).symm
  rw [← zero_add (∑ r : Fin 512, _)]
  conv_lhs => rw [hy]
  refine (tile_dkey2048 (Q := mat x0) (K := mat x1) (V := mat x2) (D := mat x3) hQ hK (fun r c => ld_rows x0 _ r c (by omega)) (fun j c => rfl) (fun r c => ld_rows x3 _ r c (by omega)) (fun j c => rfl) _ (y 0) (y 1)).trans (congrArg (· + _) ?_)
  refine (readCov_rows _ _ _ _ _ (by omega)).trans ?_
  refine acc_step _ _ _ (keyTerm x0 x1 x2 x3 1024 (by omega)) (fun k j => 0 + keyTerm x0 x1 x2 x3 0 (by omega) k j + keyTerm x0 x1 x2 x3 512 (by omega) k j) (by omega) (fun k j => ?_)
    (fun k j => (tile_dkey1536 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) _ k j).trans (congrArg (· + _) (readCov_rows _ _ _ _ _ (by omega)))) (fun k j hk => keyTerm_zero x0 x1 x2 x3 hQ hK 1024 1536 (by omega) (by omega) (by omega) k j hk) (y 0) (y 1)
  refine acc_step _ _ _ (keyTerm x0 x1 x2 x3 512 (by omega)) (fun k j => 0 + keyTerm x0 x1 x2 x3 0 (by omega) k j) (by omega) (fun k j => ?_)
    (fun k j => (tile_dkey1024 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) _ k j).trans (congrArg (· + _) (readCov_rows _ _ _ _ _ (by omega)))) (fun k j hk => keyTerm_zero x0 x1 x2 x3 hQ hK 512 1024 (by omega) (by omega) (by omega) k j hk) k j
  refine acc_step _ _ _ (keyTerm x0 x1 x2 x3 0 (by omega)) (fun _ _ => 0) (by omega) (fun k j => ?_)
    (fun k j => (tile_dkey512 (Q := mat x0) (K := mat x1) (V := mat x2) (D := mat x3) hQ hK (fun r c => ld_rows x0 _ r c (by omega)) (fun j c => ld_lead x1 _ j c (by omega)) (fun r c => ld_rows x3 _ r c (by omega)) (fun j c => ld_lead x2 _ j c (by omega)) _ k j).trans (congrArg (· + _) ?_)) (fun k j hk => keyTerm_zero x0 x1 x2 x3 hQ hK 0 512 (by omega) (by omega) (by omega) k j hk) k j
  · rw [View.canon_cons_unit_lit _ _ _ (by decide), zero_fill_key]
  · exact readCov_rows _ _ _ _ _ (by omega)

/-- The values' gradient block. -/
theorem out6_apply (y : S2048x128.Idx) : out0_A_6 c i arg1 harg1 arg2 harg2 arg3 harg3 arg4 harg4 arg5 harg5 arg6 harg6 arg7 harg7 arg8 harg8 arg9 harg9 x0 x1 x2 x3 y = dv (mat x0) (mat x1) (mat x3) (y 0) (y 1) := by
  frame_open
  simp (disch := decide) only [↓ View.readCov_skip, ↓ View.readCov_cons_toLoadRect]
  frame_out
  have hy : y = ix2 (y 0) (y 1) := (ix2_eta y).symm
  refine Eq.trans ?_ (sum_tiles (fun q => prob (mat x0) (mat x1) q (y 0) * mat x3 q (y 1))).symm
  rw [← zero_add (∑ r : Fin 512, _)]
  conv_lhs => rw [hy]
  refine (tile_dvalue2048 (Q := mat x0) (K := mat x1) (D := mat x3) (fun r c => ld_rows x0 _ r c (by omega)) (fun j c => rfl) (fun r c => ld_rows x3 _ r c (by omega)) _ (y 0) (y 1)).trans (congrArg (· + _) ?_)
  refine (readCov_rows _ _ _ _ _ (by omega)).trans ?_
  refine acc_step _ _ _ (valueTerm x0 x1 x3 1024 (by omega)) (fun k j => 0 + valueTerm x0 x1 x3 0 (by omega) k j + valueTerm x0 x1 x3 512 (by omega) k j) (by omega) (fun k j => ?_)
    (fun k j => (tile_dvalue1536 (Q := mat x0) (K := mat x1) (D := mat x3) (fun r c => ld_rows x0 _ r c (by omega)) (fun j c => ld_lead x1 _ j c (by omega)) (fun r c => ld_rows x3 _ r c (by omega)) _ k j).trans (congrArg (· + _) (readCov_rows _ _ _ _ _ (by omega)))) (fun k j hk => valueTerm_zero x0 x1 x3 hQ hK 1024 1536 (by omega) (by omega) (by omega) k j hk) (y 0) (y 1)
  refine acc_step _ _ _ (valueTerm x0 x1 x3 512 (by omega)) (fun k j => 0 + valueTerm x0 x1 x3 0 (by omega) k j) (by omega) (fun k j => ?_)
    (fun k j => (tile_dvalue1024 (Q := mat x0) (K := mat x1) (D := mat x3) (fun r c => ld_rows x0 _ r c (by omega)) (fun j c => ld_lead x1 _ j c (by omega)) (fun r c => ld_rows x3 _ r c (by omega)) _ k j).trans (congrArg (· + _) (readCov_rows _ _ _ _ _ (by omega)))) (fun k j hk => valueTerm_zero x0 x1 x3 hQ hK 512 1024 (by omega) (by omega) (by omega) k j hk) k j
  refine acc_step _ _ _ (valueTerm x0 x1 x3 0 (by omega)) (fun _ _ => 0) (by omega) (fun k j => ?_)
    (fun k j => (tile_dvalue512 (Q := mat x0) (K := mat x1) (D := mat x3) (fun r c => ld_rows x0 _ r c (by omega)) (fun j c => ld_lead x1 _ j c (by omega)) (fun r c => ld_rows x3 _ r c (by omega)) _ k j).trans (congrArg (· + _) ?_)) (fun k j hk => valueTerm_zero x0 x1 x3 hQ hK 0 512 (by omega) (by omega) (by omega) k j hk) k j
  · rw [View.canon_cons_unit_lit _ _ _ (by decide), zero_fill_value]
  · exact readCov_rows _ _ _ _ _ (by omega)

end
end Cert.KernelIdeal.Attn
end
-- ==== Proof.Heads.lean ====
module

public import proofs.«01_k».proof.Proof.Spec

@[expose] public section

/-!
  One head's queries, keys, values and output cotangents, as functions of the backward pass's six arguments, and
  the three results as functions of those.
-/

noncomputable section

namespace Cert.Attn

open Idealize.ShloMosaic

abbrev Nope : Type := (⟨3, ![2048, 8, 128]⟩ : Shape).Idx → EReal
abbrev Rope : Type := (⟨3, ![2048, 8, 64]⟩ : Shape).Idx → EReal
abbrev RopeK : Type := (⟨2, ![2048, 64]⟩ : Shape).Idx → EReal
abbrev Cot : Type := (⟨2, ![2048, 1024]⟩ : Shape).Idx → EReal

/-- A head's queries: 128 columns, 64 rotary columns, 64 zeros. -/
def headQ (qn : Nope) (qp : Rope) (h : Fin 8) (q : Fin 2048) (c : Fin 256) : EReal :=
  if h1 : c.val < 128 then qn (ix3 q h ⟨c.val, h1⟩)
  else if h2 : c.val - 128 < 64 then qp (ix3 q h ⟨c.val - 128, h2⟩) else 0

/-- A head's keys: 128 columns, the 64 rotary columns all heads share, 64 zeros. -/
def headK (kn : Nope) (kp : RopeK) (h : Fin 8) (k : Fin 2048) (c : Fin 256) : EReal :=
  if h1 : c.val < 128 then kn (ix3 k h ⟨c.val, h1⟩)
  else if h2 : c.val - 128 < 64 then kp (ix2 k ⟨c.val - 128, h2⟩) else 0

/-- A head's values. -/
def headV (v : Nope) (h : Fin 8) (k : Fin 2048) (c : Fin 128) : EReal := v (ix3 k h c)

/-- A head's output cotangent: its 128 columns. -/
def headD (g : Cot) (h : Fin 8) (q : Fin 2048) (c : Fin 128) : EReal := g (ix2 q ⟨128 * h.val + c.val, by omega⟩)

variable (qn : Nope) (qp : Rope) (kn : Nope) (kp : RopeK) (v : Nope) (g : Cot)

/-- The queries' gradient, the heads' 256 columns beside each other. -/
def gradQ (y : (⟨2, ![2048, 2048]⟩ : Shape).Idx) : EReal :=
  let h : Fin 8 := ⟨(y 1).val / 256, Nat.div_lt_of_lt_mul (y 1).isLt⟩
  dq (headQ qn qp h) (headK kn kp h) (headV v h) (headD g h) (y 0) ⟨(y 1).val % 256, Nat.mod_lt _ (by decide)⟩

/-- The keys' gradient, the heads' 256 columns beside each other. -/
def gradK (y : (⟨2, ![2048, 2048]⟩ : Shape).Idx) : EReal :=
  let h : Fin 8 := ⟨(y 1).val / 256, Nat.div_lt_of_lt_mul (y 1).isLt⟩
  dk (headQ qn qp h) (headK kn kp h) (headV v h) (headD g h) (y 0) ⟨(y 1).val % 256, Nat.mod_lt _ (by decide)⟩

/-- The values' gradient, the heads' 128 columns beside each other. -/
def gradV (y : (⟨2, ![2048, 1024]⟩ : Shape).Idx) : EReal :=
  let h : Fin 8 := ⟨(y 1).val / 128, Nat.div_lt_of_lt_mul (y 1).isLt⟩
  dv (headQ qn qp h) (headK kn kp h) (headD g h) (y 0) ⟨(y 1).val % 128, Nat.mod_lt _ (by decide)⟩

theorem gradQ_at (q : Fin 2048) (h : Fin 8) (j : Fin 256) (i : Fin 2048) (hi : i.val = 256 * h.val + j.val) :
    gradQ qn qp kn kp v g (ix2 q i) = dq (headQ qn qp h) (headK kn kp h) (headV v h) (headD g h) q j := by
  have e1 : (⟨((ix2 q i : (⟨2, ![2048, 2048]⟩ : Shape).Idx) 1).val / 256, Nat.div_lt_of_lt_mul (i.isLt)⟩ : Fin 8) = h :=
    Fin.ext (by show i.val / 256 = h.val; omega)
  have e2 : (⟨((ix2 q i : (⟨2, ![2048, 2048]⟩ : Shape).Idx) 1).val % 256, Nat.mod_lt _ (by decide)⟩ : Fin 256) = j :=
    Fin.ext (by show i.val % 256 = j.val; omega)
  unfold gradQ
  rw [e1, e2]
  rfl

theorem gradK_at (q : Fin 2048) (h : Fin 8) (j : Fin 256) (i : Fin 2048) (hi : i.val = 256 * h.val + j.val) :
    gradK qn qp kn kp v g (ix2 q i) = dk (headQ qn qp h) (headK kn kp h) (headV v h) (headD g h) q j := by
  have e1 : (⟨((ix2 q i : (⟨2, ![2048, 2048]⟩ : Shape).Idx) 1).val / 256, Nat.div_lt_of_lt_mul (i.isLt)⟩ : Fin 8) = h :=
    Fin.ext (by show i.val / 256 = h.val; omega)
  have e2 : (⟨((ix2 q i : (⟨2, ![2048, 2048]⟩ : Shape).Idx) 1).val % 256, Nat.mod_lt _ (by decide)⟩ : Fin 256) = j :=
    Fin.ext (by show i.val % 256 = j.val; omega)
  unfold gradK
  rw [e1, e2]
  rfl

theorem gradV_at (q : Fin 2048) (h : Fin 8) (j : Fin 128) (i : Fin 1024) (hi : i.val = 128 * h.val + j.val) :
    gradV qn qp kn kp g (ix2 q i) = dv (headQ qn qp h) (headK kn kp h) (headD g h) q j := by
  have e1 : (⟨((ix2 q i : (⟨2, ![2048, 1024]⟩ : Shape).Idx) 1).val / 128, Nat.div_lt_of_lt_mul (i.isLt)⟩ : Fin 8) = h :=
    Fin.ext (by show i.val / 128 = h.val; omega)
  have e2 : (⟨((ix2 q i : (⟨2, ![2048, 1024]⟩ : Shape).Idx) 1).val % 128, Nat.mod_lt _ (by decide)⟩ : Fin 128) = j :=
    Fin.ext (by show i.val % 128 = j.val; omega)
  unfold gradV
  rw [e1, e2]
  rfl

variable {qn qp kn kp}

theorem headQ_real (h1 : ∀ i, IsReal (qn i)) (h2 : ∀ i, IsReal (qp i)) (h : Fin 8) (q : Fin 2048) (c : Fin 256) :
    IsReal (headQ qn qp h q c) := by
  unfold headQ
  split
  · exact h1 _
  · split
    · exact h2 _
    · exact ⟨0, rfl⟩

theorem headK_real (h1 : ∀ i, IsReal (kn i)) (h2 : ∀ i, IsReal (kp i)) (h : Fin 8) (q : Fin 2048) (c : Fin 256) :
    IsReal (headK kn kp h q c) := by
  unfold headK
  split
  · exact h1 _
  · split
    · exact h2 _
    · exact ⟨0, rfl⟩

end Cert.Attn
end
-- ==== Proof.Run.lean ====
module

public import proofs.«01_k».proof.Proof.Block
public import proofs.«01_k».proof.Proof.Heads
public import proofs.«01_k».proof.Proof.Gen.KernelIdeal.Value

@[expose] public section

/-! The kernel's three result arrays after the run are the plain gradients of its arguments. -/

set_option maxRecDepth 16384

noncomputable section

namespace Cert.KernelIdeal.Attn

open Cert.KernelIdeal Cert.KernelIdeal.Gen Cert.Attn Idealize.ShloMosaic Idealize.ShloMosaic.TcCoe

variable (m : (ℓ : Loc nD τ sig) → Buf (Elt Ideal) ℓ) (ρ : Dev nD → PrngReg) (c : Dev nD)

theorem coord_val : ∀ t : Fin cfg0.N, (grid0.coords t 0).val = t.val := by decide +kernel

theorem idx_facts : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] := by
  decide +kernel

/-- The heads' queries beside each other, as the host lays them out. -/
def layQ (x : Vec Ideal S2048x8x128 .bf16) (y : Vec Ideal S2048x8x64 .bf16) : Vec Ideal S2048x2048 .bf16 :=
  shapeCast S2048x2048 (concatenate S2048x8x256 2 [⟨S2048x8x128, x⟩, ⟨S2048x8x64, y⟩,
    ⟨S2048x8x64, broadcastInDim S2048x8x64 ![] bcast_S_S2048x8x64 (constant (F := Ideal) S_ .bf16 0x0000#16)⟩]
    concatenates_S2048x8x128_S2048x8x64_S2048x8x64_S2048x8x256_d2) shapeCasts_S2048x8x256_S2048x2048

/-- The heads' keys beside each other, the shared rotary columns repeated. -/
def layK (x : Vec Ideal S2048x8x128 .bf16) (y : Vec Ideal S2048x64 .bf16) : Vec Ideal S2048x2048 .bf16 :=
  layQ x (broadcastInDim S2048x8x64 ![0, 1, 2] bcast_S2048x1x64_S2048x8x64_0_1_2
    (broadcastInDim S2048x1x64 ![0, 2] bcast_S2048x64_S2048x1x64_0_2 y))

theorem entry2 : V m c main_v2 = layQ (m ((c : Thread nD τ).loc main_arg0)) (m ((c : Thread nD τ).loc main_arg1)) := rfl
theorem entry6 : V m c main_v6 = layK (m ((c : Thread nD τ).loc main_arg2)) (m ((c : Thread nD τ).loc main_arg3)) := rfl
theorem entry7 : V m c main_v7 = shapeCast S2048x1024 (m ((c : Thread nD τ).loc main_arg4)) shapeCasts_S2048x8x128_S2048x1024 := rfl
theorem entry5 : V m c main_arg5 = m ((c : Thread nD τ).loc main_arg5) := rfl

theorem layQ_apply (x : Vec Ideal S2048x8x128 .bf16) (y : Vec Ideal S2048x8x64 .bf16) (q : Fin 2048) (h : Fin 8) (j : Fin 256) (i : Fin 2048)
    (hi : i.val = 256 * h.val + j.val) : layQ x y (ix2 q i) = headQ x y h q j := by
  obtain ⟨i, hi'⟩ := i
  obtain rfl : i = 256 * h.val + j.val := hi
  pointwise [layQ]
  rfl

theorem layK_apply (x : Vec Ideal S2048x8x128 .bf16) (y : Vec Ideal S2048x64 .bf16) (q : Fin 2048) (h : Fin 8) (j : Fin 256) (i : Fin 2048)
    (hi : i.val = 256 * h.val + j.val) : layK x y (ix2 q i) = headK x y h q j := by
  rw [layK, layQ_apply _ _ q h j i hi, headQ, headK]
  pointwise

theorem layV_apply (x : Vec Ideal S2048x8x128 .bf16) (q : Fin 2048) (h : Fin 8) (j : Fin 128) (i : Fin 1024)
    (hi : i.val = 128 * h.val + j.val) : shapeCast S2048x1024 x shapeCasts_S2048x8x128_S2048x1024 (ix2 q i) = headV x h q j := by
  obtain ⟨i, hi'⟩ := i
  obtain rfl : i = 128 * h.val + j.val := hi
  pointwise
  rfl

theorem block0 (t : Fin cfg0.N) (q : Fin 2048) (j : Fin 256) :
    iblk m c 0 t (ix2 q j) = headQ (m ((c : Thread nD τ).loc main_arg0)) (m ((c : Thread nD τ).loc main_arg1)) ⟨t.val, t.isLt⟩ q j := by
  have ht : t.val < 8 := t.isLt
  have e : (win0_0.blk t).view.emb (ix2 q j) = (ix2 q ⟨256 * t.val + j.val, by omega⟩ : S2048x2048.Idx) := by
    obtain ⟨e0, e1, e2, e3, e4, e5, e6⟩ := idx_facts t
    blk_ext [e0]
  show V m c main_v2 ((win0_0.blk t).view.emb (ix2 q j)) = _
  rw [e, entry2]
  exact layQ_apply _ _ q ⟨t.val, t.isLt⟩ j _ rfl

theorem block1 (t : Fin cfg0.N) (q : Fin 2048) (j : Fin 256) :
    iblk m c 1 t (ix2 q j) = headK (m ((c : Thread nD τ).loc main_arg2)) (m ((c : Thread nD τ).loc main_arg3)) ⟨t.val, t.isLt⟩ q j := by
  have ht : t.val < 8 := t.isLt
  have e : (win0_1.blk t).view.emb (ix2 q j) = (ix2 q ⟨256 * t.val + j.val, by omega⟩ : S2048x2048.Idx) := by
    obtain ⟨e0, e1, e2, e3, e4, e5, e6⟩ := idx_facts t
    blk_ext [e1]
  show V m c main_v6 ((win0_1.blk t).view.emb (ix2 q j)) = _
  rw [e, entry6]
  exact layK_apply _ _ q ⟨t.val, t.isLt⟩ j _ rfl

theorem block2 (t : Fin cfg0.N) (q : Fin 2048) (j : Fin 128) :
    iblk m c 2 t (ix2 q j) = headV (m ((c : Thread nD τ).loc main_arg4)) ⟨t.val, t.isLt⟩ q j := by
  have ht : t.val < 8 := t.isLt
  have e : (win0_2.blk t).view.emb (ix2 q j) = (ix2 q ⟨128 * t.val + j.val, by omega⟩ : S2048x1024.Idx) := by
    obtain ⟨e0, e1, e2, e3, e4, e5, e6⟩ := idx_facts t
    blk_ext [e2]
  show V m c main_v7 ((win0_2.blk t).view.emb (ix2 q j)) = _
  rw [e, entry7]
  exact layV_apply _ q ⟨t.val, t.isLt⟩ j _ rfl

theorem block3 (t : Fin cfg0.N) (q : Fin 2048) (j : Fin 128) :
    iblk m c 3 t (ix2 q j) = headD (m ((c : Thread nD τ).loc main_arg5)) ⟨t.val, t.isLt⟩ q j := by
  have ht : t.val < 8 := t.isLt
  have e : (win0_3.blk t).view.emb (ix2 q j) = (ix2 q ⟨128 * t.val + j.val, by omega⟩ : S2048x1024.Idx) := by
    obtain ⟨e0, e1, e2, e3, e4, e5, e6⟩ := idx_facts t
    blk_ext [e3]
  show V m c main_arg5 ((win0_3.blk t).view.emb (ix2 q j)) = _
  rw [e, entry5]
  exact rfl

section
variable (h0 : ∀ i, IsReal (m ((c : Thread nD τ).loc main_arg0) i)) (h1 : ∀ i, IsReal (m ((c : Thread nD τ).loc main_arg1) i))
  (h2 : ∀ i, IsReal (m ((c : Thread nD τ).loc main_arg2) i)) (h3 : ∀ i, IsReal (m ((c : Thread nD τ).loc main_arg3) i))

include h0 h1 h2 h3

/-- What grid point `t` writes to result array 0. -/
theorem written4 (t : Fin cfg0.N) (q : Fin 2048) (j : Fin 256) (i : Fin 2048) (hi : i.val = 256 * t.val + j.val) :
    (outsAt0 m c t).1 (ix2 q j) = gradQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 q i) := by
  have eQ : mat (iblk m c 0 t) = headQ (m ((c : Thread nD τ).loc main_arg0)) (m ((c : Thread nD τ).loc main_arg1)) ⟨t.val, t.isLt⟩ := funext₂ (block0 m c t)
  have eK : mat (iblk m c 1 t) = headK (m ((c : Thread nD τ).loc main_arg2)) (m ((c : Thread nD τ).loc main_arg3)) ⟨t.val, t.isLt⟩ := funext₂ (block1 m c t)
  have eV : mat (iblk m c 2 t) = headV (m ((c : Thread nD τ).loc main_arg4)) ⟨t.val, t.isLt⟩ := funext₂ (block2 m c t)
  have eD : mat (iblk m c 3 t) = headD (m ((c : Thread nD τ).loc main_arg5)) ⟨t.val, t.isLt⟩ := funext₂ (block3 m c t)
  have hQ : ∀ q j, IsReal (mat (iblk m c 0 t) q j) := by rw [eQ]; exact headQ_real h0 h1 _
  have hK : ∀ q j, IsReal (mat (iblk m c 1 t) q j) := by rw [eK]; exact headK_real h2 h3 _
  rw [gradQ_at _ _ _ _ _ _ q ⟨t.val, t.isLt⟩ j i hi, ← eQ, ← eK, ← eV, ← eD]
  simp only [outsAt0]
  exact out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) hQ hK (ix2 q j)

/-- Result array 0 after the run. -/
theorem array4 : (dats m 0 c).arrAt 4 cfg0.N = gradQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t hf y => ?_
  have ht : t.val < 8 := t.isLt
  obtain ⟨q, j, rfl⟩ : ∃ (q : Fin 2048) (j : Fin 256), y = (ix2 q j : S2048x256.Idx) := ⟨y 0, y 1, (ix2_eta (n0 := 2048) (n1 := 256) y).symm⟩
  have e : (win0_4.blk t).view.emb (ix2 q j) = (ix2 q ⟨256 * t.val + j.val, by omega⟩ : S2048x2048.Idx) := by
    obtain ⟨e0, e1, e2, e3, e4, e5, e6⟩ := idx_facts t
    blk_ext [e4]
  blk_simp
  rw [after0_4, e]
  exact written4 m c h0 h1 h2 h3 t q j _ rfl

/-- What grid point `t` writes to result array 1. -/
theorem written5 (t : Fin cfg0.N) (q : Fin 2048) (j : Fin 256) (i : Fin 2048) (hi : i.val = 256 * t.val + j.val) :
    (outsAt0 m c t).2.1 (ix2 q j) = gradK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 q i) := by
  have eQ : mat (iblk m c 0 t) = headQ (m ((c : Thread nD τ).loc main_arg0)) (m ((c : Thread nD τ).loc main_arg1)) ⟨t.val, t.isLt⟩ := funext₂ (block0 m c t)
  have eK : mat (iblk m c 1 t) = headK (m ((c : Thread nD τ).loc main_arg2)) (m ((c : Thread nD τ).loc main_arg3)) ⟨t.val, t.isLt⟩ := funext₂ (block1 m c t)
  have eV : mat (iblk m c 2 t) = headV (m ((c : Thread nD τ).loc main_arg4)) ⟨t.val, t.isLt⟩ := funext₂ (block2 m c t)
  have eD : mat (iblk m c 3 t) = headD (m ((c : Thread nD τ).loc main_arg5)) ⟨t.val, t.isLt⟩ := funext₂ (block3 m c t)
  have hQ : ∀ q j, IsReal (mat (iblk m c 0 t) q j) := by rw [eQ]; exact headQ_real h0 h1 _
  have hK : ∀ q j, IsReal (mat (iblk m c 1 t) q j) := by rw [eK]; exact headK_real h2 h3 _
  rw [gradK_at _ _ _ _ _ _ q ⟨t.val, t.isLt⟩ j i hi, ← eQ, ← eK, ← eV, ← eD]
  simp only [outsAt0]
  exact out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) hQ hK (ix2 q j)

/-- Result array 1 after the run. -/
theorem array5 : (dats m 0 c).arrAt 5 cfg0.N = gradK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  have ht : t.val < 8 := t.isLt
  obtain ⟨q, j, rfl⟩ : ∃ (q : Fin 2048) (j : Fin 256), y = (ix2 q j : S2048x256.Idx) := ⟨y 0, y 1, (ix2_eta (n0 := 2048) (n1 := 256) y).symm⟩
  have e : (win0_5.blk t).view.emb (ix2 q j) = (ix2 q ⟨256 * t.val + j.val, by omega⟩ : S2048x2048.Idx) := by
    obtain ⟨e0, e1, e2, e3, e4, e5, e6⟩ := idx_facts t
    blk_ext [e5]
  blk_simp
  rw [after0_5, e]
  exact written5 m c h0 h1 h2 h3 t q j _ rfl

/-- What grid point `t` writes to result array 2. -/
theorem written6 (t : Fin cfg0.N) (q : Fin 2048) (j : Fin 128) (i : Fin 1024) (hi : i.val = 128 * t.val + j.val) :
    (outsAt0 m c t).2.2 (ix2 q j) = gradV (m ((c : Thread nD τ).loc main_arg0)) (m ((c : Thread nD τ).loc main_arg1)) (m ((c : Thread nD τ).loc main_arg2)) (m ((c : Thread nD τ).loc main_arg3)) (m ((c : Thread nD τ).loc main_arg5)) (ix2 q i) := by
  have eQ : mat (iblk m c 0 t) = headQ (m ((c : Thread nD τ).loc main_arg0)) (m ((c : Thread nD τ).loc main_arg1)) ⟨t.val, t.isLt⟩ := funext₂ (block0 m c t)
  have eK : mat (iblk m c 1 t) = headK (m ((c : Thread nD τ).loc main_arg2)) (m ((c : Thread nD τ).loc main_arg3)) ⟨t.val, t.isLt⟩ := funext₂ (block1 m c t)
  have eV : mat (iblk m c 2 t) = headV (m ((c : Thread nD τ).loc main_arg4)) ⟨t.val, t.isLt⟩ := funext₂ (block2 m c t)
  have eD : mat (iblk m c 3 t) = headD (m ((c : Thread nD τ).loc main_arg5)) ⟨t.val, t.isLt⟩ := funext₂ (block3 m c t)
  have hQ : ∀ q j, IsReal (mat (iblk m c 0 t) q j) := by rw [eQ]; exact headQ_real h0 h1 _
  have hK : ∀ q j, IsReal (mat (iblk m c 1 t) q j) := by rw [eK]; exact headK_real h2 h3 _
  rw [gradV_at _ _ _ _ _ q ⟨t.val, t.isLt⟩ j i hi, ← eQ, ← eK, ← eD]
  simp only [outsAt0]
  exact out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) hQ hK (ix2 q j)

/-- Result array 2 after the run. -/
theorem array6 : (dats m 0 c).arrAt 6 cfg0.N = gradV (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 6 _ (by decide +kernel) fun t hf y => ?_
  have ht : t.val < 8 := t.isLt
  obtain ⟨q, j, rfl⟩ : ∃ (q : Fin 2048) (j : Fin 128), y = (ix2 q j : S2048x128.Idx) := ⟨y 0, y 1, (ix2_eta (n0 := 2048) (n1 := 128) y).symm⟩
  have e : (win0_6.blk t).view.emb (ix2 q j) = (ix2 q ⟨128 * t.val + j.val, by omega⟩ : S2048x1024.Idx) := by
    obtain ⟨e0, e1, e2, e3, e4, e5, e6⟩ := idx_facts t
    blk_ext [e6]
  blk_simp
  rw [after0_6, e]
  exact written6 m c h0 h1 h2 h3 t q j _ rfl

end

end Cert.KernelIdeal.Attn
end
-- ==== Proof.Ref.lean ====
module

public import proofs.«01_k».proof.Proof.Heads
public import proofs.«01_k».proof.Proof.Gen.ReferenceIdeal.Read
public import Idealize.ShloMosaic.Lib.WordCmp

@[expose] public section

/-!
  The reference's stages read at an index: each is the plain attention's quantity of one head, and the three results
  are the heads' gradients.
-/

set_option maxRecDepth 16384

noncomputable section

namespace Cert.ReferenceIdeal.Attn

open Cert.ReferenceIdeal Cert.ReferenceIdeal.Gen Cert.ReferenceIdeal.Read Cert.Attn Idealize.ShloMosaic Idealize.ShloMosaic.StableHlo

/-- The chunk of a position, as the words compute it. -/
theorem chunk_words : ∀ k : Fin 2048,
    Scalar.select (IntOp.andi
        (IntOp.cmpi .ne (if BitVec.ofNat 32 k.val = 0 then (0 : BitVec 32) else if (BitVec.ofNat 32 k.val).msb then -1 else 1)
          (if (64#32 : BitVec 32) = 0 then (0 : BitVec 32) else if (64#32 : BitVec 32).msb then -1 else 1))
        (IntOp.cmpi .ne (IntOp.remsi .host (BitVec.ofNat 32 k.val) 64#32) 0#32))
      (IntOp.subi (IntOp.divsi .host (BitVec.ofNat 32 k.val) 64#32) 1#32) (IntOp.divsi .host (BitVec.ofNat 32 k.val) 64#32)
      = BitVec.ofNat 32 (k.val / 64) := by
  decide +kernel

theorem chunk_apply (i : S2048.Idx) : val_main_v14 (F := Ideal) i = BitVec.ofNat 32 ((i 0).val / 64) :=
  chunk_words (i 0)

/-- The mask's bit: the key's chunk is not after the query's. -/
theorem mask_apply (h : Fin 8) (q k : Fin 2048) :
    val_main_v21_1 (F := Ideal) (ix3 h q k) = BitVec.ofBool (decide (Sees q k)) := by
  rw [val_main_v21_1_apply, val_main_v20_apply, val_main_v19_apply, val_main_v17_apply, val_main_v18_apply,
    val_main_v15_apply, val_main_v16_apply, chunk_apply, chunk_apply]
  have hq := q.isLt
  have hk := k.isLt
  show IntOp.cmpi .sle (BitVec.ofNat 32 (k.val / 64)) (BitVec.ofNat 32 (q.val / 64)) = _
  rw [WordCmp.cmpi_sle_ofNat (by omega) (by omega)]

theorem select_ofBool {p : Prop} [Decidable p] (x y : EReal) :
    Scalar.select (BitVec.ofBool (decide p)) x y = if p then x else y := by
  by_cases h : p <;> simp [Scalar.select, h]

theorem neg_inf : (FloatOps.ofBits .f32 0xFF800000#32 : Ideal .f32) = ⊥ := by
  show Ideal.ofBits .f32 _ = _
  simp [Ideal.ofBits, Ideal.ieee]

theorem zero_bits : (FloatOps.ofBits .f32 0x00000000#32 : Ideal .f32) = 0 := Ideal.ofBits_zero_f32

theorem nope_lt (c : Fin 128) : c.val < 256 := by omega
theorem rope_lt (c : Fin 64) : 128 + c.val < 256 := by omega
theorem pad_lt (c : Fin 64) : 128 + (64 + c.val) < 256 := by omega

/-- A sum over a head's 256 columns, by its three parts. -/
theorem sum_cols (f : Fin 256 → EReal) : ∑ c, f c = (∑ c : Fin 128, f ⟨c.val, nope_lt c⟩)
    + ((∑ c : Fin 64, f ⟨128 + c.val, rope_lt c⟩)
      + ∑ c : Fin 64, f ⟨128 + (64 + c.val), pad_lt c⟩) :=
  (Fin.sum_univ_add (a := 128) (b := 128) f).trans
    (congrArg₂ (· + ·) rfl (Fin.sum_univ_add (a := 64) (b := 64) fun c => f (Fin.natAdd 128 c)))

section columns
variable (qn : Nope) (qp : Rope) (kn : Nope) (kp : RopeK) (h : Fin 8) (q : Fin 2048)

theorem headQ_nope (c : Fin 128) (hc) : headQ qn qp h q ⟨c.val, hc⟩ = qn (ix3 q h c) := dif_pos c.isLt

theorem headK_nope (c : Fin 128) (hc) : headK kn kp h q ⟨c.val, hc⟩ = kn (ix3 q h c) := dif_pos c.isLt

theorem headQ_rope (c : Fin 64) (hc) : headQ qn qp h q ⟨128 + c.val, hc⟩ = qp (ix3 q h c) := by
  have e : ∀ h', (⟨128 + c.val - 128, h'⟩ : Fin 64) = c := fun h' => Fin.ext (by show 128 + c.val - 128 = c.val; omega)
  unfold headQ
  rw [dif_neg (by show ¬ 128 + c.val < 128; omega), dif_pos (by show 128 + c.val - 128 < 64; omega), e]

theorem headK_rope (c : Fin 64) (hc) : headK kn kp h q ⟨128 + c.val, hc⟩ = kp (ix2 q c) := by
  have e : ∀ h', (⟨128 + c.val - 128, h'⟩ : Fin 64) = c := fun h' => Fin.ext (by show 128 + c.val - 128 = c.val; omega)
  unfold headK
  rw [dif_neg (by show ¬ 128 + c.val < 128; omega), dif_pos (by show 128 + c.val - 128 < 64; omega), e]

theorem headQ_pad (c : Fin 64) (hc) : headQ qn qp h q ⟨128 + (64 + c.val), hc⟩ = 0 := by
  unfold headQ
  rw [dif_neg (by show ¬ 128 + (64 + c.val) < 128; omega), dif_neg (by show ¬ 128 + (64 + c.val) - 128 < 64; omega)]

theorem headK_pad (c : Fin 64) (hc) : headK kn kp h q ⟨128 + (64 + c.val), hc⟩ = 0 := by
  unfold headK
  rw [dif_neg (by show ¬ 128 + (64 + c.val) < 128; omega), dif_neg (by show ¬ 128 + (64 + c.val) - 128 < 64; omega)]

/-- A head's score is the sum over 128 columns and over the 64 rotary columns. -/
theorem headQK (k : Fin 2048) :
    (∑ c, headQ qn qp h q c * headK kn kp h k c)
      = (∑ c : Fin 128, qn (ix3 q h c) * kn (ix3 k h c)) + ∑ c : Fin 64, qp (ix3 q h c) * kp (ix2 k c) := by
  rw [sum_cols]
  simp only [headQ_nope, headK_nope, headQ_rope, headK_rope, headQ_pad, zero_mul, Finset.sum_const_zero, add_zero]

end columns

variable (x0 : Nope) (x1 : Rope) (x2 : Nope) (x3 : RopeK) (x4 : Nope) (x5 : Cot)

theorem masked_apply (h : Fin 8) (q k : Fin 2048) :
    val_main_v21_0 (F := Ideal) x0 x1 x2 x3 (ix3 h q k) = score (headQ x0 x1 h) (headK x2 x3 h) q k := by
  rw [val_main_v21_0_apply, mask_apply, select_ofBool, score, headQK, val_main_call1_v2_apply, val_main_call1_v0_apply,
    val_main_cst_0_apply, neg_inf]
  congr 1
  rw [val_main_v12_apply, val_main_v10_apply, val_main_v11_apply, val_main_cst_apply, val_main_v8_apply, val_main_v9_apply]
  simp only [val_main_v0_apply, val_main_v1_apply, val_main_v2_apply, val_main_v7_apply, val_main_v6_apply, val_main_v3_apply]
  have e1 : ∀ c, lidx_main_v8 (ix3 h q k) c = ix3 q h c := fun c => by funext a; fin_cases a <;> rfl
  have e2 : ∀ c, ridx_main_v8 (ix3 h q k) c = ix3 k h c := fun c => by funext a; fin_cases a <;> rfl
  have e3 : ∀ c, lidx_main_v9 (ix3 h q k) c = ix3 q h c := fun c => by funext a; fin_cases a <;> rfl
  have e4 : ∀ c, idx_main_v6 (idx_main_v7 (ridx_main_v9 (ix3 h q k) c)) = ix2 k c := fun c => by funext a; fin_cases a <;> rfl
  simp only [e1, e2, e3, e4]
  rfl

theorem top_apply (h : Fin 8) (q : Fin 2048) :
    val_main_v29 (F := Ideal) x0 x1 x2 x3 (ix2 h q) = top (headQ x0 x1 h) (headK x2 x3 h) q := by
  rw [val_main_v29_apply, val_main_v28_apply, val_main_cst_3_apply, neg_inf]
  pointwise [val_main_v22]
  rw [max_eq_right bot_le, show val_main_cst_1 (F := Ideal) (Shape.Idx.first h_S_) = ⊥ from neg_inf]
  simp only [masked_apply]
  rfl

theorem ex_apply (h : Fin 8) (q k : Fin 2048) :
    val_main_v42 (F := Ideal) x0 x1 x2 x3 (ix3 h q k) = ex (headQ x0 x1 h) (headK x2 x3 h) q k := by
  rw [val_main_v42_apply, val_main_v41_apply, masked_apply, val_main_v40_apply, val_main_v39_apply]
  have e : idx_main_v39 (idx_main_v40 (ix3 h q k)) = ix2 h q := by funext a; fin_cases a <;> rfl
  rw [e, top_apply]
  rfl

theorem den_apply (h : Fin 8) (q : Fin 2048) :
    val_main_v43 (F := Ideal) x0 x1 x2 x3 (ix2 h q) = den (headQ x0 x1 h) (headK x2 x3 h) q := by
  rw [val_main_v43_apply, val_main_cst_9_apply, zero_bits, zero_add]
  have e : ∀ k, idx_main_v43 (ix2 h q) k = ix3 h q k := fun k => by funext a; fin_cases a <;> rfl
  simp only [e, ex_apply]
  rfl

theorem denCol_apply (h : Fin 8) (q : Fin 2048) (z : Fin 1) :
    val_main_v44 (F := Ideal) x0 x1 x2 x3 (ix3 h q z) = den (headQ x0 x1 h) (headK x2 x3 h) q := by
  rw [val_main_v44_apply, ← den_apply]
  congr 1
  funext a; fin_cases a <;> rfl

theorem prob_apply (h : Fin 8) (q k : Fin 2048) :
    val_main_v46 (F := Ideal) x0 x1 x2 x3 (ix3 h q k) = prob (headQ x0 x1 h) (headK x2 x3 h) q k := by
  rw [val_main_v46_apply, val_main_v45_apply, ex_apply]
  have e : idx_main_v45 (ix3 h q k) = ix3 h q 0 := by funext a; fin_cases a <;> rfl
  rw [e, denCol_apply]
  rfl

/-- The cotangent of the output, by head. -/
theorem cot_apply (h : Fin 8) (c : Fin 128) (q : Fin 2048) :
    val_main_v54 (F := Ideal) x5 (ix3 h c q) = headD x5 h q c := by
  have h1 := h.isLt
  have h2 := c.isLt
  have h3 := q.isLt
  pointwise [val_main_v54, val_main_v53, val_main_v5, headD]
  exact congrArg x5 (congrArg (ix2 q) (Fin.ext (by show h.val * 128 + c.val = 128 * h.val + c.val; omega)))

theorem dprob_apply (h : Fin 8) (q k : Fin 2048) :
    val_main_v55 (F := Ideal) x4 x5 (ix3 h q k) = dprob (headV x4 h) (headD x5 h) q k := by
  rw [val_main_v55_apply]
  have e1 : ∀ c, lidx_main_v55 (ix3 h q k) c = ix3 h c q := fun c => by funext a; fin_cases a <;> rfl
  have e2 : ∀ c, ridx_main_v55 (ix3 h q k) c = ix3 k h c := fun c => by funext a; fin_cases a <;> rfl
  simp only [e1, e2, cot_apply, val_main_v4_apply]
  rfl

theorem inv_apply (h : Fin 8) (q : Fin 2048) (z : Fin 1) :
    val_main_v49 (F := Ideal) x0 x1 x2 x3 (ix3 h q z)
      = Ideal.div 1 (den (headQ x0 x1 h) (headK x2 x3 h) q * den (headQ x0 x1 h) (headK x2 x3 h) q) := by
  rw [val_main_v49_apply, val_main_v48_apply, val_main_cst_10_apply, val_main_v47_apply, denCol_apply,
    show (FloatOps.ofBits .f32 0x3F800000#32 : Ideal .f32) = 1 from Ideal.ofBits_one_f32]
  rfl

theorem rowSum_apply (h : Fin 8) (q : Fin 2048) :
    val_main_v61 (F := Ideal) x0 x1 x2 x3 x4 x5 (ix2 h q)
      = ∑ j, dprob (headV x4 h) (headD x5 h) q j
          * Ideal.div 1 (den (headQ x0 x1 h) (headK x2 x3 h) q * den (headQ x0 x1 h) (headK x2 x3 h) q)
          * ex (headQ x0 x1 h) (headK x2 x3 h) q j := by
  rw [val_main_v61_apply, val_main_cst_11_apply, zero_bits, zero_add]
  have e : ∀ k, idx_main_v61 (ix2 h q) k = ix3 h q k := fun k => by funext a; fin_cases a <;> rfl
  have e2 : ∀ k, idx_main_v58 (ix3 h q k) = ix3 h q 0 := fun k => by funext a; fin_cases a <;> rfl
  simp only [e, val_main_v60_apply, val_main_v59_apply, val_main_v58_apply, e2, inv_apply, dprob_apply, ex_apply]
  rfl

theorem negSum_apply (h : Fin 8) (q : Fin 2048) :
    val_main_v66 (F := Ideal) x0 x1 x2 x3 x4 x5 (ix2 h q) = -val_main_v61 (F := Ideal) x0 x1 x2 x3 x4 x5 (ix2 h q) := by
  rw [val_main_v66_apply, val_main_cst_12_apply, zero_bits, zero_add, Fin.sum_univ_one, val_main_v63_apply, val_main_v62_apply]
  have e : idx_main_v62 (idx_main_v66 (ix2 h q) 0) = ix2 h q := by
    have h1 := h.isLt
    have h2 := q.isLt
    funext a; fin_cases a
    · refine Fin.ext ?_
      show ((h.val * 2048 + q.val) * 1 + 0) / 2048 = h.val
      omega
    · refine Fin.ext ?_
      show ((h.val * 2048 + q.val) * 1 + 0) % 2048 = q.val
      omega
  rw [e]
  rfl

section real
variable {x0 x1 x2 x3}
variable (h0 : ∀ i, IsReal (x0 i)) (h1 : ∀ i, IsReal (x1 i)) (h2 : ∀ i, IsReal (x2 i)) (h3 : ∀ i, IsReal (x3 i))
include h0 h1 h2 h3

theorem ds_apply (h : Fin 8) (q k : Fin 2048) :
    val_main_v72 (F := Ideal) x0 x1 x2 x3 x4 x5 (ix3 h q k)
      = ds (headQ x0 x1 h) (headK x2 x3 h) (headV x4 h) (headD x5 h) q k := by
  rw [← ds_eq (headV x4 h) (headD x5 h) (headQ_real h0 h1 h) (headK_real h2 h3 h), ← rowSum_apply, ← negSum_apply,
    val_main_v72_apply, val_main_v70_apply, mask_apply, select_ofBool, val_main_v71_apply, val_main_cst_13_apply,
    val_main_call2_v0_apply, val_main_call2_cst_apply, zero_bits, val_main_v69_apply, val_main_v68_apply, val_main_v65_apply,
    val_main_v64_apply, val_main_v67_apply, ex_apply, dprob_apply]
  have e1 : idx_main_v64 (ix3 h q k) = ix3 h q 0 := by funext a; fin_cases a <;> rfl
  have e2 : idx_main_v67 (ix3 h q k) = ix2 h q := by funext a; fin_cases a <;> rfl
  rw [e1, e2, denCol_apply]
  rfl

theorem dqn_apply (q : Fin 2048) (h : Fin 8) (c : Fin 128) :
    val_main_v80 (F := Ideal) x0 x1 x2 x3 x4 x5 (ix3 q h c)
      = dq (headQ x0 x1 h) (headK x2 x3 h) (headV x4 h) (headD x5 h) q ⟨c.val, nope_lt c⟩ := by
  rw [val_main_v80_apply]
  have e : idx_main_v80 (ix3 q h c) = ix3 h q c := by funext a; fin_cases a <;> rfl
  rw [e, val_main_v79_apply]
  have e1 : ∀ k, lidx_main_v79 (ix3 h q c) k = ix3 h q k := fun k => by funext a; fin_cases a <;> rfl
  have e2 : ∀ k, ridx_main_v79 (ix3 h q c) k = ix3 k h c := fun k => by funext a; fin_cases a <;> rfl
  simp only [e1, e2, ds_apply x4 x5 h0 h1 h2 h3, val_main_v2_apply, dq, headK_nope]
  rfl

theorem dqp_apply (q : Fin 2048) (h : Fin 8) (c : Fin 64) :
    val_main_v76 (F := Ideal) x0 x1 x2 x3 x4 x5 (ix3 q h c)
      = dq (headQ x0 x1 h) (headK x2 x3 h) (headV x4 h) (headD x5 h) q ⟨128 + c.val, rope_lt c⟩ := by
  rw [val_main_v76_apply]
  have e : idx_main_v76 (ix3 q h c) = ix3 h q c := by funext a; fin_cases a <;> rfl
  rw [e, val_main_v75_apply]
  have e1 : ∀ k, lidx_main_v75 (ix3 h q c) k = ix3 h q k := fun k => by funext a; fin_cases a <;> rfl
  have e2 : ∀ k, idx_main_v6 (idx_main_v7 (ridx_main_v75 (ix3 h q c) k)) = ix2 k c := fun k => by funext a; fin_cases a <;> rfl
  simp only [e1, e2, ds_apply x4 x5 h0 h1 h2 h3, val_main_v7_apply, val_main_v6_apply, val_main_v3_apply, dq, headK_rope]
  rfl

theorem dkn_apply (k : Fin 2048) (h : Fin 8) (c : Fin 128) :
    val_main_v78 (F := Ideal) x0 x1 x2 x3 x4 x5 (ix3 k h c)
      = dk (headQ x0 x1 h) (headK x2 x3 h) (headV x4 h) (headD x5 h) k ⟨c.val, nope_lt c⟩ := by
  rw [val_main_v78_apply]
  have e : idx_main_v78 (ix3 k h c) = ix3 h k c := by funext a; fin_cases a <;> rfl
  rw [e, val_main_v77_apply]
  have e1 : ∀ q, lidx_main_v77 (ix3 h k c) q = ix3 h q k := fun q => by funext a; fin_cases a <;> rfl
  have e2 : ∀ q, ridx_main_v77 (ix3 h k c) q = ix3 q h c := fun q => by funext a; fin_cases a <;> rfl
  simp only [e1, e2, ds_apply x4 x5 h0 h1 h2 h3, val_main_v0_apply, dk, headQ_nope]
  rfl

theorem dkp_apply (k : Fin 2048) (h : Fin 8) (c : Fin 64) :
    val_main_v74 (F := Ideal) x0 x1 x2 x3 x4 x5 (ix3 k h c)
      = dk (headQ x0 x1 h) (headK x2 x3 h) (headV x4 h) (headD x5 h) k ⟨128 + c.val, rope_lt c⟩ := by
  rw [val_main_v74_apply]
  have e : idx_main_v74 (ix3 k h c) = ix3 h k c := by funext a; fin_cases a <;> rfl
  rw [e, val_main_v73_apply]
  have e1 : ∀ q, lidx_main_v73 (ix3 h k c) q = ix3 h q k := fun q => by funext a; fin_cases a <;> rfl
  have e2 : ∀ q, ridx_main_v73 (ix3 h k c) q = ix3 q h c := fun q => by funext a; fin_cases a <;> rfl
  simp only [e1, e2, ds_apply x4 x5 h0 h1 h2 h3, val_main_v1_apply, dk, headQ_rope]
  rfl

omit h0 h1 h2 h3 in
/-- The last 64 columns of a gradient are zero. -/
theorem dq_pad (h : Fin 8) (q : Fin 2048) (c : Fin 64) (hc) :
    dq (headQ x0 x1 h) (headK x2 x3 h) (headV x4 h) (headD x5 h) q ⟨128 + (64 + c.val), hc⟩ = 0 := by
  simp only [dq, headK_pad, mul_zero, Finset.sum_const_zero]

omit h0 h1 h2 h3 in
theorem dk_pad (h : Fin 8) (k : Fin 2048) (c : Fin 64) (hc) :
    dk (headQ x0 x1 h) (headK x2 x3 h) (headV x4 h) (headD x5 h) k ⟨128 + (64 + c.val), hc⟩ = 0 := by
  simp only [dk, headQ_pad, mul_zero, Finset.sum_const_zero]

/-- The reference's first result is the queries' gradient. -/
theorem gradQ_ref : val_main_v86 (F := Ideal) x0 x1 x2 x3 x4 x5 = gradQ x0 x1 x2 x3 x4 x5 := by
  funext y
  obtain ⟨q, i, rfl⟩ : ∃ (q : Fin 2048) (i : Fin 2048), y = (ix2 q i : S2048x2048.Idx) := ⟨y 0, y 1, (ix2_eta (n0 := 2048) (n1 := 2048) y).symm⟩
  have hi := i.isLt
  rw [gradQ_at _ _ _ _ _ _ q ⟨i.val / 256, by omega⟩ ⟨i.val % 256, by omega⟩ i (by show i.val = 256 * (i.val / 256) + i.val % 256; omega)]
  pointwise [val_main_v86, val_main_v83, val_main_v82]
  split
  · rename_i hj
    exact dqn_apply x4 x5 h0 h1 h2 h3 q _ ⟨i.val % 256, hj⟩
  · split
    · rename_i hj hj'
      refine (dqp_apply x4 x5 h0 h1 h2 h3 q _ ⟨i.val % 256 - 128, hj'⟩).trans (congrArg _ (Fin.ext ?_))
      show 128 + (i.val % 256 - 128) = i.val % 256
      omega
    · rename_i hj hj'
      refine (zero_bits.trans (dq_pad x4 x5 _ q ⟨i.val % 256 - 128 - 64, by omega⟩ (pad_lt _)).symm).trans (congrArg _ (Fin.ext ?_))
      show 128 + (64 + (i.val % 256 - 128 - 64)) = i.val % 256
      omega

/-- The reference's second result is the keys' gradient. -/
theorem gradK_ref : val_main_v87 (F := Ideal) x0 x1 x2 x3 x4 x5 = gradK x0 x1 x2 x3 x4 x5 := by
  funext y
  obtain ⟨q, i, rfl⟩ : ∃ (q : Fin 2048) (i : Fin 2048), y = (ix2 q i : S2048x2048.Idx) := ⟨y 0, y 1, (ix2_eta (n0 := 2048) (n1 := 2048) y).symm⟩
  have hi := i.isLt
  rw [gradK_at _ _ _ _ _ _ q ⟨i.val / 256, by omega⟩ ⟨i.val % 256, by omega⟩ i (by show i.val = 256 * (i.val / 256) + i.val % 256; omega)]
  pointwise [val_main_v87, val_main_v85, val_main_v84]
  split
  · rename_i hj
    exact dkn_apply x4 x5 h0 h1 h2 h3 q _ ⟨i.val % 256, hj⟩
  · split
    · rename_i hj hj'
      refine (dkp_apply x4 x5 h0 h1 h2 h3 q _ ⟨i.val % 256 - 128, hj'⟩).trans (congrArg _ (Fin.ext ?_))
      show 128 + (i.val % 256 - 128) = i.val % 256
      omega
    · rename_i hj hj'
      refine (zero_bits.trans (dk_pad x4 x5 _ q ⟨i.val % 256 - 128 - 64, by omega⟩ (pad_lt _)).symm).trans (congrArg _ (Fin.ext ?_))
      show 128 + (64 + (i.val % 256 - 128 - 64)) = i.val % 256
      omega

omit h0 h1 h2 h3 in
/-- The reference's third result is the values' gradient. -/
theorem gradV_ref : val_main_v89 (F := Ideal) x0 x1 x2 x3 x5 = gradV x0 x1 x2 x3 x5 := by
  funext y
  obtain ⟨q, i, rfl⟩ : ∃ (q : Fin 2048) (i : Fin 1024), y = (ix2 q i : S2048x1024.Idx) := ⟨y 0, y 1, (ix2_eta (n0 := 2048) (n1 := 1024) y).symm⟩
  have hi := i.isLt
  rw [gradV_at _ _ _ _ _ q ⟨i.val / 128, by omega⟩ ⟨i.val % 128, by omega⟩ i (by show i.val = 128 * (i.val / 128) + i.val % 128; omega)]
  pointwise [val_main_v89, val_main_v88]
  rw [val_main_v57_apply]
  have e : ∀ (h : Fin 8) (c : Fin 128), idx_main_v57 (ix3 q h c) = ix3 h c q := fun h c => by funext a; fin_cases a <;> rfl
  rw [e, val_main_v56_apply]
  have e1 : ∀ (h : Fin 8) (c : Fin 128) k, lidx_main_v56 (ix3 h c q) k = ix3 h c k := fun h c k => by funext a; fin_cases a <;> rfl
  have e2 : ∀ (h : Fin 8) (c : Fin 128) k, ridx_main_v56 (ix3 h c q) k = ix3 h k q := fun h c k => by funext a; fin_cases a <;> rfl
  simp only [e1, e2, cot_apply, prob_apply, dv]
  exact Finset.sum_congr rfl fun k _ => mul_comm _ _

end real
end Cert.ReferenceIdeal.Attn
end
-- ==== Proof.Pre.lean ====
module

public import proofs.«01_k».proof.Proof.Spec
public import proofs.«01_k».proof.Pre_finite_qk
public import Idealize.ShloMosaic.Lib.ReduceAll
public import Idealize.ShloMosaic.PureOps.Ideal.Laws

@[expose] public section

/-!
  What the precondition says: every entry of the queries and of the keys is a real number.
-/

noncomputable section

namespace Cert.Pre_finite_qk

open Cert.Attn Idealize.ShloMosaic

theorem facts : Facts := ⟨by decide, by decide, by decide, by decide, by decide, by decide, by decide, by decide⟩

instance : Subsingleton S_.Idx := ⟨fun a b => funext fun i => i.elim0⟩

theorem real_of_lt (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable [Facts]

theorem real_args (a0 : FVec Ideal S2048x8x128 .bf16) (a1 : FVec Ideal S2048x8x64 .bf16) (a2 : FVec Ideal S2048x8x128 .bf16)
    (a3 : FVec Ideal S2048x64 .bf16) (a4 : FVec Ideal S2048x8x128 .bf16) (a5 : FVec Ideal S2048x1024 .bf16) (j : S_.Idx)
    (h : fn (F := Ideal) a0 a1 a2 a3 a4 a5 j = 1#1) :
    (∀ i, IsReal (a0 i)) ∧ (∀ i, IsReal (a1 i)) ∧ (∀ i, IsReal (a2 i)) ∧ ∀ i, IsReal (a3 i) := by
  dsimp only [fn, fn_part1] at h
  obtain ⟨h, e3⟩ := IntOp.andi_eq_one.1 h
  obtain ⟨h, e2⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e2 i), fun i => real_of_lt _ (Host.reduce_andi_all _ _ _ _ j e3 i)⟩

instance holdsFacts : Facts := facts

end Cert.Pre_finite_qk
end
-- ==== Proof.AttnClaims.lean ====
module

public import proofs.«01_k».proof.Defs
public import proofs.«01_k».proof.Proof.Gen.Kernel.Frame
public import proofs.«01_k».proof.Proof.Gen.KernelIdeal.Value
public import proofs.«01_k».proof.Proof.Run
public import proofs.«01_k».proof.Proof.Ref
public import proofs.«01_k».proof.Proof.Pre
public import Idealize.ShloMosaic.Lib.Quiescent

@[expose] public section

/-!
  The claims about the attention's backward call.
-/

noncomputable section

namespace Cert.Proof.AttnClaims

open Idealize.ShloMosaic Idealize.SL.Sem Cert.Attn

theorem frame_p : Cert.quiescent_Kernel := fun m ρ _ => Cert.Kernel.Gen.frame m ρ

theorem frame_pi : Cert.quiescent_KernelIdeal := fun m ρ _ => Cert.KernelIdeal.Gen.frame m ρ

/-- The reference ends with its arguments as they were; it has no counters. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_pi_pre : Cert.quiescent_KernelIdeal_pre_finite_qk := fun m ρ _ => Cert.KernelIdeal.Gen.frame m ρ

theorem frame_ri_pre : Cert.quiescent_ReferenceIdeal_pre_finite_qk := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results and the reference's are the same gradients. -/
theorem algebraic : Cert.algebraic_KernelIdeal_ReferenceIdeal_pre_finite_qk := by
  intro m ρ m' ρ' hp ha
  have hr := fun c => Cert.Pre_finite_qk.real_args _ _ _ _ _ _ _ (congrFun (hp c) (Shape.Idx.first Cert.Pre_finite_qk.Facts.h_S_))
  refine ⟨_, _, _, Cert.KernelIdeal.Value.run_blocks (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  all_goals
    obtain ⟨a0, a1, a2, a3, a4, a5⟩ := ha c
    obtain ⟨r0, r1, r2, r3⟩ := hr c
  · rw [Cert.ReferenceIdeal.Read.val_main_v86_eq, a0, a1, a2, a3, a4, a5]
    exact (Cert.ReferenceIdeal.Attn.gradQ_ref _ _ r0 r1 r2 r3).trans (Cert.KernelIdeal.Attn.array4 m c r0 r1 r2 r3).symm
  · rw [Cert.ReferenceIdeal.Read.val_main_v87_eq, a0, a1, a2, a3, a4, a5]
    exact (Cert.ReferenceIdeal.Attn.gradK_ref _ _ r0 r1 r2 r3).trans (Cert.KernelIdeal.Attn.array5 m c r0 r1 r2 r3).symm
  · rw [Cert.ReferenceIdeal.Read.val_main_v89_eq, a0, a1, a2, a3, a5]
    exact (Cert.ReferenceIdeal.Attn.gradV_ref _).trans (Cert.KernelIdeal.Attn.array6 m c r0 r1 r2 r3).symm

theorem preserves : Cert.preserves_Kernel_KernelIdeal :=
  IdealRules.named_const.statement Cert.KernelIdeal.κ "mask" .f32 0xF149F2CA#32 ⊥ rfl

end Cert.Proof.AttnClaims

end
-- ==== Proof.Sums.lean ====
module

public import Idealize.ShloMosaic.Lib.Pipeline.ValueKit
public import Idealize.ShloMosaic.Lib.Pipeline.ReadBack
public import Idealize.ShloMosaic.Lib.Pointwise

@[expose] public section

/-!
  Sums of products of extended reals, term by term.
-/

noncomputable section

namespace Cert.Sums

/-- Two products of a row and a column agree where the factors do. -/
theorem dot_congr {n : ℕ} {f f' g g' : Fin n → EReal} (hf : ∀ k, f k = f' k) (hg : ∀ k, g k = g' k) : ∑ k, f k * g k = ∑ k, f' k * g' k :=
  Finset.sum_congr rfl fun k _ => by rw [hf, hg]

/-- The same, with the factors in the other order. -/
theorem dot_congr_comm {n : ℕ} {f f' g g' : Fin n → EReal} (hf : ∀ k, f k = f' k) (hg : ∀ k, g k = g' k) :
    ∑ k, f k * g k = ∑ k, g' k * f' k :=
  Finset.sum_congr rfl fun k _ => by rw [hf, hg, mul_comm]

/-- A product with the ReLU of a number is the product where the number is positive, and zero elsewhere. -/
theorem mul_relu (a b h : EReal) : a * (b * max h 0) = if 0 < h then a * (b * max h 0) else 0 := by
  split_ifs with hp
  · rfl
  · rw [max_eq_right (not_lt.mp hp), mul_zero, mul_zero]

/-- Sums of equal terms are equal. -/
theorem sum_congr {n : ℕ} {f f' : Fin n → EReal} (hf : ∀ k, f k = f' k) : ∑ k, f k = ∑ k, f' k :=
  Finset.sum_congr rfl fun k _ => hf k

end Cert.Sums
end
-- ==== Proof.MlpUp.lean ====
module

public import proofs.«01_k».proof.Proof.Gen.MlpUpIdeal.Value
public import proofs.«01_k».proof.Proof.Gen.MlpUpRefIdeal.Read
public import proofs.«01_k».proof.Proof.Sums

@[expose] public section

/-!
  The MLP's first product: what the call's array holds after the run.
-/

set_option maxRecDepth 16384

noncomputable section

namespace Cert.MlpUpIdeal.Mlp

open Cert.MlpUpIdeal Cert.MlpUpIdeal.Gen Cert.MlpUpRefIdeal.Read Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, t.val] ∧ win0_2.index t = ![0, t.val] := by
  decide +kernel

theorem block0 (t : Fin cfg0.N) (q : Fin 2048) (j : Fin 1024) :
    iblk m c 0 t (ix2 q j) = m ((c : Thread nD τ).loc main_arg0) (ix2 q j) := by
  have e : (win0_0.blk t).view.emb (ix2 q j) = (ix2 q j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 1024) (j : Fin 1024) (i : Fin 4096) (hi : i.val = 1024 * t.val + j.val) :
    iblk m c 1 t (ix2 q j) = m ((c : Thread nD τ).loc main_arg1) (ix2 q i) := by
  have e : (win0_1.blk t).view.emb (ix2 q j) = (ix2 q i : S1024x4096.Idx) := by
    obtain ⟨e0, e1, e2⟩ := idx_facts t
    blk_ext [e1]
  show V m c main_v1 ((win0_1.blk t).view.emb (ix2 q j)) = _
  rw [e]
  rfl

/-- The result is the reference's product. -/
theorem array2 : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨q, j, rfl⟩ : ∃ (q : Fin 2048) (j : Fin 1024), y = (ix2 q j : S2048x1024.Idx) := ⟨y 0, y 1, (ix2_eta (n0 := 2048) (n1 := 1024) y).symm⟩
  have e : (win0_2.blk t).view.emb (ix2 q j) = (ix2 q ⟨1024 * t.val + j.val, by omega⟩ : S2048x4096.Idx) := by
    obtain ⟨e0, e1, e2⟩ := idx_facts t
    blk_ext [e2]
  blk_simp
  rw [after0_2, e]
  frame_out
  pointwise [k0_pay1, val_main_v1, val_main_v0]
  exact Cert.Sums.dot_congr (fun x => block0 m c t q x) (fun x => block1 m c t x j _ rfl)

end Cert.MlpUpIdeal.Mlp
end
-- ==== Proof.MlpDownLn.lean ====
module

public import proofs.«01_k».proof.Proof.Gen.MlpDownLnIdeal.Value
public import proofs.«01_k».proof.Proof.Gen.MlpDownLnRefIdeal.Read
public import proofs.«01_k».proof.Proof.Sums

@[expose] public section

/-!
  The MLP's second product with the residual and the layer norm after it: what the call's four arrays hold after
  the run.
-/

set_option maxRecDepth 16384

noncomputable section

namespace Cert.MlpDownLnIdeal.Mlp

open Cert.MlpDownLnIdeal Cert.MlpDownLnIdeal.Gen Cert.MlpDownLnRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![0, 0] ∧ win0_4.index t = ![0, 0] := by
  decide +kernel

theorem out_facts : ∀ t : Fin cfg0.N, win0_5.index t = ![t.val, 0] ∧ win0_6.index t = ![t.val, 0] ∧ win0_7.index t = ![t.val, 0]
    ∧ win0_8.index t = ![t.val, 0] := by
  decide +kernel

/-- The saved first product, read where the block lies. -/
theorem block0 (t : Fin cfg0.N) (q : Fin 512) (j : Fin 4096) (p : Fin 2048) (hp : p.val = 512 * t.val + q.val) :
    iblk m c 0 t (ix2 q j) = val_main_v2 (F := Ideal) (m ((c : Thread nD τ).loc main_arg0)) (m ((c : Thread nD τ).loc main_arg1)) (ix2 p j) := by
  have e : (win0_0.blk t).view.emb (ix2 q j) = (ix2 p j : S2048x4096.Idx) := by
    obtain ⟨e0, e1, e2, e3, e4⟩ := idx_facts t
    blk_ext [e0]
  show V m c main_v1 ((win0_0.blk t).view.emb (ix2 q j)) = _
  rw [e]
  rfl

theorem block1 (t : Fin cfg0.N) (q : Fin 4096) (j : Fin 1024) :
    iblk m c 1 t (ix2 q j) = m ((c : Thread nD τ).loc main_arg2) (ix2 q j) := by
  have e : (win0_1.blk t).view.emb (ix2 q j) = (ix2 q j : S4096x1024.Idx) := by
    obtain ⟨e0, e1, e2, e3, e4⟩ := idx_facts t
    blk_ext [e1]
  show V m c main_v2 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg0) (ix2 p j) := by
  have e : (win0_2.blk t).view.emb (ix2 q j) = (ix2 p j : S2048x1024.Idx) := by
    obtain ⟨e0, e1, e2, e3, e4⟩ := idx_facts t
    blk_ext [e2]
  show V m c main_arg0 ((win0_2.blk t).view.emb (ix2 q j)) = _
  rw [e]
  rfl

theorem block3 (t : Fin cfg0.N) (z : Fin 1) (j : Fin 1024) :
    iblk m c 3 t (ix2 z j) = m ((c : Thread nD τ).loc main_arg3) (ix2 z j) := by
  have e : (win0_3.blk t).view.emb (ix2 z j) = (ix2 z j : S1x1024.Idx) := by
    obtain ⟨e0, e1, e2, e3, e4⟩ := idx_facts t
    blk_ext [e3]
  show V m c main_arg3 ((win0_3.blk t).view.emb (ix2 z j)) = _
  rw [e]
  rfl

theorem block4 (t : Fin cfg0.N) (z : Fin 1) (j : Fin 1024) :
    iblk m c 4 t (ix2 z j) = m ((c : Thread nD τ).loc main_arg4) (ix2 z j) := by
  have e : (win0_4.blk t).view.emb (ix2 z j) = (ix2 z j : S1x1024.Idx) := by
    obtain ⟨e0, e1, e2, e3, e4⟩ := idx_facts t
    blk_ext [e4]
  show V m c main_arg4 ((win0_4.blk t).view.emb (ix2 z j)) = _
  rw [e]
  rfl

/-- A row of the kernel with its mean taken off is the reference's. -/
theorem centred (t : Fin cfg0.N) (q : Fin 512) (j : Fin 1024) (p : Fin 2048) (hp : p.val = 512 * t.val + q.val) :
    k0_pay1 (iblk m c 0 t) (iblk m c 1 t) (iblk m c 2 t) (ix2 q j) = val_main_v12 (F := Ideal) (m ((c : Thread nD τ).loc main_arg0))
      (m ((c : Thread nD τ).loc main_arg1)) (m ((c : Thread nD τ).loc main_arg2)) (ix2 p j) := by
  pointwise [k0_pay1, val_main_v12, val_main_v11, val_main_v10, val_main_v9, val_main_cst_1, val_main_v8, val_main_v7, val_main_cst_0, val_main_v6, val_main_v5, val_main_v4, val_main_v3, val_main_call0_v0, val_main_call0_cst, val_main_v1, val_main_v0, val_main_cst]
  refine congrArg₂ (fun a b : EReal => a - Ideal.div b (Ideal.ofBits FTy.f32 1149239296#32)) ?_ (sum_congr fun k => ?_)
  · rw [block2 m c t q j p hp]
    exact congrArg (_ + ·) (dot_congr (fun x => by rw [block0 m c t q x p hp]) (fun x => block1 m c t x j))
  · rw [block2 m c t q k p hp]
    exact congrArg (_ + ·) (dot_congr (fun x => by rw [block0 m c t q x p hp]) (fun x => block1 m c t x k))

theorem rstd (t : Fin cfg0.N) (q : Fin 512) (z : Fin 1) (p : Fin 2048) (hp : p.val = 512 * t.val + q.val) :
    k0_pay2 (iblk m c 0 t) (iblk m c 1 t) (iblk m c 2 t) (ix2 q z) = val_main_v42 (F := Ideal) (m ((c : Thread nD τ).loc main_arg0))
      (m ((c : Thread nD τ).loc main_arg1)) (m ((c : Thread nD τ).loc main_arg2)) (ix2 p z) := by
  pointwise [k0_pay2, val_main_v42, val_main_v41, val_main_v40, val_main_cst_9, val_main_v39, val_main_v38, val_main_cst_8, val_main_v37, val_main_v36, val_main_cst_7, val_main_v35]
  exact congrArg (fun s => Ideal.rsqrt (Ideal.div s _ + _)) (dot_congr (fun k => centred m c t q k p hp) (fun k => centred m c t q k p hp))

theorem xhat (t : Fin cfg0.N) (q : Fin 512) (j : Fin 1024) (p : Fin 2048) (hp : p.val = 512 * t.val + q.val) :
    k0_pay3 (iblk m c 0 t) (iblk m c 1 t) (iblk m c 2 t) (ix2 q j) = val_main_v47 (F := Ideal) (m ((c : Thread nD τ).loc main_arg0))
      (m ((c : Thread nD τ).loc main_arg1)) (m ((c : Thread nD τ).loc main_arg2)) (ix2 p j) := by
  pointwise [k0_pay3, val_main_v47, val_main_v46]
  exact congrArg₂ (· * ·) (centred m c t q j p hp) (rstd m c t q 0 p hp)

theorem normed (t : Fin cfg0.N) (q : Fin 512) (j : Fin 1024) (p : Fin 2048) (hp : p.val = 512 * t.val + q.val) :
    k0_pay4 (iblk m c 0 t) (iblk m c 1 t) (iblk m c 2 t) (iblk m c 3 t) (iblk m c 4 t) (ix2 q j) = val_main_v28 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) (ix2 p j) := by
  pointwise [k0_pay4, val_main_v28, val_main_v27, val_main_v26, val_main_v25]
  rw [xhat m c t q j p hp, block3, block4]
  rfl

/-- The layer norm's result is the reference's. -/
theorem array5 : (dats m 0 c).arrAt 5 cfg0.N = val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_5.blk t).view.emb (ix2 q j) = (ix2 p j : S2048x1024.Idx) := by
    obtain ⟨e5, e6, e7, e8⟩ := out_facts t
    blk_ext [e5]
  blk_simp
  rw [after0_5, e]
  frame_out
  exact normed m c t q j p hp

/-- Its rounding is the reference's. -/
theorem array6 : (dats m 0 c).arrAt 6 cfg0.N = val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e5, e6, e7, e8⟩ := out_facts t
    blk_ext [e6]
  blk_simp
  rw [after0_6, e]
  frame_out
  exact normed m c t q j p hp

/-- The normalised rows are the reference's. -/
theorem array7 : (dats m 0 c).arrAt 7 cfg0.N = val_main_v47 (F := Ideal) (m ((c : Thread nD τ).loc main_arg0)) (m ((c : Thread nD τ).loc main_arg1))
    (m ((c : Thread nD τ).loc main_arg2)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e5, e6, e7, e8⟩ := out_facts t
    blk_ext [e7]
  blk_simp
  rw [after0_7, e]
  frame_out
  exact xhat m c t q j p hp

/-- The rows' inverse deviations are the reference's. -/
theorem array8 : (dats m 0 c).arrAt 8 cfg0.N = val_main_v42 (F := Ideal) (m ((c : Thread nD τ).loc main_arg0)) (m ((c : Thread nD τ).loc main_arg1))
    (m ((c : Thread nD τ).loc main_arg2)) := by
  refine (dats m 0 c).arrAt_eq_of_covers 8 _ (by decide +kernel) fun t hf y => ?_
  have ht : t.val < 4 := t.isLt
  obtain ⟨q, z, rfl⟩ : ∃ (q : Fin 512) (z : Fin 1), y = (ix2 q z : S512x1.Idx) := ⟨y 0, y 1, (ix2_eta (n0 := 512) (n1 := 1) y).symm⟩
  obtain ⟨p, hp⟩ : ∃ p : Fin 2048, p.val = 512 * t.val + q.val := ⟨⟨_, by omega⟩, rfl⟩
  have e : (win0_8.blk t).view.emb (ix2 q z) = (ix2 p z : S2048x1.Idx) := by
    obtain ⟨e5, e6, e7, e8⟩ := out_facts t
    blk_ext [e8]
  blk_simp
  rw [after0_8, e]
  frame_out
  exact rstd m c t q z p hp

end Cert.MlpDownLnIdeal.Mlp
end
-- ==== Proof.MlpDownBwd.lean ====
module

public import proofs.«01_k».proof.Proof.Gen.MlpDownBwdIdeal.Value
public import proofs.«01_k».proof.Proof.Gen.MlpDownBwdRefIdeal.Read
public import proofs.«01_k».proof.Proof.Sums

@[expose] public section

/-!
  The gradient of the squared ReLU's argument: what the call's array holds after the run.
-/

set_option maxRecDepth 16384

noncomputable section

namespace Cert.MlpDownBwdIdeal.Mlp

open Cert.MlpDownBwdIdeal Cert.MlpDownBwdIdeal.Gen Cert.MlpDownBwdRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 4, 0] ∧ win0_1.index t = ![t.val % 4, 0]
    ∧ win0_2.index t = ![t.val / 4, t.val % 4] ∧ win0_3.index t = ![t.val / 4, t.val % 4] := by
  decide +kernel

theorem block0 (t : Fin cfg0.N) (q : Fin 1024) (j : Fin 1024) (p : Fin 2048) (hp : p.val = 1024 * (t.val / 4) + q.val) :
    iblk m c 0 t (ix2 q j) = m ((c : Thread nD τ).loc main_arg3) (ix2 p j) := by
  have e : (win0_0.blk t).view.emb (ix2 q j) = (ix2 p j : S2048x1024.Idx) := by
    obtain ⟨e0, e1, e2, e3⟩ := idx_facts t
    blk_ext [e0]
  show V m c main_v2 ((win0_0.blk t).view.emb (ix2 q j)) = _
  rw [e]
  rfl

theorem block1 (t : Fin cfg0.N) (q : Fin 1024) (j : Fin 1024) (p : Fin 4096) (hp : p.val = 1024 * (t.val % 4) + q.val) :
    iblk m c 1 t (ix2 q j) = m ((c : Thread nD τ).loc main_arg2) (ix2 p j) := by
  have e : (win0_1.blk t).view.emb (ix2 q j) = (ix2 p j : S4096x1024.Idx) := by
    obtain ⟨e0, e1, e2, e3⟩ := idx_facts t
    blk_ext [e1]
  show V m c main_v3 ((win0_1.blk t).view.emb (ix2 q j)) = _
  rw [e]
  rfl

/-- The saved first product, read where the block lies. -/
theorem block2 (t : Fin cfg0.N) (q : Fin 1024) (j : Fin 1024) (p : Fin 2048) (i : Fin 4096) (hp : p.val = 1024 * (t.val / 4) + q.val)
    (hi : i.val = 1024 * (t.val % 4) + j.val) :
    iblk m c 2 t (ix2 q j) = val_main_v0 (F := Ideal) (m ((c : Thread nD τ).loc main_arg0)) (m ((c : Thread nD τ).loc main_arg1)) (ix2 p i) := by
  have e : (win0_2.blk t).view.emb (ix2 q j) = (ix2 p i : S2048x4096.Idx) := by
    obtain ⟨e0, e1, e2, e3⟩ := idx_facts t
    blk_ext [e2]
  show V m c main_v1 ((win0_2.blk t).view.emb (ix2 q j)) = _
  rw [e]
  rfl

/-- The result is the reference's gradient. -/
theorem array3 : (dats m 0 c).arrAt 3 cfg0.N = val_main_v13 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  have ht : t.val < 8 := t.isLt
  obtain ⟨q, j, rfl⟩ : ∃ (q : Fin 1024) (j : Fin 1024), y = (ix2 q j : S1024x1024.Idx) := ⟨y 0, y 1, (ix2_eta (n0 := 1024) (n1 := 1024) y).symm⟩
  obtain ⟨p, hp⟩ : ∃ p : Fin 2048, p.val = 1024 * (t.val / 4) + q.val := ⟨⟨_, by omega⟩, rfl⟩
  obtain ⟨i, hi⟩ : ∃ i : Fin 4096, i.val = 1024 * (t.val % 4) + j.val := ⟨⟨_, by omega⟩, rfl⟩
  have e : (win0_3.blk t).view.emb (ix2 q j) = (ix2 p i : S2048x4096.Idx) := by
    obtain ⟨e0, e1, e2, e3⟩ := idx_facts t
    blk_ext [e3]
  blk_simp
  rw [after0_3, e]
  frame_out
  pointwise [k0_pay1, val_main_v13, val_main_v12, val_main_v11, val_main_cst_2, val_main_v10, val_main_v9, val_main_v8, val_main_v7, val_main_v6, val_main_cst_1, val_main_v5, val_main_v4, val_main_cst_0, val_main_v3, val_main_v2, val_main_cst, val_main_v1, val_main_call0_v0, val_main_call0_cst]
  rw [block2 m c t q j p i hp hi, ← mul_relu]
  exact congrArg (· * _) (dot_congr (fun x => block0 m c t q x p hp) (fun x => block1 m c t j x i hi))

end Cert.MlpDownBwdIdeal.Mlp
end
-- ==== Proof.MlpDw2.lean ====
module

public import proofs.«01_k».proof.Proof.Gen.MlpDw2Ideal.Value
public import proofs.«01_k».proof.Proof.Gen.MlpDw2RefIdeal.Read
public import proofs.«01_k».proof.Proof.Sums

@[expose] public section

/-!
  The gradient of the MLP's second matrix: what the call's array holds after the run.
-/

set_option maxRecDepth 16384

noncomputable section

namespace Cert.MlpDw2Ideal.Mlp

open Cert.MlpDw2Ideal Cert.MlpDw2Ideal.Gen Cert.MlpDw2RefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, t.val] ∧ win0_1.index t = ![0, 0] ∧ win0_2.index t = ![t.val, 0] := by
  decide +kernel

/-- The saved first product, read where the block lies. -/
theorem block0 (t : Fin cfg0.N) (q : Fin 2048) (j : Fin 1024) (i : Fin 4096) (hi : i.val = 1024 * t.val + j.val) :
    iblk m c 0 t (ix2 q j) = val_main_v1 (F := Ideal) (m ((c : Thread nD τ).loc main_arg0)) (m ((c : Thread nD τ).loc main_arg1)) (ix2 q i) := by
  have e : (win0_0.blk t).view.emb (ix2 q j) = (ix2 q i : S2048x4096.Idx) := by
    obtain ⟨e0, e1, e2⟩ := idx_facts t
    blk_ext [e0]
  show V m c main_v1 ((win0_0.blk t).view.emb (ix2 q j)) = _
  rw [e]
  rfl

theorem block1 (t : Fin cfg0.N) (q : Fin 2048) (j : Fin 1024) :
    iblk m c 1 t (ix2 q j) = m ((c : Thread nD τ).loc main_arg2) (ix2 q j) := by
  have e : (win0_1.blk t).view.emb (ix2 q j) = (ix2 q j : S2048x1024.Idx) := by
    obtain ⟨e0, e1, e2⟩ := idx_facts t
    blk_ext [e1]
  show V m c main_v2 ((win0_1.blk t).view.emb (ix2 q j)) = _
  rw [e]
  rfl

/-- The result is the reference's gradient. -/
theorem array2 : (dats m 0 c).arrAt 2 cfg0.N = val_main_v7 (F := Ideal) (m ((c : Thread nD τ).loc main_arg0)) (m ((c : Thread nD τ).loc main_arg1))
    (m ((c : Thread nD τ).loc main_arg2)) := by
  refine (dats m 0 c).arrAt_eq_of_covers 2 _ (by decide +kernel) fun t hf y => ?_
  have ht : t.val < 4 := t.isLt
  obtain ⟨q, j, rfl⟩ : ∃ (q : Fin 1024) (j : Fin 1024), y = (ix2 q j : S1024x1024.Idx) := ⟨y 0, y 1, (ix2_eta (n0 := 1024) (n1 := 1024) y).symm⟩
  obtain ⟨i, hi⟩ : ∃ i : Fin 4096, i.val = 1024 * t.val + q.val := ⟨⟨_, by omega⟩, rfl⟩
  have e : (win0_2.blk t).view.emb (ix2 q j) = (ix2 i j : S4096x1024.Idx) := by
    obtain ⟨e0, e1, e2⟩ := idx_facts t
    blk_ext [e2]
  blk_simp
  rw [after0_2, e]
  frame_out
  pointwise [k0_pay1, val_main_v7, val_main_v6, val_main_v5, val_main_v4, val_main_v3, val_main_v2, val_main_call0_v0, val_main_call0_cst]
  exact dot_congr_comm (fun x => by rw [block0 m c t x q i hi]) (fun x => block1 m c t x j)

end Cert.MlpDw2Ideal.Mlp
end
-- ==== Proof.MlpDw1.lean ====
module

public import proofs.«01_k».proof.Proof.Gen.MlpDw1Ideal.Value
public import proofs.«01_k».proof.Proof.Gen.MlpDw1RefIdeal.Read
public import proofs.«01_k».proof.Proof.Sums

@[expose] public section

/-!
  The gradient of the MLP's first matrix: what the call's array holds after the run.
-/

set_option maxRecDepth 16384

noncomputable section

namespace Cert.MlpDw1Ideal.Mlp

open Cert.MlpDw1Ideal Cert.MlpDw1Ideal.Gen Cert.MlpDw1RefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, t.val] ∧ win0_2.index t = ![t.val, 0, 0] := by
  decide +kernel

theorem block0 (t : Fin cfg0.N) (q : Fin 2048) (j : Fin 1024) :
    iblk m c 0 t (ix2 q j) = m ((c : Thread nD τ).loc main_arg0) (ix2 q j) := by
  have e : (win0_0.blk t).view.emb (ix2 q j) = (ix2 q j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 2048) (j : Fin 1024) (i : Fin 4096) (hi : i.val = 1024 * t.val + j.val) :
    iblk m c 1 t (ix2 q j) = m ((c : Thread nD τ).loc main_arg1) (ix2 q i) := by
  have e : (win0_1.blk t).view.emb (ix2 q j) = (ix2 q i : S2048x4096.Idx) := by
    obtain ⟨e0, e1, e2⟩ := idx_facts t
    blk_ext [e1]
  show V m c main_v1 ((win0_1.blk t).view.emb (ix2 q j)) = _
  rw [e]
  rfl

/-- The result is the reference's gradient. -/
theorem array2 : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨z, q, j, rfl⟩ : ∃ (z : Fin 1) (q : Fin 1024) (j : Fin 1024), y = (ix3 z q j : S1x1024x1024.Idx) :=
    ⟨y 0, y 1, y 2, (ix3_eta (n0 := 1) (n1 := 1024) (n2 := 1024) y).symm⟩
  have e : (win0_2.blk t).view.emb (ix3 z q j) = (ix3 ⟨t.val, ht⟩ q j : S4x1024x1024.Idx) := by
    obtain ⟨e0, e1, e2⟩ := idx_facts t
    blk_ext [e2]
  blk_simp
  rw [after0_2, e]
  frame_out
  pointwise [k0_pay1, val_main_v6, val_main_v5, val_main_v4, val_main_v3, val_main_v2]
  exact dot_congr_comm (fun x => block0 m c t x q) (fun x => block1 m c t x j _ (by show t.val * 1024 + j.val = _; omega))

end Cert.MlpDw1Ideal.Mlp
end
-- ==== Proof.LayerNorm.lean ====
module

public import proofs.«01_k».proof.Proof.Spec

@[expose] public section

/-!
  The layer norm's backward pass on one row of reals: the formula with the two means, which the kernels use, is
  the derivative through the mean, the variance and the inverse root, which the reference takes step by step.
-/

noncomputable section

namespace Cert.LayerNorm

open Cert.Attn Idealize.ShloMosaic

theorem ofBits_1024 : Ideal.ofBits .f32 0x44800000#32 = ((1024 : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

/-- The variance's offset is a positive real. -/
theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

theorem ofBits_alpha : IsReal (Ideal.ofBits .f32 0x3FD744FD#32) := by
  refine ⟨(14107901 : ℝ) * (2 : ℝ) ^ (-23 : Int), ?_⟩
  simp [Ideal.ofBits, Ideal.ieee, -EReal.coe_mul]

theorem div_1024 (x : ℝ) : Ideal.div (x : EReal) ((1024 : ℝ) : EReal) = ((x / 1024 : ℝ) : EReal) := by
  rw [Ideal.div_coe (by norm_num), ← EReal.coe_mul]
  congr 1
  ring

/-- A row of reals with its mean taken off: reals of sum zero. -/
theorem centred {f : Fin 1024 → EReal} (hf : ∀ k, IsReal (f k)) :
    ∃ c : Fin 1024 → ℝ, ∑ k, c k = 0 ∧ ∀ k, f k - Ideal.div (∑ k, f k) (Ideal.ofBits .f32 0x44800000#32) = (c k : EReal) := by
  choose g hg using hf
  refine ⟨fun k => g k - (∑ i, g i) / 1024, ?_, fun k => ?_⟩
  · rw [Finset.sum_sub_distrib, Finset.sum_const, Finset.card_univ, Fintype.card_fin, nsmul_eq_mul]
    push_cast
    ring
  · rw [show (∑ k, f k) = ((∑ i, g i : ℝ) : EReal) from (Finset.sum_congr rfl fun i _ => hg i).trans (coe_sum _ _).symm,
      hg, ofBits_1024, div_1024, EReal.coe_sub]

/-- The variance of a row of reals, with its offset, is a positive real, and its inverse root's square is its inverse. -/
theorem deviation {f : Fin 1024 → EReal} (c : Fin 1024 → ℝ) (hf : ∀ k, f k = (c k : EReal)) :
    ∃ v r : ℝ, 0 < v ∧ r * r * v = 1
      ∧ Ideal.div (∑ k, f k * f k) (Ideal.ofBits .f32 0x44800000#32) + Ideal.ofBits .f32 0x3727C5AC#32 = (v : EReal)
      ∧ Ideal.rsqrt (v : EReal) = (r : EReal) := by
  obtain ⟨e, he, h⟩ := ofBits_eps
  have hs : 0 ≤ ∑ k, c k * c k := Finset.sum_nonneg fun k _ => mul_self_nonneg _
  have hv : 0 < (∑ k, c k * c k) / 1024 + e := by positivity
  refine ⟨(∑ k, c k * c k) / 1024 + e, (Real.sqrt ((∑ k, c k * c k) / 1024 + e))⁻¹, hv, ?_, ?_, ?_⟩
  · rw [← mul_inv, Real.mul_self_sqrt hv.le, inv_mul_cancel₀ hv.ne']
  · rw [show (∑ k, f k * f k) = ((∑ k, c k * c k : ℝ) : EReal) from
      (Finset.sum_congr rfl fun k _ => by rw [hf, EReal.coe_mul]).trans (coe_sum _ _).symm, ofBits_1024, div_1024, h, EReal.coe_add]
  · rw [Ideal.rsqrt_coe, if_neg (not_lt.mpr hv.le), if_neg hv.ne']

/-- On one row of reals: with `c` the centred row, `r` its inverse deviation and `d` the cotangent of the normalised row, the
    formula with the two means is the derivative taken step by step. -/
theorem backward (c d : Fin 1024 → ℝ) (r v : ℝ) (hv : 0 < v) (hr : r * r * v = 1) (hc : ∑ k, c k = 0) (j : Fin 1024) :
    (r : EReal) * ((d j : EReal) - Ideal.div (∑ k, (d k : EReal)) (Ideal.ofBits .f32 0x44800000#32)
      - (c j : EReal) * (r : EReal) * Ideal.div (∑ k, (d k : EReal) * ((c k : EReal) * (r : EReal))) (Ideal.ofBits .f32 0x44800000#32))
    = (d j : EReal) * (r : EReal)
      + Ideal.div ((∑ k, (c k : EReal) * (d k : EReal)) * (Ideal.ofBits .f32 0xBF000000#32 * Ideal.div (r : EReal) (v : EReal)))
          (Ideal.ofBits .f32 0x44800000#32) * (Ideal.ofBits .f32 0x40000000#32 * (c j : EReal))
      + Ideal.div (∑ k, -((d k : EReal) * (r : EReal))
          + ∑ k, -(Ideal.div ((∑ k, (c k : EReal) * (d k : EReal)) * (Ideal.ofBits .f32 0xBF000000#32 * Ideal.div (r : EReal) (v : EReal)))
              (Ideal.ofBits .f32 0x44800000#32) * (Ideal.ofBits .f32 0x40000000#32 * (c k : EReal))))
        (Ideal.ofBits .f32 0x44800000#32) := by
  simp only [ofBits_1024, ofBits_two, ofBits_neg_half, Ideal.div_coe hv.ne', ← EReal.coe_mul, ← EReal.coe_add, ← EReal.coe_sub,
    ← EReal.coe_neg, ← coe_sum, div_1024]
  congr 1
  have e : (1 : ℝ) / v = r * r := by field_simp; linarith
  have s : ∑ k, d k * (c k * r) = r * ∑ k, c k * d k := by
    rw [Finset.mul_sum]; exact Finset.sum_congr rfl fun k _ => by ring
  have z : ∀ K : ℝ, ∑ k, -(K * (2 * c k)) = 0 := fun K => by
    rw [Finset.sum_neg_distrib, ← Finset.mul_sum, ← Finset.mul_sum, hc]; ring
  have n : ∑ k, -(d k * r) = -((∑ k, d k) * r) := by rw [Finset.sum_neg_distrib, Finset.sum_mul]
  rw [z, s, n, e]
  ring

end Cert.LayerNorm
end
-- ==== Proof.MlpUpBwd.lean ====
module

public import proofs.«01_k».proof.Proof.Gen.MlpUpBwdIdeal.Value
public import proofs.«01_k».proof.Proof.Gen.MlpUpBwdRefIdeal.Read
public import proofs.«01_k».proof.Proof.Sums
public import proofs.«01_k».proof.Proof.LayerNorm

@[expose] public section

/-!
  The backward call of the MLP's first product and of the layer norm before it: what its five arrays hold after the
  run.
-/

set_option maxRecDepth 16384

noncomputable section

namespace Cert.MlpUpBwdIdeal.Mlp

open Cert.MlpUpBwdIdeal Cert.MlpUpBwdIdeal.Gen Cert.MlpUpBwdRefIdeal.Read Cert.Sums Cert.Attn Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem out_facts : ∀ t : Fin cfg0.N, win0_6.index t = ![t.val, 0] ∧ win0_7.index t = ![t.val, 0] ∧ win0_8.index t = ![0, 0]
    ∧ win0_9.index t = ![0, 0] ∧ win0_10.index t = ![0, 0] := by
  decide +kernel

theorem block0 (t : Fin cfg0.N) (q : Fin 512) (j : Fin 4096) (p : Fin 2048) (hp : p.val = 512 * t.val + q.val) :
    iblk m c 0 t (ix2 q j) = m ((c : Thread nD τ).loc main_arg4) (ix2 p j) := by
  have e : (win0_0.blk t).view.emb (ix2 q j) = (ix2 p j : S2048x4096.Idx) := by
    obtain ⟨e0, e1, e2, e3, e4, e5⟩ := idx_facts t
    blk_ext [e0]
  show V m c main_v18 ((win0_0.blk t).view.emb (ix2 q j)) = _
  rw [e]
  rfl

theorem block1 (t : Fin cfg0.N) (q : Fin 1024) (j : Fin 4096) :
    iblk m c 1 t (ix2 q j) = m ((c : Thread nD τ).loc main_arg3) (ix2 q j) := by
  have e : (win0_1.blk t).view.emb (ix2 q j) = (ix2 q j : S1024x4096.Idx) := by
    obtain ⟨e0, e1, e2, e3, e4, e5⟩ := idx_facts t
    blk_ext [e1]
  show V m c main_v19 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg5) (ix2 p j) := by
  have e : (win0_2.blk t).view.emb (ix2 q j) = (ix2 p j : S2048x1024.Idx) := by
    obtain ⟨e0, e1, e2, e3, e4, e5⟩ := idx_facts t
    blk_ext [e2]
  show V m c main_arg5 ((win0_2.blk t).view.emb (ix2 q j)) = _
  rw [e]
  rfl

/-- The saved normalised rows. -/
theorem block3 (t : Fin cfg0.N) (q : Fin 512) (j : Fin 1024) (p : Fin 2048) (hp : p.val = 512 * t.val + q.val) :
    iblk m c 3 t (ix2 q j) = val_main_v22 (F := Ideal) (m ((c : Thread nD τ).loc main_arg0)) (ix2 p j) := by
  have e : (win0_3.blk t).view.emb (ix2 q j) = (ix2 p j : S2048x1024.Idx) := by
    obtain ⟨e0, e1, e2, e3, e4, e5⟩ := idx_facts t
    blk_ext [e3]
  show V m c main_v17 ((win0_3.blk t).view.emb (ix2 q j)) = _
  rw [e]
  rfl

/-- The saved inverse deviations. -/
theorem block4 (t : Fin cfg0.N) (q : Fin 512) (z : Fin 1) (p : Fin 2048) (hp : p.val = 512 * t.val + q.val) :
    iblk m c 4 t (ix2 q z) = val_main_v17 (F := Ideal) (m ((c : Thread nD τ).loc main_arg0)) (ix2 p z) := by
  have e : (win0_4.blk t).view.emb (ix2 q z) = (ix2 p z : S2048x1.Idx) := by
    obtain ⟨e0, e1, e2, e3, e4, e5⟩ := idx_facts t
    blk_ext [e4]
  show V m c main_v13 ((win0_4.blk t).view.emb (ix2 q z)) = _
  rw [e]
  rfl

theorem block5 (t : Fin cfg0.N) (z : Fin 1) (j : Fin 1024) :
    iblk m c 5 t (ix2 z j) = m ((c : Thread nD τ).loc main_arg1) (ix2 z j) := by
  have e : (win0_5.blk t).view.emb (ix2 z j) = (ix2 z j : S1x1024.Idx) := by
    obtain ⟨e0, e1, e2, e3, e4, e5⟩ := idx_facts t
    blk_ext [e5]
  show V m c main_arg1 ((win0_5.blk t).view.emb (ix2 z j)) = _
  rw [e]
  rfl

/-- The norm's cotangent: the kernel's is the reference's. -/
theorem cotangent (t : Fin cfg0.N) (q : Fin 512) (j : Fin 1024) (p : Fin 2048) (hp : p.val = 512 * t.val + q.val) :
    k0_pay7 (iblk m c 0 t) (iblk m c 1 t) (iblk m c 2 t) (ix2 q j) = val_main_v33 (F := Ideal) (m ((c : Thread nD τ).loc main_arg3))
      (m ((c : Thread nD τ).loc main_arg4)) (m ((c : Thread nD τ).loc main_arg5)) (ix2 p j) := by
  pointwise [k0_pay7, val_main_v33, val_main_v32, val_main_v31, val_main_cst_7, val_main_v30]
  rw [block2 m c t q j p hp]
  exact congrArg (· + _) (dot_congr (fun x => block0 m c t q x p hp) (fun x => block1 m c t j x))

section reference
variable (x : (⟨S2048x1024, .f32⟩ : BufTy).Contents (Elt Ideal)) (g : (⟨S1x1024, .f32⟩ : BufTy).Contents (Elt Ideal))
  (w : (⟨S1024x4096, .f32⟩ : BufTy).Contents (Elt Ideal)) (dh : (⟨S2048x4096, .f32⟩ : BufTy).Contents (Elt Ideal))
  (dr : (⟨S2048x1024, .f32⟩ : BufTy).Contents (Elt Ideal)) (p : Fin 2048)

theorem ref_xhat (j : Fin 1024) :
    val_main_v22 (F := Ideal) x (ix2 p j) = val_main_v14 (F := Ideal) x (ix2 p j) * val_main_v17 (F := Ideal) x (ix2 p 0) := by
  pointwise [val_main_v22, val_main_v21]

/-- The reference's centred rows are reals of sum zero. -/
theorem ref_centred (hx : ∀ i, IsReal (x i)) : ∃ r : Fin 1024 → ℝ, ∑ k, r k = 0 ∧ ∀ k, val_main_v14 (F := Ideal) x (ix2 p k) = (r k : EReal) := by
  obtain ⟨r, h0, h⟩ := LayerNorm.centred fun k => hx (ix2 p k)
  refine ⟨r, h0, fun k => ?_⟩
  pointwise [val_main_v14, val_main_v13, val_main_v3, val_main_v2, val_main_cst_0, val_main_v1, val_main_v0, val_main_cst]
  exact h k

/-- Their deviations are positive reals. -/
theorem ref_rstd (r : Fin 1024 → ℝ) (hr : ∀ k, val_main_v14 (F := Ideal) x (ix2 p k) = (r k : EReal)) :
    ∃ v s : ℝ, 0 < v ∧ s * s * v = 1 ∧ (∀ z, val_main_v16 (F := Ideal) x (ix2 p z) = (v : EReal)) ∧ ∀ z, val_main_v17 (F := Ideal) x (ix2 p z) = (s : EReal) := by
  obtain ⟨v, s, hv, hs, h1, h2⟩ := LayerNorm.deviation r (f := fun k => val_main_v5 (F := Ideal) x (ix2 p k)) hr
  have e : ∀ z, val_main_v16 (F := Ideal) x (ix2 p z) = (v : EReal) := fun z => by
    pointwise [val_main_v16, val_main_v15, val_main_cst_4, val_main_v12, val_main_v11, val_main_cst_3, val_main_v10, val_main_v9, val_main_cst_2, val_main_v6]
    exact h1
  refine ⟨v, s, hv, hs, e, fun z => ?_⟩
  pointwise [val_main_v17]
  rw [e]
  exact h2

/-- The norm's cotangent is real. -/
theorem ref_cotangent (hw : ∀ i, IsReal (w i)) (hdh : ∀ i, IsReal (dh i)) (hdr : ∀ i, IsReal (dr i)) (j : Fin 1024) :
    IsReal (val_main_v33 (F := Ideal) w dh dr (ix2 p j)) := by
  pointwise [val_main_v33, val_main_v32, val_main_v31, val_main_cst_7, val_main_v30]
  exact (IsReal.sum _ _ fun k _ => (hdh _).mul (hw _)).add (LayerNorm.ofBits_alpha.mul (hdr _))

end reference

/-- The hypothesis on the arguments: all but the norm's shift are real. -/
abbrev Reals : Prop := (∀ i, IsReal (m ((c : Thread nD τ).loc main_arg0) i)) ∧ (∀ i, IsReal (m ((c : Thread nD τ).loc main_arg1) i))
  ∧ (∀ i, IsReal (m ((c : Thread nD τ).loc main_arg3) i)) ∧ (∀ i, IsReal (m ((c : Thread nD τ).loc main_arg4) i))
  ∧ ∀ i, IsReal (m ((c : Thread nD τ).loc main_arg5) i)

/-- The norm's gradient: the kernel's rows are the reference's. -/
theorem row (hm : Reals m c) (t : Fin cfg0.N) (q : Fin 512) (j : Fin 1024) (p : Fin 2048) (hp : p.val = 512 * t.val + q.val) :
    k0_pay9 (iblk m c 0 t) (iblk m c 1 t) (iblk m c 2 t) (iblk m c 3 t) (iblk m c 4 t) (iblk m c 5 t) (ix2 q j)
      = val_main_v64 (F := Ideal) (m ((c : Thread nD τ).loc main_arg0)) (m ((c : Thread nD τ).loc main_arg1)) (m ((c : Thread nD τ).loc main_arg3))
      (m ((c : Thread nD τ).loc main_arg4)) (m ((c : Thread nD τ).loc main_arg5)) (ix2 p j) := by
  obtain ⟨hx, hg, hw, hdh, hdr⟩ := hm
  obtain ⟨r, h0, hr⟩ := ref_centred _ p hx
  obtain ⟨v, s, hv, hs, h16, h17⟩ := ref_rstd _ p r hr
  have h5 : ∀ k, val_main_v5 (F := Ideal) (m ((c : Thread nD τ).loc main_arg0)) (ix2 p k) = (r k : EReal) := hr
  choose d hd using fun k => (ref_cotangent _ _ _ p hw hdh hdr k).mul (hg (ix2 0 k))
  pointwise [k0_pay9, k0_pay8, val_main_v64, val_main_v63, val_main_v62, val_main_cst_16, val_main_v61, val_main_v60, val_main_cst_15, val_main_v59, val_main_v58, val_main_v57, val_main_v56, val_main_cst_14, val_main_v55, val_main_v54, val_main_v53, val_main_v52, val_main_cst_13, val_main_v51, val_main_v50, val_main_cst_12, val_main_v49, val_main_v48, val_main_cst_11, val_main_v47, val_main_v46, val_main_v45, val_main_v44, val_main_v43, val_main_v42, val_main_cst_10, val_main_v41, val_main_v40, val_main_v39, val_main_v20, val_main_v19, val_main_cst_5, val_main_v18, val_main_v8, val_main_v7, val_main_cst_1]
  simp only [cotangent m c t q _ p hp, block3 m c t q _ p hp, block4 m c t q _ p hp, block5, ref_xhat, hr, h5, h16, h17, hd, Fin.sum_univ_one]
  exact LayerNorm.backward r d s v hv hs h0 j

/-- The call's first result is the reference's. -/
theorem array6 (hm : Reals m c) : (dats m 0 c).arrAt 6 cfg0.N = val_main_v64 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e6, e7, e8, e9, e10⟩ := out_facts t
    blk_ext [e6]
  blk_simp
  rw [after0_6, e]
  by_cases h : t.val % 4 = 0
  · rw [outsAt0_A m c t h h h]
    frame_out
    exact row m c hm t q j p hp
  · rw [outsAt0_B m c t h h h]
    frame_out
    exact row m c hm t q j p hp

/-- The call's second result is the rounding of the first. -/
theorem array7 (hm : Reals m c) : (dats m 0 c).arrAt 7 cfg0.N = val_main_v65 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e6, e7, e8, e9, e10⟩ := out_facts t
    blk_ext [e7]
  blk_simp
  rw [after0_7, e]
  by_cases h : t.val % 4 = 0
  · rw [outsAt0_A m c t h h h]
    frame_out
    exact row m c hm t q j p hp
  · rw [outsAt0_B m c t h h h]
    frame_out
    exact row m c hm t q j p hp

/-- A sum over the four points and their rows is the sum over all rows. -/
theorem sum_rows {F : Fin cfg0.N → Fin 512 → EReal} {g : Fin 2048 → EReal}
    (h : ∀ (t : Fin cfg0.N) (q : Fin 512) (p : Fin 2048), p.val = 512 * t.val + q.val → F t q = g p) : ∑ t, ∑ q, F t q = ∑ p, g p := by
  refine (Fin.sum_points_lanes_congr (A := 1) 4 (g := fun _ p => g p) fun t q ha hl => h t q _ ?_).trans (Fin.sum_univ_one _)
  have ht : t.val < 4 := t.isLt
  show t.val % 4 * 512 + q.val = _
  omega

/-- The gradient of the norm's gain. -/
theorem array8 : (dats m 0 c).arrAt 8 cfg0.N = val_main_v38 (F := Ideal) (m ((c : Thread nD τ).loc main_arg0)) (m ((c : Thread nD τ).loc main_arg3))
    (m ((c : Thread nD τ).loc main_arg4)) (m ((c : Thread nD τ).loc main_arg5)) := by
  refine (dats m 0 c).arrAt_eq_of_covers 8 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_8.blk t).view.emb (ix2 z j) = (ix2 z j : S1x1024.Idx) := by
    obtain ⟨e6, e7, e8, e9, e10⟩ := out_facts t
    blk_ext [e8]
  have hl : t.val + 1 = cfg0.N := by
    have h := (flush0_8 t).mp hf
    have ht : t.val < 4 := t.isLt
    show t.val + 1 = 4
    omega
  blk_simp
  rw [after0_8, e]
  refine (Pipeline.eq_sum_fin_of_reset_step_apply_last (fun n h => (outsAt0 m c n h).2.2.1) 4 (fun _ => (0 : EReal)) (fun t y => ∑ q : Fin 512,
    k0_pay7 (iblk m c 0 t) (iblk m c 1 t) (iblk m c 2 t) (ix2 q (y 1)) * iblk m c 3 t (ix2 q (y 1))) (fun t h y => ?_) (fun t h y => ?_) (by decide) t hl (ix2 z j)).trans ?_
  · rw [outsAt0_A m c t h h h]
    frame_out
    pointwise [k0_pay1, k0_pay2, k0_pay8]
  · rw [outsAt0_B m c t h h h]
    frame_out
    pointwise [k0_pay2, k0_pay8]
  · pointwise [val_main_v38, val_main_v37, val_main_cst_9, val_main_v36]
    refine sum_rows fun t q p hp => ?_
    exact (congrArg₂ (· * ·) (cotangent m c t q j p hp) (block3 m c t q j p hp)).trans (mul_comm _ _)

/-- The gradient of the norm's shift. -/
theorem array9 : (dats m 0 c).arrAt 9 cfg0.N = val_main_v35 (F := Ideal) (m ((c : Thread nD τ).loc main_arg3))
    (m ((c : Thread nD τ).loc main_arg4)) (m ((c : Thread nD τ).loc main_arg5)) := by
  refine (dats m 0 c).arrAt_eq_of_covers 9 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_9.blk t).view.emb (ix2 z j) = (ix2 z j : S1x1024.Idx) := by
    obtain ⟨e6, e7, e8, e9, e10⟩ := out_facts t
    blk_ext [e9]
  have hl : t.val + 1 = cfg0.N := by
    have h := (flush0_9 t).mp hf
    have ht : t.val < 4 := t.isLt
    show t.val + 1 = 4
    omega
  blk_simp
  rw [after0_9, e]
  refine (Pipeline.eq_sum_fin_of_reset_step_apply_last (fun n h => (outsAt0 m c n h).2.2.2.1) 4 (fun _ => (0 : EReal)) (fun t y => ∑ q : Fin 512,
    k0_pay7 (iblk m c 0 t) (iblk m c 1 t) (iblk m c 2 t) (ix2 q (y 1))) (fun t h y => ?_) (fun t h y => ?_) (by decide) t hl (ix2 z j)).trans ?_
  · rw [outsAt0_A m c t h h h]
    frame_out
    pointwise [k0_pay3, k0_pay4]
  · rw [outsAt0_B m c t h h h]
    frame_out
    pointwise [k0_pay4]
  · pointwise [val_main_v35, val_main_v34, val_main_cst_8]
    refine sum_rows fun t q p hp => ?_
    exact cotangent m c t q j p hp

/-- The column sums of the first result. -/
theorem array10 (hm : Reals m c) : (dats m 0 c).arrAt 10 cfg0.N = val_main_v67 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_10.blk t).view.emb (ix2 z j) = (ix2 z j : S1x1024.Idx) := by
    obtain ⟨e6, e7, e8, e9, e10⟩ := out_facts t
    blk_ext [e10]
  have hl : t.val + 1 = cfg0.N := by
    have h := (flush0_10 t).mp hf
    have ht : t.val < 4 := t.isLt
    show t.val + 1 = 4
    omega
  blk_simp
  rw [after0_10, e]
  refine (Pipeline.eq_sum_fin_of_reset_step_apply_last (fun n h => (outsAt0 m c n h).2.2.2.2) 4 (fun _ => (0 : EReal)) (fun t y => ∑ q : Fin 512,
    k0_pay9 (iblk m c 0 t) (iblk m c 1 t) (iblk m c 2 t) (iblk m c 3 t) (iblk m c 4 t) (iblk m c 5 t) (ix2 q (y 1))) (fun t h y => ?_) (fun t h y => ?_) (by decide) t hl (ix2 z j)).trans ?_
  · rw [outsAt0_A m c t h h h]
    frame_out
    pointwise [k0_pay5, k0_pay6]
  · rw [outsAt0_B m c t h h h]
    frame_out
    pointwise [k0_pay6]
  · pointwise [val_main_v67, val_main_v66, val_main_cst_17]
    refine sum_rows fun t q p hp => ?_
    exact row m c hm t q j p hp

end Cert.MlpUpBwdIdeal.Mlp
end
-- ==== Proof.PreUpBwd.lean ====
module

public import proofs.«01_k».proof.Proof.Pre
public import proofs.«01_k».proof.Pre_finite_up_bwd

@[expose] public section

/-!
  What the precondition of the norm's backward pass says: all the arguments but the norm's shift are real.
-/

noncomputable section

namespace Cert.Pre_finite_up_bwd

open Cert.Attn Idealize.ShloMosaic Cert.Pre_finite_qk

theorem facts : Facts := ⟨by decide, by decide, by decide, by decide, by decide, by decide, by decide, by decide, by decide⟩

instance : Subsingleton S_.Idx := ⟨fun a b => funext fun i => i.elim0⟩

variable [Facts]

theorem real_args (a0 : FVec Ideal S2048x1024 .f32) (a1 a2 : FVec Ideal S1x1024 .f32) (a3 : FVec Ideal S1024x4096 .f32)
    (a4 : FVec Ideal S2048x4096 .f32) (a5 : FVec Ideal S2048x1024 .f32) (j : S_.Idx) (h : fn (F := Ideal) a0 a1 a2 a3 a4 a5 j = 1#1) :
    (∀ i, IsReal (a0 i)) ∧ (∀ i, IsReal (a1 i)) ∧ (∀ i, IsReal (a3 i)) ∧ (∀ i, IsReal (a4 i)) ∧ ∀ i, IsReal (a5 i) := by
  dsimp only [fn, fn_part1] at h
  obtain ⟨h, e5⟩ := IntOp.andi_eq_one.1 h
  obtain ⟨h, e4⟩ := IntOp.andi_eq_one.1 h
  obtain ⟨h, e3⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e3 i), fun i => real_of_lt _ (Host.reduce_andi_all _ _ _ _ j e4 i),
    fun i => real_of_lt _ (Host.reduce_andi_all _ _ _ _ j e5 i)⟩

instance holdsFacts : Facts := facts

end Cert.Pre_finite_up_bwd
end
-- ==== Proof.MlpClaims.lean ====
module

public import proofs.«01_k».proof.Defs
public import proofs.«01_k».proof.Proof.Gen.MlpUp.Frame
public import proofs.«01_k».proof.Proof.Gen.MlpDownLn.Frame
public import proofs.«01_k».proof.Proof.Gen.MlpDownBwd.Frame
public import proofs.«01_k».proof.Proof.Gen.MlpDw2.Frame
public import proofs.«01_k».proof.Proof.Gen.MlpDw1.Frame
public import proofs.«01_k».proof.Proof.Gen.MlpUpBwd.Frame
public import proofs.«01_k».proof.Proof.MlpUp
public import proofs.«01_k».proof.Proof.MlpDownLn
public import proofs.«01_k».proof.Proof.MlpDownBwd
public import proofs.«01_k».proof.Proof.MlpDw2
public import proofs.«01_k».proof.Proof.MlpDw1
public import proofs.«01_k».proof.Proof.MlpUpBwd
public import proofs.«01_k».proof.Proof.PreUpBwd
public import Idealize.ShloMosaic.Lib.Quiescent

@[expose] public section

/-!
  The claims about the MLP's six calls, two forward and four backward.
-/

noncomputable section

namespace Cert.Proof.MlpClaims

open Idealize.ShloMosaic Idealize.SL.Sem

theorem frame_up : Cert.quiescent_MlpUp := fun m ρ _ => Cert.MlpUp.Gen.frame m ρ

theorem frame_up_ideal : Cert.quiescent_MlpUpIdeal := fun m ρ _ => Cert.MlpUpIdeal.Gen.frame m ρ

theorem frame_up_ref : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run (F := Ideal) m ρ)

theorem preserves_up : Cert.preserves_MlpUp_MlpUpIdeal := trivial

/-- The call's results and the reference's are the same. -/
theorem algebraic_up : Cert.algebraic_MlpUpIdeal_MlpUpRefIdeal := by
  intro m ρ m' ρ' _ ha
  refine ⟨_, Cert.MlpUpIdeal.Value.run_blocks (F := Ideal) m ρ, ?_⟩
  refine (θ_run Cert.MlpUpRefIdeal.defs _ _).mono (fun _ h c => ⟨(h c).1.trans ?_, (h c).2⟩)
    (Cert.MlpUpRefIdeal.Value.run (F := Ideal) m' ρ')
  obtain ⟨a0, a1⟩ := ha c
  rw [Cert.MlpUpRefIdeal.Read.val_main_v1_eq, a0, a1]
  exact (Cert.MlpUpIdeal.Mlp.array2 m c).symm

theorem frame_down_ln : Cert.quiescent_MlpDownLn := fun m ρ _ => Cert.MlpDownLn.Gen.frame m ρ

theorem frame_down_ln_ideal : Cert.quiescent_MlpDownLnIdeal := fun m ρ _ => Cert.MlpDownLnIdeal.Gen.frame m ρ

theorem frame_down_ln_ref : Cert.quiescent_MlpDownLnRefIdeal := fun m ρ _ =>
  (θ_run Cert.MlpDownLnRefIdeal.defs _ _).mono (fun r h => ⟨fun c => (h c).2.2.2.2, sem_eq_zero_of_no_sems (by decide) r.2⟩)
    (Cert.MlpDownLnRefIdeal.Value.run (F := Ideal) m ρ)

theorem preserves_down_ln : Cert.preserves_MlpDownLn_MlpDownLnIdeal := trivial

/-- The call's results and the reference's are the same. -/
theorem algebraic_down_ln : Cert.algebraic_MlpDownLnIdeal_MlpDownLnRefIdeal := by
  intro m ρ m' ρ' _ ha
  refine ⟨_, _, _, _, Cert.MlpDownLnIdeal.Value.run_blocks (F := Ideal) m ρ, ?_⟩
  refine (θ_run Cert.MlpDownLnRefIdeal.defs _ _).mono (fun _ h c => ⟨(h c).1.trans ?_, (h c).2.1.trans ?_, (h c).2.2.1.trans ?_, (h c).2.2.2.1.trans ?_, (h c).2.2.2.2⟩)
    (Cert.MlpDownLnRefIdeal.Value.run (F := Ideal) m' ρ')
  all_goals obtain ⟨a0, a1, a2, a3, a4⟩ := ha c
  · rw [Cert.MlpDownLnRefIdeal.Read.val_main_v28_eq, a0, a1, a2, a3, a4]
    exact (Cert.MlpDownLnIdeal.Mlp.array5 m c).symm
  · rw [Cert.MlpDownLnRefIdeal.Read.val_main_v43_eq, a0, a1, a2, a3, a4]
    exact (Cert.MlpDownLnIdeal.Mlp.array6 m c).symm
  · rw [Cert.MlpDownLnRefIdeal.Read.val_main_v47_eq, a0, a1, a2]
    exact (Cert.MlpDownLnIdeal.Mlp.array7 m c).symm
  · rw [Cert.MlpDownLnRefIdeal.Read.val_main_v42_eq, a0, a1, a2]
    exact (Cert.MlpDownLnIdeal.Mlp.array8 m c).symm

theorem frame_down_bwd : Cert.quiescent_MlpDownBwd := fun m ρ _ => Cert.MlpDownBwd.Gen.frame m ρ

theorem frame_down_bwd_ideal : Cert.quiescent_MlpDownBwdIdeal := fun m ρ _ => Cert.MlpDownBwdIdeal.Gen.frame m ρ

theorem frame_down_bwd_ref : Cert.quiescent_MlpDownBwdRefIdeal := fun m ρ _ =>
  (θ_run Cert.MlpDownBwdRefIdeal.defs _ _).mono (fun r h => ⟨fun c => (h c).2, sem_eq_zero_of_no_sems (by decide) r.2⟩)
    (Cert.MlpDownBwdRefIdeal.Value.run (F := Ideal) m ρ)

theorem preserves_down_bwd : Cert.preserves_MlpDownBwd_MlpDownBwdIdeal := trivial

/-- The call's results and the reference's are the same. -/
theorem algebraic_down_bwd : Cert.algebraic_MlpDownBwdIdeal_MlpDownBwdRefIdeal := by
  intro m ρ m' ρ' _ ha
  refine ⟨_, Cert.MlpDownBwdIdeal.Value.run_blocks (F := Ideal) m ρ, ?_⟩
  refine (θ_run Cert.MlpDownBwdRefIdeal.defs _ _).mono (fun _ h c => ⟨(h c).1.trans ?_, (h c).2⟩)
    (Cert.MlpDownBwdRefIdeal.Value.run (F := Ideal) m' ρ')
  obtain ⟨a0, a1, a2, a3⟩ := ha c
  rw [Cert.MlpDownBwdRefIdeal.Read.val_main_v13_eq, a0, a1, a2, a3]
  exact (Cert.MlpDownBwdIdeal.Mlp.array3 m c).symm

theorem frame_dw2 : Cert.quiescent_MlpDw2 := fun m ρ _ => Cert.MlpDw2.Gen.frame m ρ

theorem frame_dw2_ideal : Cert.quiescent_MlpDw2Ideal := fun m ρ _ => Cert.MlpDw2Ideal.Gen.frame m ρ

theorem frame_dw2_ref : Cert.quiescent_MlpDw2RefIdeal := fun m ρ _ =>
  (θ_run Cert.MlpDw2RefIdeal.defs _ _).mono (fun r h => ⟨fun c => (h c).2, sem_eq_zero_of_no_sems (by decide) r.2⟩)
    (Cert.MlpDw2RefIdeal.Value.run (F := Ideal) m ρ)

theorem preserves_dw2 : Cert.preserves_MlpDw2_MlpDw2Ideal := trivial

/-- The call's results and the reference's are the same. -/
theorem algebraic_dw2 : Cert.algebraic_MlpDw2Ideal_MlpDw2RefIdeal := by
  intro m ρ m' ρ' _ ha
  refine ⟨_, Cert.MlpDw2Ideal.Value.run_blocks (F := Ideal) m ρ, ?_⟩
  refine (θ_run Cert.MlpDw2RefIdeal.defs _ _).mono (fun _ h c => ⟨(h c).1.trans ?_, (h c).2⟩)
    (Cert.MlpDw2RefIdeal.Value.run (F := Ideal) m' ρ')
  obtain ⟨a0, a1, a2⟩ := ha c
  rw [Cert.MlpDw2RefIdeal.Read.val_main_v7_eq, a0, a1, a2]
  exact (Cert.MlpDw2Ideal.Mlp.array2 m c).symm

theorem frame_dw1 : Cert.quiescent_MlpDw1 := fun m ρ _ => Cert.MlpDw1.Gen.frame m ρ

theorem frame_dw1_ideal : Cert.quiescent_MlpDw1Ideal := fun m ρ _ => Cert.MlpDw1Ideal.Gen.frame m ρ

theorem frame_dw1_ref : Cert.quiescent_MlpDw1RefIdeal := fun m ρ _ =>
  (θ_run Cert.MlpDw1RefIdeal.defs _ _).mono (fun r h => ⟨fun c => (h c).2, sem_eq_zero_of_no_sems (by decide) r.2⟩)
    (Cert.MlpDw1RefIdeal.Value.run (F := Ideal) m ρ)

theorem preserves_dw1 : Cert.preserves_MlpDw1_MlpDw1Ideal := trivial

/-- The call's results and the reference's are the same. -/
theorem algebraic_dw1 : Cert.algebraic_MlpDw1Ideal_MlpDw1RefIdeal := by
  intro m ρ m' ρ' _ ha
  refine ⟨_, Cert.MlpDw1Ideal.Value.run_blocks (F := Ideal) m ρ, ?_⟩
  refine (θ_run Cert.MlpDw1RefIdeal.defs _ _).mono (fun _ h c => ⟨(h c).1.trans ?_, (h c).2⟩)
    (Cert.MlpDw1RefIdeal.Value.run (F := Ideal) m' ρ')
  obtain ⟨a0, a1⟩ := ha c
  rw [Cert.MlpDw1RefIdeal.Read.val_main_v6_eq, a0, a1]
  exact (Cert.MlpDw1Ideal.Mlp.array2 m c).symm

theorem frame_up_bwd : Cert.quiescent_MlpUpBwd := fun m ρ _ => Cert.MlpUpBwd.Gen.frame m ρ

theorem frame_up_bwd_ideal : Cert.quiescent_MlpUpBwdIdeal := fun m ρ _ => Cert.MlpUpBwdIdeal.Gen.frame m ρ

theorem frame_up_bwd_ideal_pre : Cert.quiescent_MlpUpBwdIdeal_pre_finite_up_bwd := fun m ρ _ => Cert.MlpUpBwdIdeal.Gen.frame m ρ

theorem frame_up_bwd_ref : Cert.quiescent_MlpUpBwdRefIdeal := fun m ρ _ =>
  (θ_run Cert.MlpUpBwdRefIdeal.defs _ _).mono (fun r h => ⟨fun c => (h c).2.2.2.2.2, sem_eq_zero_of_no_sems (by decide) r.2⟩)
    (Cert.MlpUpBwdRefIdeal.Value.run (F := Ideal) m ρ)

theorem frame_up_bwd_ref_pre : Cert.quiescent_MlpUpBwdRefIdeal_pre_finite_up_bwd := fun m ρ _ => frame_up_bwd_ref m ρ trivial

theorem preserves_up_bwd : Cert.preserves_MlpUpBwd_MlpUpBwdIdeal := trivial

/-- The call's five results and the reference's are the same. -/
theorem algebraic_up_bwd : Cert.algebraic_MlpUpBwdIdeal_MlpUpBwdRefIdeal_pre_finite_up_bwd := by
  intro m ρ m' ρ' hp ha
  have hr := fun c => Cert.Pre_finite_up_bwd.real_args _ _ _ _ _ _ _ (congrFun (hp c) (Shape.Idx.first Cert.Pre_finite_up_bwd.Facts.h_S_))
  refine ⟨_, _, _, _, _, Cert.MlpUpBwdIdeal.Value.run_blocks (F := Ideal) m ρ, ?_⟩
  refine (θ_run Cert.MlpUpBwdRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.MlpUpBwdRefIdeal.Value.run (F := Ideal) m' ρ')
  all_goals obtain ⟨a0, a1, a2, a3, a4, a5⟩ := ha c
  · rw [Cert.MlpUpBwdRefIdeal.Read.val_main_v64_eq, a0, a1, a3, a4, a5]
    exact (Cert.MlpUpBwdIdeal.Mlp.array6 m c (hr c)).symm
  · rw [Cert.MlpUpBwdRefIdeal.Read.val_main_v65_eq, a0, a1, a3, a4, a5]
    exact (Cert.MlpUpBwdIdeal.Mlp.array7 m c (hr c)).symm
  · rw [Cert.MlpUpBwdRefIdeal.Read.val_main_v38_eq, a0, a3, a4, a5]
    exact (Cert.MlpUpBwdIdeal.Mlp.array8 m c).symm
  · rw [Cert.MlpUpBwdRefIdeal.Read.val_main_v35_eq, a3, a4, a5]
    exact (Cert.MlpUpBwdIdeal.Mlp.array9 m c).symm
  · rw [Cert.MlpUpBwdRefIdeal.Read.val_main_v67_eq, a0, a1, a3, a4, a5]
    exact (Cert.MlpUpBwdIdeal.Mlp.array10 m c (hr c)).symm

end Cert.Proof.MlpClaims

end
-- ==== Proof.Rows.lean ====
module

public import proofs.«01_k».proof.Proof.Sums
public import Idealize.ShloMosaic.Lib.WordCmp

@[expose] public section

/-!
  Comparisons of a row's number with a constant, and the selections they make.
-/

noncomputable section

namespace Cert.Rows

open Idealize.ShloMosaic

/-- Selecting the rows from the `n`-th on. -/
theorem select_ge (n : ℕ) (hn : n < 2048) (q : Fin 2048) (a b : EReal) :
    Scalar.select (IntOp.cmpi CmpIPredicate.sge (BitVec.ofNat 32 q.val) (BitVec.ofNat 32 n)) a b = if q.val < n then b else a := by
  have e : IntOp.cmpi CmpIPredicate.sge (BitVec.ofNat 32 q.val) (BitVec.ofNat 32 n) = IntOp.cmpi CmpIPredicate.sle (BitVec.ofNat 32 n) (BitVec.ofNat 32 q.val) := rfl
  rw [e, WordCmp.cmpi_sle_ofNat (by omega) (by omega)]
  by_cases h : q.val < n
  · rw [if_pos h, decide_eq_false (by omega)]
    rfl
  · rw [if_neg h, decide_eq_true (by omega)]
    rfl

/-- Selecting the rows before the `n`-th. -/
theorem select_lt (n : ℕ) (hn : n < 2048) (q : Fin 2048) (a b : EReal) :
    Scalar.select (IntOp.cmpi CmpIPredicate.slt (BitVec.ofNat 32 q.val) (BitVec.ofNat 32 n)) a b = if q.val < n then a else b := by
  rw [WordCmp.cmpi_slt_ofNat (by omega) (by omega)]
  by_cases h : q.val < n
  · rw [if_pos h, decide_eq_true (by omega)]
    rfl
  · rw [if_neg h, decide_eq_false (by omega)]
    rfl

end Cert.Rows
end
-- ==== Proof.ScGateParts.lean ====
module

public import proofs.«01_k».proof.Proof.Gen.ScGateBwdIdeal.Value
public import proofs.«01_k».proof.Proof.Gen.ScGateBwdRefIdeal.Read
public import proofs.«01_k».proof.Proof.Rows

@[expose] public section

/-!
  The gradient of the causal convolution and its gate: what the call's arrays hold after the run.
-/

set_option maxRecDepth 16384

noncomputable section

namespace Cert.ScGateBwdIdeal.Mixer

open Cert.ScGateBwdIdeal Cert.ScGateBwdIdeal.Gen Cert.ScGateBwdRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, t.val] ∧ win0_1.index t = ![0, t.val + 4] ∧ win0_2.index t = ![0, t.val + 8]
    ∧ win0_3.index t = ![0, t.val] ∧ win0_4.index t = ![0, t.val] ∧ win0_5.index t = ![0, 0, t.val] ∧ win0_6.index t = ![0, t.val] := by
  decide +kernel

theorem block0 (t : Fin cfg0.N) (q : Fin 2048) (j : Fin 256) (i : Fin 3072) (hi : i.val = 256 * t.val + j.val) :
    iblk m c 0 t (ix2 q j) = m ((c : Thread nD τ).loc main_arg0) (ix2 q i) := by
  have e : (win0_0.blk t).view.emb (ix2 q j) = (ix2 q i : S2048x3072.Idx) := by
    obtain ⟨e0, e1, e2, e3, e4, e5, e6⟩ := idx_facts t
    blk_ext [e0]
  show V m c main_arg0 ((win0_0.blk t).view.emb (ix2 q j)) = _
  rw [e]

theorem block1 (t : Fin cfg0.N) (q : Fin 2048) (j : Fin 256) (i : Fin 3072) (hi : i.val = 1024 + (256 * t.val + j.val)) :
    iblk m c 1 t (ix2 q j) = m ((c : Thread nD τ).loc main_arg0) (ix2 q i) := by
  have e : (win0_1.blk t).view.emb (ix2 q j) = (ix2 q i : S2048x3072.Idx) := by
    obtain ⟨e0, e1, e2, e3, e4, e5, e6⟩ := idx_facts t
    blk_ext [e1]
  show V m c main_arg0 ((win0_1.blk t).view.emb (ix2 q j)) = _
  rw [e]

theorem block2 (t : Fin cfg0.N) (q : Fin 2048) (j : Fin 256) (i : Fin 3072) (hi : i.val = 2048 + (256 * t.val + j.val)) :
    iblk m c 2 t (ix2 q j) = m ((c : Thread nD τ).loc main_arg0) (ix2 q i) := by
  have e : (win0_2.blk t).view.emb (ix2 q j) = (ix2 q i : S2048x3072.Idx) := by
    obtain ⟨e0, e1, e2, e3, e4, e5, e6⟩ := idx_facts t
    blk_ext [e2]
  show V m c main_arg0 ((win0_2.blk t).view.emb (ix2 q j)) = _
  rw [e]

theorem block3 (t : Fin cfg0.N) (q : Fin 3) (j : Fin 256) (i : Fin 1024) (hi : i.val = 256 * t.val + j.val) :
    iblk m c 3 t (ix2 q j) = m ((c : Thread nD τ).loc main_arg1) (ix2 q i) := by
  have e : (win0_3.blk t).view.emb (ix2 q j) = (ix2 q i : S3x1024.Idx) := by
    obtain ⟨e0, e1, e2, e3, e4, e5, e6⟩ := idx_facts t
    blk_ext [e3]
  show V m c main_arg1 ((win0_3.blk t).view.emb (ix2 q j)) = _
  rw [e]

theorem block4 (t : Fin cfg0.N) (q : Fin 2048) (j : Fin 256) (i : Fin 1024) (hi : i.val = 256 * t.val + j.val) :
    iblk m c 4 t (ix2 q j) = m ((c : Thread nD τ).loc main_arg2) (ix2 q i) := by
  have e : (win0_4.blk t).view.emb (ix2 q j) = (ix2 q i : S2048x1024.Idx) := by
    obtain ⟨e0, e1, e2, e3, e4, e5, e6⟩ := idx_facts t
    blk_ext [e4]
  show V m c main_arg2 ((win0_4.blk t).view.emb (ix2 q j)) = _
  rw [e]

end Cert.ScGateBwdIdeal.Mixer
end
-- ==== Proof.ScGateBwd.lean ====
module

public import proofs.«01_k».proof.Proof.ScGateParts

@[expose] public section

/-!
  The gradient of the causal convolution and its gate in the three projections.
-/

set_option maxRecDepth 16384

noncomputable section

namespace Cert.ScGateBwdIdeal.Mixer

open Cert.ScGateBwdIdeal Cert.ScGateBwdIdeal.Gen Cert.ScGateBwdRefIdeal.Read Cert.Sums Idealize.ShloMosaic Idealize.ShloMosaic.TcCoe

variable (m : (ℓ : Loc nD τ sig) → Buf (Elt Ideal) ℓ) (c : Dev nD)

theorem swap_ends (a b d : EReal) : a + b + d = d + b + a := by
  rw [add_comm (a + b) d, add_comm a b, ← add_assoc]

set_option maxHeartbeats 4000000 in
/-- The gradient of the convolution's argument. -/
theorem cotangent (t : Fin cfg0.N) (q : Fin 2048) (j : Fin 256) (i : Fin 1024) (hi : i.val = 256 * t.val + j.val) :
    k0_pay13 (k0_pay17 (iblk m c 0 t) (iblk m c 1 t) (iblk m c 2 t) (iblk m c 3 t) (iblk m c 4 t))
      (k0_pay19 (iblk m c 0 t) (iblk m c 1 t) (iblk m c 2 t) (iblk m c 3 t) (iblk m c 4 t))
      (k0_pay20 (iblk m c 0 t) (iblk m c 1 t) (iblk m c 2 t) (iblk m c 3 t) (iblk m c 4 t)) (View.ld (iblk m c 3 t) r0_2) (View.ld (iblk m c 3 t) r0_3) (ix2 q j)
      = val_main_v52 (F := Ideal) (m ((c : Thread nD τ).loc main_arg0)) (m ((c : Thread nD τ).loc main_arg1)) (m ((c : Thread nD τ).loc main_arg2)) (ix2 q i) := by
  have ht : t.val < 4 := t.isLt
  pointwise [k0_pay13, k0_pay17, k0_pay19, k0_pay20, k0_pay6, k0_pay3, val_main_v52, val_main_v48, val_main_v47, val_main_v43, val_main_v42, val_main_v39, val_main_v38, val_main_v34, val_main_v33, val_main_v31, val_main_v27, val_main_v26, val_main_v24, val_main_v18, val_main_v13, val_main_v7, val_main_v0]
  rw [Rows.select_lt 2046 (by decide) q, Rows.select_lt 2047 (by decide) q, block0 m c t q j ⟨i.val, by omega⟩ hi, block4 m c t q j i hi, block3 m c t 0 j i hi, block3 m c t 1 j i hi,
    block3 m c t 2 j i hi]
  simp only [block0 m c t _ j ⟨i.val, by omega⟩ hi, block4 m c t _ j i hi]
  have z6 : val_main_cst_6 (F := Ideal) (Shape.Idx.first Cert.ScGateBwdRefIdeal.Gen.h_S_) = 0 := Ideal.ofBits_zero_f32
  have z9 : val_main_cst_9 (F := Ideal) (Shape.Idx.first Cert.ScGateBwdRefIdeal.Gen.h_S_) = 0 := Ideal.ofBits_zero_f32
  rw [z6, z9]
  refine Eq.trans (congrArg₂ (fun a b : EReal => a + b) (congrArg₂ (fun a b : EReal => a + b) ?_ ?_) ?_) (swap_ends _ _ _)
  · by_cases h : q.val < 2046
    · have e : ∀ h', (⟨(q.val + 2048 - 2046) % 2048, h'⟩ : Fin 2048) = ⟨2 + q.val, by omega⟩ := fun _ => Fin.ext (by dsimp only; omega)
      rw [if_pos h, dif_pos (by omega), e]
      exact congrArg₂ (fun a b : EReal => a * b) rfl (mul_comm (_ : EReal) _)
    · rw [if_neg h, dif_neg (by omega)]
  · by_cases h : q.val < 2047
    · have e : ∀ h', (⟨(q.val + 2048 - 2047) % 2048, h'⟩ : Fin 2048) = ⟨2 + q.val - 1, by omega⟩ := fun _ => Fin.ext (by dsimp only; omega)
      rw [if_pos h, dif_pos (by omega), e]
      exact congrArg₂ (fun a b : EReal => a * b) rfl (mul_comm (_ : EReal) _)
    · rw [if_neg h, dif_neg (by omega)]
  · exact congrArg₂ (fun a b : EReal => a * b) rfl (mul_comm (_ : EReal) _)

set_option maxHeartbeats 4000000 in
/-- The convolution. -/
theorem conv (t : Fin cfg0.N) (q : Fin 2048) (j : Fin 256) (i : Fin 1024) (hi : i.val = 256 * t.val + j.val) :
    k0_pay15 (View.ld (iblk m c 4 t) r0_0) (k0_pay18 (iblk m c 0 t) (iblk m c 1 t) (iblk m c 2 t) (iblk m c 3 t) (iblk m c 4 t))
      (k0_pay5 (View.ld (iblk m c 1 t) r0_0) (View.ld (iblk m c 2 t) r0_0) (View.ld (iblk m c 3 t) r0_1)) (k0_pay21 (iblk m c 0 t) (iblk m c 1 t) (iblk m c 2 t) (iblk m c 3 t) (iblk m c 4 t))
      (k0_pay22 (iblk m c 0 t) (iblk m c 1 t) (iblk m c 2 t) (iblk m c 3 t) (iblk m c 4 t)) (k0_pay23 (iblk m c 0 t) (iblk m c 1 t) (iblk m c 2 t) (iblk m c 3 t) (iblk m c 4 t))
      (View.ld (iblk m c 3 t) r0_2) (View.ld (iblk m c 3 t) r0_3) (ix3 0 q j)
      = val_main_v25 (F := Ideal) (m ((c : Thread nD τ).loc main_arg0)) (m ((c : Thread nD τ).loc main_arg1)) (m ((c : Thread nD τ).loc main_arg2)) (ix2 q i) := by
  have ht : t.val < 4 := t.isLt
  pointwise [k0_pay15, k0_pay18, k0_pay5, k0_pay4, k0_pay21, k0_pay22, k0_pay23, k0_pay11, k0_pay8, k0_pay9, k0_pay10, k0_pay2, val_main_v25, val_main_v22, val_main_v21, val_main_v20, val_main_v19, val_main_v18, val_main_v17, val_main_v16, val_main_v15, val_main_v14, val_main_v13, val_main_v12, val_main_v11, val_main_v10, val_main_v9, val_main_v8, val_main_v7, val_main_v5, val_main_v4, val_main_v3, val_main_v2, val_main_v1]
  rw [Rows.select_ge 2 (by decide) q, Rows.select_ge 1 (by decide) q, block4 m c t q j i hi, block3 m c t 0 j i hi, block3 m c t 1 j i hi, block3 m c t 2 j i hi]
  simp only [block1 m c t _ j ⟨1024 + i.val, by omega⟩ (congrArg (1024 + ·) hi), block2 m c t _ j ⟨2048 + i.val, by omega⟩ (congrArg (2048 + ·) hi)]
  have z1 : val_main_cst_1 (F := Ideal) ix0 = 0 := Ideal.ofBits_zero_f32
  have z : val_main_cst (F := Ideal) ix0 = 0 := Ideal.ofBits_zero_f32
  rw [z1, z]
  refine congrArg₂ (fun a b : EReal => a * b) rfl (congrArg₂ (· + ·) (congrArg₂ (· + ·) (Eq.trans ?_ (zero_add _).symm) ?_) rfl)
  · by_cases h : q.val < 2
    · rw [if_pos h, dif_pos h, mul_zero]
    · have e : ∀ h', (⟨(q.val + 2048 - 2) % 2048, h'⟩ : Fin 2048) = ⟨q.val - 2, by omega⟩ := fun _ => Fin.ext (by dsimp only; omega)
      rw [if_neg h, dif_neg h, e]
  · by_cases h : q.val < 1
    · rw [if_pos h, dif_pos (by omega), mul_zero]
    · have e : ∀ h', (⟨(q.val + 2048 - 1) % 2048, h'⟩ : Fin 2048) = ⟨1 + q.val - 2, by omega⟩ := fun _ => Fin.ext (by dsimp only; omega)
      rw [if_neg h, dif_neg (by omega), e]

set_option maxHeartbeats 4000000 in
/-- The gradient of the three projections is the reference's. -/
theorem array5 : (dats m 0 c).arrAt 5 cfg0.N = val_main_v63 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 4 := t.isLt
  obtain ⟨z, q, j, rfl⟩ : ∃ (z : Fin 3) (q : Fin 2048) (j : Fin 256), y = (ix3 z q j : S3x2048x256.Idx) :=
    ⟨y 0, y 1, y 2, (ix3_eta (n0 := 3) (n1 := 2048) (n2 := 256) y).symm⟩
  obtain ⟨i, hi⟩ : ∃ i : Fin 1024, i.val = 256 * t.val + j.val := ⟨⟨_, by omega⟩, rfl⟩
  have e : (win0_5.blk t).view.emb (ix3 z q j) = (ix3 z q i : S3x2048x1024.Idx) := by
    obtain ⟨e0, e1, e2, e3, e4, e5, e6⟩ := idx_facts t
    blk_ext [e5]
  blk_simp
  rw [after0_5, e]
  canon_tiles x h using cover0_5 _ _ _ _
  all_goals
    obtain ⟨w, q', j', rfl⟩ : ∃ (w : Fin 1) (q' : Fin 2048) (j' : Fin 256), x = (ix3 w q' j' : S1x2048x256.Idx) := ⟨x 0, x 1, x 2, (ix3_eta (n0 := 1) (n1 := 2048) (n2 := 256) x).symm⟩
    obtain rfl : q = q' := Fin.ext h1
    obtain rfl : j = j' := Fin.ext h2
  · obtain rfl : z = 2 := Fin.ext (by have h0' : z.val = 2 + w.val := h0; show z.val = 2; omega)
    pointwise [k0_pay1, val_main_v63, val_main_v62, val_main_v61, val_main_v58, val_main_v55, val_main_v54, val_main_v53, val_main_v1]
    refine (congrArg₂ (fun a b : EReal => a * b) (cotangent m c t q j i hi) (block1 m c t q j ⟨1024 + i.val, by omega⟩ (congrArg (1024 + ·) hi))).trans ?_
    rw [dif_neg (by omega), dif_neg (by omega)]
    have e : ∀ h', (⟨2048 + i.val - 1024 - 1024, h'⟩ : Fin 1024) = i := fun _ => Fin.ext (by dsimp only; omega)
    refine (mul_comm (_ : EReal) _).trans (congrArg₂ (fun a b : EReal => a * b) ?_ ?_)
    · exact congrArg (fun k : Fin 3072 => m ((c : Thread nD τ).loc main_arg0) (ix2 q k)) (Fin.ext (by dsimp only; omega))
    · rw [e]
  · obtain rfl : z = 1 := Fin.ext (by have h0' : z.val = 1 + w.val := h0; show z.val = 1; omega)
    pointwise [k0_pay16, val_main_v63, val_main_v62, val_main_v60, val_main_v57, val_main_v55, val_main_v54, val_main_v53, val_main_v2]
    exact congrArg₂ (fun a b : EReal => a * b) (cotangent m c t q j i hi) (block2 m c t q j ⟨2048 + i.val, by omega⟩ (congrArg (2048 + ·) hi))
  · obtain rfl : z = 0 := Fin.ext (by have h0' : z.val = w.val := h0; show z.val = 0; omega)
    obtain rfl : w = 0 := Fin.eq_zero w
    pointwise [val_main_v63, val_main_v62, val_main_v59, val_main_v56, val_main_v55]
    exact conv m c t q j i hi

end Cert.ScGateBwdIdeal.Mixer
end
-- ==== Proof.ScOutBwd.lean ====
module

public import proofs.«01_k».proof.Proof.Gen.ScOutBwdIdeal.Value
public import proofs.«01_k».proof.Proof.Gen.ScOutBwdRefIdeal.Read
public import proofs.«01_k».proof.Proof.Sums

@[expose] public section

/-!
  The gradient of the short convolution's second product in its argument: what the call's array holds after the run.
-/

set_option maxRecDepth 16384

noncomputable section

namespace Cert.ScOutBwdIdeal.Mixer

open Cert.ScOutBwdIdeal Cert.ScOutBwdIdeal.Gen Cert.ScOutBwdRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 2, 0] ∧ win0_1.index t = ![t.val % 2, 0]
    ∧ win0_2.index t = ![t.val / 2, t.val % 2] := by
  decide +kernel

theorem block0 (t : Fin cfg0.N) (q : Fin 1024) (j : Fin 1024) (p : Fin 2048) (hp : p.val = 1024 * (t.val / 2) + q.val) :
    iblk m c 0 t (ix2 q j) = m ((c : Thread nD τ).loc main_arg1) (ix2 p j) := by
  have e : (win0_0.blk t).view.emb (ix2 q j) = (ix2 p j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 512) (j : Fin 1024) (p : Fin 1024) (hp : p.val = 512 * (t.val % 2) + q.val) :
    iblk m c 1 t (ix2 q j) = m ((c : Thread nD τ).loc main_arg0) (ix2 p j) := by
  have e : (win0_1.blk t).view.emb (ix2 q j) = (ix2 p j : S1024x1024.Idx) := by
    obtain ⟨e0, e1, e2⟩ := idx_facts t
    blk_ext [e1]
  show V m c main_v1 ((win0_1.blk t).view.emb (ix2 q j)) = _
  rw [e]
  rfl

/-- The result is the reference's gradient. -/
theorem array2 : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨q, j, rfl⟩ : ∃ (q : Fin 1024) (j : Fin 512), y = (ix2 q j : S1024x512.Idx) := ⟨y 0, y 1, (ix2_eta (n0 := 1024) (n1 := 512) y).symm⟩
  obtain ⟨p, hp⟩ : ∃ p : Fin 2048, p.val = 1024 * (t.val / 2) + q.val := ⟨⟨_, by omega⟩, rfl⟩
  obtain ⟨i, hi⟩ : ∃ i : Fin 1024, i.val = 512 * (t.val % 2) + j.val := ⟨⟨_, by omega⟩, rfl⟩
  have e : (win0_2.blk t).view.emb (ix2 q j) = (ix2 p i : S2048x1024.Idx) := by
    obtain ⟨e0, e1, e2⟩ := idx_facts t
    blk_ext [e2]
  blk_simp
  rw [after0_2, e]
  frame_out
  pointwise [k0_pay1, val_main_v2]
  exact dot_congr (fun x => block0 m c t q x p hp) (fun x => block1 m c t j x i hi)

end Cert.ScOutBwdIdeal.Mixer
end
-- ==== Proof.ScDwOut.lean ====
module

public import proofs.«01_k».proof.Proof.Gen.ScDwOutIdeal.Value
public import proofs.«01_k».proof.Proof.Gen.ScDwOutRefIdeal.Read
public import proofs.«01_k».proof.Proof.Sums

@[expose] public section

/-!
  The gradient of the short convolution's second weights: what the call's array holds after the run.
-/

set_option maxRecDepth 16384

noncomputable section

namespace Cert.ScDwOutIdeal.Mixer

open Cert.ScDwOutIdeal Cert.ScDwOutIdeal.Gen Cert.ScDwOutRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, t.val] ∧ win0_1.index t = ![0, 0] ∧ win0_2.index t = ![t.val, 0] := by
  decide +kernel

theorem block0 (t : Fin cfg0.N) (q : Fin 2048) (j : Fin 512) (i : Fin 1024) (hi : i.val = 512 * t.val + j.val) :
    iblk m c 0 t (ix2 q j) = m ((c : Thread nD τ).loc main_arg0) (ix2 q i) := by
  have e : (win0_0.blk t).view.emb (ix2 q j) = (ix2 q i : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 2048) (j : Fin 1024) :
    iblk m c 1 t (ix2 q j) = m ((c : Thread nD τ).loc main_arg1) (ix2 q j) := by
  have e : (win0_1.blk t).view.emb (ix2 q j) = (ix2 q j : S2048x1024.Idx) := by
    obtain ⟨e0, e1, e2⟩ := idx_facts t
    blk_ext [e1]
  show V m c main_v1 ((win0_1.blk t).view.emb (ix2 q j)) = _
  rw [e]
  rfl

/-- The result is the reference's gradient. -/
theorem array2 : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  have ht : t.val < 2 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 1024, p.val = 512 * t.val + q.val := ⟨⟨_, by omega⟩, rfl⟩
  have e : (win0_2.blk t).view.emb (ix2 q j) = (ix2 p j : S1024x1024.Idx) := by
    obtain ⟨e0, e1, e2⟩ := idx_facts t
    blk_ext [e2]
  blk_simp
  rw [after0_2, e]
  frame_out
  pointwise [k0_pay1, val_main_v4, val_main_v3, val_main_v2]
  exact dot_congr_comm (fun x => block0 m c t x q p hp) (fun x => block1 m c t x j)

end Cert.ScDwOutIdeal.Mixer
end
-- ==== Proof.ScDwIn.lean ====
module

public import proofs.«01_k».proof.Proof.Gen.ScDwInIdeal.Value
public import proofs.«01_k».proof.Proof.Gen.ScDwInRefIdeal.Read
public import proofs.«01_k».proof.Proof.Sums

@[expose] public section

/-!
  The gradient of the short convolution's first weights: what the call's array holds after the run.
-/

set_option maxRecDepth 16384

noncomputable section

namespace Cert.ScDwInIdeal.Mixer

open Cert.ScDwInIdeal Cert.ScDwInIdeal.Gen Cert.ScDwInRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![t.val / 4, 0, t.val % 4]
    ∧ win0_2.index t = ![t.val / 3, 0, t.val % 3] := by
  decide +kernel

theorem block0 (t : Fin cfg0.N) (q : Fin 2048) (j : Fin 1024) :
    iblk m c 0 t (ix2 q j) = m ((c : Thread nD τ).loc main_arg0) (ix2 q j) := by
  have e : (win0_0.blk t).view.emb (ix2 q j) = (ix2 q j : S2048x1024.Idx) := by
    obtain ⟨e0, e1, e2⟩ := idx_facts t
    blk_ext [e0]
  show V m c main_v0 ((win0_0.blk t).view.emb (ix2 q j)) = _
  rw [e]
  rfl

theorem block1 (t : Fin cfg0.N) (z : Fin 1) (q : Fin 2048) (j : Fin 256) (k : Fin 3) (i : Fin 1024) (hk : k.val = t.val / 4) (hi : i.val = 256 * (t.val % 4) + j.val) :
    iblk m c 1 t (ix3 z q j) = m ((c : Thread nD τ).loc main_arg1) (ix3 k q i) := by
  have e : (win0_1.blk t).view.emb (ix3 z q j) = (ix3 k q i : S3x2048x1024.Idx) := by
    obtain ⟨e0, e1, e2⟩ := idx_facts t
    blk_ext [e1]
  show V m c main_arg1 ((win0_1.blk t).view.emb (ix3 z q j)) = _
  rw [e]
  rfl

/-- The result is the reference's gradient. -/
theorem array2 : (dats m 0 c).arrAt 2 cfg0.N = val_main_v14 (F := Ideal) (m ((c : Thread nD τ).loc main_arg0)) (m ((c : Thread nD τ).loc main_arg1)) := by
  refine (dats m 0 c).arrAt_eq_of_covers 2 _ (by decide +kernel) fun t hf y => ?_
  have ht : t.val < 12 := t.isLt
  obtain ⟨z, q, j, rfl⟩ : ∃ (z : Fin 1) (q : Fin 1024) (j : Fin 256), y = (ix3 z q j : S1x1024x256.Idx) :=
    ⟨y 0, y 1, y 2, (ix3_eta (n0 := 1) (n1 := 1024) (n2 := 256) y).symm⟩
  have e : (win0_2.blk t).view.emb (ix3 z q j) = (ix3 ⟨t.val / 3, by omega⟩ q ⟨256 * (t.val % 3) + j.val, by omega⟩ : S4x1024x768.Idx) := by
    obtain ⟨e0, e1, e2⟩ := idx_facts t
    blk_ext [e2]
  blk_simp
  rw [after0_2, e]
  frame_out
  pointwise [k0_pay1, val_main_v14, val_main_v13, val_main_v12, val_main_v11, val_main_v10, val_main_v7, val_main_v6, val_main_v5, val_main_v4, val_main_v3, val_main_v2, val_main_v1, val_main_v0]
  split_ifs with h1 h2
  all_goals exact dot_congr_comm (fun x => block0 m c t x q) (fun x => (block1 m c t 0 x j _ _ (by first | (show 0 = t.val / 4; omega) | (show 1 = t.val / 4; omega) | (show 2 = t.val / 4; omega)) (by dsimp only; omega)))

end Cert.ScDwInIdeal.Mixer
end
-- ==== Proof.ScInBwd.lean ====
module

public import proofs.«01_k».proof.Proof.Gen.ScInBwdIdeal.Value
public import proofs.«01_k».proof.Proof.Gen.ScInBwdRefIdeal.Read
public import proofs.«01_k».proof.Proof.MlpUpBwd

@[expose] public section

/-!
  The backward call of the short convolution's first product and of the layer norm before it: what its five arrays hold after the
  run.
-/

set_option maxRecDepth 16384

noncomputable section

namespace Cert.ScInBwdIdeal.Mixer

open Cert.ScInBwdIdeal Cert.ScInBwdIdeal.Gen Cert.ScInBwdRefIdeal.Read Cert.Sums Cert.Attn Idealize.ShloMosaic Idealize.ShloMosaic.TcCoe

variable (m : (ℓ : Loc nD τ sig) → Buf (Elt Ideal) ℓ) (c : Dev nD)

theorem idx_facts : ∀ t : Fin cfg0.N, win0_0.index t = ![0, t.val, 0] ∧ win0_1.index t = ![0, 0] ∧ win0_2.index t = ![t.val, 0]
    ∧ win0_3.index t = ![t.val, 0] ∧ win0_4.index t = ![t.val, 0] ∧ win0_5.index t = ![0, 0] := by
  decide +kernel

theorem out_facts : ∀ t : Fin cfg0.N, win0_6.index t = ![t.val, 0] ∧ win0_7.index t = ![t.val, 0] ∧ win0_8.index t = ![0, 0]
    ∧ win0_9.index t = ![0, 0] ∧ win0_10.index t = ![0, 0] := by
  decide +kernel

theorem block0 (t : Fin cfg0.N) (k : Fin 3) (q : Fin 512) (j : Fin 1024) (p : Fin 2048) (hp : p.val = 512 * t.val + q.val) :
    iblk m c 0 t (ix3 k q j) = m ((c : Thread nD τ).loc main_arg4) (ix3 k p j) := by
  have e : (win0_0.blk t).view.emb (ix3 k q j) = (ix3 k p j : S3x2048x1024.Idx) := by
    obtain ⟨e0, e1, e2, e3, e4, e5⟩ := idx_facts t
    blk_ext [e0]
  show V m c main_arg4 ((win0_0.blk t).view.emb (ix3 k q j)) = _
  rw [e]
  rfl

theorem block1 (t : Fin cfg0.N) (q : Fin 1024) (j : Fin 3072) :
    iblk m c 1 t (ix2 q j) = m ((c : Thread nD τ).loc main_arg3) (ix2 q j) := by
  have e : (win0_1.blk t).view.emb (ix2 q j) = (ix2 q j : S1024x3072.Idx) := by
    obtain ⟨e0, e1, e2, e3, e4, e5⟩ := idx_facts t
    blk_ext [e1]
  show V m c main_v18 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg5) (ix2 p j) := by
  have e : (win0_2.blk t).view.emb (ix2 q j) = (ix2 p j : S2048x1024.Idx) := by
    obtain ⟨e0, e1, e2, e3, e4, e5⟩ := idx_facts t
    blk_ext [e2]
  show V m c main_arg5 ((win0_2.blk t).view.emb (ix2 q j)) = _
  rw [e]
  rfl

/-- The saved normalised rows. -/
theorem block3 (t : Fin cfg0.N) (q : Fin 512) (j : Fin 1024) (p : Fin 2048) (hp : p.val = 512 * t.val + q.val) :
    iblk m c 3 t (ix2 q j) = val_main_v30 (F := Ideal) (m ((c : Thread nD τ).loc main_arg0)) (ix2 p j) := by
  have e : (win0_3.blk t).view.emb (ix2 q j) = (ix2 p j : S2048x1024.Idx) := by
    obtain ⟨e0, e1, e2, e3, e4, e5⟩ := idx_facts t
    blk_ext [e3]
  show V m c main_v17 ((win0_3.blk t).view.emb (ix2 q j)) = _
  rw [e]
  rfl

/-- The saved inverse deviations. -/
theorem block4 (t : Fin cfg0.N) (q : Fin 512) (z : Fin 1) (p : Fin 2048) (hp : p.val = 512 * t.val + q.val) :
    iblk m c 4 t (ix2 q z) = val_main_v25 (F := Ideal) (m ((c : Thread nD τ).loc main_arg0)) (ix2 p z) := by
  have e : (win0_4.blk t).view.emb (ix2 q z) = (ix2 p z : S2048x1.Idx) := by
    obtain ⟨e0, e1, e2, e3, e4, e5⟩ := idx_facts t
    blk_ext [e4]
  show V m c main_v13 ((win0_4.blk t).view.emb (ix2 q z)) = _
  rw [e]
  rfl

theorem block5 (t : Fin cfg0.N) (z : Fin 1) (j : Fin 1024) :
    iblk m c 5 t (ix2 z j) = m ((c : Thread nD τ).loc main_arg1) (ix2 z j) := by
  have e : (win0_5.blk t).view.emb (ix2 z j) = (ix2 z j : S1x1024.Idx) := by
    obtain ⟨e0, e1, e2, e3, e4, e5⟩ := idx_facts t
    blk_ext [e5]
  show V m c main_arg1 ((win0_5.blk t).view.emb (ix2 z j)) = _
  rw [e]
  rfl

/-- The norm's cotangent: the kernel's is the reference's. -/
theorem cotangent (t : Fin cfg0.N) (q : Fin 512) (j : Fin 1024) (p : Fin 2048) (hp : p.val = 512 * t.val + q.val) :
    k0_pay1 (iblk m c 0 t) (iblk m c 1 t) (iblk m c 2 t) (ix2 q j) = val_main_v41 (F := Ideal) (m ((c : Thread nD τ).loc main_arg3))
      (m ((c : Thread nD τ).loc main_arg4)) (m ((c : Thread nD τ).loc main_arg5)) (ix2 p j) := by
  pointwise [k0_pay1, val_main_v41, val_main_v40, val_main_v39, val_main_cst_7, val_main_v38, val_main_v7, val_main_v6, val_main_v5, val_main_v4, val_main_v3, val_main_v2, val_main_v1, val_main_v0]
  rw [block2 m c t q j p hp]
  refine congrArg (· + _) (dot_congr (fun x => ?_) (fun x => block1 m c t j x))
  split_ifs <;> exact block0 m c t _ q _ p hp

section reference
variable (x : (⟨S2048x1024, .f32⟩ : BufTy).Contents (Elt Ideal)) (g : (⟨S1x1024, .f32⟩ : BufTy).Contents (Elt Ideal))
  (w : (⟨S1024x3072, .f32⟩ : BufTy).Contents (Elt Ideal)) (du : (⟨S3x2048x1024, .bf16⟩ : BufTy).Contents (Elt Ideal))
  (dr : (⟨S2048x1024, .f32⟩ : BufTy).Contents (Elt Ideal)) (p : Fin 2048)

theorem ref_xhat (j : Fin 1024) :
    val_main_v30 (F := Ideal) x (ix2 p j) = val_main_v22 (F := Ideal) x (ix2 p j) * val_main_v25 (F := Ideal) x (ix2 p 0) :=
  MlpUpBwdIdeal.Mlp.ref_xhat x p j

/-- The reference's centred rows are reals of sum zero. -/
theorem ref_centred (hx : ∀ i, IsReal (x i)) : ∃ r : Fin 1024 → ℝ, ∑ k, r k = 0 ∧ ∀ k, val_main_v22 (F := Ideal) x (ix2 p k) = (r k : EReal) :=
  MlpUpBwdIdeal.Mlp.ref_centred x p hx

/-- Their deviations are positive reals. -/
theorem ref_rstd (r : Fin 1024 → ℝ) (hr : ∀ k, val_main_v22 (F := Ideal) x (ix2 p k) = (r k : EReal)) :
    ∃ v s : ℝ, 0 < v ∧ s * s * v = 1 ∧ (∀ z, val_main_v24 (F := Ideal) x (ix2 p z) = (v : EReal)) ∧ ∀ z, val_main_v25 (F := Ideal) x (ix2 p z) = (s : EReal) :=
  MlpUpBwdIdeal.Mlp.ref_rstd x p r hr

/-- The cotangent of the three parts, laid side by side, is real. -/
theorem ref_parts (hdu : ∀ i, IsReal (du i)) (k : Fin 3072) : IsReal (val_main_v7 (F := Ideal) du (ix2 p k)) := by
  pointwise [val_main_v7, val_main_v6, val_main_v5, val_main_v4, val_main_v3, val_main_v2, val_main_v1, val_main_v0]
  split_ifs <;> exact hdu _

/-- The norm's cotangent is real. -/
theorem ref_cotangent (hw : ∀ i, IsReal (w i)) (hdu : ∀ i, IsReal (du i)) (hdr : ∀ i, IsReal (dr i)) (j : Fin 1024) :
    IsReal (val_main_v41 (F := Ideal) w du dr (ix2 p j)) := by
  pointwise [val_main_v41, val_main_v40, val_main_v39, val_main_cst_7, val_main_v38]
  exact (IsReal.sum _ _ fun k _ => (ref_parts du p hdu k).mul (hw _)).add (LayerNorm.ofBits_alpha.mul (hdr _))

end reference

/-- The hypothesis on the arguments: all but the norm's shift are real. -/
abbrev Reals : Prop := (∀ i, IsReal (m ((c : Thread nD τ).loc main_arg0) i)) ∧ (∀ i, IsReal (m ((c : Thread nD τ).loc main_arg1) i))
  ∧ (∀ i, IsReal (m ((c : Thread nD τ).loc main_arg3) i)) ∧ (∀ i, IsReal (m ((c : Thread nD τ).loc main_arg4) i))
  ∧ ∀ i, IsReal (m ((c : Thread nD τ).loc main_arg5) i)

/-- The norm's gradient: the kernel's rows are the reference's. -/
theorem row (hm : Reals m c) (t : Fin cfg0.N) (q : Fin 512) (j : Fin 1024) (p : Fin 2048) (hp : p.val = 512 * t.val + q.val) :
    k0_pay3 (iblk m c 0 t) (iblk m c 1 t) (iblk m c 2 t) (iblk m c 3 t) (iblk m c 4 t) (iblk m c 5 t) (ix2 q j)
      = val_main_v72 (F := Ideal) (m ((c : Thread nD τ).loc main_arg0)) (m ((c : Thread nD τ).loc main_arg1)) (m ((c : Thread nD τ).loc main_arg3))
      (m ((c : Thread nD τ).loc main_arg4)) (m ((c : Thread nD τ).loc main_arg5)) (ix2 p j) := by
  obtain ⟨hx, hg, hw, hdh, hdr⟩ := hm
  obtain ⟨r, h0, hr⟩ := ref_centred _ p hx
  obtain ⟨v, s, hv, hs, h16, h17⟩ := ref_rstd _ p r hr
  have h5 : ∀ k, val_main_v13 (F := Ideal) (m ((c : Thread nD τ).loc main_arg0)) (ix2 p k) = (r k : EReal) := hr
  choose d hd using fun k => (ref_cotangent _ _ _ p hw hdh hdr k).mul (hg (ix2 0 k))
  pointwise [k0_pay3, k0_pay2, val_main_v72, val_main_v71, val_main_v70, val_main_cst_16, val_main_v69, val_main_v68, val_main_cst_15, val_main_v67, val_main_v66, val_main_v65, val_main_v64, val_main_cst_14, val_main_v63, val_main_v62, val_main_v61, val_main_v60, val_main_cst_13, val_main_v59, val_main_v58, val_main_cst_12, val_main_v57, val_main_v56, val_main_cst_11, val_main_v55, val_main_v54, val_main_v53, val_main_v52, val_main_v51, val_main_v50, val_main_cst_10, val_main_v49, val_main_v48, val_main_v47, val_main_v28, val_main_v27, val_main_cst_5, val_main_v26, val_main_v16, val_main_v15, val_main_cst_1]
  simp only [cotangent m c t q _ p hp, block3 m c t q _ p hp, block4 m c t q _ p hp, block5, ref_xhat, hr, h5, h16, h17, hd, Fin.sum_univ_one]
  exact LayerNorm.backward r d s v hv hs h0 j

/-- The call's first result is the reference's. -/
theorem array6 (hm : Reals m c) : (dats m 0 c).arrAt 6 cfg0.N = val_main_v72 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e6, e7, e8, e9, e10⟩ := out_facts t
    blk_ext [e6]
  blk_simp
  rw [after0_6, e]
  by_cases h : t.val % 4 = 0
  · rw [outsAt0_A m c t h h h]
    frame_out
    exact row m c hm t q j p hp
  · rw [outsAt0_B m c t h h h]
    frame_out
    exact row m c hm t q j p hp

/-- The call's second result is the rounding of the first. -/
theorem array7 (hm : Reals m c) : (dats m 0 c).arrAt 7 cfg0.N = val_main_v73 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e6, e7, e8, e9, e10⟩ := out_facts t
    blk_ext [e7]
  blk_simp
  rw [after0_7, e]
  by_cases h : t.val % 4 = 0
  · rw [outsAt0_A m c t h h h]
    frame_out
    exact row m c hm t q j p hp
  · rw [outsAt0_B m c t h h h]
    frame_out
    exact row m c hm t q j p hp

/-- The gradient of the norm's gain. -/
theorem array8 : (dats m 0 c).arrAt 8 cfg0.N = val_main_v46 (F := Ideal) (m ((c : Thread nD τ).loc main_arg0)) (m ((c : Thread nD τ).loc main_arg3))
    (m ((c : Thread nD τ).loc main_arg4)) (m ((c : Thread nD τ).loc main_arg5)) := by
  refine (dats m 0 c).arrAt_eq_of_covers 8 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_8.blk t).view.emb (ix2 z j) = (ix2 z j : S1x1024.Idx) := by
    obtain ⟨e6, e7, e8, e9, e10⟩ := out_facts t
    blk_ext [e8]
  have hl : t.val + 1 = cfg0.N := by
    have h := (flush0_8 t).mp hf
    have ht : t.val < 4 := t.isLt
    show t.val + 1 = 4
    omega
  blk_simp
  rw [after0_8, e]
  refine (Pipeline.eq_sum_fin_of_reset_step_apply_last (fun n h => (outsAt0 m c n h).2.2.1) 4 (fun _ => (0 : EReal)) (fun t y => ∑ q : Fin 512,
    k0_pay1 (iblk m c 0 t) (iblk m c 1 t) (iblk m c 2 t) (ix2 q (y 1)) * iblk m c 3 t (ix2 q (y 1))) (fun t h y => ?_) (fun t h y => ?_) (by decide) t hl (ix2 z j)).trans ?_
  · rw [outsAt0_A m c t h h h]
    frame_out
    pointwise [k0_pay5, k0_pay6, k0_pay2]
  · rw [outsAt0_B m c t h h h]
    frame_out
    pointwise [k0_pay6, k0_pay2]
  · pointwise [val_main_v46, val_main_v45, val_main_cst_9, val_main_v44]
    refine MlpUpBwdIdeal.Mlp.sum_rows fun t q p hp => ?_
    exact (congrArg₂ (· * ·) (cotangent m c t q j p hp) (block3 m c t q j p hp)).trans (mul_comm _ _)

/-- The gradient of the norm's shift. -/
theorem array9 : (dats m 0 c).arrAt 9 cfg0.N = val_main_v43 (F := Ideal) (m ((c : Thread nD τ).loc main_arg3))
    (m ((c : Thread nD τ).loc main_arg4)) (m ((c : Thread nD τ).loc main_arg5)) := by
  refine (dats m 0 c).arrAt_eq_of_covers 9 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_9.blk t).view.emb (ix2 z j) = (ix2 z j : S1x1024.Idx) := by
    obtain ⟨e6, e7, e8, e9, e10⟩ := out_facts t
    blk_ext [e9]
  have hl : t.val + 1 = cfg0.N := by
    have h := (flush0_9 t).mp hf
    have ht : t.val < 4 := t.isLt
    show t.val + 1 = 4
    omega
  blk_simp
  rw [after0_9, e]
  refine (Pipeline.eq_sum_fin_of_reset_step_apply_last (fun n h => (outsAt0 m c n h).2.2.2.1) 4 (fun _ => (0 : EReal)) (fun t y => ∑ q : Fin 512,
    k0_pay1 (iblk m c 0 t) (iblk m c 1 t) (iblk m c 2 t) (ix2 q (y 1))) (fun t h y => ?_) (fun t h y => ?_) (by decide) t hl (ix2 z j)).trans ?_
  · rw [outsAt0_A m c t h h h]
    frame_out
    pointwise [k0_pay7, k0_pay8]
  · rw [outsAt0_B m c t h h h]
    frame_out
    pointwise [k0_pay8]
  · pointwise [val_main_v43, val_main_v42, val_main_cst_8]
    refine MlpUpBwdIdeal.Mlp.sum_rows fun t q p hp => ?_
    exact cotangent m c t q j p hp

/-- The column sums of the first result. -/
theorem array10 (hm : Reals m c) : (dats m 0 c).arrAt 10 cfg0.N = val_main_v75 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_10.blk t).view.emb (ix2 z j) = (ix2 z j : S1x1024.Idx) := by
    obtain ⟨e6, e7, e8, e9, e10⟩ := out_facts t
    blk_ext [e10]
  have hl : t.val + 1 = cfg0.N := by
    have h := (flush0_10 t).mp hf
    have ht : t.val < 4 := t.isLt
    show t.val + 1 = 4
    omega
  blk_simp
  rw [after0_10, e]
  refine (Pipeline.eq_sum_fin_of_reset_step_apply_last (fun n h => (outsAt0 m c n h).2.2.2.2) 4 (fun _ => (0 : EReal)) (fun t y => ∑ q : Fin 512,
    k0_pay3 (iblk m c 0 t) (iblk m c 1 t) (iblk m c 2 t) (iblk m c 3 t) (iblk m c 4 t) (iblk m c 5 t) (ix2 q (y 1))) (fun t h y => ?_) (fun t h y => ?_) (by decide) t hl (ix2 z j)).trans ?_
  · rw [outsAt0_A m c t h h h]
    frame_out
    pointwise [k0_pay9, k0_pay10]
  · rw [outsAt0_B m c t h h h]
    frame_out
    pointwise [k0_pay10]
  · pointwise [val_main_v75, val_main_v74, val_main_cst_17]
    refine MlpUpBwdIdeal.Mlp.sum_rows fun t q p hp => ?_
    exact row m c hm t q j p hp

end Cert.ScInBwdIdeal.Mixer
end
-- ==== Proof.ScIn.lean ====
module

public import proofs.«01_k».proof.Proof.Gen.ScInIdeal.Value
public import proofs.«01_k».proof.Proof.Gen.ScInRefIdeal.Read
public import proofs.«01_k».proof.Proof.Sums

@[expose] public section

/-!
  The short convolution's first product: what the call's array holds after the run.
-/

set_option maxRecDepth 16384

noncomputable section

namespace Cert.ScInIdeal.Mixer

open Cert.ScInIdeal Cert.ScInIdeal.Gen Cert.ScInRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 4, 0] ∧ win0_1.index t = ![0, t.val % 4]
    ∧ win0_2.index t = ![t.val / 4, t.val % 4] := by
  decide +kernel

theorem block0 (t : Fin cfg0.N) (q : Fin 1024) (j : Fin 1024) (p : Fin 2048) (hp : p.val = 1024 * (t.val / 4) + q.val) :
    iblk m c 0 t (ix2 q j) = m ((c : Thread nD τ).loc main_arg0) (ix2 p j) := by
  have e : (win0_0.blk t).view.emb (ix2 q j) = (ix2 p j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 1024) (j : Fin 768) (i : Fin 3072) (hi : i.val = 768 * (t.val % 4) + j.val) :
    iblk m c 1 t (ix2 q j) = m ((c : Thread nD τ).loc main_arg1) (ix2 q i) := by
  have e : (win0_1.blk t).view.emb (ix2 q j) = (ix2 q i : S1024x3072.Idx) := by
    obtain ⟨e0, e1, e2⟩ := idx_facts t
    blk_ext [e1]
  show V m c main_v1 ((win0_1.blk t).view.emb (ix2 q j)) = _
  rw [e]
  rfl

/-- The result is the reference's product. -/
theorem array2 : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t hf y => ?_
  have ht : t.val < 8 := t.isLt
  obtain ⟨q, j, rfl⟩ : ∃ (q : Fin 1024) (j : Fin 768), y = (ix2 q j : S1024x768.Idx) := ⟨y 0, y 1, (ix2_eta (n0 := 1024) (n1 := 768) y).symm⟩
  obtain ⟨p, hp⟩ : ∃ p : Fin 2048, p.val = 1024 * (t.val / 4) + q.val := ⟨⟨_, by omega⟩, rfl⟩
  obtain ⟨i, hi⟩ : ∃ i : Fin 3072, i.val = 768 * (t.val % 4) + j.val := ⟨⟨_, by omega⟩, rfl⟩
  have e : (win0_2.blk t).view.emb (ix2 q j) = (ix2 p i : S2048x3072.Idx) := by
    obtain ⟨e0, e1, e2⟩ := idx_facts t
    blk_ext [e2]
  blk_simp
  rw [after0_2, e]
  frame_out
  pointwise [k0_pay1, val_main_v0]
  exact dot_congr (fun x => block0 m c t q x p hp) (fun x => block1 m c t x j i hi)

end Cert.ScInIdeal.Mixer
end
-- ==== Proof.ScGate.lean ====
module

public import proofs.«01_k».proof.Proof.Gen.ScGateIdeal.Value
public import proofs.«01_k».proof.Proof.Gen.ScGateRefIdeal.Read
public import proofs.«01_k».proof.Proof.Rows

@[expose] public section

/-!
  The causal convolution and its gate: what the call's array holds after the run.
-/

set_option maxRecDepth 16384

noncomputable section

namespace Cert.ScGateIdeal.Mixer

open Cert.ScGateIdeal Cert.ScGateIdeal.Gen Cert.ScGateRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, t.val] ∧ win0_1.index t = ![0, t.val + 4] ∧ win0_2.index t = ![0, t.val + 8]
    ∧ win0_3.index t = ![0, t.val] ∧ win0_4.index t = ![0, t.val] := by
  decide +kernel

theorem block0 (t : Fin cfg0.N) (q : Fin 2048) (j : Fin 256) (i : Fin 3072) (hi : i.val = 256 * t.val + j.val) :
    iblk m c 0 t (ix2 q j) = m ((c : Thread nD τ).loc main_arg0) (ix2 q i) := by
  have e : (win0_0.blk t).view.emb (ix2 q j) = (ix2 q i : S2048x3072.Idx) := by
    obtain ⟨e0, e1, e2, e3, e4⟩ := idx_facts t
    blk_ext [e0]
  show V m c main_arg0 ((win0_0.blk t).view.emb (ix2 q j)) = _
  rw [e]

theorem block1 (t : Fin cfg0.N) (q : Fin 2048) (j : Fin 256) (i : Fin 3072) (hi : i.val = 1024 + (256 * t.val + j.val)) :
    iblk m c 1 t (ix2 q j) = m ((c : Thread nD τ).loc main_arg0) (ix2 q i) := by
  have e : (win0_1.blk t).view.emb (ix2 q j) = (ix2 q i : S2048x3072.Idx) := by
    obtain ⟨e0, e1, e2, e3, e4⟩ := idx_facts t
    blk_ext [e1]
  show V m c main_arg0 ((win0_1.blk t).view.emb (ix2 q j)) = _
  rw [e]

theorem block2 (t : Fin cfg0.N) (q : Fin 2048) (j : Fin 256) (i : Fin 3072) (hi : i.val = 2048 + (256 * t.val + j.val)) :
    iblk m c 2 t (ix2 q j) = m ((c : Thread nD τ).loc main_arg0) (ix2 q i) := by
  have e : (win0_2.blk t).view.emb (ix2 q j) = (ix2 q i : S2048x3072.Idx) := by
    obtain ⟨e0, e1, e2, e3, e4⟩ := idx_facts t
    blk_ext [e2]
  show V m c main_arg0 ((win0_2.blk t).view.emb (ix2 q j)) = _
  rw [e]

theorem block3 (t : Fin cfg0.N) (q : Fin 3) (j : Fin 256) (i : Fin 1024) (hi : i.val = 256 * t.val + j.val) :
    iblk m c 3 t (ix2 q j) = m ((c : Thread nD τ).loc main_arg1) (ix2 q i) := by
  have e : (win0_3.blk t).view.emb (ix2 q j) = (ix2 q i : S3x1024.Idx) := by
    obtain ⟨e0, e1, e2, e3, e4⟩ := idx_facts t
    blk_ext [e3]
  show V m c main_arg1 ((win0_3.blk t).view.emb (ix2 q j)) = _
  rw [e]

/-- The result is the reference's gated convolution. -/
theorem array4 : (dats m 0 c).arrAt 4 cfg0.N = val_main_v23 (F := Ideal) (m ((c : Thread nD τ).loc main_arg0)) (m ((c : Thread nD τ).loc main_arg1)) := by
  refine (dats m 0 c).arrAt_eq_of_covers 4 _ (by decide +kernel) fun t hf y => ?_
  have ht : t.val < 4 := t.isLt
  obtain ⟨q, j, rfl⟩ : ∃ (q : Fin 2048) (j : Fin 256), y = (ix2 q j : S2048x256.Idx) := ⟨y 0, y 1, (ix2_eta (n0 := 2048) (n1 := 256) y).symm⟩
  obtain ⟨i, hi⟩ : ∃ i : Fin 1024, i.val = 256 * t.val + j.val := ⟨⟨_, by omega⟩, rfl⟩
  have e : (win0_4.blk t).view.emb (ix2 q j) = (ix2 q i : S2048x1024.Idx) := by
    obtain ⟨e0, e1, e2, e3, e4⟩ := idx_facts t
    blk_ext [e4]
  blk_simp
  rw [after0_4, e]
  frame_out
  pointwise [k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rw [Rows.select_ge 2 (by decide) q, Rows.select_ge 1 (by decide) q, block0 m c t q j ⟨i.val, by omega⟩ hi, block3 m c t 0 j i hi, block3 m c t 1 j i hi,
    block3 m c t 2 j i hi]
  simp only [block1 m c t _ j ⟨1024 + i.val, by omega⟩ (congrArg (1024 + ·) hi), block2 m c t _ j ⟨2048 + i.val, by omega⟩ (congrArg (2048 + ·) hi)]
  have z0 : val_main_cst_0 (F := Ideal) ix0 = 0 := Ideal.ofBits_zero_f32
  have z : val_main_cst (F := Ideal) ix0 = 0 := Ideal.ofBits_zero_f32
  rw [z0, z]
  refine congrArg₂ (fun a b : EReal => a * b) rfl (congrArg₂ (· + ·) (congrArg₂ (· + ·) (Eq.trans ?_ (zero_add _).symm) ?_) rfl)
  · by_cases h : q.val < 2
    · rw [if_pos h, dif_pos h, mul_zero]
    · have e : ∀ h', (⟨(q.val + 2048 - 2) % 2048, h'⟩ : Fin 2048) = ⟨q.val - 2, by omega⟩ := fun _ => Fin.ext (by dsimp only; omega)
      rw [if_neg h, dif_neg h, e]
  · by_cases h : q.val < 1
    · rw [if_pos h, dif_pos (by omega), mul_zero]
    · have e : ∀ h', (⟨(q.val + 2048 - 1) % 2048, h'⟩ : Fin 2048) = ⟨1 + q.val - 2, by omega⟩ := fun _ => Fin.ext (by dsimp only; omega)
      rw [if_neg h, dif_neg (by omega), e]

end Cert.ScGateIdeal.Mixer
end
-- ==== Proof.ScOutLn.lean ====
module

public import proofs.«01_k».proof.Proof.Gen.ScOutLnIdeal.Value
public import proofs.«01_k».proof.Proof.Gen.ScOutLnRefIdeal.Read
public import proofs.«01_k».proof.Proof.Sums

@[expose] public section

/-!
  The short convolution's second product with the residual and the layer norm after it: what the call's four arrays hold after
  the run.
-/

set_option maxRecDepth 16384

noncomputable section

namespace Cert.ScOutLnIdeal.Mixer

open Cert.ScOutLnIdeal Cert.ScOutLnIdeal.Gen Cert.ScOutLnRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![0, 0] ∧ win0_4.index t = ![0, 0] := by
  decide +kernel

theorem out_facts : ∀ t : Fin cfg0.N, win0_5.index t = ![t.val, 0] ∧ win0_6.index t = ![t.val, 0] ∧ win0_7.index t = ![t.val, 0]
    ∧ win0_8.index t = ![t.val, 0] := by
  decide +kernel

theorem block0 (t : Fin cfg0.N) (q : Fin 512) (j : Fin 1024) (p : Fin 2048) (hp : p.val = 512 * t.val + q.val) :
    iblk m c 0 t (ix2 q j) = m ((c : Thread nD τ).loc main_arg0) (ix2 p j) := by
  have e : (win0_0.blk t).view.emb (ix2 q j) = (ix2 p j : S2048x1024.Idx) := by
    obtain ⟨e0, e1, e2, e3, e4⟩ := idx_facts t
    blk_ext [e0]
  show V m c main_v0 ((win0_0.blk t).view.emb (ix2 q j)) = _
  rw [e]
  rfl

theorem block1 (t : Fin cfg0.N) (q : Fin 1024) (j : Fin 1024) :
    iblk m c 1 t (ix2 q j) = m ((c : Thread nD τ).loc main_arg1) (ix2 q j) := by
  have e : (win0_1.blk t).view.emb (ix2 q j) = (ix2 q j : S1024x1024.Idx) := by
    obtain ⟨e0, e1, e2, e3, e4⟩ := idx_facts t
    blk_ext [e1]
  show V m c main_v1 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg2) (ix2 p j) := by
  have e : (win0_2.blk t).view.emb (ix2 q j) = (ix2 p j : S2048x1024.Idx) := by
    obtain ⟨e0, e1, e2, e3, e4⟩ := idx_facts t
    blk_ext [e2]
  show V m c main_arg2 ((win0_2.blk t).view.emb (ix2 q j)) = _
  rw [e]
  rfl

theorem block3 (t : Fin cfg0.N) (z : Fin 1) (j : Fin 1024) :
    iblk m c 3 t (ix2 z j) = m ((c : Thread nD τ).loc main_arg3) (ix2 z j) := by
  have e : (win0_3.blk t).view.emb (ix2 z j) = (ix2 z j : S1x1024.Idx) := by
    obtain ⟨e0, e1, e2, e3, e4⟩ := idx_facts t
    blk_ext [e3]
  show V m c main_arg3 ((win0_3.blk t).view.emb (ix2 z j)) = _
  rw [e]
  rfl

theorem block4 (t : Fin cfg0.N) (z : Fin 1) (j : Fin 1024) :
    iblk m c 4 t (ix2 z j) = m ((c : Thread nD τ).loc main_arg4) (ix2 z j) := by
  have e : (win0_4.blk t).view.emb (ix2 z j) = (ix2 z j : S1x1024.Idx) := by
    obtain ⟨e0, e1, e2, e3, e4⟩ := idx_facts t
    blk_ext [e4]
  show V m c main_arg4 ((win0_4.blk t).view.emb (ix2 z j)) = _
  rw [e]
  rfl

/-- A row of the kernel with its mean taken off is the reference's. -/
theorem centred (t : Fin cfg0.N) (q : Fin 512) (j : Fin 1024) (p : Fin 2048) (hp : p.val = 512 * t.val + q.val) :
    k0_pay1 (iblk m c 0 t) (iblk m c 1 t) (iblk m c 2 t) (ix2 q j) = val_main_v9 (F := Ideal) (m ((c : Thread nD τ).loc main_arg0))
      (m ((c : Thread nD τ).loc main_arg1)) (m ((c : Thread nD τ).loc main_arg2)) (ix2 p j) := by
  pointwise [k0_pay1, val_main_v9, val_main_v8, val_main_v7, val_main_v6, val_main_cst_1, val_main_v5, val_main_v4, val_main_cst_0, val_main_v3, val_main_v2, val_main_v1, val_main_v0, val_main_cst]
  refine congrArg₂ (fun a b : EReal => a - Ideal.div b (Ideal.ofBits FTy.f32 1149239296#32)) ?_ (sum_congr fun k => ?_)
  · rw [block2 m c t q j p hp]
    exact congrArg (_ + ·) (dot_congr (fun x => by rw [block0 m c t q x p hp]) (fun x => block1 m c t x j))
  · rw [block2 m c t q k p hp]
    exact congrArg (_ + ·) (dot_congr (fun x => by rw [block0 m c t q x p hp]) (fun x => block1 m c t x k))

theorem rstd (t : Fin cfg0.N) (q : Fin 512) (z : Fin 1) (p : Fin 2048) (hp : p.val = 512 * t.val + q.val) :
    k0_pay2 (iblk m c 0 t) (iblk m c 1 t) (iblk m c 2 t) (ix2 q z) = val_main_v39 (F := Ideal) (m ((c : Thread nD τ).loc main_arg0))
      (m ((c : Thread nD τ).loc main_arg1)) (m ((c : Thread nD τ).loc main_arg2)) (ix2 p z) := by
  pointwise [k0_pay2, val_main_v39, val_main_v38, val_main_v37, val_main_cst_9, val_main_v36, val_main_v35, val_main_cst_8, val_main_v34, val_main_v33, val_main_cst_7, val_main_v32]
  exact congrArg (fun s => Ideal.rsqrt (Ideal.div s _ + _)) (dot_congr (fun k => centred m c t q k p hp) (fun k => centred m c t q k p hp))

theorem xhat (t : Fin cfg0.N) (q : Fin 512) (j : Fin 1024) (p : Fin 2048) (hp : p.val = 512 * t.val + q.val) :
    k0_pay3 (iblk m c 0 t) (iblk m c 1 t) (iblk m c 2 t) (ix2 q j) = val_main_v44 (F := Ideal) (m ((c : Thread nD τ).loc main_arg0))
      (m ((c : Thread nD τ).loc main_arg1)) (m ((c : Thread nD τ).loc main_arg2)) (ix2 p j) := by
  pointwise [k0_pay3, val_main_v44, val_main_v43]
  exact congrArg₂ (· * ·) (centred m c t q j p hp) (rstd m c t q 0 p hp)

theorem normed (t : Fin cfg0.N) (q : Fin 512) (j : Fin 1024) (p : Fin 2048) (hp : p.val = 512 * t.val + q.val) :
    k0_pay4 (iblk m c 0 t) (iblk m c 1 t) (iblk m c 2 t) (iblk m c 3 t) (iblk m c 4 t) (ix2 q j) = val_main_v25 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) (ix2 p j) := by
  pointwise [k0_pay4, val_main_v25, val_main_v24, val_main_v23, val_main_v22]
  rw [xhat m c t q j p hp, block3, block4]
  rfl

/-- The layer norm's result is the reference's. -/
theorem array5 : (dats m 0 c).arrAt 5 cfg0.N = val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_5.blk t).view.emb (ix2 q j) = (ix2 p j : S2048x1024.Idx) := by
    obtain ⟨e5, e6, e7, e8⟩ := out_facts t
    blk_ext [e5]
  blk_simp
  rw [after0_5, e]
  frame_out
  exact normed m c t q j p hp

/-- Its rounding is the reference's. -/
theorem array6 : (dats m 0 c).arrAt 6 cfg0.N = val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e5, e6, e7, e8⟩ := out_facts t
    blk_ext [e6]
  blk_simp
  rw [after0_6, e]
  frame_out
  exact normed m c t q j p hp

/-- The normalised rows are the reference's. -/
theorem array7 : (dats m 0 c).arrAt 7 cfg0.N = val_main_v44 (F := Ideal) (m ((c : Thread nD τ).loc main_arg0)) (m ((c : Thread nD τ).loc main_arg1))
    (m ((c : Thread nD τ).loc main_arg2)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e5, e6, e7, e8⟩ := out_facts t
    blk_ext [e7]
  blk_simp
  rw [after0_7, e]
  frame_out
  exact xhat m c t q j p hp

/-- The rows' inverse deviations are the reference's. -/
theorem array8 : (dats m 0 c).arrAt 8 cfg0.N = val_main_v39 (F := Ideal) (m ((c : Thread nD τ).loc main_arg0)) (m ((c : Thread nD τ).loc main_arg1))
    (m ((c : Thread nD τ).loc main_arg2)) := by
  refine (dats m 0 c).arrAt_eq_of_covers 8 _ (by decide +kernel) fun t hf y => ?_
  have ht : t.val < 4 := t.isLt
  obtain ⟨q, z, rfl⟩ : ∃ (q : Fin 512) (z : Fin 1), y = (ix2 q z : S512x1.Idx) := ⟨y 0, y 1, (ix2_eta (n0 := 512) (n1 := 1) y).symm⟩
  obtain ⟨p, hp⟩ : ∃ p : Fin 2048, p.val = 512 * t.val + q.val := ⟨⟨_, by omega⟩, rfl⟩
  have e : (win0_8.blk t).view.emb (ix2 q z) = (ix2 p z : S2048x1.Idx) := by
    obtain ⟨e5, e6, e7, e8⟩ := out_facts t
    blk_ext [e8]
  blk_simp
  rw [after0_8, e]
  frame_out
  exact rstd m c t q z p hp

end Cert.ScOutLnIdeal.Mixer
end
-- ==== Proof.ConfNormBwd.lean ====
module

public import proofs.«01_k».proof.Proof.Gen.ConfNormBwdIdeal.Value
public import proofs.«01_k».proof.Proof.Gen.ConfNormBwdRefIdeal.Read
public import proofs.«01_k».proof.Proof.MlpUpBwd

@[expose] public section

/-!
  The backward call of the conformer's layer norm and of the gate after it: what its three arrays hold after the run.
-/

set_option maxRecDepth 16384

noncomputable section

namespace Cert.ConfNormBwdIdeal.Conf

open Cert.ConfNormBwdIdeal Cert.ConfNormBwdIdeal.Gen Cert.ConfNormBwdRefIdeal.Read Cert.Sums Cert.Attn Idealize.ShloMosaic Idealize.ShloMosaic.TcCoe

variable (m : (ℓ : Loc nD τ sig) → Buf (Elt Ideal) ℓ) (c : Dev nD)

/-- The derivative of `n σ(n)` at a real, as the kernel groups it and as the product's rule gives it. -/
theorem swish (n d : ℝ) :
    (d : EReal) * (Ideal.logistic n * (1 + (n : EReal) * (1 - Ideal.logistic n)))
      = (d : EReal) * Ideal.logistic n + (n : EReal) * (d : EReal) * (Ideal.logistic n * (1 - Ideal.logistic n)) := by
  rw [Ideal.logistic_coe, ← EReal.coe_one]
  simp only [← EReal.coe_mul, ← EReal.coe_add, ← EReal.coe_sub]
  congr 1
  ring

theorem logistic_real (n : ℝ) : IsReal (Ideal.logistic n) := ⟨_, Ideal.logistic_coe n⟩

theorem idx_facts : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] := by
  decide +kernel

theorem block0 (t : Fin cfg0.N) (q : Fin 512) (j : Fin 1024) (p : Fin 2048) (hp : p.val = 512 * t.val + q.val) :
    iblk m c 0 t (ix2 q j) = m ((c : Thread nD τ).loc main_arg0) (ix2 p j) := by
  have e : (win0_0.blk t).view.emb (ix2 q j) = (ix2 p j : S2048x1024.Idx) := by
    obtain ⟨e0, e1, e2, e3, e4, e5, e6⟩ := idx_facts t
    blk_ext [e0]
  show V m c main_arg0 ((win0_0.blk t).view.emb (ix2 q j)) = _
  rw [e]

theorem block1 (t : Fin cfg0.N) (z : Fin 1) (j : Fin 1024) :
    iblk m c 1 t (ix2 z j) = m ((c : Thread nD τ).loc main_arg1) (ix2 z j) := by
  have e : (win0_1.blk t).view.emb (ix2 z j) = (ix2 z j : S1x1024.Idx) := by
    obtain ⟨e0, e1, e2, e3, e4, e5, e6⟩ := idx_facts t
    blk_ext [e1]
  show V m c main_arg1 ((win0_1.blk t).view.emb (ix2 z j)) = _
  rw [e]

theorem block2 (t : Fin cfg0.N) (z : Fin 1) (j : Fin 1024) :
    iblk m c 2 t (ix2 z j) = m ((c : Thread nD τ).loc main_arg2) (ix2 z j) := by
  have e : (win0_2.blk t).view.emb (ix2 z j) = (ix2 z j : S1x1024.Idx) := by
    obtain ⟨e0, e1, e2, e3, e4, e5, e6⟩ := idx_facts t
    blk_ext [e2]
  show V m c main_arg2 ((win0_2.blk t).view.emb (ix2 z j)) = _
  rw [e]

theorem block3 (t : Fin cfg0.N) (q : Fin 512) (j : Fin 1024) (p : Fin 2048) (hp : p.val = 512 * t.val + q.val) :
    iblk m c 3 t (ix2 q j) = m ((c : Thread nD τ).loc main_arg3) (ix2 p j) := by
  have e : (win0_3.blk t).view.emb (ix2 q j) = (ix2 p j : S2048x1024.Idx) := by
    obtain ⟨e0, e1, e2, e3, e4, e5, e6⟩ := idx_facts t
    blk_ext [e3]
  show V m c main_arg3 ((win0_3.blk t).view.emb (ix2 q j)) = _
  rw [e]

section reference
variable (x : (⟨S2048x1024, .f32⟩ : BufTy).Contents (Elt Ideal)) (g b : (⟨S1x1024, .f32⟩ : BufTy).Contents (Elt Ideal))
  (ds : (⟨S2048x1024, .f32⟩ : BufTy).Contents (Elt Ideal)) (p : Fin 2048)

theorem ref_xhat (j : Fin 1024) :
    val_main_v22 (F := Ideal) x (ix2 p j) = val_main_v14 (F := Ideal) x (ix2 p j) * val_main_v17 (F := Ideal) x (ix2 p 0) :=
  MlpUpBwdIdeal.Mlp.ref_xhat x p j

/-- The reference's centred rows are reals of sum zero. -/
theorem ref_centred (hx : ∀ i, IsReal (x i)) : ∃ r : Fin 1024 → ℝ, ∑ k, r k = 0 ∧ ∀ k, val_main_v14 (F := Ideal) x (ix2 p k) = (r k : EReal) :=
  MlpUpBwdIdeal.Mlp.ref_centred x p hx

/-- Their deviations are positive reals. -/
theorem ref_rstd (r : Fin 1024 → ℝ) (hr : ∀ k, val_main_v14 (F := Ideal) x (ix2 p k) = (r k : EReal)) :
    ∃ v s : ℝ, 0 < v ∧ s * s * v = 1 ∧ (∀ z, val_main_v16 (F := Ideal) x (ix2 p z) = (v : EReal)) ∧ ∀ z, val_main_v17 (F := Ideal) x (ix2 p z) = (s : EReal) :=
  MlpUpBwdIdeal.Mlp.ref_rstd x p r hr

/-- The normalised rows, scaled and shifted, are real. -/
theorem ref_norm (hx : ∀ i, IsReal (x i)) (hg : ∀ i, IsReal (g i)) (hb : ∀ i, IsReal (b i)) (j : Fin 1024) :
    IsReal (val_main_v26 (F := Ideal) x g b (ix2 p j)) := by
  obtain ⟨r, h0, hr⟩ := ref_centred x p hx
  obtain ⟨v, s, hv, hs, h16, h17⟩ := ref_rstd x p r hr
  pointwise [val_main_v26, val_main_v25, val_main_v24, val_main_v23]
  rw [ref_xhat, hr, h17]
  exact ((IsReal.mul ⟨_, rfl⟩ ⟨_, rfl⟩).mul (hg _)).add (hb _)

/-- The reference's cotangent of the norm, by the logistic function. -/
theorem ref_cotangent (j : Fin 1024) :
    val_main_v28 (F := Ideal) x g b ds (ix2 p j) = ds (ix2 p j) * Ideal.logistic (val_main_v26 (F := Ideal) x g b (ix2 p j))
      + val_main_v26 (F := Ideal) x g b (ix2 p j) * ds (ix2 p j)
        * (Ideal.logistic (val_main_v26 (F := Ideal) x g b (ix2 p j)) * (1 - Ideal.logistic (val_main_v26 (F := Ideal) x g b (ix2 p j)))) := by
  pointwise [val_main_v28, val_main_call1_v2, val_main_call1_v1, val_main_call1_v0, val_main_v27_1, val_main_call0_v7, val_main_call0_v6, val_main_call0_cst_1, val_main_v27_2, val_main_call0_v4, val_main_call0_cst_0, val_main_call0_v3, val_main_call0_v2, val_main_call0_cst, val_main_call0_v1, val_main_call0_v0]
  rfl

end reference

/-- The hypothesis on the arguments: all are real. -/
abbrev Reals : Prop := (∀ i, IsReal (m ((c : Thread nD τ).loc main_arg0) i)) ∧ (∀ i, IsReal (m ((c : Thread nD τ).loc main_arg1) i))
  ∧ (∀ i, IsReal (m ((c : Thread nD τ).loc main_arg2) i)) ∧ ∀ i, IsReal (m ((c : Thread nD τ).loc main_arg3) i)

/-- The kernel's centred rows are the reference's. -/
theorem centred (t : Fin cfg0.N) (q : Fin 512) (j : Fin 1024) (p : Fin 2048) (hp : p.val = 512 * t.val + q.val) :
    k0_pay6 (iblk m c 0 t) (ix2 q j) = val_main_v14 (F := Ideal) (m ((c : Thread nD τ).loc main_arg0)) (ix2 p j) := by
  pointwise [k0_pay6, val_main_v14, val_main_v13, val_main_v3, val_main_v2, val_main_cst_0, val_main_v1, val_main_v0, val_main_cst]
  simp only [block0 m c t q _ p hp]

/-- The reference centres its rows twice, alike. -/
theorem centred_first (x : (⟨S2048x1024, .f32⟩ : BufTy).Contents (Elt Ideal)) (p : Fin 2048) (j : Fin 1024) :
    val_main_v5 (F := Ideal) x (ix2 p j) = val_main_v14 (F := Ideal) x (ix2 p j) := rfl

/-- The kernel's inverse deviations are the reference's. -/
theorem rstd (t : Fin cfg0.N) (q : Fin 512) (z : Fin 1) (p : Fin 2048) (hp : p.val = 512 * t.val + q.val) :
    k0_pay7 (iblk m c 0 t) (ix2 q z) = val_main_v17 (F := Ideal) (m ((c : Thread nD τ).loc main_arg0)) (ix2 p z) := by
  pointwise [k0_pay7, val_main_v17, val_main_v16, val_main_v15, val_main_cst_4, val_main_v12, val_main_v11, val_main_cst_3, val_main_v10, val_main_v9, val_main_cst_2, val_main_v6]
  simp only [centred m c t q _ p hp, centred_first]

/-- The kernel's normalised rows are the reference's. -/
theorem xhat (t : Fin cfg0.N) (q : Fin 512) (j : Fin 1024) (p : Fin 2048) (hp : p.val = 512 * t.val + q.val) :
    k0_pay8 (iblk m c 0 t) (ix2 q j) = val_main_v22 (F := Ideal) (m ((c : Thread nD τ).loc main_arg0)) (ix2 p j) := by
  rw [ref_xhat]
  pointwise [k0_pay8]
  rw [centred m c t q j p hp, rstd m c t q _ p hp]

/-- The norm's cotangent: the kernel's is the reference's. -/
theorem cotangent (hm : Reals m c) (t : Fin cfg0.N) (q : Fin 512) (j : Fin 1024) (p : Fin 2048) (hp : p.val = 512 * t.val + q.val) :
    k0_pay9 (iblk m c 0 t) (iblk m c 1 t) (iblk m c 2 t) (iblk m c 3 t) (ix2 q j)
      = val_main_v28 (F := Ideal) (m ((c : Thread nD τ).loc main_arg0)) (m ((c : Thread nD τ).loc main_arg1)) (m ((c : Thread nD τ).loc main_arg2))
        (m ((c : Thread nD τ).loc main_arg3)) (ix2 p j) := by
  obtain ⟨hx, hg, hb, hd⟩ := hm
  have e : k0_pay8 (iblk m c 0 t) (ix2 q j) * iblk m c 1 t (ix2 0 j) + iblk m c 2 t (ix2 0 j)
      = val_main_v26 (F := Ideal) (m ((c : Thread nD τ).loc main_arg0)) (m ((c : Thread nD τ).loc main_arg1)) (m ((c : Thread nD τ).loc main_arg2)) (ix2 p j) := by
    rw [xhat m c t q j p hp, block1, block2]
    pointwise [val_main_v26, val_main_v25, val_main_v24, val_main_v23]
  rw [ref_cotangent]
  obtain ⟨n, hn⟩ := ref_norm _ _ _ p hx hg hb j
  obtain ⟨d, hd⟩ := hd (ix2 p j)
  pointwise [k0_pay9]
  rw [e, block3 m c t q j p hp, hn, hd]
  exact swish n d

/-- The reference's cotangents are real. -/
theorem cotangent_real (hm : Reals m c) (p : Fin 2048) (j : Fin 1024) :
    IsReal (val_main_v28 (F := Ideal) (m ((c : Thread nD τ).loc main_arg0)) (m ((c : Thread nD τ).loc main_arg1)) (m ((c : Thread nD τ).loc main_arg2))
        (m ((c : Thread nD τ).loc main_arg3)) (ix2 p j)) := by
  obtain ⟨hx, hg, hb, hd⟩ := hm
  rw [ref_cotangent]
  obtain ⟨n, hn⟩ := ref_norm _ _ _ p hx hg hb j
  have hl : IsReal (1 - Ideal.logistic n) := by
    rw [Ideal.logistic_coe, ← EReal.coe_one, ← EReal.coe_sub]
    exact ⟨_, rfl⟩
  rw [hn]
  exact ((hd _).mul (logistic_real n)).add ((IsReal.mul ⟨_, rfl⟩ (hd _)).mul ((logistic_real n).mul hl))

/-- The norm's gradient: the kernel's rows are the reference's. -/
theorem row (hm : Reals m c) (t : Fin cfg0.N) (q : Fin 512) (j : Fin 1024) (p : Fin 2048) (hp : p.val = 512 * t.val + q.val) :
    k0_pay1 (k0_pay7 (iblk m c 0 t)) (k0_pay8 (iblk m c 0 t)) (k0_pay10 (iblk m c 0 t) (iblk m c 1 t) (iblk m c 2 t) (iblk m c 3 t) (iblk m c 1 t))
      (k0_pay11 (iblk m c 0 t) (iblk m c 1 t) (iblk m c 2 t) (iblk m c 3 t) (iblk m c 1 t)) (k0_pay12 (iblk m c 0 t) (iblk m c 1 t) (iblk m c 2 t) (iblk m c 3 t) (iblk m c 1 t)) (ix2 q j)
      = val_main_v59 (F := Ideal) (m ((c : Thread nD τ).loc main_arg0)) (m ((c : Thread nD τ).loc main_arg1)) (m ((c : Thread nD τ).loc main_arg2))
        (m ((c : Thread nD τ).loc main_arg3)) (ix2 p j) := by
  obtain ⟨r, h0, hr⟩ := ref_centred _ p hm.1
  obtain ⟨v, s, hv, hs, h16, h17⟩ := ref_rstd _ p r hr
  have h5 : ∀ k, val_main_v5 (F := Ideal) (m ((c : Thread nD τ).loc main_arg0)) (ix2 p k) = (r k : EReal) := hr
  choose d hd using fun k => (cotangent_real m c hm p k).mul (hm.2.1 (ix2 0 k))
  pointwise [k0_pay1, k0_pay10, k0_pay11, k0_pay12, val_main_v59, val_main_v58, val_main_v57, val_main_cst_14, val_main_v56, val_main_v55, val_main_cst_13, val_main_v54, val_main_v53, val_main_v52, val_main_v51, val_main_cst_12, val_main_v50, val_main_v49, val_main_v48, val_main_v47, val_main_cst_11, val_main_v46, val_main_v45, val_main_cst_10, val_main_v44, val_main_v43, val_main_cst_9, val_main_v42, val_main_v41, val_main_v40, val_main_v39, val_main_v38, val_main_v37, val_main_cst_8, val_main_v36, val_main_v35, val_main_v34, val_main_v20, val_main_v19, val_main_cst_5, val_main_v18, val_main_v8, val_main_v7, val_main_cst_1]
  simp only [cotangent m c hm t q _ p hp, xhat m c t q _ p hp, rstd m c t q _ p hp, block1, ref_xhat, hr, h5, h16, h17, hd, Fin.sum_univ_one]
  exact LayerNorm.backward r d s v hv hs h0 j

/-- The call's first result is the reference's. -/
theorem array4 (hm : Reals m c) : (dats m 0 c).arrAt 4 cfg0.N = val_main_v59 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_4.blk t).view.emb (ix2 q j) = (ix2 p j : S2048x1024.Idx) := by
    obtain ⟨e0, e1, e2, e3, e4, e5, e6⟩ := idx_facts t
    blk_ext [e4]
  blk_simp
  rw [after0_4, e]
  by_cases h : t.val % 4 = 0
  · rw [outsAt0_A m c t h h]
    frame_out
    exact row m c hm t q j p hp
  · rw [outsAt0_B m c t h h]
    frame_out
    exact row m c hm t q j p hp

/-- The gradient of the norm's gain. -/
theorem array5 (hm : Reals m c) : (dats m 0 c).arrAt 5 cfg0.N = val_main_v33 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_5.blk t).view.emb (ix2 z j) = (ix2 z j : S1x1024.Idx) := by
    obtain ⟨e0, e1, e2, e3, e4, e5, e6⟩ := idx_facts t
    blk_ext [e5]
  have hl : t.val + 1 = cfg0.N := by
    have h := (flush0_5 t).mp hf
    have ht : t.val < 4 := t.isLt
    show t.val + 1 = 4
    omega
  blk_simp
  rw [after0_5, e]
  refine (Pipeline.eq_sum_fin_of_reset_step_apply_last (fun n h => (outsAt0 m c n h).2.1) 4 (fun _ => (0 : EReal)) (fun t y => ∑ q : Fin 512,
    k0_pay9 (iblk m c 0 t) (iblk m c 1 t) (iblk m c 2 t) (iblk m c 3 t) (ix2 q (y 1)) * k0_pay8 (iblk m c 0 t) (ix2 q (y 1))) (fun t h y => ?_) (fun t h y => ?_) (by decide) t hl (ix2 z j)).trans ?_
  · rw [outsAt0_A m c t h h]
    frame_out
    pointwise [k0_pay2, k0_pay3]
  · rw [outsAt0_B m c t h h]
    frame_out
    pointwise [k0_pay3]
  · pointwise [val_main_v33, val_main_v32, val_main_cst_7, val_main_v31]
    refine MlpUpBwdIdeal.Mlp.sum_rows fun t q p hp => ?_
    exact (congrArg₂ (· * ·) (cotangent m c hm t q j p hp) (xhat m c t q j p hp)).trans (mul_comm _ _)

/-- The gradient of the norm's shift. -/
theorem array6 (hm : Reals m c) : (dats m 0 c).arrAt 6 cfg0.N = val_main_v30 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_6.blk t).view.emb (ix2 z j) = (ix2 z j : S1x1024.Idx) := by
    obtain ⟨e0, e1, e2, e3, e4, e5, e6⟩ := idx_facts t
    blk_ext [e6]
  have hl : t.val + 1 = cfg0.N := by
    have h := (flush0_6 t).mp hf
    have ht : t.val < 4 := t.isLt
    show t.val + 1 = 4
    omega
  blk_simp
  rw [after0_6, e]
  refine (Pipeline.eq_sum_fin_of_reset_step_apply_last (fun n h => (outsAt0 m c n h).2.2) 4 (fun _ => (0 : EReal)) (fun t y => ∑ q : Fin 512,
    k0_pay9 (iblk m c 0 t) (iblk m c 1 t) (iblk m c 2 t) (iblk m c 3 t) (ix2 q (y 1))) (fun t h y => ?_) (fun t h y => ?_) (by decide) t hl (ix2 z j)).trans ?_
  · rw [outsAt0_A m c t h h]
    frame_out
    pointwise [k0_pay4, k0_pay5]
  · rw [outsAt0_B m c t h h]
    frame_out
    pointwise [k0_pay5]
  · pointwise [val_main_v30, val_main_v29, val_main_cst_6]
    refine MlpUpBwdIdeal.Mlp.sum_rows fun t q p hp => ?_
    exact cotangent m c hm t q j p hp

end Cert.ConfNormBwdIdeal.Conf
end
-- ==== Proof.ScGateDw.lean ====
module

public import proofs.«01_k».proof.Proof.ScGateParts

@[expose] public section

/-!
  The gradient of the causal convolution in its weights.
-/

set_option maxRecDepth 16384

noncomputable section

namespace Cert.ScGateBwdIdeal.Mixer

open Cert.ScGateBwdIdeal Cert.ScGateBwdIdeal.Gen Cert.ScGateBwdRefIdeal.Read Cert.Sums Idealize.ShloMosaic Idealize.ShloMosaic.TcCoe

variable (m : (ℓ : Loc nD τ sig) → Buf (Elt Ideal) ℓ) (c : Dev nD)

theorem pad_both (a : EReal) : a = 0 + (0 + a) + 0 := by
  rw [add_zero, zero_add, zero_add]

theorem pad_after (a : EReal) : a = 0 + a + 0 + 0 := by
  rw [add_zero, add_zero, zero_add]

theorem pad_before (a : EReal) : a = 0 + 0 + (0 + a) := by
  rw [zero_add, zero_add, zero_add]

/-- Where the shifted row is outside, the product vanishes. -/
theorem shifted {n : ℕ} (x : Fin 2048) {p : Prop} [Decidable p] (hp : p ↔ x.val < n) (a b c : EReal) (d : ¬ p → EReal) (hb : ∀ h, a * b = c * d h) :
    (if x.val < n then 0 else a * b) = c * (if h : p then 0 else d h) := by
  by_cases h : x.val < n
  · rw [if_pos h, dif_pos (hp.2 h), mul_zero]
  · rw [if_neg h, dif_neg (fun k => h (hp.1 k)), hb]

set_option maxHeartbeats 4000000 in
/-- The weights' gradient is the reference's. -/
theorem array6 : (dats m 0 c).arrAt 6 cfg0.N = val_main_v50 (F := Ideal) (m ((c : Thread nD τ).loc main_arg0)) (m ((c : Thread nD τ).loc main_arg2)) := by
  refine (dats m 0 c).arrAt_eq_of_covers 6 _ (by decide +kernel) fun t hf y => ?_
  have ht : t.val < 4 := t.isLt
  obtain ⟨z, j, rfl⟩ : ∃ (z : Fin 3) (j : Fin 256), y = (ix2 z j : S3x256.Idx) := ⟨y 0, y 1, (ix2_eta (n0 := 3) (n1 := 256) y).symm⟩
  obtain ⟨i, hi⟩ : ∃ i : Fin 1024, i.val = 256 * t.val + j.val := ⟨⟨_, by omega⟩, rfl⟩
  have e : (win0_6.blk t).view.emb (ix2 z j) = (ix2 z i : S3x1024.Idx) := by
    obtain ⟨e0, e1, e2, e3, e4, e5, e6⟩ := idx_facts t
    blk_ext [e6]
  blk_simp
  rw [after0_6, e]
  have z2 : val_main_cst_2 (F := Ideal) (Shape.Idx.first Cert.ScGateBwdRefIdeal.Gen.h_S_) = 0 := Ideal.ofBits_zero_f32
  have z4 : val_main_cst_4 (F := Ideal) (Shape.Idx.first Cert.ScGateBwdRefIdeal.Gen.h_S_) = 0 := Ideal.ofBits_zero_f32
  have z5 : val_main_cst_5 (F := Ideal) (Shape.Idx.first Cert.ScGateBwdRefIdeal.Gen.h_S_) = 0 := Ideal.ofBits_zero_f32
  have z7 : val_main_cst_7 (F := Ideal) (Shape.Idx.first Cert.ScGateBwdRefIdeal.Gen.h_S_) = 0 := Ideal.ofBits_zero_f32
  have z8 : val_main_cst_8 (F := Ideal) (Shape.Idx.first Cert.ScGateBwdRefIdeal.Gen.h_S_) = 0 := Ideal.ofBits_zero_f32
  have z10 : val_main_cst_10 (F := Ideal) (Shape.Idx.first Cert.ScGateBwdRefIdeal.Gen.h_S_) = 0 := Ideal.ofBits_zero_f32
  have zc : val_main_cst (F := Ideal) ix0 = 0 := Ideal.ofBits_zero_f32
  canon_tiles x h using cover0_6 _ _ _ _
  all_goals
    obtain ⟨w, j', rfl⟩ : ∃ (w : Fin 1) (j' : Fin 256), x = (ix2 w j' : S1x256.Idx) := ⟨x 0, x 1, (ix2_eta (n0 := 1) (n1 := 256) x).symm⟩
    obtain rfl : j = j' := Fin.ext h1
  · obtain rfl : z = 2 := Fin.ext (by have h0' : z.val = 2 + w.val := h0; show z.val = 2; omega)
    pointwise [k0_pay14, k0_pay18, k0_pay19, k0_pay2, k0_pay3, val_main_v50, val_main_v49, val_main_v46, val_main_v45, val_main_v44, val_main_v41, val_main_v40, val_main_v37, val_main_v36, val_main_v35, val_main_v32, val_main_v30, val_main_v29, val_main_v28, val_main_v24, val_main_v19, val_main_v14, val_main_v8, val_main_v5, val_main_v4, val_main_v3, val_main_v2, val_main_v1, val_main_v0]
    rw [z2, z7, z10]
    refine Eq.trans (sum_congr fun x => ?_) (pad_after _)
    rw [block0 m c t x j ⟨i.val, by omega⟩ hi, block1 m c t x j ⟨1024 + i.val, by omega⟩ (congrArg (1024 + ·) hi), block2 m c t x j ⟨2048 + i.val, by omega⟩ (congrArg (2048 + ·) hi), block4 m c t x j i hi]
    exact congrArg₂ (fun a b : EReal => a * b) (mul_comm (_ : EReal) _) rfl
  · obtain rfl : z = 1 := Fin.ext (by have h0' : z.val = 1 + w.val := h0; show z.val = 1; omega)
    pointwise [k0_pay12, k0_pay21, k0_pay22, k0_pay23, k0_pay11, k0_pay8, k0_pay9, k0_pay10, k0_pay19, k0_pay2, k0_pay3, val_main_v50, val_main_v49, val_main_v46, val_main_v45, val_main_v44, val_main_v41, val_main_v40, val_main_v37, val_main_v36, val_main_v35, val_main_v32, val_main_v30, val_main_v29, val_main_v28, val_main_v24, val_main_v19, val_main_v14, val_main_v8, val_main_v5, val_main_v4, val_main_v3, val_main_v2, val_main_v1, val_main_v0]
    rw [z4, z5, z10, zc]
    refine Eq.trans (sum_congr fun x => ?_) (pad_both _)
    rw [Rows.select_ge 1 (by decide) x]
    refine shifted x (by omega) _ _ _ _ fun h => ?_
    have e : ∀ h', (⟨(x.val + 2048 - 1) % 2048, h'⟩ : Fin 2048) = ⟨1 + x.val - 2, by omega⟩ := fun _ => Fin.ext (by dsimp only; omega)
    rw [e, block0 m c t _ j ⟨i.val, by omega⟩ hi, block1 m c t _ j ⟨1024 + i.val, by omega⟩ (congrArg (1024 + ·) hi), block2 m c t _ j ⟨2048 + i.val, by omega⟩ (congrArg (2048 + ·) hi), block4 m c t _ j i hi]
    exact congrArg₂ (fun a b : EReal => a * b) (mul_comm (_ : EReal) _) rfl
  · obtain rfl : z = 0 := Fin.ext (by have h0' : z.val = w.val := h0; show z.val = 0; omega)
    pointwise [k0_pay7, k0_pay4, k0_pay2, k0_pay3, val_main_v50, val_main_v49, val_main_v46, val_main_v45, val_main_v41, val_main_v40, val_main_v32]
    rw [z4, z7, z8]
    refine Eq.trans (sum_congr fun x => ?_) (pad_before _)
    pointwise [val_main_v44, val_main_v24, val_main_v8, val_main_v5, val_main_v4, val_main_v3, val_main_v2, val_main_v1, val_main_v0]
    rw [Rows.select_ge 2 (by decide) x, zc]
    refine shifted x (by omega) _ _ _ _ fun h => ?_
    have e : ∀ h', (⟨(x.val + 2048 - 2) % 2048, h'⟩ : Fin 2048) = ⟨x.val - 2, by omega⟩ := fun _ => Fin.ext (by dsimp only; omega)
    rw [e, block0 m c t _ j ⟨i.val, by omega⟩ hi, block1 m c t _ j ⟨1024 + i.val, by omega⟩ (congrArg (1024 + ·) hi), block2 m c t _ j ⟨2048 + i.val, by omega⟩ (congrArg (2048 + ·) hi), block4 m c t _ j i hi]
    exact congrArg₂ (fun a b : EReal => a * b) (mul_comm (_ : EReal) _) rfl

end Cert.ScGateBwdIdeal.Mixer
end
-- ==== Proof.PreInBwd.lean ====
module

public import proofs.«01_k».proof.Proof.Pre
public import proofs.«01_k».proof.Pre_finite_in_bwd

@[expose] public section

/-!
  What the precondition of the short convolution's input backward pass says: all the arguments but the norm's shift are real.
-/

noncomputable section

namespace Cert.Pre_finite_in_bwd

open Cert.Attn Idealize.ShloMosaic Cert.Pre_finite_qk

theorem facts : Facts := ⟨by decide, by decide, by decide, by decide, by decide, by decide, by decide, by decide, by decide, by decide⟩

instance : Subsingleton S_.Idx := ⟨fun a b => funext fun i => i.elim0⟩

variable [Facts]

theorem real_args (a0 : FVec Ideal S2048x1024 .f32) (a1 a2 : FVec Ideal S1x1024 .f32) (a3 : FVec Ideal S1024x3072 .f32)
    (a4 : FVec Ideal S3x2048x1024 .bf16) (a5 : FVec Ideal S2048x1024 .f32) (j : S_.Idx) (h : fn (F := Ideal) a0 a1 a2 a3 a4 a5 j = 1#1) :
    (∀ i, IsReal (a0 i)) ∧ (∀ i, IsReal (a1 i)) ∧ (∀ i, IsReal (a3 i)) ∧ (∀ i, IsReal (a4 i)) ∧ ∀ i, IsReal (a5 i) := by
  dsimp only [fn, fn_part1] at h
  obtain ⟨h, e5⟩ := IntOp.andi_eq_one.1 h
  obtain ⟨h, e4⟩ := IntOp.andi_eq_one.1 h
  obtain ⟨h, e3⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e3 i), fun i => real_of_lt _ (Host.reduce_andi_all _ _ _ _ j e4 i),
    fun i => real_of_lt _ (Host.reduce_andi_all _ _ _ _ j e5 i)⟩

instance holdsFacts : Facts := facts

end Cert.Pre_finite_in_bwd
end
-- ==== Proof.PreNormBwd.lean ====
module

public import proofs.«01_k».proof.Proof.Pre
public import proofs.«01_k».proof.Pre_finite_norm_bwd

@[expose] public section

/-!
  What the precondition of the gated norm's backward pass says: all the arguments are real.
-/

noncomputable section

namespace Cert.Pre_finite_norm_bwd

open Cert.Attn Idealize.ShloMosaic Cert.Pre_finite_qk

theorem facts : Facts := ⟨by decide, by decide, by decide, by decide, by decide⟩

instance : Subsingleton S_.Idx := ⟨fun a b => funext fun i => i.elim0⟩

variable [Facts]

theorem real_args (a0 : FVec Ideal S2048x1024 .f32) (a1 a2 : FVec Ideal S1x1024 .f32) (a3 : FVec Ideal S2048x1024 .f32)
    (j : S_.Idx) (h : fn (F := Ideal) a0 a1 a2 a3 j = 1#1) :
    (∀ i, IsReal (a0 i)) ∧ (∀ i, IsReal (a1 i)) ∧ (∀ i, IsReal (a2 i)) ∧ ∀ i, IsReal (a3 i) := by
  dsimp only [fn, fn_part1] at h
  obtain ⟨h, e3⟩ := IntOp.andi_eq_one.1 h
  obtain ⟨h, e2⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e2 i), fun i => real_of_lt _ (Host.reduce_andi_all _ _ _ _ j e3 i)⟩

instance holdsFacts : Facts := facts

end Cert.Pre_finite_norm_bwd
end
-- ==== Proof.ScClaims.lean ====
module

public import proofs.«01_k».proof.Defs
public import proofs.«01_k».proof.Proof.Gen.ScGateBwd.Frame
public import proofs.«01_k».proof.Proof.Gen.ScOutBwd.Frame
public import proofs.«01_k».proof.Proof.Gen.ScDwOut.Frame
public import proofs.«01_k».proof.Proof.Gen.ScDwIn.Frame
public import proofs.«01_k».proof.Proof.Gen.ScInBwd.Frame
public import proofs.«01_k».proof.Proof.Gen.ScIn.Frame
public import proofs.«01_k».proof.Proof.Gen.ScGate.Frame
public import proofs.«01_k».proof.Proof.Gen.ScOutLn.Frame
public import proofs.«01_k».proof.Proof.Gen.ConfNormBwd.Frame
public import proofs.«01_k».proof.Proof.ScGateBwd
public import proofs.«01_k».proof.Proof.ScOutBwd
public import proofs.«01_k».proof.Proof.ScDwOut
public import proofs.«01_k».proof.Proof.ScDwIn
public import proofs.«01_k».proof.Proof.ScInBwd
public import proofs.«01_k».proof.Proof.ScIn
public import proofs.«01_k».proof.Proof.ScGate
public import proofs.«01_k».proof.Proof.ScOutLn
public import proofs.«01_k».proof.Proof.ConfNormBwd
public import proofs.«01_k».proof.Proof.ScGateDw
public import proofs.«01_k».proof.Proof.PreInBwd
public import proofs.«01_k».proof.Proof.PreNormBwd
public import Idealize.ShloMosaic.Lib.Quiescent

@[expose] public section

/-!
  The claims about the short convolution's eight calls, three forward and five backward, and about the backward call of the
  conformer's norm.
-/

noncomputable section

namespace Cert.Proof.ScClaims

open Idealize.ShloMosaic Idealize.SL.Sem

theorem frame_gate_bwd : Cert.quiescent_ScGateBwd := fun m ρ _ => Cert.ScGateBwd.Gen.frame m ρ

theorem frame_gate_bwd_ideal : Cert.quiescent_ScGateBwdIdeal := fun m ρ _ => Cert.ScGateBwdIdeal.Gen.frame m ρ

theorem frame_gate_bwd_ref : Cert.quiescent_ScGateBwdRefIdeal := fun m ρ _ =>
  (θ_run Cert.ScGateBwdRefIdeal.defs _ _).mono (fun r h => ⟨fun c => (h c).2.2, sem_eq_zero_of_no_sems (by decide) r.2⟩)
    (Cert.ScGateBwdRefIdeal.Value.run (F := Ideal) m ρ)

theorem preserves_gate_bwd : Cert.preserves_ScGateBwd_ScGateBwdIdeal := trivial

/-- The call's results and the reference's are the same. -/
theorem algebraic_gate_bwd : Cert.algebraic_ScGateBwdIdeal_ScGateBwdRefIdeal := by
  intro m ρ m' ρ' _ ha
  refine ⟨_, _, Cert.ScGateBwdIdeal.Value.run_blocks (F := Ideal) m ρ, ?_⟩
  refine (θ_run Cert.ScGateBwdRefIdeal.defs _ _).mono (fun _ h c => ⟨(h c).1.trans ?_, (h c).2.1.trans ?_, (h c).2.2⟩)
    (Cert.ScGateBwdRefIdeal.Value.run (F := Ideal) m' ρ')
  all_goals obtain ⟨a0, a1, a2⟩ := ha c
  · rw [Cert.ScGateBwdRefIdeal.Read.val_main_v63_eq, a0, a1, a2]
    exact (Cert.ScGateBwdIdeal.Mixer.array5 m c).symm
  · rw [Cert.ScGateBwdRefIdeal.Read.val_main_v50_eq, a0, a2]
    exact (Cert.ScGateBwdIdeal.Mixer.array6 m c).symm

theorem frame_out_bwd : Cert.quiescent_ScOutBwd := fun m ρ _ => Cert.ScOutBwd.Gen.frame m ρ

theorem frame_out_bwd_ideal : Cert.quiescent_ScOutBwdIdeal := fun m ρ _ => Cert.ScOutBwdIdeal.Gen.frame m ρ

theorem frame_out_bwd_ref : Cert.quiescent_ScOutBwdRefIdeal := fun m ρ _ =>
  (θ_run Cert.ScOutBwdRefIdeal.defs _ _).mono (fun r h => ⟨fun c => (h c).2, sem_eq_zero_of_no_sems (by decide) r.2⟩)
    (Cert.ScOutBwdRefIdeal.Value.run (F := Ideal) m ρ)

theorem preserves_out_bwd : Cert.preserves_ScOutBwd_ScOutBwdIdeal := trivial

/-- The call's results and the reference's are the same. -/
theorem algebraic_out_bwd : Cert.algebraic_ScOutBwdIdeal_ScOutBwdRefIdeal := by
  intro m ρ m' ρ' _ ha
  refine ⟨_, Cert.ScOutBwdIdeal.Value.run_blocks (F := Ideal) m ρ, ?_⟩
  refine (θ_run Cert.ScOutBwdRefIdeal.defs _ _).mono (fun _ h c => ⟨(h c).1.trans ?_, (h c).2⟩)
    (Cert.ScOutBwdRefIdeal.Value.run (F := Ideal) m' ρ')
  obtain ⟨a0, a1⟩ := ha c
  rw [Cert.ScOutBwdRefIdeal.Read.val_main_v2_eq, a0, a1]
  exact (Cert.ScOutBwdIdeal.Mixer.array2 m c).symm

theorem frame_dw_out : Cert.quiescent_ScDwOut := fun m ρ _ => Cert.ScDwOut.Gen.frame m ρ

theorem frame_dw_out_ideal : Cert.quiescent_ScDwOutIdeal := fun m ρ _ => Cert.ScDwOutIdeal.Gen.frame m ρ

theorem frame_dw_out_ref : Cert.quiescent_ScDwOutRefIdeal := fun m ρ _ =>
  (θ_run Cert.ScDwOutRefIdeal.defs _ _).mono (fun r h => ⟨fun c => (h c).2, sem_eq_zero_of_no_sems (by decide) r.2⟩)
    (Cert.ScDwOutRefIdeal.Value.run (F := Ideal) m ρ)

theorem preserves_dw_out : Cert.preserves_ScDwOut_ScDwOutIdeal := trivial

/-- The call's results and the reference's are the same. -/
theorem algebraic_dw_out : Cert.algebraic_ScDwOutIdeal_ScDwOutRefIdeal := by
  intro m ρ m' ρ' _ ha
  refine ⟨_, Cert.ScDwOutIdeal.Value.run_blocks (F := Ideal) m ρ, ?_⟩
  refine (θ_run Cert.ScDwOutRefIdeal.defs _ _).mono (fun _ h c => ⟨(h c).1.trans ?_, (h c).2⟩)
    (Cert.ScDwOutRefIdeal.Value.run (F := Ideal) m' ρ')
  obtain ⟨a0, a1⟩ := ha c
  rw [Cert.ScDwOutRefIdeal.Read.val_main_v4_eq, a0, a1]
  exact (Cert.ScDwOutIdeal.Mixer.array2 m c).symm

theorem frame_dw_in : Cert.quiescent_ScDwIn := fun m ρ _ => Cert.ScDwIn.Gen.frame m ρ

theorem frame_dw_in_ideal : Cert.quiescent_ScDwInIdeal := fun m ρ _ => Cert.ScDwInIdeal.Gen.frame m ρ

theorem frame_dw_in_ref : Cert.quiescent_ScDwInRefIdeal := fun m ρ _ =>
  (θ_run Cert.ScDwInRefIdeal.defs _ _).mono (fun r h => ⟨fun c => (h c).2, sem_eq_zero_of_no_sems (by decide) r.2⟩)
    (Cert.ScDwInRefIdeal.Value.run (F := Ideal) m ρ)

theorem preserves_dw_in : Cert.preserves_ScDwIn_ScDwInIdeal := trivial

/-- The call's results and the reference's are the same. -/
theorem algebraic_dw_in : Cert.algebraic_ScDwInIdeal_ScDwInRefIdeal := by
  intro m ρ m' ρ' _ ha
  refine ⟨_, Cert.ScDwInIdeal.Value.run_blocks (F := Ideal) m ρ, ?_⟩
  refine (θ_run Cert.ScDwInRefIdeal.defs _ _).mono (fun _ h c => ⟨(h c).1.trans ?_, (h c).2⟩)
    (Cert.ScDwInRefIdeal.Value.run (F := Ideal) m' ρ')
  obtain ⟨a0, a1⟩ := ha c
  rw [Cert.ScDwInRefIdeal.Read.val_main_v14_eq, a0, a1]
  exact (Cert.ScDwInIdeal.Mixer.array2 m c).symm

theorem frame_in_bwd : Cert.quiescent_ScInBwd := fun m ρ _ => Cert.ScInBwd.Gen.frame m ρ

theorem frame_in_bwd_ideal : Cert.quiescent_ScInBwdIdeal := fun m ρ _ => Cert.ScInBwdIdeal.Gen.frame m ρ

theorem frame_in_bwd_ideal_pre : Cert.quiescent_ScInBwdIdeal_pre_finite_in_bwd := fun m ρ _ => Cert.ScInBwdIdeal.Gen.frame m ρ

theorem frame_in_bwd_ref : Cert.quiescent_ScInBwdRefIdeal := fun m ρ _ =>
  (θ_run Cert.ScInBwdRefIdeal.defs _ _).mono (fun r h => ⟨fun c => (h c).2.2.2.2.2, sem_eq_zero_of_no_sems (by decide) r.2⟩)
    (Cert.ScInBwdRefIdeal.Value.run (F := Ideal) m ρ)

theorem frame_in_bwd_ref_pre : Cert.quiescent_ScInBwdRefIdeal_pre_finite_in_bwd := fun m ρ _ => frame_in_bwd_ref m ρ trivial

theorem preserves_in_bwd : Cert.preserves_ScInBwd_ScInBwdIdeal := trivial

/-- The call's results and the reference's are the same. -/
theorem algebraic_in_bwd : Cert.algebraic_ScInBwdIdeal_ScInBwdRefIdeal_pre_finite_in_bwd := by
  intro m ρ m' ρ' hp ha
  have hr := fun c => Cert.Pre_finite_in_bwd.real_args _ _ _ _ _ _ _ (congrFun (hp c) (Shape.Idx.first Cert.Pre_finite_in_bwd.Facts.h_S_))
  refine ⟨_, _, _, _, _, Cert.ScInBwdIdeal.Value.run_blocks (F := Ideal) m ρ, ?_⟩
  refine (θ_run Cert.ScInBwdRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.ScInBwdRefIdeal.Value.run (F := Ideal) m' ρ')
  all_goals obtain ⟨a0, a1, a2, a3, a4, a5⟩ := ha c
  · rw [Cert.ScInBwdRefIdeal.Read.val_main_v72_eq, a0, a1, a3, a4, a5]
    exact (Cert.ScInBwdIdeal.Mixer.array6 m c (hr c)).symm
  · rw [Cert.ScInBwdRefIdeal.Read.val_main_v73_eq, a0, a1, a3, a4, a5]
    exact (Cert.ScInBwdIdeal.Mixer.array7 m c (hr c)).symm
  · rw [Cert.ScInBwdRefIdeal.Read.val_main_v46_eq, a0, a3, a4, a5]
    exact (Cert.ScInBwdIdeal.Mixer.array8 m c).symm
  · rw [Cert.ScInBwdRefIdeal.Read.val_main_v43_eq, a3, a4, a5]
    exact (Cert.ScInBwdIdeal.Mixer.array9 m c).symm
  · rw [Cert.ScInBwdRefIdeal.Read.val_main_v75_eq, a0, a1, a3, a4, a5]
    exact (Cert.ScInBwdIdeal.Mixer.array10 m c (hr c)).symm

theorem frame_in : Cert.quiescent_ScIn := fun m ρ _ => Cert.ScIn.Gen.frame m ρ

theorem frame_in_ideal : Cert.quiescent_ScInIdeal := fun m ρ _ => Cert.ScInIdeal.Gen.frame m ρ

theorem frame_in_ref : Cert.quiescent_ScInRefIdeal := fun m ρ _ =>
  (θ_run Cert.ScInRefIdeal.defs _ _).mono (fun r h => ⟨fun c => (h c).2, sem_eq_zero_of_no_sems (by decide) r.2⟩)
    (Cert.ScInRefIdeal.Value.run (F := Ideal) m ρ)

theorem preserves_in : Cert.preserves_ScIn_ScInIdeal := trivial

/-- The call's results and the reference's are the same. -/
theorem algebraic_in : Cert.algebraic_ScInIdeal_ScInRefIdeal := by
  intro m ρ m' ρ' _ ha
  refine ⟨_, Cert.ScInIdeal.Value.run_blocks (F := Ideal) m ρ, ?_⟩
  refine (θ_run Cert.ScInRefIdeal.defs _ _).mono (fun _ h c => ⟨(h c).1.trans ?_, (h c).2⟩)
    (Cert.ScInRefIdeal.Value.run (F := Ideal) m' ρ')
  obtain ⟨a0, a1⟩ := ha c
  rw [Cert.ScInRefIdeal.Read.val_main_v0_eq, a0, a1]
  exact (Cert.ScInIdeal.Mixer.array2 m c).symm

theorem frame_gate : Cert.quiescent_ScGate := fun m ρ _ => Cert.ScGate.Gen.frame m ρ

theorem frame_gate_ideal : Cert.quiescent_ScGateIdeal := fun m ρ _ => Cert.ScGateIdeal.Gen.frame m ρ

theorem frame_gate_ref : Cert.quiescent_ScGateRefIdeal := fun m ρ _ =>
  (θ_run Cert.ScGateRefIdeal.defs _ _).mono (fun r h => ⟨fun c => (h c).2, sem_eq_zero_of_no_sems (by decide) r.2⟩)
    (Cert.ScGateRefIdeal.Value.run (F := Ideal) m ρ)

theorem preserves_gate : Cert.preserves_ScGate_ScGateIdeal := trivial

/-- The call's results and the reference's are the same. -/
theorem algebraic_gate : Cert.algebraic_ScGateIdeal_ScGateRefIdeal := by
  intro m ρ m' ρ' _ ha
  refine ⟨_, Cert.ScGateIdeal.Value.run_blocks (F := Ideal) m ρ, ?_⟩
  refine (θ_run Cert.ScGateRefIdeal.defs _ _).mono (fun _ h c => ⟨(h c).1.trans ?_, (h c).2⟩)
    (Cert.ScGateRefIdeal.Value.run (F := Ideal) m' ρ')
  obtain ⟨a0, a1⟩ := ha c
  rw [Cert.ScGateRefIdeal.Read.val_main_v23_eq, a0, a1]
  exact (Cert.ScGateIdeal.Mixer.array4 m c).symm

theorem frame_out_ln : Cert.quiescent_ScOutLn := fun m ρ _ => Cert.ScOutLn.Gen.frame m ρ

theorem frame_out_ln_ideal : Cert.quiescent_ScOutLnIdeal := fun m ρ _ => Cert.ScOutLnIdeal.Gen.frame m ρ

theorem frame_out_ln_ref : Cert.quiescent_ScOutLnRefIdeal := fun m ρ _ =>
  (θ_run Cert.ScOutLnRefIdeal.defs _ _).mono (fun r h => ⟨fun c => (h c).2.2.2.2, sem_eq_zero_of_no_sems (by decide) r.2⟩)
    (Cert.ScOutLnRefIdeal.Value.run (F := Ideal) m ρ)

theorem preserves_out_ln : Cert.preserves_ScOutLn_ScOutLnIdeal := trivial

/-- The call's results and the reference's are the same. -/
theorem algebraic_out_ln : Cert.algebraic_ScOutLnIdeal_ScOutLnRefIdeal := by
  intro m ρ m' ρ' _ ha
  refine ⟨_, _, _, _, Cert.ScOutLnIdeal.Value.run_blocks (F := Ideal) m ρ, ?_⟩
  refine (θ_run Cert.ScOutLnRefIdeal.defs _ _).mono (fun _ h c => ⟨(h c).1.trans ?_, (h c).2.1.trans ?_, (h c).2.2.1.trans ?_, (h c).2.2.2.1.trans ?_, (h c).2.2.2.2⟩)
    (Cert.ScOutLnRefIdeal.Value.run (F := Ideal) m' ρ')
  all_goals obtain ⟨a0, a1, a2, a3, a4⟩ := ha c
  · rw [Cert.ScOutLnRefIdeal.Read.val_main_v25_eq, a0, a1, a2, a3, a4]
    exact (Cert.ScOutLnIdeal.Mixer.array5 m c).symm
  · rw [Cert.ScOutLnRefIdeal.Read.val_main_v40_eq, a0, a1, a2, a3, a4]
    exact (Cert.ScOutLnIdeal.Mixer.array6 m c).symm
  · rw [Cert.ScOutLnRefIdeal.Read.val_main_v44_eq, a0, a1, a2]
    exact (Cert.ScOutLnIdeal.Mixer.array7 m c).symm
  · rw [Cert.ScOutLnRefIdeal.Read.val_main_v39_eq, a0, a1, a2]
    exact (Cert.ScOutLnIdeal.Mixer.array8 m c).symm

theorem frame_norm_bwd : Cert.quiescent_ConfNormBwd := fun m ρ _ => Cert.ConfNormBwd.Gen.frame m ρ

theorem frame_norm_bwd_ideal : Cert.quiescent_ConfNormBwdIdeal := fun m ρ _ => Cert.ConfNormBwdIdeal.Gen.frame m ρ

theorem frame_norm_bwd_ideal_pre : Cert.quiescent_ConfNormBwdIdeal_pre_finite_norm_bwd := fun m ρ _ => Cert.ConfNormBwdIdeal.Gen.frame m ρ

theorem frame_norm_bwd_ref : Cert.quiescent_ConfNormBwdRefIdeal := fun m ρ _ =>
  (θ_run Cert.ConfNormBwdRefIdeal.defs _ _).mono (fun r h => ⟨fun c => (h c).2.2.2, sem_eq_zero_of_no_sems (by decide) r.2⟩)
    (Cert.ConfNormBwdRefIdeal.Value.run (F := Ideal) m ρ)

theorem frame_norm_bwd_ref_pre : Cert.quiescent_ConfNormBwdRefIdeal_pre_finite_norm_bwd := fun m ρ _ => frame_norm_bwd_ref m ρ trivial

theorem preserves_norm_bwd : Cert.preserves_ConfNormBwd_ConfNormBwdIdeal := trivial

/-- The call's results and the reference's are the same. -/
theorem algebraic_norm_bwd : Cert.algebraic_ConfNormBwdIdeal_ConfNormBwdRefIdeal_pre_finite_norm_bwd := by
  intro m ρ m' ρ' hp ha
  have hr := fun c => Cert.Pre_finite_norm_bwd.real_args _ _ _ _ _ (congrFun (hp c) (Shape.Idx.first Cert.Pre_finite_norm_bwd.Facts.h_S_))
  refine ⟨_, _, _, Cert.ConfNormBwdIdeal.Value.run_blocks (F := Ideal) m ρ, ?_⟩
  refine (θ_run Cert.ConfNormBwdRefIdeal.defs _ _).mono (fun _ h c => ⟨(h c).1.trans ?_, (h c).2.1.trans ?_, (h c).2.2.1.trans ?_, (h c).2.2.2⟩)
    (Cert.ConfNormBwdRefIdeal.Value.run (F := Ideal) m' ρ')
  all_goals obtain ⟨a0, a1, a2, a3⟩ := ha c
  · rw [Cert.ConfNormBwdRefIdeal.Read.val_main_v59_eq, a0, a1, a2, a3]
    exact (Cert.ConfNormBwdIdeal.Conf.array4 m c (hr c)).symm
  · rw [Cert.ConfNormBwdRefIdeal.Read.val_main_v33_eq, a0, a1, a2, a3]
    exact (Cert.ConfNormBwdIdeal.Conf.array5 m c (hr c)).symm
  · rw [Cert.ConfNormBwdRefIdeal.Read.val_main_v30_eq, a0, a1, a2, a3]
    exact (Cert.ConfNormBwdIdeal.Conf.array6 m c (hr c)).symm

end Cert.Proof.ScClaims

end
-- ==== Proof.ScFirstBwd.lean ====
module

public import proofs.«01_k».proof.Proof.Gen.ScFirstBwdIdeal.Value
public import proofs.«01_k».proof.Proof.Gen.ScFirstBwdRefIdeal.Read
public import proofs.«01_k».proof.Proof.Sums

@[expose] public section

/-!
  The first layer's gradient of the input, from the residual and the short convolution's first product: what the call's array holds after the run.
-/

set_option maxRecDepth 16384

noncomputable section

namespace Cert.ScFirstBwdIdeal.Mixer

open Cert.ScFirstBwdIdeal Cert.ScFirstBwdIdeal.Gen Cert.ScFirstBwdRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, t.val, 0] ∧ win0_1.index t = ![0, 0] ∧ win0_2.index t = ![t.val, 0]
    ∧ win0_3.index t = ![t.val, 0] := by
  decide +kernel

theorem block0 (t : Fin cfg0.N) (k : Fin 3) (q : Fin 512) (j : Fin 1024) (p : Fin 2048) (hp : p.val = 512 * t.val + q.val) :
    iblk m c 0 t (ix3 k q j) = m ((c : Thread nD τ).loc main_arg1) (ix3 k p j) := by
  have e : (win0_0.blk t).view.emb (ix3 k q j) = (ix3 k p j : S3x2048x1024.Idx) := by
    obtain ⟨e0, e1, e2, e3⟩ := idx_facts t
    blk_ext [e0]
  show V m c main_arg1 ((win0_0.blk t).view.emb (ix3 k q j)) = _
  rw [e]
  rfl

theorem block1 (t : Fin cfg0.N) (q : Fin 1024) (j : Fin 3072) :
    iblk m c 1 t (ix2 q j) = m ((c : Thread nD τ).loc main_arg0) (ix2 q j) := by
  have e : (win0_1.blk t).view.emb (ix2 q j) = (ix2 q j : S1024x3072.Idx) := by
    obtain ⟨e0, e1, e2, e3⟩ := idx_facts t
    blk_ext [e1]
  show V m c main_v0 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg2) (ix2 p j) := by
  have e : (win0_2.blk t).view.emb (ix2 q j) = (ix2 p j : S2048x1024.Idx) := by
    obtain ⟨e0, e1, e2, e3⟩ := idx_facts t
    blk_ext [e2]
  show V m c main_arg2 ((win0_2.blk t).view.emb (ix2 q j)) = _
  rw [e]
  rfl

/-- The result is the reference's gradient. -/
theorem array3 : (dats m 0 c).arrAt 3 cfg0.N = val_main_v15 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_3.blk t).view.emb (ix2 q j) = (ix2 p j : S2048x1024.Idx) := by
    obtain ⟨e0, e1, e2, e3⟩ := idx_facts t
    blk_ext [e3]
  blk_simp
  rw [after0_3, e]
  frame_out
  pointwise [k0_pay1, val_main_v15, val_main_v14, val_main_v13, val_main_cst_1, val_main_v12, val_main_v7, val_main_v6, val_main_v5, val_main_v4, val_main_v3, val_main_v2, val_main_v1, val_main_v0]
  rw [block2 m c t q j p hp]
  refine congrArg (· + _) (dot_congr (fun x => ?_) (fun x => block1 m c t j x))
  split_ifs <;> exact block0 m c t _ q _ p hp

end Cert.ScFirstBwdIdeal.Mixer
end
-- ==== Proof.CfIn.lean ====
module

public import proofs.«01_k».proof.Proof.Gen.CfInIdeal.Value
public import proofs.«01_k».proof.Proof.Gen.CfInRefIdeal.Read
public import proofs.«01_k».proof.Proof.Sums

@[expose] public section

/-!
  The conformer's first product with its bias: what the call's array holds after the run.
-/

set_option maxRecDepth 16384

noncomputable section

namespace Cert.CfInIdeal.Conf

open Cert.CfInIdeal Cert.CfInIdeal.Gen Cert.CfInRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 4, 0] ∧ win0_1.index t = ![0, t.val % 4]
    ∧ win0_2.index t = ![0, t.val % 4] ∧ win0_3.index t = ![t.val / 4, t.val % 4] := by
  decide +kernel

theorem block0 (t : Fin cfg0.N) (q : Fin 1024) (j : Fin 1024) (p : Fin 2048) (hp : p.val = 1024 * (t.val / 4) + q.val) :
    iblk m c 0 t (ix2 q j) = m ((c : Thread nD τ).loc main_arg0) (ix2 p j) := by
  have e : (win0_0.blk t).view.emb (ix2 q j) = (ix2 p j : S2048x1024.Idx) := by
    obtain ⟨e0, e1, e2, e3⟩ := idx_facts t
    blk_ext [e0]
  show V m c main_v0 ((win0_0.blk t).view.emb (ix2 q j)) = _
  rw [e]
  rfl

theorem block1 (t : Fin cfg0.N) (q : Fin 1024) (j : Fin 512) (i : Fin 2048) (hi : i.val = 512 * (t.val % 4) + j.val) :
    iblk m c 1 t (ix2 q j) = m ((c : Thread nD τ).loc main_arg1) (ix2 q i) := by
  have e : (win0_1.blk t).view.emb (ix2 q j) = (ix2 q i : S1024x2048.Idx) := by
    obtain ⟨e0, e1, e2, e3⟩ := idx_facts t
    blk_ext [e1]
  show V m c main_v1 ((win0_1.blk t).view.emb (ix2 q j)) = _
  rw [e]
  rfl

theorem block2 (t : Fin cfg0.N) (z : Fin 1) (j : Fin 512) (i : Fin 2048) (hi : i.val = 512 * (t.val % 4) + j.val) :
    iblk m c 2 t (ix2 z j) = m ((c : Thread nD τ).loc main_arg2) (ix2 z i) := by
  have e : (win0_2.blk t).view.emb (ix2 z j) = (ix2 z i : S1x2048.Idx) := by
    obtain ⟨e0, e1, e2, e3⟩ := idx_facts t
    blk_ext [e2]
  show V m c main_arg2 ((win0_2.blk t).view.emb (ix2 z j)) = _
  rw [e]
  rfl

/-- The result is the reference's. -/
theorem array3 : (dats m 0 c).arrAt 3 cfg0.N = val_main_v2 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  have ht : t.val < 8 := t.isLt
  obtain ⟨q, j, rfl⟩ : ∃ (q : Fin 1024) (j : Fin 512), y = (ix2 q j : S1024x512.Idx) := ⟨y 0, y 1, (ix2_eta (n0 := 1024) (n1 := 512) y).symm⟩
  obtain ⟨p, hp⟩ : ∃ p : Fin 2048, p.val = 1024 * (t.val / 4) + q.val := ⟨⟨_, by omega⟩, rfl⟩
  obtain ⟨i, hi⟩ : ∃ i : Fin 2048, i.val = 512 * (t.val % 4) + j.val := ⟨⟨_, by omega⟩, rfl⟩
  have e : (win0_3.blk t).view.emb (ix2 q j) = (ix2 p i : S2048x2048.Idx) := by
    obtain ⟨e0, e1, e2, e3⟩ := idx_facts t
    blk_ext [e3]
  blk_simp
  rw [after0_3, e]
  frame_out
  pointwise [k0_pay1, val_main_v2, val_main_v1, val_main_v0]
  exact congrArg₂ (fun a b : EReal => a + b) (dot_congr (fun x => block0 m c t q x p hp) (fun x => block1 m c t x j i hi)) (block2 m c t 0 j i hi)

end Cert.CfInIdeal.Conf
end
-- ==== Proof.CfDwIn.lean ====
module

public import proofs.«01_k».proof.Proof.Gen.CfDwInIdeal.Value
public import proofs.«01_k».proof.Proof.Gen.CfDwInRefIdeal.Read
public import proofs.«01_k».proof.Proof.Sums

@[expose] public section

/-!
  The gradient of the conformer's first weights: what the call's array holds after the run.
-/

set_option maxRecDepth 16384

noncomputable section

namespace Cert.CfDwInIdeal.Conf

open Cert.CfDwInIdeal Cert.CfDwInIdeal.Gen Cert.CfDwInRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![t.val / 2, 0, t.val % 2]
    ∧ win0_2.index t = ![t.val, 0, 0] := by
  decide +kernel

theorem block0 (t : Fin cfg0.N) (q : Fin 2048) (j : Fin 1024) :
    iblk m c 0 t (ix2 q j) = m ((c : Thread nD τ).loc main_arg0) (ix2 q j) := by
  have e : (win0_0.blk t).view.emb (ix2 q j) = (ix2 q j : S2048x1024.Idx) := by
    obtain ⟨e0, e1, e2⟩ := idx_facts t
    blk_ext [e0]
  show V m c main_v0 ((win0_0.blk t).view.emb (ix2 q j)) = _
  rw [e]
  rfl

theorem block1 (t : Fin cfg0.N) (z : Fin 1) (q : Fin 2048) (j : Fin 512) (k : Fin 2) (i : Fin 1024) (hk : k.val = t.val / 2) (hi : i.val = 512 * (t.val % 2) + j.val) :
    iblk m c 1 t (ix3 z q j) = m ((c : Thread nD τ).loc main_arg1) (ix3 k q i) := by
  have e : (win0_1.blk t).view.emb (ix3 z q j) = (ix3 k q i : S2x2048x1024.Idx) := by
    obtain ⟨e0, e1, e2⟩ := idx_facts t
    blk_ext [e1]
  show V m c main_arg1 ((win0_1.blk t).view.emb (ix3 z q j)) = _
  rw [e]
  rfl

/-- The result is the reference's gradient. -/
theorem array2 : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨z, q, j, rfl⟩ : ∃ (z : Fin 1) (q : Fin 1024) (j : Fin 512), y = (ix3 z q j : S1x1024x512.Idx) :=
    ⟨y 0, y 1, y 2, (ix3_eta (n0 := 1) (n1 := 1024) (n2 := 512) y).symm⟩
  have e : (win0_2.blk t).view.emb (ix3 z q j) = (ix3 ⟨t.val, by omega⟩ q j : S4x1024x512.Idx) := by
    obtain ⟨e0, e1, e2⟩ := idx_facts t
    blk_ext [e2]
  blk_simp
  rw [after0_2, e]
  frame_out
  pointwise [k0_pay1, val_main_v12, val_main_v11, val_main_v10, val_main_v9, val_main_v8, val_main_v5, val_main_v4, val_main_v3, val_main_v2, val_main_v1, val_main_v0]
  split_ifs with h1
  all_goals exact dot_congr_comm (fun x => block0 m c t x q) (fun x => (block1 m c t 0 x j _ _ (by first | (show 0 = t.val / 2; omega) | (show 1 = t.val / 2; omega)) (by dsimp only; omega)))

end Cert.CfDwInIdeal.Conf
end
-- ==== Proof.CfInBwd.lean ====
module

public import proofs.«01_k».proof.Proof.Gen.CfInBwdIdeal.Value
public import proofs.«01_k».proof.Proof.Gen.CfInBwdRefIdeal.Read
public import proofs.«01_k».proof.Proof.MlpUpBwd

@[expose] public section

/-!
  The backward call of the conformer's first product and of the layer norm before it: what its five arrays hold after the
  run.
-/

set_option maxRecDepth 16384

noncomputable section

namespace Cert.CfInBwdIdeal.Conf

open Cert.CfInBwdIdeal Cert.CfInBwdIdeal.Gen Cert.CfInBwdRefIdeal.Read Cert.Sums Cert.Attn Idealize.ShloMosaic Idealize.ShloMosaic.TcCoe

variable (m : (ℓ : Loc nD τ sig) → Buf (Elt Ideal) ℓ) (c : Dev nD)

theorem idx_facts : ∀ t : Fin cfg0.N, win0_0.index t = ![0, t.val, 0] ∧ win0_1.index t = ![0, 0] ∧ win0_2.index t = ![t.val, 0]
    ∧ win0_3.index t = ![t.val, 0] ∧ win0_4.index t = ![t.val, 0] ∧ win0_5.index t = ![0, 0] := by
  decide +kernel

theorem out_facts : ∀ t : Fin cfg0.N, win0_6.index t = ![t.val, 0] ∧ win0_7.index t = ![t.val, 0] ∧ win0_8.index t = ![0, 0]
    ∧ win0_9.index t = ![0, 0] ∧ win0_10.index t = ![0, 0] := by
  decide +kernel

theorem block0 (t : Fin cfg0.N) (k : Fin 2) (q : Fin 512) (j : Fin 1024) (p : Fin 2048) (hp : p.val = 512 * t.val + q.val) :
    iblk m c 0 t (ix3 k q j) = m ((c : Thread nD τ).loc main_arg4) (ix3 k p j) := by
  have e : (win0_0.blk t).view.emb (ix3 k q j) = (ix3 k p j : S2x2048x1024.Idx) := by
    obtain ⟨e0, e1, e2, e3, e4, e5⟩ := idx_facts t
    blk_ext [e0]
  show V m c main_arg4 ((win0_0.blk t).view.emb (ix3 k q j)) = _
  rw [e]
  rfl

theorem block1 (t : Fin cfg0.N) (q : Fin 1024) (j : Fin 2048) :
    iblk m c 1 t (ix2 q j) = m ((c : Thread nD τ).loc main_arg3) (ix2 q j) := by
  have e : (win0_1.blk t).view.emb (ix2 q j) = (ix2 q j : S1024x2048.Idx) := by
    obtain ⟨e0, e1, e2, e3, e4, e5⟩ := idx_facts t
    blk_ext [e1]
  show V m c main_v18 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg5) (ix2 p j) := by
  have e : (win0_2.blk t).view.emb (ix2 q j) = (ix2 p j : S2048x1024.Idx) := by
    obtain ⟨e0, e1, e2, e3, e4, e5⟩ := idx_facts t
    blk_ext [e2]
  show V m c main_arg5 ((win0_2.blk t).view.emb (ix2 q j)) = _
  rw [e]
  rfl

/-- The saved normalised rows. -/
theorem block3 (t : Fin cfg0.N) (q : Fin 512) (j : Fin 1024) (p : Fin 2048) (hp : p.val = 512 * t.val + q.val) :
    iblk m c 3 t (ix2 q j) = val_main_v28 (F := Ideal) (m ((c : Thread nD τ).loc main_arg0)) (ix2 p j) := by
  have e : (win0_3.blk t).view.emb (ix2 q j) = (ix2 p j : S2048x1024.Idx) := by
    obtain ⟨e0, e1, e2, e3, e4, e5⟩ := idx_facts t
    blk_ext [e3]
  show V m c main_v17 ((win0_3.blk t).view.emb (ix2 q j)) = _
  rw [e]
  rfl

/-- The saved inverse deviations. -/
theorem block4 (t : Fin cfg0.N) (q : Fin 512) (z : Fin 1) (p : Fin 2048) (hp : p.val = 512 * t.val + q.val) :
    iblk m c 4 t (ix2 q z) = val_main_v23 (F := Ideal) (m ((c : Thread nD τ).loc main_arg0)) (ix2 p z) := by
  have e : (win0_4.blk t).view.emb (ix2 q z) = (ix2 p z : S2048x1.Idx) := by
    obtain ⟨e0, e1, e2, e3, e4, e5⟩ := idx_facts t
    blk_ext [e4]
  show V m c main_v13 ((win0_4.blk t).view.emb (ix2 q z)) = _
  rw [e]
  rfl

theorem block5 (t : Fin cfg0.N) (z : Fin 1) (j : Fin 1024) :
    iblk m c 5 t (ix2 z j) = m ((c : Thread nD τ).loc main_arg1) (ix2 z j) := by
  have e : (win0_5.blk t).view.emb (ix2 z j) = (ix2 z j : S1x1024.Idx) := by
    obtain ⟨e0, e1, e2, e3, e4, e5⟩ := idx_facts t
    blk_ext [e5]
  show V m c main_arg1 ((win0_5.blk t).view.emb (ix2 z j)) = _
  rw [e]
  rfl

/-- The norm's cotangent: the kernel's is the reference's. -/
theorem cotangent (t : Fin cfg0.N) (q : Fin 512) (j : Fin 1024) (p : Fin 2048) (hp : p.val = 512 * t.val + q.val) :
    k0_pay1 (iblk m c 0 t) (iblk m c 1 t) (iblk m c 2 t) (ix2 q j) = val_main_v39 (F := Ideal) (m ((c : Thread nD τ).loc main_arg3))
      (m ((c : Thread nD τ).loc main_arg4)) (m ((c : Thread nD τ).loc main_arg5)) (ix2 p j) := by
  pointwise [k0_pay1, val_main_v39, val_main_v38, val_main_v37, val_main_cst_7, val_main_v36, val_main_v5, val_main_v4, val_main_v3, val_main_v2, val_main_v1, val_main_v0]
  rw [block2 m c t q j p hp]
  exact congrArg (· + _) (congrArg₂ (fun a b : EReal => a + b) (dot_congr (fun x => block0 m c t 0 q x p hp) (fun x => block1 m c t j _))
    (dot_congr (fun x => block0 m c t 1 q x p hp) (fun x => block1 m c t j _)))

section reference
variable (x : (⟨S2048x1024, .f32⟩ : BufTy).Contents (Elt Ideal)) (g : (⟨S1x1024, .f32⟩ : BufTy).Contents (Elt Ideal))
  (w : (⟨S1024x2048, .f32⟩ : BufTy).Contents (Elt Ideal)) (du : (⟨S2x2048x1024, .bf16⟩ : BufTy).Contents (Elt Ideal))
  (dr : (⟨S2048x1024, .f32⟩ : BufTy).Contents (Elt Ideal)) (p : Fin 2048)

theorem ref_xhat (j : Fin 1024) :
    val_main_v28 (F := Ideal) x (ix2 p j) = val_main_v20 (F := Ideal) x (ix2 p j) * val_main_v23 (F := Ideal) x (ix2 p 0) :=
  MlpUpBwdIdeal.Mlp.ref_xhat x p j

/-- The reference's centred rows are reals of sum zero. -/
theorem ref_centred (hx : ∀ i, IsReal (x i)) : ∃ r : Fin 1024 → ℝ, ∑ k, r k = 0 ∧ ∀ k, val_main_v20 (F := Ideal) x (ix2 p k) = (r k : EReal) :=
  MlpUpBwdIdeal.Mlp.ref_centred x p hx

/-- Their deviations are positive reals. -/
theorem ref_rstd (r : Fin 1024 → ℝ) (hr : ∀ k, val_main_v20 (F := Ideal) x (ix2 p k) = (r k : EReal)) :
    ∃ v s : ℝ, 0 < v ∧ s * s * v = 1 ∧ (∀ z, val_main_v22 (F := Ideal) x (ix2 p z) = (v : EReal)) ∧ ∀ z, val_main_v23 (F := Ideal) x (ix2 p z) = (s : EReal) :=
  MlpUpBwdIdeal.Mlp.ref_rstd x p r hr

/-- The cotangent of the two parts, laid side by side, is real. -/
theorem ref_parts (hdu : ∀ i, IsReal (du i)) (k : Fin 2048) : IsReal (val_main_v5 (F := Ideal) du (ix2 p k)) := by
  pointwise [val_main_v5, val_main_v4, val_main_v3, val_main_v2, val_main_v1, val_main_v0]
  split_ifs <;> exact hdu _

/-- The norm's cotangent is real. -/
theorem ref_cotangent (hw : ∀ i, IsReal (w i)) (hdu : ∀ i, IsReal (du i)) (hdr : ∀ i, IsReal (dr i)) (j : Fin 1024) :
    IsReal (val_main_v39 (F := Ideal) w du dr (ix2 p j)) := by
  pointwise [val_main_v39, val_main_v38, val_main_v37, val_main_cst_7, val_main_v36]
  exact (IsReal.sum _ _ fun k _ => (ref_parts du p hdu k).mul (hw _)).add (LayerNorm.ofBits_alpha.mul (hdr _))

end reference

/-- The hypothesis on the arguments: all but the norm's shift are real. -/
abbrev Reals : Prop := (∀ i, IsReal (m ((c : Thread nD τ).loc main_arg0) i)) ∧ (∀ i, IsReal (m ((c : Thread nD τ).loc main_arg1) i))
  ∧ (∀ i, IsReal (m ((c : Thread nD τ).loc main_arg3) i)) ∧ (∀ i, IsReal (m ((c : Thread nD τ).loc main_arg4) i))
  ∧ ∀ i, IsReal (m ((c : Thread nD τ).loc main_arg5) i)

/-- The norm's gradient: the kernel's rows are the reference's. -/
theorem row (hm : Reals m c) (t : Fin cfg0.N) (q : Fin 512) (j : Fin 1024) (p : Fin 2048) (hp : p.val = 512 * t.val + q.val) :
    k0_pay3 (iblk m c 0 t) (iblk m c 1 t) (iblk m c 2 t) (iblk m c 3 t) (iblk m c 4 t) (iblk m c 5 t) (ix2 q j)
      = val_main_v70 (F := Ideal) (m ((c : Thread nD τ).loc main_arg0)) (m ((c : Thread nD τ).loc main_arg1)) (m ((c : Thread nD τ).loc main_arg3))
      (m ((c : Thread nD τ).loc main_arg4)) (m ((c : Thread nD τ).loc main_arg5)) (ix2 p j) := by
  obtain ⟨hx, hg, hw, hdh, hdr⟩ := hm
  obtain ⟨r, h0, hr⟩ := ref_centred _ p hx
  obtain ⟨v, s, hv, hs, h16, h17⟩ := ref_rstd _ p r hr
  have h5 : ∀ k, val_main_v11 (F := Ideal) (m ((c : Thread nD τ).loc main_arg0)) (ix2 p k) = (r k : EReal) := hr
  choose d hd using fun k => (ref_cotangent _ _ _ p hw hdh hdr k).mul (hg (ix2 0 k))
  pointwise [k0_pay3, k0_pay2, val_main_v70, val_main_v69, val_main_v68, val_main_cst_16, val_main_v67, val_main_v66, val_main_cst_15, val_main_v65, val_main_v64, val_main_v63, val_main_v62, val_main_cst_14, val_main_v61, val_main_v60, val_main_v59, val_main_v58, val_main_cst_13, val_main_v57, val_main_v56, val_main_cst_12, val_main_v55, val_main_v54, val_main_cst_11, val_main_v53, val_main_v52, val_main_v51, val_main_v50, val_main_v49, val_main_v48, val_main_cst_10, val_main_v47, val_main_v46, val_main_v45, val_main_v26, val_main_v25, val_main_cst_5, val_main_v24, val_main_v14, val_main_v13, val_main_cst_1]
  simp only [cotangent m c t q _ p hp, block3 m c t q _ p hp, block4 m c t q _ p hp, block5, ref_xhat, hr, h5, h16, h17, hd, Fin.sum_univ_one]
  exact LayerNorm.backward r d s v hv hs h0 j

/-- The call's first result is the reference's. -/
theorem array6 (hm : Reals m c) : (dats m 0 c).arrAt 6 cfg0.N = val_main_v70 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e6, e7, e8, e9, e10⟩ := out_facts t
    blk_ext [e6]
  blk_simp
  rw [after0_6, e]
  by_cases h : t.val % 4 = 0
  · rw [outsAt0_A m c t h h h]
    frame_out
    exact row m c hm t q j p hp
  · rw [outsAt0_B m c t h h h]
    frame_out
    exact row m c hm t q j p hp

/-- The call's second result is the rounding of the first. -/
theorem array7 (hm : Reals m c) : (dats m 0 c).arrAt 7 cfg0.N = val_main_v71 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e6, e7, e8, e9, e10⟩ := out_facts t
    blk_ext [e7]
  blk_simp
  rw [after0_7, e]
  by_cases h : t.val % 4 = 0
  · rw [outsAt0_A m c t h h h]
    frame_out
    exact row m c hm t q j p hp
  · rw [outsAt0_B m c t h h h]
    frame_out
    exact row m c hm t q j p hp

/-- The gradient of the norm's gain. -/
theorem array8 : (dats m 0 c).arrAt 8 cfg0.N = val_main_v44 (F := Ideal) (m ((c : Thread nD τ).loc main_arg0)) (m ((c : Thread nD τ).loc main_arg3))
    (m ((c : Thread nD τ).loc main_arg4)) (m ((c : Thread nD τ).loc main_arg5)) := by
  refine (dats m 0 c).arrAt_eq_of_covers 8 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_8.blk t).view.emb (ix2 z j) = (ix2 z j : S1x1024.Idx) := by
    obtain ⟨e6, e7, e8, e9, e10⟩ := out_facts t
    blk_ext [e8]
  have hl : t.val + 1 = cfg0.N := by
    have h := (flush0_8 t).mp hf
    have ht : t.val < 4 := t.isLt
    show t.val + 1 = 4
    omega
  blk_simp
  rw [after0_8, e]
  refine (Pipeline.eq_sum_fin_of_reset_step_apply_last (fun n h => (outsAt0 m c n h).2.2.1) 4 (fun _ => (0 : EReal)) (fun t y => ∑ q : Fin 512,
    k0_pay1 (iblk m c 0 t) (iblk m c 1 t) (iblk m c 2 t) (ix2 q (y 1)) * iblk m c 3 t (ix2 q (y 1))) (fun t h y => ?_) (fun t h y => ?_) (by decide) t hl (ix2 z j)).trans ?_
  · rw [outsAt0_A m c t h h h]
    frame_out
    pointwise [k0_pay5, k0_pay6, k0_pay2]
  · rw [outsAt0_B m c t h h h]
    frame_out
    pointwise [k0_pay6, k0_pay2]
  · pointwise [val_main_v44, val_main_v43, val_main_cst_9, val_main_v42]
    refine MlpUpBwdIdeal.Mlp.sum_rows fun t q p hp => ?_
    exact (congrArg₂ (· * ·) (cotangent m c t q j p hp) (block3 m c t q j p hp)).trans (mul_comm _ _)

/-- The gradient of the norm's shift. -/
theorem array9 : (dats m 0 c).arrAt 9 cfg0.N = val_main_v41 (F := Ideal) (m ((c : Thread nD τ).loc main_arg3))
    (m ((c : Thread nD τ).loc main_arg4)) (m ((c : Thread nD τ).loc main_arg5)) := by
  refine (dats m 0 c).arrAt_eq_of_covers 9 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_9.blk t).view.emb (ix2 z j) = (ix2 z j : S1x1024.Idx) := by
    obtain ⟨e6, e7, e8, e9, e10⟩ := out_facts t
    blk_ext [e9]
  have hl : t.val + 1 = cfg0.N := by
    have h := (flush0_9 t).mp hf
    have ht : t.val < 4 := t.isLt
    show t.val + 1 = 4
    omega
  blk_simp
  rw [after0_9, e]
  refine (Pipeline.eq_sum_fin_of_reset_step_apply_last (fun n h => (outsAt0 m c n h).2.2.2.1) 4 (fun _ => (0 : EReal)) (fun t y => ∑ q : Fin 512,
    k0_pay1 (iblk m c 0 t) (iblk m c 1 t) (iblk m c 2 t) (ix2 q (y 1))) (fun t h y => ?_) (fun t h y => ?_) (by decide) t hl (ix2 z j)).trans ?_
  · rw [outsAt0_A m c t h h h]
    frame_out
    pointwise [k0_pay7, k0_pay8]
  · rw [outsAt0_B m c t h h h]
    frame_out
    pointwise [k0_pay8]
  · pointwise [val_main_v41, val_main_v40, val_main_cst_8]
    refine MlpUpBwdIdeal.Mlp.sum_rows fun t q p hp => ?_
    exact cotangent m c t q j p hp

/-- The column sums of the first result. -/
theorem array10 (hm : Reals m c) : (dats m 0 c).arrAt 10 cfg0.N = val_main_v73 (F := Ideal) (m ((c : Thread nD τ).loc main_arg0)) (m ((c : Thread nD τ).loc main_arg1))
    (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_10.blk t).view.emb (ix2 z j) = (ix2 z j : S1x1024.Idx) := by
    obtain ⟨e6, e7, e8, e9, e10⟩ := out_facts t
    blk_ext [e10]
  have hl : t.val + 1 = cfg0.N := by
    have h := (flush0_10 t).mp hf
    have ht : t.val < 4 := t.isLt
    show t.val + 1 = 4
    omega
  blk_simp
  rw [after0_10, e]
  refine (Pipeline.eq_sum_fin_of_reset_step_apply_last (fun n h => (outsAt0 m c n h).2.2.2.2) 4 (fun _ => (0 : EReal)) (fun t y => ∑ q : Fin 512,
    k0_pay3 (iblk m c 0 t) (iblk m c 1 t) (iblk m c 2 t) (iblk m c 3 t) (iblk m c 4 t) (iblk m c 5 t) (ix2 q (y 1))) (fun t h y => ?_) (fun t h y => ?_) (by decide) t hl (ix2 z j)).trans ?_
  · rw [outsAt0_A m c t h h h]
    frame_out
    pointwise [k0_pay9, k0_pay10]
  · rw [outsAt0_B m c t h h h]
    frame_out
    pointwise [k0_pay10]
  · pointwise [val_main_v73, val_main_v72, val_main_cst_17]
    refine MlpUpBwdIdeal.Mlp.sum_rows fun t q p hp => ?_
    exact row m c hm t q j p hp

end Cert.CfInBwdIdeal.Conf
end
-- ==== Proof.CfOutLn.lean ====
module

public import proofs.«01_k».proof.Proof.Gen.CfOutLnIdeal.Value
public import proofs.«01_k».proof.Proof.Gen.CfOutLnRefIdeal.Read
public import proofs.«01_k».proof.Proof.Sums

@[expose] public section

/-!
  The conformer's second product with its bias, the residual and the layer norm after it: what the call's four arrays hold after
  the run.
-/

set_option maxRecDepth 16384

noncomputable section

namespace Cert.CfOutLnIdeal.Conf

open Cert.CfOutLnIdeal Cert.CfOutLnIdeal.Gen Cert.CfOutLnRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] := by
  decide +kernel

theorem out_facts : ∀ t : Fin cfg0.N, win0_6.index t = ![t.val, 0] ∧ win0_7.index t = ![t.val, 0] ∧ win0_8.index t = ![t.val, 0]
    ∧ win0_9.index t = ![t.val, 0] := by
  decide +kernel

theorem block0 (t : Fin cfg0.N) (q : Fin 512) (j : Fin 1024) (p : Fin 2048) (hp : p.val = 512 * t.val + q.val) :
    iblk m c 0 t (ix2 q j) = m ((c : Thread nD τ).loc main_arg0) (ix2 p j) := by
  have e : (win0_0.blk t).view.emb (ix2 q j) = (ix2 p j : S2048x1024.Idx) := by
    obtain ⟨e0, e1, e2, e3, e4, e5⟩ := idx_facts t
    blk_ext [e0]
  show V m c main_v0 ((win0_0.blk t).view.emb (ix2 q j)) = _
  rw [e]
  rfl

theorem block1 (t : Fin cfg0.N) (q : Fin 1024) (j : Fin 1024) :
    iblk m c 1 t (ix2 q j) = m ((c : Thread nD τ).loc main_arg1) (ix2 q j) := by
  have e : (win0_1.blk t).view.emb (ix2 q j) = (ix2 q j : S1024x1024.Idx) := by
    obtain ⟨e0, e1, e2, e3, e4, e5⟩ := idx_facts t
    blk_ext [e1]
  show V m c main_v1 ((win0_1.blk t).view.emb (ix2 q j)) = _
  rw [e]
  rfl

theorem block2 (t : Fin cfg0.N) (q : Fin 512) (j : Fin 1024) (p : Fin 2048) (hp : p.val = 512 * t.val + q.val) :
    iblk m c 2 t (ix2 q j) = m ((c : Thread nD τ).loc main_arg3) (ix2 p j) := by
  have e : (win0_2.blk t).view.emb (ix2 q j) = (ix2 p j : S2048x1024.Idx) := by
    obtain ⟨e0, e1, e2, e3, e4, e5⟩ := idx_facts t
    blk_ext [e2]
  show V m c main_arg3 ((win0_2.blk t).view.emb (ix2 q j)) = _
  rw [e]
  rfl

theorem block3 (t : Fin cfg0.N) (z : Fin 1) (j : Fin 1024) :
    iblk m c 3 t (ix2 z j) = m ((c : Thread nD τ).loc main_arg4) (ix2 z j) := by
  have e : (win0_3.blk t).view.emb (ix2 z j) = (ix2 z j : S1x1024.Idx) := by
    obtain ⟨e0, e1, e2, e3, e4, e5⟩ := idx_facts t
    blk_ext [e3]
  show V m c main_arg4 ((win0_3.blk t).view.emb (ix2 z j)) = _
  rw [e]
  rfl

theorem block4 (t : Fin cfg0.N) (z : Fin 1) (j : Fin 1024) :
    iblk m c 4 t (ix2 z j) = m ((c : Thread nD τ).loc main_arg5) (ix2 z j) := by
  have e : (win0_4.blk t).view.emb (ix2 z j) = (ix2 z j : S1x1024.Idx) := by
    obtain ⟨e0, e1, e2, e3, e4, e5⟩ := idx_facts t
    blk_ext [e4]
  show V m c main_arg5 ((win0_4.blk t).view.emb (ix2 z j)) = _
  rw [e]
  rfl

theorem block5 (t : Fin cfg0.N) (z : Fin 1) (j : Fin 1024) :
    iblk m c 5 t (ix2 z j) = m ((c : Thread nD τ).loc main_arg2) (ix2 z j) := by
  have e : (win0_5.blk t).view.emb (ix2 z j) = (ix2 z j : S1x1024.Idx) := by
    obtain ⟨e0, e1, e2, e3, e4, e5⟩ := idx_facts t
    blk_ext [e5]
  show V m c main_arg2 ((win0_5.blk t).view.emb (ix2 z j)) = _
  rw [e]
  rfl

/-- A row of the kernel with its mean taken off is the reference's. -/
theorem centred (t : Fin cfg0.N) (q : Fin 512) (j : Fin 1024) (p : Fin 2048) (hp : p.val = 512 * t.val + q.val) :
    k0_pay2 (iblk m c 0 t) (iblk m c 1 t) (iblk m c 2 t) (iblk m c 5 t) (ix2 q j) = val_main_v11 (F := Ideal) (m ((c : Thread nD τ).loc main_arg0))
      (m ((c : Thread nD τ).loc main_arg1)) (m ((c : Thread nD τ).loc main_arg2)) (m ((c : Thread nD τ).loc main_arg3)) (ix2 p j) := by
  pointwise [k0_pay2, val_main_v11, val_main_v10, val_main_v9, val_main_v8, val_main_cst_1, val_main_v7, val_main_v6, val_main_cst_0, val_main_v5, val_main_v4, val_main_v3, val_main_v2, val_main_v1, val_main_v0, val_main_cst]
  refine congrArg₂ (fun a b : EReal => a - Ideal.div b (Ideal.ofBits FTy.f32 1149239296#32)) ?_ (sum_congr fun k => ?_)
  · rw [block2 m c t q j p hp, block5, add_assoc]
    exact congrArg (_ + ·) (congrArg (· + _) (dot_congr (fun x => block0 m c t q x p hp) (fun x => block1 m c t x j)))
  · rw [block2 m c t q k p hp, block5, add_assoc]
    exact congrArg (_ + ·) (congrArg (· + _) (dot_congr (fun x => block0 m c t q x p hp) (fun x => block1 m c t x k)))

theorem rstd (t : Fin cfg0.N) (q : Fin 512) (z : Fin 1) (p : Fin 2048) (hp : p.val = 512 * t.val + q.val) :
    k0_pay3 (iblk m c 0 t) (iblk m c 1 t) (iblk m c 2 t) (iblk m c 5 t) (ix2 q z) = val_main_v41 (F := Ideal) (m ((c : Thread nD τ).loc main_arg0))
      (m ((c : Thread nD τ).loc main_arg1)) (m ((c : Thread nD τ).loc main_arg2)) (m ((c : Thread nD τ).loc main_arg3)) (ix2 p z) := by
  pointwise [k0_pay3, val_main_v41, val_main_v40, val_main_v39, val_main_cst_9, val_main_v38, val_main_v37, val_main_cst_8, val_main_v36, val_main_v35, val_main_cst_7, val_main_v34]
  exact congrArg (fun s => Ideal.rsqrt (Ideal.div s _ + _)) (dot_congr (fun k => centred m c t q k p hp) (fun k => centred m c t q k p hp))

theorem xhat (t : Fin cfg0.N) (q : Fin 512) (j : Fin 1024) (p : Fin 2048) (hp : p.val = 512 * t.val + q.val) :
    k0_pay4 (iblk m c 0 t) (iblk m c 1 t) (iblk m c 2 t) (iblk m c 5 t) (ix2 q j) = val_main_v46 (F := Ideal) (m ((c : Thread nD τ).loc main_arg0))
      (m ((c : Thread nD τ).loc main_arg1)) (m ((c : Thread nD τ).loc main_arg2)) (m ((c : Thread nD τ).loc main_arg3)) (ix2 p j) := by
  pointwise [k0_pay4, val_main_v46, val_main_v45]
  exact congrArg₂ (· * ·) (centred m c t q j p hp) (rstd m c t q 0 p hp)

theorem normed (t : Fin cfg0.N) (q : Fin 512) (j : Fin 1024) (p : Fin 2048) (hp : p.val = 512 * t.val + q.val) :
    k0_pay5 (iblk m c 0 t) (iblk m c 1 t) (iblk m c 2 t) (iblk m c 5 t) (iblk m c 3 t) (iblk m c 4 t) (ix2 q j) = val_main_v27 (F := Ideal) (m ((c : Thread nD τ).loc main_arg0))
      (m ((c : Thread nD τ).loc main_arg1)) (m ((c : Thread nD τ).loc main_arg2)) (m ((c : Thread nD τ).loc main_arg3)) (m ((c : Thread nD τ).loc main_arg4)) (m ((c : Thread nD τ).loc main_arg5)) (ix2 p j) := by
  pointwise [k0_pay5, val_main_v27, val_main_v26, val_main_v25, val_main_v24]
  rw [xhat m c t q j p hp, block3, block4]
  rfl

/-- The layer norm's result is the reference's. -/
theorem array6 : (dats m 0 c).arrAt 6 cfg0.N = val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e6, e7, e8, e9⟩ := out_facts t
    blk_ext [e6]
  blk_simp
  rw [after0_6, e]
  frame_out
  exact normed m c t q j p hp

/-- Its rounding is the reference's. -/
theorem array7 : (dats m 0 c).arrAt 7 cfg0.N = val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e6, e7, e8, e9⟩ := out_facts t
    blk_ext [e7]
  blk_simp
  rw [after0_7, e]
  frame_out
  exact normed m c t q j p hp

/-- The normalised rows are the reference's. -/
theorem array8 : (dats m 0 c).arrAt 8 cfg0.N = val_main_v46 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_8.blk t).view.emb (ix2 q j) = (ix2 p j : S2048x1024.Idx) := by
    obtain ⟨e6, e7, e8, e9⟩ := out_facts t
    blk_ext [e8]
  blk_simp
  rw [after0_8, e]
  frame_out
  exact xhat m c t q j p hp

/-- The rows' inverse deviations are the reference's. -/
theorem array9 : (dats m 0 c).arrAt 9 cfg0.N = val_main_v41 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 9 _ (by decide +kernel) fun t hf y => ?_
  have ht : t.val < 4 := t.isLt
  obtain ⟨q, z, rfl⟩ : ∃ (q : Fin 512) (z : Fin 1), y = (ix2 q z : S512x1.Idx) := ⟨y 0, y 1, (ix2_eta (n0 := 512) (n1 := 1) y).symm⟩
  obtain ⟨p, hp⟩ : ∃ p : Fin 2048, p.val = 512 * t.val + q.val := ⟨⟨_, by omega⟩, rfl⟩
  have e : (win0_9.blk t).view.emb (ix2 q z) = (ix2 p z : S2048x1.Idx) := by
    obtain ⟨e6, e7, e8, e9⟩ := out_facts t
    blk_ext [e9]
  blk_simp
  rw [after0_9, e]
  frame_out
  exact rstd m c t q z p hp

end Cert.CfOutLnIdeal.Conf
end
-- ==== Proof.MlaOutBwd.lean ====
module

public import proofs.«01_k».proof.Proof.Gen.MlaOutBwdIdeal.Value
public import proofs.«01_k».proof.Proof.Gen.MlaOutBwdRefIdeal.Read
public import proofs.«01_k».proof.Proof.Sums

@[expose] public section

/-!
  The attention's cotangent, from its output product's: what the call's array holds after the run.
-/

set_option maxRecDepth 16384

noncomputable section

namespace Cert.MlaOutBwdIdeal.Attn

open Cert.MlaOutBwdIdeal Cert.MlaOutBwdIdeal.Gen Cert.MlaOutBwdRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 2, 0] ∧ win0_1.index t = ![t.val % 2, 0]
    ∧ win0_2.index t = ![t.val / 2, t.val % 2] := by
  decide +kernel

theorem block0 (t : Fin cfg0.N) (q : Fin 1024) (j : Fin 1024) (p : Fin 2048) (hp : p.val = 1024 * (t.val / 2) + q.val) :
    iblk m c 0 t (ix2 q j) = m ((c : Thread nD τ).loc main_arg1) (ix2 p j) := by
  have e : (win0_0.blk t).view.emb (ix2 q j) = (ix2 p j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 512) (j : Fin 1024) (p : Fin 1024) (hp : p.val = 512 * (t.val % 2) + q.val) :
    iblk m c 1 t (ix2 q j) = m ((c : Thread nD τ).loc main_arg0) (ix2 p j) := by
  have e : (win0_1.blk t).view.emb (ix2 q j) = (ix2 p j : S1024x1024.Idx) := by
    obtain ⟨e0, e1, e2⟩ := idx_facts t
    blk_ext [e1]
  show V m c main_v1 ((win0_1.blk t).view.emb (ix2 q j)) = _
  rw [e]
  rfl

/-- The result is the reference's gradient, rounded. -/
theorem array2 : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨q, j, rfl⟩ : ∃ (q : Fin 1024) (j : Fin 512), y = (ix2 q j : S1024x512.Idx) := ⟨y 0, y 1, (ix2_eta (n0 := 1024) (n1 := 512) y).symm⟩
  obtain ⟨p, hp⟩ : ∃ p : Fin 2048, p.val = 1024 * (t.val / 2) + q.val := ⟨⟨_, by omega⟩, rfl⟩
  obtain ⟨i, hi⟩ : ∃ i : Fin 1024, i.val = 512 * (t.val % 2) + j.val := ⟨⟨_, by omega⟩, rfl⟩
  have e : (win0_2.blk t).view.emb (ix2 q j) = (ix2 p i : S2048x1024.Idx) := by
    obtain ⟨e0, e1, e2⟩ := idx_facts t
    blk_ext [e2]
  blk_simp
  rw [after0_2, e]
  frame_out
  pointwise [k0_pay1, val_main_v3, val_main_v2]
  exact dot_congr (fun x => block0 m c t q x p hp) (fun x => block1 m c t j x i hi)

end Cert.MlaOutBwdIdeal.Attn
end
-- ==== Proof.AttnFwd.lean ====
module

public import proofs.«01_k».proof.Proof.Gen.AttnFwdIdeal.Value
public import proofs.«01_k».proof.Proof.Gen.AttnFwdRefIdeal.Read
public import proofs.«01_k».proof.Proof.Run
public import proofs.«01_k».proof.Proof.Ref
public import proofs.«01_k».proof.Proof.Sums

@[expose] public section

/-!
  The attention's forward call: each head's values weighted by the probabilities, the kernel's and the reference's.
-/

set_option maxRecDepth 16384

noncomputable section

namespace Cert.Attn

open Idealize.ShloMosaic

section weighted
variable (Q K : Fin 2048 → Fin 256 → EReal) (V : Fin 2048 → Fin 128 → EReal)

/-- A query's output: the values weighted by the probabilities. -/
def weighted (q : Fin 2048) (c : Fin 128) : EReal := ∑ k, prob Q K q k * V k c

variable {Q K}

/-- The values may be weighted by the exponentials of the first `N` keys and the sum divided by the exponentials' sum. -/
theorem weighted_lead (hQ : ∀ q c, IsReal (Q q c)) (hK : ∀ k c, IsReal (K k c)) {N : ℕ} (hN : N ≤ 2048) {q : Fin 2048}
    (hq : ∀ k : Fin 2048, N ≤ k.val → ¬ Sees q k) (c : Fin 128) :
    Ideal.div (∑ j : Fin N, Ideal.exp (score Q K q (lead hN j) - Finset.univ.fold max ⊥ (fun i : Fin N => score Q K q (lead hN i))) * V (lead hN j) c)
      (∑ j : Fin N, Ideal.exp (score Q K q (lead hN j) - Finset.univ.fold max ⊥ (fun i : Fin N => score Q K q (lead hN i))))
      = weighted Q K V q c := by
  rw [fold_lead hN (score Q K q) fun k hk => score_hidden (hq k hk)]
  change Ideal.div (∑ j : Fin N, ex Q K q (lead hN j) * V (lead hN j) c) (∑ j : Fin N, ex Q K q (lead hN j)) = _
  rw [sum_lead hN (ex Q K q) fun k hk => ex_hidden (hq k hk),
    sum_lead hN (fun k => ex Q K q k * V k c) fun k hk => by
      show ex Q K q k * V k c = 0
      rw [ex_hidden (hq k hk), zero_mul]]
  obtain ⟨d, hd, e⟩ := den_real hQ hK q
  change Ideal.div _ (den Q K q) = _
  rw [e, Ideal.div_coe hd.ne', mul_comm, coe_mul_sum _ _ (by positivity), weighted]
  refine Finset.sum_congr rfl fun k _ => ?_
  rw [prob, e, Ideal.div_coe hd.ne']
  ac_rfl

end weighted

/-- All heads' outputs, their 128 columns beside each other. -/
def outputs (qn : Nope) (qp : Rope) (kn : Nope) (kp : RopeK) (v : Nope) (y : (⟨2, ![2048, 1024]⟩ : Shape).Idx) : EReal :=
  let h : Fin 8 := ⟨(y 1).val / 128, Nat.div_lt_of_lt_mul (y 1).isLt⟩
  weighted (headQ qn qp h) (headK kn kp h) (headV v h) (y 0) ⟨(y 1).val % 128, Nat.mod_lt _ (by decide)⟩

theorem outputs_at (qn : Nope) (qp : Rope) (kn : Nope) (kp : RopeK) (v : Nope) (q : Fin 2048) (h : Fin 8) (j : Fin 128) (i : Fin 1024)
    (hi : i.val = 128 * h.val + j.val) : outputs qn qp kn kp v (ix2 q i) = weighted (headQ qn qp h) (headK kn kp h) (headV v h) q j := by
  have e : (⟨((ix2 q i : (⟨2, ![2048, 1024]⟩ : Shape).Idx) 1).val / 128, Nat.div_lt_of_lt_mul i.isLt⟩ : Fin 8) = h :=
    Fin.ext (by show i.val / 128 = h.val; omega)
  have e' : (⟨((ix2 q i : (⟨2, ![2048, 1024]⟩ : Shape).Idx) 1).val % 128, Nat.mod_lt _ (by decide)⟩ : Fin 128) = j :=
    Fin.ext (by show i.val % 128 = j.val; omega)
  simp only [outputs, e, e']
  rfl

end Cert.Attn

namespace Cert.AttnFwdIdeal.Attn

open Cert.AttnFwdIdeal Cert.AttnFwdIdeal.Gen Cert.Attn Idealize.ShloMosaic Idealize.ShloMosaic.TcCoe
open Cert.KernelIdeal.Attn (masked512 masked1024 masked1536 masked2048 masked512_apply masked1024_apply masked1536_apply masked2048_apply
  row le512 le1024 le1536 le2048 fit0 fit512 fit1024 fit1536 neg_inf mat later_hidden)

/-- The values weighted by the exponentials of 512 scores, over the exponentials' sum. -/
def average512 (s : FVec Ideal S512x512 .f32) (v : Vec Ideal S512x128 .bf16) : FVec Ideal S512x128 .bf16 :=
  have v18 : FVec Ideal S512x512 .f32 := broadcastTo S512x512 (shapeCast S512x1 (multiReduction .maximumf [1] S512 s 0xFF800000#32 reduces_S512x512_S512 (.inl rfl) rfl) shapeCasts_S512_S512x1) broadcasts_S512x1_S512x512
  have v20 : FVec Ideal S512x512 .f32 := exp (subf s v18)
  have v24 : FVec Ideal S512x128 .f32 := matmul (φ₂ := .bf16) dot_S512x512_S512x128_S512x128_1_0_0_1_n_n none (truncf .bf16 v20 bitsLt_bf16_f32) (shapeCast S512x128 v shapeCasts_S512x128_S512x128) (constant S512x128 .f32 0x00000000#32)
  have v26 : FVec Ideal S512x1 .f32 := shapeCast S512x1 (multiReduction .add [1] S512 v20 0x00000000#32 reduces_S512x512_S512 (.inl rfl) rfl) shapeCasts_S512_S512x1
  truncf .bf16 (divf v24 (broadcastTo S512x128 v26 broadcasts_S512x1_S512x128)) bitsLt_bf16_f32

/-- The same of 1024 scores. -/
def average1024 (s : FVec Ideal S512x1024 .f32) (v : Vec Ideal S1024x128 .bf16) : FVec Ideal S512x128 .bf16 :=
  have v52 : FVec Ideal S512x1024 .f32 := broadcastTo S512x1024 (shapeCast S512x1 (multiReduction .maximumf [1] S512 s 0xFF800000#32 reduces_S512x1024_S512 (.inl rfl) rfl) shapeCasts_S512_S512x1) broadcasts_S512x1_S512x1024
  have v54 : FVec Ideal S512x1024 .f32 := exp (subf s v52)
  have v58 : FVec Ideal S512x128 .f32 := matmul (φ₂ := .bf16) dot_S512x1024_S1024x128_S512x128_1_0_0_1_n_n none (truncf .bf16 v54 bitsLt_bf16_f32) (shapeCast S1024x128 v shapeCasts_S1024x128_S1024x128) (constant S512x128 .f32 0x00000000#32)
  have v60 : FVec Ideal S512x1 .f32 := shapeCast S512x1 (multiReduction .add [1] S512 v54 0x00000000#32 reduces_S512x1024_S512 (.inl rfl) rfl) shapeCasts_S512_S512x1
  truncf .bf16 (divf v58 (broadcastTo S512x128 v60 broadcasts_S512x1_S512x128)) bitsLt_bf16_f32

/-- The same of 1536 scores. -/
def average1536 (s : FVec Ideal S512x1536 .f32) (v : Vec Ideal S1536x128 .bf16) : FVec Ideal S512x128 .bf16 :=
  have v86 : FVec Ideal S512x1536 .f32 := broadcastTo S512x1536 (shapeCast S512x1 (multiReduction .maximumf [1] S512 s 0xFF800000#32 reduces_S512x1536_S512 (.inl rfl) rfl) shapeCasts_S512_S512x1) broadcasts_S512x1_S512x1536
  have v88 : FVec Ideal S512x1536 .f32 := exp (subf s v86)
  have v92 : FVec Ideal S512x128 .f32 := matmul (φ₂ := .bf16) dot_S512x1536_S1536x128_S512x128_1_0_0_1_n_n none (truncf .bf16 v88 bitsLt_bf16_f32) (shapeCast S1536x128 v shapeCasts_S1536x128_S1536x128) (constant S512x128 .f32 0x00000000#32)
  have v94 : FVec Ideal S512x1 .f32 := shapeCast S512x1 (multiReduction .add [1] S512 v88 0x00000000#32 reduces_S512x1536_S512 (.inl rfl) rfl) shapeCasts_S512_S512x1
  truncf .bf16 (divf v92 (broadcastTo S512x128 v94 broadcasts_S512x1_S512x128)) bitsLt_bf16_f32

section
variable (r : Fin 512) (c : Fin 128)

theorem average512_apply (s : FVec Ideal S512x512 .f32) (v : Vec Ideal S512x128 .bf16) : average512 s v (ix2 r c)
    = Ideal.div (∑ j : Fin 512, Ideal.exp (s (ix2 r j) - Finset.univ.fold max ⊥ fun i => s (ix2 r i)) * v (ix2 j c))
      (∑ j : Fin 512, Ideal.exp (s (ix2 r j) - Finset.univ.fold max ⊥ fun i => s (ix2 r i))) := by
  pointwise [average512]
  simp only [neg_inf]

theorem average1024_apply (s : FVec Ideal S512x1024 .f32) (v : Vec Ideal S1024x128 .bf16) : average1024 s v (ix2 r c)
    = Ideal.div (∑ j : Fin 1024, Ideal.exp (s (ix2 r j) - Finset.univ.fold max ⊥ fun i => s (ix2 r i)) * v (ix2 j c))
      (∑ j : Fin 1024, Ideal.exp (s (ix2 r j) - Finset.univ.fold max ⊥ fun i => s (ix2 r i))) := by
  pointwise [average1024]
  simp only [neg_inf]

theorem average1536_apply (s : FVec Ideal S512x1536 .f32) (v : Vec Ideal S1536x128 .bf16) : average1536 s v (ix2 r c)
    = Ideal.div (∑ j : Fin 1536, Ideal.exp (s (ix2 r j) - Finset.univ.fold max ⊥ fun i => s (ix2 r i)) * v (ix2 j c))
      (∑ j : Fin 1536, Ideal.exp (s (ix2 r j) - Finset.univ.fold max ⊥ fun i => s (ix2 r i))) := by
  pointwise [average1536]
  simp only [neg_inf]

theorem average2048_apply (s : FVec Ideal S512x2048 .f32) (v : Vec Ideal S2048x128 .bf16) : k0_pay1 s v (ix2 r c)
    = Ideal.div (∑ j : Fin 2048, Ideal.exp (s (ix2 r j) - Finset.univ.fold max ⊥ fun i => s (ix2 r i)) * v (ix2 j c))
      (∑ j : Fin 2048, Ideal.exp (s (ix2 r j) - Finset.univ.fold max ⊥ fun i => s (ix2 r i))) := by
  pointwise [k0_pay1]
  simp only [neg_inf]

variable {Q K : Fin 2048 → Fin 256 → EReal} {V : Fin 2048 → Fin 128 → EReal} (hQ : ∀ q c, IsReal (Q q c)) (hK : ∀ k c, IsReal (K k c))
include hQ hK

/-- The first tile's outputs. -/
theorem tile512 (x y : Vec Ideal S512x256 .bf16) (v : Vec Ideal S512x128 .bf16) (hx : ∀ r c, x (ix2 r c) = Q (row fit0 r) c)
    (hy : ∀ j c, y (ix2 j c) = K (lead le512 j) c) (hv : ∀ j c, v (ix2 j c) = V (lead le512 j) c) :
    k0_pay2 x y v (ix2 r c) = weighted Q K V (row fit0 r) c := by
  refine (congrFun (show k0_pay2 x y v = average512 (masked512 x y) v from rfl) _).trans ((average512_apply r c _ _).trans ?_)
  simp only [masked512_apply Q K x y hx hy, hv]
  exact weighted_lead V hQ hK le512 (later_hidden 0 512 rfl r _ rfl) c

/-- The second tile's outputs. -/
theorem tile1024 (x : Vec Ideal S512x256 .bf16) (y : Vec Ideal S1024x256 .bf16) (v : Vec Ideal S1024x128 .bf16)
    (hx : ∀ r c, x (ix2 r c) = Q (row fit512 r) c) (hy : ∀ j c, y (ix2 j c) = K (lead le1024 j) c) (hv : ∀ j c, v (ix2 j c) = V (lead le1024 j) c) :
    k0_pay4 (k0_pay3 x y) (Scalar.ofBits .f32 0x3D93CD3A#32) v (ix2 r c) = weighted Q K V (row fit512 r) c := by
  refine (congrFun (show k0_pay4 (k0_pay3 x y) (Scalar.ofBits .f32 0x3D93CD3A#32) v = average1024 (masked1024 x y) v from rfl) _).trans
    ((average1024_apply r c _ _).trans ?_)
  simp only [masked1024_apply Q K x y hx hy, hv]
  exact weighted_lead V hQ hK le1024 (later_hidden 512 1024 rfl r _ rfl) c

/-- The third tile's outputs. -/
theorem tile1536 (x : Vec Ideal S512x256 .bf16) (y : Vec Ideal S1536x256 .bf16) (v : Vec Ideal S1536x128 .bf16)
    (hx : ∀ r c, x (ix2 r c) = Q (row fit1024 r) c) (hy : ∀ j c, y (ix2 j c) = K (lead le1536 j) c) (hv : ∀ j c, v (ix2 j c) = V (lead le1536 j) c) :
    k0_pay8 (k0_pay5 x y) (iota .tc S512x512 32 [0] iota_S512x512_d0_w32) k0_pay6 k0_pay7 v (ix2 r c) = weighted Q K V (row fit1024 r) c := by
  refine (congrFun (show k0_pay8 (k0_pay5 x y) (iota .tc S512x512 32 [0] iota_S512x512_d0_w32) k0_pay6 k0_pay7 v
    = average1536 (masked1536 x y) v from rfl) _).trans ((average1536_apply r c _ _).trans ?_)
  simp only [masked1536_apply Q K x y hx hy, hv]
  exact weighted_lead V hQ hK le1536 (later_hidden 1024 1536 rfl r _ rfl) c

/-- The last tile's outputs. -/
theorem tile2048 (x : Vec Ideal S512x256 .bf16) (y : Vec Ideal S2048x256 .bf16) (v : Vec Ideal S2048x128 .bf16)
    (hx : ∀ r c, x (ix2 r c) = Q (row fit1536 r) c) (hy : ∀ j c, y (ix2 j c) = K (lead le2048 j) c) (hv : ∀ j c, v (ix2 j c) = V (lead le2048 j) c) :
    k0_pay1 (k0_pay9 x y) v (ix2 r c) = weighted Q K V (row fit1536 r) c := by
  refine (congrFun (show k0_pay1 (k0_pay9 x y) v = k0_pay1 (masked2048 x y) v from rfl) _).trans ((average2048_apply r c _ _).trans ?_)
  simp only [masked2048_apply Q K x y hx hy, hv]
  exact weighted_lead V hQ hK le2048 (later_hidden 1536 2048 rfl r _ rfl) c

end

section
variable (x0 x1 : Vec Ideal S2048x256 .bf16) (x2 : Vec Ideal S2048x128 .bf16)
  (hQ : ∀ q c, IsReal (mat x0 q c)) (hK : ∀ k c, IsReal (mat x1 k c))
include hQ hK

/-- One head's block of outputs. -/
theorem out3_apply (y : S2048x128.Idx) : out0_3 x0 x1 x2 y = weighted (mat x0) (mat x1) (mat x2) (y 0) (y 1) := by
  frame_out
  canon_tiles x h using cover0_3 (F := Ideal) _ _ _ _ _
  · have e0 : y 0 = row fit1536 (x 0) := Fin.ext h0
    have e1 : y 1 = x 1 := Fin.ext h1
    rw [e0, e1]
    conv_lhs => rw [← ix2_eta x]
    exact tile2048 (x 0) (x 1) hQ hK _ _ _ (fun r c => ld_rows x0 _ r c (by omega)) (fun j c => rfl) (fun j c => rfl)
  · have e0 : y 0 = row fit1024 (x 0) := Fin.ext h0
    have e1 : y 1 = x 1 := Fin.ext h1
    rw [e0, e1]
    conv_lhs => rw [← ix2_eta x]
    exact tile1536 (x 0) (x 1) hQ hK _ _ _ (fun r c => ld_rows x0 _ r c (by omega)) (fun j c => ld_lead x1 _ j c (by omega)) (fun j c => ld_lead x2 _ j c (by omega))
  · have e0 : y 0 = row fit512 (x 0) := Fin.ext h0
    have e1 : y 1 = x 1 := Fin.ext h1
    rw [e0, e1]
    conv_lhs => rw [← ix2_eta x]
    exact tile1024 (x 0) (x 1) hQ hK _ _ _ (fun r c => ld_rows x0 _ r c (by omega)) (fun j c => ld_lead x1 _ j c (by omega)) (fun j c => ld_lead x2 _ j c (by omega))
  · have e0 : y 0 = row fit0 (x 0) := Fin.ext (h0.trans (Nat.zero_add _).symm)
    have e1 : y 1 = x 1 := Fin.ext h1
    rw [e0, e1]
    conv_lhs => rw [← ix2_eta x]
    exact tile512 (x 0) (x 1) hQ hK _ _ _ (fun r c => ld_rows x0 _ r c (by omega)) (fun j c => ld_lead x1 _ j c (by omega)) (fun j c => ld_lead x2 _ j c (by omega))

end

variable (m : (ℓ : Loc nD τ sig) → Buf (Elt Ideal) ℓ) (c : Dev nD)

theorem idx_facts : ∀ t : Fin cfg0.N, win0_0.index t = ![0, t.val] ∧ win0_1.index t = ![0, t.val] ∧ win0_2.index t = ![0, t.val]
    ∧ win0_3.index t = ![0, t.val] := by decide +kernel

theorem block0 (t : Fin cfg0.N) (q : Fin 2048) (j : Fin 256) :
    iblk m c 0 t (ix2 q j) = headQ (m ((c : Thread nD τ).loc main_arg0)) (m ((c : Thread nD τ).loc main_arg1)) ⟨t.val, t.isLt⟩ q j := by
  have ht : t.val < 8 := t.isLt
  have e : (win0_0.blk t).view.emb (ix2 q j) = (ix2 q ⟨256 * t.val + j.val, by omega⟩ : S2048x2048.Idx) := by
    obtain ⟨e0, e1, e2, e3⟩ := idx_facts t
    blk_ext [e0]
  show V m c main_v2 ((win0_0.blk t).view.emb (ix2 q j)) = _
  rw [e]
  exact KernelIdeal.Attn.layQ_apply (m ((c : Thread nD τ).loc main_arg0)) (m ((c : Thread nD τ).loc main_arg1)) q ⟨t.val, t.isLt⟩ j _ rfl

theorem block1 (t : Fin cfg0.N) (q : Fin 2048) (j : Fin 256) :
    iblk m c 1 t (ix2 q j) = headK (m ((c : Thread nD τ).loc main_arg2)) (m ((c : Thread nD τ).loc main_arg3)) ⟨t.val, t.isLt⟩ q j := by
  have ht : t.val < 8 := t.isLt
  have e : (win0_1.blk t).view.emb (ix2 q j) = (ix2 q ⟨256 * t.val + j.val, by omega⟩ : S2048x2048.Idx) := by
    obtain ⟨e0, e1, e2, e3⟩ := idx_facts t
    blk_ext [e1]
  show V m c main_v6 ((win0_1.blk t).view.emb (ix2 q j)) = _
  rw [e]
  exact KernelIdeal.Attn.layK_apply (m ((c : Thread nD τ).loc main_arg2)) (m ((c : Thread nD τ).loc main_arg3)) q ⟨t.val, t.isLt⟩ j _ rfl

theorem block2 (t : Fin cfg0.N) (q : Fin 2048) (j : Fin 128) :
    iblk m c 2 t (ix2 q j) = headV (m ((c : Thread nD τ).loc main_arg4)) ⟨t.val, t.isLt⟩ q j := by
  have ht : t.val < 8 := t.isLt
  have e : (win0_2.blk t).view.emb (ix2 q j) = (ix2 q ⟨128 * t.val + j.val, by omega⟩ : S2048x1024.Idx) := by
    obtain ⟨e0, e1, e2, e3⟩ := idx_facts t
    blk_ext [e2]
  show V m c main_v7 ((win0_2.blk t).view.emb (ix2 q j)) = _
  rw [e]
  exact KernelIdeal.Attn.layV_apply (m ((c : Thread nD τ).loc main_arg4)) q ⟨t.val, t.isLt⟩ j _ rfl

/-- The result array after the run: all heads' outputs. -/
theorem array3 (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    (dats m 0 c).arrAt 3 cfg0.N = outputs (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 3 _ (by decide +kernel) fun t hf y => ?_
  have ht : t.val < 8 := t.isLt
  obtain ⟨q, j, rfl⟩ : ∃ (q : Fin 2048) (j : Fin 128), y = (ix2 q j : S2048x128.Idx) := ⟨y 0, y 1, (ix2_eta (n0 := 2048) (n1 := 128) y).symm⟩
  have e : (win0_3.blk t).view.emb (ix2 q j) = (ix2 q ⟨128 * t.val + j.val, by omega⟩ : S2048x1024.Idx) := by
    obtain ⟨e0, e1, e2, e3⟩ := idx_facts t
    blk_ext [e3]
  blk_simp
  have eQ : mat (iblk m c 0 t) = headQ (m ((c : Thread nD τ).loc main_arg0)) (m ((c : Thread nD τ).loc main_arg1)) ⟨t.val, t.isLt⟩ := funext₂ (block0 m c t)
  have eK : mat (iblk m c 1 t) = headK (m ((c : Thread nD τ).loc main_arg2)) (m ((c : Thread nD τ).loc main_arg3)) ⟨t.val, t.isLt⟩ := funext₂ (block1 m c t)
  have eV : mat (iblk m c 2 t) = headV (m ((c : Thread nD τ).loc main_arg4)) ⟨t.val, t.isLt⟩ := funext₂ (block2 m c t)
  have hQ : ∀ q j, IsReal (mat (iblk m c 0 t) q j) := by rw [eQ]; exact headQ_real h0 h1 _
  have hK : ∀ q j, IsReal (mat (iblk m c 1 t) q j) := by rw [eK]; exact headK_real h2 h3 _
  rw [after0_3, e, outputs_at _ _ _ _ _ q ⟨t.val, t.isLt⟩ j _ rfl, ← eQ, ← eK, ← eV]
  exact out3_apply _ _ _ hQ hK (ix2 q j)

end Cert.AttnFwdIdeal.Attn

namespace Cert.AttnFwdRefIdeal.Attn

open Cert.AttnFwdRefIdeal Cert.AttnFwdRefIdeal.Gen Cert.AttnFwdRefIdeal.Read Cert.Attn Idealize.ShloMosaic Idealize.ShloMosaic.StableHlo

variable (x0 : Nope) (x1 : Rope) (x2 : Nope) (x3 : RopeK) (x4 : Nope)

/-- The forward pass has the probabilities of the backward pass. -/
theorem prob_apply (h : Fin 8) (q k : Fin 2048) :
    val_main_v31 (F := Ideal) x0 x1 x2 x3 (ix3 h q k) = prob (headQ x0 x1 h) (headK x2 x3 h) q k :=
  ReferenceIdeal.Attn.prob_apply x0 x1 x2 x3 h q k

/-- The reference's result: all heads' outputs. -/
theorem outputs_ref : val_main_v35 (F := Ideal) x0 x1 x2 x3 x4 = outputs x0 x1 x2 x3 x4 := by
  funext y
  obtain ⟨q, i, rfl⟩ : ∃ (q : Fin 2048) (i : Fin 1024), y = (ix2 q i : S2048x1024.Idx) := ⟨y 0, y 1, (ix2_eta (n0 := 2048) (n1 := 1024) y).symm⟩
  have hi := i.isLt
  rw [outputs_at _ _ _ _ _ q ⟨i.val / 128, by omega⟩ ⟨i.val % 128, by omega⟩ i (by show i.val = 128 * (i.val / 128) + i.val % 128; omega)]
  pointwise [val_main_v35, val_main_v34, val_main_v33]
  rw [val_main_v32_apply]
  have e1 : ∀ (h : Fin 8) (c : Fin 128) k, lidx_main_v32 (ix3 h c q) k = ix3 k h c := fun h c k => by funext a; fin_cases a <;> rfl
  have e2 : ∀ (h : Fin 8) (c : Fin 128) k, ridx_main_v32 (ix3 h c q) k = ix3 h q k := fun h c k => by funext a; fin_cases a <;> rfl
  simp only [e1, e2, prob_apply, weighted]
  exact Finset.sum_congr rfl fun k _ => mul_comm _ _

end Cert.AttnFwdRefIdeal.Attn
end
-- ==== Proof.PreKeys.lean ====
module

public import proofs.«01_k».proof.Proof.Pre
public import proofs.«01_k».proof.Pre_finite_keys

@[expose] public section

/-!
  What the precondition of the attention's forward call says: the queries and the keys are real.
-/

noncomputable section

namespace Cert.Pre_finite_keys

open Cert.Attn Idealize.ShloMosaic Cert.Pre_finite_qk

theorem facts : Facts := Cert.Pre_finite_qk.facts.recOn fun h0 h1 h2 h3 h4 h5 h6 h7 => ⟨h0, h1, h2, h3, h4, h5, h6, h7⟩

instance : Subsingleton S_.Idx := ⟨fun a b => funext fun i => i.elim0⟩

variable [Facts]

theorem real_args (a0 : FVec Ideal S2048x8x128 .bf16) (a1 : FVec Ideal S2048x8x64 .bf16) (a2 : FVec Ideal S2048x8x128 .bf16)
    (a3 : FVec Ideal S2048x64 .bf16) (a4 : FVec Ideal S2048x8x128 .bf16) (j : S_.Idx) (h : fn (F := Ideal) a0 a1 a2 a3 a4 j = 1#1) :
    (∀ i, IsReal (a0 i)) ∧ (∀ i, IsReal (a1 i)) ∧ (∀ i, IsReal (a2 i)) ∧ ∀ i, IsReal (a3 i) :=
  Cert.Pre_finite_qk.real_args a0 a1 a2 a3 a4 (fun _ => 0) j h

instance holdsFacts : Facts := facts

end Cert.Pre_finite_keys
end
-- ==== Proof.PreCfInBwd.lean ====
module

public import proofs.«01_k».proof.Proof.Pre
public import proofs.«01_k».proof.Pre_finite_cf_in_bwd

@[expose] public section

/-!
  What the precondition of the conformer's input backward pass says: all the arguments but the norm's shift are real.
-/

noncomputable section

namespace Cert.Pre_finite_cf_in_bwd

open Cert.Attn Idealize.ShloMosaic Cert.Pre_finite_qk

theorem facts : Facts := ⟨by decide, by decide, by decide, by decide, by decide, by decide, by decide, by decide, by decide, by decide⟩

instance : Subsingleton S_.Idx := ⟨fun a b => funext fun i => i.elim0⟩

variable [Facts]

theorem real_args (a0 : FVec Ideal S2048x1024 .f32) (a1 a2 : FVec Ideal S1x1024 .f32) (a3 : FVec Ideal S1024x2048 .f32)
    (a4 : FVec Ideal S2x2048x1024 .bf16) (a5 : FVec Ideal S2048x1024 .f32) (j : S_.Idx) (h : fn (F := Ideal) a0 a1 a2 a3 a4 a5 j = 1#1) :
    (∀ i, IsReal (a0 i)) ∧ (∀ i, IsReal (a1 i)) ∧ (∀ i, IsReal (a3 i)) ∧ (∀ i, IsReal (a4 i)) ∧ ∀ i, IsReal (a5 i) := by
  dsimp only [fn, fn_part1] at h
  obtain ⟨h, e5⟩ := IntOp.andi_eq_one.1 h
  obtain ⟨h, e4⟩ := IntOp.andi_eq_one.1 h
  obtain ⟨h, e3⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e3 i), fun i => real_of_lt _ (Host.reduce_andi_all _ _ _ _ j e4 i),
    fun i => real_of_lt _ (Host.reduce_andi_all _ _ _ _ j e5 i)⟩

instance holdsFacts : Facts := facts

end Cert.Pre_finite_cf_in_bwd
end
-- ==== Proof.CfClaims.lean ====
module

public import proofs.«01_k».proof.Defs
public import proofs.«01_k».proof.Proof.Gen.ScFirstBwd.Frame
public import proofs.«01_k».proof.Proof.Gen.CfIn.Frame
public import proofs.«01_k».proof.Proof.Gen.CfDwIn.Frame
public import proofs.«01_k».proof.Proof.Gen.CfInBwd.Frame
public import proofs.«01_k».proof.Proof.Gen.CfOutLn.Frame
public import proofs.«01_k».proof.Proof.Gen.MlaOutBwd.Frame
public import proofs.«01_k».proof.Proof.ScFirstBwd
public import proofs.«01_k».proof.Proof.CfIn
public import proofs.«01_k».proof.Proof.CfDwIn
public import proofs.«01_k».proof.Proof.CfInBwd
public import proofs.«01_k».proof.Proof.CfOutLn
public import proofs.«01_k».proof.Proof.MlaOutBwd
public import proofs.«01_k».proof.Proof.AttnFwd
public import proofs.«01_k».proof.Proof.Gen.AttnFwd.Frame
public import proofs.«01_k».proof.Proof.PreKeys
public import proofs.«01_k».proof.Proof.PreCfInBwd
public import Idealize.ShloMosaic.Lib.Quiescent

@[expose] public section

/-!
  The claims about the first short convolution's input backward call, about the conformer's products, about the
  backward call of the attention's output product, and about the attention's forward call.
-/

noncomputable section

namespace Cert.Proof.CfClaims

open Idealize.ShloMosaic Idealize.SL.Sem

theorem frame_first_bwd : Cert.quiescent_ScFirstBwd := fun m ρ _ => Cert.ScFirstBwd.Gen.frame m ρ

theorem frame_first_bwd_ideal : Cert.quiescent_ScFirstBwdIdeal := fun m ρ _ => Cert.ScFirstBwdIdeal.Gen.frame m ρ

theorem frame_first_bwd_ref : Cert.quiescent_ScFirstBwdRefIdeal := fun m ρ _ =>
  (θ_run Cert.ScFirstBwdRefIdeal.defs _ _).mono (fun r h => ⟨fun c => (h c).2, sem_eq_zero_of_no_sems (by decide) r.2⟩)
    (Cert.ScFirstBwdRefIdeal.Value.run (F := Ideal) m ρ)

theorem preserves_first_bwd : Cert.preserves_ScFirstBwd_ScFirstBwdIdeal := trivial

/-- The gradient of the first layer's input is the reference's. -/
theorem algebraic_first_bwd : Cert.algebraic_ScFirstBwdIdeal_ScFirstBwdRefIdeal := by
  intro m ρ m' ρ' _ ha
  refine ⟨_, Cert.ScFirstBwdIdeal.Value.run_blocks (F := Ideal) m ρ, ?_⟩
  refine (θ_run Cert.ScFirstBwdRefIdeal.defs _ _).mono (fun _ h c => ⟨(h c).1.trans ?_, (h c).2⟩)
    (Cert.ScFirstBwdRefIdeal.Value.run (F := Ideal) m' ρ')
  obtain ⟨a0, a1, a2⟩ := ha c
  rw [Cert.ScFirstBwdRefIdeal.Read.val_main_v15_eq, a0, a1, a2]
  exact (Cert.ScFirstBwdIdeal.Mixer.array3 m c).symm

theorem frame_cf_in : Cert.quiescent_CfIn := fun m ρ _ => Cert.CfIn.Gen.frame m ρ

theorem frame_cf_in_ideal : Cert.quiescent_CfInIdeal := fun m ρ _ => Cert.CfInIdeal.Gen.frame m ρ

theorem frame_cf_in_ref : Cert.quiescent_CfInRefIdeal := fun m ρ _ =>
  (θ_run Cert.CfInRefIdeal.defs _ _).mono (fun r h => ⟨fun c => (h c).2, sem_eq_zero_of_no_sems (by decide) r.2⟩)
    (Cert.CfInRefIdeal.Value.run (F := Ideal) m ρ)

theorem preserves_cf_in : Cert.preserves_CfIn_CfInIdeal := trivial

/-- The conformer's input product and its bias are the reference's. -/
theorem algebraic_cf_in : Cert.algebraic_CfInIdeal_CfInRefIdeal := by
  intro m ρ m' ρ' _ ha
  refine ⟨_, Cert.CfInIdeal.Value.run_blocks (F := Ideal) m ρ, ?_⟩
  refine (θ_run Cert.CfInRefIdeal.defs _ _).mono (fun _ h c => ⟨(h c).1.trans ?_, (h c).2⟩)
    (Cert.CfInRefIdeal.Value.run (F := Ideal) m' ρ')
  obtain ⟨a0, a1, a2⟩ := ha c
  rw [Cert.CfInRefIdeal.Read.val_main_v2_eq, a0, a1, a2]
  exact (Cert.CfInIdeal.Conf.array3 m c).symm

theorem frame_cf_dw_in : Cert.quiescent_CfDwIn := fun m ρ _ => Cert.CfDwIn.Gen.frame m ρ

theorem frame_cf_dw_in_ideal : Cert.quiescent_CfDwInIdeal := fun m ρ _ => Cert.CfDwInIdeal.Gen.frame m ρ

theorem frame_cf_dw_in_ref : Cert.quiescent_CfDwInRefIdeal := fun m ρ _ =>
  (θ_run Cert.CfDwInRefIdeal.defs _ _).mono (fun r h => ⟨fun c => (h c).2, sem_eq_zero_of_no_sems (by decide) r.2⟩)
    (Cert.CfDwInRefIdeal.Value.run (F := Ideal) m ρ)

theorem preserves_cf_dw_in : Cert.preserves_CfDwIn_CfDwInIdeal := trivial

/-- The gradient of the conformer's input weights is the reference's. -/
theorem algebraic_cf_dw_in : Cert.algebraic_CfDwInIdeal_CfDwInRefIdeal := by
  intro m ρ m' ρ' _ ha
  refine ⟨_, Cert.CfDwInIdeal.Value.run_blocks (F := Ideal) m ρ, ?_⟩
  refine (θ_run Cert.CfDwInRefIdeal.defs _ _).mono (fun _ h c => ⟨(h c).1.trans ?_, (h c).2⟩)
    (Cert.CfDwInRefIdeal.Value.run (F := Ideal) m' ρ')
  obtain ⟨a0, a1⟩ := ha c
  rw [Cert.CfDwInRefIdeal.Read.val_main_v12_eq, a0, a1]
  exact (Cert.CfDwInIdeal.Conf.array2 m c).symm

theorem frame_cf_in_bwd : Cert.quiescent_CfInBwd := fun m ρ _ => Cert.CfInBwd.Gen.frame m ρ

theorem frame_cf_in_bwd_ideal : Cert.quiescent_CfInBwdIdeal := fun m ρ _ => Cert.CfInBwdIdeal.Gen.frame m ρ

theorem frame_cf_in_bwd_ideal_pre : Cert.quiescent_CfInBwdIdeal_pre_finite_cf_in_bwd := fun m ρ _ => Cert.CfInBwdIdeal.Gen.frame m ρ

theorem frame_cf_in_bwd_ref : Cert.quiescent_CfInBwdRefIdeal := fun m ρ _ =>
  (θ_run Cert.CfInBwdRefIdeal.defs _ _).mono (fun r h => ⟨fun c => (h c).2.2.2.2.2, sem_eq_zero_of_no_sems (by decide) r.2⟩)
    (Cert.CfInBwdRefIdeal.Value.run (F := Ideal) m ρ)

theorem frame_cf_in_bwd_ref_pre : Cert.quiescent_CfInBwdRefIdeal_pre_finite_cf_in_bwd := fun m ρ _ => frame_cf_in_bwd_ref m ρ trivial

theorem preserves_cf_in_bwd : Cert.preserves_CfInBwd_CfInBwdIdeal := trivial

/-- The conformer's input backward pass gives the reference's five results. -/
theorem algebraic_cf_in_bwd : Cert.algebraic_CfInBwdIdeal_CfInBwdRefIdeal_pre_finite_cf_in_bwd := by
  intro m ρ m' ρ' hp ha
  have hr := fun c => Cert.Pre_finite_cf_in_bwd.real_args _ _ _ _ _ _ _ (congrFun (hp c) (Shape.Idx.first Cert.Pre_finite_cf_in_bwd.Facts.h_S_))
  refine ⟨_, _, _, _, _, Cert.CfInBwdIdeal.Value.run_blocks (F := Ideal) m ρ, ?_⟩
  refine (θ_run Cert.CfInBwdRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.CfInBwdRefIdeal.Value.run (F := Ideal) m' ρ')
  all_goals obtain ⟨a0, a1, a2, a3, a4, a5⟩ := ha c
  · rw [Cert.CfInBwdRefIdeal.Read.val_main_v70_eq, a0, a1, a3, a4, a5]
    exact (Cert.CfInBwdIdeal.Conf.array6 m c (hr c)).symm
  · rw [Cert.CfInBwdRefIdeal.Read.val_main_v71_eq, a0, a1, a3, a4, a5]
    exact (Cert.CfInBwdIdeal.Conf.array7 m c (hr c)).symm
  · rw [Cert.CfInBwdRefIdeal.Read.val_main_v44_eq, a0, a3, a4, a5]
    exact (Cert.CfInBwdIdeal.Conf.array8 m c).symm
  · rw [Cert.CfInBwdRefIdeal.Read.val_main_v41_eq, a3, a4, a5]
    exact (Cert.CfInBwdIdeal.Conf.array9 m c).symm
  · rw [Cert.CfInBwdRefIdeal.Read.val_main_v73_eq, a0, a1, a3, a4, a5]
    exact (Cert.CfInBwdIdeal.Conf.array10 m c (hr c)).symm

theorem frame_cf_out_ln : Cert.quiescent_CfOutLn := fun m ρ _ => Cert.CfOutLn.Gen.frame m ρ

theorem frame_cf_out_ln_ideal : Cert.quiescent_CfOutLnIdeal := fun m ρ _ => Cert.CfOutLnIdeal.Gen.frame m ρ

theorem frame_cf_out_ln_ref : Cert.quiescent_CfOutLnRefIdeal := fun m ρ _ =>
  (θ_run Cert.CfOutLnRefIdeal.defs _ _).mono (fun r h => ⟨fun c => (h c).2.2.2.2, sem_eq_zero_of_no_sems (by decide) r.2⟩)
    (Cert.CfOutLnRefIdeal.Value.run (F := Ideal) m ρ)

theorem preserves_cf_out_ln : Cert.preserves_CfOutLn_CfOutLnIdeal := trivial

/-- The conformer's output product with its residual and norm gives the reference's four results. -/
theorem algebraic_cf_out_ln : Cert.algebraic_CfOutLnIdeal_CfOutLnRefIdeal := by
  intro m ρ m' ρ' _ ha
  refine ⟨_, _, _, _, Cert.CfOutLnIdeal.Value.run_blocks (F := Ideal) m ρ, ?_⟩
  refine (θ_run Cert.CfOutLnRefIdeal.defs _ _).mono (fun _ h c => ⟨(h c).1.trans ?_, (h c).2.1.trans ?_, (h c).2.2.1.trans ?_, (h c).2.2.2.1.trans ?_, (h c).2.2.2.2⟩)
    (Cert.CfOutLnRefIdeal.Value.run (F := Ideal) m' ρ')
  all_goals obtain ⟨a0, a1, a2, a3, a4, a5⟩ := ha c
  · rw [Cert.CfOutLnRefIdeal.Read.val_main_v27_eq, a0, a1, a2, a3, a4, a5]
    exact (Cert.CfOutLnIdeal.Conf.array6 m c).symm
  · rw [Cert.CfOutLnRefIdeal.Read.val_main_v42_eq, a0, a1, a2, a3, a4, a5]
    exact (Cert.CfOutLnIdeal.Conf.array7 m c).symm
  · rw [Cert.CfOutLnRefIdeal.Read.val_main_v46_eq, a0, a1, a2, a3]
    exact (Cert.CfOutLnIdeal.Conf.array8 m c).symm
  · rw [Cert.CfOutLnRefIdeal.Read.val_main_v41_eq, a0, a1, a2, a3]
    exact (Cert.CfOutLnIdeal.Conf.array9 m c).symm

theorem frame_mla_out_bwd : Cert.quiescent_MlaOutBwd := fun m ρ _ => Cert.MlaOutBwd.Gen.frame m ρ

theorem frame_mla_out_bwd_ideal : Cert.quiescent_MlaOutBwdIdeal := fun m ρ _ => Cert.MlaOutBwdIdeal.Gen.frame m ρ

theorem frame_mla_out_bwd_ref : Cert.quiescent_MlaOutBwdRefIdeal := fun m ρ _ =>
  (θ_run Cert.MlaOutBwdRefIdeal.defs _ _).mono (fun r h => ⟨fun c => (h c).2, sem_eq_zero_of_no_sems (by decide) r.2⟩)
    (Cert.MlaOutBwdRefIdeal.Value.run (F := Ideal) m ρ)

theorem preserves_mla_out_bwd : Cert.preserves_MlaOutBwd_MlaOutBwdIdeal := trivial

/-- The gradient of the attention's output is the reference's. -/
theorem algebraic_mla_out_bwd : Cert.algebraic_MlaOutBwdIdeal_MlaOutBwdRefIdeal := by
  intro m ρ m' ρ' _ ha
  refine ⟨_, Cert.MlaOutBwdIdeal.Value.run_blocks (F := Ideal) m ρ, ?_⟩
  refine (θ_run Cert.MlaOutBwdRefIdeal.defs _ _).mono (fun _ h c => ⟨(h c).1.trans ?_, (h c).2⟩)
    (Cert.MlaOutBwdRefIdeal.Value.run (F := Ideal) m' ρ')
  obtain ⟨a0, a1⟩ := ha c
  rw [Cert.MlaOutBwdRefIdeal.Read.val_main_v3_eq, a0, a1]
  exact (Cert.MlaOutBwdIdeal.Attn.array2 m c).symm

theorem frame_attn : Cert.quiescent_AttnFwd := fun m ρ _ => Cert.AttnFwd.Gen.frame m ρ

theorem frame_attn_ideal : Cert.quiescent_AttnFwdIdeal := fun m ρ _ => Cert.AttnFwdIdeal.Gen.frame m ρ

theorem frame_attn_ideal_pre : Cert.quiescent_AttnFwdIdeal_pre_finite_keys := fun m ρ _ => Cert.AttnFwdIdeal.Gen.frame m ρ

theorem frame_attn_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

theorem frame_attn_ref_pre : Cert.quiescent_AttnFwdRefIdeal_pre_finite_keys := fun m ρ _ => frame_attn_ref m ρ trivial

theorem preserves_attn : Cert.preserves_AttnFwd_AttnFwdIdeal :=
  IdealRules.named_const.statement Cert.AttnFwdIdeal.κ "mask" .f32 0xF149F2CA#32 ⊥ rfl

/-- The attention's outputs are the reference's. -/
theorem algebraic_attn : Cert.algebraic_AttnFwdIdeal_AttnFwdRefIdeal_pre_finite_keys := by
  intro m ρ m' ρ' hp ha
  have hr := fun c => Cert.Pre_finite_keys.real_args _ _ _ _ _ _ (congrFun (hp c) (Shape.Idx.first Cert.Pre_finite_keys.Facts.h_S_))
  refine ⟨_, Cert.AttnFwdIdeal.Value.run_blocks (F := Ideal) m ρ, ?_⟩
  refine (θ_run Cert.AttnFwdRefIdeal.defs _ _).mono (fun _ h c => ⟨(h c).1.trans ?_, (h c).2⟩)
    (Cert.AttnFwdRefIdeal.Value.run (F := Ideal) m' ρ')
  obtain ⟨a0, a1, a2, a3, a4⟩ := ha c
  obtain ⟨r0, r1, r2, r3⟩ := hr c
  rw [Cert.AttnFwdRefIdeal.Read.val_main_v35_eq, a0, a1, a2, a3, a4]
  exact (Cert.AttnFwdRefIdeal.Attn.outputs_ref _ _ _ _ _).trans (Cert.AttnFwdIdeal.Attn.array3 m c r0 r1 r2 r3).symm

end Cert.Proof.CfClaims

end
-- ==== Proof.Latent.lean ====
module

public import proofs.«01_k».proof.Proof.Sums

@[expose] public section

/-!
  The latents' columns beside each other: 384 of the queries, 320 of the keys and values, 64 of zeros; and a head's 192
  columns with 64 of zeros after them.
-/

noncomputable section

namespace Cert.Latent

open Idealize.ShloMosaic

/-- Two arrays' columns and 64 of zeros, beside each other. -/
def side {n : ℕ} (a : (⟨2, ![n, 384]⟩ : Shape).Idx → EReal) (b : (⟨2, ![n, 320]⟩ : Shape).Idx → EReal) (q : Fin n) (i : Fin 768) : EReal :=
  if h : i.val < 384 then a (ix2 q ⟨i.val, h⟩) else if h' : i.val - 384 < 320 then b (ix2 q ⟨i.val - 384, h'⟩) else 0

/-- A head's 192 columns and 64 of zeros. -/
def padded {n : ℕ} (a : (⟨3, ![n, 8, 192]⟩ : Shape).Idx → EReal) (q : Fin n) (h : Fin 8) (j : Fin 256) : EReal :=
  if hj : j.val < 192 then a (ix3 q h ⟨j.val, hj⟩) else 0

/-- A sum over pairs, as one over the pairs laid in a row. -/
theorem sum_pairs {a b : ℕ} (f : Fin a → Fin b → EReal) : ∑ x, ∑ y, f x y = ∑ z : Fin (a * b), f z.divNat z.modNat := by
  rw [← Fintype.sum_prod_type', ← Equiv.sum_comp finProdFinEquiv.symm]
  rfl

/-- A sum whose last terms are zero. -/
theorem sum_head {a b : ℕ} (f : Fin (a + b) → EReal) (h : ∀ k : Fin b, f (Fin.natAdd a k) = 0) : ∑ k, f k = ∑ k : Fin a, f (Fin.castAdd b k) := by
  rw [Fin.sum_univ_add, Finset.sum_eq_zero fun k _ => h k, add_zero]

/-- The product of two rows of such columns is the sum of the two parts' products. -/
theorem sum_side {n n' : ℕ} (a : (⟨2, ![n, 384]⟩ : Shape).Idx → EReal) (b : (⟨2, ![n, 320]⟩ : Shape).Idx → EReal)
    (a' : (⟨2, ![n', 384]⟩ : Shape).Idx → EReal) (b' : (⟨2, ![n', 320]⟩ : Shape).Idx → EReal) (q : Fin n) (p : Fin n') :
    ∑ i, side a b q i * side a' b' p i = (∑ k, b (ix2 q k) * b' (ix2 p k)) + ∑ k, a (ix2 q k) * a' (ix2 p k) := by
  refine (sum_head (a := 704) (b := 64) _ fun k => ?_).trans ((Fin.sum_univ_add (a := 384) (b := 320) _).trans ?_)
  · have h1 : ¬ (Fin.natAdd 704 k : Fin (704 + 64)).val < 384 := by simp; omega
    have h2 : ¬ (Fin.natAdd 704 k : Fin (704 + 64)).val - 384 < 320 := by simp; omega
    simp only [side, dif_neg h1, dif_neg h2, mul_zero]
  · refine (add_comm _ _).trans (congrArg₂ (· + ·) (Finset.sum_congr rfl fun k _ => ?_) (Finset.sum_congr rfl fun k _ => ?_))
    · have h1 : ¬ (384 + k.val) < 384 := by omega
      have h2 : 384 + k.val - 384 < 320 := by omega
      have e : (⟨384 + k.val - 384, h2⟩ : Fin 320) = k := Fin.ext (by dsimp only; omega)
      simp only [side, Fin.val_castAdd, Fin.val_natAdd, dif_neg h1, dif_pos h2, e]
    · simp only [side, Fin.val_castAdd, dif_pos k.isLt]

end Cert.Latent
end
-- ==== Proof.MlaDown.lean ====
module

public import proofs.«01_k».proof.Proof.Gen.MlaDownIdeal.Value
public import proofs.«01_k».proof.Proof.Gen.MlaDownRefIdeal.Read
public import proofs.«01_k».proof.Proof.Latent

@[expose] public section

/-!
  The product that takes the latents from the layer's input: what the call's array holds after the run.
-/

set_option maxRecDepth 16384

noncomputable section

namespace Cert.MlaDownIdeal.Latents

open Cert.MlaDownIdeal Cert.MlaDownIdeal.Gen Cert.MlaDownRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![t.val / 2, 0] ∧ win0_1.index t = ![0, t.val % 2]
    ∧ win0_2.index t = ![t.val / 2, t.val % 2] := by
  decide +kernel

/-- The two weights beside each other, with zeros after them. -/
def weights (a : Vec Ideal S1024x384 .f32) (b : Vec Ideal S1024x320 .f32) : Vec Ideal S1024x768 .bf16 :=
  truncf .bf16 (concatenate S1024x768 1 [⟨S1024x384, a⟩, ⟨S1024x320, b⟩,
    ⟨S1024x64, broadcastInDim S1024x64 ![] bcast_S_S1024x64 (constant (F := Ideal) S_ .f32 0x00000000#32)⟩]
    concatenates_S1024x384_S1024x320_S1024x64_S1024x768_d1) bitsLt_bf16_f32

theorem weights_apply (a : Vec Ideal S1024x384 .f32) (b : Vec Ideal S1024x320 .f32) (q : Fin 1024) (i : Fin 768) :
    weights a b (ix2 q i) = side a b q i := by
  pointwise [weights, side]

theorem block0 (t : Fin cfg0.N) (q : Fin 1024) (j : Fin 1024) (p : Fin 2048) (hp : p.val = 1024 * (t.val / 2) + q.val) :
    iblk m c 0 t (ix2 q j) = m ((c : Thread nD τ).loc main_arg0) (ix2 p j) := by
  have e : (win0_0.blk t).view.emb (ix2 q j) = (ix2 p j : S2048x1024.Idx) := by
    obtain ⟨e0, e1, e2⟩ := idx_facts t
    blk_ext [e0]
  show V m c main_v3 ((win0_0.blk t).view.emb (ix2 q j)) = _
  rw [e]
  rfl

theorem block1 (t : Fin cfg0.N) (q : Fin 1024) (j : Fin 384) (i : Fin 768) (hi : i.val = 384 * (t.val % 2) + j.val) :
    iblk m c 1 t (ix2 q j) = side (m ((c : Thread nD τ).loc main_arg1)) (m ((c : Thread nD τ).loc main_arg2)) q i := by
  have e : (win0_1.blk t).view.emb (ix2 q j) = (ix2 q i : S1024x768.Idx) := by
    obtain ⟨e0, e1, e2⟩ := idx_facts t
    blk_ext [e1]
  show V m c main_v2 ((win0_1.blk t).view.emb (ix2 q j)) = _
  rw [e]
  exact weights_apply (m ((c : Thread nD τ).loc main_arg1)) (m ((c : Thread nD τ).loc main_arg2)) q i

/-- The reference's products beside each other, in one sum. -/
theorem ref_apply (x : Vec Ideal S2048x1024 .f32) (a : Vec Ideal S1024x384 .f32) (b : Vec Ideal S1024x320 .f32) (p : Fin 2048) (i : Fin 768) :
    val_main_v3 (F := Ideal) x a b (ix2 p i) = ∑ k : Fin 1024, (x (ix2 p k) : EReal) * side a b k i := by
  pointwise [val_main_v3, val_main_v2, val_main_cst, val_main_v1, val_main_v0, side]
  split_ifs <;> first | rfl | exact (Finset.sum_eq_zero fun k _ => mul_zero (M₀ := EReal) _).symm

/-- The result is the reference's. -/
theorem array2 : (dats m 0 c).arrAt 2 cfg0.N = val_main_v3 (F := Ideal) (m ((c : Thread nD τ).loc main_arg0)) (m ((c : Thread nD τ).loc main_arg1))
    (m ((c : Thread nD τ).loc main_arg2)) := by
  refine (dats m 0 c).arrAt_eq_of_covers 2 _ (by decide +kernel) fun t hf y => ?_
  have ht : t.val < 4 := t.isLt
  obtain ⟨q, j, rfl⟩ : ∃ (q : Fin 1024) (j : Fin 384), y = (ix2 q j : S1024x384.Idx) := ⟨y 0, y 1, (ix2_eta (n0 := 1024) (n1 := 384) y).symm⟩
  obtain ⟨p, hp⟩ : ∃ p : Fin 2048, p.val = 1024 * (t.val / 2) + q.val := ⟨⟨_, by omega⟩, rfl⟩
  obtain ⟨i, hi⟩ : ∃ i : Fin 768, i.val = 384 * (t.val % 2) + j.val := ⟨⟨_, by omega⟩, rfl⟩
  have e : (win0_2.blk t).view.emb (ix2 q j) = (ix2 p i : S2048x768.Idx) := by
    obtain ⟨e0, e1, e2⟩ := idx_facts t
    blk_ext [e2]
  blk_simp
  rw [after0_2, e]
  frame_out
  refine Eq.trans ?_ (ref_apply _ _ _ p i).symm
  pointwise [k0_pay1]
  exact dot_congr (fun x => block0 m c t q x p hp) (fun x => block1 m c t x j i hi)

end Cert.MlaDownIdeal.Latents
end
-- ==== Proof.MlaDwDown.lean ====
module

public import proofs.«01_k».proof.Proof.Gen.MlaDwDownIdeal.Value
public import proofs.«01_k».proof.Proof.Gen.MlaDwDownRefIdeal.Read
public import proofs.«01_k».proof.Proof.Latent

@[expose] public section

/-!
  The gradients of the weights that take the latents from the layer's input: what the call's array holds after the run.
-/

set_option maxRecDepth 16384

noncomputable section

namespace Cert.MlaDwDownIdeal.Latents

open Cert.MlaDwDownIdeal Cert.MlaDwDownIdeal.Gen Cert.MlaDwDownRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![0, t.val] ∧ win0_1.index t = ![0, 0] ∧ win0_2.index t = ![t.val, 0] := by
  decide +kernel

/-- The two latents' cotangents beside each other, with zeros after them. -/
def cotangents (a : Vec Ideal S2048x384 .bf16) (b : Vec Ideal S2048x320 .bf16) : Vec Ideal S2048x768 .bf16 :=
  concatenate S2048x768 1 [⟨S2048x384, a⟩, ⟨S2048x320, b⟩,
    ⟨S2048x64, broadcastInDim S2048x64 ![] bcast_S_S2048x64 (constant (F := Ideal) S_ .bf16 0x0000#16)⟩]
    concatenates_S2048x384_S2048x320_S2048x64_S2048x768_d1

theorem cotangents_apply (a : Vec Ideal S2048x384 .bf16) (b : Vec Ideal S2048x320 .bf16) (q : Fin 2048) (i : Fin 768) :
    cotangents a b (ix2 q i) = side a b q i := by
  pointwise [cotangents, side]

theorem block0 (t : Fin cfg0.N) (q : Fin 2048) (j : Fin 512) (i : Fin 1024) (hi : i.val = 512 * t.val + j.val) :
    iblk m c 0 t (ix2 q j) = m ((c : Thread nD τ).loc main_arg0) (ix2 q i) := by
  have e : (win0_0.blk t).view.emb (ix2 q j) = (ix2 q i : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 2048) (j : Fin 768) :
    iblk m c 1 t (ix2 q j) = side (m ((c : Thread nD τ).loc main_arg1)) (m ((c : Thread nD τ).loc main_arg2)) q j := by
  have e : (win0_1.blk t).view.emb (ix2 q j) = (ix2 q j : S2048x768.Idx) := by
    obtain ⟨e0, e1, e2⟩ := idx_facts t
    blk_ext [e1]
  show V m c main_v2 ((win0_1.blk t).view.emb (ix2 q j)) = _
  rw [e]
  exact cotangents_apply (m ((c : Thread nD τ).loc main_arg1)) (m ((c : Thread nD τ).loc main_arg2)) q j

/-- The reference's gradients beside each other, in one sum. -/
theorem ref_apply (x : Vec Ideal S2048x1024 .f32) (a : Vec Ideal S2048x384 .bf16) (b : Vec Ideal S2048x320 .bf16) (p : Fin 1024) (i : Fin 768) :
    val_main_v12 (F := Ideal) x a b (ix2 p i) = ∑ k : Fin 2048, side a b k i * (x (ix2 k p) : EReal) := by
  pointwise [val_main_v12, val_main_v11, val_main_v10, val_main_cst_1, val_main_v9, val_main_v8, val_main_v7, val_main_v6, val_main_v5, val_main_v4, side]
  split_ifs <;> first | rfl | exact (Finset.sum_eq_zero fun k _ => zero_mul (M₀ := EReal) _).symm

/-- The result is the reference's gradients. -/
theorem array2 : (dats m 0 c).arrAt 2 cfg0.N = val_main_v12 (F := Ideal) (m ((c : Thread nD τ).loc main_arg0)) (m ((c : Thread nD τ).loc main_arg1))
    (m ((c : Thread nD τ).loc main_arg2)) := by
  refine (dats m 0 c).arrAt_eq_of_covers 2 _ (by decide +kernel) fun t hf y => ?_
  have ht : t.val < 2 := t.isLt
  obtain ⟨q, j, rfl⟩ : ∃ (q : Fin 512) (j : Fin 768), y = (ix2 q j : S512x768.Idx) := ⟨y 0, y 1, (ix2_eta (n0 := 512) (n1 := 768) y).symm⟩
  obtain ⟨p, hp⟩ : ∃ p : Fin 1024, p.val = 512 * t.val + q.val := ⟨⟨_, by omega⟩, rfl⟩
  have e : (win0_2.blk t).view.emb (ix2 q j) = (ix2 p j : S1024x768.Idx) := by
    obtain ⟨e0, e1, e2⟩ := idx_facts t
    blk_ext [e2]
  blk_simp
  rw [after0_2, e]
  frame_out
  refine Eq.trans ?_ (ref_apply _ _ _ p j).symm
  pointwise [k0_pay1]
  exact dot_congr_comm (fun x => block0 m c t x q p hp) (fun x => block1 m c t x j)

end Cert.MlaDwDownIdeal.Latents
end
-- ==== Proof.MlaDownBwd.lean ====
module

public import proofs.«01_k».proof.Proof.Gen.MlaDownBwdIdeal.Value
public import proofs.«01_k».proof.Proof.Gen.MlaDownBwdRefIdeal.Read
public import proofs.«01_k».proof.Proof.MlpUpBwd
public import proofs.«01_k».proof.Proof.MlaDown
public import proofs.«01_k».proof.Proof.MlaDwDown

@[expose] public section

/-!
  The backward call of the latents' products and of the layer norm before them: what its five arrays hold after the
  run.
-/

set_option maxRecDepth 16384

noncomputable section

namespace Cert.MlaDownBwdIdeal.Latents

open Cert.MlaDownBwdIdeal Cert.MlaDownBwdIdeal.Gen Cert.MlaDownBwdRefIdeal.Read Cert.Sums Cert.Attn Cert.Latent Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem out_facts : ∀ t : Fin cfg0.N, win0_6.index t = ![t.val, 0] ∧ win0_7.index t = ![t.val, 0] ∧ win0_8.index t = ![0, 0]
    ∧ win0_9.index t = ![0, 0] ∧ win0_10.index t = ![0, 0] := by
  decide +kernel

/-- The latents' cotangents beside each other. -/
theorem block0 (t : Fin cfg0.N) (q : Fin 512) (j : Fin 768) (p : Fin 2048) (hp : p.val = 512 * t.val + q.val) :
    iblk m c 0 t (ix2 q j) = side (m ((c : Thread nD τ).loc main_arg5)) (m ((c : Thread nD τ).loc main_arg6)) p j := by
  have e : (win0_0.blk t).view.emb (ix2 q j) = (ix2 p j : S2048x768.Idx) := by
    obtain ⟨e0, e1, e2, e3, e4, e5⟩ := idx_facts t
    blk_ext [e0]
  show V m c main_v22 ((win0_0.blk t).view.emb (ix2 q j)) = _
  rw [e]
  exact MlaDwDownIdeal.Latents.cotangents_apply _ _ p j

/-- The latents' weights beside each other. -/
theorem block1 (t : Fin cfg0.N) (q : Fin 1024) (j : Fin 768) :
    iblk m c 1 t (ix2 q j) = side (m ((c : Thread nD τ).loc main_arg3)) (m ((c : Thread nD τ).loc main_arg4)) q j := by
  have e : (win0_1.blk t).view.emb (ix2 q j) = (ix2 q j : S1024x768.Idx) := by
    obtain ⟨e0, e1, e2, e3, e4, e5⟩ := idx_facts t
    blk_ext [e1]
  show V m c main_v20 ((win0_1.blk t).view.emb (ix2 q j)) = _
  rw [e]
  exact MlaDownIdeal.Latents.weights_apply _ _ q j

theorem block2 (t : Fin cfg0.N) (q : Fin 512) (j : Fin 1024) (p : Fin 2048) (hp : p.val = 512 * t.val + q.val) :
    iblk m c 2 t (ix2 q j) = m ((c : Thread nD τ).loc main_arg7) (ix2 p j) := by
  have e : (win0_2.blk t).view.emb (ix2 q j) = (ix2 p j : S2048x1024.Idx) := by
    obtain ⟨e0, e1, e2, e3, e4, e5⟩ := idx_facts t
    blk_ext [e2]
  show V m c main_arg7 ((win0_2.blk t).view.emb (ix2 q j)) = _
  rw [e]
  rfl

/-- The saved normalised rows. -/
theorem block3 (t : Fin cfg0.N) (q : Fin 512) (j : Fin 1024) (p : Fin 2048) (hp : p.val = 512 * t.val + q.val) :
    iblk m c 3 t (ix2 q j) = val_main_v22 (F := Ideal) (m ((c : Thread nD τ).loc main_arg0)) (ix2 p j) := by
  have e : (win0_3.blk t).view.emb (ix2 q j) = (ix2 p j : S2048x1024.Idx) := by
    obtain ⟨e0, e1, e2, e3, e4, e5⟩ := idx_facts t
    blk_ext [e3]
  show V m c main_v17 ((win0_3.blk t).view.emb (ix2 q j)) = _
  rw [e]
  rfl

/-- The saved inverse deviations. -/
theorem block4 (t : Fin cfg0.N) (q : Fin 512) (z : Fin 1) (p : Fin 2048) (hp : p.val = 512 * t.val + q.val) :
    iblk m c 4 t (ix2 q z) = val_main_v17 (F := Ideal) (m ((c : Thread nD τ).loc main_arg0)) (ix2 p z) := by
  have e : (win0_4.blk t).view.emb (ix2 q z) = (ix2 p z : S2048x1.Idx) := by
    obtain ⟨e0, e1, e2, e3, e4, e5⟩ := idx_facts t
    blk_ext [e4]
  show V m c main_v13 ((win0_4.blk t).view.emb (ix2 q z)) = _
  rw [e]
  rfl

theorem block5 (t : Fin cfg0.N) (z : Fin 1) (j : Fin 1024) :
    iblk m c 5 t (ix2 z j) = m ((c : Thread nD τ).loc main_arg1) (ix2 z j) := by
  have e : (win0_5.blk t).view.emb (ix2 z j) = (ix2 z j : S1x1024.Idx) := by
    obtain ⟨e0, e1, e2, e3, e4, e5⟩ := idx_facts t
    blk_ext [e5]
  show V m c main_arg1 ((win0_5.blk t).view.emb (ix2 z j)) = _
  rw [e]
  rfl

/-- The norm's cotangent: the kernel's is the reference's. -/
theorem cotangent (t : Fin cfg0.N) (q : Fin 512) (j : Fin 1024) (p : Fin 2048) (hp : p.val = 512 * t.val + q.val) :
    k0_pay7 (iblk m c 0 t) (iblk m c 1 t) (iblk m c 2 t) (ix2 q j) = val_main_v38 (F := Ideal) (m ((c : Thread nD τ).loc main_arg3))
      (m ((c : Thread nD τ).loc main_arg4)) (m ((c : Thread nD τ).loc main_arg5)) (m ((c : Thread nD τ).loc main_arg6)) (m ((c : Thread nD τ).loc main_arg7)) (ix2 p j) := by
  pointwise [k0_pay7, val_main_v38, val_main_v37, val_main_cst_7, val_main_v36, val_main_v35, val_main_v34, val_main_v33, val_main_v32, val_main_v31]
  rw [block2 m c t q j p hp]
  exact congrArg (fun a : EReal => a + _) ((dot_congr (fun x => block0 m c t q x p hp) (fun x => block1 m c t j x)).trans (sum_side _ _ _ _ p j))

/-- The norm's cotangent is real. -/
theorem ref_cotangent (wq : (⟨S1024x384, .f32⟩ : BufTy).Contents (Elt Ideal)) (wkv : (⟨S1024x320, .f32⟩ : BufTy).Contents (Elt Ideal))
    (dq : (⟨S2048x384, .bf16⟩ : BufTy).Contents (Elt Ideal)) (dkv : (⟨S2048x320, .bf16⟩ : BufTy).Contents (Elt Ideal))
    (dr : (⟨S2048x1024, .f32⟩ : BufTy).Contents (Elt Ideal)) (p : Fin 2048) (hwq : ∀ i, IsReal (wq i)) (hwkv : ∀ i, IsReal (wkv i))
    (hdq : ∀ i, IsReal (dq i)) (hdkv : ∀ i, IsReal (dkv i)) (hdr : ∀ i, IsReal (dr i)) (j : Fin 1024) :
    IsReal (val_main_v38 (F := Ideal) wq wkv dq dkv dr (ix2 p j)) := by
  pointwise [val_main_v38, val_main_v37, val_main_cst_7, val_main_v36, val_main_v35, val_main_v34, val_main_v33, val_main_v32, val_main_v31]
  exact ((IsReal.sum _ _ fun k _ => (hdkv _).mul (hwkv _)).add (IsReal.sum _ _ fun k _ => (hdq _).mul (hwq _))).add (LayerNorm.ofBits_alpha.mul (hdr _))

/-- The hypothesis on the arguments: all but the norm's shift are real. -/
abbrev Reals : Prop := (∀ i, IsReal (m ((c : Thread nD τ).loc main_arg0) i)) ∧ (∀ i, IsReal (m ((c : Thread nD τ).loc main_arg1) i))
  ∧ (∀ i, IsReal (m ((c : Thread nD τ).loc main_arg3) i)) ∧ (∀ i, IsReal (m ((c : Thread nD τ).loc main_arg4) i))
  ∧ (∀ i, IsReal (m ((c : Thread nD τ).loc main_arg5) i)) ∧ (∀ i, IsReal (m ((c : Thread nD τ).loc main_arg6) i))
  ∧ ∀ i, IsReal (m ((c : Thread nD τ).loc main_arg7) i)

/-- The norm's gradient: the kernel's rows are the reference's. -/
theorem row (hm : Reals m c) (t : Fin cfg0.N) (q : Fin 512) (j : Fin 1024) (p : Fin 2048) (hp : p.val = 512 * t.val + q.val) :
    k0_pay9 (iblk m c 0 t) (iblk m c 1 t) (iblk m c 2 t) (iblk m c 3 t) (iblk m c 4 t) (iblk m c 5 t) (ix2 q j)
      = val_main_v69 (F := Ideal) (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (m ((c : Thread nD τ).loc main_arg7)) (ix2 p j) := by
  obtain ⟨hx, hg, hwq, hwkv, hdq, hdkv, hdr⟩ := hm
  obtain ⟨r, h0, hr⟩ : ∃ r : Fin 1024 → ℝ, ∑ k, r k = 0 ∧ ∀ k, val_main_v14 (F := Ideal) (m ((c : Thread nD τ).loc main_arg0)) (ix2 p k) = (r k : EReal) :=
    MlpUpBwdIdeal.Mlp.ref_centred _ p hx
  obtain ⟨v, s, hv, hs, h16, h17⟩ : ∃ v s : ℝ, 0 < v ∧ s * s * v = 1 ∧ (∀ z, val_main_v16 (F := Ideal) (m ((c : Thread nD τ).loc main_arg0)) (ix2 p z) = (v : EReal))
      ∧ ∀ z, val_main_v17 (F := Ideal) (m ((c : Thread nD τ).loc main_arg0)) (ix2 p z) = (s : EReal) := MlpUpBwdIdeal.Mlp.ref_rstd _ p r hr
  have h5 : ∀ k, val_main_v5 (F := Ideal) (m ((c : Thread nD τ).loc main_arg0)) (ix2 p k) = (r k : EReal) := hr
  have hn : ∀ k, val_main_v22 (F := Ideal) (m ((c : Thread nD τ).loc main_arg0)) (ix2 p k) = val_main_v14 (F := Ideal) (m ((c : Thread nD τ).loc main_arg0)) (ix2 p k)
      * val_main_v17 (F := Ideal) (m ((c : Thread nD τ).loc main_arg0)) (ix2 p 0) := MlpUpBwdIdeal.Mlp.ref_xhat _ p
  choose d hd using fun k => (ref_cotangent _ _ _ _ _ p hwq hwkv hdq hdkv hdr k).mul (hg (ix2 0 k))
  pointwise [k0_pay9, k0_pay8, val_main_v69, val_main_v68, val_main_v67, val_main_cst_16, val_main_v66, val_main_v65, val_main_cst_15, val_main_v64, val_main_v63, val_main_v62, val_main_v61, val_main_cst_14, val_main_v60, val_main_v59, val_main_v58, val_main_v57, val_main_cst_13, val_main_v56, val_main_v55, val_main_cst_12, val_main_v54, val_main_v53, val_main_cst_11, val_main_v52, val_main_v51, val_main_v50, val_main_v49, val_main_v48, val_main_v47, val_main_cst_10, val_main_v46, val_main_v45, val_main_v44, val_main_v20, val_main_v19, val_main_cst_5, val_main_v18, val_main_v8, val_main_v7, val_main_cst_1]
  simp only [cotangent m c t q _ p hp, block3 m c t q _ p hp, block4 m c t q _ p hp, block5, hn, hr, h5, h16, h17, hd, Fin.sum_univ_one]
  exact LayerNorm.backward r d s v hv hs h0 j

/-- The call's first result is the reference's. -/
theorem array6 (hm : Reals m c) : (dats m 0 c).arrAt 6 cfg0.N = val_main_v69 (F := Ideal) (m ((c : Thread nD τ).loc main_arg0)) (m ((c : Thread nD τ).loc main_arg1))
    (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 6 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_6.blk t).view.emb (ix2 q j) = (ix2 p j : S2048x1024.Idx) := by
    obtain ⟨e6, e7, e8, e9, e10⟩ := out_facts t
    blk_ext [e6]
  blk_simp
  rw [after0_6, e]
  by_cases h : t.val % 4 = 0
  · rw [outsAt0_A m c t h h h]
    frame_out
    exact row m c hm t q j p hp
  · rw [outsAt0_B m c t h h h]
    frame_out
    exact row m c hm t q j p hp

/-- The call's second result is the rounding of the first. -/
theorem array7 (hm : Reals m c) : (dats m 0 c).arrAt 7 cfg0.N = val_main_v70 (F := Ideal) (m ((c : Thread nD τ).loc main_arg0)) (m ((c : Thread nD τ).loc main_arg1))
    (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_7.blk t).view.emb (ix2 q j) = (ix2 p j : S2048x1024.Idx) := by
    obtain ⟨e6, e7, e8, e9, e10⟩ := out_facts t
    blk_ext [e7]
  blk_simp
  rw [after0_7, e]
  by_cases h : t.val % 4 = 0
  · rw [outsAt0_A m c t h h h]
    frame_out
    exact row m c hm t q j p hp
  · rw [outsAt0_B m c t h h h]
    frame_out
    exact row m c hm t q j p hp

/-- The gradient of the norm's gain. -/
theorem array8 : (dats m 0 c).arrAt 8 cfg0.N = val_main_v43 (F := Ideal) (m ((c : Thread nD τ).loc main_arg0)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_8.blk t).view.emb (ix2 z j) = (ix2 z j : S1x1024.Idx) := by
    obtain ⟨e6, e7, e8, e9, e10⟩ := out_facts t
    blk_ext [e8]
  have hl : t.val + 1 = cfg0.N := by
    have h := (flush0_8 t).mp hf
    have ht : t.val < 4 := t.isLt
    show t.val + 1 = 4
    omega
  blk_simp
  rw [after0_8, e]
  refine (Pipeline.eq_sum_fin_of_reset_step_apply_last (fun n h => (outsAt0 m c n h).2.2.1) 4 (fun _ => (0 : EReal)) (fun t y => ∑ q : Fin 512,
    k0_pay7 (iblk m c 0 t) (iblk m c 1 t) (iblk m c 2 t) (ix2 q (y 1)) * iblk m c 3 t (ix2 q (y 1))) (fun t h y => ?_) (fun t h y => ?_) (by decide) t hl (ix2 z j)).trans ?_
  · rw [outsAt0_A m c t h h h]
    frame_out
    pointwise [k0_pay1, k0_pay2, k0_pay8]
  · rw [outsAt0_B m c t h h h]
    frame_out
    pointwise [k0_pay2, k0_pay8]
  · pointwise [val_main_v43, val_main_v42, val_main_cst_9, val_main_v41]
    refine MlpUpBwdIdeal.Mlp.sum_rows fun t q p hp => ?_
    exact (congrArg₂ (· * ·) (cotangent m c t q j p hp) (block3 m c t q j p hp)).trans (mul_comm _ _)

/-- The gradient of the norm's shift. -/
theorem array9 : (dats m 0 c).arrAt 9 cfg0.N = val_main_v40 (F := Ideal) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_9.blk t).view.emb (ix2 z j) = (ix2 z j : S1x1024.Idx) := by
    obtain ⟨e6, e7, e8, e9, e10⟩ := out_facts t
    blk_ext [e9]
  have hl : t.val + 1 = cfg0.N := by
    have h := (flush0_9 t).mp hf
    have ht : t.val < 4 := t.isLt
    show t.val + 1 = 4
    omega
  blk_simp
  rw [after0_9, e]
  refine (Pipeline.eq_sum_fin_of_reset_step_apply_last (fun n h => (outsAt0 m c n h).2.2.2.1) 4 (fun _ => (0 : EReal)) (fun t y => ∑ q : Fin 512,
    k0_pay7 (iblk m c 0 t) (iblk m c 1 t) (iblk m c 2 t) (ix2 q (y 1))) (fun t h y => ?_) (fun t h y => ?_) (by decide) t hl (ix2 z j)).trans ?_
  · rw [outsAt0_A m c t h h h]
    frame_out
    pointwise [k0_pay3, k0_pay4]
  · rw [outsAt0_B m c t h h h]
    frame_out
    pointwise [k0_pay4]
  · pointwise [val_main_v40, val_main_v39, val_main_cst_8]
    refine MlpUpBwdIdeal.Mlp.sum_rows fun t q p hp => ?_
    exact cotangent m c t q j p hp

/-- The column sums of the first result. -/
theorem array10 (hm : Reals m c) : (dats m 0 c).arrAt 10 cfg0.N = val_main_v72 (F := Ideal) (m ((c : Thread nD τ).loc main_arg0)) (m ((c : Thread nD τ).loc main_arg1))
    (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  obtain ⟨z, j, rfl⟩ : ∃ (z : Fin 1) (j : Fin 1024), y = (ix2 z j : S1x1024.Idx) := ⟨y 0, y 1, (ix2_eta (n0 := 1) (n1 := 1024) y).symm⟩
  have e : (win0_10.blk t).view.emb (ix2 z j) = (ix2 z j : S1x1024.Idx) := by
    obtain ⟨e6, e7, e8, e9, e10⟩ := out_facts t
    blk_ext [e10]
  have hl : t.val + 1 = cfg0.N := by
    have h := (flush0_10 t).mp hf
    have ht : t.val < 4 := t.isLt
    show t.val + 1 = 4
    omega
  blk_simp
  rw [after0_10, e]
  refine (Pipeline.eq_sum_fin_of_reset_step_apply_last (fun n h => (outsAt0 m c n h).2.2.2.2) 4 (fun _ => (0 : EReal)) (fun t y => ∑ q : Fin 512,
    k0_pay9 (iblk m c 0 t) (iblk m c 1 t) (iblk m c 2 t) (iblk m c 3 t) (iblk m c 4 t) (iblk m c 5 t) (ix2 q (y 1))) (fun t h y => ?_) (fun t h y => ?_) (by decide) t hl (ix2 z j)).trans ?_
  · rw [outsAt0_A m c t h h h]
    frame_out
    pointwise [k0_pay5, k0_pay6]
  · rw [outsAt0_B m c t h h h]
    frame_out
    pointwise [k0_pay6]
  · pointwise [val_main_v72, val_main_v71, val_main_cst_17]
    refine MlpUpBwdIdeal.Mlp.sum_rows fun t q p hp => ?_
    exact row m c hm t q j p hp

end Cert.MlaDownBwdIdeal.Latents
end
-- ==== Proof.MlaValues.lean ====
module

public import proofs.«01_k».proof.Proof.Gen.MlaValuesIdeal.Value
public import proofs.«01_k».proof.Proof.Gen.MlaValuesRefIdeal.Read
public import proofs.«01_k».proof.Proof.Sums

@[expose] public section

/-!
  The product that takes the heads' values from their latent: what the call's array holds after the run.
-/

set_option maxRecDepth 16384

noncomputable section

namespace Cert.MlaValuesIdeal.Latents

open Cert.MlaValuesIdeal Cert.MlaValuesIdeal.Gen Cert.MlaValuesRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val / 2, 0] ∧ win0_1.index t = ![0, t.val % 2]
    ∧ win0_2.index t = ![t.val / 2, t.val % 2] := by
  decide +kernel

theorem block0 (t : Fin cfg0.N) (q : Fin 1024) (j : Fin 256) (p : Fin 2048) (hp : p.val = 1024 * (t.val / 2) + q.val) :
    iblk m c 0 t (ix2 q j) = m ((c : Thread nD τ).loc main_arg0) (ix2 p j) := by
  have e : (win0_0.blk t).view.emb (ix2 q j) = (ix2 p j : S2048x256.Idx) := by
    obtain ⟨e0, e1, e2⟩ := idx_facts t
    blk_ext [e0]
  show V m c main_v2 ((win0_0.blk t).view.emb (ix2 q j)) = _
  rw [e]
  rfl

theorem block1 (t : Fin cfg0.N) (q : Fin 256) (j : Fin 512) (i : Fin 1024) (hi : i.val = 512 * (t.val % 2) + j.val) :
    iblk m c 1 t (ix2 q j) = shapeCast S256x1024 (m ((c : Thread nD τ).loc main_arg1)) shapeCasts_S256x8x128_S256x1024 (ix2 q i) := by
  have e : (win0_1.blk t).view.emb (ix2 q j) = (ix2 q i : S256x1024.Idx) := by
    obtain ⟨e0, e1, e2⟩ := idx_facts t
    blk_ext [e1]
  show V m c main_v1 ((win0_1.blk t).view.emb (ix2 q j)) = _
  rw [e]
  rfl

/-- The reference's values, the heads beside each other. -/
theorem ref_apply (x : Vec Ideal S2048x256 .f32) (w : Vec Ideal S256x8x128 .f32) (p : Fin 2048) (i : Fin 1024) :
    val_main_v2 (F := Ideal) x w (ix2 p i) = ∑ k : Fin 256, (x (ix2 p k) : EReal) * shapeCast S256x1024 w shapeCasts_S256x8x128_S256x1024 (ix2 k i) := by
  pointwise [val_main_v2, val_main_v1, val_main_v0]

/-- The result is the reference's. -/
theorem array2 : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨q, j, rfl⟩ : ∃ (q : Fin 1024) (j : Fin 512), y = (ix2 q j : S1024x512.Idx) := ⟨y 0, y 1, (ix2_eta (n0 := 1024) (n1 := 512) y).symm⟩
  obtain ⟨p, hp⟩ : ∃ p : Fin 2048, p.val = 1024 * (t.val / 2) + q.val := ⟨⟨_, by omega⟩, rfl⟩
  obtain ⟨i, hi⟩ : ∃ i : Fin 1024, i.val = 512 * (t.val % 2) + j.val := ⟨⟨_, by omega⟩, rfl⟩
  have e : (win0_2.blk t).view.emb (ix2 q j) = (ix2 p i : S2048x1024.Idx) := by
    obtain ⟨e0, e1, e2⟩ := idx_facts t
    blk_ext [e2]
  blk_simp
  rw [after0_2, e]
  frame_out
  refine Eq.trans ?_ (ref_apply _ _ p i).symm
  pointwise [k0_pay1]
  exact dot_congr (fun x => block0 m c t q x p hp) (fun x => (block1 m c t x j i hi).trans (by pointwise))

end Cert.MlaValuesIdeal.Latents
end
-- ==== Proof.MlaDwUk.lean ====
module

public import proofs.«01_k».proof.Proof.Gen.MlaDwUkIdeal.Value
public import proofs.«01_k».proof.Proof.Gen.MlaDwUkRefIdeal.Read
public import proofs.«01_k».proof.Proof.Sums

@[expose] public section

/-!
  The gradient of the weights that take the heads' keys from their latent: what the call's array holds after the run.
-/

set_option maxRecDepth 16384

noncomputable section

namespace Cert.MlaDwUkIdeal.Latents

open Cert.MlaDwUkIdeal Cert.MlaDwUkIdeal.Gen Cert.MlaDwUkRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, 0] ∧ win0_2.index t = ![0, 0] := by
  decide +kernel

theorem block0 (t : Fin cfg0.N) (q : Fin 2048) (j : Fin 256) : iblk m c 0 t (ix2 q j) = m ((c : Thread nD τ).loc main_arg0) (ix2 q j) := by
  have e : (win0_0.blk t).view.emb (ix2 q j) = (ix2 q j : S2048x256.Idx) := by
    obtain ⟨e0, e1, e2⟩ := idx_facts t
    blk_ext [e0]
  show V m c main_v0 ((win0_0.blk t).view.emb (ix2 q j)) = _
  rw [e]
  rfl

theorem block1 (t : Fin cfg0.N) (q : Fin 2048) (j : Fin 1024) :
    iblk m c 1 t (ix2 q j) = shapeCast S2048x1024 (m ((c : Thread nD τ).loc main_arg1)) shapeCasts_S2048x8x128_S2048x1024 (ix2 q j) := by
  have e : (win0_1.blk t).view.emb (ix2 q j) = (ix2 q j : S2048x1024.Idx) := by
    obtain ⟨e0, e1, e2⟩ := idx_facts t
    blk_ext [e1]
  show V m c main_v1 ((win0_1.blk t).view.emb (ix2 q j)) = _
  rw [e]
  rfl

/-- The reference's gradient, the heads beside each other. -/
theorem ref_apply (x : Vec Ideal S2048x256 .f32) (d : Vec Ideal S2048x8x128 .bf16) (p : Fin 256) (i : Fin 1024) :
    val_main_v6 (F := Ideal) x d (ix2 p i)
      = ∑ k : Fin 2048, (shapeCast S2048x1024 d shapeCasts_S2048x8x128_S2048x1024 (ix2 k i) : EReal) * (x (ix2 k p) : EReal) := by
  pointwise [val_main_v6, val_main_v5, val_main_v4, val_main_v3, val_main_v2]

/-- The result is the reference's gradient. -/
theorem array2 : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  obtain ⟨q, j, rfl⟩ : ∃ (q : Fin 256) (j : Fin 1024), y = (ix2 q j : S256x1024.Idx) := ⟨y 0, y 1, (ix2_eta (n0 := 256) (n1 := 1024) y).symm⟩
  have e : (win0_2.blk t).view.emb (ix2 q j) = (ix2 q j : S256x1024.Idx) := by
    obtain ⟨e0, e1, e2⟩ := idx_facts t
    blk_ext [e2]
  blk_simp
  rw [after0_2, e]
  frame_out
  refine Eq.trans ?_ (ref_apply _ _ q j).symm
  pointwise [k0_pay1]
  exact dot_congr_comm (fun x => block0 m c t x q) (fun x => (block1 m c t x j).trans (by pointwise))

end Cert.MlaDwUkIdeal.Latents
end
-- ==== Proof.MlaUkBwd.lean ====
module

public import proofs.«01_k».proof.Proof.Gen.MlaUkBwdIdeal.Value
public import proofs.«01_k».proof.Proof.Gen.MlaUkBwdRefIdeal.Read
public import proofs.«01_k».proof.Proof.Latent

@[expose] public section

/-!
  The keys' share of their latent's cotangent: what the call's array holds after the run.
-/

set_option maxRecDepth 16384

noncomputable section

namespace Cert.MlaUkBwdIdeal.Latents

open Cert.MlaUkBwdIdeal Cert.MlaUkBwdIdeal.Gen Cert.MlaUkBwdRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0] := by
  decide +kernel

theorem block0 (t : Fin cfg0.N) (q : Fin 1024) (j : Fin 1024) (p : Fin 2048) (hp : p.val = 1024 * t.val + q.val) :
    iblk m c 0 t (ix2 q j) = shapeCast S2048x1024 (m ((c : Thread nD τ).loc main_arg1)) shapeCasts_S2048x8x128_S2048x1024 (ix2 p j) := by
  have e : (win0_0.blk t).view.emb (ix2 q j) = (ix2 p j : S2048x1024.Idx) := by
    obtain ⟨e0, e1, e2⟩ := idx_facts t
    blk_ext [e0]
  show V m c main_v0 ((win0_0.blk t).view.emb (ix2 q j)) = _
  rw [e]
  rfl

theorem block1 (t : Fin cfg0.N) (q : Fin 256) (j : Fin 1024) :
    iblk m c 1 t (ix2 q j) = shapeCast S256x1024 (m ((c : Thread nD τ).loc main_arg0)) shapeCasts_S256x8x128_S256x1024 (ix2 q j) := by
  have e : (win0_1.blk t).view.emb (ix2 q j) = (ix2 q j : S256x1024.Idx) := by
    obtain ⟨e0, e1, e2⟩ := idx_facts t
    blk_ext [e1]
  show V m c main_v2 ((win0_1.blk t).view.emb (ix2 q j)) = _
  rw [e]
  rfl

/-- The reference's sum over the heads and their columns, as one over the columns laid beside each other. -/
theorem ref_apply (w : Vec Ideal S256x8x128 .f32) (d : Vec Ideal S2048x8x128 .bf16) (p : Fin 2048) (i : Fin 256) :
    val_main_v3 (F := Ideal) w d (ix2 p i) = ∑ k : Fin 1024, (shapeCast S2048x1024 d shapeCasts_S2048x8x128_S2048x1024 (ix2 p k) : EReal)
      * (shapeCast S256x1024 w shapeCasts_S256x8x128_S256x1024 (ix2 i k) : EReal) := by
  pointwise [val_main_v3, val_main_v2]
  exact sum_pairs fun (h : Fin 8) (j : Fin 128) => (d (ix3 p h j) : EReal) * (w (ix3 i h j) : EReal)

/-- The result is the reference's gradient. -/
theorem array2 : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  have ht : t.val < 2 := t.isLt
  obtain ⟨q, j, rfl⟩ : ∃ (q : Fin 1024) (j : Fin 256), y = (ix2 q j : S1024x256.Idx) := ⟨y 0, y 1, (ix2_eta (n0 := 1024) (n1 := 256) y).symm⟩
  obtain ⟨p, hp⟩ : ∃ p : Fin 2048, p.val = 1024 * t.val + q.val := ⟨⟨_, by omega⟩, rfl⟩
  have e : (win0_2.blk t).view.emb (ix2 q j) = (ix2 p j : S2048x256.Idx) := by
    obtain ⟨e0, e1, e2⟩ := idx_facts t
    blk_ext [e2]
  blk_simp
  rw [after0_2, e]
  frame_out
  rw [ref_apply]
  simp only [← block0 m c t q _ p hp, ← block1 m c t]
  pointwise [k0_pay1]

end Cert.MlaUkBwdIdeal.Latents
end
-- ==== Proof.MlaUvBwd.lean ====
module

public import proofs.«01_k».proof.Proof.Gen.MlaUvBwdIdeal.Value
public import proofs.«01_k».proof.Proof.Gen.MlaUvBwdRefIdeal.Read
public import proofs.«01_k».proof.Proof.Latent

@[expose] public section

/-!
  The cotangent of the keys' and values' latent, the values' share added to the keys': what the call's array holds after the run.
-/

set_option maxRecDepth 16384

noncomputable section

namespace Cert.MlaUvBwdIdeal.Latents

open Cert.MlaUvBwdIdeal Cert.MlaUvBwdIdeal.Gen Cert.MlaUvBwdRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![t.val, 0]
    ∧ win0_3.index t = ![t.val, 0] := by
  decide +kernel

theorem block0 (t : Fin cfg0.N) (q : Fin 1024) (j : Fin 1024) (p : Fin 2048) (hp : p.val = 1024 * t.val + q.val) :
    iblk m c 0 t (ix2 q j) = shapeCast S2048x1024 (m ((c : Thread nD τ).loc main_arg1)) shapeCasts_S2048x8x128_S2048x1024 (ix2 p j) := by
  have e : (win0_0.blk t).view.emb (ix2 q j) = (ix2 p j : S2048x1024.Idx) := by
    obtain ⟨e0, e1, e2, e3⟩ := idx_facts t
    blk_ext [e0]
  show V m c main_v0 ((win0_0.blk t).view.emb (ix2 q j)) = _
  rw [e]
  rfl

theorem block1 (t : Fin cfg0.N) (q : Fin 256) (j : Fin 1024) :
    iblk m c 1 t (ix2 q j) = shapeCast S256x1024 (m ((c : Thread nD τ).loc main_arg0)) shapeCasts_S256x8x128_S256x1024 (ix2 q j) := by
  have e : (win0_1.blk t).view.emb (ix2 q j) = (ix2 q j : S256x1024.Idx) := by
    obtain ⟨e0, e1, e2, e3⟩ := idx_facts t
    blk_ext [e1]
  show V m c main_v2 ((win0_1.blk t).view.emb (ix2 q j)) = _
  rw [e]
  rfl

theorem block2 (t : Fin cfg0.N) (q : Fin 1024) (j : Fin 256) (p : Fin 2048) (hp : p.val = 1024 * t.val + q.val) :
    iblk m c 2 t (ix2 q j) = m ((c : Thread nD τ).loc main_arg2) (ix2 p j) := by
  have e : (win0_2.blk t).view.emb (ix2 q j) = (ix2 p j : S2048x256.Idx) := by
    obtain ⟨e0, e1, e2, e3⟩ := idx_facts t
    blk_ext [e2]
  show V m c main_arg2 ((win0_2.blk t).view.emb (ix2 q j)) = _
  rw [e]
  rfl

/-- The reference's sum over the heads and their columns, as one over the columns laid beside each other. -/
theorem ref_apply (w : Vec Ideal S256x8x128 .f32) (d : Vec Ideal S2048x8x128 .bf16) (a : Vec Ideal S2048x256 .f32) (p : Fin 2048) (i : Fin 256) :
    val_main_v4 (F := Ideal) w d a (ix2 p i) = (∑ k : Fin 1024, (shapeCast S2048x1024 d shapeCasts_S2048x8x128_S2048x1024 (ix2 p k) : EReal)
      * (shapeCast S256x1024 w shapeCasts_S256x8x128_S256x1024 (ix2 i k) : EReal)) + (a (ix2 p i) : EReal) := by
  pointwise [val_main_v4, val_main_v3, val_main_v2]
  rw [add_comm]
  exact congrArg (· + _) (sum_pairs fun (h : Fin 8) (j : Fin 128) => (d (ix3 p h j) : EReal) * (w (ix3 i h j) : EReal))

/-- The result is the reference's gradient. -/
theorem array3 : (dats m 0 c).arrAt 3 cfg0.N = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 2 := t.isLt
  obtain ⟨q, j, rfl⟩ : ∃ (q : Fin 1024) (j : Fin 256), y = (ix2 q j : S1024x256.Idx) := ⟨y 0, y 1, (ix2_eta (n0 := 1024) (n1 := 256) y).symm⟩
  obtain ⟨p, hp⟩ : ∃ p : Fin 2048, p.val = 1024 * t.val + q.val := ⟨⟨_, by omega⟩, rfl⟩
  have e : (win0_3.blk t).view.emb (ix2 q j) = (ix2 p j : S2048x256.Idx) := by
    obtain ⟨e0, e1, e2, e3⟩ := idx_facts t
    blk_ext [e3]
  blk_simp
  rw [after0_3, e]
  frame_out
  rw [ref_apply]
  simp only [← block0 m c t q _ p hp, ← block1 m c t, ← block2 m c t q _ p hp]
  pointwise [k0_pay1]

end Cert.MlaUvBwdIdeal.Latents
end
-- ==== Proof.MlaDwUq.lean ====
module

public import proofs.«01_k».proof.Proof.Gen.MlaDwUqIdeal.Value
public import proofs.«01_k».proof.Proof.Gen.MlaDwUqRefIdeal.Read
public import proofs.«01_k».proof.Proof.Latent

@[expose] public section

/-!
  The gradient of the weights that take the heads' queries from their latent: what the call's array holds after the run.
-/

set_option maxRecDepth 16384

noncomputable section

namespace Cert.MlaDwUqIdeal.Latents

open Cert.MlaDwUqIdeal Cert.MlaDwUqIdeal.Gen Cert.MlaDwUqRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, t.val] ∧ win0_2.index t = ![t.val, 0, 0] := by
  decide +kernel

/-- The heads' cotangents beside each other, zeros after each. -/
def cotangents (d : Vec Ideal S2048x8x192 .bf16) : Vec Ideal S2048x2048 .bf16 :=
  shapeCast S2048x2048 (concatenate S2048x8x256 2 [⟨S2048x8x192, d⟩,
    ⟨S2048x8x64, broadcastInDim S2048x8x64 ![] bcast_S_S2048x8x64 (constant (F := Ideal) S_ .bf16 0x0000#16)⟩]
    concatenates_S2048x8x192_S2048x8x64_S2048x8x256_d2) shapeCasts_S2048x8x256_S2048x2048

theorem cotangents_apply (d : Vec Ideal S2048x8x192 .bf16) (q : Fin 2048) (h : Fin 8) (j : Fin 256) (i : Fin 2048)
    (hi : i.val = 256 * h.val + j.val) : cotangents d (ix2 q i) = padded d q h j := by
  obtain ⟨i, hi'⟩ := i
  obtain rfl : i = 256 * h.val + j.val := hi
  pointwise [cotangents, padded]

theorem block0 (t : Fin cfg0.N) (q : Fin 2048) (j : Fin 384) : iblk m c 0 t (ix2 q j) = m ((c : Thread nD τ).loc main_arg0) (ix2 q j) := by
  have e : (win0_0.blk t).view.emb (ix2 q j) = (ix2 q j : S2048x384.Idx) := by
    obtain ⟨e0, e1, e2⟩ := idx_facts t
    blk_ext [e0]
  show V m c main_v0 ((win0_0.blk t).view.emb (ix2 q j)) = _
  rw [e]
  rfl

theorem block1 (t : Fin cfg0.N) (q : Fin 2048) (j : Fin 512) (h : Fin 8) (k : Fin 256) (hk : 512 * t.val + j.val = 256 * h.val + k.val) :
    iblk m c 1 t (ix2 q j) = padded (m ((c : Thread nD τ).loc main_arg1)) q h k := by
  have ht : t.val < 4 := t.isLt
  have e : (win0_1.blk t).view.emb (ix2 q j) = (ix2 q ⟨512 * t.val + j.val, by omega⟩ : S2048x2048.Idx) := by
    obtain ⟨e0, e1, e2⟩ := idx_facts t
    blk_ext [e1]
  show V m c main_v3 ((win0_1.blk t).view.emb (ix2 q j)) = _
  rw [e]
  exact cotangents_apply (m ((c : Thread nD τ).loc main_arg1)) q h k _ hk

/-- The reference's gradient, zeros after each head's columns. -/
theorem ref_apply (x : Vec Ideal S2048x384 .f32) (d : Vec Ideal S2048x8x192 .bf16) (t : Fin 4) (p : Fin 384) (j : Fin 512) :
    val_main_v12 (F := Ideal) x d (ix3 t p j) = ∑ s : Fin 2048, padded d s ⟨(512 * t.val + j.val) / 256, by omega⟩ ⟨(512 * t.val + j.val) % 256, by omega⟩
      * (x (ix2 s p) : EReal) := by
  pointwise [val_main_v12, val_main_v11, val_main_v10, val_main_v9, val_main_v8, val_main_cst_0, val_main_v7, val_main_v6, val_main_v5, val_main_v4, val_main_v3, padded]
  by_cases h : j.val % 256 < 192
  · have h' : (512 * t.val + j.val) % 256 < 192 := by omega
    simp only [dif_pos h, dif_pos h']
    refine Finset.sum_congr rfl fun s _ => congrArg (fun a : EReal => a * _) (congrArg d (congrArg₂ (ix3 s) (Fin.ext ?_) (Fin.ext ?_))) <;> dsimp only <;> omega
  · have h' : ¬ (512 * t.val + j.val) % 256 < 192 := by omega
    simp only [dif_neg h, dif_neg h']
    exact (Finset.sum_eq_zero fun s _ => zero_mul (M₀ := EReal) _).symm

/-- The result is the reference's gradient. -/
theorem array2 : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  obtain ⟨z, q, j, rfl⟩ : ∃ (z : Fin 1) (q : Fin 384) (j : Fin 512), y = (ix3 z q j : S1x384x512.Idx) :=
    ⟨y 0, y 1, y 2, (ix3_eta (n0 := 1) (n1 := 384) (n2 := 512) y).symm⟩
  have e : (win0_2.blk t).view.emb (ix3 z q j) = (ix3 ⟨t.val, ht⟩ q j : S4x384x512.Idx) := by
    obtain ⟨e0, e1, e2⟩ := idx_facts t
    blk_ext [e2]
  blk_simp
  rw [after0_2, e]
  frame_out
  refine Eq.trans ?_ (ref_apply _ _ ⟨t.val, ht⟩ q j).symm
  pointwise [k0_pay1]
  exact dot_congr_comm (fun x => block0 m c t x q) (fun x => block1 m c t x j _ _ (Nat.div_add_mod _ _).symm)

end Cert.MlaDwUqIdeal.Latents
end
-- ==== Proof.MlaUqBwd.lean ====
module

public import proofs.«01_k».proof.Proof.Gen.MlaUqBwdIdeal.Value
public import proofs.«01_k».proof.Proof.Gen.MlaUqBwdRefIdeal.Read
public import proofs.«01_k».proof.Proof.MlaDwUq

@[expose] public section

/-!
  The cotangent of the queries' latent: what the call's array holds after the run.
-/

set_option maxRecDepth 16384

noncomputable section

namespace Cert.MlaUqBwdIdeal.Latents

open Cert.MlaUqBwdIdeal Cert.MlaUqBwdIdeal.Gen Cert.MlaUqBwdRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![t.val / 2, t.val % 2] ∧ win0_1.index t = ![0, t.val % 2] ∧ win0_2.index t = ![t.val / 2, 0] := by
  decide +kernel

/-- The heads' weights beside each other, zeros after each. -/
def weights (w : Vec Ideal S384x1536 .f32) : Vec Ideal S384x2048 .bf16 :=
  truncf .bf16 (shapeCast S384x2048 (concatenate S384x8x256 2 [⟨S384x8x192, shapeCast S384x8x192 w shapeCasts_S384x1536_S384x8x192⟩,
    ⟨S384x8x64, broadcastInDim S384x8x64 ![] bcast_S_S384x8x64 (constant (F := Ideal) S_ .f32 0x00000000#32)⟩]
    concatenates_S384x8x192_S384x8x64_S384x8x256_d2) shapeCasts_S384x8x256_S384x2048) bitsLt_bf16_f32

theorem weights_apply (w : Vec Ideal S384x1536 .f32) (q : Fin 384) (i : Fin 2048) :
    weights w (ix2 q i) = padded (shapeCast S384x8x192 w shapeCasts_S384x1536_S384x8x192) q ⟨i.val / 256, by omega⟩ ⟨i.val % 256, by omega⟩ := by
  pointwise [weights, padded]

theorem block0 (t : Fin cfg0.N) (q : Fin 1024) (j : Fin 1024) (p : Fin 2048) (hp : p.val = 1024 * (t.val / 2) + q.val) (i : Fin 2048)
    (hi : i.val = 1024 * (t.val % 2) + j.val) :
    iblk m c 0 t (ix2 q j) = padded (m ((c : Thread nD τ).loc main_arg1)) p ⟨i.val / 256, by omega⟩ ⟨i.val % 256, by omega⟩ := by
  have e : (win0_0.blk t).view.emb (ix2 q j) = (ix2 p i : S2048x2048.Idx) := by
    obtain ⟨e0, e1, e2⟩ := idx_facts t
    blk_ext [e0]
  show V m c main_v7 ((win0_0.blk t).view.emb (ix2 q j)) = _
  rw [e]
  exact MlaDwUqIdeal.Latents.cotangents_apply (m ((c : Thread nD τ).loc main_arg1)) p _ _ i (Nat.div_add_mod _ _).symm

theorem block1 (t : Fin cfg0.N) (q : Fin 384) (j : Fin 1024) (i : Fin 2048) (hi : i.val = 1024 * (t.val % 2) + j.val) :
    iblk m c 1 t (ix2 q j) = padded (shapeCast S384x8x192 (m ((c : Thread nD τ).loc main_arg0)) shapeCasts_S384x1536_S384x8x192) q
      ⟨i.val / 256, by omega⟩ ⟨i.val % 256, by omega⟩ := by
  have e : (win0_1.blk t).view.emb (ix2 q j) = (ix2 q i : S384x2048.Idx) := by
    obtain ⟨e0, e1, e2⟩ := idx_facts t
    blk_ext [e1]
  show V m c main_v4 ((win0_1.blk t).view.emb (ix2 q j)) = _
  rw [e]
  exact weights_apply (m ((c : Thread nD τ).loc main_arg0)) q i

/-- The first of a block's two points leaves its product in the accumulator. -/
theorem carry (t : Fin cfg0.N) (h : t.val % 2 = 0) : (outsAt0 m c t.val t.isLt).2 = k0_pay2 (iblk m c 0 t) (iblk m c 1 t) := by
  rw [outsAt0_A m c t h (by omega) (by omega)]
  frame_out

/-- The reference's sum over the heads' columns, as one over the padded columns. -/
theorem ref_apply (w : Vec Ideal S384x1536 .f32) (d : Vec Ideal S2048x8x192 .bf16) (p : Fin 2048) (q : Fin 384) :
    val_main_v5 (F := Ideal) w d (ix2 p q) = ∑ i : Fin 2048, padded d p ⟨i.val / 256, by omega⟩ ⟨i.val % 256, by omega⟩
      * padded (shapeCast S384x8x192 w shapeCasts_S384x1536_S384x8x192) q ⟨i.val / 256, by omega⟩ ⟨i.val % 256, by omega⟩ := by
  refine Eq.trans ?_ (sum_pairs fun (h : Fin 8) (j : Fin 256) => padded d p h j * padded (shapeCast S384x8x192 w shapeCasts_S384x1536_S384x8x192) q h j)
  have hh : ∀ h : Fin 8, ∑ j : Fin 256, padded d p h j * padded (shapeCast S384x8x192 w shapeCasts_S384x1536_S384x8x192) q h j
      = ∑ j : Fin 192, d (ix3 p h j) * shapeCast S384x8x192 w shapeCasts_S384x1536_S384x8x192 (ix3 q h j) := fun h => by
    refine (sum_head (a := 192) (b := 64) _ fun k => ?_).trans (Finset.sum_congr rfl fun k _ => ?_)
    · have h1 : ¬ (192 + k.val) < 192 := by omega
      simp only [padded, Fin.val_natAdd, dif_neg h1, mul_zero]
    · simp only [padded, Fin.val_castAdd, dif_pos k.isLt]
  rw [Finset.sum_congr rfl fun h _ => hh h]
  refine Eq.trans ?_ (sum_pairs fun (h : Fin 8) (j : Fin 192) => (d (ix3 p h j) : EReal) * (shapeCast S384x8x192 w shapeCasts_S384x1536_S384x8x192 (ix3 q h j) : EReal)).symm
  pointwise [val_main_v5, val_main_v4, val_main_v3]
  refine Finset.sum_congr rfl fun z _ => congrArg (fun a : EReal => _ * a) (congrArg (fun i => w (ix2 q i)) (Fin.ext ?_))
  exact (Nat.div_add_mod' z.val 192).symm

/-- The result is the reference's cotangent. -/
theorem array2 : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have ht : t.val < 4 := t.isLt
  have h1 : t.val % 2 = 1 := by
    have h := (flush0_2 t).mp hf
    omega
  obtain ⟨q, j, rfl⟩ : ∃ (q : Fin 1024) (j : Fin 384), y = (ix2 q j : S1024x384.Idx) := ⟨y 0, y 1, (ix2_eta (n0 := 1024) (n1 := 384) y).symm⟩
  obtain ⟨p, hp⟩ : ∃ p : Fin 2048, p.val = 1024 * (t.val / 2) + q.val := ⟨⟨_, by omega⟩, rfl⟩
  obtain ⟨s, hs⟩ : ∃ s : Fin cfg0.N, s.val = t.val - 1 := ⟨⟨t.val - 1, Nat.lt_of_le_of_lt (Nat.sub_le _ _) t.isLt⟩, rfl⟩
  have e : (win0_2.blk t).view.emb (ix2 q j) = (ix2 p j : S2048x384.Idx) := by
    obtain ⟨e0, e1, e2⟩ := idx_facts t
    blk_ext [e2]
  have hc : (outsAt0 m c (t.val - 1) (Nat.lt_of_le_of_lt (Nat.sub_le _ _) t.isLt)).2 = k0_pay2 (iblk m c 0 s) (iblk m c 1 s) := by
    rw [← carry m c s (by omega)]
    congr 2
    exact hs.symm
  blk_simp
  rw [after0_2, e, outsAt0_B m c t (by omega) h1 h1]
  frame_out
  rw [hc, read_unread_whole]
  refine Eq.trans ?_ (ref_apply _ _ p j).symm
  refine Eq.trans ?_ (Fin.sum_univ_add (M := EReal) (a := 1024) (b := 1024) _).symm
  pointwise [k0_pay3, k0_pay2, k0_pay1]
  exact congrArg₂ (fun a b : EReal => a + b)
    (dot_congr (fun x => block0 m c s q x p (by omega) (Fin.castAdd 1024 x) (by rw [Fin.val_castAdd]; omega)) (fun x => block1 m c s j x (Fin.castAdd 1024 x) (by rw [Fin.val_castAdd]; omega)))
    (dot_congr (fun x => block0 m c t q x p hp (Fin.natAdd 1024 x) (by rw [Fin.val_natAdd]; omega)) (fun x => block1 m c t j x (Fin.natAdd 1024 x) (by rw [Fin.val_natAdd]; omega)))

end Cert.MlaUqBwdIdeal.Latents
end
-- ==== Proof.PreDownBwd.lean ====
module

public import proofs.«01_k».proof.Proof.Pre
public import proofs.«01_k».proof.Pre_finite_down_bwd

@[expose] public section

/-!
  What the precondition of the backward pass of the latents' products says: all the arguments but the norm's shift are real.
-/

noncomputable section

namespace Cert.Pre_finite_down_bwd

open Cert.Attn Idealize.ShloMosaic Cert.Pre_finite_qk

theorem facts : Facts := ⟨by decide, by decide, by decide, by decide, by decide, by decide, by decide, by decide, by decide, by decide, by decide, by decide, by decide, by decide⟩

instance : Subsingleton S_.Idx := ⟨fun a b => funext fun i => i.elim0⟩

variable [Facts]

theorem real_args (a0 : FVec Ideal S2048x1024 .f32) (a1 a2 : FVec Ideal S1x1024 .f32) (a3 : FVec Ideal S1024x384 .f32)
    (a4 : FVec Ideal S1024x320 .f32) (a5 : FVec Ideal S2048x384 .bf16) (a6 : FVec Ideal S2048x320 .bf16) (a7 : FVec Ideal S2048x1024 .f32)
    (j : S_.Idx) (h : fn (F := Ideal) a0 a1 a2 a3 a4 a5 a6 a7 j = 1#1) :
    (∀ i, IsReal (a0 i)) ∧ (∀ i, IsReal (a1 i)) ∧ (∀ i, IsReal (a3 i)) ∧ (∀ i, IsReal (a4 i)) ∧ (∀ i, IsReal (a5 i)) ∧ (∀ i, IsReal (a6 i))
      ∧ ∀ i, IsReal (a7 i) := by
  dsimp only [fn, fn_part1, fn_part2] at h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e1⟩ := IntOp.andi_eq_one.1 h
  exact ⟨fun i => real_of_lt _ (Host.reduce_andi_all _ _ _ _ j e0 i), fun i => real_of_lt _ (Host.reduce_andi_all _ _ _ _ j e1 i),
    fun i => real_of_lt _ (Host.reduce_andi_all _ _ _ _ j e3 i), fun i => real_of_lt _ (Host.reduce_andi_all _ _ _ _ j e4 i),
    fun i => real_of_lt _ (Host.reduce_andi_all _ _ _ _ j e5 i), fun i => real_of_lt _ (Host.reduce_andi_all _ _ _ _ j e6 i),
    fun i => real_of_lt _ (Host.reduce_andi_all _ _ _ _ j e7 i)⟩

instance holdsFacts : Facts := facts

end Cert.Pre_finite_down_bwd
end
-- ==== Proof.MlaClaims.lean ====
module

public import proofs.«01_k».proof.Defs
public import proofs.«01_k».proof.Proof.Gen.MlaDown.Frame
public import proofs.«01_k».proof.Proof.MlaDown
public import proofs.«01_k».proof.Proof.Gen.MlaDwDown.Frame
public import proofs.«01_k».proof.Proof.MlaDwDown
public import proofs.«01_k».proof.Proof.Gen.MlaDownBwd.Frame
public import proofs.«01_k».proof.Proof.MlaDownBwd
public import proofs.«01_k».proof.Proof.Gen.MlaValues.Frame
public import proofs.«01_k».proof.Proof.MlaValues
public import proofs.«01_k».proof.Proof.Gen.MlaDwUk.Frame
public import proofs.«01_k».proof.Proof.MlaDwUk
public import proofs.«01_k».proof.Proof.Gen.MlaUkBwd.Frame
public import proofs.«01_k».proof.Proof.MlaUkBwd
public import proofs.«01_k».proof.Proof.Gen.MlaUvBwd.Frame
public import proofs.«01_k».proof.Proof.MlaUvBwd
public import proofs.«01_k».proof.Proof.Gen.MlaDwUq.Frame
public import proofs.«01_k».proof.Proof.MlaDwUq
public import proofs.«01_k».proof.Proof.Gen.MlaUqBwd.Frame
public import proofs.«01_k».proof.Proof.MlaUqBwd
public import proofs.«01_k».proof.Proof.PreDownBwd
public import Idealize.ShloMosaic.Lib.Quiescent

@[expose] public section

/-!
  The claims about the attention's latents: their products and those products' backward calls.
-/

noncomputable section

namespace Cert.Proof.MlaClaims

open Idealize.ShloMosaic Idealize.SL.Sem

theorem frame_mla_down : Cert.quiescent_MlaDown := fun m ρ _ => Cert.MlaDown.Gen.frame m ρ

theorem frame_mla_down_ideal : Cert.quiescent_MlaDownIdeal := fun m ρ _ => Cert.MlaDownIdeal.Gen.frame m ρ

theorem frame_mla_down_ref : Cert.quiescent_MlaDownRefIdeal := fun m ρ _ =>
  (θ_run Cert.MlaDownRefIdeal.defs _ _).mono (fun r h => ⟨fun c => (h c).2, sem_eq_zero_of_no_sems (by decide) r.2⟩)
    (Cert.MlaDownRefIdeal.Value.run (F := Ideal) m ρ)

theorem preserves_mla_down : Cert.preserves_MlaDown_MlaDownIdeal := trivial

/-- The latents' products are the reference's. -/
theorem algebraic_mla_down : Cert.algebraic_MlaDownIdeal_MlaDownRefIdeal := by
  intro m ρ m' ρ' _ ha
  refine ⟨_, Cert.MlaDownIdeal.Value.run_blocks (F := Ideal) m ρ, ?_⟩
  refine (θ_run Cert.MlaDownRefIdeal.defs _ _).mono (fun _ h c => ⟨(h c).1.trans ?_, (h c).2⟩) (Cert.MlaDownRefIdeal.Value.run (F := Ideal) m' ρ')
  obtain ⟨a0, a1, a2⟩ := ha c
  rw [Cert.MlaDownRefIdeal.Read.val_main_v3_eq, a0, a1, a2]
  exact (Cert.MlaDownIdeal.Latents.array2 m c).symm

theorem frame_mla_dw_down : Cert.quiescent_MlaDwDown := fun m ρ _ => Cert.MlaDwDown.Gen.frame m ρ

theorem frame_mla_dw_down_ideal : Cert.quiescent_MlaDwDownIdeal := fun m ρ _ => Cert.MlaDwDownIdeal.Gen.frame m ρ

theorem frame_mla_dw_down_ref : Cert.quiescent_MlaDwDownRefIdeal := fun m ρ _ =>
  (θ_run Cert.MlaDwDownRefIdeal.defs _ _).mono (fun r h => ⟨fun c => (h c).2, sem_eq_zero_of_no_sems (by decide) r.2⟩)
    (Cert.MlaDwDownRefIdeal.Value.run (F := Ideal) m ρ)

theorem preserves_mla_dw_down : Cert.preserves_MlaDwDown_MlaDwDownIdeal := trivial

/-- The gradients of the latents' weights are the reference's. -/
theorem algebraic_mla_dw_down : Cert.algebraic_MlaDwDownIdeal_MlaDwDownRefIdeal := by
  intro m ρ m' ρ' _ ha
  refine ⟨_, Cert.MlaDwDownIdeal.Value.run_blocks (F := Ideal) m ρ, ?_⟩
  refine (θ_run Cert.MlaDwDownRefIdeal.defs _ _).mono (fun _ h c => ⟨(h c).1.trans ?_, (h c).2⟩) (Cert.MlaDwDownRefIdeal.Value.run (F := Ideal) m' ρ')
  obtain ⟨a0, a1, a2⟩ := ha c
  rw [Cert.MlaDwDownRefIdeal.Read.val_main_v12_eq, a0, a1, a2]
  exact (Cert.MlaDwDownIdeal.Latents.array2 m c).symm

theorem frame_mla_down_bwd : Cert.quiescent_MlaDownBwd := fun m ρ _ => Cert.MlaDownBwd.Gen.frame m ρ

theorem frame_mla_down_bwd_ideal : Cert.quiescent_MlaDownBwdIdeal := fun m ρ _ => Cert.MlaDownBwdIdeal.Gen.frame m ρ

theorem frame_mla_down_bwd_ideal_pre : Cert.quiescent_MlaDownBwdIdeal_pre_finite_down_bwd := fun m ρ _ => Cert.MlaDownBwdIdeal.Gen.frame m ρ

theorem frame_mla_down_bwd_ref : Cert.quiescent_MlaDownBwdRefIdeal := fun m ρ _ =>
  (θ_run Cert.MlaDownBwdRefIdeal.defs _ _).mono (fun r h => ⟨fun c => (h c).2.2.2.2.2, sem_eq_zero_of_no_sems (by decide) r.2⟩)
    (Cert.MlaDownBwdRefIdeal.Value.run (F := Ideal) m ρ)

theorem frame_mla_down_bwd_ref_pre : Cert.quiescent_MlaDownBwdRefIdeal_pre_finite_down_bwd := fun m ρ _ => frame_mla_down_bwd_ref m ρ trivial

theorem preserves_mla_down_bwd : Cert.preserves_MlaDownBwd_MlaDownBwdIdeal := trivial

set_option maxHeartbeats 1000000 in
/-- The latents' backward pass to the norm's input gives the reference's five results. -/
theorem algebraic_mla_down_bwd : Cert.algebraic_MlaDownBwdIdeal_MlaDownBwdRefIdeal_pre_finite_down_bwd := by
  intro m ρ m' ρ' hp ha
  have hr := fun c => Cert.Pre_finite_down_bwd.real_args _ _ _ _ _ _ _ _ _ (congrFun (hp c) (Shape.Idx.first Cert.Pre_finite_down_bwd.Facts.h_S_))
  refine ⟨_, _, _, _, _, Cert.MlaDownBwdIdeal.Value.run_blocks (F := Ideal) m ρ, ?_⟩
  refine (θ_run Cert.MlaDownBwdRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.MlaDownBwdRefIdeal.Value.run (F := Ideal) m' ρ')
  all_goals obtain ⟨a0, a1, a2, a3, a4, a5, a6, a7⟩ := ha c
  · rw [Cert.MlaDownBwdRefIdeal.Read.val_main_v69_eq, a0, a1, a3, a4, a5, a6, a7]
    exact (Cert.MlaDownBwdIdeal.Latents.array6 m c (hr c)).symm
  · rw [Cert.MlaDownBwdRefIdeal.Read.val_main_v70_eq, a0, a1, a3, a4, a5, a6, a7]
    exact (Cert.MlaDownBwdIdeal.Latents.array7 m c (hr c)).symm
  · rw [Cert.MlaDownBwdRefIdeal.Read.val_main_v43_eq, a0, a3, a4, a5, a6, a7]
    exact (Cert.MlaDownBwdIdeal.Latents.array8 m c).symm
  · rw [Cert.MlaDownBwdRefIdeal.Read.val_main_v40_eq, a3, a4, a5, a6, a7]
    exact (Cert.MlaDownBwdIdeal.Latents.array9 m c).symm
  · rw [Cert.MlaDownBwdRefIdeal.Read.val_main_v72_eq, a0, a1, a3, a4, a5, a6, a7]
    exact (Cert.MlaDownBwdIdeal.Latents.array10 m c (hr c)).symm

theorem frame_mla_values : Cert.quiescent_MlaValues := fun m ρ _ => Cert.MlaValues.Gen.frame m ρ

theorem frame_mla_values_ideal : Cert.quiescent_MlaValuesIdeal := fun m ρ _ => Cert.MlaValuesIdeal.Gen.frame m ρ

theorem frame_mla_values_ref : Cert.quiescent_MlaValuesRefIdeal := fun m ρ _ =>
  (θ_run Cert.MlaValuesRefIdeal.defs _ _).mono (fun r h => ⟨fun c => (h c).2, sem_eq_zero_of_no_sems (by decide) r.2⟩)
    (Cert.MlaValuesRefIdeal.Value.run (F := Ideal) m ρ)

theorem preserves_mla_values : Cert.preserves_MlaValues_MlaValuesIdeal := trivial

/-- The heads' values are the reference's. -/
theorem algebraic_mla_values : Cert.algebraic_MlaValuesIdeal_MlaValuesRefIdeal := by
  intro m ρ m' ρ' _ ha
  refine ⟨_, Cert.MlaValuesIdeal.Value.run_blocks (F := Ideal) m ρ, ?_⟩
  refine (θ_run Cert.MlaValuesRefIdeal.defs _ _).mono (fun _ h c => ⟨(h c).1.trans ?_, (h c).2⟩) (Cert.MlaValuesRefIdeal.Value.run (F := Ideal) m' ρ')
  obtain ⟨a0, a1⟩ := ha c
  rw [Cert.MlaValuesRefIdeal.Read.val_main_v2_eq, a0, a1]
  exact (Cert.MlaValuesIdeal.Latents.array2 m c).symm

theorem frame_mla_dw_uk : Cert.quiescent_MlaDwUk := fun m ρ _ => Cert.MlaDwUk.Gen.frame m ρ

theorem frame_mla_dw_uk_ideal : Cert.quiescent_MlaDwUkIdeal := fun m ρ _ => Cert.MlaDwUkIdeal.Gen.frame m ρ

theorem frame_mla_dw_uk_ref : Cert.quiescent_MlaDwUkRefIdeal := fun m ρ _ =>
  (θ_run Cert.MlaDwUkRefIdeal.defs _ _).mono (fun r h => ⟨fun c => (h c).2, sem_eq_zero_of_no_sems (by decide) r.2⟩)
    (Cert.MlaDwUkRefIdeal.Value.run (F := Ideal) m ρ)

theorem preserves_mla_dw_uk : Cert.preserves_MlaDwUk_MlaDwUkIdeal := trivial

/-- The gradient of the keys' weights is the reference's. -/
theorem algebraic_mla_dw_uk : Cert.algebraic_MlaDwUkIdeal_MlaDwUkRefIdeal := by
  intro m ρ m' ρ' _ ha
  refine ⟨_, Cert.MlaDwUkIdeal.Value.run_blocks (F := Ideal) m ρ, ?_⟩
  refine (θ_run Cert.MlaDwUkRefIdeal.defs _ _).mono (fun _ h c => ⟨(h c).1.trans ?_, (h c).2⟩) (Cert.MlaDwUkRefIdeal.Value.run (F := Ideal) m' ρ')
  obtain ⟨a0, a1⟩ := ha c
  rw [Cert.MlaDwUkRefIdeal.Read.val_main_v6_eq, a0, a1]
  exact (Cert.MlaDwUkIdeal.Latents.array2 m c).symm

theorem frame_mla_uk_bwd : Cert.quiescent_MlaUkBwd := fun m ρ _ => Cert.MlaUkBwd.Gen.frame m ρ

theorem frame_mla_uk_bwd_ideal : Cert.quiescent_MlaUkBwdIdeal := fun m ρ _ => Cert.MlaUkBwdIdeal.Gen.frame m ρ

theorem frame_mla_uk_bwd_ref : Cert.quiescent_MlaUkBwdRefIdeal := fun m ρ _ =>
  (θ_run Cert.MlaUkBwdRefIdeal.defs _ _).mono (fun r h => ⟨fun c => (h c).2, sem_eq_zero_of_no_sems (by decide) r.2⟩)
    (Cert.MlaUkBwdRefIdeal.Value.run (F := Ideal) m ρ)

theorem preserves_mla_uk_bwd : Cert.preserves_MlaUkBwd_MlaUkBwdIdeal := trivial

/-- The keys' part of their latent's cotangent is the reference's. -/
theorem algebraic_mla_uk_bwd : Cert.algebraic_MlaUkBwdIdeal_MlaUkBwdRefIdeal := by
  intro m ρ m' ρ' _ ha
  refine ⟨_, Cert.MlaUkBwdIdeal.Value.run_blocks (F := Ideal) m ρ, ?_⟩
  refine (θ_run Cert.MlaUkBwdRefIdeal.defs _ _).mono (fun _ h c => ⟨(h c).1.trans ?_, (h c).2⟩) (Cert.MlaUkBwdRefIdeal.Value.run (F := Ideal) m' ρ')
  obtain ⟨a0, a1⟩ := ha c
  rw [Cert.MlaUkBwdRefIdeal.Read.val_main_v3_eq, a0, a1]
  exact (Cert.MlaUkBwdIdeal.Latents.array2 m c).symm

theorem frame_mla_uv_bwd : Cert.quiescent_MlaUvBwd := fun m ρ _ => Cert.MlaUvBwd.Gen.frame m ρ

theorem frame_mla_uv_bwd_ideal : Cert.quiescent_MlaUvBwdIdeal := fun m ρ _ => Cert.MlaUvBwdIdeal.Gen.frame m ρ

theorem frame_mla_uv_bwd_ref : Cert.quiescent_MlaUvBwdRefIdeal := fun m ρ _ =>
  (θ_run Cert.MlaUvBwdRefIdeal.defs _ _).mono (fun r h => ⟨fun c => (h c).2, sem_eq_zero_of_no_sems (by decide) r.2⟩)
    (Cert.MlaUvBwdRefIdeal.Value.run (F := Ideal) m ρ)

theorem preserves_mla_uv_bwd : Cert.preserves_MlaUvBwd_MlaUvBwdIdeal := trivial

/-- The values' part, added to the keys', is the reference's cotangent. -/
theorem algebraic_mla_uv_bwd : Cert.algebraic_MlaUvBwdIdeal_MlaUvBwdRefIdeal := by
  intro m ρ m' ρ' _ ha
  refine ⟨_, Cert.MlaUvBwdIdeal.Value.run_blocks (F := Ideal) m ρ, ?_⟩
  refine (θ_run Cert.MlaUvBwdRefIdeal.defs _ _).mono (fun _ h c => ⟨(h c).1.trans ?_, (h c).2⟩) (Cert.MlaUvBwdRefIdeal.Value.run (F := Ideal) m' ρ')
  obtain ⟨a0, a1, a2⟩ := ha c
  rw [Cert.MlaUvBwdRefIdeal.Read.val_main_v4_eq, a0, a1, a2]
  exact (Cert.MlaUvBwdIdeal.Latents.array3 m c).symm

theorem frame_mla_dw_uq : Cert.quiescent_MlaDwUq := fun m ρ _ => Cert.MlaDwUq.Gen.frame m ρ

theorem frame_mla_dw_uq_ideal : Cert.quiescent_MlaDwUqIdeal := fun m ρ _ => Cert.MlaDwUqIdeal.Gen.frame m ρ

theorem frame_mla_dw_uq_ref : Cert.quiescent_MlaDwUqRefIdeal := fun m ρ _ =>
  (θ_run Cert.MlaDwUqRefIdeal.defs _ _).mono (fun r h => ⟨fun c => (h c).2, sem_eq_zero_of_no_sems (by decide) r.2⟩)
    (Cert.MlaDwUqRefIdeal.Value.run (F := Ideal) m ρ)

theorem preserves_mla_dw_uq : Cert.preserves_MlaDwUq_MlaDwUqIdeal := trivial

/-- The gradient of the queries' weights is the reference's. -/
theorem algebraic_mla_dw_uq : Cert.algebraic_MlaDwUqIdeal_MlaDwUqRefIdeal := by
  intro m ρ m' ρ' _ ha
  refine ⟨_, Cert.MlaDwUqIdeal.Value.run_blocks (F := Ideal) m ρ, ?_⟩
  refine (θ_run Cert.MlaDwUqRefIdeal.defs _ _).mono (fun _ h c => ⟨(h c).1.trans ?_, (h c).2⟩) (Cert.MlaDwUqRefIdeal.Value.run (F := Ideal) m' ρ')
  obtain ⟨a0, a1⟩ := ha c
  rw [Cert.MlaDwUqRefIdeal.Read.val_main_v12_eq, a0, a1]
  exact (Cert.MlaDwUqIdeal.Latents.array2 m c).symm

theorem frame_mla_uq_bwd : Cert.quiescent_MlaUqBwd := fun m ρ _ => Cert.MlaUqBwd.Gen.frame m ρ

theorem frame_mla_uq_bwd_ideal : Cert.quiescent_MlaUqBwdIdeal := fun m ρ _ => Cert.MlaUqBwdIdeal.Gen.frame m ρ

theorem frame_mla_uq_bwd_ref : Cert.quiescent_MlaUqBwdRefIdeal := fun m ρ _ =>
  (θ_run Cert.MlaUqBwdRefIdeal.defs _ _).mono (fun r h => ⟨fun c => (h c).2, sem_eq_zero_of_no_sems (by decide) r.2⟩)
    (Cert.MlaUqBwdRefIdeal.Value.run (F := Ideal) m ρ)

theorem preserves_mla_uq_bwd : Cert.preserves_MlaUqBwd_MlaUqBwdIdeal := trivial

/-- The cotangent of the queries' latent is the reference's. -/
theorem algebraic_mla_uq_bwd : Cert.algebraic_MlaUqBwdIdeal_MlaUqBwdRefIdeal := by
  intro m ρ m' ρ' _ ha
  refine ⟨_, Cert.MlaUqBwdIdeal.Value.run_blocks (F := Ideal) m ρ, ?_⟩
  refine (θ_run Cert.MlaUqBwdRefIdeal.defs _ _).mono (fun _ h c => ⟨(h c).1.trans ?_, (h c).2⟩) (Cert.MlaUqBwdRefIdeal.Value.run (F := Ideal) m' ρ')
  obtain ⟨a0, a1⟩ := ha c
  rw [Cert.MlaUqBwdRefIdeal.Read.val_main_v5_eq, a0, a1]
  exact (Cert.MlaUqBwdIdeal.Latents.array2 m c).symm

end Cert.Proof.MlaClaims
end
-- ==== Proof.CfNorm.lean ====
module

public import proofs.«01_k».proof.Proof.Gen.CfNormIdeal.Value
public import proofs.«01_k».proof.Proof.Gen.CfNormRefIdeal.Read
public import proofs.«01_k».proof.Proof.MlaUqBwd

@[expose] public section

/-!
  The conformer's layer norm and the gate after it: what the call's array holds after the run.
-/

set_option maxRecDepth 16384

noncomputable section

namespace Cert.CfNormIdeal.Conf

open Cert.CfNormIdeal Cert.CfNormIdeal.Gen Cert.CfNormRefIdeal.Read Cert.Sums Idealize.ShloMosaic Idealize.ShloMosaic.TcCoe

variable (m : (ℓ : Loc nD τ sig) → Buf (Elt Ideal) ℓ) (c : Dev nD)

theorem idx_facts : ∀ t : Fin cfg0.N, win0_0.index t = ![t.val, 0] ∧ win0_1.index t = ![0, 0] ∧ win0_2.index t = ![0, 0] ∧ win0_3.index t = ![t.val, 0] := by
  decide +kernel

theorem block0 (t : Fin cfg0.N) (q : Fin 512) (j : Fin 1024) (p : Fin 2048) (hp : p.val = 512 * t.val + q.val) :
    iblk m c 0 t (ix2 q j) = m ((c : Thread nD τ).loc main_arg0) (ix2 p j) := by
  have e : (win0_0.blk t).view.emb (ix2 q j) = (ix2 p j : S2048x1024.Idx) := by
    obtain ⟨e0, e1, e2, e3⟩ := idx_facts t
    blk_ext [e0]
  show V m c main_arg0 ((win0_0.blk t).view.emb (ix2 q j)) = _
  rw [e]

theorem block1 (t : Fin cfg0.N) (z : Fin 1) (j : Fin 1024) :
    iblk m c 1 t (ix2 z j) = m ((c : Thread nD τ).loc main_arg1) (ix2 z j) := by
  have e : (win0_1.blk t).view.emb (ix2 z j) = (ix2 z j : S1x1024.Idx) := by
    obtain ⟨e0, e1, e2, e3⟩ := idx_facts t
    blk_ext [e1]
  show V m c main_arg1 ((win0_1.blk t).view.emb (ix2 z j)) = _
  rw [e]

theorem block2 (t : Fin cfg0.N) (z : Fin 1) (j : Fin 1024) :
    iblk m c 2 t (ix2 z j) = m ((c : Thread nD τ).loc main_arg2) (ix2 z j) := by
  have e : (win0_2.blk t).view.emb (ix2 z j) = (ix2 z j : S1x1024.Idx) := by
    obtain ⟨e0, e1, e2, e3⟩ := idx_facts t
    blk_ext [e2]
  show V m c main_arg2 ((win0_2.blk t).view.emb (ix2 z j)) = _
  rw [e]

/-- The result is the reference's gate of the normalized rows. -/
theorem array3 : (dats m 0 c).arrAt 3 cfg0.N
    = val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 4 := t.isLt
  obtain ⟨q, j, rfl⟩ : ∃ (q : Fin 512) (j : Fin 1024), y = (ix2 q j : S512x1024.Idx) := ⟨y 0, y 1, (ix2_eta (n0 := 512) (n1 := 1024) y).symm⟩
  obtain ⟨p, hp⟩ : ∃ p : Fin 2048, p.val = 512 * t.val + q.val := ⟨⟨_, by omega⟩, rfl⟩
  have e : (win0_3.blk t).view.emb (ix2 q j) = (ix2 p j : S2048x1024.Idx) := by
    obtain ⟨e0, e1, e2, e3⟩ := idx_facts t
    blk_ext [e3]
  blk_simp
  rw [after0_3, e]
  frame_out
  pointwise [k0_pay1, val_main_v23, val_main_v22, val_main_call0_v5, val_main_call0_v4, val_main_call0_v3, val_main_call0_v2, val_main_call0_v1, val_main_call0_v0, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [block0 m c t q _ p hp, block1 m c t, block2 m c t]
  have z : val_main_cst (F := Ideal) (Shape.Idx.first Cert.CfNormRefIdeal.Gen.h_S_) = 0 := Ideal.ofBits_zero_f32
  have z1 : val_main_cst_1 (F := Ideal) (Shape.Idx.first Cert.CfNormRefIdeal.Gen.h_S_) = 0 := Ideal.ofBits_zero_f32
  have o : val_main_call0_cst (F := Ideal) ix0 = 1 := Ideal.ofBits_one_f32
  have o0 : val_main_call0_cst_0 (F := Ideal) ix0 = 1 := Ideal.ofBits_one_f32
  simp only [z, z1, o, o0, zero_add]
  rfl

end Cert.CfNormIdeal.Conf
end
-- ==== Proof.Rotary.lean ====
module

public import proofs.«01_k».proof.Proof.Gen.MlaQueriesIdeal.Value
public import proofs.«01_k».proof.Proof.Gen.MlaQueriesRefIdeal.Read
public import proofs.«01_k».proof.Proof.MlaUqBwd
public import proofs.«01_k».proof.Proof.Rows

@[expose] public section

/-!
  The tables of cosines and sines the queries are turned by.
-/

set_option maxRecDepth 16384

noncomputable section

namespace Cert.MlaQueriesIdeal.Latents

open Cert.MlaQueriesIdeal Cert.MlaQueriesIdeal.Gen Cert.MlaQueriesRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, t.val] ∧ win0_2.index t = ![0, 0] ∧ win0_3.index t = ![0, 0] ∧ win0_4.index t = ![0, t.val] := by
  decide +kernel

/-- The angles' cosines for both halves of the rotary columns, zeros after them. -/
def cosines (a : Vec Ideal S2048x32 .f32) : Vec Ideal S2048x128 .f32 :=
  concatenate S2048x128 1 [⟨S2048x32, a⟩, ⟨S2048x32, a⟩, ⟨S2048x64, broadcastInDim S2048x64 ![] bcast_S_S2048x64 (constant (F := Ideal) S_ .f32 0x00000000#32)⟩]
    concatenates_S2048x32_S2048x32_S2048x64_S2048x128_d1

/-- The angles' sines, those of the first half with the other sign. -/
def sines (a : Vec Ideal S2048x32 .f32) : Vec Ideal S2048x128 .f32 :=
  concatenate S2048x128 1 [⟨S2048x32, Host.negf (F := Ideal) (s := S2048x32) (φ := .f32) a⟩, ⟨S2048x32, a⟩, ⟨S2048x64, broadcastInDim S2048x64 ![] bcast_S_S2048x64 (constant (F := Ideal) S_ .f32 0x00000000#32)⟩]
    concatenates_S2048x32_S2048x32_S2048x64_S2048x128_d1

theorem cosines_apply (a : Vec Ideal S2048x32 .f32) (q : Fin 2048) (j : Fin 128) :
    cosines a (ix2 q j) = if j.val < 64 then a (ix2 q ⟨j.val % 32, Nat.mod_lt _ (by decide)⟩) else (0 : EReal) := by
  pointwise [cosines]
  by_cases h1 : j.val < 32
  · simp only [dif_pos h1, if_pos (show j.val < 64 by omega)]
    exact congrArg (fun k => a (ix2 q k)) (Fin.ext (Nat.mod_eq_of_lt h1).symm)
  · by_cases h2 : j.val < 64
    · simp only [dif_neg h1, if_neg h1, if_pos h2, dif_pos (show j.val - 32 < 32 by omega)]
      exact congrArg (fun k => a (ix2 q k)) (Fin.ext (by dsimp only; omega))
    · simp only [dif_neg h1, if_neg h1, if_neg h2, dif_neg (show ¬ j.val - 32 < 32 by omega)]

theorem sines_apply (a : Vec Ideal S2048x32 .f32) (q : Fin 2048) (j : Fin 128) :
    sines a (ix2 q j) = if j.val < 32 then -(a (ix2 q ⟨j.val % 32, Nat.mod_lt _ (by decide)⟩) : EReal) else if j.val < 64 then a (ix2 q ⟨j.val % 32, Nat.mod_lt _ (by decide)⟩) else (0 : EReal) := by
  pointwise [sines]
  by_cases h1 : j.val < 32
  · simp only [dif_pos h1, if_pos h1]
    exact congrArg (fun k => -(a (ix2 q k) : EReal)) (Fin.ext (Nat.mod_eq_of_lt h1).symm)
  · by_cases h2 : j.val < 64
    · simp only [dif_neg h1, if_neg h1, if_pos h2, dif_pos (show j.val - 32 < 32 by omega)]
      exact congrArg (fun k => a (ix2 q k)) (Fin.ext (by dsimp only; omega))
    · simp only [dif_neg h1, if_neg h1, if_neg h2, dif_neg (show ¬ j.val - 32 < 32 by omega)]

theorem host_cosines : V m c main_v25 = cosines (V m c main_v22) := rfl

theorem host_cos : V m c main_v22 = val_main_v18 (F := Ideal) := rfl

theorem host_sines : V m c main_v27 = sines (V m c main_v23) := rfl

theorem host_sin : V m c main_v23 = val_main_v19 (F := Ideal) := rfl

theorem block2 (t : Fin cfg0.N) (q : Fin 2048) (j : Fin 128) :
    iblk m c 2 t (ix2 q j) = if j.val < 64 then val_main_v18 (F := Ideal) (ix2 q ⟨j.val % 32, Nat.mod_lt _ (by decide)⟩) else (0 : EReal) := by
  have e : (win0_2.blk t).view.emb (ix2 q j) = (ix2 q j : S2048x128.Idx) := by
    obtain ⟨e0, e1, e2, e3, e4⟩ := idx_facts t
    blk_ext [e2]
  show V m c main_v25 ((win0_2.blk t).view.emb (ix2 q j)) = _
  rw [e, host_cosines, host_cos]
  exact cosines_apply _ q j

theorem block3 (t : Fin cfg0.N) (q : Fin 2048) (j : Fin 128) :
    iblk m c 3 t (ix2 q j) = if j.val < 32 then -(val_main_v19 (F := Ideal) (ix2 q ⟨j.val % 32, Nat.mod_lt _ (by decide)⟩) : EReal)
      else if j.val < 64 then val_main_v19 (F := Ideal) (ix2 q ⟨j.val % 32, Nat.mod_lt _ (by decide)⟩) else (0 : EReal) := by
  have e : (win0_3.blk t).view.emb (ix2 q j) = (ix2 q j : S2048x128.Idx) := by
    obtain ⟨e0, e1, e2, e3, e4⟩ := idx_facts t
    blk_ext [e3]
  show V m c main_v27 ((win0_3.blk t).view.emb (ix2 q j)) = _
  rw [e, host_sines, host_sin]
  exact sines_apply _ q j

end Cert.MlaQueriesIdeal.Latents
end
-- ==== Proof.MlaQueries.lean ====
module

public import proofs.«01_k».proof.Proof.Gen.MlaQueriesIdeal.Value
public import proofs.«01_k».proof.Proof.Gen.MlaQueriesRefIdeal.Read
public import proofs.«01_k».proof.Proof.MlaUqBwd
public import proofs.«01_k».proof.Proof.Rows
public import proofs.«01_k».proof.Proof.Rotary

@[expose] public section

/-!
  The heads' queries, the last 64 columns of each turned: what the call's array holds after the run.
-/

set_option maxRecDepth 16384

noncomputable section

namespace Cert.MlaQueriesIdeal.Latents

open Cert.MlaQueriesIdeal Cert.MlaQueriesIdeal.Gen Cert.MlaQueriesRefIdeal.Read Cert.Sums Cert.Latent Idealize.ShloMosaic Idealize.ShloMosaic.TcCoe

variable (m : (ℓ : Loc nD τ sig) → Buf (Elt Ideal) ℓ) (c : Dev nD)

theorem block0 (t : Fin cfg0.N) (q : Fin 2048) (j : Fin 384) :
    iblk m c 0 t (ix2 q j) = m ((c : Thread nD τ).loc main_arg0) (ix2 q j) := by
  have e : (win0_0.blk t).view.emb (ix2 q j) = (ix2 q j : S2048x384.Idx) := by
    obtain ⟨e0, e1, e2, e3, e4⟩ := idx_facts t
    blk_ext [e0]
  show V m c main_v5 ((win0_0.blk t).view.emb (ix2 q j)) = _
  rw [e]
  rfl

theorem block1 (t : Fin cfg0.N) (k : Fin 384) (j : Fin 256) (h : Fin 8) (hh : h.val = t.val) :
    iblk m c 1 t (ix2 k j) = padded (shapeCast S384x8x192 (m ((c : Thread nD τ).loc main_arg1)) shapeCasts_S384x1536_S384x8x192) k h j := by
  obtain ⟨i, hi⟩ : ∃ i : Fin 2048, i.val = 256 * h.val + j.val := ⟨⟨_, by omega⟩, rfl⟩
  have e : (win0_1.blk t).view.emb (ix2 k j) = (ix2 k i : S384x2048.Idx) := by
    obtain ⟨e0, e1, e2, e3, e4⟩ := idx_facts t
    blk_ext [e1]
  show V m c main_v4 ((win0_1.blk t).view.emb (ix2 k j)) = _
  rw [e]
  refine (MlaUqBwdIdeal.Latents.weights_apply (m ((c : Thread nD τ).loc main_arg1)) k i).trans ?_
  exact congrArg₂ (fun a b => padded (shapeCast S384x8x192 (m ((c : Thread nD τ).loc main_arg1)) shapeCasts_S384x1536_S384x8x192) k a b)
    (Fin.ext (by dsimp only; omega)) (Fin.ext (by dsimp only; omega))

/-- A head's query before it is turned, its columns followed by 64 of zeros. -/
def query (x : Vec Ideal S2048x384 .f32) (w : Vec Ideal S384x1536 .f32) (q : Fin 2048) (h : Fin 8) (j : Fin 256) : EReal :=
  ∑ k : Fin 384, (x (ix2 q k) : EReal) * padded (shapeCast S384x8x192 w shapeCasts_S384x1536_S384x8x192) k h j

theorem ref_query (x : Vec Ideal S2048x384 .f32) (w : Vec Ideal S384x1536 .f32) (q : Fin 2048) (h : Fin 8) (j : Fin 192) :
    val_main_v1 (F := Ideal) x w (ix3 q h j) = query x w q h ⟨j.val, by omega⟩ := by
  have hq : val_main_v1 (F := Ideal) x w (ix3 q h j) = ∑ k : Fin 384, (x (ix2 q k) : EReal) * (shapeCast S384x8x192 w shapeCasts_S384x1536_S384x8x192 (ix3 k h j) : EReal) := by
    pointwise [val_main_v1, val_main_v0]
  refine hq.trans (Finset.sum_congr rfl fun k _ => congrArg (fun a : EReal => _ * a) ?_)
  unfold padded
  rw [dif_pos (show (⟨j.val, by omega⟩ : Fin 256).val < 192 from j.isLt)]

theorem product (t : Fin cfg0.N) (h : Fin 8) (hh : h.val = t.val) (q : Fin 2048) (j : Fin 256) :
    k0_pay1 (View.ld (iblk m c 0 t) r0_0) (View.ld (iblk m c 1 t) r0_1) (ix2 q j) = query (m ((c : Thread nD τ).loc main_arg0)) (m ((c : Thread nD τ).loc main_arg1)) q h j := by
  pointwise [k0_pay1]
  exact dot_congr (fun k => block0 m c t q k) (fun k => block1 m c t k j h hh)

/-- A turned column, as the kernel reads it off the whole row and as the halves' formula gives it. -/
def turn (y : Fin 256 → EReal) (co si : Fin 32 → EReal) (j : Fin 128) : EReal :=
  y ⟨128 + j.val, by omega⟩ * (if j.val < 64 then co ⟨j.val % 32, Nat.mod_lt _ (by decide)⟩ else 0)
    + (if j.val < 32 then y ⟨128 + (j.val + 128 - 96) % 128, by omega⟩ else y ⟨128 + (j.val + 128 - 32) % 128, by omega⟩)
      * (if j.val < 32 then -si ⟨j.val % 32, Nat.mod_lt _ (by decide)⟩ else if j.val < 64 then si ⟨j.val % 32, Nat.mod_lt _ (by decide)⟩ else 0)

/-- A turned column of the first half. -/
theorem turn_first (y : Fin 256 → EReal) (co si : Fin 32 → EReal) (j : Fin 128) (h1 : j.val < 32) (a b : Fin 256) (k k' : Fin 32)
    (ha : a.val = 128 + j.val) (hb : b.val = 160 + j.val) (hk : k.val = j.val) (hk' : k'.val = j.val) : y a * co k - y b * si k' = turn y co si j := by
  simp only [turn, if_pos h1, if_pos (show j.val < 64 by omega)]
  rw [mul_neg, ← sub_eq_add_neg]
  exact congrArg₂ (fun u v : EReal => u - v) (congrArg₂ (fun u v : EReal => u * v) (congrArg y (Fin.ext (by dsimp only; omega))) (congrArg co (Fin.ext (by dsimp only; omega)))) (congrArg₂ (fun u v : EReal => u * v) (congrArg y (Fin.ext (by dsimp only; omega))) (congrArg si (Fin.ext (by dsimp only; omega))))

/-- A turned column of the second half. -/
theorem turn_second (y : Fin 256 → EReal) (co si : Fin 32 → EReal) (j : Fin 128) (h1 : ¬ j.val < 32) (h2 : j.val < 64) (a b : Fin 256) (k k' : Fin 32)
    (ha : a.val = 128 + j.val) (hb : b.val = 96 + j.val) (hk : k.val + 32 = j.val) (hk' : k'.val + 32 = j.val) : y b * si k' + y a * co k = turn y co si j := by
  simp only [turn, if_neg h1, if_pos h2]
  rw [add_comm]
  exact congrArg₂ (fun u v : EReal => u + v) (congrArg₂ (fun u v : EReal => u * v) (congrArg y (Fin.ext (by dsimp only; omega))) (congrArg co (Fin.ext (by dsimp only; omega)))) (congrArg₂ (fun u v : EReal => u * v) (congrArg y (Fin.ext (by dsimp only; omega))) (congrArg si (Fin.ext (by dsimp only; omega))))

set_option maxHeartbeats 1000000 in
/-- The reference's entry in a head's last 128 columns. -/
theorem ref_turn (x : Vec Ideal S2048x384 .f32) (w : Vec Ideal S384x1536 .f32) (q : Fin 2048) (h : Fin 8) (j : Fin 128) (i : Fin 2048) (hi : i.val = 256 * h.val + (128 + j.val)) :
    val_main_v41 (F := Ideal) x w (ix2 q i) = turn (query x w q h) (fun k => val_main_v18 (F := Ideal) (ix2 q k)) (fun k => val_main_v19 (F := Ideal) (ix2 q k)) j := by
  have eh : ∀ h', (⟨i.val / 256, h'⟩ : Fin 8) = h := fun _ => Fin.ext (by dsimp only; omega)
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  simp only [ref_query, eh]
  have ei : i.val % 256 = 128 + j.val := by omega
  simp only [ei]
  by_cases h1 : j.val < 32
  · rw [dif_pos (by omega), dif_neg (by omega), dif_pos (by omega)]
    exact turn_first (query x w q h) (fun k => val_main_v18 (F := Ideal) (ix2 q k)) (fun k => val_main_v19 (F := Ideal) (ix2 q k)) j h1 _ _ _ _ (by dsimp only; omega) (by dsimp only; omega) (by dsimp only; omega) (by dsimp only; omega)
  · by_cases h2 : j.val < 64
    · rw [dif_pos (by omega), dif_neg (by omega), dif_neg (by omega)]
      exact turn_second (query x w q h) (fun k => val_main_v18 (F := Ideal) (ix2 q k)) (fun k => val_main_v19 (F := Ideal) (ix2 q k)) j h1 h2 _ _ _ _ (by dsimp only; omega) (by dsimp only; omega) (by dsimp only; omega) (by dsimp only; omega)
    · rw [dif_neg (by omega)]
      simp only [turn, if_neg h1, if_neg h2, mul_zero, add_zero]
      exact Ideal.ofBits_zero_f32

/-- The reference's entry in a head's first 128 columns. -/
theorem ref_straight (x : Vec Ideal S2048x384 .f32) (w : Vec Ideal S384x1536 .f32) (q : Fin 2048) (h : Fin 8) (j : Fin 128) (i : Fin 2048) (hi : i.val = 256 * h.val + j.val) :
    val_main_v41 (F := Ideal) x w (ix2 q i) = query x w q h ⟨j.val, by omega⟩ := by
  have eh : ∀ h', (⟨i.val / 256, h'⟩ : Fin 8) = h := fun _ => Fin.ext (by dsimp only; omega)
  have ei : i.val % 256 = j.val := by omega
  pointwise [val_main_v41, val_main_v40, val_main_v39, val_main_v38, val_main_v37, val_main_v20]
  rw [dif_pos (by omega), dif_pos (by omega)]
  simp only [ref_query, eh, ei]

/-- The payload of the last 128 columns, over any blocks. -/
theorem turned (a : Vec Ideal S2048x384 .bf16) (b : Vec Ideal S384x256 .bf16) (cf sf : Vec Ideal S2048x128 .f32) (y : Fin 256 → EReal) (co si : Fin 32 → EReal) (q : Fin 2048) (j : Fin 128)
    (hy : ∀ k, k0_pay1 (View.ld a r0_0) (View.ld b r0_1) (ix2 q k) = y k) (hc : cf (ix2 q j) = if j.val < 64 then co ⟨j.val % 32, Nat.mod_lt _ (by decide)⟩ else 0)
    (hs : sf (ix2 q j) = if j.val < 32 then -si ⟨j.val % 32, Nat.mod_lt _ (by decide)⟩ else if j.val < 64 then si ⟨j.val % 32, Nat.mod_lt _ (by decide)⟩ else 0) :
    k0_pay3 (View.ld a r0_0) (View.ld b r0_1) (View.ld cf r0_3) (View.ld sf r0_3) (ix2 q j) = turn y co si j := by
  pointwise [k0_pay3]
  rw [Rows.select_lt 32 (by decide) ⟨j.val, by omega⟩]
  simp only [hy, hc, hs]
  rfl

/-- The payload of the first 128 columns, over any blocks. -/
theorem kept (a : Vec Ideal S2048x384 .bf16) (b : Vec Ideal S384x256 .bf16) (y : Fin 256 → EReal) (q : Fin 2048) (j : Fin 128)
    (hy : ∀ k, k0_pay1 (View.ld a r0_0) (View.ld b r0_1) (ix2 q k) = y k) :
    k0_pay2 (View.ld a r0_0) (View.ld b r0_1) (ix2 q j) = y ⟨j.val, by omega⟩ := by
  pointwise [k0_pay2]
  exact hy _

/-- What a step leaves, over any blocks. -/
theorem left (a : Vec Ideal S2048x384 .bf16) (b : Vec Ideal S384x256 .bf16) (cf sf : Vec Ideal S2048x128 .f32) (y : Fin 256 → EReal) (co si : Fin 32 → EReal) (q : Fin 2048) (j : Fin 256) (z : EReal)
    (hy : ∀ k, k0_pay1 (View.ld a r0_0) (View.ld b r0_1) (ix2 q k) = y k) (hc : ∀ j : Fin 128, cf (ix2 q j) = if j.val < 64 then co ⟨j.val % 32, Nat.mod_lt _ (by decide)⟩ else 0)
    (hs : ∀ j : Fin 128, sf (ix2 q j) = if j.val < 32 then -si ⟨j.val % 32, Nat.mod_lt _ (by decide)⟩ else if j.val < 64 then si ⟨j.val % 32, Nat.mod_lt _ (by decide)⟩ else 0)
    (h0 : ∀ k : Fin 128, j.val = 128 + k.val → z = turn y co si k) (h1 : ∀ k : Fin 128, j.val = k.val → z = y ⟨k.val, by omega⟩) :
    out0_4 a b cf sf (ix2 q j) = z := by
  unfold out0_4
  canon_tiles x h' using cover0_4 _ _ _
  all_goals
    obtain ⟨q', j', rfl⟩ : ∃ (q' : Fin 2048) (j' : Fin 128), x = (ix2 q' j' : S2048x128.Idx) := ⟨x 0, x 1, (ix2_eta (n0 := 2048) (n1 := 128) x).symm⟩
    obtain rfl : q = q' := Fin.ext h'0
  · exact (turned a b cf sf y co si q j' hy (hc j') (hs j')).trans (h0 j' h'1).symm
  · exact (kept a b y q j' hy).trans (h1 j' h'1).symm

set_option maxHeartbeats 1000000 in
/-- The result is the reference's queries. -/
theorem array4 : (dats m 0 c).arrAt 4 cfg0.N
    = val_main_v41 (F := Ideal) (m ((c : Thread nD τ).loc main_arg0)) (m ((c : Thread nD τ).loc main_arg1)) := by
  refine (dats m 0 c).arrAt_eq_of_covers 4 _ (by decide +kernel) fun t hf y => ?_
  have ht : t.val < 8 := t.isLt
  obtain ⟨q, j, rfl⟩ : ∃ (q : Fin 2048) (j : Fin 256), y = (ix2 q j : S2048x256.Idx) := ⟨y 0, y 1, (ix2_eta (n0 := 2048) (n1 := 256) y).symm⟩
  obtain ⟨h, hh⟩ : ∃ h : Fin 8, h.val = t.val := ⟨⟨_, ht⟩, rfl⟩
  obtain ⟨i, hi⟩ : ∃ i : Fin 2048, i.val = 256 * t.val + j.val := ⟨⟨_, by omega⟩, rfl⟩
  have e : (win0_4.blk t).view.emb (ix2 q j) = (ix2 q i : S2048x2048.Idx) := by
    obtain ⟨e0, e1, e2, e3, e4⟩ := idx_facts t
    blk_ext [e4]
  blk_simp
  rw [after0_4, e]
  exact left _ _ _ _ _ _ _ q j _ (product m c t h hh q) (block2 m c t q) (block3 m c t q)
    (fun k hk => ref_turn _ _ q h k i (by omega)) (fun k hk => ref_straight _ _ q h k i (by omega))

end Cert.MlaQueriesIdeal.Latents
end
-- ==== Proof.MlaKeys.lean ====
module

public import proofs.«01_k».proof.Proof.Gen.MlaKeysIdeal.Value
public import proofs.«01_k».proof.Proof.Gen.MlaKeysRefIdeal.Read
public import proofs.«01_k».proof.Proof.MlaUqBwd

@[expose] public section

/-!
  The heads' keys, each with the rotary key beside it: what the call's array holds after the run.
-/

set_option maxRecDepth 16384

noncomputable section

namespace Cert.MlaKeysIdeal.Latents

open Cert.MlaKeysIdeal Cert.MlaKeysIdeal.Gen Cert.MlaKeysRefIdeal.Read Cert.Sums Cert.Latent Idealize.ShloMosaic Idealize.ShloMosaic.TcCoe

variable (m : (ℓ : Loc nD τ sig) → Buf (Elt Ideal) ℓ) (c : Dev nD)

theorem idx_facts : ∀ t : Fin cfg0.N, win0_0.index t = ![0, 0] ∧ win0_1.index t = ![0, t.val] ∧ win0_2.index t = ![0, 0] ∧ win0_3.index t = ![0, t.val] := by
  decide +kernel

theorem block0 (t : Fin cfg0.N) (q : Fin 2048) (j : Fin 256) :
    iblk m c 0 t (ix2 q j) = m ((c : Thread nD τ).loc main_arg0) (ix2 q j) := by
  have e : (win0_0.blk t).view.emb (ix2 q j) = (ix2 q j : S2048x256.Idx) := by
    obtain ⟨e0, e1, e2, e3⟩ := idx_facts t
    blk_ext [e0]
  show V m c main_v4 ((win0_0.blk t).view.emb (ix2 q j)) = _
  rw [e]
  rfl

/-- The heads' weights beside each other. -/
def weights (w : Vec Ideal S256x8x128 .f32) : Vec Ideal S256x1024 .f32 :=
  shapeCast S256x1024 w shapeCasts_S256x8x128_S256x1024

theorem weights_apply (w : Vec Ideal S256x8x128 .f32) (k : Fin 256) (h : Fin 8) (j : Fin 128) (i : Fin 1024) (hi : i.val = 128 * h.val + j.val) :
    weights w (ix2 k i) = w (ix3 k h j) := by
  pointwise [weights]
  exact congrArg₂ (fun a b => w (ix3 k a b)) (Fin.ext (by dsimp only; omega)) (Fin.ext (by dsimp only; omega))

theorem block1 (t : Fin cfg0.N) (k : Fin 256) (j : Fin 128) (h : Fin 8) (hh : h.val = t.val) :
    iblk m c 1 t (ix2 k j) = m ((c : Thread nD τ).loc main_arg1) (ix3 k h j) := by
  obtain ⟨i, hi⟩ : ∃ i : Fin 1024, i.val = 128 * h.val + j.val := ⟨⟨_, by omega⟩, rfl⟩
  have e : (win0_1.blk t).view.emb (ix2 k j) = (ix2 k i : S256x1024.Idx) := by
    obtain ⟨e0, e1, e2, e3⟩ := idx_facts t
    blk_ext [e1]
  show V m c main_v1 ((win0_1.blk t).view.emb (ix2 k j)) = _
  rw [e]
  exact weights_apply (m ((c : Thread nD τ).loc main_arg1)) k h j i hi

/-- The rotary key's 64 columns and 64 of zeros. -/
def rotary (x : Vec Ideal S2048x64 .bf16) : Vec Ideal S2048x128 .bf16 :=
  concatenate S2048x128 1 [⟨S2048x64, x⟩, ⟨S2048x64, broadcastInDim S2048x64 ![] bcast_S_S2048x64 (constant (F := Ideal) S_ .bf16 0x0000#16)⟩]
    concatenates_S2048x64_S2048x64_S2048x128_d1

theorem rotary_apply (x : Vec Ideal S2048x64 .bf16) (q : Fin 2048) (j : Fin 128) :
    rotary x (ix2 q j) = if h : j.val < 64 then x (ix2 q ⟨j.val, h⟩) else (0 : EReal) := by
  pointwise [rotary]

theorem block2 (t : Fin cfg0.N) (q : Fin 2048) (j : Fin 128) :
    iblk m c 2 t (ix2 q j) = rotary (m ((c : Thread nD τ).loc main_arg2)) (ix2 q j) := by
  have e : (win0_2.blk t).view.emb (ix2 q j) = (ix2 q j : S2048x128.Idx) := by
    obtain ⟨e0, e1, e2, e3⟩ := idx_facts t
    blk_ext [e2]
  show V m c main_v3 ((win0_2.blk t).view.emb (ix2 q j)) = _
  rw [e]
  rfl

set_option maxHeartbeats 1000000 in
/-- The result is the reference's keys. -/
theorem array3 : (dats m 0 c).arrAt 3 cfg0.N
    = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := t.isLt
  obtain ⟨q, j, rfl⟩ : ∃ (q : Fin 2048) (j : Fin 256), y = (ix2 q j : S2048x256.Idx) := ⟨y 0, y 1, (ix2_eta (n0 := 2048) (n1 := 256) y).symm⟩
  obtain ⟨h, hh⟩ : ∃ h : Fin 8, h.val = t.val := ⟨⟨_, ht⟩, rfl⟩
  obtain ⟨i, hi⟩ : ∃ i : Fin 2048, i.val = 256 * t.val + j.val := ⟨⟨_, by omega⟩, rfl⟩
  have e : (win0_3.blk t).view.emb (ix2 q j) = (ix2 q i : S2048x2048.Idx) := by
    obtain ⟨e0, e1, e2, e3⟩ := idx_facts t
    blk_ext [e3]
  blk_simp
  rw [after0_3, e]
  canon_tiles x h' using cover0_3 _ _ _
  all_goals
    obtain ⟨q', j', rfl⟩ : ∃ (q' : Fin 2048) (j' : Fin 128), x = (ix2 q' j' : S2048x128.Idx) := ⟨x 0, x 1, (ix2_eta (n0 := 2048) (n1 := 128) x).symm⟩
    obtain rfl : q = q' := Fin.ext h'0
  · have hj : j.val = 128 + j'.val := h'1
    pointwise [k0_pay2, val_main_v8, val_main_v7, val_main_v6, val_main_v5, val_main_v4, val_main_v3, val_main_v2, val_main_v1]
    refine ((block2 m c t q j').trans (rotary_apply (m ((c : Thread nD τ).loc main_arg2)) q j')).trans ?_
    by_cases h64 : j'.val < 64
    · rw [dif_pos h64, dif_pos (by omega), dif_neg (by omega)]
      exact congrArg (fun k => m ((c : Thread nD τ).loc main_arg2) (ix2 q k)) (Fin.ext (by dsimp only; omega))
    · rw [dif_neg h64, dif_neg (by omega)]
      exact Ideal.ofBits_zero_f32.symm
  · have hj : j.val = j'.val := h'1
    pointwise [k0_pay1, val_main_v8, val_main_v7, val_main_v6, val_main_v5, val_main_v4, val_main_v3, val_main_v2, val_main_v1, val_main_v0]
    rw [dif_pos (by omega), dif_pos (by omega)]
    refine dot_congr (fun k => block0 m c t q k) (fun k => (block1 m c t k j' h hh).trans ?_)
    exact congrArg₂ (fun a b => m ((c : Thread nD τ).loc main_arg1) (ix3 k a b)) (Fin.ext (by dsimp only; omega)) (Fin.ext (by dsimp only; omega))

end Cert.MlaKeysIdeal.Latents
end
-- ==== Proof.RopeClaims.lean ====
module

public import Idealize.ShloMosaic.Lib.Quiescent
public import proofs.«01_k».proof.Defs
public import proofs.«01_k».proof.Proof.Gen.CfNorm.Frame
public import proofs.«01_k».proof.Proof.CfNorm
public import proofs.«01_k».proof.Proof.Gen.MlaQueries.Frame
public import proofs.«01_k».proof.Proof.MlaQueries
public import proofs.«01_k».proof.Proof.Gen.MlaKeys.Frame
public import proofs.«01_k».proof.Proof.MlaKeys

@[expose] public section

/-!
  The claims of the Conformer's norm with its gate and of the queries' and keys' up-projections with the rotary embedding.
-/

noncomputable section

namespace Cert.Proof.RopeClaims

open Idealize.ShloMosaic Idealize.SL.Sem

theorem frame_conformer_norm : Cert.quiescent_CfNorm := fun m ρ _ => Cert.CfNorm.Gen.frame m ρ

theorem frame_conformer_norm_ideal : Cert.quiescent_CfNormIdeal := fun m ρ _ => Cert.CfNormIdeal.Gen.frame m ρ

theorem frame_conformer_norm_ref : Cert.quiescent_CfNormRefIdeal := fun m ρ _ =>
  (θ_run Cert.CfNormRefIdeal.defs _ _).mono (fun r h => ⟨fun c => (h c).2, sem_eq_zero_of_no_sems (by decide) r.2⟩)
    (Cert.CfNormRefIdeal.Value.run (F := Ideal) m ρ)

theorem preserves_conformer_norm : Cert.preserves_CfNorm_CfNormIdeal := trivial

theorem algebraic_conformer_norm : Cert.algebraic_CfNormIdeal_CfNormRefIdeal := by
  intro m ρ m' ρ' _ ha
  refine ⟨_, Cert.CfNormIdeal.Value.run_blocks (F := Ideal) m ρ, ?_⟩
  refine (θ_run Cert.CfNormRefIdeal.defs _ _).mono (fun _ h c => ⟨(h c).1.trans ?_, (h c).2⟩) (Cert.CfNormRefIdeal.Value.run (F := Ideal) m' ρ')
  obtain ⟨a0, a1, a2⟩ := ha c
  rw [Cert.CfNormRefIdeal.Read.val_main_v23_eq, a0, a1, a2]
  exact (Cert.CfNormIdeal.Conf.array3 m c).symm

theorem frame_mla_queries : Cert.quiescent_MlaQueries := fun m ρ _ => Cert.MlaQueries.Gen.frame m ρ

theorem frame_mla_queries_ideal : Cert.quiescent_MlaQueriesIdeal := fun m ρ _ => Cert.MlaQueriesIdeal.Gen.frame m ρ

theorem frame_mla_queries_ref : Cert.quiescent_MlaQueriesRefIdeal := fun m ρ _ =>
  (θ_run Cert.MlaQueriesRefIdeal.defs _ _).mono (fun r h => ⟨fun c => (h c).2, sem_eq_zero_of_no_sems (by decide) r.2⟩)
    (Cert.MlaQueriesRefIdeal.Value.run (F := Ideal) m ρ)

theorem preserves_mla_queries : Cert.preserves_MlaQueries_MlaQueriesIdeal := trivial

theorem algebraic_mla_queries : Cert.algebraic_MlaQueriesIdeal_MlaQueriesRefIdeal := by
  intro m ρ m' ρ' _ ha
  refine ⟨_, Cert.MlaQueriesIdeal.Value.run_blocks (F := Ideal) m ρ, ?_⟩
  refine (θ_run Cert.MlaQueriesRefIdeal.defs _ _).mono (fun _ h c => ⟨(h c).1.trans ?_, (h c).2⟩) (Cert.MlaQueriesRefIdeal.Value.run (F := Ideal) m' ρ')
  obtain ⟨a0, a1⟩ := ha c
  rw [Cert.MlaQueriesRefIdeal.Read.val_main_v41_eq, a0, a1]
  exact (Cert.MlaQueriesIdeal.Latents.array4 m c).symm

theorem frame_mla_keys : Cert.quiescent_MlaKeys := fun m ρ _ => Cert.MlaKeys.Gen.frame m ρ

theorem frame_mla_keys_ideal : Cert.quiescent_MlaKeysIdeal := fun m ρ _ => Cert.MlaKeysIdeal.Gen.frame m ρ

theorem frame_mla_keys_ref : Cert.quiescent_MlaKeysRefIdeal := fun m ρ _ =>
  (θ_run Cert.MlaKeysRefIdeal.defs _ _).mono (fun r h => ⟨fun c => (h c).2, sem_eq_zero_of_no_sems (by decide) r.2⟩)
    (Cert.MlaKeysRefIdeal.Value.run (F := Ideal) m ρ)

theorem preserves_mla_keys : Cert.preserves_MlaKeys_MlaKeysIdeal := trivial

theorem algebraic_mla_keys : Cert.algebraic_MlaKeysIdeal_MlaKeysRefIdeal := by
  intro m ρ m' ρ' _ ha
  refine ⟨_, Cert.MlaKeysIdeal.Value.run_blocks (F := Ideal) m ρ, ?_⟩
  refine (θ_run Cert.MlaKeysRefIdeal.defs _ _).mono (fun _ h c => ⟨(h c).1.trans ?_, (h c).2⟩) (Cert.MlaKeysRefIdeal.Value.run (F := Ideal) m' ρ')
  obtain ⟨a0, a1, a2⟩ := ha c
  rw [Cert.MlaKeysRefIdeal.Read.val_main_v8_eq, a0, a1, a2]
  exact (Cert.MlaKeysIdeal.Latents.array3 m c).symm

end Cert.Proof.RopeClaims
end
-- ==== Proof.lean ====
module

public import proofs.«01_k».proof.Proof.AttnClaims
public import proofs.«01_k».proof.Proof.MlpClaims
public import proofs.«01_k».proof.Proof.ScClaims
public import proofs.«01_k».proof.Proof.CfClaims
public import proofs.«01_k».proof.Proof.MlaClaims
public import proofs.«01_k».proof.Proof.RopeClaims

@[expose] public section

/-!
  The certificate's claim, put together from the calls' claims.
-/

noncomputable section

namespace Cert.Proof

open AttnClaims MlpClaims ScClaims CfClaims MlaClaims RopeClaims

theorem claim : Cert.Claim :=
  ⟨Cert.Kernel.Gen.facts, Cert.KernelIdeal.Gen.facts, Cert.ReferenceIdeal.Gen.facts, Cert.MlpUp.Gen.facts, Cert.MlpUpIdeal.Gen.facts, Cert.MlpUpRefIdeal.Gen.facts, Cert.MlpDownLn.Gen.facts, Cert.MlpDownLnIdeal.Gen.facts, Cert.MlpDownLnRefIdeal.Gen.facts, Cert.MlpDownBwd.Gen.facts, Cert.MlpDownBwdIdeal.Gen.facts, Cert.MlpDownBwdRefIdeal.Gen.facts, Cert.MlpDw2.Gen.facts, Cert.MlpDw2Ideal.Gen.facts, Cert.MlpDw2RefIdeal.Gen.facts, Cert.MlpDw1.Gen.facts, Cert.MlpDw1Ideal.Gen.facts, Cert.MlpDw1RefIdeal.Gen.facts, Cert.MlpUpBwd.Gen.facts, Cert.MlpUpBwdIdeal.Gen.facts, Cert.MlpUpBwdRefIdeal.Gen.facts, Cert.ScGateBwd.Gen.facts, Cert.ScGateBwdIdeal.Gen.facts, Cert.ScGateBwdRefIdeal.Gen.facts, Cert.ScOutBwd.Gen.facts, Cert.ScOutBwdIdeal.Gen.facts, Cert.ScOutBwdRefIdeal.Gen.facts, Cert.ScDwOut.Gen.facts, Cert.ScDwOutIdeal.Gen.facts, Cert.ScDwOutRefIdeal.Gen.facts, Cert.ScDwIn.Gen.facts, Cert.ScDwInIdeal.Gen.facts, Cert.ScDwInRefIdeal.Gen.facts, Cert.ScInBwd.Gen.facts, Cert.ScInBwdIdeal.Gen.facts, Cert.ScInBwdRefIdeal.Gen.facts, Cert.ScIn.Gen.facts, Cert.ScInIdeal.Gen.facts, Cert.ScInRefIdeal.Gen.facts, Cert.ScGate.Gen.facts, Cert.ScGateIdeal.Gen.facts, Cert.ScGateRefIdeal.Gen.facts, Cert.ScOutLn.Gen.facts, Cert.ScOutLnIdeal.Gen.facts, Cert.ScOutLnRefIdeal.Gen.facts, Cert.ConfNormBwd.Gen.facts, Cert.ConfNormBwdIdeal.Gen.facts, Cert.ConfNormBwdRefIdeal.Gen.facts, Cert.ScFirstBwd.Gen.facts, Cert.ScFirstBwdIdeal.Gen.facts, Cert.ScFirstBwdRefIdeal.Gen.facts, Cert.CfIn.Gen.facts, Cert.CfInIdeal.Gen.facts, Cert.CfInRefIdeal.Gen.facts, Cert.CfDwIn.Gen.facts, Cert.CfDwInIdeal.Gen.facts, Cert.CfDwInRefIdeal.Gen.facts, Cert.CfInBwd.Gen.facts, Cert.CfInBwdIdeal.Gen.facts, Cert.CfInBwdRefIdeal.Gen.facts, Cert.CfOutLn.Gen.facts, Cert.CfOutLnIdeal.Gen.facts, Cert.CfOutLnRefIdeal.Gen.facts, Cert.MlaOutBwd.Gen.facts, Cert.MlaOutBwdIdeal.Gen.facts, Cert.MlaOutBwdRefIdeal.Gen.facts, Cert.AttnFwd.Gen.facts, Cert.AttnFwdIdeal.Gen.facts, Cert.AttnFwdRefIdeal.Gen.facts, Cert.MlaDown.Gen.facts, Cert.MlaDownIdeal.Gen.facts, Cert.MlaDownRefIdeal.Gen.facts, Cert.MlaDwDown.Gen.facts, Cert.MlaDwDownIdeal.Gen.facts, Cert.MlaDwDownRefIdeal.Gen.facts, Cert.MlaDownBwd.Gen.facts, Cert.MlaDownBwdIdeal.Gen.facts, Cert.MlaDownBwdRefIdeal.Gen.facts, Cert.MlaValues.Gen.facts, Cert.MlaValuesIdeal.Gen.facts, Cert.MlaValuesRefIdeal.Gen.facts, Cert.MlaDwUk.Gen.facts, Cert.MlaDwUkIdeal.Gen.facts, Cert.MlaDwUkRefIdeal.Gen.facts, Cert.MlaUkBwd.Gen.facts, Cert.MlaUkBwdIdeal.Gen.facts, Cert.MlaUkBwdRefIdeal.Gen.facts, Cert.MlaUvBwd.Gen.facts, Cert.MlaUvBwdIdeal.Gen.facts, Cert.MlaUvBwdRefIdeal.Gen.facts, Cert.MlaDwUq.Gen.facts, Cert.MlaDwUqIdeal.Gen.facts, Cert.MlaDwUqRefIdeal.Gen.facts, Cert.MlaUqBwd.Gen.facts, Cert.MlaUqBwdIdeal.Gen.facts, Cert.MlaUqBwdRefIdeal.Gen.facts, Cert.CfNorm.Gen.facts, Cert.CfNormIdeal.Gen.facts, Cert.CfNormRefIdeal.Gen.facts, Cert.MlaQueries.Gen.facts, Cert.MlaQueriesIdeal.Gen.facts, Cert.MlaQueriesRefIdeal.Gen.facts, Cert.MlaKeys.Gen.facts, Cert.MlaKeysIdeal.Gen.facts, Cert.MlaKeysRefIdeal.Gen.facts, Cert.Pre_finite_qk.facts, Cert.Pre_finite_up_bwd.facts, Cert.Pre_finite_in_bwd.facts, Cert.Pre_finite_norm_bwd.facts, Cert.Pre_finite_cf_in_bwd.facts, Cert.Pre_finite_keys.facts, Cert.Pre_finite_down_bwd.facts,
    frame_p, frame_pi, frame_pi_pre, frame_ri, frame_ri_pre,
    frame_up, frame_up_ideal, frame_up_ref,
    frame_down_ln, frame_down_ln_ideal, frame_down_ln_ref,
    frame_down_bwd, frame_down_bwd_ideal, frame_down_bwd_ref,
    frame_dw2, frame_dw2_ideal, frame_dw2_ref,
    frame_dw1, frame_dw1_ideal, frame_dw1_ref,
    frame_up_bwd, frame_up_bwd_ideal, frame_up_bwd_ideal_pre, frame_up_bwd_ref, frame_up_bwd_ref_pre,
    frame_gate_bwd, frame_gate_bwd_ideal, frame_gate_bwd_ref,
    frame_out_bwd, frame_out_bwd_ideal, frame_out_bwd_ref,
    frame_dw_out, frame_dw_out_ideal, frame_dw_out_ref,
    frame_dw_in, frame_dw_in_ideal, frame_dw_in_ref,
    frame_in_bwd, frame_in_bwd_ideal, frame_in_bwd_ideal_pre, frame_in_bwd_ref, frame_in_bwd_ref_pre,
    frame_in, frame_in_ideal, frame_in_ref,
    frame_gate, frame_gate_ideal, frame_gate_ref,
    frame_out_ln, frame_out_ln_ideal, frame_out_ln_ref,
    frame_norm_bwd, frame_norm_bwd_ideal, frame_norm_bwd_ideal_pre, frame_norm_bwd_ref, frame_norm_bwd_ref_pre,
    frame_first_bwd, frame_first_bwd_ideal, frame_first_bwd_ref,
    frame_cf_in, frame_cf_in_ideal, frame_cf_in_ref,
    frame_cf_dw_in, frame_cf_dw_in_ideal, frame_cf_dw_in_ref,
    frame_cf_in_bwd, frame_cf_in_bwd_ideal, frame_cf_in_bwd_ideal_pre, frame_cf_in_bwd_ref, frame_cf_in_bwd_ref_pre,
    frame_cf_out_ln, frame_cf_out_ln_ideal, frame_cf_out_ln_ref,
    frame_mla_out_bwd, frame_mla_out_bwd_ideal, frame_mla_out_bwd_ref,
    frame_attn, frame_attn_ideal, frame_attn_ideal_pre, frame_attn_ref, frame_attn_ref_pre,
    frame_mla_down, frame_mla_down_ideal, frame_mla_down_ref,
    frame_mla_dw_down, frame_mla_dw_down_ideal, frame_mla_dw_down_ref,
    frame_mla_down_bwd, frame_mla_down_bwd_ideal, frame_mla_down_bwd_ideal_pre, frame_mla_down_bwd_ref, frame_mla_down_bwd_ref_pre,
    frame_mla_values, frame_mla_values_ideal, frame_mla_values_ref,
    frame_mla_dw_uk, frame_mla_dw_uk_ideal, frame_mla_dw_uk_ref,
    frame_mla_uk_bwd, frame_mla_uk_bwd_ideal, frame_mla_uk_bwd_ref,
    frame_mla_uv_bwd, frame_mla_uv_bwd_ideal, frame_mla_uv_bwd_ref,
    frame_mla_dw_uq, frame_mla_dw_uq_ideal, frame_mla_dw_uq_ref,
    frame_mla_uq_bwd, frame_mla_uq_bwd_ideal, frame_mla_uq_bwd_ref,
    frame_conformer_norm, frame_conformer_norm_ideal, frame_conformer_norm_ref,
    frame_mla_queries, frame_mla_queries_ideal, frame_mla_queries_ref,
    frame_mla_keys, frame_mla_keys_ideal, frame_mla_keys_ref,
    preserves, algebraic, preserves_up, algebraic_up, preserves_down_ln, algebraic_down_ln, preserves_down_bwd, algebraic_down_bwd, preserves_dw2, algebraic_dw2, preserves_dw1, algebraic_dw1, preserves_up_bwd, algebraic_up_bwd,
    preserves_gate_bwd, algebraic_gate_bwd, preserves_out_bwd, algebraic_out_bwd, preserves_dw_out, algebraic_dw_out, preserves_dw_in, algebraic_dw_in, preserves_in_bwd, algebraic_in_bwd, preserves_in, algebraic_in, preserves_gate, algebraic_gate, preserves_out_ln, algebraic_out_ln, preserves_norm_bwd, algebraic_norm_bwd,
    preserves_first_bwd, algebraic_first_bwd, preserves_cf_in, algebraic_cf_in, preserves_cf_dw_in, algebraic_cf_dw_in, preserves_cf_in_bwd, algebraic_cf_in_bwd, preserves_cf_out_ln, algebraic_cf_out_ln, preserves_mla_out_bwd, algebraic_mla_out_bwd, preserves_attn, algebraic_attn,
    preserves_mla_down, algebraic_mla_down, preserves_mla_dw_down, algebraic_mla_dw_down, preserves_mla_down_bwd, algebraic_mla_down_bwd, preserves_mla_values, algebraic_mla_values, preserves_mla_dw_uk, algebraic_mla_dw_uk, preserves_mla_uk_bwd, algebraic_mla_uk_bwd, preserves_mla_uv_bwd, algebraic_mla_uv_bwd, preserves_mla_dw_uq, algebraic_mla_dw_uq, preserves_mla_uq_bwd, algebraic_mla_uq_bwd,
    preserves_conformer_norm, algebraic_conformer_norm, preserves_mla_queries, algebraic_mla_queries, preserves_mla_keys, algebraic_mla_keys⟩

end Cert.Proof

end
